-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))) = (fun _ => 1#1)

def Pre_PoolMixKernel (m : (ℓ : Loc Cert.PoolMixKernel.nD Cert.PoolMixKernel.τ Cert.PoolMixKernel.sig) → Buf (Elt Bits) ℓ) : Prop :=
  True

def Pre_PoolMixKernelIdeal (m : (ℓ : Loc Cert.PoolMixKernelIdeal.nD Cert.PoolMixKernelIdeal.τ Cert.PoolMixKernelIdeal.sig) → Buf (Elt Ideal) ℓ) : Prop :=
  True

def Pre_PoolMixReferenceIdeal (m : (ℓ : Loc Cert.PoolMixReferenceIdeal.nD Cert.PoolMixReferenceIdeal.τ Cert.PoolMixReferenceIdeal.sig) → Buf (Elt Ideal) ℓ) : Prop :=
  True

def Pre_PoolWindowKernel (m : (ℓ : Loc Cert.PoolWindowKernel.nD Cert.PoolWindowKernel.τ Cert.PoolWindowKernel.sig) → Buf (Elt Bits) ℓ) : Prop :=
  True

def Pre_PoolWindowKernelIdeal (m : (ℓ : Loc Cert.PoolWindowKernelIdeal.nD Cert.PoolWindowKernelIdeal.τ Cert.PoolWindowKernelIdeal.sig) → Buf (Elt Ideal) ℓ) : Prop :=
  True

def Pre_PoolWindowKernelIdeal_pool_window_finite [hPre_pool_window_finite : Cert.Pre_pool_window_finite.Facts] (m : (ℓ : Loc Cert.PoolWindowKernelIdeal.nD Cert.PoolWindowKernelIdeal.τ Cert.PoolWindowKernelIdeal.sig) → Buf (Elt Ideal) ℓ) : Prop :=
  ∀ c : Dev Cert.PoolWindowKernelIdeal.nD,
    (Cert.Pre_pool_window_finite.fn (F := Ideal) (m ((c.tc : Thread Cert.PoolWindowKernelIdeal.nD Cert.PoolWindowKernelIdeal.τ).loc Cert.PoolWindowKernelIdeal.main_arg0)) (m ((c.tc : Thread Cert.PoolWindowKernelIdeal.nD Cert.PoolWindowKernelIdeal.τ).loc Cert.PoolWindowKernelIdeal.main_arg1)) (m ((c.tc : Thread Cert.PoolWindowKernelIdeal.nD Cert.PoolWindowKernelIdeal.τ).loc Cert.PoolWindowKernelIdeal.main_arg2)) (m ((c.tc : Thread Cert.PoolWindowKernelIdeal.nD Cert.PoolWindowKernelIdeal.τ).loc Cert.PoolWindowKernelIdeal.main_arg3))) = (fun _ => 1#1)

def Pre_PoolWindowReferenceIdeal (m : (ℓ : Loc Cert.PoolWindowReferenceIdeal.nD Cert.PoolWindowReferenceIdeal.τ Cert.PoolWindowReferenceIdeal.sig) → Buf (Elt Ideal) ℓ) : Prop :=
  True

def Pre_PoolWindowReferenceIdeal_pool_window_finite [hPre_pool_window_finite : Cert.Pre_pool_window_finite.Facts] (m : (ℓ : Loc Cert.PoolWindowReferenceIdeal.nD Cert.PoolWindowReferenceIdeal.τ Cert.PoolWindowReferenceIdeal.sig) → Buf (Elt Ideal) ℓ) : Prop :=
  ∀ c : Dev Cert.PoolWindowReferenceIdeal.nD,
    (Cert.Pre_pool_window_finite.fn (F := Ideal) (m ((c.tc : Thread Cert.PoolWindowReferenceIdeal.nD Cert.PoolWindowReferenceIdeal.τ).loc Cert.PoolWindowReferenceIdeal.main_arg0)) (m ((c.tc : Thread Cert.PoolWindowReferenceIdeal.nD Cert.PoolWindowReferenceIdeal.τ).loc Cert.PoolWindowReferenceIdeal.main_arg1)) (m ((c.tc : Thread Cert.PoolWindowReferenceIdeal.nD Cert.PoolWindowReferenceIdeal.τ).loc Cert.PoolWindowReferenceIdeal.main_arg2)) (m ((c.tc : Thread Cert.PoolWindowReferenceIdeal.nD Cert.PoolWindowReferenceIdeal.τ).loc Cert.PoolWindowReferenceIdeal.main_arg3))) = (fun _ => 1#1)

def Pre_FfnGateKernel (m : (ℓ : Loc Cert.FfnGateKernel.nD Cert.FfnGateKernel.τ Cert.FfnGateKernel.sig) → Buf (Elt Bits) ℓ) : Prop :=
  True

def Pre_FfnGateKernelIdeal (m : (ℓ : Loc Cert.FfnGateKernelIdeal.nD Cert.FfnGateKernelIdeal.τ Cert.FfnGateKernelIdeal.sig) → Buf (Elt Ideal) ℓ) : Prop :=
  True

def Pre_FfnGateKernelIdeal_ffn_gate_finite [hPre_ffn_gate_finite : Cert.Pre_ffn_gate_finite.Facts] (m : (ℓ : Loc Cert.FfnGateKernelIdeal.nD Cert.FfnGateKernelIdeal.τ Cert.FfnGateKernelIdeal.sig) → Buf (Elt Ideal) ℓ) : Prop :=
  ∀ c : Dev Cert.FfnGateKernelIdeal.nD,
    (Cert.Pre_ffn_gate_finite.fn (F := Ideal) (m ((c.tc : Thread Cert.FfnGateKernelIdeal.nD Cert.FfnGateKernelIdeal.τ).loc Cert.FfnGateKernelIdeal.main_arg0)) (m ((c.tc : Thread Cert.FfnGateKernelIdeal.nD Cert.FfnGateKernelIdeal.τ).loc Cert.FfnGateKernelIdeal.main_arg1)) (m ((c.tc : Thread Cert.FfnGateKernelIdeal.nD Cert.FfnGateKernelIdeal.τ).loc Cert.FfnGateKernelIdeal.main_arg2)) (m ((c.tc : Thread Cert.FfnGateKernelIdeal.nD Cert.FfnGateKernelIdeal.τ).loc Cert.FfnGateKernelIdeal.main_arg3)) (m ((c.tc : Thread Cert.FfnGateKernelIdeal.nD Cert.FfnGateKernelIdeal.τ).loc Cert.FfnGateKernelIdeal.main_arg4)) (m ((c.tc : Thread Cert.FfnGateKernelIdeal.nD Cert.FfnGateKernelIdeal.τ).loc Cert.FfnGateKernelIdeal.main_arg5))) = (fun _ => 1#1)

def Pre_FfnGateReferenceIdeal (m : (ℓ : Loc Cert.FfnGateReferenceIdeal.nD Cert.FfnGateReferenceIdeal.τ Cert.FfnGateReferenceIdeal.sig) → Buf (Elt Ideal) ℓ) : Prop :=
  True

def Pre_FfnGateReferenceIdeal_ffn_gate_finite [hPre_ffn_gate_finite : Cert.Pre_ffn_gate_finite.Facts] (m : (ℓ : Loc Cert.FfnGateReferenceIdeal.nD Cert.FfnGateReferenceIdeal.τ Cert.FfnGateReferenceIdeal.sig) → Buf (Elt Ideal) ℓ) : Prop :=
  ∀ c : Dev Cert.FfnGateReferenceIdeal.nD,
    (Cert.Pre_ffn_gate_finite.fn (F := Ideal) (m ((c.tc : Thread Cert.FfnGateReferenceIdeal.nD Cert.FfnGateReferenceIdeal.τ).loc Cert.FfnGateReferenceIdeal.main_arg0)) (m ((c.tc : Thread Cert.FfnGateReferenceIdeal.nD Cert.FfnGateReferenceIdeal.τ).loc Cert.FfnGateReferenceIdeal.main_arg1)) (m ((c.tc : Thread Cert.FfnGateReferenceIdeal.nD Cert.FfnGateReferenceIdeal.τ).loc Cert.FfnGateReferenceIdeal.main_arg2)) (m ((c.tc : Thread Cert.FfnGateReferenceIdeal.nD Cert.FfnGateReferenceIdeal.τ).loc Cert.FfnGateReferenceIdeal.main_arg3)) (m ((c.tc : Thread Cert.FfnGateReferenceIdeal.nD Cert.FfnGateReferenceIdeal.τ).loc Cert.FfnGateReferenceIdeal.main_arg4)) (m ((c.tc : Thread Cert.FfnGateReferenceIdeal.nD Cert.FfnGateReferenceIdeal.τ).loc Cert.FfnGateReferenceIdeal.main_arg5))) = (fun _ => 1#1)

def Pre_FfnDhKernel (m : (ℓ : Loc Cert.FfnDhKernel.nD Cert.FfnDhKernel.τ Cert.FfnDhKernel.sig) → Buf (Elt Bits) ℓ) : Prop :=
  True

def Pre_FfnDhKernelIdeal (m : (ℓ : Loc Cert.FfnDhKernelIdeal.nD Cert.FfnDhKernelIdeal.τ Cert.FfnDhKernelIdeal.sig) → Buf (Elt Ideal) ℓ) : Prop :=
  True

def Pre_FfnDhKernelIdeal_ffn_dh_finite [hPre_ffn_dh_finite : Cert.Pre_ffn_dh_finite.Facts] (m : (ℓ : Loc Cert.FfnDhKernelIdeal.nD Cert.FfnDhKernelIdeal.τ Cert.FfnDhKernelIdeal.sig) → Buf (Elt Ideal) ℓ) : Prop :=
  ∀ c : Dev Cert.FfnDhKernelIdeal.nD,
    (Cert.Pre_ffn_dh_finite.fn (F := Ideal) (m ((c.tc : Thread Cert.FfnDhKernelIdeal.nD Cert.FfnDhKernelIdeal.τ).loc Cert.FfnDhKernelIdeal.main_arg0)) (m ((c.tc : Thread Cert.FfnDhKernelIdeal.nD Cert.FfnDhKernelIdeal.τ).loc Cert.FfnDhKernelIdeal.main_arg1)) (m ((c.tc : Thread Cert.FfnDhKernelIdeal.nD Cert.FfnDhKernelIdeal.τ).loc Cert.FfnDhKernelIdeal.main_arg2)) (m ((c.tc : Thread Cert.FfnDhKernelIdeal.nD Cert.FfnDhKernelIdeal.τ).loc Cert.FfnDhKernelIdeal.main_arg3)) (m ((c.tc : Thread Cert.FfnDhKernelIdeal.nD Cert.FfnDhKernelIdeal.τ).loc Cert.FfnDhKernelIdeal.main_arg4)) (m ((c.tc : Thread Cert.FfnDhKernelIdeal.nD Cert.FfnDhKernelIdeal.τ).loc Cert.FfnDhKernelIdeal.main_arg5)) (m ((c.tc : Thread Cert.FfnDhKernelIdeal.nD Cert.FfnDhKernelIdeal.τ).loc Cert.FfnDhKernelIdeal.main_arg6))) = (fun _ => 1#1)

def Pre_FfnDhReferenceIdeal (m : (ℓ : Loc Cert.FfnDhReferenceIdeal.nD Cert.FfnDhReferenceIdeal.τ Cert.FfnDhReferenceIdeal.sig) → Buf (Elt Ideal) ℓ) : Prop :=
  True

def Pre_FfnDhReferenceIdeal_ffn_dh_finite [hPre_ffn_dh_finite : Cert.Pre_ffn_dh_finite.Facts] (m : (ℓ : Loc Cert.FfnDhReferenceIdeal.nD Cert.FfnDhReferenceIdeal.τ Cert.FfnDhReferenceIdeal.sig) → Buf (Elt Ideal) ℓ) : Prop :=
  ∀ c : Dev Cert.FfnDhReferenceIdeal.nD,
    (Cert.Pre_ffn_dh_finite.fn (F := Ideal) (m ((c.tc : Thread Cert.FfnDhReferenceIdeal.nD Cert.FfnDhReferenceIdeal.τ).loc Cert.FfnDhReferenceIdeal.main_arg0)) (m ((c.tc : Thread Cert.FfnDhReferenceIdeal.nD Cert.FfnDhReferenceIdeal.τ).loc Cert.FfnDhReferenceIdeal.main_arg1)) (m ((c.tc : Thread Cert.FfnDhReferenceIdeal.nD Cert.FfnDhReferenceIdeal.τ).loc Cert.FfnDhReferenceIdeal.main_arg2)) (m ((c.tc : Thread Cert.FfnDhReferenceIdeal.nD Cert.FfnDhReferenceIdeal.τ).loc Cert.FfnDhReferenceIdeal.main_arg3)) (m ((c.tc : Thread Cert.FfnDhReferenceIdeal.nD Cert.FfnDhReferenceIdeal.τ).loc Cert.FfnDhReferenceIdeal.main_arg4)) (m ((c.tc : Thread Cert.FfnDhReferenceIdeal.nD Cert.FfnDhReferenceIdeal.τ).loc Cert.FfnDhReferenceIdeal.main_arg5)) (m ((c.tc : Thread Cert.FfnDhReferenceIdeal.nD Cert.FfnDhReferenceIdeal.τ).loc Cert.FfnDhReferenceIdeal.main_arg6))) = (fun _ => 1#1)

def Pre_ProjDxKernel (m : (ℓ : Loc Cert.ProjDxKernel.nD Cert.ProjDxKernel.τ Cert.ProjDxKernel.sig) → Buf (Elt Bits) ℓ) : Prop :=
  True

def Pre_ProjDxKernelIdeal (m : (ℓ : Loc Cert.ProjDxKernelIdeal.nD Cert.ProjDxKernelIdeal.τ Cert.ProjDxKernelIdeal.sig) → Buf (Elt Ideal) ℓ) : Prop :=
  True

def Pre_ProjDxKernelIdeal_proj_dx_finite [hPre_proj_dx_finite : Cert.Pre_proj_dx_finite.Facts] (m : (ℓ : Loc Cert.ProjDxKernelIdeal.nD Cert.ProjDxKernelIdeal.τ Cert.ProjDxKernelIdeal.sig) → Buf (Elt Ideal) ℓ) : Prop :=
  ∀ c : Dev Cert.ProjDxKernelIdeal.nD,
    (Cert.Pre_proj_dx_finite.fn (F := Ideal) (m ((c.tc : Thread Cert.ProjDxKernelIdeal.nD Cert.ProjDxKernelIdeal.τ).loc Cert.ProjDxKernelIdeal.main_arg0)) (m ((c.tc : Thread Cert.ProjDxKernelIdeal.nD Cert.ProjDxKernelIdeal.τ).loc Cert.ProjDxKernelIdeal.main_arg1)) (m ((c.tc : Thread Cert.ProjDxKernelIdeal.nD Cert.ProjDxKernelIdeal.τ).loc Cert.ProjDxKernelIdeal.main_arg2)) (m ((c.tc : Thread Cert.ProjDxKernelIdeal.nD Cert.ProjDxKernelIdeal.τ).loc Cert.ProjDxKernelIdeal.main_arg3)) (m ((c.tc : Thread Cert.ProjDxKernelIdeal.nD Cert.ProjDxKernelIdeal.τ).loc Cert.ProjDxKernelIdeal.main_arg4))) = (fun _ => 1#1)

def Pre_ProjDxReferenceIdeal (m : (ℓ : Loc Cert.ProjDxReferenceIdeal.nD Cert.ProjDxReferenceIdeal.τ Cert.ProjDxReferenceIdeal.sig) → Buf (Elt Ideal) ℓ) : Prop :=
  True

def Pre_ProjDxReferenceIdeal_proj_dx_finite [hPre_proj_dx_finite : Cert.Pre_proj_dx_finite.Facts] (m : (ℓ : Loc Cert.ProjDxReferenceIdeal.nD Cert.ProjDxReferenceIdeal.τ Cert.ProjDxReferenceIdeal.sig) → Buf (Elt Ideal) ℓ) : Prop :=
  ∀ c : Dev Cert.ProjDxReferenceIdeal.nD,
    (Cert.Pre_proj_dx_finite.fn (F := Ideal) (m ((c.tc : Thread Cert.ProjDxReferenceIdeal.nD Cert.ProjDxReferenceIdeal.τ).loc Cert.ProjDxReferenceIdeal.main_arg0)) (m ((c.tc : Thread Cert.ProjDxReferenceIdeal.nD Cert.ProjDxReferenceIdeal.τ).loc Cert.ProjDxReferenceIdeal.main_arg1)) (m ((c.tc : Thread Cert.ProjDxReferenceIdeal.nD Cert.ProjDxReferenceIdeal.τ).loc Cert.ProjDxReferenceIdeal.main_arg2)) (m ((c.tc : Thread Cert.ProjDxReferenceIdeal.nD Cert.ProjDxReferenceIdeal.τ).loc Cert.ProjDxReferenceIdeal.main_arg3)) (m ((c.tc : Thread Cert.ProjDxReferenceIdeal.nD Cert.ProjDxReferenceIdeal.τ).loc Cert.ProjDxReferenceIdeal.main_arg4))) = (fun _ => 1#1)

def Pre_StickBwdKernel (m : (ℓ : Loc Cert.StickBwdKernel.nD Cert.StickBwdKernel.τ Cert.StickBwdKernel.sig) → Buf (Elt Bits) ℓ) : Prop :=
  True

def Pre_StickBwdKernelIdeal (m : (ℓ : Loc Cert.StickBwdKernelIdeal.nD Cert.StickBwdKernelIdeal.τ Cert.StickBwdKernelIdeal.sig) → Buf (Elt Ideal) ℓ) : Prop :=
  True

def Pre_StickBwdKernelIdeal_stick_bwd_finite [hPre_stick_bwd_finite : Cert.Pre_stick_bwd_finite.Facts] (m : (ℓ : Loc Cert.StickBwdKernelIdeal.nD Cert.StickBwdKernelIdeal.τ Cert.StickBwdKernelIdeal.sig) → Buf (Elt Ideal) ℓ) : Prop :=
  ∀ c : Dev Cert.StickBwdKernelIdeal.nD,
    (Cert.Pre_stick_bwd_finite.fn (F := Ideal) (m ((c.tc : Thread Cert.StickBwdKernelIdeal.nD Cert.StickBwdKernelIdeal.τ).loc Cert.StickBwdKernelIdeal.main_arg0)) (m ((c.tc : Thread Cert.StickBwdKernelIdeal.nD Cert.StickBwdKernelIdeal.τ).loc Cert.StickBwdKernelIdeal.main_arg1)) (m ((c.tc : Thread Cert.StickBwdKernelIdeal.nD Cert.StickBwdKernelIdeal.τ).loc Cert.StickBwdKernelIdeal.main_arg2)) (m ((c.tc : Thread Cert.StickBwdKernelIdeal.nD Cert.StickBwdKernelIdeal.τ).loc Cert.StickBwdKernelIdeal.main_arg3))) = (fun _ => 1#1)

def Pre_StickBwdReferenceIdeal (m : (ℓ : Loc Cert.StickBwdReferenceIdeal.nD Cert.StickBwdReferenceIdeal.τ Cert.StickBwdReferenceIdeal.sig) → Buf (Elt Ideal) ℓ) : Prop :=
  True

def Pre_StickBwdReferenceIdeal_stick_bwd_finite [hPre_stick_bwd_finite : Cert.Pre_stick_bwd_finite.Facts] (m : (ℓ : Loc Cert.StickBwdReferenceIdeal.nD Cert.StickBwdReferenceIdeal.τ Cert.StickBwdReferenceIdeal.sig) → Buf (Elt Ideal) ℓ) : Prop :=
  ∀ c : Dev Cert.StickBwdReferenceIdeal.nD,
    (Cert.Pre_stick_bwd_finite.fn (F := Ideal) (m ((c.tc : Thread Cert.StickBwdReferenceIdeal.nD Cert.StickBwdReferenceIdeal.τ).loc Cert.StickBwdReferenceIdeal.main_arg0)) (m ((c.tc : Thread Cert.StickBwdReferenceIdeal.nD Cert.StickBwdReferenceIdeal.τ).loc Cert.StickBwdReferenceIdeal.main_arg1)) (m ((c.tc : Thread Cert.StickBwdReferenceIdeal.nD Cert.StickBwdReferenceIdeal.τ).loc Cert.StickBwdReferenceIdeal.main_arg2)) (m ((c.tc : Thread Cert.StickBwdReferenceIdeal.nD Cert.StickBwdReferenceIdeal.τ).loc Cert.StickBwdReferenceIdeal.main_arg3))) = (fun _ => 1#1)

def Pre_NormFwdKernel (m : (ℓ : Loc Cert.NormFwdKernel.nD Cert.NormFwdKernel.τ Cert.NormFwdKernel.sig) → Buf (Elt Bits) ℓ) : Prop :=
  True

def Pre_NormFwdKernelIdeal (m : (ℓ : Loc Cert.NormFwdKernelIdeal.nD Cert.NormFwdKernelIdeal.τ Cert.NormFwdKernelIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_GateFwdKernel (m : (ℓ : Loc Cert.GateFwdKernel.nD Cert.GateFwdKernel.τ Cert.GateFwdKernel.sig) → Buf (Elt Bits) ℓ) : Prop :=
  True

def Pre_GateFwdKernelIdeal (m : (ℓ : Loc Cert.GateFwdKernelIdeal.nD Cert.GateFwdKernelIdeal.τ Cert.GateFwdKernelIdeal.sig) → Buf (Elt Ideal) ℓ) : Prop :=
  True

def Pre_GateFwdKernelIdeal_gate_fwd_finite [hPre_gate_fwd_finite : Cert.Pre_gate_fwd_finite.Facts] (m : (ℓ : Loc Cert.GateFwdKernelIdeal.nD Cert.GateFwdKernelIdeal.τ Cert.GateFwdKernelIdeal.sig) → Buf (Elt Ideal) ℓ) : Prop :=
  ∀ c : Dev Cert.GateFwdKernelIdeal.nD,
    (Cert.Pre_gate_fwd_finite.fn (F := Ideal) (m ((c.tc : Thread Cert.GateFwdKernelIdeal.nD Cert.GateFwdKernelIdeal.τ).loc Cert.GateFwdKernelIdeal.main_arg0)) (m ((c.tc : Thread Cert.GateFwdKernelIdeal.nD Cert.GateFwdKernelIdeal.τ).loc Cert.GateFwdKernelIdeal.main_arg1)) (m ((c.tc : Thread Cert.GateFwdKernelIdeal.nD Cert.GateFwdKernelIdeal.τ).loc Cert.GateFwdKernelIdeal.main_arg2)) (m ((c.tc : Thread Cert.GateFwdKernelIdeal.nD Cert.GateFwdKernelIdeal.τ).loc Cert.GateFwdKernelIdeal.main_arg3))) = (fun _ => 1#1)

def Pre_GateFwdReferenceIdeal (m : (ℓ : Loc Cert.GateFwdReferenceIdeal.nD Cert.GateFwdReferenceIdeal.τ Cert.GateFwdReferenceIdeal.sig) → Buf (Elt Ideal) ℓ) : Prop :=
  True

def Pre_GateFwdReferenceIdeal_gate_fwd_finite [hPre_gate_fwd_finite : Cert.Pre_gate_fwd_finite.Facts] (m : (ℓ : Loc Cert.GateFwdReferenceIdeal.nD Cert.GateFwdReferenceIdeal.τ Cert.GateFwdReferenceIdeal.sig) → Buf (Elt Ideal) ℓ) : Prop :=
  ∀ c : Dev Cert.GateFwdReferenceIdeal.nD,
    (Cert.Pre_gate_fwd_finite.fn (F := Ideal) (m ((c.tc : Thread Cert.GateFwdReferenceIdeal.nD Cert.GateFwdReferenceIdeal.τ).loc Cert.GateFwdReferenceIdeal.main_arg0)) (m ((c.tc : Thread Cert.GateFwdReferenceIdeal.nD Cert.GateFwdReferenceIdeal.τ).loc Cert.GateFwdReferenceIdeal.main_arg1)) (m ((c.tc : Thread Cert.GateFwdReferenceIdeal.nD Cert.GateFwdReferenceIdeal.τ).loc Cert.GateFwdReferenceIdeal.main_arg2)) (m ((c.tc : Thread Cert.GateFwdReferenceIdeal.nD Cert.GateFwdReferenceIdeal.τ).loc Cert.GateFwdReferenceIdeal.main_arg3))) = (fun _ => 1#1)

def Pre_PoolFwdKernel (m : (ℓ : Loc Cert.PoolFwdKernel.nD Cert.PoolFwdKernel.τ Cert.PoolFwdKernel.sig) → Buf (Elt Bits) ℓ) : Prop :=
  True

def Pre_PoolFwdKernelIdeal (m : (ℓ : Loc Cert.PoolFwdKernelIdeal.nD Cert.PoolFwdKernelIdeal.τ Cert.PoolFwdKernelIdeal.sig) → Buf (Elt Ideal) ℓ) : Prop :=
  True

def Pre_PoolFwdKernelIdeal_pool_fwd_finite [hPre_pool_fwd_finite : Cert.Pre_pool_fwd_finite.Facts] (m : (ℓ : Loc Cert.PoolFwdKernelIdeal.nD Cert.PoolFwdKernelIdeal.τ Cert.PoolFwdKernelIdeal.sig) → Buf (Elt Ideal) ℓ) : Prop :=
  ∀ c : Dev Cert.PoolFwdKernelIdeal.nD,
    (Cert.Pre_pool_fwd_finite.fn (F := Ideal) (m ((c.tc : Thread Cert.PoolFwdKernelIdeal.nD Cert.PoolFwdKernelIdeal.τ).loc Cert.PoolFwdKernelIdeal.main_arg0)) (m ((c.tc : Thread Cert.PoolFwdKernelIdeal.nD Cert.PoolFwdKernelIdeal.τ).loc Cert.PoolFwdKernelIdeal.main_arg1)) (m ((c.tc : Thread Cert.PoolFwdKernelIdeal.nD Cert.PoolFwdKernelIdeal.τ).loc Cert.PoolFwdKernelIdeal.main_arg2)) (m ((c.tc : Thread Cert.PoolFwdKernelIdeal.nD Cert.PoolFwdKernelIdeal.τ).loc Cert.PoolFwdKernelIdeal.main_arg3)) (m ((c.tc : Thread Cert.PoolFwdKernelIdeal.nD Cert.PoolFwdKernelIdeal.τ).loc Cert.PoolFwdKernelIdeal.main_arg4))) = (fun _ => 1#1)

def Pre_PoolFwdReferenceIdeal (m : (ℓ : Loc Cert.PoolFwdReferenceIdeal.nD Cert.PoolFwdReferenceIdeal.τ Cert.PoolFwdReferenceIdeal.sig) → Buf (Elt Ideal) ℓ) : Prop :=
  True

def Pre_PoolFwdReferenceIdeal_pool_fwd_finite [hPre_pool_fwd_finite : Cert.Pre_pool_fwd_finite.Facts] (m : (ℓ : Loc Cert.PoolFwdReferenceIdeal.nD Cert.PoolFwdReferenceIdeal.τ Cert.PoolFwdReferenceIdeal.sig) → Buf (Elt Ideal) ℓ) : Prop :=
  ∀ c : Dev Cert.PoolFwdReferenceIdeal.nD,
    (Cert.Pre_pool_fwd_finite.fn (F := Ideal) (m ((c.tc : Thread Cert.PoolFwdReferenceIdeal.nD Cert.PoolFwdReferenceIdeal.τ).loc Cert.PoolFwdReferenceIdeal.main_arg0)) (m ((c.tc : Thread Cert.PoolFwdReferenceIdeal.nD Cert.PoolFwdReferenceIdeal.τ).loc Cert.PoolFwdReferenceIdeal.main_arg1)) (m ((c.tc : Thread Cert.PoolFwdReferenceIdeal.nD Cert.PoolFwdReferenceIdeal.τ).loc Cert.PoolFwdReferenceIdeal.main_arg2)) (m ((c.tc : Thread Cert.PoolFwdReferenceIdeal.nD Cert.PoolFwdReferenceIdeal.τ).loc Cert.PoolFwdReferenceIdeal.main_arg3)) (m ((c.tc : Thread Cert.PoolFwdReferenceIdeal.nD Cert.PoolFwdReferenceIdeal.τ).loc Cert.PoolFwdReferenceIdeal.main_arg4))) = (fun _ => 1#1)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_PoolMixKernel [hPoolMixKernel : Cert.PoolMixKernel.Facts] : Prop :=
  ∀ (m : (ℓ : Loc Cert.PoolMixKernel.nD Cert.PoolMixKernel.τ Cert.PoolMixKernel.sig) → Buf (Elt Bits) ℓ) (g : Dev Cert.PoolMixKernel.nD → PrngReg), Pre_PoolMixKernel m →
    θ_run (Cert.PoolMixKernel.defs (F := Bits)) (onTc (τ := Cert.PoolMixKernel.τ) (Cert.PoolMixKernel.main (F := Bits))) ⟨m, fun _ => 0, g⟩ (fun r => (∀ c : Dev Cert.PoolMixKernel.nD,
      r.2.mem ((c.tc : Thread Cert.PoolMixKernel.nD Cert.PoolMixKernel.τ).loc Cert.PoolMixKernel.main_arg0) = m ((c.tc : Thread Cert.PoolMixKernel.nD Cert.PoolMixKernel.τ).loc Cert.PoolMixKernel.main_arg0)
      ∧ r.2.mem ((c.tc : Thread Cert.PoolMixKernel.nD Cert.PoolMixKernel.τ).loc Cert.PoolMixKernel.main_arg1) = m ((c.tc : Thread Cert.PoolMixKernel.nD Cert.PoolMixKernel.τ).loc Cert.PoolMixKernel.main_arg1)
      ∧ r.2.mem ((c.tc : Thread Cert.PoolMixKernel.nD Cert.PoolMixKernel.τ).loc Cert.PoolMixKernel.main_arg2) = m ((c.tc : Thread Cert.PoolMixKernel.nD Cert.PoolMixKernel.τ).loc Cert.PoolMixKernel.main_arg2)
      ∧ r.2.mem ((c.tc : Thread Cert.PoolMixKernel.nD Cert.PoolMixKernel.τ).loc Cert.PoolMixKernel.main_arg3) = m ((c.tc : Thread Cert.PoolMixKernel.nD Cert.PoolMixKernel.τ).loc Cert.PoolMixKernel.main_arg3)
      ∧ r.2.mem ((c.tc : Thread Cert.PoolMixKernel.nD Cert.PoolMixKernel.τ).loc Cert.PoolMixKernel.main_arg4) = m ((c.tc : Thread Cert.PoolMixKernel.nD Cert.PoolMixKernel.τ).loc Cert.PoolMixKernel.main_arg4))
      ∧ r.2.sem = fun _ => 0)

def quiescent_PoolMixKernelIdeal [hPoolMixKernelIdeal : Cert.PoolMixKernelIdeal.Facts] : Prop :=
  ∀ (m : (ℓ : Loc Cert.PoolMixKernelIdeal.nD Cert.PoolMixKernelIdeal.τ Cert.PoolMixKernelIdeal.sig) → Buf (Elt Ideal) ℓ) (g : Dev Cert.PoolMixKernelIdeal.nD → PrngReg), Pre_PoolMixKernelIdeal m →
    θ_run (Cert.PoolMixKernelIdeal.defs (F := Ideal)) (onTc (τ := Cert.PoolMixKernelIdeal.τ) (Cert.PoolMixKernelIdeal.main (F := Ideal))) ⟨m, fun _ => 0, g⟩ (fun r => (∀ c : Dev Cert.PoolMixKernelIdeal.nD,
      r.2.mem ((c.tc : Thread Cert.PoolMixKernelIdeal.nD Cert.PoolMixKernelIdeal.τ).loc Cert.PoolMixKernelIdeal.main_arg0) = m ((c.tc : Thread Cert.PoolMixKernelIdeal.nD Cert.PoolMixKernelIdeal.τ).loc Cert.PoolMixKernelIdeal.main_arg0)
      ∧ r.2.mem ((c.tc : Thread Cert.PoolMixKernelIdeal.nD Cert.PoolMixKernelIdeal.τ).loc Cert.PoolMixKernelIdeal.main_arg1) = m ((c.tc : Thread Cert.PoolMixKernelIdeal.nD Cert.PoolMixKernelIdeal.τ).loc Cert.PoolMixKernelIdeal.main_arg1)
      ∧ r.2.mem ((c.tc : Thread Cert.PoolMixKernelIdeal.nD Cert.PoolMixKernelIdeal.τ).loc Cert.PoolMixKernelIdeal.main_arg2) = m ((c.tc : Thread Cert.PoolMixKernelIdeal.nD Cert.PoolMixKernelIdeal.τ).loc Cert.PoolMixKernelIdeal.main_arg2)
      ∧ r.2.mem ((c.tc : Thread Cert.PoolMixKernelIdeal.nD Cert.PoolMixKernelIdeal.τ).loc Cert.PoolMixKernelIdeal.main_arg3) = m ((c.tc : Thread Cert.PoolMixKernelIdeal.nD Cert.PoolMixKernelIdeal.τ).loc Cert.PoolMixKernelIdeal.main_arg3)
      ∧ r.2.mem ((c.tc : Thread Cert.PoolMixKernelIdeal.nD Cert.PoolMixKernelIdeal.τ).loc Cert.PoolMixKernelIdeal.main_arg4) = m ((c.tc : Thread Cert.PoolMixKernelIdeal.nD Cert.PoolMixKernelIdeal.τ).loc Cert.PoolMixKernelIdeal.main_arg4))
      ∧ r.2.sem = fun _ => 0)

def quiescent_PoolMixReferenceIdeal [hPoolMixReferenceIdeal : Cert.PoolMixReferenceIdeal.Facts] : Prop :=
  ∀ (m : (ℓ : Loc Cert.PoolMixReferenceIdeal.nD Cert.PoolMixReferenceIdeal.τ Cert.PoolMixReferenceIdeal.sig) → Buf (Elt Ideal) ℓ) (g : Dev Cert.PoolMixReferenceIdeal.nD → PrngReg), Pre_PoolMixReferenceIdeal m →
    θ_run (Cert.PoolMixReferenceIdeal.defs (F := Ideal)) (onTc (τ := Cert.PoolMixReferenceIdeal.τ) (Cert.PoolMixReferenceIdeal.main (F := Ideal))) ⟨m, fun _ => 0, g⟩ (fun r => (∀ c : Dev Cert.PoolMixReferenceIdeal.nD,
      r.2.mem ((c.tc : Thread Cert.PoolMixReferenceIdeal.nD Cert.PoolMixReferenceIdeal.τ).loc Cert.PoolMixReferenceIdeal.main_arg0) = m ((c.tc : Thread Cert.PoolMixReferenceIdeal.nD Cert.PoolMixReferenceIdeal.τ).loc Cert.PoolMixReferenceIdeal.main_arg0)
      ∧ r.2.mem ((c.tc : Thread Cert.PoolMixReferenceIdeal.nD Cert.PoolMixReferenceIdeal.τ).loc Cert.PoolMixReferenceIdeal.main_arg1) = m ((c.tc : Thread Cert.PoolMixReferenceIdeal.nD Cert.PoolMixReferenceIdeal.τ).loc Cert.PoolMixReferenceIdeal.main_arg1)
      ∧ r.2.mem ((c.tc : Thread Cert.PoolMixReferenceIdeal.nD Cert.PoolMixReferenceIdeal.τ).loc Cert.PoolMixReferenceIdeal.main_arg2) = m ((c.tc : Thread Cert.PoolMixReferenceIdeal.nD Cert.PoolMixReferenceIdeal.τ).loc Cert.PoolMixReferenceIdeal.main_arg2)
      ∧ r.2.mem ((c.tc : Thread Cert.PoolMixReferenceIdeal.nD Cert.PoolMixReferenceIdeal.τ).loc Cert.PoolMixReferenceIdeal.main_arg3) = m ((c.tc : Thread Cert.PoolMixReferenceIdeal.nD Cert.PoolMixReferenceIdeal.τ).loc Cert.PoolMixReferenceIdeal.main_arg3)
      ∧ r.2.mem ((c.tc : Thread Cert.PoolMixReferenceIdeal.nD Cert.PoolMixReferenceIdeal.τ).loc Cert.PoolMixReferenceIdeal.main_arg4) = m ((c.tc : Thread Cert.PoolMixReferenceIdeal.nD Cert.PoolMixReferenceIdeal.τ).loc Cert.PoolMixReferenceIdeal.main_arg4))
      ∧ r.2.sem = fun _ => 0)

def quiescent_PoolWindowKernel [hPoolWindowKernel : Cert.PoolWindowKernel.Facts] : Prop :=
  ∀ (m : (ℓ : Loc Cert.PoolWindowKernel.nD Cert.PoolWindowKernel.τ Cert.PoolWindowKernel.sig) → Buf (Elt Bits) ℓ) (g : Dev Cert.PoolWindowKernel.nD → PrngReg), Pre_PoolWindowKernel m →
    θ_run (Cert.PoolWindowKernel.defs (F := Bits)) (onTc (τ := Cert.PoolWindowKernel.τ) (Cert.PoolWindowKernel.main (F := Bits))) ⟨m, fun _ => 0, g⟩ (fun r => (∀ c : Dev Cert.PoolWindowKernel.nD,
      r.2.mem ((c.tc : Thread Cert.PoolWindowKernel.nD Cert.PoolWindowKernel.τ).loc Cert.PoolWindowKernel.main_arg0) = m ((c.tc : Thread Cert.PoolWindowKernel.nD Cert.PoolWindowKernel.τ).loc Cert.PoolWindowKernel.main_arg0)
      ∧ r.2.mem ((c.tc : Thread Cert.PoolWindowKernel.nD Cert.PoolWindowKernel.τ).loc Cert.PoolWindowKernel.main_arg1) = m ((c.tc : Thread Cert.PoolWindowKernel.nD Cert.PoolWindowKernel.τ).loc Cert.PoolWindowKernel.main_arg1)
      ∧ r.2.mem ((c.tc : Thread Cert.PoolWindowKernel.nD Cert.PoolWindowKernel.τ).loc Cert.PoolWindowKernel.main_arg2) = m ((c.tc : Thread Cert.PoolWindowKernel.nD Cert.PoolWindowKernel.τ).loc Cert.PoolWindowKernel.main_arg2)
      ∧ r.2.mem ((c.tc : Thread Cert.PoolWindowKernel.nD Cert.PoolWindowKernel.τ).loc Cert.PoolWindowKernel.main_arg3) = m ((c.tc : Thread Cert.PoolWindowKernel.nD Cert.PoolWindowKernel.τ).loc Cert.PoolWindowKernel.main_arg3))
      ∧ r.2.sem = fun _ => 0)

def quiescent_PoolWindowKernelIdeal [hPoolWindowKernelIdeal : Cert.PoolWindowKernelIdeal.Facts] : Prop :=
  ∀ (m : (ℓ : Loc Cert.PoolWindowKernelIdeal.nD Cert.PoolWindowKernelIdeal.τ Cert.PoolWindowKernelIdeal.sig) → Buf (Elt Ideal) ℓ) (g : Dev Cert.PoolWindowKernelIdeal.nD → PrngReg), Pre_PoolWindowKernelIdeal m →
    θ_run (Cert.PoolWindowKernelIdeal.defs (F := Ideal)) (onTc (τ := Cert.PoolWindowKernelIdeal.τ) (Cert.PoolWindowKernelIdeal.main (F := Ideal))) ⟨m, fun _ => 0, g⟩ (fun r => (∀ c : Dev Cert.PoolWindowKernelIdeal.nD,
      r.2.mem ((c.tc : Thread Cert.PoolWindowKernelIdeal.nD Cert.PoolWindowKernelIdeal.τ).loc Cert.PoolWindowKernelIdeal.main_arg0) = m ((c.tc : Thread Cert.PoolWindowKernelIdeal.nD Cert.PoolWindowKernelIdeal.τ).loc Cert.PoolWindowKernelIdeal.main_arg0)
      ∧ r.2.mem ((c.tc : Thread Cert.PoolWindowKernelIdeal.nD Cert.PoolWindowKernelIdeal.τ).loc Cert.PoolWindowKernelIdeal.main_arg1) = m ((c.tc : Thread Cert.PoolWindowKernelIdeal.nD Cert.PoolWindowKernelIdeal.τ).loc Cert.PoolWindowKernelIdeal.main_arg1)
      ∧ r.2.mem ((c.tc : Thread Cert.PoolWindowKernelIdeal.nD Cert.PoolWindowKernelIdeal.τ).loc Cert.PoolWindowKernelIdeal.main_arg2) = m ((c.tc : Thread Cert.PoolWindowKernelIdeal.nD Cert.PoolWindowKernelIdeal.τ).loc Cert.PoolWindowKernelIdeal.main_arg2)
      ∧ r.2.mem ((c.tc : Thread Cert.PoolWindowKernelIdeal.nD Cert.PoolWindowKernelIdeal.τ).loc Cert.PoolWindowKernelIdeal.main_arg3) = m ((c.tc : Thread Cert.PoolWindowKernelIdeal.nD Cert.PoolWindowKernelIdeal.τ).loc Cert.PoolWindowKernelIdeal.main_arg3))
      ∧ r.2.sem = fun _ => 0)

def quiescent_PoolWindowKernelIdeal_pre_pool_window_finite [hPoolWindowKernelIdeal : Cert.PoolWindowKernelIdeal.Facts] [hPre_pool_window_finite : Cert.Pre_pool_window_finite.Facts] : Prop :=
  ∀ (m : (ℓ : Loc Cert.PoolWindowKernelIdeal.nD Cert.PoolWindowKernelIdeal.τ Cert.PoolWindowKernelIdeal.sig) → Buf (Elt Ideal) ℓ) (g : Dev Cert.PoolWindowKernelIdeal.nD → PrngReg), Pre_PoolWindowKernelIdeal_pool_window_finite m →
    θ_run (Cert.PoolWindowKernelIdeal.defs (F := Ideal)) (onTc (τ := Cert.PoolWindowKernelIdeal.τ) (Cert.PoolWindowKernelIdeal.main (F := Ideal))) ⟨m, fun _ => 0, g⟩ (fun r => (∀ c : Dev Cert.PoolWindowKernelIdeal.nD,
      r.2.mem ((c.tc : Thread Cert.PoolWindowKernelIdeal.nD Cert.PoolWindowKernelIdeal.τ).loc Cert.PoolWindowKernelIdeal.main_arg0) = m ((c.tc : Thread Cert.PoolWindowKernelIdeal.nD Cert.PoolWindowKernelIdeal.τ).loc Cert.PoolWindowKernelIdeal.main_arg0)
      ∧ r.2.mem ((c.tc : Thread Cert.PoolWindowKernelIdeal.nD Cert.PoolWindowKernelIdeal.τ).loc Cert.PoolWindowKernelIdeal.main_arg1) = m ((c.tc : Thread Cert.PoolWindowKernelIdeal.nD Cert.PoolWindowKernelIdeal.τ).loc Cert.PoolWindowKernelIdeal.main_arg1)
      ∧ r.2.mem ((c.tc : Thread Cert.PoolWindowKernelIdeal.nD Cert.PoolWindowKernelIdeal.τ).loc Cert.PoolWindowKernelIdeal.main_arg2) = m ((c.tc : Thread Cert.PoolWindowKernelIdeal.nD Cert.PoolWindowKernelIdeal.τ).loc Cert.PoolWindowKernelIdeal.main_arg2)
      ∧ r.2.mem ((c.tc : Thread Cert.PoolWindowKernelIdeal.nD Cert.PoolWindowKernelIdeal.τ).loc Cert.PoolWindowKernelIdeal.main_arg3) = m ((c.tc : Thread Cert.PoolWindowKernelIdeal.nD Cert.PoolWindowKernelIdeal.τ).loc Cert.PoolWindowKernelIdeal.main_arg3))
      ∧ r.2.sem = fun _ => 0)

def quiescent_PoolWindowReferenceIdeal [hPoolWindowReferenceIdeal : Cert.PoolWindowReferenceIdeal.Facts] : Prop :=
  ∀ (m : (ℓ : Loc Cert.PoolWindowReferenceIdeal.nD Cert.PoolWindowReferenceIdeal.τ Cert.PoolWindowReferenceIdeal.sig) → Buf (Elt Ideal) ℓ) (g : Dev Cert.PoolWindowReferenceIdeal.nD → PrngReg), Pre_PoolWindowReferenceIdeal m →
    θ_run (Cert.PoolWindowReferenceIdeal.defs (F := Ideal)) (onTc (τ := Cert.PoolWindowReferenceIdeal.τ) (Cert.PoolWindowReferenceIdeal.main (F := Ideal))) ⟨m, fun _ => 0, g⟩ (fun r => (∀ c : Dev Cert.PoolWindowReferenceIdeal.nD,
      r.2.mem ((c.tc : Thread Cert.PoolWindowReferenceIdeal.nD Cert.PoolWindowReferenceIdeal.τ).loc Cert.PoolWindowReferenceIdeal.main_arg0) = m ((c.tc : Thread Cert.PoolWindowReferenceIdeal.nD Cert.PoolWindowReferenceIdeal.τ).loc Cert.PoolWindowReferenceIdeal.main_arg0)
      ∧ r.2.mem ((c.tc : Thread Cert.PoolWindowReferenceIdeal.nD Cert.PoolWindowReferenceIdeal.τ).loc Cert.PoolWindowReferenceIdeal.main_arg1) = m ((c.tc : Thread Cert.PoolWindowReferenceIdeal.nD Cert.PoolWindowReferenceIdeal.τ).loc Cert.PoolWindowReferenceIdeal.main_arg1)
      ∧ r.2.mem ((c.tc : Thread Cert.PoolWindowReferenceIdeal.nD Cert.PoolWindowReferenceIdeal.τ).loc Cert.PoolWindowReferenceIdeal.main_arg2) = m ((c.tc : Thread Cert.PoolWindowReferenceIdeal.nD Cert.PoolWindowReferenceIdeal.τ).loc Cert.PoolWindowReferenceIdeal.main_arg2)
      ∧ r.2.mem ((c.tc : Thread Cert.PoolWindowReferenceIdeal.nD Cert.PoolWindowReferenceIdeal.τ).loc Cert.PoolWindowReferenceIdeal.main_arg3) = m ((c.tc : Thread Cert.PoolWindowReferenceIdeal.nD Cert.PoolWindowReferenceIdeal.τ).loc Cert.PoolWindowReferenceIdeal.main_arg3))
      ∧ r.2.sem = fun _ => 0)

def quiescent_PoolWindowReferenceIdeal_pre_pool_window_finite [hPoolWindowReferenceIdeal : Cert.PoolWindowReferenceIdeal.Facts] [hPre_pool_window_finite : Cert.Pre_pool_window_finite.Facts] : Prop :=
  ∀ (m : (ℓ : Loc Cert.PoolWindowReferenceIdeal.nD Cert.PoolWindowReferenceIdeal.τ Cert.PoolWindowReferenceIdeal.sig) → Buf (Elt Ideal) ℓ) (g : Dev Cert.PoolWindowReferenceIdeal.nD → PrngReg), Pre_PoolWindowReferenceIdeal_pool_window_finite m →
    θ_run (Cert.PoolWindowReferenceIdeal.defs (F := Ideal)) (onTc (τ := Cert.PoolWindowReferenceIdeal.τ) (Cert.PoolWindowReferenceIdeal.main (F := Ideal))) ⟨m, fun _ => 0, g⟩ (fun r => (∀ c : Dev Cert.PoolWindowReferenceIdeal.nD,
      r.2.mem ((c.tc : Thread Cert.PoolWindowReferenceIdeal.nD Cert.PoolWindowReferenceIdeal.τ).loc Cert.PoolWindowReferenceIdeal.main_arg0) = m ((c.tc : Thread Cert.PoolWindowReferenceIdeal.nD Cert.PoolWindowReferenceIdeal.τ).loc Cert.PoolWindowReferenceIdeal.main_arg0)
      ∧ r.2.mem ((c.tc : Thread Cert.PoolWindowReferenceIdeal.nD Cert.PoolWindowReferenceIdeal.τ).loc Cert.PoolWindowReferenceIdeal.main_arg1) = m ((c.tc : Thread Cert.PoolWindowReferenceIdeal.nD Cert.PoolWindowReferenceIdeal.τ).loc Cert.PoolWindowReferenceIdeal.main_arg1)
      ∧ r.2.mem ((c.tc : Thread Cert.PoolWindowReferenceIdeal.nD Cert.PoolWindowReferenceIdeal.τ).loc Cert.PoolWindowReferenceIdeal.main_arg2) = m ((c.tc : Thread Cert.PoolWindowReferenceIdeal.nD Cert.PoolWindowReferenceIdeal.τ).loc Cert.PoolWindowReferenceIdeal.main_arg2)
      ∧ r.2.mem ((c.tc : Thread Cert.PoolWindowReferenceIdeal.nD Cert.PoolWindowReferenceIdeal.τ).loc Cert.PoolWindowReferenceIdeal.main_arg3) = m ((c.tc : Thread Cert.PoolWindowReferenceIdeal.nD Cert.PoolWindowReferenceIdeal.τ).loc Cert.PoolWindowReferenceIdeal.main_arg3))
      ∧ r.2.sem = fun _ => 0)

def quiescent_FfnGateKernel [hFfnGateKernel : Cert.FfnGateKernel.Facts] : Prop :=
  ∀ (m : (ℓ : Loc Cert.FfnGateKernel.nD Cert.FfnGateKernel.τ Cert.FfnGateKernel.sig) → Buf (Elt Bits) ℓ) (g : Dev Cert.FfnGateKernel.nD → PrngReg), Pre_FfnGateKernel m →
    θ_run (Cert.FfnGateKernel.defs (F := Bits)) (onTc (τ := Cert.FfnGateKernel.τ) (Cert.FfnGateKernel.main (F := Bits))) ⟨m, fun _ => 0, g⟩ (fun r => (∀ c : Dev Cert.FfnGateKernel.nD,
      r.2.mem ((c.tc : Thread Cert.FfnGateKernel.nD Cert.FfnGateKernel.τ).loc Cert.FfnGateKernel.main_arg0) = m ((c.tc : Thread Cert.FfnGateKernel.nD Cert.FfnGateKernel.τ).loc Cert.FfnGateKernel.main_arg0)
      ∧ r.2.mem ((c.tc : Thread Cert.FfnGateKernel.nD Cert.FfnGateKernel.τ).loc Cert.FfnGateKernel.main_arg1) = m ((c.tc : Thread Cert.FfnGateKernel.nD Cert.FfnGateKernel.τ).loc Cert.FfnGateKernel.main_arg1)
      ∧ r.2.mem ((c.tc : Thread Cert.FfnGateKernel.nD Cert.FfnGateKernel.τ).loc Cert.FfnGateKernel.main_arg2) = m ((c.tc : Thread Cert.FfnGateKernel.nD Cert.FfnGateKernel.τ).loc Cert.FfnGateKernel.main_arg2)
      ∧ r.2.mem ((c.tc : Thread Cert.FfnGateKernel.nD Cert.FfnGateKernel.τ).loc Cert.FfnGateKernel.main_arg3) = m ((c.tc : Thread Cert.FfnGateKernel.nD Cert.FfnGateKernel.τ).loc Cert.FfnGateKernel.main_arg3)
      ∧ r.2.mem ((c.tc : Thread Cert.FfnGateKernel.nD Cert.FfnGateKernel.τ).loc Cert.FfnGateKernel.main_arg4) = m ((c.tc : Thread Cert.FfnGateKernel.nD Cert.FfnGateKernel.τ).loc Cert.FfnGateKernel.main_arg4)
      ∧ r.2.mem ((c.tc : Thread Cert.FfnGateKernel.nD Cert.FfnGateKernel.τ).loc Cert.FfnGateKernel.main_arg5) = m ((c.tc : Thread Cert.FfnGateKernel.nD Cert.FfnGateKernel.τ).loc Cert.FfnGateKernel.main_arg5))
      ∧ r.2.sem = fun _ => 0)

def quiescent_FfnGateKernelIdeal [hFfnGateKernelIdeal : Cert.FfnGateKernelIdeal.Facts] : Prop :=
  ∀ (m : (ℓ : Loc Cert.FfnGateKernelIdeal.nD Cert.FfnGateKernelIdeal.τ Cert.FfnGateKernelIdeal.sig) → Buf (Elt Ideal) ℓ) (g : Dev Cert.FfnGateKernelIdeal.nD → PrngReg), Pre_FfnGateKernelIdeal m →
    θ_run (Cert.FfnGateKernelIdeal.defs (F := Ideal)) (onTc (τ := Cert.FfnGateKernelIdeal.τ) (Cert.FfnGateKernelIdeal.main (F := Ideal))) ⟨m, fun _ => 0, g⟩ (fun r => (∀ c : Dev Cert.FfnGateKernelIdeal.nD,
      r.2.mem ((c.tc : Thread Cert.FfnGateKernelIdeal.nD Cert.FfnGateKernelIdeal.τ).loc Cert.FfnGateKernelIdeal.main_arg0) = m ((c.tc : Thread Cert.FfnGateKernelIdeal.nD Cert.FfnGateKernelIdeal.τ).loc Cert.FfnGateKernelIdeal.main_arg0)
      ∧ r.2.mem ((c.tc : Thread Cert.FfnGateKernelIdeal.nD Cert.FfnGateKernelIdeal.τ).loc Cert.FfnGateKernelIdeal.main_arg1) = m ((c.tc : Thread Cert.FfnGateKernelIdeal.nD Cert.FfnGateKernelIdeal.τ).loc Cert.FfnGateKernelIdeal.main_arg1)
      ∧ r.2.mem ((c.tc : Thread Cert.FfnGateKernelIdeal.nD Cert.FfnGateKernelIdeal.τ).loc Cert.FfnGateKernelIdeal.main_arg2) = m ((c.tc : Thread Cert.FfnGateKernelIdeal.nD Cert.FfnGateKernelIdeal.τ).loc Cert.FfnGateKernelIdeal.main_arg2)
      ∧ r.2.mem ((c.tc : Thread Cert.FfnGateKernelIdeal.nD Cert.FfnGateKernelIdeal.τ).loc Cert.FfnGateKernelIdeal.main_arg3) = m ((c.tc : Thread Cert.FfnGateKernelIdeal.nD Cert.FfnGateKernelIdeal.τ).loc Cert.FfnGateKernelIdeal.main_arg3)
      ∧ r.2.mem ((c.tc : Thread Cert.FfnGateKernelIdeal.nD Cert.FfnGateKernelIdeal.τ).loc Cert.FfnGateKernelIdeal.main_arg4) = m ((c.tc : Thread Cert.FfnGateKernelIdeal.nD Cert.FfnGateKernelIdeal.τ).loc Cert.FfnGateKernelIdeal.main_arg4)
      ∧ r.2.mem ((c.tc : Thread Cert.FfnGateKernelIdeal.nD Cert.FfnGateKernelIdeal.τ).loc Cert.FfnGateKernelIdeal.main_arg5) = m ((c.tc : Thread Cert.FfnGateKernelIdeal.nD Cert.FfnGateKernelIdeal.τ).loc Cert.FfnGateKernelIdeal.main_arg5))
      ∧ r.2.sem = fun _ => 0)

def quiescent_FfnGateKernelIdeal_pre_ffn_gate_finite [hFfnGateKernelIdeal : Cert.FfnGateKernelIdeal.Facts] [hPre_ffn_gate_finite : Cert.Pre_ffn_gate_finite.Facts] : Prop :=
  ∀ (m : (ℓ : Loc Cert.FfnGateKernelIdeal.nD Cert.FfnGateKernelIdeal.τ Cert.FfnGateKernelIdeal.sig) → Buf (Elt Ideal) ℓ) (g : Dev Cert.FfnGateKernelIdeal.nD → PrngReg), Pre_FfnGateKernelIdeal_ffn_gate_finite m →
    θ_run (Cert.FfnGateKernelIdeal.defs (F := Ideal)) (onTc (τ := Cert.FfnGateKernelIdeal.τ) (Cert.FfnGateKernelIdeal.main (F := Ideal))) ⟨m, fun _ => 0, g⟩ (fun r => (∀ c : Dev Cert.FfnGateKernelIdeal.nD,
      r.2.mem ((c.tc : Thread Cert.FfnGateKernelIdeal.nD Cert.FfnGateKernelIdeal.τ).loc Cert.FfnGateKernelIdeal.main_arg0) = m ((c.tc : Thread Cert.FfnGateKernelIdeal.nD Cert.FfnGateKernelIdeal.τ).loc Cert.FfnGateKernelIdeal.main_arg0)
      ∧ r.2.mem ((c.tc : Thread Cert.FfnGateKernelIdeal.nD Cert.FfnGateKernelIdeal.τ).loc Cert.FfnGateKernelIdeal.main_arg1) = m ((c.tc : Thread Cert.FfnGateKernelIdeal.nD Cert.FfnGateKernelIdeal.τ).loc Cert.FfnGateKernelIdeal.main_arg1)
      ∧ r.2.mem ((c.tc : Thread Cert.FfnGateKernelIdeal.nD Cert.FfnGateKernelIdeal.τ).loc Cert.FfnGateKernelIdeal.main_arg2) = m ((c.tc : Thread Cert.FfnGateKernelIdeal.nD Cert.FfnGateKernelIdeal.τ).loc Cert.FfnGateKernelIdeal.main_arg2)
      ∧ r.2.mem ((c.tc : Thread Cert.FfnGateKernelIdeal.nD Cert.FfnGateKernelIdeal.τ).loc Cert.FfnGateKernelIdeal.main_arg3) = m ((c.tc : Thread Cert.FfnGateKernelIdeal.nD Cert.FfnGateKernelIdeal.τ).loc Cert.FfnGateKernelIdeal.main_arg3)
      ∧ r.2.mem ((c.tc : Thread Cert.FfnGateKernelIdeal.nD Cert.FfnGateKernelIdeal.τ).loc Cert.FfnGateKernelIdeal.main_arg4) = m ((c.tc : Thread Cert.FfnGateKernelIdeal.nD Cert.FfnGateKernelIdeal.τ).loc Cert.FfnGateKernelIdeal.main_arg4)
      ∧ r.2.mem ((c.tc : Thread Cert.FfnGateKernelIdeal.nD Cert.FfnGateKernelIdeal.τ).loc Cert.FfnGateKernelIdeal.main_arg5) = m ((c.tc : Thread Cert.FfnGateKernelIdeal.nD Cert.FfnGateKernelIdeal.τ).loc Cert.FfnGateKernelIdeal.main_arg5))
      ∧ r.2.sem = fun _ => 0)

def quiescent_FfnGateReferenceIdeal [hFfnGateReferenceIdeal : Cert.FfnGateReferenceIdeal.Facts] : Prop :=
  ∀ (m : (ℓ : Loc Cert.FfnGateReferenceIdeal.nD Cert.FfnGateReferenceIdeal.τ Cert.FfnGateReferenceIdeal.sig) → Buf (Elt Ideal) ℓ) (g : Dev Cert.FfnGateReferenceIdeal.nD → PrngReg), Pre_FfnGateReferenceIdeal m →
    θ_run (Cert.FfnGateReferenceIdeal.defs (F := Ideal)) (onTc (τ := Cert.FfnGateReferenceIdeal.τ) (Cert.FfnGateReferenceIdeal.main (F := Ideal))) ⟨m, fun _ => 0, g⟩ (fun r => (∀ c : Dev Cert.FfnGateReferenceIdeal.nD,
      r.2.mem ((c.tc : Thread Cert.FfnGateReferenceIdeal.nD Cert.FfnGateReferenceIdeal.τ).loc Cert.FfnGateReferenceIdeal.main_arg0) = m ((c.tc : Thread Cert.FfnGateReferenceIdeal.nD Cert.FfnGateReferenceIdeal.τ).loc Cert.FfnGateReferenceIdeal.main_arg0)
      ∧ r.2.mem ((c.tc : Thread Cert.FfnGateReferenceIdeal.nD Cert.FfnGateReferenceIdeal.τ).loc Cert.FfnGateReferenceIdeal.main_arg1) = m ((c.tc : Thread Cert.FfnGateReferenceIdeal.nD Cert.FfnGateReferenceIdeal.τ).loc Cert.FfnGateReferenceIdeal.main_arg1)
      ∧ r.2.mem ((c.tc : Thread Cert.FfnGateReferenceIdeal.nD Cert.FfnGateReferenceIdeal.τ).loc Cert.FfnGateReferenceIdeal.main_arg2) = m ((c.tc : Thread Cert.FfnGateReferenceIdeal.nD Cert.FfnGateReferenceIdeal.τ).loc Cert.FfnGateReferenceIdeal.main_arg2)
      ∧ r.2.mem ((c.tc : Thread Cert.FfnGateReferenceIdeal.nD Cert.FfnGateReferenceIdeal.τ).loc Cert.FfnGateReferenceIdeal.main_arg3) = m ((c.tc : Thread Cert.FfnGateReferenceIdeal.nD Cert.FfnGateReferenceIdeal.τ).loc Cert.FfnGateReferenceIdeal.main_arg3)
      ∧ r.2.mem ((c.tc : Thread Cert.FfnGateReferenceIdeal.nD Cert.FfnGateReferenceIdeal.τ).loc Cert.FfnGateReferenceIdeal.main_arg4) = m ((c.tc : Thread Cert.FfnGateReferenceIdeal.nD Cert.FfnGateReferenceIdeal.τ).loc Cert.FfnGateReferenceIdeal.main_arg4)
      ∧ r.2.mem ((c.tc : Thread Cert.FfnGateReferenceIdeal.nD Cert.FfnGateReferenceIdeal.τ).loc Cert.FfnGateReferenceIdeal.main_arg5) = m ((c.tc : Thread Cert.FfnGateReferenceIdeal.nD Cert.FfnGateReferenceIdeal.τ).loc Cert.FfnGateReferenceIdeal.main_arg5))
      ∧ r.2.sem = fun _ => 0)

def quiescent_FfnGateReferenceIdeal_pre_ffn_gate_finite [hFfnGateReferenceIdeal : Cert.FfnGateReferenceIdeal.Facts] [hPre_ffn_gate_finite : Cert.Pre_ffn_gate_finite.Facts] : Prop :=
  ∀ (m : (ℓ : Loc Cert.FfnGateReferenceIdeal.nD Cert.FfnGateReferenceIdeal.τ Cert.FfnGateReferenceIdeal.sig) → Buf (Elt Ideal) ℓ) (g : Dev Cert.FfnGateReferenceIdeal.nD → PrngReg), Pre_FfnGateReferenceIdeal_ffn_gate_finite m →
    θ_run (Cert.FfnGateReferenceIdeal.defs (F := Ideal)) (onTc (τ := Cert.FfnGateReferenceIdeal.τ) (Cert.FfnGateReferenceIdeal.main (F := Ideal))) ⟨m, fun _ => 0, g⟩ (fun r => (∀ c : Dev Cert.FfnGateReferenceIdeal.nD,
      r.2.mem ((c.tc : Thread Cert.FfnGateReferenceIdeal.nD Cert.FfnGateReferenceIdeal.τ).loc Cert.FfnGateReferenceIdeal.main_arg0) = m ((c.tc : Thread Cert.FfnGateReferenceIdeal.nD Cert.FfnGateReferenceIdeal.τ).loc Cert.FfnGateReferenceIdeal.main_arg0)
      ∧ r.2.mem ((c.tc : Thread Cert.FfnGateReferenceIdeal.nD Cert.FfnGateReferenceIdeal.τ).loc Cert.FfnGateReferenceIdeal.main_arg1) = m ((c.tc : Thread Cert.FfnGateReferenceIdeal.nD Cert.FfnGateReferenceIdeal.τ).loc Cert.FfnGateReferenceIdeal.main_arg1)
      ∧ r.2.mem ((c.tc : Thread Cert.FfnGateReferenceIdeal.nD Cert.FfnGateReferenceIdeal.τ).loc Cert.FfnGateReferenceIdeal.main_arg2) = m ((c.tc : Thread Cert.FfnGateReferenceIdeal.nD Cert.FfnGateReferenceIdeal.τ).loc Cert.FfnGateReferenceIdeal.main_arg2)
      ∧ r.2.mem ((c.tc : Thread Cert.FfnGateReferenceIdeal.nD Cert.FfnGateReferenceIdeal.τ).loc Cert.FfnGateReferenceIdeal.main_arg3) = m ((c.tc : Thread Cert.FfnGateReferenceIdeal.nD Cert.FfnGateReferenceIdeal.τ).loc Cert.FfnGateReferenceIdeal.main_arg3)
      ∧ r.2.mem ((c.tc : Thread Cert.FfnGateReferenceIdeal.nD Cert.FfnGateReferenceIdeal.τ).loc Cert.FfnGateReferenceIdeal.main_arg4) = m ((c.tc : Thread Cert.FfnGateReferenceIdeal.nD Cert.FfnGateReferenceIdeal.τ).loc Cert.FfnGateReferenceIdeal.main_arg4)
      ∧ r.2.mem ((c.tc : Thread Cert.FfnGateReferenceIdeal.nD Cert.FfnGateReferenceIdeal.τ).loc Cert.FfnGateReferenceIdeal.main_arg5) = m ((c.tc : Thread Cert.FfnGateReferenceIdeal.nD Cert.FfnGateReferenceIdeal.τ).loc Cert.FfnGateReferenceIdeal.main_arg5))
      ∧ r.2.sem = fun _ => 0)

def quiescent_FfnDhKernel [hFfnDhKernel : Cert.FfnDhKernel.Facts] : Prop :=
  ∀ (m : (ℓ : Loc Cert.FfnDhKernel.nD Cert.FfnDhKernel.τ Cert.FfnDhKernel.sig) → Buf (Elt Bits) ℓ) (g : Dev Cert.FfnDhKernel.nD → PrngReg), Pre_FfnDhKernel m →
    θ_run (Cert.FfnDhKernel.defs (F := Bits)) (onTc (τ := Cert.FfnDhKernel.τ) (Cert.FfnDhKernel.main (F := Bits))) ⟨m, fun _ => 0, g⟩ (fun r => (∀ c : Dev Cert.FfnDhKernel.nD,
      r.2.mem ((c.tc : Thread Cert.FfnDhKernel.nD Cert.FfnDhKernel.τ).loc Cert.FfnDhKernel.main_arg0) = m ((c.tc : Thread Cert.FfnDhKernel.nD Cert.FfnDhKernel.τ).loc Cert.FfnDhKernel.main_arg0)
      ∧ r.2.mem ((c.tc : Thread Cert.FfnDhKernel.nD Cert.FfnDhKernel.τ).loc Cert.FfnDhKernel.main_arg1) = m ((c.tc : Thread Cert.FfnDhKernel.nD Cert.FfnDhKernel.τ).loc Cert.FfnDhKernel.main_arg1)
      ∧ r.2.mem ((c.tc : Thread Cert.FfnDhKernel.nD Cert.FfnDhKernel.τ).loc Cert.FfnDhKernel.main_arg2) = m ((c.tc : Thread Cert.FfnDhKernel.nD Cert.FfnDhKernel.τ).loc Cert.FfnDhKernel.main_arg2)
      ∧ r.2.mem ((c.tc : Thread Cert.FfnDhKernel.nD Cert.FfnDhKernel.τ).loc Cert.FfnDhKernel.main_arg3) = m ((c.tc : Thread Cert.FfnDhKernel.nD Cert.FfnDhKernel.τ).loc Cert.FfnDhKernel.main_arg3)
      ∧ r.2.mem ((c.tc : Thread Cert.FfnDhKernel.nD Cert.FfnDhKernel.τ).loc Cert.FfnDhKernel.main_arg4) = m ((c.tc : Thread Cert.FfnDhKernel.nD Cert.FfnDhKernel.τ).loc Cert.FfnDhKernel.main_arg4)
      ∧ r.2.mem ((c.tc : Thread Cert.FfnDhKernel.nD Cert.FfnDhKernel.τ).loc Cert.FfnDhKernel.main_arg5) = m ((c.tc : Thread Cert.FfnDhKernel.nD Cert.FfnDhKernel.τ).loc Cert.FfnDhKernel.main_arg5)
      ∧ r.2.mem ((c.tc : Thread Cert.FfnDhKernel.nD Cert.FfnDhKernel.τ).loc Cert.FfnDhKernel.main_arg6) = m ((c.tc : Thread Cert.FfnDhKernel.nD Cert.FfnDhKernel.τ).loc Cert.FfnDhKernel.main_arg6))
      ∧ r.2.sem = fun _ => 0)

def quiescent_FfnDhKernelIdeal [hFfnDhKernelIdeal : Cert.FfnDhKernelIdeal.Facts] : Prop :=
  ∀ (m : (ℓ : Loc Cert.FfnDhKernelIdeal.nD Cert.FfnDhKernelIdeal.τ Cert.FfnDhKernelIdeal.sig) → Buf (Elt Ideal) ℓ) (g : Dev Cert.FfnDhKernelIdeal.nD → PrngReg), Pre_FfnDhKernelIdeal m →
    θ_run (Cert.FfnDhKernelIdeal.defs (F := Ideal)) (onTc (τ := Cert.FfnDhKernelIdeal.τ) (Cert.FfnDhKernelIdeal.main (F := Ideal))) ⟨m, fun _ => 0, g⟩ (fun r => (∀ c : Dev Cert.FfnDhKernelIdeal.nD,
      r.2.mem ((c.tc : Thread Cert.FfnDhKernelIdeal.nD Cert.FfnDhKernelIdeal.τ).loc Cert.FfnDhKernelIdeal.main_arg0) = m ((c.tc : Thread Cert.FfnDhKernelIdeal.nD Cert.FfnDhKernelIdeal.τ).loc Cert.FfnDhKernelIdeal.main_arg0)
      ∧ r.2.mem ((c.tc : Thread Cert.FfnDhKernelIdeal.nD Cert.FfnDhKernelIdeal.τ).loc Cert.FfnDhKernelIdeal.main_arg1) = m ((c.tc : Thread Cert.FfnDhKernelIdeal.nD Cert.FfnDhKernelIdeal.τ).loc Cert.FfnDhKernelIdeal.main_arg1)
      ∧ r.2.mem ((c.tc : Thread Cert.FfnDhKernelIdeal.nD Cert.FfnDhKernelIdeal.τ).loc Cert.FfnDhKernelIdeal.main_arg2) = m ((c.tc : Thread Cert.FfnDhKernelIdeal.nD Cert.FfnDhKernelIdeal.τ).loc Cert.FfnDhKernelIdeal.main_arg2)
      ∧ r.2.mem ((c.tc : Thread Cert.FfnDhKernelIdeal.nD Cert.FfnDhKernelIdeal.τ).loc Cert.FfnDhKernelIdeal.main_arg3) = m ((c.tc : Thread Cert.FfnDhKernelIdeal.nD Cert.FfnDhKernelIdeal.τ).loc Cert.FfnDhKernelIdeal.main_arg3)
      ∧ r.2.mem ((c.tc : Thread Cert.FfnDhKernelIdeal.nD Cert.FfnDhKernelIdeal.τ).loc Cert.FfnDhKernelIdeal.main_arg4) = m ((c.tc : Thread Cert.FfnDhKernelIdeal.nD Cert.FfnDhKernelIdeal.τ).loc Cert.FfnDhKernelIdeal.main_arg4)
      ∧ r.2.mem ((c.tc : Thread Cert.FfnDhKernelIdeal.nD Cert.FfnDhKernelIdeal.τ).loc Cert.FfnDhKernelIdeal.main_arg5) = m ((c.tc : Thread Cert.FfnDhKernelIdeal.nD Cert.FfnDhKernelIdeal.τ).loc Cert.FfnDhKernelIdeal.main_arg5)
      ∧ r.2.mem ((c.tc : Thread Cert.FfnDhKernelIdeal.nD Cert.FfnDhKernelIdeal.τ).loc Cert.FfnDhKernelIdeal.main_arg6) = m ((c.tc : Thread Cert.FfnDhKernelIdeal.nD Cert.FfnDhKernelIdeal.τ).loc Cert.FfnDhKernelIdeal.main_arg6))
      ∧ r.2.sem = fun _ => 0)

def quiescent_FfnDhKernelIdeal_pre_ffn_dh_finite [hFfnDhKernelIdeal : Cert.FfnDhKernelIdeal.Facts] [hPre_ffn_dh_finite : Cert.Pre_ffn_dh_finite.Facts] : Prop :=
  ∀ (m : (ℓ : Loc Cert.FfnDhKernelIdeal.nD Cert.FfnDhKernelIdeal.τ Cert.FfnDhKernelIdeal.sig) → Buf (Elt Ideal) ℓ) (g : Dev Cert.FfnDhKernelIdeal.nD → PrngReg), Pre_FfnDhKernelIdeal_ffn_dh_finite m →
    θ_run (Cert.FfnDhKernelIdeal.defs (F := Ideal)) (onTc (τ := Cert.FfnDhKernelIdeal.τ) (Cert.FfnDhKernelIdeal.main (F := Ideal))) ⟨m, fun _ => 0, g⟩ (fun r => (∀ c : Dev Cert.FfnDhKernelIdeal.nD,
      r.2.mem ((c.tc : Thread Cert.FfnDhKernelIdeal.nD Cert.FfnDhKernelIdeal.τ).loc Cert.FfnDhKernelIdeal.main_arg0) = m ((c.tc : Thread Cert.FfnDhKernelIdeal.nD Cert.FfnDhKernelIdeal.τ).loc Cert.FfnDhKernelIdeal.main_arg0)
      ∧ r.2.mem ((c.tc : Thread Cert.FfnDhKernelIdeal.nD Cert.FfnDhKernelIdeal.τ).loc Cert.FfnDhKernelIdeal.main_arg1) = m ((c.tc : Thread Cert.FfnDhKernelIdeal.nD Cert.FfnDhKernelIdeal.τ).loc Cert.FfnDhKernelIdeal.main_arg1)
      ∧ r.2.mem ((c.tc : Thread Cert.FfnDhKernelIdeal.nD Cert.FfnDhKernelIdeal.τ).loc Cert.FfnDhKernelIdeal.main_arg2) = m ((c.tc : Thread Cert.FfnDhKernelIdeal.nD Cert.FfnDhKernelIdeal.τ).loc Cert.FfnDhKernelIdeal.main_arg2)
      ∧ r.2.mem ((c.tc : Thread Cert.FfnDhKernelIdeal.nD Cert.FfnDhKernelIdeal.τ).loc Cert.FfnDhKernelIdeal.main_arg3) = m ((c.tc : Thread Cert.FfnDhKernelIdeal.nD Cert.FfnDhKernelIdeal.τ).loc Cert.FfnDhKernelIdeal.main_arg3)
      ∧ r.2.mem ((c.tc : Thread Cert.FfnDhKernelIdeal.nD Cert.FfnDhKernelIdeal.τ).loc Cert.FfnDhKernelIdeal.main_arg4) = m ((c.tc : Thread Cert.FfnDhKernelIdeal.nD Cert.FfnDhKernelIdeal.τ).loc Cert.FfnDhKernelIdeal.main_arg4)
      ∧ r.2.mem ((c.tc : Thread Cert.FfnDhKernelIdeal.nD Cert.FfnDhKernelIdeal.τ).loc Cert.FfnDhKernelIdeal.main_arg5) = m ((c.tc : Thread Cert.FfnDhKernelIdeal.nD Cert.FfnDhKernelIdeal.τ).loc Cert.FfnDhKernelIdeal.main_arg5)
      ∧ r.2.mem ((c.tc : Thread Cert.FfnDhKernelIdeal.nD Cert.FfnDhKernelIdeal.τ).loc Cert.FfnDhKernelIdeal.main_arg6) = m ((c.tc : Thread Cert.FfnDhKernelIdeal.nD Cert.FfnDhKernelIdeal.τ).loc Cert.FfnDhKernelIdeal.main_arg6))
      ∧ r.2.sem = fun _ => 0)

def quiescent_FfnDhReferenceIdeal [hFfnDhReferenceIdeal : Cert.FfnDhReferenceIdeal.Facts] : Prop :=
  ∀ (m : (ℓ : Loc Cert.FfnDhReferenceIdeal.nD Cert.FfnDhReferenceIdeal.τ Cert.FfnDhReferenceIdeal.sig) → Buf (Elt Ideal) ℓ) (g : Dev Cert.FfnDhReferenceIdeal.nD → PrngReg), Pre_FfnDhReferenceIdeal m →
    θ_run (Cert.FfnDhReferenceIdeal.defs (F := Ideal)) (onTc (τ := Cert.FfnDhReferenceIdeal.τ) (Cert.FfnDhReferenceIdeal.main (F := Ideal))) ⟨m, fun _ => 0, g⟩ (fun r => (∀ c : Dev Cert.FfnDhReferenceIdeal.nD,
      r.2.mem ((c.tc : Thread Cert.FfnDhReferenceIdeal.nD Cert.FfnDhReferenceIdeal.τ).loc Cert.FfnDhReferenceIdeal.main_arg0) = m ((c.tc : Thread Cert.FfnDhReferenceIdeal.nD Cert.FfnDhReferenceIdeal.τ).loc Cert.FfnDhReferenceIdeal.main_arg0)
      ∧ r.2.mem ((c.tc : Thread Cert.FfnDhReferenceIdeal.nD Cert.FfnDhReferenceIdeal.τ).loc Cert.FfnDhReferenceIdeal.main_arg1) = m ((c.tc : Thread Cert.FfnDhReferenceIdeal.nD Cert.FfnDhReferenceIdeal.τ).loc Cert.FfnDhReferenceIdeal.main_arg1)
      ∧ r.2.mem ((c.tc : Thread Cert.FfnDhReferenceIdeal.nD Cert.FfnDhReferenceIdeal.τ).loc Cert.FfnDhReferenceIdeal.main_arg2) = m ((c.tc : Thread Cert.FfnDhReferenceIdeal.nD Cert.FfnDhReferenceIdeal.τ).loc Cert.FfnDhReferenceIdeal.main_arg2)
      ∧ r.2.mem ((c.tc : Thread Cert.FfnDhReferenceIdeal.nD Cert.FfnDhReferenceIdeal.τ).loc Cert.FfnDhReferenceIdeal.main_arg3) = m ((c.tc : Thread Cert.FfnDhReferenceIdeal.nD Cert.FfnDhReferenceIdeal.τ).loc Cert.FfnDhReferenceIdeal.main_arg3)
      ∧ r.2.mem ((c.tc : Thread Cert.FfnDhReferenceIdeal.nD Cert.FfnDhReferenceIdeal.τ).loc Cert.FfnDhReferenceIdeal.main_arg4) = m ((c.tc : Thread Cert.FfnDhReferenceIdeal.nD Cert.FfnDhReferenceIdeal.τ).loc Cert.FfnDhReferenceIdeal.main_arg4)
      ∧ r.2.mem ((c.tc : Thread Cert.FfnDhReferenceIdeal.nD Cert.FfnDhReferenceIdeal.τ).loc Cert.FfnDhReferenceIdeal.main_arg5) = m ((c.tc : Thread Cert.FfnDhReferenceIdeal.nD Cert.FfnDhReferenceIdeal.τ).loc Cert.FfnDhReferenceIdeal.main_arg5)
      ∧ r.2.mem ((c.tc : Thread Cert.FfnDhReferenceIdeal.nD Cert.FfnDhReferenceIdeal.τ).loc Cert.FfnDhReferenceIdeal.main_arg6) = m ((c.tc : Thread Cert.FfnDhReferenceIdeal.nD Cert.FfnDhReferenceIdeal.τ).loc Cert.FfnDhReferenceIdeal.main_arg6))
      ∧ r.2.sem = fun _ => 0)

def quiescent_FfnDhReferenceIdeal_pre_ffn_dh_finite [hFfnDhReferenceIdeal : Cert.FfnDhReferenceIdeal.Facts] [hPre_ffn_dh_finite : Cert.Pre_ffn_dh_finite.Facts] : Prop :=
  ∀ (m : (ℓ : Loc Cert.FfnDhReferenceIdeal.nD Cert.FfnDhReferenceIdeal.τ Cert.FfnDhReferenceIdeal.sig) → Buf (Elt Ideal) ℓ) (g : Dev Cert.FfnDhReferenceIdeal.nD → PrngReg), Pre_FfnDhReferenceIdeal_ffn_dh_finite m →
    θ_run (Cert.FfnDhReferenceIdeal.defs (F := Ideal)) (onTc (τ := Cert.FfnDhReferenceIdeal.τ) (Cert.FfnDhReferenceIdeal.main (F := Ideal))) ⟨m, fun _ => 0, g⟩ (fun r => (∀ c : Dev Cert.FfnDhReferenceIdeal.nD,
      r.2.mem ((c.tc : Thread Cert.FfnDhReferenceIdeal.nD Cert.FfnDhReferenceIdeal.τ).loc Cert.FfnDhReferenceIdeal.main_arg0) = m ((c.tc : Thread Cert.FfnDhReferenceIdeal.nD Cert.FfnDhReferenceIdeal.τ).loc Cert.FfnDhReferenceIdeal.main_arg0)
      ∧ r.2.mem ((c.tc : Thread Cert.FfnDhReferenceIdeal.nD Cert.FfnDhReferenceIdeal.τ).loc Cert.FfnDhReferenceIdeal.main_arg1) = m ((c.tc : Thread Cert.FfnDhReferenceIdeal.nD Cert.FfnDhReferenceIdeal.τ).loc Cert.FfnDhReferenceIdeal.main_arg1)
      ∧ r.2.mem ((c.tc : Thread Cert.FfnDhReferenceIdeal.nD Cert.FfnDhReferenceIdeal.τ).loc Cert.FfnDhReferenceIdeal.main_arg2) = m ((c.tc : Thread Cert.FfnDhReferenceIdeal.nD Cert.FfnDhReferenceIdeal.τ).loc Cert.FfnDhReferenceIdeal.main_arg2)
      ∧ r.2.mem ((c.tc : Thread Cert.FfnDhReferenceIdeal.nD Cert.FfnDhReferenceIdeal.τ).loc Cert.FfnDhReferenceIdeal.main_arg3) = m ((c.tc : Thread Cert.FfnDhReferenceIdeal.nD Cert.FfnDhReferenceIdeal.τ).loc Cert.FfnDhReferenceIdeal.main_arg3)
      ∧ r.2.mem ((c.tc : Thread Cert.FfnDhReferenceIdeal.nD Cert.FfnDhReferenceIdeal.τ).loc Cert.FfnDhReferenceIdeal.main_arg4) = m ((c.tc : Thread Cert.FfnDhReferenceIdeal.nD Cert.FfnDhReferenceIdeal.τ).loc Cert.FfnDhReferenceIdeal.main_arg4)
      ∧ r.2.mem ((c.tc : Thread Cert.FfnDhReferenceIdeal.nD Cert.FfnDhReferenceIdeal.τ).loc Cert.FfnDhReferenceIdeal.main_arg5) = m ((c.tc : Thread Cert.FfnDhReferenceIdeal.nD Cert.FfnDhReferenceIdeal.τ).loc Cert.FfnDhReferenceIdeal.main_arg5)
      ∧ r.2.mem ((c.tc : Thread Cert.FfnDhReferenceIdeal.nD Cert.FfnDhReferenceIdeal.τ).loc Cert.FfnDhReferenceIdeal.main_arg6) = m ((c.tc : Thread Cert.FfnDhReferenceIdeal.nD Cert.FfnDhReferenceIdeal.τ).loc Cert.FfnDhReferenceIdeal.main_arg6))
      ∧ r.2.sem = fun _ => 0)

def quiescent_ProjDxKernel [hProjDxKernel : Cert.ProjDxKernel.Facts] : Prop :=
  ∀ (m : (ℓ : Loc Cert.ProjDxKernel.nD Cert.ProjDxKernel.τ Cert.ProjDxKernel.sig) → Buf (Elt Bits) ℓ) (g : Dev Cert.ProjDxKernel.nD → PrngReg), Pre_ProjDxKernel m →
    θ_run (Cert.ProjDxKernel.defs (F := Bits)) (onTc (τ := Cert.ProjDxKernel.τ) (Cert.ProjDxKernel.main (F := Bits))) ⟨m, fun _ => 0, g⟩ (fun r => (∀ c : Dev Cert.ProjDxKernel.nD,
      r.2.mem ((c.tc : Thread Cert.ProjDxKernel.nD Cert.ProjDxKernel.τ).loc Cert.ProjDxKernel.main_arg0) = m ((c.tc : Thread Cert.ProjDxKernel.nD Cert.ProjDxKernel.τ).loc Cert.ProjDxKernel.main_arg0)
      ∧ r.2.mem ((c.tc : Thread Cert.ProjDxKernel.nD Cert.ProjDxKernel.τ).loc Cert.ProjDxKernel.main_arg1) = m ((c.tc : Thread Cert.ProjDxKernel.nD Cert.ProjDxKernel.τ).loc Cert.ProjDxKernel.main_arg1)
      ∧ r.2.mem ((c.tc : Thread Cert.ProjDxKernel.nD Cert.ProjDxKernel.τ).loc Cert.ProjDxKernel.main_arg2) = m ((c.tc : Thread Cert.ProjDxKernel.nD Cert.ProjDxKernel.τ).loc Cert.ProjDxKernel.main_arg2)
      ∧ r.2.mem ((c.tc : Thread Cert.ProjDxKernel.nD Cert.ProjDxKernel.τ).loc Cert.ProjDxKernel.main_arg3) = m ((c.tc : Thread Cert.ProjDxKernel.nD Cert.ProjDxKernel.τ).loc Cert.ProjDxKernel.main_arg3)
      ∧ r.2.mem ((c.tc : Thread Cert.ProjDxKernel.nD Cert.ProjDxKernel.τ).loc Cert.ProjDxKernel.main_arg4) = m ((c.tc : Thread Cert.ProjDxKernel.nD Cert.ProjDxKernel.τ).loc Cert.ProjDxKernel.main_arg4))
      ∧ r.2.sem = fun _ => 0)

def quiescent_ProjDxKernelIdeal [hProjDxKernelIdeal : Cert.ProjDxKernelIdeal.Facts] : Prop :=
  ∀ (m : (ℓ : Loc Cert.ProjDxKernelIdeal.nD Cert.ProjDxKernelIdeal.τ Cert.ProjDxKernelIdeal.sig) → Buf (Elt Ideal) ℓ) (g : Dev Cert.ProjDxKernelIdeal.nD → PrngReg), Pre_ProjDxKernelIdeal m →
    θ_run (Cert.ProjDxKernelIdeal.defs (F := Ideal)) (onTc (τ := Cert.ProjDxKernelIdeal.τ) (Cert.ProjDxKernelIdeal.main (F := Ideal))) ⟨m, fun _ => 0, g⟩ (fun r => (∀ c : Dev Cert.ProjDxKernelIdeal.nD,
      r.2.mem ((c.tc : Thread Cert.ProjDxKernelIdeal.nD Cert.ProjDxKernelIdeal.τ).loc Cert.ProjDxKernelIdeal.main_arg0) = m ((c.tc : Thread Cert.ProjDxKernelIdeal.nD Cert.ProjDxKernelIdeal.τ).loc Cert.ProjDxKernelIdeal.main_arg0)
      ∧ r.2.mem ((c.tc : Thread Cert.ProjDxKernelIdeal.nD Cert.ProjDxKernelIdeal.τ).loc Cert.ProjDxKernelIdeal.main_arg1) = m ((c.tc : Thread Cert.ProjDxKernelIdeal.nD Cert.ProjDxKernelIdeal.τ).loc Cert.ProjDxKernelIdeal.main_arg1)
      ∧ r.2.mem ((c.tc : Thread Cert.ProjDxKernelIdeal.nD Cert.ProjDxKernelIdeal.τ).loc Cert.ProjDxKernelIdeal.main_arg2) = m ((c.tc : Thread Cert.ProjDxKernelIdeal.nD Cert.ProjDxKernelIdeal.τ).loc Cert.ProjDxKernelIdeal.main_arg2)
      ∧ r.2.mem ((c.tc : Thread Cert.ProjDxKernelIdeal.nD Cert.ProjDxKernelIdeal.τ).loc Cert.ProjDxKernelIdeal.main_arg3) = m ((c.tc : Thread Cert.ProjDxKernelIdeal.nD Cert.ProjDxKernelIdeal.τ).loc Cert.ProjDxKernelIdeal.main_arg3)
      ∧ r.2.mem ((c.tc : Thread Cert.ProjDxKernelIdeal.nD Cert.ProjDxKernelIdeal.τ).loc Cert.ProjDxKernelIdeal.main_arg4) = m ((c.tc : Thread Cert.ProjDxKernelIdeal.nD Cert.ProjDxKernelIdeal.τ).loc Cert.ProjDxKernelIdeal.main_arg4))
      ∧ r.2.sem = fun _ => 0)

def quiescent_ProjDxKernelIdeal_pre_proj_dx_finite [hProjDxKernelIdeal : Cert.ProjDxKernelIdeal.Facts] [hPre_proj_dx_finite : Cert.Pre_proj_dx_finite.Facts] : Prop :=
  ∀ (m : (ℓ : Loc Cert.ProjDxKernelIdeal.nD Cert.ProjDxKernelIdeal.τ Cert.ProjDxKernelIdeal.sig) → Buf (Elt Ideal) ℓ) (g : Dev Cert.ProjDxKernelIdeal.nD → PrngReg), Pre_ProjDxKernelIdeal_proj_dx_finite m →
    θ_run (Cert.ProjDxKernelIdeal.defs (F := Ideal)) (onTc (τ := Cert.ProjDxKernelIdeal.τ) (Cert.ProjDxKernelIdeal.main (F := Ideal))) ⟨m, fun _ => 0, g⟩ (fun r => (∀ c : Dev Cert.ProjDxKernelIdeal.nD,
      r.2.mem ((c.tc : Thread Cert.ProjDxKernelIdeal.nD Cert.ProjDxKernelIdeal.τ).loc Cert.ProjDxKernelIdeal.main_arg0) = m ((c.tc : Thread Cert.ProjDxKernelIdeal.nD Cert.ProjDxKernelIdeal.τ).loc Cert.ProjDxKernelIdeal.main_arg0)
      ∧ r.2.mem ((c.tc : Thread Cert.ProjDxKernelIdeal.nD Cert.ProjDxKernelIdeal.τ).loc Cert.ProjDxKernelIdeal.main_arg1) = m ((c.tc : Thread Cert.ProjDxKernelIdeal.nD Cert.ProjDxKernelIdeal.τ).loc Cert.ProjDxKernelIdeal.main_arg1)
      ∧ r.2.mem ((c.tc : Thread Cert.ProjDxKernelIdeal.nD Cert.ProjDxKernelIdeal.τ).loc Cert.ProjDxKernelIdeal.main_arg2) = m ((c.tc : Thread Cert.ProjDxKernelIdeal.nD Cert.ProjDxKernelIdeal.τ).loc Cert.ProjDxKernelIdeal.main_arg2)
      ∧ r.2.mem ((c.tc : Thread Cert.ProjDxKernelIdeal.nD Cert.ProjDxKernelIdeal.τ).loc Cert.ProjDxKernelIdeal.main_arg3) = m ((c.tc : Thread Cert.ProjDxKernelIdeal.nD Cert.ProjDxKernelIdeal.τ).loc Cert.ProjDxKernelIdeal.main_arg3)
      ∧ r.2.mem ((c.tc : Thread Cert.ProjDxKernelIdeal.nD Cert.ProjDxKernelIdeal.τ).loc Cert.ProjDxKernelIdeal.main_arg4) = m ((c.tc : Thread Cert.ProjDxKernelIdeal.nD Cert.ProjDxKernelIdeal.τ).loc Cert.ProjDxKernelIdeal.main_arg4))
      ∧ r.2.sem = fun _ => 0)

def quiescent_ProjDxReferenceIdeal [hProjDxReferenceIdeal : Cert.ProjDxReferenceIdeal.Facts] : Prop :=
  ∀ (m : (ℓ : Loc Cert.ProjDxReferenceIdeal.nD Cert.ProjDxReferenceIdeal.τ Cert.ProjDxReferenceIdeal.sig) → Buf (Elt Ideal) ℓ) (g : Dev Cert.ProjDxReferenceIdeal.nD → PrngReg), Pre_ProjDxReferenceIdeal m →
    θ_run (Cert.ProjDxReferenceIdeal.defs (F := Ideal)) (onTc (τ := Cert.ProjDxReferenceIdeal.τ) (Cert.ProjDxReferenceIdeal.main (F := Ideal))) ⟨m, fun _ => 0, g⟩ (fun r => (∀ c : Dev Cert.ProjDxReferenceIdeal.nD,
      r.2.mem ((c.tc : Thread Cert.ProjDxReferenceIdeal.nD Cert.ProjDxReferenceIdeal.τ).loc Cert.ProjDxReferenceIdeal.main_arg0) = m ((c.tc : Thread Cert.ProjDxReferenceIdeal.nD Cert.ProjDxReferenceIdeal.τ).loc Cert.ProjDxReferenceIdeal.main_arg0)
      ∧ r.2.mem ((c.tc : Thread Cert.ProjDxReferenceIdeal.nD Cert.ProjDxReferenceIdeal.τ).loc Cert.ProjDxReferenceIdeal.main_arg1) = m ((c.tc : Thread Cert.ProjDxReferenceIdeal.nD Cert.ProjDxReferenceIdeal.τ).loc Cert.ProjDxReferenceIdeal.main_arg1)
      ∧ r.2.mem ((c.tc : Thread Cert.ProjDxReferenceIdeal.nD Cert.ProjDxReferenceIdeal.τ).loc Cert.ProjDxReferenceIdeal.main_arg2) = m ((c.tc : Thread Cert.ProjDxReferenceIdeal.nD Cert.ProjDxReferenceIdeal.τ).loc Cert.ProjDxReferenceIdeal.main_arg2)
      ∧ r.2.mem ((c.tc : Thread Cert.ProjDxReferenceIdeal.nD Cert.ProjDxReferenceIdeal.τ).loc Cert.ProjDxReferenceIdeal.main_arg3) = m ((c.tc : Thread Cert.ProjDxReferenceIdeal.nD Cert.ProjDxReferenceIdeal.τ).loc Cert.ProjDxReferenceIdeal.main_arg3)
      ∧ r.2.mem ((c.tc : Thread Cert.ProjDxReferenceIdeal.nD Cert.ProjDxReferenceIdeal.τ).loc Cert.ProjDxReferenceIdeal.main_arg4) = m ((c.tc : Thread Cert.ProjDxReferenceIdeal.nD Cert.ProjDxReferenceIdeal.τ).loc Cert.ProjDxReferenceIdeal.main_arg4))
      ∧ r.2.sem = fun _ => 0)

def quiescent_ProjDxReferenceIdeal_pre_proj_dx_finite [hProjDxReferenceIdeal : Cert.ProjDxReferenceIdeal.Facts] [hPre_proj_dx_finite : Cert.Pre_proj_dx_finite.Facts] : Prop :=
  ∀ (m : (ℓ : Loc Cert.ProjDxReferenceIdeal.nD Cert.ProjDxReferenceIdeal.τ Cert.ProjDxReferenceIdeal.sig) → Buf (Elt Ideal) ℓ) (g : Dev Cert.ProjDxReferenceIdeal.nD → PrngReg), Pre_ProjDxReferenceIdeal_proj_dx_finite m →
    θ_run (Cert.ProjDxReferenceIdeal.defs (F := Ideal)) (onTc (τ := Cert.ProjDxReferenceIdeal.τ) (Cert.ProjDxReferenceIdeal.main (F := Ideal))) ⟨m, fun _ => 0, g⟩ (fun r => (∀ c : Dev Cert.ProjDxReferenceIdeal.nD,
      r.2.mem ((c.tc : Thread Cert.ProjDxReferenceIdeal.nD Cert.ProjDxReferenceIdeal.τ).loc Cert.ProjDxReferenceIdeal.main_arg0) = m ((c.tc : Thread Cert.ProjDxReferenceIdeal.nD Cert.ProjDxReferenceIdeal.τ).loc Cert.ProjDxReferenceIdeal.main_arg0)
      ∧ r.2.mem ((c.tc : Thread Cert.ProjDxReferenceIdeal.nD Cert.ProjDxReferenceIdeal.τ).loc Cert.ProjDxReferenceIdeal.main_arg1) = m ((c.tc : Thread Cert.ProjDxReferenceIdeal.nD Cert.ProjDxReferenceIdeal.τ).loc Cert.ProjDxReferenceIdeal.main_arg1)
      ∧ r.2.mem ((c.tc : Thread Cert.ProjDxReferenceIdeal.nD Cert.ProjDxReferenceIdeal.τ).loc Cert.ProjDxReferenceIdeal.main_arg2) = m ((c.tc : Thread Cert.ProjDxReferenceIdeal.nD Cert.ProjDxReferenceIdeal.τ).loc Cert.ProjDxReferenceIdeal.main_arg2)
      ∧ r.2.mem ((c.tc : Thread Cert.ProjDxReferenceIdeal.nD Cert.ProjDxReferenceIdeal.τ).loc Cert.ProjDxReferenceIdeal.main_arg3) = m ((c.tc : Thread Cert.ProjDxReferenceIdeal.nD Cert.ProjDxReferenceIdeal.τ).loc Cert.ProjDxReferenceIdeal.main_arg3)
      ∧ r.2.mem ((c.tc : Thread Cert.ProjDxReferenceIdeal.nD Cert.ProjDxReferenceIdeal.τ).loc Cert.ProjDxReferenceIdeal.main_arg4) = m ((c.tc : Thread Cert.ProjDxReferenceIdeal.nD Cert.ProjDxReferenceIdeal.τ).loc Cert.ProjDxReferenceIdeal.main_arg4))
      ∧ r.2.sem = fun _ => 0)

def quiescent_StickBwdKernel [hStickBwdKernel : Cert.StickBwdKernel.Facts] : Prop :=
  ∀ (m : (ℓ : Loc Cert.StickBwdKernel.nD Cert.StickBwdKernel.τ Cert.StickBwdKernel.sig) → Buf (Elt Bits) ℓ) (g : Dev Cert.StickBwdKernel.nD → PrngReg), Pre_StickBwdKernel m →
    θ_run (Cert.StickBwdKernel.defs (F := Bits)) (onTc (τ := Cert.StickBwdKernel.τ) (Cert.StickBwdKernel.main (F := Bits))) ⟨m, fun _ => 0, g⟩ (fun r => (∀ c : Dev Cert.StickBwdKernel.nD,
      r.2.mem ((c.tc : Thread Cert.StickBwdKernel.nD Cert.StickBwdKernel.τ).loc Cert.StickBwdKernel.main_arg0) = m ((c.tc : Thread Cert.StickBwdKernel.nD Cert.StickBwdKernel.τ).loc Cert.StickBwdKernel.main_arg0)
      ∧ r.2.mem ((c.tc : Thread Cert.StickBwdKernel.nD Cert.StickBwdKernel.τ).loc Cert.StickBwdKernel.main_arg1) = m ((c.tc : Thread Cert.StickBwdKernel.nD Cert.StickBwdKernel.τ).loc Cert.StickBwdKernel.main_arg1)
      ∧ r.2.mem ((c.tc : Thread Cert.StickBwdKernel.nD Cert.StickBwdKernel.τ).loc Cert.StickBwdKernel.main_arg2) = m ((c.tc : Thread Cert.StickBwdKernel.nD Cert.StickBwdKernel.τ).loc Cert.StickBwdKernel.main_arg2)
      ∧ r.2.mem ((c.tc : Thread Cert.StickBwdKernel.nD Cert.StickBwdKernel.τ).loc Cert.StickBwdKernel.main_arg3) = m ((c.tc : Thread Cert.StickBwdKernel.nD Cert.StickBwdKernel.τ).loc Cert.StickBwdKernel.main_arg3))
      ∧ r.2.sem = fun _ => 0)

def quiescent_StickBwdKernelIdeal [hStickBwdKernelIdeal : Cert.StickBwdKernelIdeal.Facts] : Prop :=
  ∀ (m : (ℓ : Loc Cert.StickBwdKernelIdeal.nD Cert.StickBwdKernelIdeal.τ Cert.StickBwdKernelIdeal.sig) → Buf (Elt Ideal) ℓ) (g : Dev Cert.StickBwdKernelIdeal.nD → PrngReg), Pre_StickBwdKernelIdeal m →
    θ_run (Cert.StickBwdKernelIdeal.defs (F := Ideal)) (onTc (τ := Cert.StickBwdKernelIdeal.τ) (Cert.StickBwdKernelIdeal.main (F := Ideal))) ⟨m, fun _ => 0, g⟩ (fun r => (∀ c : Dev Cert.StickBwdKernelIdeal.nD,
      r.2.mem ((c.tc : Thread Cert.StickBwdKernelIdeal.nD Cert.StickBwdKernelIdeal.τ).loc Cert.StickBwdKernelIdeal.main_arg0) = m ((c.tc : Thread Cert.StickBwdKernelIdeal.nD Cert.StickBwdKernelIdeal.τ).loc Cert.StickBwdKernelIdeal.main_arg0)
      ∧ r.2.mem ((c.tc : Thread Cert.StickBwdKernelIdeal.nD Cert.StickBwdKernelIdeal.τ).loc Cert.StickBwdKernelIdeal.main_arg1) = m ((c.tc : Thread Cert.StickBwdKernelIdeal.nD Cert.StickBwdKernelIdeal.τ).loc Cert.StickBwdKernelIdeal.main_arg1)
      ∧ r.2.mem ((c.tc : Thread Cert.StickBwdKernelIdeal.nD Cert.StickBwdKernelIdeal.τ).loc Cert.StickBwdKernelIdeal.main_arg2) = m ((c.tc : Thread Cert.StickBwdKernelIdeal.nD Cert.StickBwdKernelIdeal.τ).loc Cert.StickBwdKernelIdeal.main_arg2)
      ∧ r.2.mem ((c.tc : Thread Cert.StickBwdKernelIdeal.nD Cert.StickBwdKernelIdeal.τ).loc Cert.StickBwdKernelIdeal.main_arg3) = m ((c.tc : Thread Cert.StickBwdKernelIdeal.nD Cert.StickBwdKernelIdeal.τ).loc Cert.StickBwdKernelIdeal.main_arg3))
      ∧ r.2.sem = fun _ => 0)

def quiescent_StickBwdKernelIdeal_pre_stick_bwd_finite [hStickBwdKernelIdeal : Cert.StickBwdKernelIdeal.Facts] [hPre_stick_bwd_finite : Cert.Pre_stick_bwd_finite.Facts] : Prop :=
  ∀ (m : (ℓ : Loc Cert.StickBwdKernelIdeal.nD Cert.StickBwdKernelIdeal.τ Cert.StickBwdKernelIdeal.sig) → Buf (Elt Ideal) ℓ) (g : Dev Cert.StickBwdKernelIdeal.nD → PrngReg), Pre_StickBwdKernelIdeal_stick_bwd_finite m →
    θ_run (Cert.StickBwdKernelIdeal.defs (F := Ideal)) (onTc (τ := Cert.StickBwdKernelIdeal.τ) (Cert.StickBwdKernelIdeal.main (F := Ideal))) ⟨m, fun _ => 0, g⟩ (fun r => (∀ c : Dev Cert.StickBwdKernelIdeal.nD,
      r.2.mem ((c.tc : Thread Cert.StickBwdKernelIdeal.nD Cert.StickBwdKernelIdeal.τ).loc Cert.StickBwdKernelIdeal.main_arg0) = m ((c.tc : Thread Cert.StickBwdKernelIdeal.nD Cert.StickBwdKernelIdeal.τ).loc Cert.StickBwdKernelIdeal.main_arg0)
      ∧ r.2.mem ((c.tc : Thread Cert.StickBwdKernelIdeal.nD Cert.StickBwdKernelIdeal.τ).loc Cert.StickBwdKernelIdeal.main_arg1) = m ((c.tc : Thread Cert.StickBwdKernelIdeal.nD Cert.StickBwdKernelIdeal.τ).loc Cert.StickBwdKernelIdeal.main_arg1)
      ∧ r.2.mem ((c.tc : Thread Cert.StickBwdKernelIdeal.nD Cert.StickBwdKernelIdeal.τ).loc Cert.StickBwdKernelIdeal.main_arg2) = m ((c.tc : Thread Cert.StickBwdKernelIdeal.nD Cert.StickBwdKernelIdeal.τ).loc Cert.StickBwdKernelIdeal.main_arg2)
      ∧ r.2.mem ((c.tc : Thread Cert.StickBwdKernelIdeal.nD Cert.StickBwdKernelIdeal.τ).loc Cert.StickBwdKernelIdeal.main_arg3) = m ((c.tc : Thread Cert.StickBwdKernelIdeal.nD Cert.StickBwdKernelIdeal.τ).loc Cert.StickBwdKernelIdeal.main_arg3))
      ∧ r.2.sem = fun _ => 0)

def quiescent_StickBwdReferenceIdeal [hStickBwdReferenceIdeal : Cert.StickBwdReferenceIdeal.Facts] : Prop :=
  ∀ (m : (ℓ : Loc Cert.StickBwdReferenceIdeal.nD Cert.StickBwdReferenceIdeal.τ Cert.StickBwdReferenceIdeal.sig) → Buf (Elt Ideal) ℓ) (g : Dev Cert.StickBwdReferenceIdeal.nD → PrngReg), Pre_StickBwdReferenceIdeal m →
    θ_run (Cert.StickBwdReferenceIdeal.defs (F := Ideal)) (onTc (τ := Cert.StickBwdReferenceIdeal.τ) (Cert.StickBwdReferenceIdeal.main (F := Ideal))) ⟨m, fun _ => 0, g⟩ (fun r => (∀ c : Dev Cert.StickBwdReferenceIdeal.nD,
      r.2.mem ((c.tc : Thread Cert.StickBwdReferenceIdeal.nD Cert.StickBwdReferenceIdeal.τ).loc Cert.StickBwdReferenceIdeal.main_arg0) = m ((c.tc : Thread Cert.StickBwdReferenceIdeal.nD Cert.StickBwdReferenceIdeal.τ).loc Cert.StickBwdReferenceIdeal.main_arg0)
      ∧ r.2.mem ((c.tc : Thread Cert.StickBwdReferenceIdeal.nD Cert.StickBwdReferenceIdeal.τ).loc Cert.StickBwdReferenceIdeal.main_arg1) = m ((c.tc : Thread Cert.StickBwdReferenceIdeal.nD Cert.StickBwdReferenceIdeal.τ).loc Cert.StickBwdReferenceIdeal.main_arg1)
      ∧ r.2.mem ((c.tc : Thread Cert.StickBwdReferenceIdeal.nD Cert.StickBwdReferenceIdeal.τ).loc Cert.StickBwdReferenceIdeal.main_arg2) = m ((c.tc : Thread Cert.StickBwdReferenceIdeal.nD Cert.StickBwdReferenceIdeal.τ).loc Cert.StickBwdReferenceIdeal.main_arg2)
      ∧ r.2.mem ((c.tc : Thread Cert.StickBwdReferenceIdeal.nD Cert.StickBwdReferenceIdeal.τ).loc Cert.StickBwdReferenceIdeal.main_arg3) = m ((c.tc : Thread Cert.StickBwdReferenceIdeal.nD Cert.StickBwdReferenceIdeal.τ).loc Cert.StickBwdReferenceIdeal.main_arg3))
      ∧ r.2.sem = fun _ => 0)

def quiescent_StickBwdReferenceIdeal_pre_stick_bwd_finite [hStickBwdReferenceIdeal : Cert.StickBwdReferenceIdeal.Facts] [hPre_stick_bwd_finite : Cert.Pre_stick_bwd_finite.Facts] : Prop :=
  ∀ (m : (ℓ : Loc Cert.StickBwdReferenceIdeal.nD Cert.StickBwdReferenceIdeal.τ Cert.StickBwdReferenceIdeal.sig) → Buf (Elt Ideal) ℓ) (g : Dev Cert.StickBwdReferenceIdeal.nD → PrngReg), Pre_StickBwdReferenceIdeal_stick_bwd_finite m →
    θ_run (Cert.StickBwdReferenceIdeal.defs (F := Ideal)) (onTc (τ := Cert.StickBwdReferenceIdeal.τ) (Cert.StickBwdReferenceIdeal.main (F := Ideal))) ⟨m, fun _ => 0, g⟩ (fun r => (∀ c : Dev Cert.StickBwdReferenceIdeal.nD,
      r.2.mem ((c.tc : Thread Cert.StickBwdReferenceIdeal.nD Cert.StickBwdReferenceIdeal.τ).loc Cert.StickBwdReferenceIdeal.main_arg0) = m ((c.tc : Thread Cert.StickBwdReferenceIdeal.nD Cert.StickBwdReferenceIdeal.τ).loc Cert.StickBwdReferenceIdeal.main_arg0)
      ∧ r.2.mem ((c.tc : Thread Cert.StickBwdReferenceIdeal.nD Cert.StickBwdReferenceIdeal.τ).loc Cert.StickBwdReferenceIdeal.main_arg1) = m ((c.tc : Thread Cert.StickBwdReferenceIdeal.nD Cert.StickBwdReferenceIdeal.τ).loc Cert.StickBwdReferenceIdeal.main_arg1)
      ∧ r.2.mem ((c.tc : Thread Cert.StickBwdReferenceIdeal.nD Cert.StickBwdReferenceIdeal.τ).loc Cert.StickBwdReferenceIdeal.main_arg2) = m ((c.tc : Thread Cert.StickBwdReferenceIdeal.nD Cert.StickBwdReferenceIdeal.τ).loc Cert.StickBwdReferenceIdeal.main_arg2)
      ∧ r.2.mem ((c.tc : Thread Cert.StickBwdReferenceIdeal.nD Cert.StickBwdReferenceIdeal.τ).loc Cert.StickBwdReferenceIdeal.main_arg3) = m ((c.tc : Thread Cert.StickBwdReferenceIdeal.nD Cert.StickBwdReferenceIdeal.τ).loc Cert.StickBwdReferenceIdeal.main_arg3))
      ∧ r.2.sem = fun _ => 0)

def quiescent_NormFwdKernel [hNormFwdKernel : Cert.NormFwdKernel.Facts] : Prop :=
  ∀ (m : (ℓ : Loc Cert.NormFwdKernel.nD Cert.NormFwdKernel.τ Cert.NormFwdKernel.sig) → Buf (Elt Bits) ℓ) (g : Dev Cert.NormFwdKernel.nD → PrngReg), Pre_NormFwdKernel m →
    θ_run (Cert.NormFwdKernel.defs (F := Bits)) (onTc (τ := Cert.NormFwdKernel.τ) (Cert.NormFwdKernel.main (F := Bits))) ⟨m, fun _ => 0, g⟩ (fun r => (∀ c : Dev Cert.NormFwdKernel.nD,
      r.2.mem ((c.tc : Thread Cert.NormFwdKernel.nD Cert.NormFwdKernel.τ).loc Cert.NormFwdKernel.main_arg0) = m ((c.tc : Thread Cert.NormFwdKernel.nD Cert.NormFwdKernel.τ).loc Cert.NormFwdKernel.main_arg0)
      ∧ r.2.mem ((c.tc : Thread Cert.NormFwdKernel.nD Cert.NormFwdKernel.τ).loc Cert.NormFwdKernel.main_arg1) = m ((c.tc : Thread Cert.NormFwdKernel.nD Cert.NormFwdKernel.τ).loc Cert.NormFwdKernel.main_arg1))
      ∧ r.2.sem = fun _ => 0)

def quiescent_NormFwdKernelIdeal [hNormFwdKernelIdeal : Cert.NormFwdKernelIdeal.Facts] : Prop :=
  ∀ (m : (ℓ : Loc Cert.NormFwdKernelIdeal.nD Cert.NormFwdKernelIdeal.τ Cert.NormFwdKernelIdeal.sig) → Buf (Elt Ideal) ℓ) (g : Dev Cert.NormFwdKernelIdeal.nD → PrngReg), Pre_NormFwdKernelIdeal m →
    θ_run (Cert.NormFwdKernelIdeal.defs (F := Ideal)) (onTc (τ := Cert.NormFwdKernelIdeal.τ) (Cert.NormFwdKernelIdeal.main (F := Ideal))) ⟨m, fun _ => 0, g⟩ (fun r => (∀ c : Dev Cert.NormFwdKernelIdeal.nD,
      r.2.mem ((c.tc : Thread Cert.NormFwdKernelIdeal.nD Cert.NormFwdKernelIdeal.τ).loc Cert.NormFwdKernelIdeal.main_arg0) = m ((c.tc : Thread Cert.NormFwdKernelIdeal.nD Cert.NormFwdKernelIdeal.τ).loc Cert.NormFwdKernelIdeal.main_arg0)
      ∧ r.2.mem ((c.tc : Thread Cert.NormFwdKernelIdeal.nD Cert.NormFwdKernelIdeal.τ).loc Cert.NormFwdKernelIdeal.main_arg1) = m ((c.tc : Thread Cert.NormFwdKernelIdeal.nD Cert.NormFwdKernelIdeal.τ).loc Cert.NormFwdKernelIdeal.main_arg1))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1))
      ∧ r.2.sem = fun _ => 0)

def quiescent_GateFwdKernel [hGateFwdKernel : Cert.GateFwdKernel.Facts] : Prop :=
  ∀ (m : (ℓ : Loc Cert.GateFwdKernel.nD Cert.GateFwdKernel.τ Cert.GateFwdKernel.sig) → Buf (Elt Bits) ℓ) (g : Dev Cert.GateFwdKernel.nD → PrngReg), Pre_GateFwdKernel m →
    θ_run (Cert.GateFwdKernel.defs (F := Bits)) (onTc (τ := Cert.GateFwdKernel.τ) (Cert.GateFwdKernel.main (F := Bits))) ⟨m, fun _ => 0, g⟩ (fun r => (∀ c : Dev Cert.GateFwdKernel.nD,
      r.2.mem ((c.tc : Thread Cert.GateFwdKernel.nD Cert.GateFwdKernel.τ).loc Cert.GateFwdKernel.main_arg0) = m ((c.tc : Thread Cert.GateFwdKernel.nD Cert.GateFwdKernel.τ).loc Cert.GateFwdKernel.main_arg0)
      ∧ r.2.mem ((c.tc : Thread Cert.GateFwdKernel.nD Cert.GateFwdKernel.τ).loc Cert.GateFwdKernel.main_arg1) = m ((c.tc : Thread Cert.GateFwdKernel.nD Cert.GateFwdKernel.τ).loc Cert.GateFwdKernel.main_arg1)
      ∧ r.2.mem ((c.tc : Thread Cert.GateFwdKernel.nD Cert.GateFwdKernel.τ).loc Cert.GateFwdKernel.main_arg2) = m ((c.tc : Thread Cert.GateFwdKernel.nD Cert.GateFwdKernel.τ).loc Cert.GateFwdKernel.main_arg2)
      ∧ r.2.mem ((c.tc : Thread Cert.GateFwdKernel.nD Cert.GateFwdKernel.τ).loc Cert.GateFwdKernel.main_arg3) = m ((c.tc : Thread Cert.GateFwdKernel.nD Cert.GateFwdKernel.τ).loc Cert.GateFwdKernel.main_arg3))
      ∧ r.2.sem = fun _ => 0)

def quiescent_GateFwdKernelIdeal [hGateFwdKernelIdeal : Cert.GateFwdKernelIdeal.Facts] : Prop :=
  ∀ (m : (ℓ : Loc Cert.GateFwdKernelIdeal.nD Cert.GateFwdKernelIdeal.τ Cert.GateFwdKernelIdeal.sig) → Buf (Elt Ideal) ℓ) (g : Dev Cert.GateFwdKernelIdeal.nD → PrngReg), Pre_GateFwdKernelIdeal m →
    θ_run (Cert.GateFwdKernelIdeal.defs (F := Ideal)) (onTc (τ := Cert.GateFwdKernelIdeal.τ) (Cert.GateFwdKernelIdeal.main (F := Ideal))) ⟨m, fun _ => 0, g⟩ (fun r => (∀ c : Dev Cert.GateFwdKernelIdeal.nD,
      r.2.mem ((c.tc : Thread Cert.GateFwdKernelIdeal.nD Cert.GateFwdKernelIdeal.τ).loc Cert.GateFwdKernelIdeal.main_arg0) = m ((c.tc : Thread Cert.GateFwdKernelIdeal.nD Cert.GateFwdKernelIdeal.τ).loc Cert.GateFwdKernelIdeal.main_arg0)
      ∧ r.2.mem ((c.tc : Thread Cert.GateFwdKernelIdeal.nD Cert.GateFwdKernelIdeal.τ).loc Cert.GateFwdKernelIdeal.main_arg1) = m ((c.tc : Thread Cert.GateFwdKernelIdeal.nD Cert.GateFwdKernelIdeal.τ).loc Cert.GateFwdKernelIdeal.main_arg1)
      ∧ r.2.mem ((c.tc : Thread Cert.GateFwdKernelIdeal.nD Cert.GateFwdKernelIdeal.τ).loc Cert.GateFwdKernelIdeal.main_arg2) = m ((c.tc : Thread Cert.GateFwdKernelIdeal.nD Cert.GateFwdKernelIdeal.τ).loc Cert.GateFwdKernelIdeal.main_arg2)
      ∧ r.2.mem ((c.tc : Thread Cert.GateFwdKernelIdeal.nD Cert.GateFwdKernelIdeal.τ).loc Cert.GateFwdKernelIdeal.main_arg3) = m ((c.tc : Thread Cert.GateFwdKernelIdeal.nD Cert.GateFwdKernelIdeal.τ).loc Cert.GateFwdKernelIdeal.main_arg3))
      ∧ r.2.sem = fun _ => 0)

def quiescent_GateFwdKernelIdeal_pre_gate_fwd_finite [hGateFwdKernelIdeal : Cert.GateFwdKernelIdeal.Facts] [hPre_gate_fwd_finite : Cert.Pre_gate_fwd_finite.Facts] : Prop :=
  ∀ (m : (ℓ : Loc Cert.GateFwdKernelIdeal.nD Cert.GateFwdKernelIdeal.τ Cert.GateFwdKernelIdeal.sig) → Buf (Elt Ideal) ℓ) (g : Dev Cert.GateFwdKernelIdeal.nD → PrngReg), Pre_GateFwdKernelIdeal_gate_fwd_finite m →
    θ_run (Cert.GateFwdKernelIdeal.defs (F := Ideal)) (onTc (τ := Cert.GateFwdKernelIdeal.τ) (Cert.GateFwdKernelIdeal.main (F := Ideal))) ⟨m, fun _ => 0, g⟩ (fun r => (∀ c : Dev Cert.GateFwdKernelIdeal.nD,
      r.2.mem ((c.tc : Thread Cert.GateFwdKernelIdeal.nD Cert.GateFwdKernelIdeal.τ).loc Cert.GateFwdKernelIdeal.main_arg0) = m ((c.tc : Thread Cert.GateFwdKernelIdeal.nD Cert.GateFwdKernelIdeal.τ).loc Cert.GateFwdKernelIdeal.main_arg0)
      ∧ r.2.mem ((c.tc : Thread Cert.GateFwdKernelIdeal.nD Cert.GateFwdKernelIdeal.τ).loc Cert.GateFwdKernelIdeal.main_arg1) = m ((c.tc : Thread Cert.GateFwdKernelIdeal.nD Cert.GateFwdKernelIdeal.τ).loc Cert.GateFwdKernelIdeal.main_arg1)
      ∧ r.2.mem ((c.tc : Thread Cert.GateFwdKernelIdeal.nD Cert.GateFwdKernelIdeal.τ).loc Cert.GateFwdKernelIdeal.main_arg2) = m ((c.tc : Thread Cert.GateFwdKernelIdeal.nD Cert.GateFwdKernelIdeal.τ).loc Cert.GateFwdKernelIdeal.main_arg2)
      ∧ r.2.mem ((c.tc : Thread Cert.GateFwdKernelIdeal.nD Cert.GateFwdKernelIdeal.τ).loc Cert.GateFwdKernelIdeal.main_arg3) = m ((c.tc : Thread Cert.GateFwdKernelIdeal.nD Cert.GateFwdKernelIdeal.τ).loc Cert.GateFwdKernelIdeal.main_arg3))
      ∧ r.2.sem = fun _ => 0)

def quiescent_GateFwdReferenceIdeal [hGateFwdReferenceIdeal : Cert.GateFwdReferenceIdeal.Facts] : Prop :=
  ∀ (m : (ℓ : Loc Cert.GateFwdReferenceIdeal.nD Cert.GateFwdReferenceIdeal.τ Cert.GateFwdReferenceIdeal.sig) → Buf (Elt Ideal) ℓ) (g : Dev Cert.GateFwdReferenceIdeal.nD → PrngReg), Pre_GateFwdReferenceIdeal m →
    θ_run (Cert.GateFwdReferenceIdeal.defs (F := Ideal)) (onTc (τ := Cert.GateFwdReferenceIdeal.τ) (Cert.GateFwdReferenceIdeal.main (F := Ideal))) ⟨m, fun _ => 0, g⟩ (fun r => (∀ c : Dev Cert.GateFwdReferenceIdeal.nD,
      r.2.mem ((c.tc : Thread Cert.GateFwdReferenceIdeal.nD Cert.GateFwdReferenceIdeal.τ).loc Cert.GateFwdReferenceIdeal.main_arg0) = m ((c.tc : Thread Cert.GateFwdReferenceIdeal.nD Cert.GateFwdReferenceIdeal.τ).loc Cert.GateFwdReferenceIdeal.main_arg0)
      ∧ r.2.mem ((c.tc : Thread Cert.GateFwdReferenceIdeal.nD Cert.GateFwdReferenceIdeal.τ).loc Cert.GateFwdReferenceIdeal.main_arg1) = m ((c.tc : Thread Cert.GateFwdReferenceIdeal.nD Cert.GateFwdReferenceIdeal.τ).loc Cert.GateFwdReferenceIdeal.main_arg1)
      ∧ r.2.mem ((c.tc : Thread Cert.GateFwdReferenceIdeal.nD Cert.GateFwdReferenceIdeal.τ).loc Cert.GateFwdReferenceIdeal.main_arg2) = m ((c.tc : Thread Cert.GateFwdReferenceIdeal.nD Cert.GateFwdReferenceIdeal.τ).loc Cert.GateFwdReferenceIdeal.main_arg2)
      ∧ r.2.mem ((c.tc : Thread Cert.GateFwdReferenceIdeal.nD Cert.GateFwdReferenceIdeal.τ).loc Cert.GateFwdReferenceIdeal.main_arg3) = m ((c.tc : Thread Cert.GateFwdReferenceIdeal.nD Cert.GateFwdReferenceIdeal.τ).loc Cert.GateFwdReferenceIdeal.main_arg3))
      ∧ r.2.sem = fun _ => 0)

def quiescent_GateFwdReferenceIdeal_pre_gate_fwd_finite [hGateFwdReferenceIdeal : Cert.GateFwdReferenceIdeal.Facts] [hPre_gate_fwd_finite : Cert.Pre_gate_fwd_finite.Facts] : Prop :=
  ∀ (m : (ℓ : Loc Cert.GateFwdReferenceIdeal.nD Cert.GateFwdReferenceIdeal.τ Cert.GateFwdReferenceIdeal.sig) → Buf (Elt Ideal) ℓ) (g : Dev Cert.GateFwdReferenceIdeal.nD → PrngReg), Pre_GateFwdReferenceIdeal_gate_fwd_finite m →
    θ_run (Cert.GateFwdReferenceIdeal.defs (F := Ideal)) (onTc (τ := Cert.GateFwdReferenceIdeal.τ) (Cert.GateFwdReferenceIdeal.main (F := Ideal))) ⟨m, fun _ => 0, g⟩ (fun r => (∀ c : Dev Cert.GateFwdReferenceIdeal.nD,
      r.2.mem ((c.tc : Thread Cert.GateFwdReferenceIdeal.nD Cert.GateFwdReferenceIdeal.τ).loc Cert.GateFwdReferenceIdeal.main_arg0) = m ((c.tc : Thread Cert.GateFwdReferenceIdeal.nD Cert.GateFwdReferenceIdeal.τ).loc Cert.GateFwdReferenceIdeal.main_arg0)
      ∧ r.2.mem ((c.tc : Thread Cert.GateFwdReferenceIdeal.nD Cert.GateFwdReferenceIdeal.τ).loc Cert.GateFwdReferenceIdeal.main_arg1) = m ((c.tc : Thread Cert.GateFwdReferenceIdeal.nD Cert.GateFwdReferenceIdeal.τ).loc Cert.GateFwdReferenceIdeal.main_arg1)
      ∧ r.2.mem ((c.tc : Thread Cert.GateFwdReferenceIdeal.nD Cert.GateFwdReferenceIdeal.τ).loc Cert.GateFwdReferenceIdeal.main_arg2) = m ((c.tc : Thread Cert.GateFwdReferenceIdeal.nD Cert.GateFwdReferenceIdeal.τ).loc Cert.GateFwdReferenceIdeal.main_arg2)
      ∧ r.2.mem ((c.tc : Thread Cert.GateFwdReferenceIdeal.nD Cert.GateFwdReferenceIdeal.τ).loc Cert.GateFwdReferenceIdeal.main_arg3) = m ((c.tc : Thread Cert.GateFwdReferenceIdeal.nD Cert.GateFwdReferenceIdeal.τ).loc Cert.GateFwdReferenceIdeal.main_arg3))
      ∧ r.2.sem = fun _ => 0)

def quiescent_PoolFwdKernel [hPoolFwdKernel : Cert.PoolFwdKernel.Facts] : Prop :=
  ∀ (m : (ℓ : Loc Cert.PoolFwdKernel.nD Cert.PoolFwdKernel.τ Cert.PoolFwdKernel.sig) → Buf (Elt Bits) ℓ) (g : Dev Cert.PoolFwdKernel.nD → PrngReg), Pre_PoolFwdKernel m →
    θ_run (Cert.PoolFwdKernel.defs (F := Bits)) (onTc (τ := Cert.PoolFwdKernel.τ) (Cert.PoolFwdKernel.main (F := Bits))) ⟨m, fun _ => 0, g⟩ (fun r => (∀ c : Dev Cert.PoolFwdKernel.nD,
      r.2.mem ((c.tc : Thread Cert.PoolFwdKernel.nD Cert.PoolFwdKernel.τ).loc Cert.PoolFwdKernel.main_arg0) = m ((c.tc : Thread Cert.PoolFwdKernel.nD Cert.PoolFwdKernel.τ).loc Cert.PoolFwdKernel.main_arg0)
      ∧ r.2.mem ((c.tc : Thread Cert.PoolFwdKernel.nD Cert.PoolFwdKernel.τ).loc Cert.PoolFwdKernel.main_arg1) = m ((c.tc : Thread Cert.PoolFwdKernel.nD Cert.PoolFwdKernel.τ).loc Cert.PoolFwdKernel.main_arg1)
      ∧ r.2.mem ((c.tc : Thread Cert.PoolFwdKernel.nD Cert.PoolFwdKernel.τ).loc Cert.PoolFwdKernel.main_arg2) = m ((c.tc : Thread Cert.PoolFwdKernel.nD Cert.PoolFwdKernel.τ).loc Cert.PoolFwdKernel.main_arg2)
      ∧ r.2.mem ((c.tc : Thread Cert.PoolFwdKernel.nD Cert.PoolFwdKernel.τ).loc Cert.PoolFwdKernel.main_arg3) = m ((c.tc : Thread Cert.PoolFwdKernel.nD Cert.PoolFwdKernel.τ).loc Cert.PoolFwdKernel.main_arg3)
      ∧ r.2.mem ((c.tc : Thread Cert.PoolFwdKernel.nD Cert.PoolFwdKernel.τ).loc Cert.PoolFwdKernel.main_arg4) = m ((c.tc : Thread Cert.PoolFwdKernel.nD Cert.PoolFwdKernel.τ).loc Cert.PoolFwdKernel.main_arg4))
      ∧ r.2.sem = fun _ => 0)

def quiescent_PoolFwdKernelIdeal [hPoolFwdKernelIdeal : Cert.PoolFwdKernelIdeal.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg), Pre_PoolFwdKernelIdeal m →
    θ_run (Cert.PoolFwdKernelIdeal.defs (F := Ideal)) (onTc (τ := Cert.PoolFwdKernelIdeal.τ) (Cert.PoolFwdKernelIdeal.main (F := Ideal))) ⟨m, fun _ => 0, g⟩ (fun r => (∀ c : Dev Cert.PoolFwdKernelIdeal.nD,
      r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
      ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
      ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2)
      ∧ r.2.mem ((c.tc : Thread Cert.PoolFwdKernelIdeal.nD Cert.PoolFwdKernelIdeal.τ).loc Cert.PoolFwdKernelIdeal.main_arg3) = m ((c.tc : Thread Cert.PoolFwdKernelIdeal.nD Cert.PoolFwdKernelIdeal.τ).loc Cert.PoolFwdKernelIdeal.main_arg3)
      ∧ r.2.mem ((c.tc : Thread Cert.PoolFwdKernelIdeal.nD Cert.PoolFwdKernelIdeal.τ).loc Cert.PoolFwdKernelIdeal.main_arg4) = m ((c.tc : Thread Cert.PoolFwdKernelIdeal.nD Cert.PoolFwdKernelIdeal.τ).loc Cert.PoolFwdKernelIdeal.main_arg4))
      ∧ r.2.sem = fun _ => 0)

def quiescent_PoolFwdKernelIdeal_pre_pool_fwd_finite [hPoolFwdKernelIdeal : Cert.PoolFwdKernelIdeal.Facts] [hPre_pool_fwd_finite : Cert.Pre_pool_fwd_finite.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg), Pre_PoolFwdKernelIdeal_pool_fwd_finite m →
    θ_run (Cert.PoolFwdKernelIdeal.defs (F := Ideal)) (onTc (τ := Cert.PoolFwdKernelIdeal.τ) (Cert.PoolFwdKernelIdeal.main (F := Ideal))) ⟨m, fun _ => 0, g⟩ (fun r => (∀ c : Dev Cert.PoolFwdKernelIdeal.nD,
      r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
      ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
      ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2)
      ∧ r.2.mem ((c.tc : Thread Cert.PoolFwdKernelIdeal.nD Cert.PoolFwdKernelIdeal.τ).loc Cert.PoolFwdKernelIdeal.main_arg3) = m ((c.tc : Thread Cert.PoolFwdKernelIdeal.nD Cert.PoolFwdKernelIdeal.τ).loc Cert.PoolFwdKernelIdeal.main_arg3)
      ∧ r.2.mem ((c.tc : Thread Cert.PoolFwdKernelIdeal.nD Cert.PoolFwdKernelIdeal.τ).loc Cert.PoolFwdKernelIdeal.main_arg4) = m ((c.tc : Thread Cert.PoolFwdKernelIdeal.nD Cert.PoolFwdKernelIdeal.τ).loc Cert.PoolFwdKernelIdeal.main_arg4))
      ∧ r.2.sem = fun _ => 0)

def quiescent_PoolFwdReferenceIdeal [hPoolFwdReferenceIdeal : Cert.PoolFwdReferenceIdeal.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2)
      ∧ r.2.mem ((c.tc : Thread Cert.PoolFwdReferenceIdeal.nD Cert.PoolFwdReferenceIdeal.τ).loc Cert.PoolFwdReferenceIdeal.main_arg3) = m ((c.tc : Thread Cert.PoolFwdReferenceIdeal.nD Cert.PoolFwdReferenceIdeal.τ).loc Cert.PoolFwdReferenceIdeal.main_arg3)
      ∧ r.2.mem ((c.tc : Thread Cert.PoolFwdReferenceIdeal.nD Cert.PoolFwdReferenceIdeal.τ).loc Cert.PoolFwdReferenceIdeal.main_arg4) = m ((c.tc : Thread Cert.PoolFwdReferenceIdeal.nD Cert.PoolFwdReferenceIdeal.τ).loc Cert.PoolFwdReferenceIdeal.main_arg4))
      ∧ r.2.sem = fun _ => 0)

def quiescent_PoolFwdReferenceIdeal_pre_pool_fwd_finite [hPoolFwdReferenceIdeal : Cert.PoolFwdReferenceIdeal.Facts] [hPre_pool_fwd_finite : Cert.Pre_pool_fwd_finite.Facts] : Prop :=
  ∀ (m : (ℓ : Loc Cert.PoolFwdReferenceIdeal.nD Cert.PoolFwdReferenceIdeal.τ Cert.PoolFwdReferenceIdeal.sig) → Buf (Elt Ideal) ℓ) (g : Dev Cert.PoolFwdReferenceIdeal.nD → PrngReg), Pre_PoolFwdReferenceIdeal_pool_fwd_finite m →
    θ_run (Cert.PoolFwdReferenceIdeal.defs (F := Ideal)) (onTc (τ := Cert.PoolFwdReferenceIdeal.τ) (Cert.PoolFwdReferenceIdeal.main (F := Ideal))) ⟨m, fun _ => 0, g⟩ (fun r => (∀ c : Dev Cert.PoolFwdReferenceIdeal.nD,
      r.2.mem ((c.tc : Thread Cert.PoolFwdReferenceIdeal.nD Cert.PoolFwdReferenceIdeal.τ).loc Cert.PoolFwdReferenceIdeal.main_arg0) = m ((c.tc : Thread Cert.PoolFwdReferenceIdeal.nD Cert.PoolFwdReferenceIdeal.τ).loc Cert.PoolFwdReferenceIdeal.main_arg0)
      ∧ r.2.mem ((c.tc : Thread Cert.PoolFwdReferenceIdeal.nD Cert.PoolFwdReferenceIdeal.τ).loc Cert.PoolFwdReferenceIdeal.main_arg1) = m ((c.tc : Thread Cert.PoolFwdReferenceIdeal.nD Cert.PoolFwdReferenceIdeal.τ).loc Cert.PoolFwdReferenceIdeal.main_arg1)
      ∧ r.2.mem ((c.tc : Thread Cert.PoolFwdReferenceIdeal.nD Cert.PoolFwdReferenceIdeal.τ).loc Cert.PoolFwdReferenceIdeal.main_arg2) = m ((c.tc : Thread Cert.PoolFwdReferenceIdeal.nD Cert.PoolFwdReferenceIdeal.τ).loc Cert.PoolFwdReferenceIdeal.main_arg2)
      ∧ r.2.mem ((c.tc : Thread Cert.PoolFwdReferenceIdeal.nD Cert.PoolFwdReferenceIdeal.τ).loc Cert.PoolFwdReferenceIdeal.main_arg3) = m ((c.tc : Thread Cert.PoolFwdReferenceIdeal.nD Cert.PoolFwdReferenceIdeal.τ).loc Cert.PoolFwdReferenceIdeal.main_arg3)
      ∧ r.2.mem ((c.tc : Thread Cert.PoolFwdReferenceIdeal.nD Cert.PoolFwdReferenceIdeal.τ).loc Cert.PoolFwdReferenceIdeal.main_arg4) = m ((c.tc : Thread Cert.PoolFwdReferenceIdeal.nD Cert.PoolFwdReferenceIdeal.τ).loc Cert.PoolFwdReferenceIdeal.main_arg4))
      ∧ r.2.sem = fun _ => 0)

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v1_0)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v1_2)) (v3 : (c : Dev Cert.LossKernelIdeal.nD) → Buf (Elt Ideal) ((c.tc : Thread Cert.LossKernelIdeal.nD Cert.LossKernelIdeal.τ).loc Cert.LossKernelIdeal.main_v1_3)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v1_0) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v1_2) = v2 c
          ∧ r.2.mem ((c.tc : Thread Cert.LossKernelIdeal.nD Cert.LossKernelIdeal.τ).loc Cert.LossKernelIdeal.main_v1_3) = v3 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v51) = v0 c
          ∧ r.2.mem ((c.tc : Thread Cert.LossReferenceIdeal.nD Cert.LossReferenceIdeal.τ).loc Cert.LossReferenceIdeal.main_v50) = v1 c
          ∧ r.2.mem ((c.tc : Thread Cert.LossReferenceIdeal.nD Cert.LossReferenceIdeal.τ).loc Cert.LossReferenceIdeal.main_v52) = v2 c
          ∧ r.2.mem ((c.tc : Thread Cert.LossReferenceIdeal.nD Cert.LossReferenceIdeal.τ).loc Cert.LossReferenceIdeal.main_v53) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_PoolMixKernel_PoolMixKernelIdeal : Prop :=
  True

def algebraic_PoolMixKernelIdeal_PoolMixReferenceIdeal [hPoolMixKernelIdeal : Cert.PoolMixKernelIdeal.Facts] [hPoolMixReferenceIdeal : Cert.PoolMixReferenceIdeal.Facts] : Prop :=
  ∀ (m : (ℓ : Loc Cert.PoolMixKernelIdeal.nD Cert.PoolMixKernelIdeal.τ Cert.PoolMixKernelIdeal.sig) → Buf (Elt Ideal) ℓ) (g : Dev Cert.PoolMixKernelIdeal.nD → PrngReg)
    (m' : (ℓ : Loc Cert.PoolMixReferenceIdeal.nD Cert.PoolMixReferenceIdeal.τ Cert.PoolMixReferenceIdeal.sig) → Buf (Elt Ideal) ℓ) (g' : Dev Cert.PoolMixReferenceIdeal.nD → PrngReg), Pre_PoolMixKernelIdeal m →
    (∀ c : Dev Cert.PoolMixKernelIdeal.nD,
      m' ((c.tc : Thread Cert.PoolMixReferenceIdeal.nD Cert.PoolMixReferenceIdeal.τ).loc Cert.PoolMixReferenceIdeal.main_arg0) = m ((c.tc : Thread Cert.PoolMixKernelIdeal.nD Cert.PoolMixKernelIdeal.τ).loc Cert.PoolMixKernelIdeal.main_arg0)
      ∧ m' ((c.tc : Thread Cert.PoolMixReferenceIdeal.nD Cert.PoolMixReferenceIdeal.τ).loc Cert.PoolMixReferenceIdeal.main_arg1) = m ((c.tc : Thread Cert.PoolMixKernelIdeal.nD Cert.PoolMixKernelIdeal.τ).loc Cert.PoolMixKernelIdeal.main_arg1)
      ∧ m' ((c.tc : Thread Cert.PoolMixReferenceIdeal.nD Cert.PoolMixReferenceIdeal.τ).loc Cert.PoolMixReferenceIdeal.main_arg2) = m ((c.tc : Thread Cert.PoolMixKernelIdeal.nD Cert.PoolMixKernelIdeal.τ).loc Cert.PoolMixKernelIdeal.main_arg2)
      ∧ m' ((c.tc : Thread Cert.PoolMixReferenceIdeal.nD Cert.PoolMixReferenceIdeal.τ).loc Cert.PoolMixReferenceIdeal.main_arg3) = m ((c.tc : Thread Cert.PoolMixKernelIdeal.nD Cert.PoolMixKernelIdeal.τ).loc Cert.PoolMixKernelIdeal.main_arg3)
      ∧ m' ((c.tc : Thread Cert.PoolMixReferenceIdeal.nD Cert.PoolMixReferenceIdeal.τ).loc Cert.PoolMixReferenceIdeal.main_arg4) = m ((c.tc : Thread Cert.PoolMixKernelIdeal.nD Cert.PoolMixKernelIdeal.τ).loc Cert.PoolMixKernelIdeal.main_arg4)) →
    ∃ (v0 : (c : Dev Cert.PoolMixKernelIdeal.nD) → Buf (Elt Ideal) ((c.tc : Thread Cert.PoolMixKernelIdeal.nD Cert.PoolMixKernelIdeal.τ).loc Cert.PoolMixKernelIdeal.main_v152_0)) (v1 : (c : Dev Cert.PoolMixKernelIdeal.nD) → Buf (Elt Ideal) ((c.tc : Thread Cert.PoolMixKernelIdeal.nD Cert.PoolMixKernelIdeal.τ).loc Cert.PoolMixKernelIdeal.main_v152_1)) (v2 : (c : Dev Cert.PoolMixKernelIdeal.nD) → Buf (Elt Ideal) ((c.tc : Thread Cert.PoolMixKernelIdeal.nD Cert.PoolMixKernelIdeal.τ).loc Cert.PoolMixKernelIdeal.main_v152_2)),
      θ_run (Cert.PoolMixKernelIdeal.defs (F := Ideal)) (onTc (τ := Cert.PoolMixKernelIdeal.τ) (Cert.PoolMixKernelIdeal.main (F := Ideal))) ⟨m, fun _ => 0, g⟩ (fun r => ∀ c : Dev Cert.PoolMixKernelIdeal.nD,
          r.2.mem ((c.tc : Thread Cert.PoolMixKernelIdeal.nD Cert.PoolMixKernelIdeal.τ).loc Cert.PoolMixKernelIdeal.main_v152_0) = v0 c
          ∧ r.2.mem ((c.tc : Thread Cert.PoolMixKernelIdeal.nD Cert.PoolMixKernelIdeal.τ).loc Cert.PoolMixKernelIdeal.main_v152_1) = v1 c
          ∧ r.2.mem ((c.tc : Thread Cert.PoolMixKernelIdeal.nD Cert.PoolMixKernelIdeal.τ).loc Cert.PoolMixKernelIdeal.main_v152_2) = v2 c
          ∧ r.2.mem ((c.tc : Thread Cert.PoolMixKernelIdeal.nD Cert.PoolMixKernelIdeal.τ).loc Cert.PoolMixKernelIdeal.main_arg0) = m ((c.tc : Thread Cert.PoolMixKernelIdeal.nD Cert.PoolMixKernelIdeal.τ).loc Cert.PoolMixKernelIdeal.main_arg0)
          ∧ r.2.mem ((c.tc : Thread Cert.PoolMixKernelIdeal.nD Cert.PoolMixKernelIdeal.τ).loc Cert.PoolMixKernelIdeal.main_arg1) = m ((c.tc : Thread Cert.PoolMixKernelIdeal.nD Cert.PoolMixKernelIdeal.τ).loc Cert.PoolMixKernelIdeal.main_arg1)
          ∧ r.2.mem ((c.tc : Thread Cert.PoolMixKernelIdeal.nD Cert.PoolMixKernelIdeal.τ).loc Cert.PoolMixKernelIdeal.main_arg2) = m ((c.tc : Thread Cert.PoolMixKernelIdeal.nD Cert.PoolMixKernelIdeal.τ).loc Cert.PoolMixKernelIdeal.main_arg2)
          ∧ r.2.mem ((c.tc : Thread Cert.PoolMixKernelIdeal.nD Cert.PoolMixKernelIdeal.τ).loc Cert.PoolMixKernelIdeal.main_arg3) = m ((c.tc : Thread Cert.PoolMixKernelIdeal.nD Cert.PoolMixKernelIdeal.τ).loc Cert.PoolMixKernelIdeal.main_arg3)
          ∧ r.2.mem ((c.tc : Thread Cert.PoolMixKernelIdeal.nD Cert.PoolMixKernelIdeal.τ).loc Cert.PoolMixKernelIdeal.main_arg4) = m ((c.tc : Thread Cert.PoolMixKernelIdeal.nD Cert.PoolMixKernelIdeal.τ).loc Cert.PoolMixKernelIdeal.main_arg4))
      ∧ θ_run (Cert.PoolMixReferenceIdeal.defs (F := Ideal)) (onTc (τ := Cert.PoolMixReferenceIdeal.τ) (Cert.PoolMixReferenceIdeal.main (F := Ideal))) ⟨m', fun _ => 0, g'⟩ (fun r => ∀ c : Dev Cert.PoolMixReferenceIdeal.nD,
          r.2.mem ((c.tc : Thread Cert.PoolMixReferenceIdeal.nD Cert.PoolMixReferenceIdeal.τ).loc Cert.PoolMixReferenceIdeal.main_v180) = v0 c
          ∧ r.2.mem ((c.tc : Thread Cert.PoolMixReferenceIdeal.nD Cert.PoolMixReferenceIdeal.τ).loc Cert.PoolMixReferenceIdeal.main_v181) = v1 c
          ∧ r.2.mem ((c.tc : Thread Cert.PoolMixReferenceIdeal.nD Cert.PoolMixReferenceIdeal.τ).loc Cert.PoolMixReferenceIdeal.main_v182) = v2 c
          ∧ r.2.mem ((c.tc : Thread Cert.PoolMixReferenceIdeal.nD Cert.PoolMixReferenceIdeal.τ).loc Cert.PoolMixReferenceIdeal.main_arg0) = m' ((c.tc : Thread Cert.PoolMixReferenceIdeal.nD Cert.PoolMixReferenceIdeal.τ).loc Cert.PoolMixReferenceIdeal.main_arg0)
          ∧ r.2.mem ((c.tc : Thread Cert.PoolMixReferenceIdeal.nD Cert.PoolMixReferenceIdeal.τ).loc Cert.PoolMixReferenceIdeal.main_arg1) = m' ((c.tc : Thread Cert.PoolMixReferenceIdeal.nD Cert.PoolMixReferenceIdeal.τ).loc Cert.PoolMixReferenceIdeal.main_arg1)
          ∧ r.2.mem ((c.tc : Thread Cert.PoolMixReferenceIdeal.nD Cert.PoolMixReferenceIdeal.τ).loc Cert.PoolMixReferenceIdeal.main_arg2) = m' ((c.tc : Thread Cert.PoolMixReferenceIdeal.nD Cert.PoolMixReferenceIdeal.τ).loc Cert.PoolMixReferenceIdeal.main_arg2)
          ∧ r.2.mem ((c.tc : Thread Cert.PoolMixReferenceIdeal.nD Cert.PoolMixReferenceIdeal.τ).loc Cert.PoolMixReferenceIdeal.main_arg3) = m' ((c.tc : Thread Cert.PoolMixReferenceIdeal.nD Cert.PoolMixReferenceIdeal.τ).loc Cert.PoolMixReferenceIdeal.main_arg3)
          ∧ r.2.mem ((c.tc : Thread Cert.PoolMixReferenceIdeal.nD Cert.PoolMixReferenceIdeal.τ).loc Cert.PoolMixReferenceIdeal.main_arg4) = m' ((c.tc : Thread Cert.PoolMixReferenceIdeal.nD Cert.PoolMixReferenceIdeal.τ).loc Cert.PoolMixReferenceIdeal.main_arg4))

def preserves_PoolWindowKernel_PoolWindowKernelIdeal : Prop :=
  True

def algebraic_PoolWindowKernelIdeal_PoolWindowReferenceIdeal_pre_pool_window_finite [hPoolWindowKernelIdeal : Cert.PoolWindowKernelIdeal.Facts] [hPoolWindowReferenceIdeal : Cert.PoolWindowReferenceIdeal.Facts] [hPre_pool_window_finite : Cert.Pre_pool_window_finite.Facts] : Prop :=
  ∀ (m : (ℓ : Loc Cert.PoolWindowKernelIdeal.nD Cert.PoolWindowKernelIdeal.τ Cert.PoolWindowKernelIdeal.sig) → Buf (Elt Ideal) ℓ) (g : Dev Cert.PoolWindowKernelIdeal.nD → PrngReg)
    (m' : (ℓ : Loc Cert.PoolWindowReferenceIdeal.nD Cert.PoolWindowReferenceIdeal.τ Cert.PoolWindowReferenceIdeal.sig) → Buf (Elt Ideal) ℓ) (g' : Dev Cert.PoolWindowReferenceIdeal.nD → PrngReg), Pre_PoolWindowKernelIdeal_pool_window_finite m →
    (∀ c : Dev Cert.PoolWindowKernelIdeal.nD,
      m' ((c.tc : Thread Cert.PoolWindowReferenceIdeal.nD Cert.PoolWindowReferenceIdeal.τ).loc Cert.PoolWindowReferenceIdeal.main_arg0) = m ((c.tc : Thread Cert.PoolWindowKernelIdeal.nD Cert.PoolWindowKernelIdeal.τ).loc Cert.PoolWindowKernelIdeal.main_arg0)
      ∧ m' ((c.tc : Thread Cert.PoolWindowReferenceIdeal.nD Cert.PoolWindowReferenceIdeal.τ).loc Cert.PoolWindowReferenceIdeal.main_arg1) = m ((c.tc : Thread Cert.PoolWindowKernelIdeal.nD Cert.PoolWindowKernelIdeal.τ).loc Cert.PoolWindowKernelIdeal.main_arg1)
      ∧ m' ((c.tc : Thread Cert.PoolWindowReferenceIdeal.nD Cert.PoolWindowReferenceIdeal.τ).loc Cert.PoolWindowReferenceIdeal.main_arg2) = m ((c.tc : Thread Cert.PoolWindowKernelIdeal.nD Cert.PoolWindowKernelIdeal.τ).loc Cert.PoolWindowKernelIdeal.main_arg2)
      ∧ m' ((c.tc : Thread Cert.PoolWindowReferenceIdeal.nD Cert.PoolWindowReferenceIdeal.τ).loc Cert.PoolWindowReferenceIdeal.main_arg3) = m ((c.tc : Thread Cert.PoolWindowKernelIdeal.nD Cert.PoolWindowKernelIdeal.τ).loc Cert.PoolWindowKernelIdeal.main_arg3)) →
    ∃ (v0 : (c : Dev Cert.PoolWindowKernelIdeal.nD) → Buf (Elt Ideal) ((c.tc : Thread Cert.PoolWindowKernelIdeal.nD Cert.PoolWindowKernelIdeal.τ).loc Cert.PoolWindowKernelIdeal.main_v9_0)) (v1 : (c : Dev Cert.PoolWindowKernelIdeal.nD) → Buf (Elt Ideal) ((c.tc : Thread Cert.PoolWindowKernelIdeal.nD Cert.PoolWindowKernelIdeal.τ).loc Cert.PoolWindowKernelIdeal.main_v9_1)) (v2 : (c : Dev Cert.PoolWindowKernelIdeal.nD) → Buf (Elt Ideal) ((c.tc : Thread Cert.PoolWindowKernelIdeal.nD Cert.PoolWindowKernelIdeal.τ).loc Cert.PoolWindowKernelIdeal.main_v9_2)),
      θ_run (Cert.PoolWindowKernelIdeal.defs (F := Ideal)) (onTc (τ := Cert.PoolWindowKernelIdeal.τ) (Cert.PoolWindowKernelIdeal.main (F := Ideal))) ⟨m, fun _ => 0, g⟩ (fun r => ∀ c : Dev Cert.PoolWindowKernelIdeal.nD,
          r.2.mem ((c.tc : Thread Cert.PoolWindowKernelIdeal.nD Cert.PoolWindowKernelIdeal.τ).loc Cert.PoolWindowKernelIdeal.main_v9_0) = v0 c
          ∧ r.2.mem ((c.tc : Thread Cert.PoolWindowKernelIdeal.nD Cert.PoolWindowKernelIdeal.τ).loc Cert.PoolWindowKernelIdeal.main_v9_1) = v1 c
          ∧ r.2.mem ((c.tc : Thread Cert.PoolWindowKernelIdeal.nD Cert.PoolWindowKernelIdeal.τ).loc Cert.PoolWindowKernelIdeal.main_v9_2) = v2 c
          ∧ r.2.mem ((c.tc : Thread Cert.PoolWindowKernelIdeal.nD Cert.PoolWindowKernelIdeal.τ).loc Cert.PoolWindowKernelIdeal.main_arg0) = m ((c.tc : Thread Cert.PoolWindowKernelIdeal.nD Cert.PoolWindowKernelIdeal.τ).loc Cert.PoolWindowKernelIdeal.main_arg0)
          ∧ r.2.mem ((c.tc : Thread Cert.PoolWindowKernelIdeal.nD Cert.PoolWindowKernelIdeal.τ).loc Cert.PoolWindowKernelIdeal.main_arg1) = m ((c.tc : Thread Cert.PoolWindowKernelIdeal.nD Cert.PoolWindowKernelIdeal.τ).loc Cert.PoolWindowKernelIdeal.main_arg1)
          ∧ r.2.mem ((c.tc : Thread Cert.PoolWindowKernelIdeal.nD Cert.PoolWindowKernelIdeal.τ).loc Cert.PoolWindowKernelIdeal.main_arg2) = m ((c.tc : Thread Cert.PoolWindowKernelIdeal.nD Cert.PoolWindowKernelIdeal.τ).loc Cert.PoolWindowKernelIdeal.main_arg2)
          ∧ r.2.mem ((c.tc : Thread Cert.PoolWindowKernelIdeal.nD Cert.PoolWindowKernelIdeal.τ).loc Cert.PoolWindowKernelIdeal.main_arg3) = m ((c.tc : Thread Cert.PoolWindowKernelIdeal.nD Cert.PoolWindowKernelIdeal.τ).loc Cert.PoolWindowKernelIdeal.main_arg3))
      ∧ θ_run (Cert.PoolWindowReferenceIdeal.defs (F := Ideal)) (onTc (τ := Cert.PoolWindowReferenceIdeal.τ) (Cert.PoolWindowReferenceIdeal.main (F := Ideal))) ⟨m', fun _ => 0, g'⟩ (fun r => ∀ c : Dev Cert.PoolWindowReferenceIdeal.nD,
          r.2.mem ((c.tc : Thread Cert.PoolWindowReferenceIdeal.nD Cert.PoolWindowReferenceIdeal.τ).loc Cert.PoolWindowReferenceIdeal.main_v238) = v0 c
          ∧ r.2.mem ((c.tc : Thread Cert.PoolWindowReferenceIdeal.nD Cert.PoolWindowReferenceIdeal.τ).loc Cert.PoolWindowReferenceIdeal.main_v239) = v1 c
          ∧ r.2.mem ((c.tc : Thread Cert.PoolWindowReferenceIdeal.nD Cert.PoolWindowReferenceIdeal.τ).loc Cert.PoolWindowReferenceIdeal.main_v240) = v2 c
          ∧ r.2.mem ((c.tc : Thread Cert.PoolWindowReferenceIdeal.nD Cert.PoolWindowReferenceIdeal.τ).loc Cert.PoolWindowReferenceIdeal.main_arg0) = m' ((c.tc : Thread Cert.PoolWindowReferenceIdeal.nD Cert.PoolWindowReferenceIdeal.τ).loc Cert.PoolWindowReferenceIdeal.main_arg0)
          ∧ r.2.mem ((c.tc : Thread Cert.PoolWindowReferenceIdeal.nD Cert.PoolWindowReferenceIdeal.τ).loc Cert.PoolWindowReferenceIdeal.main_arg1) = m' ((c.tc : Thread Cert.PoolWindowReferenceIdeal.nD Cert.PoolWindowReferenceIdeal.τ).loc Cert.PoolWindowReferenceIdeal.main_arg1)
          ∧ r.2.mem ((c.tc : Thread Cert.PoolWindowReferenceIdeal.nD Cert.PoolWindowReferenceIdeal.τ).loc Cert.PoolWindowReferenceIdeal.main_arg2) = m' ((c.tc : Thread Cert.PoolWindowReferenceIdeal.nD Cert.PoolWindowReferenceIdeal.τ).loc Cert.PoolWindowReferenceIdeal.main_arg2)
          ∧ r.2.mem ((c.tc : Thread Cert.PoolWindowReferenceIdeal.nD Cert.PoolWindowReferenceIdeal.τ).loc Cert.PoolWindowReferenceIdeal.main_arg3) = m' ((c.tc : Thread Cert.PoolWindowReferenceIdeal.nD Cert.PoolWindowReferenceIdeal.τ).loc Cert.PoolWindowReferenceIdeal.main_arg3))

def preserves_FfnGateKernel_FfnGateKernelIdeal : Prop :=
  True

def algebraic_FfnGateKernelIdeal_FfnGateReferenceIdeal_pre_ffn_gate_finite [hFfnGateKernelIdeal : Cert.FfnGateKernelIdeal.Facts] [hFfnGateReferenceIdeal : Cert.FfnGateReferenceIdeal.Facts] [hPre_ffn_gate_finite : Cert.Pre_ffn_gate_finite.Facts] : Prop :=
  ∀ (m : (ℓ : Loc Cert.FfnGateKernelIdeal.nD Cert.FfnGateKernelIdeal.τ Cert.FfnGateKernelIdeal.sig) → Buf (Elt Ideal) ℓ) (g : Dev Cert.FfnGateKernelIdeal.nD → PrngReg)
    (m' : (ℓ : Loc Cert.FfnGateReferenceIdeal.nD Cert.FfnGateReferenceIdeal.τ Cert.FfnGateReferenceIdeal.sig) → Buf (Elt Ideal) ℓ) (g' : Dev Cert.FfnGateReferenceIdeal.nD → PrngReg), Pre_FfnGateKernelIdeal_ffn_gate_finite m →
    (∀ c : Dev Cert.FfnGateKernelIdeal.nD,
      m' ((c.tc : Thread Cert.FfnGateReferenceIdeal.nD Cert.FfnGateReferenceIdeal.τ).loc Cert.FfnGateReferenceIdeal.main_arg0) = m ((c.tc : Thread Cert.FfnGateKernelIdeal.nD Cert.FfnGateKernelIdeal.τ).loc Cert.FfnGateKernelIdeal.main_arg0)
      ∧ m' ((c.tc : Thread Cert.FfnGateReferenceIdeal.nD Cert.FfnGateReferenceIdeal.τ).loc Cert.FfnGateReferenceIdeal.main_arg1) = m ((c.tc : Thread Cert.FfnGateKernelIdeal.nD Cert.FfnGateKernelIdeal.τ).loc Cert.FfnGateKernelIdeal.main_arg1)
      ∧ m' ((c.tc : Thread Cert.FfnGateReferenceIdeal.nD Cert.FfnGateReferenceIdeal.τ).loc Cert.FfnGateReferenceIdeal.main_arg2) = m ((c.tc : Thread Cert.FfnGateKernelIdeal.nD Cert.FfnGateKernelIdeal.τ).loc Cert.FfnGateKernelIdeal.main_arg2)
      ∧ m' ((c.tc : Thread Cert.FfnGateReferenceIdeal.nD Cert.FfnGateReferenceIdeal.τ).loc Cert.FfnGateReferenceIdeal.main_arg3) = m ((c.tc : Thread Cert.FfnGateKernelIdeal.nD Cert.FfnGateKernelIdeal.τ).loc Cert.FfnGateKernelIdeal.main_arg3)
      ∧ m' ((c.tc : Thread Cert.FfnGateReferenceIdeal.nD Cert.FfnGateReferenceIdeal.τ).loc Cert.FfnGateReferenceIdeal.main_arg4) = m ((c.tc : Thread Cert.FfnGateKernelIdeal.nD Cert.FfnGateKernelIdeal.τ).loc Cert.FfnGateKernelIdeal.main_arg4)
      ∧ m' ((c.tc : Thread Cert.FfnGateReferenceIdeal.nD Cert.FfnGateReferenceIdeal.τ).loc Cert.FfnGateReferenceIdeal.main_arg5) = m ((c.tc : Thread Cert.FfnGateKernelIdeal.nD Cert.FfnGateKernelIdeal.τ).loc Cert.FfnGateKernelIdeal.main_arg5)) →
    ∃ (v0 : (c : Dev Cert.FfnGateKernelIdeal.nD) → Buf (Elt Ideal) ((c.tc : Thread Cert.FfnGateKernelIdeal.nD Cert.FfnGateKernelIdeal.τ).loc Cert.FfnGateKernelIdeal.main_v39_0)) (v1 : (c : Dev Cert.FfnGateKernelIdeal.nD) → Buf (Elt Ideal) ((c.tc : Thread Cert.FfnGateKernelIdeal.nD Cert.FfnGateKernelIdeal.τ).loc Cert.FfnGateKernelIdeal.main_v39_1)),
      θ_run (Cert.FfnGateKernelIdeal.defs (F := Ideal)) (onTc (τ := Cert.FfnGateKernelIdeal.τ) (Cert.FfnGateKernelIdeal.main (F := Ideal))) ⟨m, fun _ => 0, g⟩ (fun r => ∀ c : Dev Cert.FfnGateKernelIdeal.nD,
          r.2.mem ((c.tc : Thread Cert.FfnGateKernelIdeal.nD Cert.FfnGateKernelIdeal.τ).loc Cert.FfnGateKernelIdeal.main_v39_0) = v0 c
          ∧ r.2.mem ((c.tc : Thread Cert.FfnGateKernelIdeal.nD Cert.FfnGateKernelIdeal.τ).loc Cert.FfnGateKernelIdeal.main_v39_1) = v1 c
          ∧ r.2.mem ((c.tc : Thread Cert.FfnGateKernelIdeal.nD Cert.FfnGateKernelIdeal.τ).loc Cert.FfnGateKernelIdeal.main_arg0) = m ((c.tc : Thread Cert.FfnGateKernelIdeal.nD Cert.FfnGateKernelIdeal.τ).loc Cert.FfnGateKernelIdeal.main_arg0)
          ∧ r.2.mem ((c.tc : Thread Cert.FfnGateKernelIdeal.nD Cert.FfnGateKernelIdeal.τ).loc Cert.FfnGateKernelIdeal.main_arg1) = m ((c.tc : Thread Cert.FfnGateKernelIdeal.nD Cert.FfnGateKernelIdeal.τ).loc Cert.FfnGateKernelIdeal.main_arg1)
          ∧ r.2.mem ((c.tc : Thread Cert.FfnGateKernelIdeal.nD Cert.FfnGateKernelIdeal.τ).loc Cert.FfnGateKernelIdeal.main_arg2) = m ((c.tc : Thread Cert.FfnGateKernelIdeal.nD Cert.FfnGateKernelIdeal.τ).loc Cert.FfnGateKernelIdeal.main_arg2)
          ∧ r.2.mem ((c.tc : Thread Cert.FfnGateKernelIdeal.nD Cert.FfnGateKernelIdeal.τ).loc Cert.FfnGateKernelIdeal.main_arg3) = m ((c.tc : Thread Cert.FfnGateKernelIdeal.nD Cert.FfnGateKernelIdeal.τ).loc Cert.FfnGateKernelIdeal.main_arg3)
          ∧ r.2.mem ((c.tc : Thread Cert.FfnGateKernelIdeal.nD Cert.FfnGateKernelIdeal.τ).loc Cert.FfnGateKernelIdeal.main_arg4) = m ((c.tc : Thread Cert.FfnGateKernelIdeal.nD Cert.FfnGateKernelIdeal.τ).loc Cert.FfnGateKernelIdeal.main_arg4)
          ∧ r.2.mem ((c.tc : Thread Cert.FfnGateKernelIdeal.nD Cert.FfnGateKernelIdeal.τ).loc Cert.FfnGateKernelIdeal.main_arg5) = m ((c.tc : Thread Cert.FfnGateKernelIdeal.nD Cert.FfnGateKernelIdeal.τ).loc Cert.FfnGateKernelIdeal.main_arg5))
      ∧ θ_run (Cert.FfnGateReferenceIdeal.defs (F := Ideal)) (onTc (τ := Cert.FfnGateReferenceIdeal.τ) (Cert.FfnGateReferenceIdeal.main (F := Ideal))) ⟨m', fun _ => 0, g'⟩ (fun r => ∀ c : Dev Cert.FfnGateReferenceIdeal.nD,
          r.2.mem ((c.tc : Thread Cert.FfnGateReferenceIdeal.nD Cert.FfnGateReferenceIdeal.τ).loc Cert.FfnGateReferenceIdeal.main_v24) = v0 c
          ∧ r.2.mem ((c.tc : Thread Cert.FfnGateReferenceIdeal.nD Cert.FfnGateReferenceIdeal.τ).loc Cert.FfnGateReferenceIdeal.main_v27) = v1 c
          ∧ r.2.mem ((c.tc : Thread Cert.FfnGateReferenceIdeal.nD Cert.FfnGateReferenceIdeal.τ).loc Cert.FfnGateReferenceIdeal.main_arg0) = m' ((c.tc : Thread Cert.FfnGateReferenceIdeal.nD Cert.FfnGateReferenceIdeal.τ).loc Cert.FfnGateReferenceIdeal.main_arg0)
          ∧ r.2.mem ((c.tc : Thread Cert.FfnGateReferenceIdeal.nD Cert.FfnGateReferenceIdeal.τ).loc Cert.FfnGateReferenceIdeal.main_arg1) = m' ((c.tc : Thread Cert.FfnGateReferenceIdeal.nD Cert.FfnGateReferenceIdeal.τ).loc Cert.FfnGateReferenceIdeal.main_arg1)
          ∧ r.2.mem ((c.tc : Thread Cert.FfnGateReferenceIdeal.nD Cert.FfnGateReferenceIdeal.τ).loc Cert.FfnGateReferenceIdeal.main_arg2) = m' ((c.tc : Thread Cert.FfnGateReferenceIdeal.nD Cert.FfnGateReferenceIdeal.τ).loc Cert.FfnGateReferenceIdeal.main_arg2)
          ∧ r.2.mem ((c.tc : Thread Cert.FfnGateReferenceIdeal.nD Cert.FfnGateReferenceIdeal.τ).loc Cert.FfnGateReferenceIdeal.main_arg3) = m' ((c.tc : Thread Cert.FfnGateReferenceIdeal.nD Cert.FfnGateReferenceIdeal.τ).loc Cert.FfnGateReferenceIdeal.main_arg3)
          ∧ r.2.mem ((c.tc : Thread Cert.FfnGateReferenceIdeal.nD Cert.FfnGateReferenceIdeal.τ).loc Cert.FfnGateReferenceIdeal.main_arg4) = m' ((c.tc : Thread Cert.FfnGateReferenceIdeal.nD Cert.FfnGateReferenceIdeal.τ).loc Cert.FfnGateReferenceIdeal.main_arg4)
          ∧ r.2.mem ((c.tc : Thread Cert.FfnGateReferenceIdeal.nD Cert.FfnGateReferenceIdeal.τ).loc Cert.FfnGateReferenceIdeal.main_arg5) = m' ((c.tc : Thread Cert.FfnGateReferenceIdeal.nD Cert.FfnGateReferenceIdeal.τ).loc Cert.FfnGateReferenceIdeal.main_arg5))

def preserves_FfnDhKernel_FfnDhKernelIdeal : Prop :=
  True

def algebraic_FfnDhKernelIdeal_FfnDhReferenceIdeal_pre_ffn_dh_finite [hFfnDhKernelIdeal : Cert.FfnDhKernelIdeal.Facts] [hFfnDhReferenceIdeal : Cert.FfnDhReferenceIdeal.Facts] [hPre_ffn_dh_finite : Cert.Pre_ffn_dh_finite.Facts] : Prop :=
  ∀ (m : (ℓ : Loc Cert.FfnDhKernelIdeal.nD Cert.FfnDhKernelIdeal.τ Cert.FfnDhKernelIdeal.sig) → Buf (Elt Ideal) ℓ) (g : Dev Cert.FfnDhKernelIdeal.nD → PrngReg)
    (m' : (ℓ : Loc Cert.FfnDhReferenceIdeal.nD Cert.FfnDhReferenceIdeal.τ Cert.FfnDhReferenceIdeal.sig) → Buf (Elt Ideal) ℓ) (g' : Dev Cert.FfnDhReferenceIdeal.nD → PrngReg), Pre_FfnDhKernelIdeal_ffn_dh_finite m →
    (∀ c : Dev Cert.FfnDhKernelIdeal.nD,
      m' ((c.tc : Thread Cert.FfnDhReferenceIdeal.nD Cert.FfnDhReferenceIdeal.τ).loc Cert.FfnDhReferenceIdeal.main_arg0) = m ((c.tc : Thread Cert.FfnDhKernelIdeal.nD Cert.FfnDhKernelIdeal.τ).loc Cert.FfnDhKernelIdeal.main_arg0)
      ∧ m' ((c.tc : Thread Cert.FfnDhReferenceIdeal.nD Cert.FfnDhReferenceIdeal.τ).loc Cert.FfnDhReferenceIdeal.main_arg1) = m ((c.tc : Thread Cert.FfnDhKernelIdeal.nD Cert.FfnDhKernelIdeal.τ).loc Cert.FfnDhKernelIdeal.main_arg1)
      ∧ m' ((c.tc : Thread Cert.FfnDhReferenceIdeal.nD Cert.FfnDhReferenceIdeal.τ).loc Cert.FfnDhReferenceIdeal.main_arg2) = m ((c.tc : Thread Cert.FfnDhKernelIdeal.nD Cert.FfnDhKernelIdeal.τ).loc Cert.FfnDhKernelIdeal.main_arg2)
      ∧ m' ((c.tc : Thread Cert.FfnDhReferenceIdeal.nD Cert.FfnDhReferenceIdeal.τ).loc Cert.FfnDhReferenceIdeal.main_arg3) = m ((c.tc : Thread Cert.FfnDhKernelIdeal.nD Cert.FfnDhKernelIdeal.τ).loc Cert.FfnDhKernelIdeal.main_arg3)
      ∧ m' ((c.tc : Thread Cert.FfnDhReferenceIdeal.nD Cert.FfnDhReferenceIdeal.τ).loc Cert.FfnDhReferenceIdeal.main_arg4) = m ((c.tc : Thread Cert.FfnDhKernelIdeal.nD Cert.FfnDhKernelIdeal.τ).loc Cert.FfnDhKernelIdeal.main_arg4)
      ∧ m' ((c.tc : Thread Cert.FfnDhReferenceIdeal.nD Cert.FfnDhReferenceIdeal.τ).loc Cert.FfnDhReferenceIdeal.main_arg5) = m ((c.tc : Thread Cert.FfnDhKernelIdeal.nD Cert.FfnDhKernelIdeal.τ).loc Cert.FfnDhKernelIdeal.main_arg5)
      ∧ m' ((c.tc : Thread Cert.FfnDhReferenceIdeal.nD Cert.FfnDhReferenceIdeal.τ).loc Cert.FfnDhReferenceIdeal.main_arg6) = m ((c.tc : Thread Cert.FfnDhKernelIdeal.nD Cert.FfnDhKernelIdeal.τ).loc Cert.FfnDhKernelIdeal.main_arg6)) →
    ∃ (v0 : (c : Dev Cert.FfnDhKernelIdeal.nD) → Buf (Elt Ideal) ((c.tc : Thread Cert.FfnDhKernelIdeal.nD Cert.FfnDhKernelIdeal.τ).loc Cert.FfnDhKernelIdeal.main_v21_0)) (v1 : (c : Dev Cert.FfnDhKernelIdeal.nD) → Buf (Elt Ideal) ((c.tc : Thread Cert.FfnDhKernelIdeal.nD Cert.FfnDhKernelIdeal.τ).loc Cert.FfnDhKernelIdeal.main_v21_1)) (v2 : (c : Dev Cert.FfnDhKernelIdeal.nD) → Buf (Elt Ideal) ((c.tc : Thread Cert.FfnDhKernelIdeal.nD Cert.FfnDhKernelIdeal.τ).loc Cert.FfnDhKernelIdeal.main_v21_2)),
      θ_run (Cert.FfnDhKernelIdeal.defs (F := Ideal)) (onTc (τ := Cert.FfnDhKernelIdeal.τ) (Cert.FfnDhKernelIdeal.main (F := Ideal))) ⟨m, fun _ => 0, g⟩ (fun r => ∀ c : Dev Cert.FfnDhKernelIdeal.nD,
          r.2.mem ((c.tc : Thread Cert.FfnDhKernelIdeal.nD Cert.FfnDhKernelIdeal.τ).loc Cert.FfnDhKernelIdeal.main_v21_0) = v0 c
          ∧ r.2.mem ((c.tc : Thread Cert.FfnDhKernelIdeal.nD Cert.FfnDhKernelIdeal.τ).loc Cert.FfnDhKernelIdeal.main_v21_1) = v1 c
          ∧ r.2.mem ((c.tc : Thread Cert.FfnDhKernelIdeal.nD Cert.FfnDhKernelIdeal.τ).loc Cert.FfnDhKernelIdeal.main_v21_2) = v2 c
          ∧ r.2.mem ((c.tc : Thread Cert.FfnDhKernelIdeal.nD Cert.FfnDhKernelIdeal.τ).loc Cert.FfnDhKernelIdeal.main_arg0) = m ((c.tc : Thread Cert.FfnDhKernelIdeal.nD Cert.FfnDhKernelIdeal.τ).loc Cert.FfnDhKernelIdeal.main_arg0)
          ∧ r.2.mem ((c.tc : Thread Cert.FfnDhKernelIdeal.nD Cert.FfnDhKernelIdeal.τ).loc Cert.FfnDhKernelIdeal.main_arg1) = m ((c.tc : Thread Cert.FfnDhKernelIdeal.nD Cert.FfnDhKernelIdeal.τ).loc Cert.FfnDhKernelIdeal.main_arg1)
          ∧ r.2.mem ((c.tc : Thread Cert.FfnDhKernelIdeal.nD Cert.FfnDhKernelIdeal.τ).loc Cert.FfnDhKernelIdeal.main_arg2) = m ((c.tc : Thread Cert.FfnDhKernelIdeal.nD Cert.FfnDhKernelIdeal.τ).loc Cert.FfnDhKernelIdeal.main_arg2)
          ∧ r.2.mem ((c.tc : Thread Cert.FfnDhKernelIdeal.nD Cert.FfnDhKernelIdeal.τ).loc Cert.FfnDhKernelIdeal.main_arg3) = m ((c.tc : Thread Cert.FfnDhKernelIdeal.nD Cert.FfnDhKernelIdeal.τ).loc Cert.FfnDhKernelIdeal.main_arg3)
          ∧ r.2.mem ((c.tc : Thread Cert.FfnDhKernelIdeal.nD Cert.FfnDhKernelIdeal.τ).loc Cert.FfnDhKernelIdeal.main_arg4) = m ((c.tc : Thread Cert.FfnDhKernelIdeal.nD Cert.FfnDhKernelIdeal.τ).loc Cert.FfnDhKernelIdeal.main_arg4)
          ∧ r.2.mem ((c.tc : Thread Cert.FfnDhKernelIdeal.nD Cert.FfnDhKernelIdeal.τ).loc Cert.FfnDhKernelIdeal.main_arg5) = m ((c.tc : Thread Cert.FfnDhKernelIdeal.nD Cert.FfnDhKernelIdeal.τ).loc Cert.FfnDhKernelIdeal.main_arg5)
          ∧ r.2.mem ((c.tc : Thread Cert.FfnDhKernelIdeal.nD Cert.FfnDhKernelIdeal.τ).loc Cert.FfnDhKernelIdeal.main_arg6) = m ((c.tc : Thread Cert.FfnDhKernelIdeal.nD Cert.FfnDhKernelIdeal.τ).loc Cert.FfnDhKernelIdeal.main_arg6))
      ∧ θ_run (Cert.FfnDhReferenceIdeal.defs (F := Ideal)) (onTc (τ := Cert.FfnDhReferenceIdeal.τ) (Cert.FfnDhReferenceIdeal.main (F := Ideal))) ⟨m', fun _ => 0, g'⟩ (fun r => ∀ c : Dev Cert.FfnDhReferenceIdeal.nD,
          r.2.mem ((c.tc : Thread Cert.FfnDhReferenceIdeal.nD Cert.FfnDhReferenceIdeal.τ).loc Cert.FfnDhReferenceIdeal.main_v41) = v0 c
          ∧ r.2.mem ((c.tc : Thread Cert.FfnDhReferenceIdeal.nD Cert.FfnDhReferenceIdeal.τ).loc Cert.FfnDhReferenceIdeal.main_v42) = v1 c
          ∧ r.2.mem ((c.tc : Thread Cert.FfnDhReferenceIdeal.nD Cert.FfnDhReferenceIdeal.τ).loc Cert.FfnDhReferenceIdeal.main_v43) = v2 c
          ∧ r.2.mem ((c.tc : Thread Cert.FfnDhReferenceIdeal.nD Cert.FfnDhReferenceIdeal.τ).loc Cert.FfnDhReferenceIdeal.main_arg0) = m' ((c.tc : Thread Cert.FfnDhReferenceIdeal.nD Cert.FfnDhReferenceIdeal.τ).loc Cert.FfnDhReferenceIdeal.main_arg0)
          ∧ r.2.mem ((c.tc : Thread Cert.FfnDhReferenceIdeal.nD Cert.FfnDhReferenceIdeal.τ).loc Cert.FfnDhReferenceIdeal.main_arg1) = m' ((c.tc : Thread Cert.FfnDhReferenceIdeal.nD Cert.FfnDhReferenceIdeal.τ).loc Cert.FfnDhReferenceIdeal.main_arg1)
          ∧ r.2.mem ((c.tc : Thread Cert.FfnDhReferenceIdeal.nD Cert.FfnDhReferenceIdeal.τ).loc Cert.FfnDhReferenceIdeal.main_arg2) = m' ((c.tc : Thread Cert.FfnDhReferenceIdeal.nD Cert.FfnDhReferenceIdeal.τ).loc Cert.FfnDhReferenceIdeal.main_arg2)
          ∧ r.2.mem ((c.tc : Thread Cert.FfnDhReferenceIdeal.nD Cert.FfnDhReferenceIdeal.τ).loc Cert.FfnDhReferenceIdeal.main_arg3) = m' ((c.tc : Thread Cert.FfnDhReferenceIdeal.nD Cert.FfnDhReferenceIdeal.τ).loc Cert.FfnDhReferenceIdeal.main_arg3)
          ∧ r.2.mem ((c.tc : Thread Cert.FfnDhReferenceIdeal.nD Cert.FfnDhReferenceIdeal.τ).loc Cert.FfnDhReferenceIdeal.main_arg4) = m' ((c.tc : Thread Cert.FfnDhReferenceIdeal.nD Cert.FfnDhReferenceIdeal.τ).loc Cert.FfnDhReferenceIdeal.main_arg4)
          ∧ r.2.mem ((c.tc : Thread Cert.FfnDhReferenceIdeal.nD Cert.FfnDhReferenceIdeal.τ).loc Cert.FfnDhReferenceIdeal.main_arg5) = m' ((c.tc : Thread Cert.FfnDhReferenceIdeal.nD Cert.FfnDhReferenceIdeal.τ).loc Cert.FfnDhReferenceIdeal.main_arg5)
          ∧ r.2.mem ((c.tc : Thread Cert.FfnDhReferenceIdeal.nD Cert.FfnDhReferenceIdeal.τ).loc Cert.FfnDhReferenceIdeal.main_arg6) = m' ((c.tc : Thread Cert.FfnDhReferenceIdeal.nD Cert.FfnDhReferenceIdeal.τ).loc Cert.FfnDhReferenceIdeal.main_arg6))

def preserves_ProjDxKernel_ProjDxKernelIdeal : Prop :=
  True

def algebraic_ProjDxKernelIdeal_ProjDxReferenceIdeal_pre_proj_dx_finite [hProjDxKernelIdeal : Cert.ProjDxKernelIdeal.Facts] [hProjDxReferenceIdeal : Cert.ProjDxReferenceIdeal.Facts] [hPre_proj_dx_finite : Cert.Pre_proj_dx_finite.Facts] : Prop :=
  ∀ (m : (ℓ : Loc Cert.ProjDxKernelIdeal.nD Cert.ProjDxKernelIdeal.τ Cert.ProjDxKernelIdeal.sig) → Buf (Elt Ideal) ℓ) (g : Dev Cert.ProjDxKernelIdeal.nD → PrngReg)
    (m' : (ℓ : Loc Cert.ProjDxReferenceIdeal.nD Cert.ProjDxReferenceIdeal.τ Cert.ProjDxReferenceIdeal.sig) → Buf (Elt Ideal) ℓ) (g' : Dev Cert.ProjDxReferenceIdeal.nD → PrngReg), Pre_ProjDxKernelIdeal_proj_dx_finite m →
    (∀ c : Dev Cert.ProjDxKernelIdeal.nD,
      m' ((c.tc : Thread Cert.ProjDxReferenceIdeal.nD Cert.ProjDxReferenceIdeal.τ).loc Cert.ProjDxReferenceIdeal.main_arg0) = m ((c.tc : Thread Cert.ProjDxKernelIdeal.nD Cert.ProjDxKernelIdeal.τ).loc Cert.ProjDxKernelIdeal.main_arg0)
      ∧ m' ((c.tc : Thread Cert.ProjDxReferenceIdeal.nD Cert.ProjDxReferenceIdeal.τ).loc Cert.ProjDxReferenceIdeal.main_arg1) = m ((c.tc : Thread Cert.ProjDxKernelIdeal.nD Cert.ProjDxKernelIdeal.τ).loc Cert.ProjDxKernelIdeal.main_arg1)
      ∧ m' ((c.tc : Thread Cert.ProjDxReferenceIdeal.nD Cert.ProjDxReferenceIdeal.τ).loc Cert.ProjDxReferenceIdeal.main_arg2) = m ((c.tc : Thread Cert.ProjDxKernelIdeal.nD Cert.ProjDxKernelIdeal.τ).loc Cert.ProjDxKernelIdeal.main_arg2)
      ∧ m' ((c.tc : Thread Cert.ProjDxReferenceIdeal.nD Cert.ProjDxReferenceIdeal.τ).loc Cert.ProjDxReferenceIdeal.main_arg3) = m ((c.tc : Thread Cert.ProjDxKernelIdeal.nD Cert.ProjDxKernelIdeal.τ).loc Cert.ProjDxKernelIdeal.main_arg3)
      ∧ m' ((c.tc : Thread Cert.ProjDxReferenceIdeal.nD Cert.ProjDxReferenceIdeal.τ).loc Cert.ProjDxReferenceIdeal.main_arg4) = m ((c.tc : Thread Cert.ProjDxKernelIdeal.nD Cert.ProjDxKernelIdeal.τ).loc Cert.ProjDxKernelIdeal.main_arg4)) →
    ∃ (v0 : (c : Dev Cert.ProjDxKernelIdeal.nD) → Buf (Elt Ideal) ((c.tc : Thread Cert.ProjDxKernelIdeal.nD Cert.ProjDxKernelIdeal.τ).loc Cert.ProjDxKernelIdeal.main_v13_0)) (v1 : (c : Dev Cert.ProjDxKernelIdeal.nD) → Buf (Elt Ideal) ((c.tc : Thread Cert.ProjDxKernelIdeal.nD Cert.ProjDxKernelIdeal.τ).loc Cert.ProjDxKernelIdeal.main_v13_1)) (v2 : (c : Dev Cert.ProjDxKernelIdeal.nD) → Buf (Elt Ideal) ((c.tc : Thread Cert.ProjDxKernelIdeal.nD Cert.ProjDxKernelIdeal.τ).loc Cert.ProjDxKernelIdeal.main_v13_2)),
      θ_run (Cert.ProjDxKernelIdeal.defs (F := Ideal)) (onTc (τ := Cert.ProjDxKernelIdeal.τ) (Cert.ProjDxKernelIdeal.main (F := Ideal))) ⟨m, fun _ => 0, g⟩ (fun r => ∀ c : Dev Cert.ProjDxKernelIdeal.nD,
          r.2.mem ((c.tc : Thread Cert.ProjDxKernelIdeal.nD Cert.ProjDxKernelIdeal.τ).loc Cert.ProjDxKernelIdeal.main_v13_0) = v0 c
          ∧ r.2.mem ((c.tc : Thread Cert.ProjDxKernelIdeal.nD Cert.ProjDxKernelIdeal.τ).loc Cert.ProjDxKernelIdeal.main_v13_1) = v1 c
          ∧ r.2.mem ((c.tc : Thread Cert.ProjDxKernelIdeal.nD Cert.ProjDxKernelIdeal.τ).loc Cert.ProjDxKernelIdeal.main_v13_2) = v2 c
          ∧ r.2.mem ((c.tc : Thread Cert.ProjDxKernelIdeal.nD Cert.ProjDxKernelIdeal.τ).loc Cert.ProjDxKernelIdeal.main_arg0) = m ((c.tc : Thread Cert.ProjDxKernelIdeal.nD Cert.ProjDxKernelIdeal.τ).loc Cert.ProjDxKernelIdeal.main_arg0)
          ∧ r.2.mem ((c.tc : Thread Cert.ProjDxKernelIdeal.nD Cert.ProjDxKernelIdeal.τ).loc Cert.ProjDxKernelIdeal.main_arg1) = m ((c.tc : Thread Cert.ProjDxKernelIdeal.nD Cert.ProjDxKernelIdeal.τ).loc Cert.ProjDxKernelIdeal.main_arg1)
          ∧ r.2.mem ((c.tc : Thread Cert.ProjDxKernelIdeal.nD Cert.ProjDxKernelIdeal.τ).loc Cert.ProjDxKernelIdeal.main_arg2) = m ((c.tc : Thread Cert.ProjDxKernelIdeal.nD Cert.ProjDxKernelIdeal.τ).loc Cert.ProjDxKernelIdeal.main_arg2)
          ∧ r.2.mem ((c.tc : Thread Cert.ProjDxKernelIdeal.nD Cert.ProjDxKernelIdeal.τ).loc Cert.ProjDxKernelIdeal.main_arg3) = m ((c.tc : Thread Cert.ProjDxKernelIdeal.nD Cert.ProjDxKernelIdeal.τ).loc Cert.ProjDxKernelIdeal.main_arg3)
          ∧ r.2.mem ((c.tc : Thread Cert.ProjDxKernelIdeal.nD Cert.ProjDxKernelIdeal.τ).loc Cert.ProjDxKernelIdeal.main_arg4) = m ((c.tc : Thread Cert.ProjDxKernelIdeal.nD Cert.ProjDxKernelIdeal.τ).loc Cert.ProjDxKernelIdeal.main_arg4))
      ∧ θ_run (Cert.ProjDxReferenceIdeal.defs (F := Ideal)) (onTc (τ := Cert.ProjDxReferenceIdeal.τ) (Cert.ProjDxReferenceIdeal.main (F := Ideal))) ⟨m', fun _ => 0, g'⟩ (fun r => ∀ c : Dev Cert.ProjDxReferenceIdeal.nD,
          r.2.mem ((c.tc : Thread Cert.ProjDxReferenceIdeal.nD Cert.ProjDxReferenceIdeal.τ).loc Cert.ProjDxReferenceIdeal.main_v38) = v0 c
          ∧ r.2.mem ((c.tc : Thread Cert.ProjDxReferenceIdeal.nD Cert.ProjDxReferenceIdeal.τ).loc Cert.ProjDxReferenceIdeal.main_v39) = v1 c
          ∧ r.2.mem ((c.tc : Thread Cert.ProjDxReferenceIdeal.nD Cert.ProjDxReferenceIdeal.τ).loc Cert.ProjDxReferenceIdeal.main_v40) = v2 c
          ∧ r.2.mem ((c.tc : Thread Cert.ProjDxReferenceIdeal.nD Cert.ProjDxReferenceIdeal.τ).loc Cert.ProjDxReferenceIdeal.main_arg0) = m' ((c.tc : Thread Cert.ProjDxReferenceIdeal.nD Cert.ProjDxReferenceIdeal.τ).loc Cert.ProjDxReferenceIdeal.main_arg0)
          ∧ r.2.mem ((c.tc : Thread Cert.ProjDxReferenceIdeal.nD Cert.ProjDxReferenceIdeal.τ).loc Cert.ProjDxReferenceIdeal.main_arg1) = m' ((c.tc : Thread Cert.ProjDxReferenceIdeal.nD Cert.ProjDxReferenceIdeal.τ).loc Cert.ProjDxReferenceIdeal.main_arg1)
          ∧ r.2.mem ((c.tc : Thread Cert.ProjDxReferenceIdeal.nD Cert.ProjDxReferenceIdeal.τ).loc Cert.ProjDxReferenceIdeal.main_arg2) = m' ((c.tc : Thread Cert.ProjDxReferenceIdeal.nD Cert.ProjDxReferenceIdeal.τ).loc Cert.ProjDxReferenceIdeal.main_arg2)
          ∧ r.2.mem ((c.tc : Thread Cert.ProjDxReferenceIdeal.nD Cert.ProjDxReferenceIdeal.τ).loc Cert.ProjDxReferenceIdeal.main_arg3) = m' ((c.tc : Thread Cert.ProjDxReferenceIdeal.nD Cert.ProjDxReferenceIdeal.τ).loc Cert.ProjDxReferenceIdeal.main_arg3)
          ∧ r.2.mem ((c.tc : Thread Cert.ProjDxReferenceIdeal.nD Cert.ProjDxReferenceIdeal.τ).loc Cert.ProjDxReferenceIdeal.main_arg4) = m' ((c.tc : Thread Cert.ProjDxReferenceIdeal.nD Cert.ProjDxReferenceIdeal.τ).loc Cert.ProjDxReferenceIdeal.main_arg4))

def preserves_StickBwdKernel_StickBwdKernelIdeal : Prop :=
  IdealRules.named_const.Statement Cert.StickBwdKernelIdeal.κ "inv_query_scale" .f32 0x40FAF233#32 (((Real.log 2) * (134217728 / 11863283) : ℝ) : EReal)

def algebraic_StickBwdKernelIdeal_StickBwdReferenceIdeal_pre_stick_bwd_finite [hStickBwdKernelIdeal : Cert.StickBwdKernelIdeal.Facts] [hStickBwdReferenceIdeal : Cert.StickBwdReferenceIdeal.Facts] [hPre_stick_bwd_finite : Cert.Pre_stick_bwd_finite.Facts] : Prop :=
  ∀ (m : (ℓ : Loc Cert.StickBwdKernelIdeal.nD Cert.StickBwdKernelIdeal.τ Cert.StickBwdKernelIdeal.sig) → Buf (Elt Ideal) ℓ) (g : Dev Cert.StickBwdKernelIdeal.nD → PrngReg)
    (m' : (ℓ : Loc Cert.StickBwdReferenceIdeal.nD Cert.StickBwdReferenceIdeal.τ Cert.StickBwdReferenceIdeal.sig) → Buf (Elt Ideal) ℓ) (g' : Dev Cert.StickBwdReferenceIdeal.nD → PrngReg), Pre_StickBwdKernelIdeal_stick_bwd_finite m →
    (∀ c : Dev Cert.StickBwdKernelIdeal.nD,
      m' ((c.tc : Thread Cert.StickBwdReferenceIdeal.nD Cert.StickBwdReferenceIdeal.τ).loc Cert.StickBwdReferenceIdeal.main_arg0) = m ((c.tc : Thread Cert.StickBwdKernelIdeal.nD Cert.StickBwdKernelIdeal.τ).loc Cert.StickBwdKernelIdeal.main_arg0)
      ∧ m' ((c.tc : Thread Cert.StickBwdReferenceIdeal.nD Cert.StickBwdReferenceIdeal.τ).loc Cert.StickBwdReferenceIdeal.main_arg1) = m ((c.tc : Thread Cert.StickBwdKernelIdeal.nD Cert.StickBwdKernelIdeal.τ).loc Cert.StickBwdKernelIdeal.main_arg1)
      ∧ m' ((c.tc : Thread Cert.StickBwdReferenceIdeal.nD Cert.StickBwdReferenceIdeal.τ).loc Cert.StickBwdReferenceIdeal.main_arg2) = m ((c.tc : Thread Cert.StickBwdKernelIdeal.nD Cert.StickBwdKernelIdeal.τ).loc Cert.StickBwdKernelIdeal.main_arg2)
      ∧ m' ((c.tc : Thread Cert.StickBwdReferenceIdeal.nD Cert.StickBwdReferenceIdeal.τ).loc Cert.StickBwdReferenceIdeal.main_arg3) = m ((c.tc : Thread Cert.StickBwdKernelIdeal.nD Cert.StickBwdKernelIdeal.τ).loc Cert.StickBwdKernelIdeal.main_arg3)) →
    ∃ (v0 : (c : Dev Cert.StickBwdKernelIdeal.nD) → Buf (Elt Ideal) ((c.tc : Thread Cert.StickBwdKernelIdeal.nD Cert.StickBwdKernelIdeal.τ).loc Cert.StickBwdKernelIdeal.main_v70_0)) (v1 : (c : Dev Cert.StickBwdKernelIdeal.nD) → Buf (Elt Ideal) ((c.tc : Thread Cert.StickBwdKernelIdeal.nD Cert.StickBwdKernelIdeal.τ).loc Cert.StickBwdKernelIdeal.main_v70_1)) (v2 : (c : Dev Cert.StickBwdKernelIdeal.nD) → Buf (Elt Ideal) ((c.tc : Thread Cert.StickBwdKernelIdeal.nD Cert.StickBwdKernelIdeal.τ).loc Cert.StickBwdKernelIdeal.main_v70_2)),
      θ_run (Cert.StickBwdKernelIdeal.defs (F := Ideal)) (onTc (τ := Cert.StickBwdKernelIdeal.τ) (Cert.StickBwdKernelIdeal.main (F := Ideal))) ⟨m, fun _ => 0, g⟩ (fun r => ∀ c : Dev Cert.StickBwdKernelIdeal.nD,
          r.2.mem ((c.tc : Thread Cert.StickBwdKernelIdeal.nD Cert.StickBwdKernelIdeal.τ).loc Cert.StickBwdKernelIdeal.main_v70_0) = v0 c
          ∧ r.2.mem ((c.tc : Thread Cert.StickBwdKernelIdeal.nD Cert.StickBwdKernelIdeal.τ).loc Cert.StickBwdKernelIdeal.main_v70_1) = v1 c
          ∧ r.2.mem ((c.tc : Thread Cert.StickBwdKernelIdeal.nD Cert.StickBwdKernelIdeal.τ).loc Cert.StickBwdKernelIdeal.main_v70_2) = v2 c
          ∧ r.2.mem ((c.tc : Thread Cert.StickBwdKernelIdeal.nD Cert.StickBwdKernelIdeal.τ).loc Cert.StickBwdKernelIdeal.main_arg0) = m ((c.tc : Thread Cert.StickBwdKernelIdeal.nD Cert.StickBwdKernelIdeal.τ).loc Cert.StickBwdKernelIdeal.main_arg0)
          ∧ r.2.mem ((c.tc : Thread Cert.StickBwdKernelIdeal.nD Cert.StickBwdKernelIdeal.τ).loc Cert.StickBwdKernelIdeal.main_arg1) = m ((c.tc : Thread Cert.StickBwdKernelIdeal.nD Cert.StickBwdKernelIdeal.τ).loc Cert.StickBwdKernelIdeal.main_arg1)
          ∧ r.2.mem ((c.tc : Thread Cert.StickBwdKernelIdeal.nD Cert.StickBwdKernelIdeal.τ).loc Cert.StickBwdKernelIdeal.main_arg2) = m ((c.tc : Thread Cert.StickBwdKernelIdeal.nD Cert.StickBwdKernelIdeal.τ).loc Cert.StickBwdKernelIdeal.main_arg2)
          ∧ r.2.mem ((c.tc : Thread Cert.StickBwdKernelIdeal.nD Cert.StickBwdKernelIdeal.τ).loc Cert.StickBwdKernelIdeal.main_arg3) = m ((c.tc : Thread Cert.StickBwdKernelIdeal.nD Cert.StickBwdKernelIdeal.τ).loc Cert.StickBwdKernelIdeal.main_arg3))
      ∧ θ_run (Cert.StickBwdReferenceIdeal.defs (F := Ideal)) (onTc (τ := Cert.StickBwdReferenceIdeal.τ) (Cert.StickBwdReferenceIdeal.main (F := Ideal))) ⟨m', fun _ => 0, g'⟩ (fun r => ∀ c : Dev Cert.StickBwdReferenceIdeal.nD,
          r.2.mem ((c.tc : Thread Cert.StickBwdReferenceIdeal.nD Cert.StickBwdReferenceIdeal.τ).loc Cert.StickBwdReferenceIdeal.main_v53) = v0 c
          ∧ r.2.mem ((c.tc : Thread Cert.StickBwdReferenceIdeal.nD Cert.StickBwdReferenceIdeal.τ).loc Cert.StickBwdReferenceIdeal.main_v54) = v1 c
          ∧ r.2.mem ((c.tc : Thread Cert.StickBwdReferenceIdeal.nD Cert.StickBwdReferenceIdeal.τ).loc Cert.StickBwdReferenceIdeal.main_v55) = v2 c
          ∧ r.2.mem ((c.tc : Thread Cert.StickBwdReferenceIdeal.nD Cert.StickBwdReferenceIdeal.τ).loc Cert.StickBwdReferenceIdeal.main_arg0) = m' ((c.tc : Thread Cert.StickBwdReferenceIdeal.nD Cert.StickBwdReferenceIdeal.τ).loc Cert.StickBwdReferenceIdeal.main_arg0)
          ∧ r.2.mem ((c.tc : Thread Cert.StickBwdReferenceIdeal.nD Cert.StickBwdReferenceIdeal.τ).loc Cert.StickBwdReferenceIdeal.main_arg1) = m' ((c.tc : Thread Cert.StickBwdReferenceIdeal.nD Cert.StickBwdReferenceIdeal.τ).loc Cert.StickBwdReferenceIdeal.main_arg1)
          ∧ r.2.mem ((c.tc : Thread Cert.StickBwdReferenceIdeal.nD Cert.StickBwdReferenceIdeal.τ).loc Cert.StickBwdReferenceIdeal.main_arg2) = m' ((c.tc : Thread Cert.StickBwdReferenceIdeal.nD Cert.StickBwdReferenceIdeal.τ).loc Cert.StickBwdReferenceIdeal.main_arg2)
          ∧ r.2.mem ((c.tc : Thread Cert.StickBwdReferenceIdeal.nD Cert.StickBwdReferenceIdeal.τ).loc Cert.StickBwdReferenceIdeal.main_arg3) = m' ((c.tc : Thread Cert.StickBwdReferenceIdeal.nD Cert.StickBwdReferenceIdeal.τ).loc Cert.StickBwdReferenceIdeal.main_arg3))

def preserves_NormFwdKernel_NormFwdKernelIdeal : Prop :=
  True

def algebraic_NormFwdKernelIdeal_NormFwdReferenceIdeal [hNormFwdKernelIdeal : Cert.NormFwdKernelIdeal.Facts] [hNormFwdReferenceIdeal : Cert.NormFwdReferenceIdeal.Facts] : Prop :=
  ∀ (m : (ℓ : Loc Cert.NormFwdKernelIdeal.nD Cert.NormFwdKernelIdeal.τ Cert.NormFwdKernelIdeal.sig) → Buf (Elt Ideal) ℓ) (g : Dev Cert.NormFwdKernelIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdKernelIdeal m →
    (∀ c : Dev Cert.NormFwdKernelIdeal.nD,
      m' ((c.tc : Thread Cert.NormFwdReferenceIdeal.nD Cert.NormFwdReferenceIdeal.τ).loc Cert.NormFwdReferenceIdeal.main_arg0) = m ((c.tc : Thread Cert.NormFwdKernelIdeal.nD Cert.NormFwdKernelIdeal.τ).loc Cert.NormFwdKernelIdeal.main_arg0)
      ∧ m' ((c.tc : Thread Cert.NormFwdReferenceIdeal.nD Cert.NormFwdReferenceIdeal.τ).loc Cert.NormFwdReferenceIdeal.main_arg1) = m ((c.tc : Thread Cert.NormFwdKernelIdeal.nD Cert.NormFwdKernelIdeal.τ).loc Cert.NormFwdKernelIdeal.main_arg1)) →
    ∃ (v0 : (c : Dev Cert.NormFwdKernelIdeal.nD) → Buf (Elt Ideal) ((c.tc : Thread Cert.NormFwdKernelIdeal.nD Cert.NormFwdKernelIdeal.τ).loc Cert.NormFwdKernelIdeal.main_v1_0)) (v1 : (c : Dev Cert.NormFwdKernelIdeal.nD) → Buf (Elt Ideal) ((c.tc : Thread Cert.NormFwdKernelIdeal.nD Cert.NormFwdKernelIdeal.τ).loc Cert.NormFwdKernelIdeal.main_v1_1)),
      θ_run (Cert.NormFwdKernelIdeal.defs (F := Ideal)) (onTc (τ := Cert.NormFwdKernelIdeal.τ) (Cert.NormFwdKernelIdeal.main (F := Ideal))) ⟨m, fun _ => 0, g⟩ (fun r => ∀ c : Dev Cert.NormFwdKernelIdeal.nD,
          r.2.mem ((c.tc : Thread Cert.NormFwdKernelIdeal.nD Cert.NormFwdKernelIdeal.τ).loc Cert.NormFwdKernelIdeal.main_v1_0) = v0 c
          ∧ r.2.mem ((c.tc : Thread Cert.NormFwdKernelIdeal.nD Cert.NormFwdKernelIdeal.τ).loc Cert.NormFwdKernelIdeal.main_v1_1) = v1 c
          ∧ r.2.mem ((c.tc : Thread Cert.NormFwdKernelIdeal.nD Cert.NormFwdKernelIdeal.τ).loc Cert.NormFwdKernelIdeal.main_arg0) = m ((c.tc : Thread Cert.NormFwdKernelIdeal.nD Cert.NormFwdKernelIdeal.τ).loc Cert.NormFwdKernelIdeal.main_arg0)
          ∧ r.2.mem ((c.tc : Thread Cert.NormFwdKernelIdeal.nD Cert.NormFwdKernelIdeal.τ).loc Cert.NormFwdKernelIdeal.main_arg1) = m ((c.tc : Thread Cert.NormFwdKernelIdeal.nD Cert.NormFwdKernelIdeal.τ).loc Cert.NormFwdKernelIdeal.main_arg1))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v13) = v0 c
          ∧ r.2.mem ((c.tc : Thread Cert.NormFwdReferenceIdeal.nD Cert.NormFwdReferenceIdeal.τ).loc Cert.NormFwdReferenceIdeal.main_v21) = v1 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1))

def preserves_GateFwdKernel_GateFwdKernelIdeal : Prop :=
  True

def algebraic_GateFwdKernelIdeal_GateFwdReferenceIdeal_pre_gate_fwd_finite [hGateFwdKernelIdeal : Cert.GateFwdKernelIdeal.Facts] [hGateFwdReferenceIdeal : Cert.GateFwdReferenceIdeal.Facts] [hPre_gate_fwd_finite : Cert.Pre_gate_fwd_finite.Facts] : Prop :=
  ∀ (m : (ℓ : Loc Cert.GateFwdKernelIdeal.nD Cert.GateFwdKernelIdeal.τ Cert.GateFwdKernelIdeal.sig) → Buf (Elt Ideal) ℓ) (g : Dev Cert.GateFwdKernelIdeal.nD → PrngReg)
    (m' : (ℓ : Loc Cert.GateFwdReferenceIdeal.nD Cert.GateFwdReferenceIdeal.τ Cert.GateFwdReferenceIdeal.sig) → Buf (Elt Ideal) ℓ) (g' : Dev Cert.GateFwdReferenceIdeal.nD → PrngReg), Pre_GateFwdKernelIdeal_gate_fwd_finite m →
    (∀ c : Dev Cert.GateFwdKernelIdeal.nD,
      m' ((c.tc : Thread Cert.GateFwdReferenceIdeal.nD Cert.GateFwdReferenceIdeal.τ).loc Cert.GateFwdReferenceIdeal.main_arg0) = m ((c.tc : Thread Cert.GateFwdKernelIdeal.nD Cert.GateFwdKernelIdeal.τ).loc Cert.GateFwdKernelIdeal.main_arg0)
      ∧ m' ((c.tc : Thread Cert.GateFwdReferenceIdeal.nD Cert.GateFwdReferenceIdeal.τ).loc Cert.GateFwdReferenceIdeal.main_arg1) = m ((c.tc : Thread Cert.GateFwdKernelIdeal.nD Cert.GateFwdKernelIdeal.τ).loc Cert.GateFwdKernelIdeal.main_arg1)
      ∧ m' ((c.tc : Thread Cert.GateFwdReferenceIdeal.nD Cert.GateFwdReferenceIdeal.τ).loc Cert.GateFwdReferenceIdeal.main_arg2) = m ((c.tc : Thread Cert.GateFwdKernelIdeal.nD Cert.GateFwdKernelIdeal.τ).loc Cert.GateFwdKernelIdeal.main_arg2)
      ∧ m' ((c.tc : Thread Cert.GateFwdReferenceIdeal.nD Cert.GateFwdReferenceIdeal.τ).loc Cert.GateFwdReferenceIdeal.main_arg3) = m ((c.tc : Thread Cert.GateFwdKernelIdeal.nD Cert.GateFwdKernelIdeal.τ).loc Cert.GateFwdKernelIdeal.main_arg3)) →
    ∃ (v0 : (c : Dev Cert.GateFwdKernelIdeal.nD) → Buf (Elt Ideal) ((c.tc : Thread Cert.GateFwdKernelIdeal.nD Cert.GateFwdKernelIdeal.τ).loc Cert.GateFwdKernelIdeal.main_v20_0)) (v1 : (c : Dev Cert.GateFwdKernelIdeal.nD) → Buf (Elt Ideal) ((c.tc : Thread Cert.GateFwdKernelIdeal.nD Cert.GateFwdKernelIdeal.τ).loc Cert.GateFwdKernelIdeal.main_v20_1)) (v2 : (c : Dev Cert.GateFwdKernelIdeal.nD) → Buf (Elt Ideal) ((c.tc : Thread Cert.GateFwdKernelIdeal.nD Cert.GateFwdKernelIdeal.τ).loc Cert.GateFwdKernelIdeal.main_v20_2)),
      θ_run (Cert.GateFwdKernelIdeal.defs (F := Ideal)) (onTc (τ := Cert.GateFwdKernelIdeal.τ) (Cert.GateFwdKernelIdeal.main (F := Ideal))) ⟨m, fun _ => 0, g⟩ (fun r => ∀ c : Dev Cert.GateFwdKernelIdeal.nD,
          r.2.mem ((c.tc : Thread Cert.GateFwdKernelIdeal.nD Cert.GateFwdKernelIdeal.τ).loc Cert.GateFwdKernelIdeal.main_v20_0) = v0 c
          ∧ r.2.mem ((c.tc : Thread Cert.GateFwdKernelIdeal.nD Cert.GateFwdKernelIdeal.τ).loc Cert.GateFwdKernelIdeal.main_v20_1) = v1 c
          ∧ r.2.mem ((c.tc : Thread Cert.GateFwdKernelIdeal.nD Cert.GateFwdKernelIdeal.τ).loc Cert.GateFwdKernelIdeal.main_v20_2) = v2 c
          ∧ r.2.mem ((c.tc : Thread Cert.GateFwdKernelIdeal.nD Cert.GateFwdKernelIdeal.τ).loc Cert.GateFwdKernelIdeal.main_arg0) = m ((c.tc : Thread Cert.GateFwdKernelIdeal.nD Cert.GateFwdKernelIdeal.τ).loc Cert.GateFwdKernelIdeal.main_arg0)
          ∧ r.2.mem ((c.tc : Thread Cert.GateFwdKernelIdeal.nD Cert.GateFwdKernelIdeal.τ).loc Cert.GateFwdKernelIdeal.main_arg1) = m ((c.tc : Thread Cert.GateFwdKernelIdeal.nD Cert.GateFwdKernelIdeal.τ).loc Cert.GateFwdKernelIdeal.main_arg1)
          ∧ r.2.mem ((c.tc : Thread Cert.GateFwdKernelIdeal.nD Cert.GateFwdKernelIdeal.τ).loc Cert.GateFwdKernelIdeal.main_arg2) = m ((c.tc : Thread Cert.GateFwdKernelIdeal.nD Cert.GateFwdKernelIdeal.τ).loc Cert.GateFwdKernelIdeal.main_arg2)
          ∧ r.2.mem ((c.tc : Thread Cert.GateFwdKernelIdeal.nD Cert.GateFwdKernelIdeal.τ).loc Cert.GateFwdKernelIdeal.main_arg3) = m ((c.tc : Thread Cert.GateFwdKernelIdeal.nD Cert.GateFwdKernelIdeal.τ).loc Cert.GateFwdKernelIdeal.main_arg3))
      ∧ θ_run (Cert.GateFwdReferenceIdeal.defs (F := Ideal)) (onTc (τ := Cert.GateFwdReferenceIdeal.τ) (Cert.GateFwdReferenceIdeal.main (F := Ideal))) ⟨m', fun _ => 0, g'⟩ (fun r => ∀ c : Dev Cert.GateFwdReferenceIdeal.nD,
          r.2.mem ((c.tc : Thread Cert.GateFwdReferenceIdeal.nD Cert.GateFwdReferenceIdeal.τ).loc Cert.GateFwdReferenceIdeal.main_v19) = v0 c
          ∧ r.2.mem ((c.tc : Thread Cert.GateFwdReferenceIdeal.nD Cert.GateFwdReferenceIdeal.τ).loc Cert.GateFwdReferenceIdeal.main_v24) = v1 c
          ∧ r.2.mem ((c.tc : Thread Cert.GateFwdReferenceIdeal.nD Cert.GateFwdReferenceIdeal.τ).loc Cert.GateFwdReferenceIdeal.main_v27) = v2 c
          ∧ r.2.mem ((c.tc : Thread Cert.GateFwdReferenceIdeal.nD Cert.GateFwdReferenceIdeal.τ).loc Cert.GateFwdReferenceIdeal.main_arg0) = m' ((c.tc : Thread Cert.GateFwdReferenceIdeal.nD Cert.GateFwdReferenceIdeal.τ).loc Cert.GateFwdReferenceIdeal.main_arg0)
          ∧ r.2.mem ((c.tc : Thread Cert.GateFwdReferenceIdeal.nD Cert.GateFwdReferenceIdeal.τ).loc Cert.GateFwdReferenceIdeal.main_arg1) = m' ((c.tc : Thread Cert.GateFwdReferenceIdeal.nD Cert.GateFwdReferenceIdeal.τ).loc Cert.GateFwdReferenceIdeal.main_arg1)
          ∧ r.2.mem ((c.tc : Thread Cert.GateFwdReferenceIdeal.nD Cert.GateFwdReferenceIdeal.τ).loc Cert.GateFwdReferenceIdeal.main_arg2) = m' ((c.tc : Thread Cert.GateFwdReferenceIdeal.nD Cert.GateFwdReferenceIdeal.τ).loc Cert.GateFwdReferenceIdeal.main_arg2)
          ∧ r.2.mem ((c.tc : Thread Cert.GateFwdReferenceIdeal.nD Cert.GateFwdReferenceIdeal.τ).loc Cert.GateFwdReferenceIdeal.main_arg3) = m' ((c.tc : Thread Cert.GateFwdReferenceIdeal.nD Cert.GateFwdReferenceIdeal.τ).loc Cert.GateFwdReferenceIdeal.main_arg3))

def preserves_PoolFwdKernel_PoolFwdKernelIdeal : Prop :=
  True

def algebraic_PoolFwdKernelIdeal_PoolFwdReferenceIdeal_pre_pool_fwd_finite [hPoolFwdKernelIdeal : Cert.PoolFwdKernelIdeal.Facts] [hPoolFwdReferenceIdeal : Cert.PoolFwdReferenceIdeal.Facts] [hPre_pool_fwd_finite : Cert.Pre_pool_fwd_finite.Facts] : Prop :=
  ∀ (m : (ℓ : Loc Cert.PoolFwdKernelIdeal.nD Cert.PoolFwdKernelIdeal.τ Cert.PoolFwdKernelIdeal.sig) → Buf (Elt Ideal) ℓ) (g : Dev Cert.PoolFwdKernelIdeal.nD → PrngReg)
    (m' : (ℓ : Loc Cert.PoolFwdReferenceIdeal.nD Cert.PoolFwdReferenceIdeal.τ Cert.PoolFwdReferenceIdeal.sig) → Buf (Elt Ideal) ℓ) (g' : Dev Cert.PoolFwdReferenceIdeal.nD → PrngReg), Pre_PoolFwdKernelIdeal_pool_fwd_finite m →
    (∀ c : Dev Cert.PoolFwdKernelIdeal.nD,
      m' ((c.tc : Thread Cert.PoolFwdReferenceIdeal.nD Cert.PoolFwdReferenceIdeal.τ).loc Cert.PoolFwdReferenceIdeal.main_arg0) = m ((c.tc : Thread Cert.PoolFwdKernelIdeal.nD Cert.PoolFwdKernelIdeal.τ).loc Cert.PoolFwdKernelIdeal.main_arg0)
      ∧ m' ((c.tc : Thread Cert.PoolFwdReferenceIdeal.nD Cert.PoolFwdReferenceIdeal.τ).loc Cert.PoolFwdReferenceIdeal.main_arg1) = m ((c.tc : Thread Cert.PoolFwdKernelIdeal.nD Cert.PoolFwdKernelIdeal.τ).loc Cert.PoolFwdKernelIdeal.main_arg1)
      ∧ m' ((c.tc : Thread Cert.PoolFwdReferenceIdeal.nD Cert.PoolFwdReferenceIdeal.τ).loc Cert.PoolFwdReferenceIdeal.main_arg2) = m ((c.tc : Thread Cert.PoolFwdKernelIdeal.nD Cert.PoolFwdKernelIdeal.τ).loc Cert.PoolFwdKernelIdeal.main_arg2)
      ∧ m' ((c.tc : Thread Cert.PoolFwdReferenceIdeal.nD Cert.PoolFwdReferenceIdeal.τ).loc Cert.PoolFwdReferenceIdeal.main_arg3) = m ((c.tc : Thread Cert.PoolFwdKernelIdeal.nD Cert.PoolFwdKernelIdeal.τ).loc Cert.PoolFwdKernelIdeal.main_arg3)
      ∧ m' ((c.tc : Thread Cert.PoolFwdReferenceIdeal.nD Cert.PoolFwdReferenceIdeal.τ).loc Cert.PoolFwdReferenceIdeal.main_arg4) = m ((c.tc : Thread Cert.PoolFwdKernelIdeal.nD Cert.PoolFwdKernelIdeal.τ).loc Cert.PoolFwdKernelIdeal.main_arg4)) →
    ∃ (v0 : (c : Dev Cert.PoolFwdKernelIdeal.nD) → Buf (Elt Ideal) ((c.tc : Thread Cert.PoolFwdKernelIdeal.nD Cert.PoolFwdKernelIdeal.τ).loc Cert.PoolFwdKernelIdeal.main_v3_0)) (v1 : (c : Dev Cert.PoolFwdKernelIdeal.nD) → Buf (Elt Ideal) ((c.tc : Thread Cert.PoolFwdKernelIdeal.nD Cert.PoolFwdKernelIdeal.τ).loc Cert.PoolFwdKernelIdeal.main_v3_1)) (v2 : (c : Dev Cert.PoolFwdKernelIdeal.nD) → Buf (Elt Ideal) ((c.tc : Thread Cert.PoolFwdKernelIdeal.nD Cert.PoolFwdKernelIdeal.τ).loc Cert.PoolFwdKernelIdeal.main_v3_2)) (v3 : (c : Dev Cert.PoolFwdKernelIdeal.nD) → Buf (Elt Ideal) ((c.tc : Thread Cert.PoolFwdKernelIdeal.nD Cert.PoolFwdKernelIdeal.τ).loc Cert.PoolFwdKernelIdeal.main_v3_3)),
      θ_run (Cert.PoolFwdKernelIdeal.defs (F := Ideal)) (onTc (τ := Cert.PoolFwdKernelIdeal.τ) (Cert.PoolFwdKernelIdeal.main (F := Ideal))) ⟨m, fun _ => 0, g⟩ (fun r => ∀ c : Dev Cert.PoolFwdKernelIdeal.nD,
          r.2.mem ((c.tc : Thread Cert.PoolFwdKernelIdeal.nD Cert.PoolFwdKernelIdeal.τ).loc Cert.PoolFwdKernelIdeal.main_v3_0) = v0 c
          ∧ r.2.mem ((c.tc : Thread Cert.PoolFwdKernelIdeal.nD Cert.PoolFwdKernelIdeal.τ).loc Cert.PoolFwdKernelIdeal.main_v3_1) = v1 c
          ∧ r.2.mem ((c.tc : Thread Cert.PoolFwdKernelIdeal.nD Cert.PoolFwdKernelIdeal.τ).loc Cert.PoolFwdKernelIdeal.main_v3_2) = v2 c
          ∧ r.2.mem ((c.tc : Thread Cert.PoolFwdKernelIdeal.nD Cert.PoolFwdKernelIdeal.τ).loc Cert.PoolFwdKernelIdeal.main_v3_3) = v3 c
          ∧ r.2.mem ((c.tc : Thread Cert.PoolFwdKernelIdeal.nD Cert.PoolFwdKernelIdeal.τ).loc Cert.PoolFwdKernelIdeal.main_arg0) = m ((c.tc : Thread Cert.PoolFwdKernelIdeal.nD Cert.PoolFwdKernelIdeal.τ).loc Cert.PoolFwdKernelIdeal.main_arg0)
          ∧ r.2.mem ((c.tc : Thread Cert.PoolFwdKernelIdeal.nD Cert.PoolFwdKernelIdeal.τ).loc Cert.PoolFwdKernelIdeal.main_arg1) = m ((c.tc : Thread Cert.PoolFwdKernelIdeal.nD Cert.PoolFwdKernelIdeal.τ).loc Cert.PoolFwdKernelIdeal.main_arg1)
          ∧ r.2.mem ((c.tc : Thread Cert.PoolFwdKernelIdeal.nD Cert.PoolFwdKernelIdeal.τ).loc Cert.PoolFwdKernelIdeal.main_arg2) = m ((c.tc : Thread Cert.PoolFwdKernelIdeal.nD Cert.PoolFwdKernelIdeal.τ).loc Cert.PoolFwdKernelIdeal.main_arg2)
          ∧ r.2.mem ((c.tc : Thread Cert.PoolFwdKernelIdeal.nD Cert.PoolFwdKernelIdeal.τ).loc Cert.PoolFwdKernelIdeal.main_arg3) = m ((c.tc : Thread Cert.PoolFwdKernelIdeal.nD Cert.PoolFwdKernelIdeal.τ).loc Cert.PoolFwdKernelIdeal.main_arg3)
          ∧ r.2.mem ((c.tc : Thread Cert.PoolFwdKernelIdeal.nD Cert.PoolFwdKernelIdeal.τ).loc Cert.PoolFwdKernelIdeal.main_arg4) = m ((c.tc : Thread Cert.PoolFwdKernelIdeal.nD Cert.PoolFwdKernelIdeal.τ).loc Cert.PoolFwdKernelIdeal.main_arg4))
      ∧ θ_run (Cert.PoolFwdReferenceIdeal.defs (F := Ideal)) (onTc (τ := Cert.PoolFwdReferenceIdeal.τ) (Cert.PoolFwdReferenceIdeal.main (F := Ideal))) ⟨m', fun _ => 0, g'⟩ (fun r => ∀ c : Dev Cert.PoolFwdReferenceIdeal.nD,
          r.2.mem ((c.tc : Thread Cert.PoolFwdReferenceIdeal.nD Cert.PoolFwdReferenceIdeal.τ).loc Cert.PoolFwdReferenceIdeal.main_v141) = v0 c
          ∧ r.2.mem ((c.tc : Thread Cert.PoolFwdReferenceIdeal.nD Cert.PoolFwdReferenceIdeal.τ).loc Cert.PoolFwdReferenceIdeal.main_v151) = v1 c
          ∧ r.2.mem ((c.tc : Thread Cert.PoolFwdReferenceIdeal.nD Cert.PoolFwdReferenceIdeal.τ).loc Cert.PoolFwdReferenceIdeal.main_v165) = v2 c
          ∧ r.2.mem ((c.tc : Thread Cert.PoolFwdReferenceIdeal.nD Cert.PoolFwdReferenceIdeal.τ).loc Cert.PoolFwdReferenceIdeal.main_v149) = v3 c
          ∧ r.2.mem ((c.tc : Thread Cert.PoolFwdReferenceIdeal.nD Cert.PoolFwdReferenceIdeal.τ).loc Cert.PoolFwdReferenceIdeal.main_arg0) = m' ((c.tc : Thread Cert.PoolFwdReferenceIdeal.nD Cert.PoolFwdReferenceIdeal.τ).loc Cert.PoolFwdReferenceIdeal.main_arg0)
          ∧ r.2.mem ((c.tc : Thread Cert.PoolFwdReferenceIdeal.nD Cert.PoolFwdReferenceIdeal.τ).loc Cert.PoolFwdReferenceIdeal.main_arg1) = m' ((c.tc : Thread Cert.PoolFwdReferenceIdeal.nD Cert.PoolFwdReferenceIdeal.τ).loc Cert.PoolFwdReferenceIdeal.main_arg1)
          ∧ r.2.mem ((c.tc : Thread Cert.PoolFwdReferenceIdeal.nD Cert.PoolFwdReferenceIdeal.τ).loc Cert.PoolFwdReferenceIdeal.main_arg2) = m' ((c.tc : Thread Cert.PoolFwdReferenceIdeal.nD Cert.PoolFwdReferenceIdeal.τ).loc Cert.PoolFwdReferenceIdeal.main_arg2)
          ∧ r.2.mem ((c.tc : Thread Cert.PoolFwdReferenceIdeal.nD Cert.PoolFwdReferenceIdeal.τ).loc Cert.PoolFwdReferenceIdeal.main_arg3) = m' ((c.tc : Thread Cert.PoolFwdReferenceIdeal.nD Cert.PoolFwdReferenceIdeal.τ).loc Cert.PoolFwdReferenceIdeal.main_arg3)
          ∧ r.2.mem ((c.tc : Thread Cert.PoolFwdReferenceIdeal.nD Cert.PoolFwdReferenceIdeal.τ).loc Cert.PoolFwdReferenceIdeal.main_arg4) = m' ((c.tc : Thread Cert.PoolFwdReferenceIdeal.nD Cert.PoolFwdReferenceIdeal.τ).loc Cert.PoolFwdReferenceIdeal.main_arg4))

def Claim : Prop :=
  ∃ (hLossKernel : Cert.LossKernel.Facts) (hLossKernelIdeal : Cert.LossKernelIdeal.Facts) (hLossReferenceIdeal : Cert.LossReferenceIdeal.Facts) (hPoolMixKernel : Cert.PoolMixKernel.Facts) (hPoolMixKernelIdeal : Cert.PoolMixKernelIdeal.Facts) (hPoolMixReferenceIdeal : Cert.PoolMixReferenceIdeal.Facts) (hPoolWindowKernel : Cert.PoolWindowKernel.Facts) (hPoolWindowKernelIdeal : Cert.PoolWindowKernelIdeal.Facts) (hPoolWindowReferenceIdeal : Cert.PoolWindowReferenceIdeal.Facts) (hFfnGateKernel : Cert.FfnGateKernel.Facts) (hFfnGateKernelIdeal : Cert.FfnGateKernelIdeal.Facts) (hFfnGateReferenceIdeal : Cert.FfnGateReferenceIdeal.Facts) (hFfnDhKernel : Cert.FfnDhKernel.Facts) (hFfnDhKernelIdeal : Cert.FfnDhKernelIdeal.Facts) (hFfnDhReferenceIdeal : Cert.FfnDhReferenceIdeal.Facts) (hProjDxKernel : Cert.ProjDxKernel.Facts) (hProjDxKernelIdeal : Cert.ProjDxKernelIdeal.Facts) (hProjDxReferenceIdeal : Cert.ProjDxReferenceIdeal.Facts) (hStickBwdKernel : Cert.StickBwdKernel.Facts) (hStickBwdKernelIdeal : Cert.StickBwdKernelIdeal.Facts) (hStickBwdReferenceIdeal : Cert.StickBwdReferenceIdeal.Facts) (hNormFwdKernel : Cert.NormFwdKernel.Facts) (hNormFwdKernelIdeal : Cert.NormFwdKernelIdeal.Facts) (hNormFwdReferenceIdeal : Cert.NormFwdReferenceIdeal.Facts) (hGateFwdKernel : Cert.GateFwdKernel.Facts) (hGateFwdKernelIdeal : Cert.GateFwdKernelIdeal.Facts) (hGateFwdReferenceIdeal : Cert.GateFwdReferenceIdeal.Facts) (hPoolFwdKernel : Cert.PoolFwdKernel.Facts) (hPoolFwdKernelIdeal : Cert.PoolFwdKernelIdeal.Facts) (hPoolFwdReferenceIdeal : Cert.PoolFwdReferenceIdeal.Facts) (hPre_loss_finite : Cert.Pre_loss_finite.Facts) (hPre_pool_window_finite : Cert.Pre_pool_window_finite.Facts) (hPre_ffn_gate_finite : Cert.Pre_ffn_gate_finite.Facts) (hPre_ffn_dh_finite : Cert.Pre_ffn_dh_finite.Facts) (hPre_proj_dx_finite : Cert.Pre_proj_dx_finite.Facts) (hPre_stick_bwd_finite : Cert.Pre_stick_bwd_finite.Facts) (hPre_gate_fwd_finite : Cert.Pre_gate_fwd_finite.Facts) (hPre_pool_fwd_finite : Cert.Pre_pool_fwd_finite.Facts),
    quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_PoolMixKernel (hPoolMixKernel := hPoolMixKernel)
    ∧ quiescent_PoolMixKernelIdeal (hPoolMixKernelIdeal := hPoolMixKernelIdeal)
    ∧ quiescent_PoolMixReferenceIdeal (hPoolMixReferenceIdeal := hPoolMixReferenceIdeal)
    ∧ quiescent_PoolWindowKernel (hPoolWindowKernel := hPoolWindowKernel)
    ∧ quiescent_PoolWindowKernelIdeal (hPoolWindowKernelIdeal := hPoolWindowKernelIdeal)
    ∧ quiescent_PoolWindowKernelIdeal_pre_pool_window_finite (hPoolWindowKernelIdeal := hPoolWindowKernelIdeal) (hPre_pool_window_finite := hPre_pool_window_finite)
    ∧ quiescent_PoolWindowReferenceIdeal (hPoolWindowReferenceIdeal := hPoolWindowReferenceIdeal)
    ∧ quiescent_PoolWindowReferenceIdeal_pre_pool_window_finite (hPoolWindowReferenceIdeal := hPoolWindowReferenceIdeal) (hPre_pool_window_finite := hPre_pool_window_finite)
    ∧ quiescent_FfnGateKernel (hFfnGateKernel := hFfnGateKernel)
    ∧ quiescent_FfnGateKernelIdeal (hFfnGateKernelIdeal := hFfnGateKernelIdeal)
    ∧ quiescent_FfnGateKernelIdeal_pre_ffn_gate_finite (hFfnGateKernelIdeal := hFfnGateKernelIdeal) (hPre_ffn_gate_finite := hPre_ffn_gate_finite)
    ∧ quiescent_FfnGateReferenceIdeal (hFfnGateReferenceIdeal := hFfnGateReferenceIdeal)
    ∧ quiescent_FfnGateReferenceIdeal_pre_ffn_gate_finite (hFfnGateReferenceIdeal := hFfnGateReferenceIdeal) (hPre_ffn_gate_finite := hPre_ffn_gate_finite)
    ∧ quiescent_FfnDhKernel (hFfnDhKernel := hFfnDhKernel)
    ∧ quiescent_FfnDhKernelIdeal (hFfnDhKernelIdeal := hFfnDhKernelIdeal)
    ∧ quiescent_FfnDhKernelIdeal_pre_ffn_dh_finite (hFfnDhKernelIdeal := hFfnDhKernelIdeal) (hPre_ffn_dh_finite := hPre_ffn_dh_finite)
    ∧ quiescent_FfnDhReferenceIdeal (hFfnDhReferenceIdeal := hFfnDhReferenceIdeal)
    ∧ quiescent_FfnDhReferenceIdeal_pre_ffn_dh_finite (hFfnDhReferenceIdeal := hFfnDhReferenceIdeal) (hPre_ffn_dh_finite := hPre_ffn_dh_finite)
    ∧ quiescent_ProjDxKernel (hProjDxKernel := hProjDxKernel)
    ∧ quiescent_ProjDxKernelIdeal (hProjDxKernelIdeal := hProjDxKernelIdeal)
    ∧ quiescent_ProjDxKernelIdeal_pre_proj_dx_finite (hProjDxKernelIdeal := hProjDxKernelIdeal) (hPre_proj_dx_finite := hPre_proj_dx_finite)
    ∧ quiescent_ProjDxReferenceIdeal (hProjDxReferenceIdeal := hProjDxReferenceIdeal)
    ∧ quiescent_ProjDxReferenceIdeal_pre_proj_dx_finite (hProjDxReferenceIdeal := hProjDxReferenceIdeal) (hPre_proj_dx_finite := hPre_proj_dx_finite)
    ∧ quiescent_StickBwdKernel (hStickBwdKernel := hStickBwdKernel)
    ∧ quiescent_StickBwdKernelIdeal (hStickBwdKernelIdeal := hStickBwdKernelIdeal)
    ∧ quiescent_StickBwdKernelIdeal_pre_stick_bwd_finite (hStickBwdKernelIdeal := hStickBwdKernelIdeal) (hPre_stick_bwd_finite := hPre_stick_bwd_finite)
    ∧ quiescent_StickBwdReferenceIdeal (hStickBwdReferenceIdeal := hStickBwdReferenceIdeal)
    ∧ quiescent_StickBwdReferenceIdeal_pre_stick_bwd_finite (hStickBwdReferenceIdeal := hStickBwdReferenceIdeal) (hPre_stick_bwd_finite := hPre_stick_bwd_finite)
    ∧ quiescent_NormFwdKernel (hNormFwdKernel := hNormFwdKernel)
    ∧ quiescent_NormFwdKernelIdeal (hNormFwdKernelIdeal := hNormFwdKernelIdeal)
    ∧ quiescent_NormFwdReferenceIdeal (hNormFwdReferenceIdeal := hNormFwdReferenceIdeal)
    ∧ quiescent_GateFwdKernel (hGateFwdKernel := hGateFwdKernel)
    ∧ quiescent_GateFwdKernelIdeal (hGateFwdKernelIdeal := hGateFwdKernelIdeal)
    ∧ quiescent_GateFwdKernelIdeal_pre_gate_fwd_finite (hGateFwdKernelIdeal := hGateFwdKernelIdeal) (hPre_gate_fwd_finite := hPre_gate_fwd_finite)
    ∧ quiescent_GateFwdReferenceIdeal (hGateFwdReferenceIdeal := hGateFwdReferenceIdeal)
    ∧ quiescent_GateFwdReferenceIdeal_pre_gate_fwd_finite (hGateFwdReferenceIdeal := hGateFwdReferenceIdeal) (hPre_gate_fwd_finite := hPre_gate_fwd_finite)
    ∧ quiescent_PoolFwdKernel (hPoolFwdKernel := hPoolFwdKernel)
    ∧ quiescent_PoolFwdKernelIdeal (hPoolFwdKernelIdeal := hPoolFwdKernelIdeal)
    ∧ quiescent_PoolFwdKernelIdeal_pre_pool_fwd_finite (hPoolFwdKernelIdeal := hPoolFwdKernelIdeal) (hPre_pool_fwd_finite := hPre_pool_fwd_finite)
    ∧ quiescent_PoolFwdReferenceIdeal (hPoolFwdReferenceIdeal := hPoolFwdReferenceIdeal)
    ∧ quiescent_PoolFwdReferenceIdeal_pre_pool_fwd_finite (hPoolFwdReferenceIdeal := hPoolFwdReferenceIdeal) (hPre_pool_fwd_finite := hPre_pool_fwd_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_PoolMixKernel_PoolMixKernelIdeal
    ∧ algebraic_PoolMixKernelIdeal_PoolMixReferenceIdeal (hPoolMixKernelIdeal := hPoolMixKernelIdeal) (hPoolMixReferenceIdeal := hPoolMixReferenceIdeal)
    ∧ preserves_PoolWindowKernel_PoolWindowKernelIdeal
    ∧ algebraic_PoolWindowKernelIdeal_PoolWindowReferenceIdeal_pre_pool_window_finite (hPoolWindowKernelIdeal := hPoolWindowKernelIdeal) (hPoolWindowReferenceIdeal := hPoolWindowReferenceIdeal) (hPre_pool_window_finite := hPre_pool_window_finite)
    ∧ preserves_FfnGateKernel_FfnGateKernelIdeal
    ∧ algebraic_FfnGateKernelIdeal_FfnGateReferenceIdeal_pre_ffn_gate_finite (hFfnGateKernelIdeal := hFfnGateKernelIdeal) (hFfnGateReferenceIdeal := hFfnGateReferenceIdeal) (hPre_ffn_gate_finite := hPre_ffn_gate_finite)
    ∧ preserves_FfnDhKernel_FfnDhKernelIdeal
    ∧ algebraic_FfnDhKernelIdeal_FfnDhReferenceIdeal_pre_ffn_dh_finite (hFfnDhKernelIdeal := hFfnDhKernelIdeal) (hFfnDhReferenceIdeal := hFfnDhReferenceIdeal) (hPre_ffn_dh_finite := hPre_ffn_dh_finite)
    ∧ preserves_ProjDxKernel_ProjDxKernelIdeal
    ∧ algebraic_ProjDxKernelIdeal_ProjDxReferenceIdeal_pre_proj_dx_finite (hProjDxKernelIdeal := hProjDxKernelIdeal) (hProjDxReferenceIdeal := hProjDxReferenceIdeal) (hPre_proj_dx_finite := hPre_proj_dx_finite)
    ∧ preserves_StickBwdKernel_StickBwdKernelIdeal
    ∧ algebraic_StickBwdKernelIdeal_StickBwdReferenceIdeal_pre_stick_bwd_finite (hStickBwdKernelIdeal := hStickBwdKernelIdeal) (hStickBwdReferenceIdeal := hStickBwdReferenceIdeal) (hPre_stick_bwd_finite := hPre_stick_bwd_finite)
    ∧ preserves_NormFwdKernel_NormFwdKernelIdeal
    ∧ algebraic_NormFwdKernelIdeal_NormFwdReferenceIdeal (hNormFwdKernelIdeal := hNormFwdKernelIdeal) (hNormFwdReferenceIdeal := hNormFwdReferenceIdeal)
    ∧ preserves_GateFwdKernel_GateFwdKernelIdeal
    ∧ algebraic_GateFwdKernelIdeal_GateFwdReferenceIdeal_pre_gate_fwd_finite (hGateFwdKernelIdeal := hGateFwdKernelIdeal) (hGateFwdReferenceIdeal := hGateFwdReferenceIdeal) (hPre_gate_fwd_finite := hPre_gate_fwd_finite)
    ∧ preserves_PoolFwdKernel_PoolFwdKernelIdeal
    ∧ algebraic_PoolFwdKernelIdeal_PoolFwdReferenceIdeal_pre_pool_fwd_finite (hPoolFwdKernelIdeal := hPoolFwdKernelIdeal) (hPoolFwdReferenceIdeal := hPoolFwdReferenceIdeal) (hPre_pool_fwd_finite := hPre_pool_fwd_finite)
-- ==== Pre_ffn_dh_finite.lean ====
abbrev S8192x2048 : Shape := ⟨2, ![8192, 2048]⟩
abbrev S2048 : Shape := ⟨1, ![2048]⟩
abbrev S2048x5632 : Shape := ⟨2, ![2048, 5632]⟩
abbrev S8192x5632 : Shape := ⟨2, ![8192, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x5632 : S_.BroadcastsInDim S2048x5632 (![] : Fin 0 → Fin S2048x5632.rank)
  reducesTo_S2048x5632_S_d0_1 : S2048x5632.ReducesTo [0, 1] S_
  bcast_S_S8192x5632 : S_.BroadcastsInDim S8192x5632 (![] : Fin 0 → Fin S8192x5632.rank)
  reducesTo_S8192x5632_S_d0_1 : S8192x5632.ReducesTo [0, 1] S_

variable [Facts]

def fn_part1 {F : FTy → Type} [FloatOps F] (main_arg4 : FVec F S8192x5632 .f32) (main_arg5 : FVec F S8192x5632 .f32) (main_arg6 : FVec F S8192x2048 .f32) (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : IVec S_ 1 := andi main_v13 main_v17
  let main_v19 : FVec F S8192x5632 .f32 := Host.absf main_arg4
  let main_cst_6 : FVec F S_ .f32 := constant S_ .f32 0x7F800000#32
  let main_v20 : FVec F S8192x5632 .f32 := broadcastInDim S8192x5632 ![] bcast_S_S8192x5632 main_cst_6
  let main_v21 : IVec S8192x5632 1 := cmpf .olt main_v19 main_v20
  let main_c_7 : IVec S_ 1 := constantI S_ 1 1#1
  let main_v22 : IVec S_ 1 := (fun x v => Host.reduce IntOp.andi x v reducesTo_S8192x5632_S_d0_1 h_S_) main_v21 main_c_7
  let main_v23 : IVec S_ 1 := andi main_v18 main_v22
  let main_v24 : FVec F S8192x5632 .f32 := Host.absf main_arg5
  let main_cst_8 : FVec F S_ .f32 := constant S_ .f32 0x7F800000#32
  let main_v25 : FVec F S8192x5632 .f32 := broadcastInDim S8192x5632 ![] bcast_S_S8192x5632 main_cst_8
  let main_v26 : IVec S8192x5632 1 := cmpf .olt main_v24 main_v25
  let main_c_9 : IVec S_ 1 := constantI S_ 1 1#1
  let main_v27 : IVec S_ 1 := (fun x v => Host.reduce IntOp.andi x v reducesTo_S8192x5632_S_d0_1 h_S_) main_v26 main_c_9
  let main_v28 : IVec S_ 1 := andi main_v23 main_v27
  let main_v29 : FVec F S8192x2048 .f32 := Host.absf main_arg6
  let main_cst_10 : FVec F S_ .f32 := constant S_ .f32 0x7F800000#32
  let main_v30 : FVec F S8192x2048 .f32 := broadcastInDim S8192x2048 ![] bcast_S_S8192x2048 main_cst_10
  let main_v31 : IVec S8192x2048 1 := cmpf .olt main_v29 main_v30
  let main_c_11 : IVec S_ 1 := constantI S_ 1 1#1
  let main_v32 : IVec S_ 1 := (fun x v => Host.reduce IntOp.andi x v reducesTo_S8192x2048_S_d0_1 h_S_) main_v31 main_c_11
  let main_v33 : IVec S_ 1 := andi main_v28 main_v32
  main_v33

def fn {F : FTy → Type} [FloatOps F] (main_arg0 : FVec F S8192x2048 .f32) (main_arg1 : FVec F S2048 .f32) (main_arg2 : FVec F S2048x5632 .f32) (main_arg3 : FVec F S2048x5632 .f32) (main_arg4 : FVec F S8192x5632 .f32) (main_arg5 : FVec F S8192x5632 .f32) (main_arg6 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  let main_v14 : FVec F S2048x5632 .f32 := Host.absf main_arg3
  let main_cst_4 : FVec F S_ .f32 := constant S_ .f32 0x7F800000#32
  let main_v15 : FVec F S2048x5632 .f32 := broadcastInDim S2048x5632 ![] bcast_S_S2048x5632 main_cst_4
  let main_v16 : IVec S2048x5632 1 := cmpf .olt main_v14 main_v15
  fn_part1 (F := F) main_arg4 main_arg5 main_arg6 main_v13 main_v16
-- ==== Pre_ffn_gate_finite.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x5632 : S_.BroadcastsInDim S2048x5632 (![] : Fin 0 → Fin S2048x5632.rank)
  reducesTo_S2048x5632_S_d0_1 : S2048x5632.ReducesTo [0, 1] S_
  bcast_S_S5632x2048 : S_.BroadcastsInDim S5632x2048 (![] : Fin 0 → Fin S5632x2048.rank)
  reducesTo_S5632x2048_S_d0_1 : S5632x2048.ReducesTo [0, 1] S_

variable [Facts]

def fn_part1 {F : FTy → Type} [FloatOps F] (main_arg4 : FVec F S5632x2048 .f32) (main_arg5 : FVec F S8192x2048 .f32) (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : IVec S_ 1 := andi main_v13 main_v17
  let main_v19 : FVec F S5632x2048 .f32 := Host.absf main_arg4
  let main_cst_6 : FVec F S_ .f32 := constant S_ .f32 0x7F800000#32
  let main_v20 : FVec F S5632x2048 .f32 := broadcastInDim S5632x2048 ![] bcast_S_S5632x2048 main_cst_6
  let main_v21 : IVec S5632x2048 1 := cmpf .olt main_v19 main_v20
  let main_c_7 : IVec S_ 1 := constantI S_ 1 1#1
  let main_v22 : IVec S_ 1 := (fun x v => Host.reduce IntOp.andi x v reducesTo_S5632x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  main_v28

def fn {F : FTy → Type} [FloatOps F] (main_arg0 : FVec F S8192x2048 .f32) (main_arg1 : FVec F S2048 .f32) (main_arg2 : FVec F S2048x5632 .f32) (main_arg3 : FVec F S2048x5632 .f32) (main_arg4 : FVec F S5632x2048 .f32) (main_arg5 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  let main_v14 : FVec F S2048x5632 .f32 := Host.absf main_arg3
  let main_cst_4 : FVec F S_ .f32 := constant S_ .f32 0x7F800000#32
  let main_v15 : FVec F S2048x5632 .f32 := broadcastInDim S2048x5632 ![] bcast_S_S2048x5632 main_cst_4
  let main_v16 : IVec S2048x5632 1 := cmpf .olt main_v14 main_v15
  fn_part1 (F := F) main_arg4 main_arg5 main_v13 main_v16
-- ==== Pre_gate_fwd_finite.lean ====
abbrev S8192x2048 : Shape := ⟨2, ![8192, 2048]⟩
abbrev S2048 : Shape := ⟨1, ![2048]⟩
abbrev S2048x5632 : Shape := ⟨2, ![2048, 5632]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x5632 : S_.BroadcastsInDim S2048x5632 (![] : Fin 0 → Fin S2048x5632.rank)
  reducesTo_S2048x5632_S_d0_1 : S2048x5632.ReducesTo [0, 1] S_

variable [Facts]

def fn_part1 {F : FTy → Type} [FloatOps F] (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : IVec S_ 1 := andi main_v13 main_v17
  main_v18

def fn {F : FTy → Type} [FloatOps F] (main_arg0 : FVec F S8192x2048 .f32) (main_arg1 : FVec F S2048 .f32) (main_arg2 : FVec F S2048x5632 .f32) (main_arg3 : FVec F S2048x5632 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x5632 .f32 := Host.absf main_arg2
  let main_cst_2 : FVec F S_ .f32 := constant S_ .f32 0x7F800000#32
  let main_v10 : FVec F S2048x5632 .f32 := broadcastInDim S2048x5632 ![] bcast_S_S2048x5632 main_cst_2
  let main_v11 : IVec S2048x5632 1 := cmpf .olt main_v9 main_v10
  let main_c_3 : IVec S_ 1 := constantI S_ 1 1#1
  let main_v12 : IVec S_ 1 := (fun x v => Host.reduce IntOp.andi x v reducesTo_S2048x5632_S_d0_1 h_S_) main_v11 main_c_3
  let main_v13 : IVec S_ 1 := andi main_v8 main_v12
  let main_v14 : FVec F S2048x5632 .f32 := Host.absf main_arg3
  let main_cst_4 : FVec F S_ .f32 := constant S_ .f32 0x7F800000#32
  let main_v15 : FVec F S2048x5632 .f32 := broadcastInDim S2048x5632 ![] bcast_S_S2048x5632 main_cst_4
  let main_v16 : IVec S2048x5632 1 := cmpf .olt main_v14 main_v15
  fn_part1 (F := F) main_v13 main_v16
-- ==== Pre_loss_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S8192x2048 .f32) (main_arg1 : FVec F S2048 .f32) (main_arg2 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  main_v13
-- ==== Pre_pool_fwd_finite.lean ====
abbrev S8192x2048 : Shape := ⟨2, ![8192, 2048]⟩
abbrev S4x512x512 : Shape := ⟨3, ![4, 512, 512]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) (main_arg1 : FVec F S8192x2048 .f32) (main_arg2 : FVec F S4x512x512 .f32) (main_arg3 : FVec F S2048 .f32) (main_arg4 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_pool_window_finite.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S8192x2048 .f32) (main_arg1 : FVec F S2048 .f32) (main_arg2 : FVec F S8192x2048 .f32) (main_arg3 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Pre_proj_dx_finite.lean ====
abbrev S8192x2048 : Shape := ⟨2, ![8192, 2048]⟩
abbrev S2048 : Shape := ⟨1, ![2048]⟩
abbrev S2048x7168 : Shape := ⟨2, ![2048, 7168]⟩
abbrev S8192x7168 : Shape := ⟨2, ![8192, 7168]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S2048x7168 : S_.BroadcastsInDim S2048x7168 (![] : Fin 0 → Fin S2048x7168.rank)
  reducesTo_S2048x7168_S_d0_1 : S2048x7168.ReducesTo [0, 1] S_
  bcast_S_S8192x7168 : S_.BroadcastsInDim S8192x7168 (![] : Fin 0 → Fin S8192x7168.rank)
  reducesTo_S8192x7168_S_d0_1 : S8192x7168.ReducesTo [0, 1] S_

variable [Facts]

def fn_part1 {F : FTy → Type} [FloatOps F] (main_arg4 : FVec F S8192x2048 .f32) (main_v13 : IVec S_ 1) (main_v16 : IVec S8192x7168 1) : IVec S_ 1 :=
  let main_c_5 : IVec S_ 1 := constantI S_ 1 1#1
  let main_v17 : IVec S_ 1 := (fun x v => Host.reduce IntOp.andi x v reducesTo_S8192x7168_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  main_v23

def fn {F : FTy → Type} [FloatOps F] (main_arg0 : FVec F S8192x2048 .f32) (main_arg1 : FVec F S2048 .f32) (main_arg2 : FVec F S2048x7168 .f32) (main_arg3 : FVec F S8192x7168 .f32) (main_arg4 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x7168 .f32 := Host.absf main_arg2
  let main_cst_2 : FVec F S_ .f32 := constant S_ .f32 0x7F800000#32
  let main_v10 : FVec F S2048x7168 .f32 := broadcastInDim S2048x7168 ![] bcast_S_S2048x7168 main_cst_2
  let main_v11 : IVec S2048x7168 1 := cmpf .olt main_v9 main_v10
  let main_c_3 : IVec S_ 1 := constantI S_ 1 1#1
  let main_v12 : IVec S_ 1 := (fun x v => Host.reduce IntOp.andi x v reducesTo_S2048x7168_S_d0_1 h_S_) main_v11 main_c_3
  let main_v13 : IVec S_ 1 := andi main_v8 main_v12
  let main_v14 : FVec F S8192x7168 .f32 := Host.absf main_arg3
  let main_cst_4 : FVec F S_ .f32 := constant S_ .f32 0x7F800000#32
  let main_v15 : FVec F S8192x7168 .f32 := broadcastInDim S8192x7168 ![] bcast_S_S8192x7168 main_cst_4
  let main_v16 : IVec S8192x7168 1 := cmpf .olt main_v14 main_v15
  fn_part1 (F := F) main_arg4 main_v13 main_v16
-- ==== Pre_stick_bwd_finite.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S8192x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== LossKernel.lean ====
abbrev S8192x2048 : Shape := ⟨2, ![8192, 2048]⟩
abbrev S2048 : Shape := ⟨1, ![2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8x128, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S8x128, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_21 : BitVec 32 := 0#32
  let v51 : BitVec 1 := Scalar.cmpi .ne v50 c0_i32_21
  v51

def k0_cond2 (i : grid0.Coords) : BitVec 1 :=
  let arg0 : BitVec 32 := BitVec.ofNat 32 (i 0).val
  let c0_i32_22 : BitVec 32 := 0#32
  let v52 : BitVec 1 := Scalar.cmpi .sgt arg0 c0_i32_22
  let v53 : BitVec 32 := Scalar.extui v52
  let c0_i32_23 : BitVec 32 := 0#32
  let v54 : BitVec 1 := Scalar.cmpi .ne v53 c0_i32_23
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8x128 : Shape := ⟨2, ![8, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8x128, .f32⟩
  | .hbm, ⟨72, _⟩ => ⟨S8192x2048, .bf16⟩
  | .hbm, ⟨73, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== PoolMixKernel.lean ====
abbrev S8192x2048 : Shape := ⟨2, ![8192, 2048]⟩
abbrev S2048 : Shape := ⟨1, ![2048]⟩
abbrev S4x512x512 : Shape := ⟨3, ![4, 512, 512]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x8192x2048 : Shape := ⟨3, ![1, 8192, 2048]⟩
abbrev S1x8192x4x512 : Shape := ⟨4, ![1, 8192, 4, 512]⟩
abbrev S1x1x4x512 : Shape := ⟨4, ![1, 1, 4, 512]⟩
abbrev S1x8193x4x512 : Shape := ⟨4, ![1, 8193, 4, 512]⟩
abbrev S1x8192x1x512 : Shape := ⟨4, ![1, 8192, 1, 512]⟩
abbrev S1x8192x512 : Shape := ⟨3, ![1, 8192, 512]⟩
abbrev S8192x2 : Shape := ⟨2, ![8192, 2]⟩
abbrev S1x8192x1 : Shape := ⟨3, ![1, 8192, 1]⟩
abbrev S512x2048 : Shape := ⟨2, ![512, 2048]⟩
abbrev S512x512 : Shape := ⟨2, ![512, 512]⟩
abbrev S1x512 : Shape := ⟨2, ![1, 512]⟩
abbrev S1x512x512 : Shape := ⟨3, ![1, 512, 512]⟩
abbrev S512 : Shape := ⟨1, ![512]⟩

abbrev nBuf : Space → Nat
  | .hbm => 198
  | .vmem => 11
  | .smem => 0
  | _ => 0

abbrev hbmTy0_0 (i : Nat) : BufTy := match i % 128 with
  | 0 => ⟨S8192x2048, .f32⟩
  | 1 => ⟨S2048, .f32⟩
  | 2 => ⟨S4x512x512, .f32⟩
  | 3 => ⟨S2048, .f32⟩
  | 4 => ⟨S8192x2048, .f32⟩
  | 5 => ⟨S8192x2048, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x2048, .f32⟩
  | 17 => ⟨S8192x2048, .f32⟩
  | 18 => ⟨S1x2048, .f32⟩
  | 19 => ⟨S8192x2048, .f32⟩
  | 20 => ⟨S8192x2048, .f32⟩
  | 21 => ⟨S1x8192x2048, .f32⟩
  | 22 => ⟨S1x8192x4x512, .f32⟩
  | 23 => ⟨S_, .f32⟩
  | 24 => ⟨S1x1x4x512, .f32⟩
  | 25 => ⟨S_, .f32⟩
  | 26 => ⟨S_, .f32⟩
  | 27 => ⟨S1x8192x4x512, .f32⟩
  | 28 => ⟨S1x8193x4x512, .f32⟩
  | 29 => ⟨S8192, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S1x8192x1x512, .f32⟩
  | 40 => ⟨S1x8192x512, .f32⟩
  | 41 => ⟨S_, .i32⟩
  | 42 => ⟨S8192, .i32⟩
  | 43 => ⟨S8192, .i1⟩
  | 44 => ⟨S_, .i32⟩
  | 45 => ⟨S8192, .i32⟩
  | 46 => ⟨S8192, .i32⟩
  | 47 => ⟨S8192, .i32⟩
  | 48 => ⟨S_, .i32⟩
  | 49 => ⟨S8192, .i32⟩
  | 50 => ⟨S8192, .i32⟩
  | 51 => ⟨S8192x1, .i32⟩
  | 52 => ⟨S8192x1, .i32⟩
  | 53 => ⟨S8192x2, .i32⟩
  | 54 => ⟨S1x8192x512, .f32⟩
  | 55 => ⟨S1x8192x512, .f32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .f32⟩
  | 63 => ⟨S1x8192x1, .f32⟩
  | 64 => ⟨S1x8192x512, .f32⟩
  | 65 => ⟨S1x8192x512, .f32⟩
  | 66 => ⟨S1x8192x1x512, .f32⟩
  | 67 => ⟨S1x8192x512, .f32⟩
  | 68 => ⟨S1x8192x512, .f32⟩
  | 69 => ⟨S_, .i32⟩
  | 70 => ⟨S8192, .i32⟩
  | 71 => ⟨S8192, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S1x8192x1x512, .f32⟩
  | 79 => ⟨S1x8192x512, .f32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S_, .i32⟩
  | 88 => ⟨S8192, .i32⟩
  | 89 => ⟨S8192, .i32⟩
  | 90 => ⟨S8192x1, .i32⟩
  | 91 => ⟨S8192x1, .i32⟩
  | 92 => ⟨S8192x2, .i32⟩
  | 93 => ⟨S1x8192x512, .f32⟩
  | 94 => ⟨S1x8192x512, .f32⟩
  | 95 => ⟨S_, .i32⟩
  | 96 => ⟨S8192, .i32⟩
  | 97 => ⟨S8192, .i32⟩
  | 98 => ⟨S_, .i32⟩
  | 99 => ⟨S8192, .i32⟩
  | 100 => ⟨S8192, .i32⟩
  | 101 => ⟨S8192, .f32⟩
  | 102 => ⟨S1x8192x1, .f32⟩
  | 103 => ⟨S1x8192x512, .f32⟩
  | 104 => ⟨S1x8192x512, .f32⟩
  | 105 => ⟨S1x8192x1x512, .f32⟩
  | 106 => ⟨S1x8192x512, .f32⟩
  | 107 => ⟨S1x8192x512, .f32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S_, .i32⟩
  | 115 => ⟨S8192, .i32⟩
  | 116 => ⟨S8192, .i32⟩
  | 117 => ⟨S1x8192x1x512, .f32⟩
  | 118 => ⟨S1x8192x512, .f32⟩
  | 119 => ⟨S_, .i32⟩
  | 120 => ⟨S8192, .i32⟩
  | 121 => ⟨S8192, .i1⟩
  | 122 => ⟨S_, .i32⟩
  | 123 => ⟨S8192, .i32⟩
  | 124 => ⟨S8192, .i32⟩
  | 125 => ⟨S8192, .i32⟩
  | 126 => ⟨S_, .i32⟩
  | 127 => ⟨S8192, .i32⟩
  | _ => ⟨S8192x2048, .f32⟩

abbrev hbmTy0_1 (i : Nat) : BufTy := match i % 128 with
  | 0 => ⟨S8192, .i32⟩
  | 1 => ⟨S8192x1, .i32⟩
  | 2 => ⟨S8192x1, .i32⟩
  | 3 => ⟨S8192x2, .i32⟩
  | 4 => ⟨S1x8192x512, .f32⟩
  | 5 => ⟨S1x8192x512, .f32⟩
  | 6 => ⟨S_, .i32⟩
  | 7 => ⟨S8192, .i32⟩
  | 8 => ⟨S8192, .i32⟩
  | 9 => ⟨S_, .i32⟩
  | 10 => ⟨S8192, .i32⟩
  | 11 => ⟨S8192, .i32⟩
  | 12 => ⟨S8192, .f32⟩
  | 13 => ⟨S1x8192x1, .f32⟩
  | 14 => ⟨S1x8192x512, .f32⟩
  | 15 => ⟨S1x8192x512, .f32⟩
  | 16 => ⟨S1x8192x1x512, .f32⟩
  | 17 => ⟨S1x8192x512, .f32⟩
  | 18 => ⟨S1x8192x512, .f32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S1x8192x1x512, .f32⟩
  | 29 => ⟨S1x8192x512, .f32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S_, .i32⟩
  | 38 => ⟨S8192, .i32⟩
  | 39 => ⟨S8192, .i32⟩
  | 40 => ⟨S8192x1, .i32⟩
  | 41 => ⟨S8192x1, .i32⟩
  | 42 => ⟨S8192x2, .i32⟩
  | 43 => ⟨S1x8192x512, .f32⟩
  | 44 => ⟨S1x8192x512, .f32⟩
  | 45 => ⟨S_, .i32⟩
  | 46 => ⟨S8192, .i32⟩
  | 47 => ⟨S8192, .i32⟩
  | 48 => ⟨S_, .i32⟩
  | 49 => ⟨S8192, .i32⟩
  | 50 => ⟨S8192, .i32⟩
  | 51 => ⟨S8192, .f32⟩
  | 52 => ⟨S1x8192x1, .f32⟩
  | 53 => ⟨S1x8192x512, .f32⟩
  | 54 => ⟨S1x8192x512, .f32⟩
  | 55 => ⟨S1x8192x1x512, .f32⟩
  | 56 => ⟨S1x8192x512, .f32⟩
  | 57 => ⟨S1x8192x512, .f32⟩
  | 58 => ⟨S1x8192x1x512, .f32⟩
  | 59 => ⟨S1x8192x1x512, .f32⟩
  | 60 => ⟨S1x8192x1x512, .f32⟩
  | 61 => ⟨S1x8192x1x512, .f32⟩
  | 62 => ⟨S1x8192x4x512, .f32⟩
  | 63 => ⟨S8192x2048, .f32⟩
  | 64 => ⟨S8192x2048, .bf16⟩
  | 65 => ⟨S4x512x512, .bf16⟩
  | 66 => ⟨S1x2048, .f32⟩
  | 67 => ⟨S8192x2048, .bf16⟩
  | 68 => ⟨S8192x2048, .f32⟩
  | 69 => ⟨S1x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S4x512x512, .bf16⟩
  | .local _ .vmem, ⟨5, _⟩ => ⟨S1x2048, .f32⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_call0_call0_cst : Ref sig .tc := ⟨.hbm, 25, rfl⟩
abbrev main_call0_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_10 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_c_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_13 : Ref sig .tc := ⟨.hbm, 80, rfl⟩
abbrev main_v58 : Ref sig .tc := ⟨.hbm, 81, rfl⟩
abbrev main_v59 : Ref sig .tc := ⟨.hbm, 82, rfl⟩
abbrev main_c_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_16 : Ref sig .tc := ⟨.hbm, 95, rfl⟩
abbrev main_v70 : Ref sig .tc := ⟨.hbm, 96, rfl⟩
abbrev main_v71 : Ref sig .tc := ⟨.hbm, 97, rfl⟩
abbrev main_c_17 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_18 : Ref sig .tc := ⟨.hbm, 108, rfl⟩
abbrev main_v81 : Ref sig .tc := ⟨.hbm, 109, rfl⟩
abbrev main_v82 : Ref sig .tc := ⟨.hbm, 110, rfl⟩
abbrev main_c_19 : Ref sig .tc := ⟨.hbm, 111, rfl⟩
abbrev main_v83 : Ref sig .tc := ⟨.hbm, 112, rfl⟩
abbrev main_v84 : Ref sig .tc := ⟨.hbm, 113, rfl⟩
abbrev main_c_20 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_21 : Ref sig .tc := ⟨.hbm, 119, rfl⟩
abbrev main_v89 : Ref sig .tc := ⟨.hbm, 120, rfl⟩
abbrev main_v90 : Ref sig .tc := ⟨.hbm, 121, rfl⟩
abbrev main_c_22 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_23 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_24 : Ref sig .tc := ⟨.hbm, 134, rfl⟩
abbrev main_v101 : Ref sig .tc := ⟨.hbm, 135, rfl⟩
abbrev main_v102 : Ref sig .tc := ⟨.hbm, 136, rfl⟩
abbrev main_c_25 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_c_26 : Ref sig .tc := ⟨.hbm, 147, rfl⟩
abbrev main_v112 : Ref sig .tc := ⟨.hbm, 148, rfl⟩
abbrev main_v113 : Ref sig .tc := ⟨.hbm, 149, rfl⟩
abbrev main_c_27 : Ref sig .tc := ⟨.hbm, 150, rfl⟩
abbrev main_v114 : Ref sig .tc := ⟨.hbm, 151, rfl⟩
abbrev main_v115 : Ref sig .tc := ⟨.hbm, 152, rfl⟩
abbrev main_c_28 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_c_29 : Ref sig .tc := ⟨.hbm, 158, rfl⟩
abbrev main_v120 : Ref sig .tc := ⟨.hbm, 159, rfl⟩
abbrev main_v121 : Ref sig .tc := ⟨.hbm, 160, rfl⟩
abbrev main_c_30 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_c_31 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_c_32 : Ref sig .tc := ⟨.hbm, 173, rfl⟩
abbrev main_v132 : Ref sig .tc := ⟨.hbm, 174, rfl⟩
abbrev main_v133 : Ref sig .tc := ⟨.hbm, 175, rfl⟩
abbrev main_c_33 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152_0 : Ref sig .tc := ⟨.hbm, 195, rfl⟩
abbrev main_v152_1 : Ref sig .tc := ⟨.hbm, 196, rfl⟩
abbrev main_v152_2 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_68 : BitVec 32 := 0#32
  let v79 : BitVec 1 := Scalar.cmpi .ne v78 c0_i32_68
  v79

def k0_cond2 (i : grid0.Coords) : BitVec 1 :=
  let arg0 : BitVec 32 := BitVec.ofNat 32 (i 0).val
  let c0_i32_69 : BitVec 32 := 0#32
  let v80 : BitVec 1 := Scalar.cmpi .sgt arg0 c0_i32_69
  let v81 : BitVec 32 := Scalar.extui v80
  let c0_i32_70 : BitVec 32 := 0#32
  let v82 : BitVec 1 := Scalar.cmpi .ne v81 c0_i32_70
  v82

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== PoolMixReferenceIdeal.lean ====
abbrev S8192x2048 : Shape := ⟨2, ![8192, 2048]⟩
abbrev S2048 : Shape := ⟨1, ![2048]⟩
abbrev S4x512x512 : Shape := ⟨3, ![4, 512, 512]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x8192x2048 : Shape := ⟨3, ![1, 8192, 2048]⟩
abbrev S1x8192x4x512 : Shape := ⟨4, ![1, 8192, 4, 512]⟩
abbrev S1x1x4x512 : Shape := ⟨4, ![1, 1, 4, 512]⟩
abbrev S1x8193x4x512 : Shape := ⟨4, ![1, 8193, 4, 512]⟩
abbrev S1x8192x1x512 : Shape := ⟨4, ![1, 8192, 1, 512]⟩
abbrev S1x8192x512 : Shape := ⟨3, ![1, 8192, 512]⟩
abbrev S8192x2 : Shape := ⟨2, ![8192, 2]⟩
abbrev S1x8192x1 : Shape := ⟨3, ![1, 8192, 1]⟩
abbrev S4x512x1x8192 : Shape := ⟨4, ![4, 512, 1, 8192]⟩
abbrev S1x1x2048 : Shape := ⟨3, ![1, 1, 2048]⟩
abbrev S4x1x8192x512 : Shape := ⟨4, ![4, 1, 8192, 512]⟩

abbrev nBuf : Space → Nat
  | .hbm => 230
  | .vmem => 0
  | .smem => 0
  | _ => 0

abbrev hbmTy0_0 (i : Nat) : BufTy := match i % 128 with
  | 0 => ⟨S8192x2048, .f32⟩
  | 1 => ⟨S2048, .f32⟩
  | 2 => ⟨S4x512x512, .f32⟩
  | 3 => ⟨S2048, .f32⟩
  | 4 => ⟨S8192x2048, .f32⟩
  | 5 => ⟨S8192x2048, .f32⟩
  | 6 => ⟨S_, .f32⟩
  | 7 => ⟨S8192, .f32⟩
  | 8 => ⟨S8192x1, .f32⟩
  | 9 => ⟨S_, .f32⟩
  | 10 => ⟨S8192x1, .f32⟩
  | 11 => ⟨S8192x1, .f32⟩
  | 12 => ⟨S_, .f32⟩
  | 13 => ⟨S8192x1, .f32⟩
  | 14 => ⟨S8192x1, .f32⟩
  | 15 => ⟨S8192x1, .f32⟩
  | 16 => ⟨S8192x2048, .f32⟩
  | 17 => ⟨S8192x2048, .f32⟩
  | 18 => ⟨S1x2048, .f32⟩
  | 19 => ⟨S8192x2048, .f32⟩
  | 20 => ⟨S8192x2048, .f32⟩
  | 21 => ⟨S1x8192x2048, .f32⟩
  | 22 => ⟨S1x8192x4x512, .f32⟩
  | 23 => ⟨S_, .f32⟩
  | 24 => ⟨S1x1x4x512, .f32⟩
  | 25 => ⟨S_, .f32⟩
  | 26 => ⟨S_, .f32⟩
  | 27 => ⟨S1x8192x4x512, .f32⟩
  | 28 => ⟨S1x8193x4x512, .f32⟩
  | 29 => ⟨S8192, .i32⟩
  | 30 => ⟨S_, .i32⟩
  | 31 => ⟨S8192, .i32⟩
  | 32 => ⟨S8192, .i32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S1x8192x1x512, .f32⟩
  | 40 => ⟨S1x8192x512, .f32⟩
  | 41 => ⟨S_, .i32⟩
  | 42 => ⟨S8192, .i32⟩
  | 43 => ⟨S8192, .i1⟩
  | 44 => ⟨S_, .i32⟩
  | 45 => ⟨S8192, .i32⟩
  | 46 => ⟨S8192, .i32⟩
  | 47 => ⟨S8192, .i32⟩
  | 48 => ⟨S_, .i32⟩
  | 49 => ⟨S8192, .i32⟩
  | 50 => ⟨S8192, .i32⟩
  | 51 => ⟨S8192x1, .i32⟩
  | 52 => ⟨S8192x1, .i32⟩
  | 53 => ⟨S8192x2, .i32⟩
  | 54 => ⟨S1x8192x512, .f32⟩
  | 55 => ⟨S1x8192x512, .f32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S8192, .f32⟩
  | 63 => ⟨S1x8192x1, .f32⟩
  | 64 => ⟨S1x8192x512, .f32⟩
  | 65 => ⟨S1x8192x512, .f32⟩
  | 66 => ⟨S1x8192x1x512, .f32⟩
  | 67 => ⟨S1x8192x512, .f32⟩
  | 68 => ⟨S1x8192x512, .f32⟩
  | 69 => ⟨S_, .i32⟩
  | 70 => ⟨S8192, .i32⟩
  | 71 => ⟨S8192, .i32⟩
  | 72 => ⟨S_, .i32⟩
  | 73 => ⟨S8192, .i32⟩
  | 74 => ⟨S8192, .i32⟩
  | 75 => ⟨S_, .i32⟩
  | 76 => ⟨S8192, .i32⟩
  | 77 => ⟨S8192, .i32⟩
  | 78 => ⟨S1x8192x1x512, .f32⟩
  | 79 => ⟨S1x8192x512, .f32⟩
  | 80 => ⟨S_, .i32⟩
  | 81 => ⟨S8192, .i32⟩
  | 82 => ⟨S8192, .i1⟩
  | 83 => ⟨S_, .i32⟩
  | 84 => ⟨S8192, .i32⟩
  | 85 => ⟨S8192, .i32⟩
  | 86 => ⟨S8192, .i32⟩
  | 87 => ⟨S_, .i32⟩
  | 88 => ⟨S8192, .i32⟩
  | 89 => ⟨S8192, .i32⟩
  | 90 => ⟨S8192x1, .i32⟩
  | 91 => ⟨S8192x1, .i32⟩
  | 92 => ⟨S8192x2, .i32⟩
  | 93 => ⟨S1x8192x512, .f32⟩
  | 94 => ⟨S1x8192x512, .f32⟩
  | 95 => ⟨S_, .i32⟩
  | 96 => ⟨S8192, .i32⟩
  | 97 => ⟨S8192, .i32⟩
  | 98 => ⟨S_, .i32⟩
  | 99 => ⟨S8192, .i32⟩
  | 100 => ⟨S8192, .i32⟩
  | 101 => ⟨S8192, .f32⟩
  | 102 => ⟨S1x8192x1, .f32⟩
  | 103 => ⟨S1x8192x512, .f32⟩
  | 104 => ⟨S1x8192x512, .f32⟩
  | 105 => ⟨S1x8192x1x512, .f32⟩
  | 106 => ⟨S1x8192x512, .f32⟩
  | 107 => ⟨S1x8192x512, .f32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S_, .i32⟩
  | 115 => ⟨S8192, .i32⟩
  | 116 => ⟨S8192, .i32⟩
  | 117 => ⟨S1x8192x1x512, .f32⟩
  | 118 => ⟨S1x8192x512, .f32⟩
  | 119 => ⟨S_, .i32⟩
  | 120 => ⟨S8192, .i32⟩
  | 121 => ⟨S8192, .i1⟩
  | 122 => ⟨S_, .i32⟩
  | 123 => ⟨S8192, .i32⟩
  | 124 => ⟨S8192, .i32⟩
  | 125 => ⟨S8192, .i32⟩
  | 126 => ⟨S_, .i32⟩
  | 127 => ⟨S8192, .i32⟩
  | _ => ⟨S8192x2048, .f32⟩

abbrev hbmTy0_1 (i : Nat) : BufTy := match i % 128 with
  | 0 => ⟨S8192, .i32⟩
  | 1 => ⟨S8192x1, .i32⟩
  | 2 => ⟨S8192x1, .i32⟩
  | 3 => ⟨S8192x2, .i32⟩
  | 4 => ⟨S1x8192x512, .f32⟩
  | 5 => ⟨S1x8192x512, .f32⟩
  | 6 => ⟨S_, .i32⟩
  | 7 => ⟨S8192, .i32⟩
  | 8 => ⟨S8192, .i32⟩
  | 9 => ⟨S_, .i32⟩
  | 10 => ⟨S8192, .i32⟩
  | 11 => ⟨S8192, .i32⟩
  | 12 => ⟨S8192, .f32⟩
  | 13 => ⟨S1x8192x1, .f32⟩
  | 14 => ⟨S1x8192x512, .f32⟩
  | 15 => ⟨S1x8192x512, .f32⟩
  | 16 => ⟨S1x8192x1x512, .f32⟩
  | 17 => ⟨S1x8192x512, .f32⟩
  | 18 => ⟨S1x8192x512, .f32⟩
  | 19 => ⟨S_, .i32⟩
  | 20 => ⟨S8192, .i32⟩
  | 21 => ⟨S8192, .i32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S1x8192x1x512, .f32⟩
  | 29 => ⟨S1x8192x512, .f32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S_, .i32⟩
  | 38 => ⟨S8192, .i32⟩
  | 39 => ⟨S8192, .i32⟩
  | 40 => ⟨S8192x1, .i32⟩
  | 41 => ⟨S8192x1, .i32⟩
  | 42 => ⟨S8192x2, .i32⟩
  | 43 => ⟨S1x8192x512, .f32⟩
  | 44 => ⟨S1x8192x512, .f32⟩
  | 45 => ⟨S_, .i32⟩
  | 46 => ⟨S8192, .i32⟩
  | 47 => ⟨S8192, .i32⟩
  | 48 => ⟨S_, .i32⟩
  | 49 => ⟨S8192, .i32⟩
  | 50 => ⟨S8192, .i32⟩
  | 51 => ⟨S8192, .f32⟩
  | 52 => ⟨S1x8192x1, .f32⟩
  | 53 => ⟨S1x8192x512, .f32⟩
  | 54 => ⟨S1x8192x512, .f32⟩
  | 55 => ⟨S1x8192x1x512, .f32⟩
  | 56 => ⟨S1x8192x512, .f32⟩
  | 57 => ⟨S1x8192x512, .f32⟩
  | 58 => ⟨S1x8192x1x512, .f32⟩
  | 59 => ⟨S1x8192x1x512, .f32⟩
  | 60 => ⟨S1x8192x1x512, .f32⟩
  | 61 => ⟨S1x8192x1x512, .f32⟩
  | 62 => ⟨S1x8192x4x512, .f32⟩
  | 63 => ⟨S4x512x1x8192, .f32⟩
  | 64 => ⟨S1x8192x4x512, .f32⟩
  | 65 => ⟨S1x8192x2048, .f32⟩
  | 66 => ⟨S1x1x2048, .f32⟩
  | 67 => ⟨S1x8192x2048, .f32⟩
  | 68 => ⟨S1x8192x2048, .f32⟩
  | 69 => ⟨S1x8192x2048, .f32⟩
  | 70 => ⟨S1x8192x2048, .f32⟩
  | 71 => ⟨S_, .f32⟩
  | 72 => ⟨S1x2048, .f32⟩
  | 73 => ⟨S1x1x2048, .f32⟩
  | 74 => ⟨S1x8192x2048, .f32⟩
  | 75 => ⟨S1x8192x2048, .f32⟩
  | 76 => ⟨S_, .f32⟩
  | 77 => ⟨S2048, .f32⟩
  | 78 => ⟨S1x8192x4x512, .f32⟩
  | 79 => ⟨S4x512x1x8192, .f32⟩
  | 80 => ⟨S4x1x8192x512, .f32⟩
  | 81 => ⟨S1x8192x4x512, .f32⟩
  | 82 => ⟨S4x512x1x8192, .f32⟩
  | 83 => ⟨S1x8192x4x512, .f32⟩
  | 84 => ⟨S1x8192x2048, .f32⟩
  | 85 => ⟨S1x1x2048, .f32⟩
  | 86 => ⟨S1x8192x2048, .f32⟩
  | 87 => ⟨S1x8192x2048, .f32⟩
  | 88 => ⟨S1x8192x2048, .f32⟩
  | 89 => ⟨S1x8192x2048, .f32⟩
  | 90 => ⟨S_, .f32⟩
  | 91 => ⟨S1x2048, .f32⟩
  | 92 => ⟨S1x1x2048, .f32⟩
  | 93 => ⟨S1x8192x2048, .f32⟩
  | 94 => ⟨S1x8192x2048, .f32⟩
  | 95 => ⟨S_, .f32⟩
  | 96 => ⟨S2048, .f32⟩
  | 97 => ⟨S1x8192x4x512, .f32⟩
  | 98 => ⟨S8192x2048, .f32⟩
  | 99 => ⟨S8192x2048, .bf16⟩
  | 100 => ⟨S8192x2048, .f32⟩
  | 101 => ⟨S1x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_call0_call0_cst : Ref sig .tc := ⟨.hbm, 25, rfl⟩
abbrev main_call0_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_10 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_c_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_13 : Ref sig .tc := ⟨.hbm, 80, rfl⟩
abbrev main_v58 : Ref sig .tc := ⟨.hbm, 81, rfl⟩
abbrev main_v59 : Ref sig .tc := ⟨.hbm, 82, rfl⟩
abbrev main_c_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_16 : Ref sig .tc := ⟨.hbm, 95, rfl⟩
abbrev main_v70 : Ref sig .tc := ⟨.hbm, 96, rfl⟩
abbrev main_v71 : Ref sig .tc := ⟨.hbm, 97, rfl⟩
abbrev main_c_17 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_18 : Ref sig .tc := ⟨.hbm, 108, rfl⟩
abbrev main_v81 : Ref sig .tc := ⟨.hbm, 109, rfl⟩
abbrev main_v82 : Ref sig .tc := ⟨.hbm, 110, rfl⟩
abbrev main_c_19 : Ref sig .tc := ⟨.hbm, 111, rfl⟩
abbrev main_v83 : Ref sig .tc := ⟨.hbm, 112, rfl⟩
abbrev main_v84 : Ref sig .tc := ⟨.hbm, 113, rfl⟩
abbrev main_c_20 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_21 : Ref sig .tc := ⟨.hbm, 119, rfl⟩
abbrev main_v89 : Ref sig .tc := ⟨.hbm, 120, rfl⟩
abbrev main_v90 : Ref sig .tc := ⟨.hbm, 121, rfl⟩
abbrev main_c_22 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_23 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_c_24 : Ref sig .tc := ⟨.hbm, 134, rfl⟩
abbrev main_v101 : Ref sig .tc := ⟨.hbm, 135, rfl⟩
abbrev main_v102 : Ref sig .tc := ⟨.hbm, 136, rfl⟩
abbrev main_c_25 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_c_26 : Ref sig .tc := ⟨.hbm, 147, rfl⟩
abbrev main_v112 : Ref sig .tc := ⟨.hbm, 148, rfl⟩
abbrev main_v113 : Ref sig .tc := ⟨.hbm, 149, rfl⟩
abbrev main_c_27 : Ref sig .tc := ⟨.hbm, 150, rfl⟩
abbrev main_v114 : Ref sig .tc := ⟨.hbm, 151, rfl⟩
abbrev main_v115 : Ref sig .tc := ⟨.hbm, 152, rfl⟩
abbrev main_c_28 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_c_29 : Ref sig .tc := ⟨.hbm, 158, rfl⟩
abbrev main_v120 : Ref sig .tc := ⟨.hbm, 159, rfl⟩
abbrev main_v121 : Ref sig .tc := ⟨.hbm, 160, rfl⟩
abbrev main_c_30 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_c_31 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_c_32 : Ref sig .tc := ⟨.hbm, 173, rfl⟩
abbrev main_v132 : Ref sig .tc := ⟨.hbm, 174, rfl⟩
abbrev main_v133 : Ref sig .tc := ⟨.hbm, 175, rfl⟩
abbrev main_c_33 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_cst_34 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_35 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_cst_36 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_cst_37 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_v181 : Ref sig .tc := ⟨.hbm, 228, rfl⟩
abbrev main_v182 : Ref sig .tc := ⟨.hbm, 229, rfl⟩

abbrev nD : Nat := 1
abbrev τ : Topo := Topo.v7x

variable {F : FTy → Type} [FloatOps F]
-- ==== PoolWindowKernel.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S512x2048 : Shape := ⟨2, ![512, 2048]⟩
abbrev S16x2048 : Shape := ⟨2, ![16, 2048]⟩
abbrev S512x1 : Shape := ⟨2, ![512, 1]⟩
abbrev S512x512 : Shape := ⟨2, ![512, 512]⟩
abbrev S16x512 : Shape := ⟨2, ![16, 512]⟩
abbrev S16x1 : Shape := ⟨2, ![16, 1]⟩
abbrev S528x512 : Shape := ⟨2, ![528, 512]⟩
abbrev S128x1 : Shape := ⟨2, ![128, 1]⟩
abbrev S128x2048 : Shape := ⟨2, ![128, 2048]⟩
abbrev S128 : Shape := ⟨1, ![128]⟩

abbrev nBuf : Space → Nat
  | .hbm => 19
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S1x2048, .f32⟩
  | .hbm, ⟨16, _⟩ => ⟨S8192x2048, .f32⟩
  | .hbm, ⟨17, _⟩ => ⟨S8192x2048, .bf16⟩
  | .hbm, ⟨18, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S512x2048, .f32⟩
  | .local _ .vmem, ⟨5, _⟩ => ⟨S512x2048, .f32⟩
  | .local _ .vmem, ⟨6, _⟩ => ⟨S512x1, .f32⟩
  | .local _ .vmem, ⟨7, _⟩ => ⟨S512x1, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v156 : BitVec 1 := Scalar.cmpi .eq arg0 c0_i32
  let v266 : BitVec 32 := Scalar.extui v156
  let c0_i32_113 : BitVec 32 := 0#32
  let v267 : BitVec 1 := Scalar.cmpi .ne v266 c0_i32_113
  v267

def k0_cond2 (i : grid0.Coords) : BitVec 1 :=
  let arg0 : BitVec 32 := BitVec.ofNat 32 (i 0).val
  let c0_i32 : BitVec 32 := 0#32
  let v156 : BitVec 1 := Scalar.cmpi .eq arg0 c0_i32
  let v_true : BitVec 1 := 1#1
  let v268 : BitVec 1 := Scalar.xori v156 v_true
  let v269 : BitVec 32 := Scalar.extui v268
  let c0_i32_114 : BitVec 32 := 0#32
  let v270 : BitVec 1 := Scalar.cmpi .ne v269 c0_i32_114
  v270

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PoolWindowReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x8192x2048 : Shape := ⟨3, ![1, 8192, 2048]⟩
abbrev S1x8192x4x512 : Shape := ⟨4, ![1, 8192, 4, 512]⟩
abbrev S1x1x4x512 : Shape := ⟨4, ![1, 1, 4, 512]⟩
abbrev S1x8193x4x512 : Shape := ⟨4, ![1, 8193, 4, 512]⟩
abbrev S1x8192x1x512 : Shape := ⟨4, ![1, 8192, 1, 512]⟩
abbrev S1x8192x512 : Shape := ⟨3, ![1, 8192, 512]⟩
abbrev S8192x2 : Shape := ⟨2, ![8192, 2]⟩
abbrev S1x8192x1 : Shape := ⟨3, ![1, 8192, 1]⟩

abbrev nBuf : Space → Nat
  | .hbm => 305
  | .vmem => 0
  | .smem => 0
  | _ => 0

abbrev hbmTy0_0 (i : Nat) : BufTy := match i % 128 with
  | 0 => ⟨S8192x2048, .f32⟩
  | 1 => ⟨S2048, .f32⟩
  | 2 => ⟨S8192x2048, .f32⟩
  | 3 => ⟨S8192x2048, .f32⟩
  | 4 => ⟨S8192x2048, .f32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192x1, .f32⟩
  | 13 => ⟨S8192x1, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x2048, .f32⟩
  | 20 => ⟨S8192x2048, .f32⟩
  | 21 => ⟨S1x2048, .f32⟩
  | 22 => ⟨S8192x2048, .f32⟩
  | 23 => ⟨S8192x2048, .f32⟩
  | 24 => ⟨S1x8192x2048, .f32⟩
  | 25 => ⟨S1x8192x4x512, .f32⟩
  | 26 => ⟨S_, .f32⟩
  | 27 => ⟨S1x1x4x512, .f32⟩
  | 28 => ⟨S_, .f32⟩
  | 29 => ⟨S_, .f32⟩
  | 30 => ⟨S1x8192x4x512, .f32⟩
  | 31 => ⟨S1x8193x4x512, .f32⟩
  | 32 => ⟨S_, .f32⟩
  | 33 => ⟨S1x1x4x512, .f32⟩
  | 34 => ⟨S8192, .i32⟩
  | 35 => ⟨S_, .i32⟩
  | 36 => ⟨S8192, .i32⟩
  | 37 => ⟨S8192, .i32⟩
  | 38 => ⟨S_, .i32⟩
  | 39 => ⟨S8192, .i32⟩
  | 40 => ⟨S8192, .i32⟩
  | 41 => ⟨S_, .i32⟩
  | 42 => ⟨S8192, .i32⟩
  | 43 => ⟨S8192, .i32⟩
  | 44 => ⟨S1x8192x1x512, .f32⟩
  | 45 => ⟨S1x8192x512, .f32⟩
  | 46 => ⟨S_, .i32⟩
  | 47 => ⟨S8192, .i32⟩
  | 48 => ⟨S8192, .i1⟩
  | 49 => ⟨S_, .i32⟩
  | 50 => ⟨S8192, .i32⟩
  | 51 => ⟨S8192, .i32⟩
  | 52 => ⟨S8192, .i32⟩
  | 53 => ⟨S_, .i32⟩
  | 54 => ⟨S8192, .i32⟩
  | 55 => ⟨S8192, .i32⟩
  | 56 => ⟨S8192x1, .i32⟩
  | 57 => ⟨S8192x1, .i32⟩
  | 58 => ⟨S8192x2, .i32⟩
  | 59 => ⟨S1x8192x512, .f32⟩
  | 60 => ⟨S1x8192x512, .f32⟩
  | 61 => ⟨S_, .i32⟩
  | 62 => ⟨S8192, .i32⟩
  | 63 => ⟨S8192, .i32⟩
  | 64 => ⟨S_, .i32⟩
  | 65 => ⟨S8192, .i32⟩
  | 66 => ⟨S8192, .i32⟩
  | 67 => ⟨S8192, .f32⟩
  | 68 => ⟨S1x8192x1, .f32⟩
  | 69 => ⟨S1x8192x512, .f32⟩
  | 70 => ⟨S1x8192x512, .f32⟩
  | 71 => ⟨S1x8192x1x512, .f32⟩
  | 72 => ⟨S1x8192x512, .f32⟩
  | 73 => ⟨S1x8192x512, .f32⟩
  | 74 => ⟨S_, .i32⟩
  | 75 => ⟨S8192, .i32⟩
  | 76 => ⟨S8192, .i32⟩
  | 77 => ⟨S_, .i32⟩
  | 78 => ⟨S8192, .i32⟩
  | 79 => ⟨S8192, .i32⟩
  | 80 => ⟨S_, .i32⟩
  | 81 => ⟨S8192, .i32⟩
  | 82 => ⟨S8192, .i32⟩
  | 83 => ⟨S1x8192x1x512, .f32⟩
  | 84 => ⟨S1x8192x512, .f32⟩
  | 85 => ⟨S_, .i32⟩
  | 86 => ⟨S8192, .i32⟩
  | 87 => ⟨S8192, .i1⟩
  | 88 => ⟨S_, .i32⟩
  | 89 => ⟨S8192, .i32⟩
  | 90 => ⟨S8192, .i32⟩
  | 91 => ⟨S8192, .i32⟩
  | 92 => ⟨S_, .i32⟩
  | 93 => ⟨S8192, .i32⟩
  | 94 => ⟨S8192, .i32⟩
  | 95 => ⟨S8192x1, .i32⟩
  | 96 => ⟨S8192x1, .i32⟩
  | 97 => ⟨S8192x2, .i32⟩
  | 98 => ⟨S1x8192x512, .f32⟩
  | 99 => ⟨S1x8192x512, .f32⟩
  | 100 => ⟨S_, .i32⟩
  | 101 => ⟨S8192, .i32⟩
  | 102 => ⟨S8192, .i32⟩
  | 103 => ⟨S_, .i32⟩
  | 104 => ⟨S8192, .i32⟩
  | 105 => ⟨S8192, .i32⟩
  | 106 => ⟨S8192, .f32⟩
  | 107 => ⟨S1x8192x1, .f32⟩
  | 108 => ⟨S1x8192x512, .f32⟩
  | 109 => ⟨S1x8192x512, .f32⟩
  | 110 => ⟨S1x8192x1x512, .f32⟩
  | 111 => ⟨S1x8192x512, .f32⟩
  | 112 => ⟨S1x8192x512, .f32⟩
  | 113 => ⟨S_, .i32⟩
  | 114 => ⟨S8192, .i32⟩
  | 115 => ⟨S8192, .i32⟩
  | 116 => ⟨S_, .i32⟩
  | 117 => ⟨S8192, .i32⟩
  | 118 => ⟨S8192, .i32⟩
  | 119 => ⟨S_, .i32⟩
  | 120 => ⟨S8192, .i32⟩
  | 121 => ⟨S8192, .i32⟩
  | 122 => ⟨S1x8192x1x512, .f32⟩
  | 123 => ⟨S1x8192x512, .f32⟩
  | 124 => ⟨S_, .i32⟩
  | 125 => ⟨S8192, .i32⟩
  | 126 => ⟨S8192, .i1⟩
  | 127 => ⟨S_, .i32⟩
  | _ => ⟨S8192x2048, .f32⟩

abbrev hbmTy0_1 (i : Nat) : BufTy := match i % 128 with
  | 0 => ⟨S8192, .i32⟩
  | 1 => ⟨S8192, .i32⟩
  | 2 => ⟨S8192, .i32⟩
  | 3 => ⟨S_, .i32⟩
  | 4 => ⟨S8192, .i32⟩
  | 5 => ⟨S8192, .i32⟩
  | 6 => ⟨S8192x1, .i32⟩
  | 7 => ⟨S8192x1, .i32⟩
  | 8 => ⟨S8192x2, .i32⟩
  | 9 => ⟨S1x8192x512, .f32⟩
  | 10 => ⟨S1x8192x512, .f32⟩
  | 11 => ⟨S_, .i32⟩
  | 12 => ⟨S8192, .i32⟩
  | 13 => ⟨S8192, .i32⟩
  | 14 => ⟨S_, .i32⟩
  | 15 => ⟨S8192, .i32⟩
  | 16 => ⟨S8192, .i32⟩
  | 17 => ⟨S8192, .f32⟩
  | 18 => ⟨S1x8192x1, .f32⟩
  | 19 => ⟨S1x8192x512, .f32⟩
  | 20 => ⟨S1x8192x512, .f32⟩
  | 21 => ⟨S1x8192x1x512, .f32⟩
  | 22 => ⟨S1x8192x512, .f32⟩
  | 23 => ⟨S1x8192x512, .f32⟩
  | 24 => ⟨S_, .i32⟩
  | 25 => ⟨S8192, .i32⟩
  | 26 => ⟨S8192, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i32⟩
  | 33 => ⟨S1x8192x1x512, .f32⟩
  | 34 => ⟨S1x8192x512, .f32⟩
  | 35 => ⟨S_, .i32⟩
  | 36 => ⟨S8192, .i32⟩
  | 37 => ⟨S8192, .i1⟩
  | 38 => ⟨S_, .i32⟩
  | 39 => ⟨S8192, .i32⟩
  | 40 => ⟨S8192, .i32⟩
  | 41 => ⟨S8192, .i32⟩
  | 42 => ⟨S_, .i32⟩
  | 43 => ⟨S8192, .i32⟩
  | 44 => ⟨S8192, .i32⟩
  | 45 => ⟨S8192x1, .i32⟩
  | 46 => ⟨S8192x1, .i32⟩
  | 47 => ⟨S8192x2, .i32⟩
  | 48 => ⟨S1x8192x512, .f32⟩
  | 49 => ⟨S1x8192x512, .f32⟩
  | 50 => ⟨S_, .i32⟩
  | 51 => ⟨S8192, .i32⟩
  | 52 => ⟨S8192, .i32⟩
  | 53 => ⟨S_, .i32⟩
  | 54 => ⟨S8192, .i32⟩
  | 55 => ⟨S8192, .i32⟩
  | 56 => ⟨S8192, .f32⟩
  | 57 => ⟨S1x8192x1, .f32⟩
  | 58 => ⟨S1x8192x512, .f32⟩
  | 59 => ⟨S1x8192x512, .f32⟩
  | 60 => ⟨S1x8192x1x512, .f32⟩
  | 61 => ⟨S1x8192x512, .f32⟩
  | 62 => ⟨S1x8192x512, .f32⟩
  | 63 => ⟨S1x8192x1x512, .f32⟩
  | 64 => ⟨S1x8192x1x512, .f32⟩
  | 65 => ⟨S1x8192x1x512, .f32⟩
  | 66 => ⟨S1x8192x1x512, .f32⟩
  | 67 => ⟨S1x8192x4x512, .f32⟩
  | 68 => ⟨S8192x2048, .f32⟩
  | 69 => ⟨S1x8192x4x512, .f32⟩
  | 70 => ⟨S1x8192x1x512, .f32⟩
  | 71 => ⟨S1x8192x512, .f32⟩
  | 72 => ⟨S1x8192x1x512, .f32⟩
  | 73 => ⟨S1x8192x512, .f32⟩
  | 74 => ⟨S1x8192x1x512, .f32⟩
  | 75 => ⟨S1x8192x512, .f32⟩
  | 76 => ⟨S1x8192x1x512, .f32⟩
  | 77 => ⟨S1x8192x512, .f32⟩
  | 78 => ⟨S1x8192x512, .f32⟩
  | 79 => ⟨S1x8192x1x512, .f32⟩
  | 80 => ⟨S_, .f32⟩
  | 81 => ⟨S1x8192x4x512, .f32⟩
  | 82 => ⟨S1x8192x512, .f32⟩
  | 83 => ⟨S1x8192x512, .f32⟩
  | 84 => ⟨S1x8192x512, .f32⟩
  | 85 => ⟨S_, .f32⟩
  | 86 => ⟨S1x8193x4x512, .f32⟩
  | 87 => ⟨S1x8193x4x512, .f32⟩
  | 88 => ⟨S1x8192x1x512, .f32⟩
  | 89 => ⟨S_, .f32⟩
  | 90 => ⟨S1x8193x4x512, .f32⟩
  | 91 => ⟨S1x8193x4x512, .f32⟩
  | 92 => ⟨S1x8192x512, .f32⟩
  | 93 => ⟨S1x8192x1x512, .f32⟩
  | 94 => ⟨S_, .f32⟩
  | 95 => ⟨S1x8192x4x512, .f32⟩
  | 96 => ⟨S1x8192x4x512, .f32⟩
  | 97 => ⟨S1x8192x512, .f32⟩
  | 98 => ⟨S1x8192x512, .f32⟩
  | 99 => ⟨S1x8192x512, .f32⟩
  | 100 => ⟨S_, .f32⟩
  | 101 => ⟨S1x8193x4x512, .f32⟩
  | 102 => ⟨S1x8193x4x512, .f32⟩
  | 103 => ⟨S1x8193x4x512, .f32⟩
  | 104 => ⟨S1x8192x1x512, .f32⟩
  | 105 => ⟨S_, .f32⟩
  | 106 => ⟨S1x8193x4x512, .f32⟩
  | 107 => ⟨S1x8193x4x512, .f32⟩
  | 108 => ⟨S1x8192x512, .f32⟩
  | 109 => ⟨S1x8192x1x512, .f32⟩
  | 110 => ⟨S_, .f32⟩
  | 111 => ⟨S1x8192x4x512, .f32⟩
  | 112 => ⟨S1x8192x4x512, .f32⟩
  | 113 => ⟨S1x8192x512, .f32⟩
  | 114 => ⟨S1x8192x512, .f32⟩
  | 115 => ⟨S1x8192x512, .f32⟩
  | 116 => ⟨S_, .f32⟩
  | 117 => ⟨S1x8193x4x512, .f32⟩
  | 118 => ⟨S1x8193x4x512, .f32⟩
  | 119 => ⟨S1x8193x4x512, .f32⟩
  | 120 => ⟨S1x8192x1x512, .f32⟩
  | 121 => ⟨S_, .f32⟩
  | 122 => ⟨S1x8193x4x512, .f32⟩
  | 123 => ⟨S1x8193x4x512, .f32⟩
  | 124 => ⟨S1x8192x512, .f32⟩
  | 125 => ⟨S1x8192x1x512, .f32⟩
  | 126 => ⟨S_, .f32⟩
  | 127 => ⟨S1x8192x4x512, .f32⟩
  | _ => ⟨S8192x2048, .f32⟩

abbrev hbmTy0_2 (i : Nat) : BufTy := match i % 128 with
  | 0 => ⟨S1x8192x4x512, .f32⟩
  | 1 => ⟨S1x8192x512, .f32⟩
  | 2 => ⟨S1x8192x512, .f32⟩
  | 3 => ⟨S1x8192x512, .f32⟩
  | 4 => ⟨S_, .f32⟩
  | 5 => ⟨S1x8193x4x512, .f32⟩
  | 6 => ⟨S1x8193x4x512, .f32⟩
  | 7 => ⟨S1x8193x4x512, .f32⟩
  | 8 => ⟨S1x8192x1x512, .f32⟩
  | 9 => ⟨S_, .f32⟩
  | 10 => ⟨S1x8193x4x512, .f32⟩
  | 11 => ⟨S1x8193x4x512, .f32⟩
  | 12 => ⟨S1x1x4x512, .f32⟩
  | 13 => ⟨S1x8192x4x512, .f32⟩
  | 14 => ⟨S_, .f32⟩
  | 15 => ⟨S_, .f32⟩
  | 16 => ⟨S1x8192x4x512, .f32⟩
  | 17 => ⟨S1x8192x4x512, .f32⟩
  | 18 => ⟨S1x8192x2048, .f32⟩
  | 19 => ⟨S_, .f32⟩
  | 20 => ⟨S8192x2048, .f32⟩
  | 21 => ⟨S8192x2048, .f32⟩
  | 22 => ⟨S_, .f32⟩
  | 23 => ⟨S2048, .f32⟩
  | 24 => ⟨S1x2048, .f32⟩
  | 25 => ⟨S8192x2048, .f32⟩
  | 26 => ⟨S8192x2048, .f32⟩
  | 27 => ⟨S_, .f32⟩
  | 28 => ⟨S2048, .f32⟩
  | 29 => ⟨S8192x2048, .f32⟩
  | 30 => ⟨S_, .f32⟩
  | 31 => ⟨S8192, .f32⟩
  | 32 => ⟨S8192x1, .f32⟩
  | 33 => ⟨S8192x2048, .f32⟩
  | 34 => ⟨S8192x2048, .f32⟩
  | 35 => ⟨S8192x2048, .f32⟩
  | 36 => ⟨S8192x1, .f32⟩
  | 37 => ⟨S_, .f32⟩
  | 38 => ⟨S8192x1, .f32⟩
  | 39 => ⟨S8192x1, .f32⟩
  | 40 => ⟨S_, .f32⟩
  | 41 => ⟨S8192, .f32⟩
  | 42 => ⟨S8192x2048, .f32⟩
  | 43 => ⟨S8192x2048, .f32⟩
  | 44 => ⟨S8192x2048, .f32⟩
  | 45 => ⟨S8192x2048, .f32⟩
  | 46 => ⟨S8192x2048, .f32⟩
  | 47 => ⟨S8192x2048, .bf16⟩
  | 48 => ⟨S1x2048, .f32⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_call0_call0_cst : Ref sig .tc := ⟨.hbm, 28, rfl⟩
abbrev main_call0_call0_v0 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_c : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_10 : Ref sig .tc := ⟨.hbm, 61, rfl⟩
abbrev main_v43 : Ref sig .tc := ⟨.hbm, 62, rfl⟩
abbrev main_v44 : Ref sig .tc := ⟨.hbm, 63, rfl⟩
abbrev main_c_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_c_13 : Ref sig .tc := ⟨.hbm, 77, rfl⟩
abbrev main_v56 : Ref sig .tc := ⟨.hbm, 78, rfl⟩
abbrev main_v57 : Ref sig .tc := ⟨.hbm, 79, rfl⟩
abbrev main_c_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_15 : Ref sig .tc := ⟨.hbm, 85, rfl⟩
abbrev main_v62 : Ref sig .tc := ⟨.hbm, 86, rfl⟩
abbrev main_v63 : Ref sig .tc := ⟨.hbm, 87, rfl⟩
abbrev main_c_16 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_17 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_18 : Ref sig .tc := ⟨.hbm, 100, rfl⟩
abbrev main_v74 : Ref sig .tc := ⟨.hbm, 101, rfl⟩
abbrev main_v75 : Ref sig .tc := ⟨.hbm, 102, rfl⟩
abbrev main_c_19 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_c_20 : Ref sig .tc := ⟨.hbm, 113, rfl⟩
abbrev main_v85 : Ref sig .tc := ⟨.hbm, 114, rfl⟩
abbrev main_v86 : Ref sig .tc := ⟨.hbm, 115, rfl⟩
abbrev main_c_21 : Ref sig .tc := ⟨.hbm, 116, rfl⟩
abbrev main_v87 : Ref sig .tc := ⟨.hbm, 117, rfl⟩
abbrev main_v88 : Ref sig .tc := ⟨.hbm, 118, rfl⟩
abbrev main_c_22 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_23 : Ref sig .tc := ⟨.hbm, 124, rfl⟩
abbrev main_v93 : Ref sig .tc := ⟨.hbm, 125, rfl⟩
abbrev main_v94 : Ref sig .tc := ⟨.hbm, 126, rfl⟩
abbrev main_c_24 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_c_25 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_26 : Ref sig .tc := ⟨.hbm, 139, rfl⟩
abbrev main_v105 : Ref sig .tc := ⟨.hbm, 140, rfl⟩
abbrev main_v106 : Ref sig .tc := ⟨.hbm, 141, rfl⟩
abbrev main_c_27 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_c_28 : Ref sig .tc := ⟨.hbm, 152, rfl⟩
abbrev main_v116 : Ref sig .tc := ⟨.hbm, 153, rfl⟩
abbrev main_v117 : Ref sig .tc := ⟨.hbm, 154, rfl⟩
abbrev main_c_29 : Ref sig .tc := ⟨.hbm, 155, rfl⟩
abbrev main_v118 : Ref sig .tc := ⟨.hbm, 156, rfl⟩
abbrev main_v119 : Ref sig .tc := ⟨.hbm, 157, rfl⟩
abbrev main_c_30 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_c_31 : Ref sig .tc := ⟨.hbm, 163, rfl⟩
abbrev main_v124 : Ref sig .tc := ⟨.hbm, 164, rfl⟩
abbrev main_v125 : Ref sig .tc := ⟨.hbm, 165, rfl⟩
abbrev main_c_32 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_c_33 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_c_34 : Ref sig .tc := ⟨.hbm, 178, rfl⟩
abbrev main_v136 : Ref sig .tc := ⟨.hbm, 179, rfl⟩
abbrev main_v137 : Ref sig .tc := ⟨.hbm, 180, rfl⟩
abbrev main_c_35 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_cst_36 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_37 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_38 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_cst_39 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_40 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_cst_41 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_cst_42 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_cst_43 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_cst_44 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_cst_45 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_cst_46 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_cst_47 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_call1_call0_cst : Ref sig .tc := ⟨.hbm, 270, rfl⟩
abbrev main_call1_call0_v0 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_cst_48 : Ref sig .tc := ⟨.hbm, 275, rfl⟩
abbrev main_v217 : Ref sig .tc := ⟨.hbm, 276, rfl⟩
abbrev main_v218 : Ref sig .tc := ⟨.hbm, 277, rfl⟩
abbrev main_cst_49 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_cst_50 : Ref sig .tc := ⟨.hbm, 283, rfl⟩
abbrev main_v223 : Ref sig .tc := ⟨.hbm, 284, rfl⟩
abbrev main_v224 : Ref sig .tc := ⟨.hbm, 285, rfl⟩
abbrev main_cst_51 : Ref sig .tc := ⟨.hbm, 286, rfl⟩
abbrev main_v225 : Ref sig .tc := ⟨.hbm, 287, rfl⟩
abbrev main_v226 : Ref sig .tc := ⟨.hbm, 288, rfl⟩
abbrev main_v227 : Ref sig .tc := ⟨.hbm, 289, rfl⟩
abbrev main_v228 : Ref sig .tc := ⟨.hbm, 290, rfl⟩
abbrev main_v229 : Ref sig .tc := ⟨.hbm, 291, rfl⟩
abbrev main_v230 : Ref sig .tc := ⟨.hbm, 292, rfl⟩
abbrev main_cst_52 : Ref sig .tc := ⟨.hbm, 293, rfl⟩
abbrev main_v231 : Ref sig .tc := ⟨.hbm, 294, rfl⟩
abbrev main_v232 : Ref sig .tc := ⟨.hbm, 295, rfl⟩
abbrev main_cst_53 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_v236 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩

abbrev nD : Nat := 1
abbrev τ : Topo := Topo.v7x

variable {F : FTy → Type} [FloatOps F]
-- ==== FfnGateKernel.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩
abbrev S8x704x2048 : Shape := ⟨3, ![8, 704, 2048]⟩
abbrev S8192x8x704 : Shape := ⟨3, ![8192, 8, 704]⟩
abbrev S8x8192x704 : Shape := ⟨3, ![8, 8192, 704]⟩
abbrev S1024x2048 : Shape := ⟨2, ![1024, 2048]⟩
abbrev S1x704x2048 : Shape := ⟨3, ![1, 704, 2048]⟩
abbrev S1x1024x704 : Shape := ⟨3, ![1, 1024, 704]⟩
abbrev S512x2048 : Shape := ⟨2, ![512, 2048]⟩
abbrev S704x2048 : Shape := ⟨2, ![704, 2048]⟩
abbrev S512x704 : Shape := ⟨2, ![512, 704]⟩
abbrev S1x512x704 : Shape := ⟨3, ![1, 512, 704]⟩

abbrev nBuf : Space → Nat
  | .hbm => 54
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | .hbm, ⟨23, _⟩ => ⟨S2048x5632, .bf16⟩
  | .hbm, ⟨24, _⟩ => ⟨S8192x5632, .f32⟩
  | .hbm, ⟨25, _⟩ => ⟨S2048x5632, .bf16⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S5632x2048, .bf16⟩
  | .hbm, ⟨36, _⟩ => ⟨S8x704x2048, .bf16⟩
  | .hbm, ⟨37, _⟩ => ⟨S8192x2048, .bf16⟩
  | .hbm, ⟨38, _⟩ => ⟨S8192x5632, .f32⟩
  | .hbm, ⟨39, _⟩ => ⟨S8192x8x704, .f32⟩
  | .hbm, ⟨40, _⟩ => ⟨S8x8192x704, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S_, .f32⟩
  | .hbm, ⟨46, _⟩ => ⟨S8192x5632, .f32⟩
  | .hbm, ⟨47, _⟩ => ⟨S8192x5632, .f32⟩
  | .hbm, ⟨48, _⟩ => ⟨S8192x5632, .f32⟩
  | .hbm, ⟨49, _⟩ => ⟨S8192x5632, .f32⟩
  | .hbm, ⟨50, _⟩ => ⟨S8192x8x704, .f32⟩
  | .hbm, ⟨51, _⟩ => ⟨S8x8192x704, .f32⟩
  | .hbm, ⟨52, _⟩ => ⟨S8x8192x704, .bf16⟩
  | .hbm, ⟨53, _⟩ => ⟨S8x8192x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .f32⟩
  | .local _ .vmem, ⟨5, _⟩ => ⟨S1x1024x704, .f32⟩
  | .local _ .vmem, ⟨6, _⟩ => ⟨S1x1024x704, .f32⟩
  | .local _ .vmem, ⟨7, _⟩ => ⟨S1x1024x704, .f32⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39_0 : Ref sig .tc := ⟨.hbm, 52, rfl⟩
abbrev main_v39_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnGateReferenceIdeal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩
abbrev S8192x8x704 : Shape := ⟨3, ![8192, 8, 704]⟩
abbrev S8x8192x704 : Shape := ⟨3, ![8, 8192, 704]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S_, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x2048, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S8192x5632, .f32⟩
  | .hbm, ⟨46, _⟩ => ⟨S8192x8x704, .f32⟩
  | .hbm, ⟨47, _⟩ => ⟨S8x8192x704, .f32⟩
  | .hbm, ⟨48, _⟩ => ⟨S8x8192x704, .bf16⟩
  | .hbm, ⟨49, _⟩ => ⟨S8192x8x704, .f32⟩
  | .hbm, ⟨50, _⟩ => ⟨S8x8192x704, .f32⟩
  | .hbm, ⟨51, _⟩ => ⟨S8x8192x704, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v15_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v15_1 : Ref sig .tc := ⟨.hbm, 35, rfl⟩
abbrev main_v15_0 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩

abbrev nD : Nat := 1
abbrev τ : Topo := Topo.v7x

variable {F : FTy → Type} [FloatOps F]
-- ==== FfnDhKernel.lean ====
abbrev S8192x2048 : Shape := ⟨2, ![8192, 2048]⟩
abbrev S2048 : Shape := ⟨1, ![2048]⟩
abbrev S2048x5632 : Shape := ⟨2, ![2048, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S8192x8x704 : Shape := ⟨3, ![8192, 8, 704]⟩
abbrev S8x8192x704 : Shape := ⟨3, ![8, 8192, 704]⟩
abbrev S2048x8x704 : Shape := ⟨3, ![2048, 8, 704]⟩
abbrev S8x2048x704 : Shape := ⟨3, ![8, 2048, 704]⟩
abbrev S1x2048 : Shape := ⟨2, ![1, 2048]⟩
abbrev S1x512x704 : Shape := ⟨3, ![1, 512, 704]⟩
abbrev S1x2048x704 : Shape := ⟨3, ![1, 2048, 704]⟩
abbrev S512x2048 : Shape := ⟨2, ![512, 2048]⟩
abbrev S512x1 : Shape := ⟨2, ![512, 1]⟩
abbrev S512x704 : Shape := ⟨2, ![512, 704]⟩
abbrev S2048x704 : Shape := ⟨2, ![2048, 704]⟩
abbrev S128x1 : Shape := ⟨2, ![128, 1]⟩
abbrev S128x2048 : Shape := ⟨2, ![128, 2048]⟩
abbrev S128 : Shape := ⟨1, ![128]⟩

abbrev nBuf : Space → Nat
  | .hbm => 34
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S8192x5632, .f32⟩
  | .hbm, ⟨5, _⟩ => ⟨S8192x5632, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x5632, .bf16⟩
  | .hbm, ⟨19, _⟩ => ⟨S8192x8x704, .bf16⟩
  | .hbm, ⟨20, _⟩ => ⟨S8x8192x704, .bf16⟩
  | .hbm, ⟨21, _⟩ => ⟨S8192x5632, .bf16⟩
  | .hbm, ⟨22, _⟩ => ⟨S8192x8x704, .bf16⟩
  | .hbm, ⟨23, _⟩ => ⟨S8x8192x704, .bf16⟩
  | .hbm, ⟨24, _⟩ => ⟨S2048x5632, .bf16⟩
  | .hbm, ⟨25, _⟩ => ⟨S2048x8x704, .bf16⟩
  | .hbm, ⟨26, _⟩ => ⟨S8x2048x704, .bf16⟩
  | .hbm, ⟨27, _⟩ => ⟨S2048x5632, .bf16⟩
  | .hbm, ⟨28, _⟩ => ⟨S2048x8x704, .bf16⟩
  | .hbm, ⟨29, _⟩ => ⟨S8x2048x704, .bf16⟩
  | .hbm, ⟨30, _⟩ => ⟨S1x2048, .f32⟩
  | .hbm, ⟨31, _⟩ => ⟨S8192x2048, .f32⟩
  | .hbm, ⟨32, _⟩ => ⟨S8192x2048, .bf16⟩
  | .hbm, ⟨33, _⟩ => ⟨S1x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S512x2048, .f32⟩
  | .local _ .vmem, ⟨9, _⟩ => ⟨S512x2048, .f32⟩
  | .local _ .vmem, ⟨10, _⟩ => ⟨S512x1, .f32⟩
  | .local _ .vmem, ⟨11, _⟩ => ⟨S512x1, .f32⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .f32⟩
  | .local _ .vmem, ⟨17, _⟩ => ⟨S512x2048, .bf16⟩
  | .local _ .vmem, ⟨18, _⟩ => ⟨S512x2048, .bf16⟩
  | .local _ .vmem, ⟨19, _⟩ => ⟨S1x2048, .f32⟩
  | .local _ .vmem, ⟨20, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v19 : BitVec 1 := Scalar.cmpi .eq arg1 c7_i32
  let v20 : BitVec 32 := Scalar.extui v19
  let c0_i32_17 : BitVec 32 := 0#32
  let v21 : BitVec 1 := Scalar.cmpi .ne v20 c0_i32_17
  v21

def k0_cond3 (i : grid0.Coords) : BitVec 1 :=
  let arg0 : BitVec 32 := BitVec.ofNat 32 (i 0).val
  let c0_i32_18 : BitVec 32 := 0#32
  let v22 : BitVec 1 := Scalar.cmpi .eq arg0 c0_i32_18
  let v132 : BitVec 32 := Scalar.extui v22
  let c0_i32_78 : BitVec 32 := 0#32
  let v133 : BitVec 1 := Scalar.cmpi .ne v132 c0_i32_78
  v133

def k0_cond4 (i : grid0.Coords) : BitVec 1 :=
  let arg0 : BitVec 32 := BitVec.ofNat 32 (i 0).val
  let c0_i32_18 : BitVec 32 := 0#32
  let v22 : BitVec 1 := Scalar.cmpi .eq arg0 c0_i32_18
  let v_true : BitVec 1 := 1#1
  let v134 : BitVec 1 := Scalar.xori v22 v_true
  let v135 : BitVec 32 := Scalar.extui v134
  let c0_i32_79 : BitVec 32 := 0#32
  let v136 : BitVec 1 := Scalar.cmpi .ne v135 c0_i32_79
  v136

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== FfnDhReferenceIdeal.lean ====
abbrev S8192x2048 : Shape := ⟨2, ![8192, 2048]⟩
abbrev S2048 : Shape := ⟨1, ![2048]⟩
abbrev S2048x5632 : Shape := ⟨2, ![2048, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S8192x5632, .f32⟩
  | .hbm, ⟨5, _⟩ => ⟨S8192x5632, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x5632, .f32⟩
  | .hbm, ⟨28, _⟩ => ⟨S8192x5632, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S_, .f32⟩
  | .hbm, ⟨52, _⟩ => ⟨S8192, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .bf16⟩
  | .hbm, ⟨59, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== ProjDxKernel.lean ====
abbrev S8192x2048 : Shape := ⟨2, ![8192, 2048]⟩
abbrev S2048 : Shape := ⟨1, ![2048]⟩
abbrev S2048x7168 : Shape := ⟨2, ![2048, 7168]⟩
abbrev S8192x7168 : Shape := ⟨2, ![8192, 7168]⟩
abbrev S_ : Shape := ⟨0, ![]⟩
abbrev S8192 : Shape := ⟨1, ![8192]⟩
abbrev S8192x1 : Shape := ⟨2, ![8192, 1]⟩
abbrev S2048x8x896 : Shape := ⟨3, ![2048, 8, 896]⟩
abbrev S8x2048x896 : Shape := ⟨3, ![8, 2048, 896]⟩
abbrev S1x2048 : Shape := ⟨2, ![1, 2048]⟩
abbrev S512x896 : Shape := ⟨2, ![512, 896]⟩
abbrev S1x2048x896 : Shape := ⟨3, ![1, 2048, 896]⟩
abbrev S512x2048 : Shape := ⟨2, ![512, 2048]⟩
abbrev S512x1 : Shape := ⟨2, ![512, 1]⟩
abbrev S2048x896 : Shape := ⟨2, ![2048, 896]⟩
abbrev S128x1 : Shape := ⟨2, ![128, 1]⟩
abbrev S128x2048 : Shape := ⟨2, ![128, 2048]⟩
abbrev S128 : Shape := ⟨1, ![128]⟩

abbrev nBuf : Space → Nat
  | .hbm => 24
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x7168, .f32⟩
  | .hbm, ⟨3, _⟩ => ⟨S8192x7168, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x7168, .bf16⟩
  | .hbm, ⟨17, _⟩ => ⟨S2048x7168, .bf16⟩
  | .hbm, ⟨18, _⟩ => ⟨S2048x8x896, .bf16⟩
  | .hbm, ⟨19, _⟩ => ⟨S8x2048x896, .bf16⟩
  | .hbm, ⟨20, _⟩ => ⟨S1x2048, .f32⟩
  | .hbm, ⟨21, _⟩ => ⟨S8192x2048, .f32⟩
  | .hbm, ⟨22, _⟩ => ⟨S8192x2048, .bf16⟩
  | .hbm, ⟨23, _⟩ => ⟨S1x2048, .f32⟩
  | .local _ .vmem, ⟨0, _⟩ => ⟨S512x896, .bf16⟩
  | .local _ .vmem, ⟨1, _⟩ => ⟨S512x896, .bf16⟩
  | .local _ .vmem, ⟨2, _⟩ => ⟨S1x2048x896, .bf16⟩
  | .local _ .vmem, ⟨3, _⟩ => ⟨S1x2048x896, .bf16⟩
  | .local _ .vmem, ⟨4, _⟩ => ⟨S512x2048, .f32⟩
  | .local _ .vmem, ⟨5, _⟩ => ⟨S512x2048, .f32⟩
  | .local _ .vmem, ⟨6, _⟩ => ⟨S512x1, .f32⟩
  | .local _ .vmem, ⟨7, _⟩ => ⟨S512x1, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S1x2048, .f32⟩
  | .local _ .vmem, ⟨16, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_10 : BitVec 32 := 0#32
  let v16 : BitVec 1 := Scalar.cmpi .eq arg0 c0_i32_10
  let v126 : BitVec 32 := Scalar.extui v16
  let c0_i32_70 : BitVec 32 := 0#32
  let v127 : BitVec 1 := Scalar.cmpi .ne v126 c0_i32_70
  v127

def k0_cond4 (i : grid0.Coords) : BitVec 1 :=
  let arg0 : BitVec 32 := BitVec.ofNat 32 (i 0).val
  let c0_i32_10 : BitVec 32 := 0#32
  let v16 : BitVec 1 := Scalar.cmpi .eq arg0 c0_i32_10
  let v_true : BitVec 1 := 1#1
  let v128 : BitVec 1 := Scalar.xori v16 v_true
  let v129 : BitVec 32 := Scalar.extui v128
  let c0_i32_71 : BitVec 32 := 0#32
  let v130 : BitVec 1 := Scalar.cmpi .ne v129 c0_i32_71
  v130

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ProjDxReferenceIdeal.lean ====
abbrev S8192x2048 : Shape := ⟨2, ![8192, 2048]⟩
abbrev S2048 : Shape := ⟨1, ![2048]⟩
abbrev S2048x7168 : Shape := ⟨2, ![2048, 7168]⟩
abbrev S8192x7168 : Shape := ⟨2, ![8192, 7168]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x7168, .f32⟩
  | .hbm, ⟨3, _⟩ => ⟨S8192x7168, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x7168, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .bf16⟩
  | .hbm, ⟨54, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== StickBwdKernel.lean ====
abbrev S8192x1024 : Shape := ⟨2, ![8192, 1024]⟩
abbrev S256x128 : Shape := ⟨2, ![256, 128]⟩
abbrev S1x8192x8x128 : Shape := ⟨4, ![1, 8192, 8, 128]⟩
abbrev S1x8x8192x128 : Shape := ⟨4, ![1, 8, 8192, 128]⟩
abbrev S8192 : Shape := ⟨1, ![8192]⟩
abbrev S1x8x8192x8192 : Shape := ⟨4, ![1, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S8x8192x8192 : Shape := ⟨3, ![8, 8192, 8192]⟩
abbrev S8x16x512x16x512 : Shape := ⟨5, ![8, 16, 512, 16, 512]⟩
abbrev S8x16x16x512x512 : Shape := ⟨5, ![8, 16, 16, 512, 512]⟩
abbrev S8x1x1x512x512 : Shape := ⟨5, ![8, 1, 1, 512, 512]⟩
abbrev S8x1x512x512 : Shape := ⟨4, ![8, 1, 512, 512]⟩
abbrev S8x1x2x512x512 : Shape := ⟨5, ![8, 1, 2, 512, 512]⟩
abbrev S8x2x512x512 : Shape := ⟨4, ![8, 2, 512, 512]⟩
abbrev S8x1x3x512x512 : Shape := ⟨5, ![8, 1, 3, 512, 512]⟩
abbrev S8x3x512x512 : Shape := ⟨4, ![8, 3, 512, 512]⟩
abbrev S8x1x4x512x512 : Shape := ⟨5, ![8, 1, 4, 512, 512]⟩
abbrev S8x4x512x512 : Shape := ⟨4, ![8, 4, 512, 512]⟩
abbrev S8x1x5x512x512 : Shape := ⟨5, ![8, 1, 5, 512, 512]⟩
abbrev S8x5x512x512 : Shape := ⟨4, ![8, 5, 512, 512]⟩
abbrev S8x1x6x512x512 : Shape := ⟨5, ![8, 1, 6, 512, 512]⟩
abbrev S8x6x512x512 : Shape := ⟨4, ![8, 6, 512, 512]⟩
abbrev S8x1x7x512x512 : Shape := ⟨5, ![8, 1, 7, 512, 512]⟩
abbrev S8x7x512x512 : Shape := ⟨4, ![8, 7, 512, 512]⟩
abbrev S8x1x8x512x512 : Shape := ⟨5, ![8, 1, 8, 512, 512]⟩
abbrev S8x8x512x512 : Shape := ⟨4, ![8, 8, 512, 512]⟩
abbrev S8x1x9x512x512 : Shape := ⟨5, ![8, 1, 9, 512, 512]⟩
abbrev S8x9x512x512 : Shape := ⟨4, ![8, 9, 512, 512]⟩
abbrev S8x1x10x512x512 : Shape := ⟨5, ![8, 1, 10, 512, 512]⟩
abbrev S8x10x512x512 : Shape := ⟨4, ![8, 10, 512, 512]⟩
abbrev S8x1x11x512x512 : Shape := ⟨5, ![8, 1, 11, 512, 512]⟩
abbrev S8x11x512x512 : Shape := ⟨4, ![8, 11, 512, 512]⟩
abbrev S8x1x12x512x512 : Shape := ⟨5, ![8, 1, 12, 512, 512]⟩
abbrev S8x12x512x512 : Shape := ⟨4, ![8, 12, 512, 512]⟩
abbrev S8x1x13x512x512 : Shape := ⟨5, ![8, 1, 13, 512, 512]⟩
abbrev S8x13x512x512 : Shape := ⟨4, ![8, 13, 512, 512]⟩
abbrev S8x1x14x512x512 : Shape := ⟨5, ![8, 1, 14, 512, 512]⟩
abbrev S8x14x512x512 : Shape := ⟨4, ![8, 14, 512, 512]⟩
abbrev S8x1x15x512x512 : Shape := ⟨5, ![8, 1, 15, 512, 512]⟩
abbrev S8x15x512x512 : Shape := ⟨4, ![8, 15, 512, 512]⟩
abbrev S8x1x16x512x512 : Shape := ⟨5, ![8, 1, 16, 512, 512]⟩
abbrev S8x16x512x512 : Shape := ⟨4, ![8, 16, 512, 512]⟩
abbrev S8x136x512x512 : Shape := ⟨4, ![8, 136, 512, 512]⟩
abbrev S8192x3072 : Shape := ⟨2, ![8192, 3072]⟩
abbrev S8192x2048 : Shape := ⟨2, ![8192, 2048]⟩
abbrev S512x128 : Shape := ⟨2, ![512, 128]⟩
abbrev S8192x128 : Shape := ⟨2, ![8192, 128]⟩
abbrev S2x512x512 : Shape := ⟨3, ![2, 512, 512]⟩
abbrev S2 : Shape := ⟨1, ![2]⟩
abbrev S1 : Shape := ⟨1, ![1]⟩
abbrev S1x512x512 : Shape := ⟨3, ![1, 512, 512]⟩
abbrev S512x512 : Shape := ⟨2, ![512, 512]⟩
abbrev S1x1x512x512 : Shape := ⟨4, ![1, 1, 512, 512]⟩
abbrev S512x1 : Shape := ⟨2, ![512, 1]⟩
abbrev S512x256 : Shape := ⟨2, ![512, 256]⟩

abbrev nBuf : Space → Nat
  | .hbm => 122
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S256x128, .bf16⟩
  | .hbm, ⟨5, _⟩ => ⟨S1x8192x8x128, .f32⟩
  | .hbm, ⟨6, _⟩ => ⟨S1x8x8192x128, .f32⟩
  | .hbm, ⟨7, _⟩ => ⟨S1x8192x8x128, .f32⟩
  | .hbm, ⟨8, _⟩ => ⟨S1x8x8192x128, .f32⟩
  | .hbm, ⟨9, _⟩ => ⟨S8192, .i32⟩
  | .hbm, ⟨10, _⟩ => ⟨S1x8x8192x8192, .f32⟩
  | .hbm, ⟨11, _⟩ => ⟨S_, .f32⟩
  | .hbm, ⟨12, _⟩ => ⟨S1x8x8192x8192, .f32⟩
  | .hbm, ⟨13, _⟩ => ⟨S1x8x8192x8192, .f32⟩
  | .hbm, ⟨14, _⟩ => ⟨S8192, .i32⟩
  | .hbm, ⟨15, _⟩ => ⟨S1x8192, .i32⟩
  | .hbm, ⟨16, _⟩ => ⟨S8192x1, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S1x8x8192x8192, .f32⟩
  | .hbm, ⟨21, _⟩ => ⟨S1x8x8192x8192, .f32⟩
  | .hbm, ⟨22, _⟩ => ⟨S_, .f32⟩
  | .hbm, ⟨23, _⟩ => ⟨S1x8x8192x8192, .f32⟩
  | .hbm, ⟨24, _⟩ => ⟨S1x8x8192x8192, .f32⟩
  | .hbm, ⟨25, _⟩ => ⟨S1x8x8192x8192, .f32⟩
  | .hbm, ⟨26, _⟩ => ⟨S1x8x8192x8192, .f32⟩
  | .hbm, ⟨27, _⟩ => ⟨S1x8x8192x8192, .i1⟩
  | .hbm, ⟨28, _⟩ => ⟨S1x8x8192x8192, .f32⟩
  | .hbm, ⟨29, _⟩ => ⟨S1x8x8192x8192, .f32⟩
  | .hbm, ⟨30, _⟩ => ⟨S1x8x8192x8192, .f32⟩
  | .hbm, ⟨31, _⟩ => ⟨S1x8x8192x8192, .f32⟩
  | .hbm, ⟨32, _⟩ => ⟨S1x8x8192x8192, .f32⟩
  | .hbm, ⟨33, _⟩ => ⟨S1x8x8192x8192, .f32⟩
  | .hbm, ⟨34, _⟩ => ⟨S1x8x8192x8192, .f32⟩
  | .hbm, ⟨35, _⟩ => ⟨S1x8x8192x8192, .f32⟩
  | .hbm, ⟨36, _⟩ => ⟨S1x8x8192x8192, .f32⟩
  | .hbm, ⟨37, _⟩ => ⟨S_, .f32⟩
  | .hbm, ⟨38, _⟩ => ⟨S_, .f32⟩
  | .hbm, ⟨39, _⟩ => ⟨S1x8x8192x8192, .i1⟩
  | .hbm, ⟨40, _⟩ => ⟨S1x8x8192x8192, .f32⟩
  | .hbm, ⟨41, _⟩ => ⟨S1x8x8192x8192, .f32⟩
  | .hbm, ⟨42, _⟩ => ⟨S_, .f32⟩
  | .hbm, ⟨43, _⟩ => ⟨S_, .f32⟩
  | .hbm, ⟨44, _⟩ => ⟨S1x8x8192x8192, .f32⟩
  | .hbm, ⟨45, _⟩ => ⟨S1x8x8192x8192, .f32⟩
  | .hbm, ⟨46, _⟩ => ⟨S1x8x8192x8192, .f32⟩
  | .hbm, ⟨47, _⟩ => ⟨S_, .f32⟩
  | .hbm, ⟨48, _⟩ => ⟨S1x8x8192x8192, .f32⟩
  | .hbm, ⟨49, _⟩ => ⟨S1x8x8192x8192, .f32⟩
  | .hbm, ⟨50, _⟩ => ⟨S1x8x8192x8192, .f32⟩
  | .hbm, ⟨51, _⟩ => ⟨S1x8x8192x8192, .f32⟩
  | .hbm, ⟨52, _⟩ => ⟨S1x8x8192x8192, .i1⟩
  | .hbm, ⟨53, _⟩ => ⟨S1x8x8192x8192, .f32⟩
  | .hbm, ⟨54, _⟩ => ⟨S1x8x8192x8192, .f32⟩
  | .hbm, ⟨55, _⟩ => ⟨S1x8x8192x8192, .f32⟩
  | .hbm, ⟨56, _⟩ => ⟨S1x8x8192x8192, .f32⟩
  | .hbm, ⟨57, _⟩ => ⟨S1x8x8192x8192, .f32⟩
  | .hbm, ⟨58, _⟩ => ⟨S1x8x8192x8192, .f32⟩
  | .hbm, ⟨59, _⟩ => ⟨S1x8x8192x8192, .f32⟩
  | .hbm, ⟨60, _⟩ => ⟨S1x8x8192x8192, .f32⟩
  | .hbm, ⟨61, _⟩ => ⟨S1x8x8192x8192, .f32⟩
  | .hbm, ⟨62, _⟩ => ⟨S1x8x8192x8192, .f32⟩
  | .hbm, ⟨63, _⟩ => ⟨S1x8x8192x8192, .f32⟩
  | .hbm, ⟨64, _⟩ => ⟨S_, .f32⟩
  | .hbm, ⟨65, _⟩ => ⟨S_, .f32⟩
  | .hbm, ⟨66, _⟩ => ⟨S1x8x8192x8192, .i1⟩
  | .hbm, ⟨67, _⟩ => ⟨S1x8x8192x8192, .f32⟩
  | .hbm, ⟨68, _⟩ => ⟨S1x8x8192x8192, .f32⟩
  | .hbm, ⟨69, _⟩ => ⟨S8x8192x8192, .f32⟩
  | .hbm, ⟨70, _⟩ => ⟨S8x8192x8192, .bf16⟩
  | .hbm, ⟨71, _⟩ => ⟨S8x16x512x16x512, .bf16⟩
  | .hbm, ⟨72, _⟩ => ⟨S8x16x16x512x512, .bf16⟩
  | .hbm, ⟨73, _⟩ => ⟨S8x1x1x512x512, .bf16⟩
  | .hbm, ⟨74, _⟩ => ⟨S8x1x512x512, .bf16⟩
  | .hbm, ⟨75, _⟩ => ⟨S8x1x2x512x512, .bf16⟩
  | .hbm, ⟨76, _⟩ => ⟨S8x2x512x512, .bf16⟩
  | .hbm, ⟨77, _⟩ => ⟨S8x1x3x512x512, .bf16⟩
  | .hbm, ⟨78, _⟩ => ⟨S8x3x512x512, .bf16⟩
  | .hbm, ⟨79, _⟩ => ⟨S8x1x4x512x512, .bf16⟩
  | .hbm, ⟨80, _⟩ => ⟨S8x4x512x512, .bf16⟩
  | .hbm, ⟨81, _⟩ => ⟨S8x1x5x512x512, .bf16⟩
  | .hbm, ⟨82, _⟩ => ⟨S8x5x512x512, .bf16⟩
  | .hbm, ⟨83, _⟩ => ⟨S8x1x6x512x512, .bf16⟩
  | .hbm, ⟨84, _⟩ => ⟨S8x6x512x512, .bf16⟩
  | .hbm, ⟨85, _⟩ => ⟨S8x1x7x512x512, .bf16⟩
  | .hbm, ⟨86, _⟩ => ⟨S8x7x512x512, .bf16⟩
  | .hbm, ⟨87, _⟩ => ⟨S8x1x8x512x512, .bf16⟩
  | .hbm, ⟨88, _⟩ => ⟨S8x8x512x512, .bf16⟩
  | .hbm, ⟨89, _⟩ => ⟨S8x1x9x512x512, .bf16⟩
  | .hbm, ⟨90, _⟩ => ⟨S8x9x512x512, .bf16⟩
  | .hbm, ⟨91, _⟩ => ⟨S8x1x10x512x512, .bf16⟩
  | .hbm, ⟨92, _⟩ => ⟨S8x10x512x512, .bf16⟩
  | .hbm, ⟨93, _⟩ => ⟨S8x1x11x512x512, .bf16⟩
  | .hbm, ⟨94, _⟩ => ⟨S8x11x512x512, .bf16⟩
  | .hbm, ⟨95, _⟩ => ⟨S8x1x12x512x512, .bf16⟩
  | .hbm, ⟨96, _⟩ => ⟨S8x12x512x512, .bf16⟩
  | .hbm, ⟨97, _⟩ => ⟨S8x1x13x512x512, .bf16⟩
  | .hbm, ⟨98, _⟩ => ⟨S8x13x512x512, .bf16⟩
  | .hbm, ⟨99, _⟩ => ⟨S8x1x14x512x512, .bf16⟩
  | .hbm, ⟨100, _⟩ => ⟨S8x14x512x512, .bf16⟩
  | .hbm, ⟨101, _⟩ => ⟨S8x1x15x512x512, .bf16⟩
  | .hbm, ⟨102, _⟩ => ⟨S8x15x512x512, .bf16⟩
  | .hbm, ⟨103, _⟩ => ⟨S8x1x16x512x512, .bf16⟩
  | .hbm, ⟨104, _⟩ => ⟨S8x16x512x512, .bf16⟩
  | .hbm, ⟨105, _⟩ => ⟨S8x136x512x512, .bf16⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S8192x1024, .f32⟩
  | .hbm, ⟨111, _⟩ => ⟨S8192x1024, .f32⟩
  | .hbm, ⟨112, _⟩ => ⟨S8192x1024, .bf16⟩
  | .hbm, ⟨113, _⟩ => ⟨S8192x1024, .bf16⟩
  | .hbm, ⟨114, _⟩ => ⟨S8192x1024, .bf16⟩
  | .hbm, ⟨115, _⟩ => ⟨S8192x3072, .bf16⟩
  | .hbm, ⟨116, _⟩ => ⟨S_, .f32⟩
  | .hbm, ⟨117, _⟩ => ⟨S8192x1024, .f32⟩
  | .hbm, ⟨118, _⟩ => ⟨S8192x2048, .f32⟩
  | .hbm, ⟨119, _⟩ => ⟨S8192x1024, .bf16⟩
  | .hbm, ⟨120, _⟩ => ⟨S8192x1024, .bf16⟩
  | .hbm, ⟨121, _⟩ => ⟨S8192x1024, .bf16⟩
  | .local _ .vmem, ⟨0, _⟩ => ⟨S512x128, .f32⟩
  | .local _ .vmem, ⟨1, _⟩ => ⟨S512x128, .f32⟩
  | .local _ .vmem, ⟨2, _⟩ => ⟨S512x128, .bf16⟩
  | .local _ .vmem, ⟨3, _⟩ => ⟨S512x128, .bf16⟩
  | .local _ .vmem, ⟨4, _⟩ => ⟨S8192x128, .bf16⟩
  | .local _ .vmem, ⟨5, _⟩ => ⟨S8192x128, .bf16⟩
  | .local _ .vmem, ⟨6, _⟩ => ⟨S8192x128, .bf16⟩
  | .local _ .vmem, ⟨7, _⟩ => ⟨S8192x128, .bf16⟩
  | .local _ .vmem, ⟨8, _⟩ => ⟨S256x128, .bf16⟩
  | .local _ .vmem, ⟨9, _⟩ => ⟨S512x128, .bf16⟩
  | .local _ .vmem, ⟨10, _⟩ => ⟨S512x128, .bf16⟩
  | .local _ .vmem, ⟨11, _⟩ => ⟨S8192x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .f32⟩
  | .local _ .vmem, ⟨16, _⟩ => ⟨S8192x128, .f32⟩
  | .local _ .vmem, ⟨17, _⟩ => ⟨S2x512x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v15 : Ref sig .tc := ⟨.hbm, 36, rfl⟩
abbrev main_cst_1 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v16 : Ref sig .tc := ⟨.hbm, 41, rfl⟩
abbrev main_call2_cst : Ref sig .tc := ⟨.hbm, 42, rfl⟩
abbrev main_call2_v0 : Ref sig .tc := ⟨.hbm, 43, rfl⟩
abbrev main_v17 : Ref sig .tc := ⟨.hbm, 44, rfl⟩
abbrev main_v18 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_cst_2 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_cst_3 : Ref sig .tc := ⟨.hbm, 106, rfl⟩
abbrev main_v60 : Ref sig .tc := ⟨.hbm, 107, rfl⟩
abbrev main_cst_4 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_5 : Ref sig .tc := ⟨.hbm, 116, rfl⟩
abbrev main_v68 : Ref sig .tc := ⟨.hbm, 117, rfl⟩
abbrev main_v69 : Ref sig .tc := ⟨.hbm, 118, rfl⟩
abbrev main_v70_0 : Ref sig .tc := ⟨.hbm, 119, rfl⟩
abbrev main_v70_1 : Ref sig .tc := ⟨.hbm, 120, rfl⟩
abbrev main_v70_2 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 16], ![false, false]⟩

def k0_off1 (i : grid0.Coords) : Fin 4 → Nat :=
  let arg0 : BitVec 32 := BitVec.ofNat 32 (i 0).val
  let arg1 : BitVec 32 := BitVec.ofNat 32 (i 1).val
  let c1_i32 : BitVec 32 := 1#32
  let v9 : BitVec 32 := Scalar.addi arg1 c1_i32
  let v10 : BitVec 32 := Scalar.muli arg1 v9
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c2_i32 : BitVec 32 := 2#32
  let c0_i32_8 : BitVec 32 := 0#32
  let v17 : BitVec 1 := Scalar.cmpi .sgt c2_i32 c0_i32_8
  let v18 : BitVec 32 := Scalar.extui v17
  let c0_i32_9 : BitVec 32 := 0#32
  let v19 : BitVec 1 := Scalar.cmpi .slt c2_i32 c0_i32_9
  let v20 : BitVec 32 := Scalar.extui v19
  let v21 : BitVec 32 := Scalar.subi v18 v20
  let v22 : BitVec 1 := Scalar.cmpi .ne v16 v21
  let v23 : BitVec 32 := Scalar.remsi v10 c2_i32
  let c0_i32_10 : BitVec 32 := 0#32
  let v24 : BitVec 1 := Scalar.cmpi .ne v23 c0_i32_10
  let v25 : BitVec 1 := Scalar.andi v22 v24
  let v11 : BitVec 32 := Scalar.divsi v10 c2_i32
  let c1_i32_11 : BitVec 32 := 1#32
  let v26 : BitVec 32 := Scalar.subi v11 c1_i32_11
  let v27 : BitVec 32 := Scalar.select v25 v26 v11
  let c0_i32_12 : BitVec 32 := 0#32
  let v28 : BitVec 32 := Scalar.addi v27 c0_i32_12
  let c0_i32_17 : BitVec 32 := 0#32
  let c0_i32_18 : BitVec 32 := 0#32
  ![arg0.toNat, v28.toNat, 0, 0]
@[reducible] def k0_t1_loop (i : grid0.Coords) : Scf.Loop 32 :=
  let c0_i32_20 : BitVec 32 := 0#32
  let arg1 : BitVec 32 := BitVec.ofNat 32 (i 1).val
  let v37 : BitVec 32 := Scalar.subi arg1 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_22 : BitVec 32 := 1#32
  ⟨c0_i32_20, v41, c1_i32_22⟩
def k0_off2 (i : grid0.Coords) (k0_t1 : Fin (k0_t1_loop i).trips) : Fin 1 → Nat :=
  let c0_i32_20 : BitVec 32 := 0#32
  let c1_i32_22 : BitVec 32 := 1#32
  let arg15 : BitVec 32 := Scf.iv c0_i32_20 c1_i32_22 k0_t1
  let c2_i32_62 : BitVec 32 := 2#32
  let c0_i32_63 : BitVec 32 := 0#32
  let v184 : BitVec 1 := Scalar.cmpi .eq c2_i32_62 c0_i32_63
  let c1_i32_64 : BitVec 32 := 1#32
  let v185 : BitVec 32 := Scalar.select v184 c1_i32_64 c2_i32_62
  let v186 : BitVec 32 := Scalar.remsi arg15 v185
  let c0_i32_66 : BitVec 32 := 0#32
  let v188 : BitVec 1 := Scalar.cmpi .slt v186 c0_i32_66
  let c0_i32_67 : BitVec 32 := 0#32
  let v189 : BitVec 1 := Scalar.cmpi .slt v185 c0_i32_67
  let v190 : BitVec 1 := Scalar.xori v188 v189
  let c0_i32_65 : BitVec 32 := 0#32
  let v187 : BitVec 1 := Scalar.cmpi .ne v186 c0_i32_65
  let v191 : BitVec 1 := Scalar.andi v190 v187
  let v192 : BitVec 32 := Scalar.addi v186 v185
  let v193 : BitVec 32 := Scalar.select v191 v192 v186
  ![v193.toNat]
def k0_off3 (i : grid0.Coords) (k0_t1 : Fin (k0_t1_loop i).trips) : Fin 3 → Nat :=
  let c0_i32_20 : BitVec 32 := 0#32
  let c1_i32_22 : BitVec 32 := 1#32
  let arg15 : BitVec 32 := Scf.iv c0_i32_20 c1_i32_22 k0_t1
  let c2_i32_62 : BitVec 32 := 2#32
  let c0_i32_63 : BitVec 32 := 0#32
  let v184 : BitVec 1 := Scalar.cmpi .eq c2_i32_62 c0_i32_63
  let c1_i32_64 : BitVec 32 := 1#32
  let v185 : BitVec 32 := Scalar.select v184 c1_i32_64 c2_i32_62
  let v186 : BitVec 32 := Scalar.remsi arg15 v185
  let c0_i32_66 : BitVec 32 := 0#32
  let v188 : BitVec 1 := Scalar.cmpi .slt v186 c0_i32_66
  let c0_i32_67 : BitVec 32 := 0#32
  let v189 : BitVec 1 := Scalar.cmpi .slt v185 c0_i32_67
  let v190 : BitVec 1 := Scalar.xori v188 v189
  let c0_i32_65 : BitVec 32 := 0#32
  let v187 : BitVec 1 := Scalar.cmpi .ne v186 c0_i32_65
  let v191 : BitVec 1 := Scalar.andi v190 v187
  let v192 : BitVec 32 := Scalar.addi v186 v185
  let v193 : BitVec 32 := Scalar.select v191 v192 v186
  let c0_i32_68 : BitVec 32 := 0#32
  let c0_i32_69 : BitVec 32 := 0#32
  ![v193.toNat, 0, 0]
def k0_off4 (i : grid0.Coords) (k0_t1 : Fin (k0_t1_loop i).trips) : Fin 4 → Nat :=
  let arg0 : BitVec 32 := BitVec.ofNat 32 (i 0).val
  let arg1 : BitVec 32 := BitVec.ofNat 32 (i 1).val
  let c1_i32 : BitVec 32 := 1#32
  let v9 : BitVec 32 := Scalar.addi arg1 c1_i32
  let v10 : BitVec 32 := Scalar.muli arg1 v9
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c2_i32 : BitVec 32 := 2#32
  let c0_i32_8 : BitVec 32 := 0#32
  let v17 : BitVec 1 := Scalar.cmpi .sgt c2_i32 c0_i32_8
  let v18 : BitVec 32 := Scalar.extui v17
  let c0_i32_9 : BitVec 32 := 0#32
  let v19 : BitVec 1 := Scalar.cmpi .slt c2_i32 c0_i32_9
  let v20 : BitVec 32 := Scalar.extui v19
  let v21 : BitVec 32 := Scalar.subi v18 v20
  let v22 : BitVec 1 := Scalar.cmpi .ne v16 v21
  let v23 : BitVec 32 := Scalar.remsi v10 c2_i32
  let c0_i32_10 : BitVec 32 := 0#32
  let v24 : BitVec 1 := Scalar.cmpi .ne v23 c0_i32_10
  let v25 : BitVec 1 := Scalar.andi v22 v24
  let v11 : BitVec 32 := Scalar.divsi v10 c2_i32
  let c1_i32_11 : BitVec 32 := 1#32
  let v26 : BitVec 32 := Scalar.subi v11 c1_i32_11
  let v27 : BitVec 32 := Scalar.select v25 v26 v11
  let c0_i32_20 : BitVec 32 := 0#32
  let c1_i32_22 : BitVec 32 := 1#32
  let arg15 : BitVec 32 := Scf.iv c0_i32_20 c1_i32_22 k0_t1
  let v194 : BitVec 32 := Scalar.addi v27 arg15
  let c0_i32_70 : BitVec 32 := 0#32
  let c0_i32_71 : BitVec 32 := 0#32
  ![arg0.toNat, v194.toNat, 0, 0]
def k0_cond2 (i : grid0.Coords) (k0_t1 : Fin (k0_t1_loop i).trips) : BitVec 1 :=
  let c0_i32_20 : BitVec 32 := 0#32
  let c1_i32_22 : BitVec 32 := 1#32
  let arg15 : BitVec 32 := Scf.iv c0_i32_20 c1_i32_22 k0_t1
  let arg1 : BitVec 32 := BitVec.ofNat 32 (i 1).val
  let v201 : BitVec 1 := Scalar.cmpi .slt arg15 arg1
  let v202 : BitVec 32 := Scalar.extui v201
  let c0_i32_72 : BitVec 32 := 0#32
  let v203 : BitVec 1 := Scalar.cmpi .ne v202 c0_i32_72
  v203

def k0_off5 (i : grid0.Coords) (k0_t1 : Fin (k0_t1_loop i).trips) : Fin 1 → Nat :=
  let c1_i32_97 : BitVec 32 := 1#32
  let c0_i32_20 : BitVec 32 := 0#32
  let c1_i32_22 : BitVec 32 := 1#32
  let arg15 : BitVec 32 := Scf.iv c0_i32_20 c1_i32_22 k0_t1
  let c2_i32_62 : BitVec 32 := 2#32
  let c0_i32_63 : BitVec 32 := 0#32
  let v184 : BitVec 1 := Scalar.cmpi .eq c2_i32_62 c0_i32_63
  let c1_i32_64 : BitVec 32 := 1#32
  let v185 : BitVec 32 := Scalar.select v184 c1_i32_64 c2_i32_62
  let v186 : BitVec 32 := Scalar.remsi arg15 v185
  let c0_i32_66 : BitVec 32 := 0#32
  let v188 : BitVec 1 := Scalar.cmpi .slt v186 c0_i32_66
  let c0_i32_67 : BitVec 32 := 0#32
  let v189 : BitVec 1 := Scalar.cmpi .slt v185 c0_i32_67
  let v190 : BitVec 1 := Scalar.xori v188 v189
  let c0_i32_65 : BitVec 32 := 0#32
  let v187 : BitVec 1 := Scalar.cmpi .ne v186 c0_i32_65
  let v191 : BitVec 1 := Scalar.andi v190 v187
  let v192 : BitVec 32 := Scalar.addi v186 v185
  let v193 : BitVec 32 := Scalar.select v191 v192 v186
  let v317 : BitVec 32 := Scalar.subi c1_i32_97 v193
  ![v317.toNat]
def k0_off6 (i : grid0.Coords) (k0_t1 : Fin (k0_t1_loop i).trips) : Fin 3 → Nat :=
  let c1_i32_97 : BitVec 32 := 1#32
  let c0_i32_20 : BitVec 32 := 0#32
  let c1_i32_22 : BitVec 32 := 1#32
  let arg15 : BitVec 32 := Scf.iv c0_i32_20 c1_i32_22 k0_t1
  let c2_i32_62 : BitVec 32 := 2#32
  let c0_i32_63 : BitVec 32 := 0#32
  let v184 : BitVec 1 := Scalar.cmpi .eq c2_i32_62 c0_i32_63
  let c1_i32_64 : BitVec 32 := 1#32
  let v185 : BitVec 32 := Scalar.select v184 c1_i32_64 c2_i32_62
  let v186 : BitVec 32 := Scalar.remsi arg15 v185
  let c0_i32_66 : BitVec 32 := 0#32
  let v188 : BitVec 1 := Scalar.cmpi .slt v186 c0_i32_66
  let c0_i32_67 : BitVec 32 := 0#32
  let v189 : BitVec 1 := Scalar.cmpi .slt v185 c0_i32_67
  let v190 : BitVec 1 := Scalar.xori v188 v189
  let c0_i32_65 : BitVec 32 := 0#32
  let v187 : BitVec 1 := Scalar.cmpi .ne v186 c0_i32_65
  let v191 : BitVec 1 := Scalar.andi v190 v187
  let v192 : BitVec 32 := Scalar.addi v186 v185
  let v193 : BitVec 32 := Scalar.select v191 v192 v186
  let v317 : BitVec 32 := Scalar.subi c1_i32_97 v193
  let c0_i32_99 : BitVec 32 := 0#32
  let c0_i32_100 : BitVec 32 := 0#32
  ![v317.toNat, 0, 0]
def k0_off7 (i : grid0.Coords) (k0_t1 : Fin (k0_t1_loop i).trips) : Fin 4 → Nat :=
  let arg0 : BitVec 32 := BitVec.ofNat 32 (i 0).val
  let arg1 : BitVec 32 := BitVec.ofNat 32 (i 1).val
  let c1_i32 : BitVec 32 := 1#32
  let v9 : BitVec 32 := Scalar.addi arg1 c1_i32
  let v10 : BitVec 32 := Scalar.muli arg1 v9
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c2_i32 : BitVec 32 := 2#32
  let c0_i32_8 : BitVec 32 := 0#32
  let v17 : BitVec 1 := Scalar.cmpi .sgt c2_i32 c0_i32_8
  let v18 : BitVec 32 := Scalar.extui v17
  let c0_i32_9 : BitVec 32 := 0#32
  let v19 : BitVec 1 := Scalar.cmpi .slt c2_i32 c0_i32_9
  let v20 : BitVec 32 := Scalar.extui v19
  let v21 : BitVec 32 := Scalar.subi v18 v20
  let v22 : BitVec 1 := Scalar.cmpi .ne v16 v21
  let v23 : BitVec 32 := Scalar.remsi v10 c2_i32
  let c0_i32_10 : BitVec 32 := 0#32
  let v24 : BitVec 1 := Scalar.cmpi .ne v23 c0_i32_10
  let v25 : BitVec 1 := Scalar.andi v22 v24
  let v11 : BitVec 32 := Scalar.divsi v10 c2_i32
  let c1_i32_11 : BitVec 32 := 1#32
  let v26 : BitVec 32 := Scalar.subi v11 c1_i32_11
  let v27 : BitVec 32 := Scalar.select v25 v26 v11
  let c0_i32_20 : BitVec 32 := 0#32
  let c1_i32_22 : BitVec 32 := 1#32
  let arg15 : BitVec 32 := Scf.iv c0_i32_20 c1_i32_22 k0_t1
  let c1_i32_98 : BitVec 32 := 1#32
  let v318 : BitVec 32 := Scalar.addi arg15 c1_i32_98
  let v319 : BitVec 32 := Scalar.addi v27 v318
  let c0_i32_101 : BitVec 32 := 0#32
  let c0_i32_102 : BitVec 32 := 0#32
  ![arg0.toNat, v319.toNat, 0, 0]
def k0_mult1 (i : grid0.Coords) (k0_t1 : Fin (k0_t1_loop i).trips) : BitVec 32 :=
  let c0_i32_20 : BitVec 32 := 0#32
  let c1_i32_22 : BitVec 32 := 1#32
  let arg15 : BitVec 32 := Scf.iv c0_i32_20 c1_i32_22 k0_t1
  let c512_i32_73 : BitVec 32 := 512#32
  let v204 : BitVec 32 := Scalar.muli arg15 c512_i32_73
  v204
def k0_off8 (i : grid0.Coords) (k0_t1 : Fin (k0_t1_loop i).trips) : Fin 3 → Nat :=
  let c0_i32_20 : BitVec 32 := 0#32
  let c1_i32_22 : BitVec 32 := 1#32
  let arg15 : BitVec 32 := Scf.iv c0_i32_20 c1_i32_22 k0_t1
  let c2_i32_62 : BitVec 32 := 2#32
  let c0_i32_63 : BitVec 32 := 0#32
  let v184 : BitVec 1 := Scalar.cmpi .eq c2_i32_62 c0_i32_63
  let c1_i32_64 : BitVec 32 := 1#32
  let v185 : BitVec 32 := Scalar.select v184 c1_i32_64 c2_i32_62
  let v186 : BitVec 32 := Scalar.remsi arg15 v185
  let c0_i32_66 : BitVec 32 := 0#32
  let v188 : BitVec 1 := Scalar.cmpi .slt v186 c0_i32_66
  let c0_i32_67 : BitVec 32 := 0#32
  let v189 : BitVec 1 := Scalar.cmpi .slt v185 c0_i32_67
  let v190 : BitVec 1 := Scalar.xori v188 v189
  let c0_i32_65 : BitVec 32 := 0#32
  let v187 : BitVec 1 := Scalar.cmpi .ne v186 c0_i32_65
  let v191 : BitVec 1 := Scalar.andi v190 v187
  let v192 : BitVec 32 := Scalar.addi v186 v185
  let v193 : BitVec 32 := Scalar.select v191 v192 v186
  let v206 : Index := Scalar.indexCast v193
  let c0_74 : Index := 0#32
  let c0_75 : Index := 0#32
  ![v206.toNat, 0, 0]
def k0_mult2 (i : grid0.Coords) (k0_t1 : Fin (k0_t1_loop i).trips) : BitVec 32 :=
  let c0_i32_20 : BitVec 32 := 0#32
  let c1_i32_22 : BitVec 32 := 1#32
  let arg15 : BitVec 32 := Scf.iv c0_i32_20 c1_i32_22 k0_t1
  let c512_i32_76 : BitVec 32 := 512#32
  let v209 : BitVec 32 := Scalar.muli arg15 c512_i32_76
  v209
def k0_off9 (i : grid0.Coords) (k0_t1 : Fin (k0_t1_loop i).trips) : Fin 2 → Nat :=
  let c0_i32_20 : BitVec 32 := 0#32
  let c1_i32_22 : BitVec 32 := 1#32
  let arg15 : BitVec 32 := Scf.iv c0_i32_20 c1_i32_22 k0_t1
  let c512_i32_76 : BitVec 32 := 512#32
  let v209 : BitVec 32 := Scalar.muli arg15 c512_i32_76
  let v210 : BitVec 32 := v209
  let v211 : Index := Scalar.indexCast v210
  let c0_77 : Index := 0#32
  ![v211.toNat, 0]
@[reducible] def k0_t2_loop (i : grid0.Coords) : Scf.Loop 32 :=
  let c0_i32_20 : BitVec 32 := 0#32
  let arg1 : BitVec 32 := BitVec.ofNat 32 (i 1).val
  let v37 : BitVec 32 := Scalar.subi arg1 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let v38 : BitVec 32 := Scalar.addi c0_i32_20 v37
  let c1_i32_23 : BitVec 32 := 1#32
  ⟨v41, v38, c1_i32_23⟩
def k0_off10 (i : grid0.Coords) (k0_t2 : Fin (k0_t2_loop i).trips) : Fin 1 → Nat :=
  let c0_i32_20 : BitVec 32 := 0#32
  let arg1 : BitVec 32 := BitVec.ofNat 32 (i 1).val
  let v37 : BitVec 32 := Scalar.subi arg1 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t2
  let c2_i32_62 : BitVec 32 := 2#32
  let c0_i32_63 : BitVec 32 := 0#32
  let v184 : BitVec 1 := Scalar.cmpi .eq c2_i32_62 c0_i32_63
  let c1_i32_64 : BitVec 32 := 1#32
  let v185 : BitVec 32 := Scalar.select v184 c1_i32_64 c2_i32_62
  let v186 : BitVec 32 := Scalar.remsi arg15 v185
  let c0_i32_66 : BitVec 32 := 0#32
  let v188 : BitVec 1 := Scalar.cmpi .slt v186 c0_i32_66
  let c0_i32_67 : BitVec 32 := 0#32
  let v189 : BitVec 1 := Scalar.cmpi .slt v185 c0_i32_67
  let v190 : BitVec 1 := Scalar.xori v188 v189
  let c0_i32_65 : BitVec 32 := 0#32
  let v187 : BitVec 1 := Scalar.cmpi .ne v186 c0_i32_65
  let v191 : BitVec 1 := Scalar.andi v190 v187
  let v192 : BitVec 32 := Scalar.addi v186 v185
  let v193 : BitVec 32 := Scalar.select v191 v192 v186
  ![v193.toNat]
def k0_off11 (i : grid0.Coords) (k0_t2 : Fin (k0_t2_loop i).trips) : Fin 3 → Nat :=
  let c0_i32_20 : BitVec 32 := 0#32
  let arg1 : BitVec 32 := BitVec.ofNat 32 (i 1).val
  let v37 : BitVec 32 := Scalar.subi arg1 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t2
  let c2_i32_62 : BitVec 32 := 2#32
  let c0_i32_63 : BitVec 32 := 0#32
  let v184 : BitVec 1 := Scalar.cmpi .eq c2_i32_62 c0_i32_63
  let c1_i32_64 : BitVec 32 := 1#32
  let v185 : BitVec 32 := Scalar.select v184 c1_i32_64 c2_i32_62
  let v186 : BitVec 32 := Scalar.remsi arg15 v185
  let c0_i32_66 : BitVec 32 := 0#32
  let v188 : BitVec 1 := Scalar.cmpi .slt v186 c0_i32_66
  let c0_i32_67 : BitVec 32 := 0#32
  let v189 : BitVec 1 := Scalar.cmpi .slt v185 c0_i32_67
  let v190 : BitVec 1 := Scalar.xori v188 v189
  let c0_i32_65 : BitVec 32 := 0#32
  let v187 : BitVec 1 := Scalar.cmpi .ne v186 c0_i32_65
  let v191 : BitVec 1 := Scalar.andi v190 v187
  let v192 : BitVec 32 := Scalar.addi v186 v185
  let v193 : BitVec 32 := Scalar.select v191 v192 v186
  let c0_i32_68 : BitVec 32 := 0#32
  let c0_i32_69 : BitVec 32 := 0#32
  ![v193.toNat, 0, 0]
def k0_off12 (i : grid0.Coords) (k0_t2 : Fin (k0_t2_loop i).trips) : Fin 4 → Nat :=
  let arg0 : BitVec 32 := BitVec.ofNat 32 (i 0).val
  let arg1 : BitVec 32 := BitVec.ofNat 32 (i 1).val
  let c1_i32 : BitVec 32 := 1#32
  let v9 : BitVec 32 := Scalar.addi arg1 c1_i32
  let v10 : BitVec 32 := Scalar.muli arg1 v9
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c2_i32 : BitVec 32 := 2#32
  let c0_i32_8 : BitVec 32 := 0#32
  let v17 : BitVec 1 := Scalar.cmpi .sgt c2_i32 c0_i32_8
  let v18 : BitVec 32 := Scalar.extui v17
  let c0_i32_9 : BitVec 32 := 0#32
  let v19 : BitVec 1 := Scalar.cmpi .slt c2_i32 c0_i32_9
  let v20 : BitVec 32 := Scalar.extui v19
  let v21 : BitVec 32 := Scalar.subi v18 v20
  let v22 : BitVec 1 := Scalar.cmpi .ne v16 v21
  let v23 : BitVec 32 := Scalar.remsi v10 c2_i32
  let c0_i32_10 : BitVec 32 := 0#32
  let v24 : BitVec 1 := Scalar.cmpi .ne v23 c0_i32_10
  let v25 : BitVec 1 := Scalar.andi v22 v24
  let v11 : BitVec 32 := Scalar.divsi v10 c2_i32
  let c1_i32_11 : BitVec 32 := 1#32
  let v26 : BitVec 32 := Scalar.subi v11 c1_i32_11
  let v27 : BitVec 32 := Scalar.select v25 v26 v11
  let c0_i32_20 : BitVec 32 := 0#32
  let v37 : BitVec 32 := Scalar.subi arg1 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t2
  let v194 : BitVec 32 := Scalar.addi v27 arg15
  let c0_i32_70 : BitVec 32 := 0#32
  let c0_i32_71 : BitVec 32 := 0#32
  ![arg0.toNat, v194.toNat, 0, 0]
def k0_cond3 (i : grid0.Coords) (k0_t2 : Fin (k0_t2_loop i).trips) : BitVec 1 :=
  let c0_i32_20 : BitVec 32 := 0#32
  let arg1 : BitVec 32 := BitVec.ofNat 32 (i 1).val
  let v37 : BitVec 32 := Scalar.subi arg1 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t2
  let v201 : BitVec 1 := Scalar.cmpi .slt arg15 arg1
  let v202 : BitVec 32 := Scalar.extui v201
  let c0_i32_72 : BitVec 32 := 0#32
  let v203 : BitVec 1 := Scalar.cmpi .ne v202 c0_i32_72
  v203

def k0_off13 (i : grid0.Coords) (k0_t2 : Fin (k0_t2_loop i).trips) : Fin 1 → Nat :=
  let c1_i32_97 : BitVec 32 := 1#32
  let c0_i32_20 : BitVec 32 := 0#32
  let arg1 : BitVec 32 := BitVec.ofNat 32 (i 1).val
  let v37 : BitVec 32 := Scalar.subi arg1 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t2
  let c2_i32_62 : BitVec 32 := 2#32
  let c0_i32_63 : BitVec 32 := 0#32
  let v184 : BitVec 1 := Scalar.cmpi .eq c2_i32_62 c0_i32_63
  let c1_i32_64 : BitVec 32 := 1#32
  let v185 : BitVec 32 := Scalar.select v184 c1_i32_64 c2_i32_62
  let v186 : BitVec 32 := Scalar.remsi arg15 v185
  let c0_i32_66 : BitVec 32 := 0#32
  let v188 : BitVec 1 := Scalar.cmpi .slt v186 c0_i32_66
  let c0_i32_67 : BitVec 32 := 0#32
  let v189 : BitVec 1 := Scalar.cmpi .slt v185 c0_i32_67
  let v190 : BitVec 1 := Scalar.xori v188 v189
  let c0_i32_65 : BitVec 32 := 0#32
  let v187 : BitVec 1 := Scalar.cmpi .ne v186 c0_i32_65
  let v191 : BitVec 1 := Scalar.andi v190 v187
  let v192 : BitVec 32 := Scalar.addi v186 v185
  let v193 : BitVec 32 := Scalar.select v191 v192 v186
  let v317 : BitVec 32 := Scalar.subi c1_i32_97 v193
  ![v317.toNat]
def k0_off14 (i : grid0.Coords) (k0_t2 : Fin (k0_t2_loop i).trips) : Fin 3 → Nat :=
  let c1_i32_97 : BitVec 32 := 1#32
  let c0_i32_20 : BitVec 32 := 0#32
  let arg1 : BitVec 32 := BitVec.ofNat 32 (i 1).val
  let v37 : BitVec 32 := Scalar.subi arg1 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t2
  let c2_i32_62 : BitVec 32 := 2#32
  let c0_i32_63 : BitVec 32 := 0#32
  let v184 : BitVec 1 := Scalar.cmpi .eq c2_i32_62 c0_i32_63
  let c1_i32_64 : BitVec 32 := 1#32
  let v185 : BitVec 32 := Scalar.select v184 c1_i32_64 c2_i32_62
  let v186 : BitVec 32 := Scalar.remsi arg15 v185
  let c0_i32_66 : BitVec 32 := 0#32
  let v188 : BitVec 1 := Scalar.cmpi .slt v186 c0_i32_66
  let c0_i32_67 : BitVec 32 := 0#32
  let v189 : BitVec 1 := Scalar.cmpi .slt v185 c0_i32_67
  let v190 : BitVec 1 := Scalar.xori v188 v189
  let c0_i32_65 : BitVec 32 := 0#32
  let v187 : BitVec 1 := Scalar.cmpi .ne v186 c0_i32_65
  let v191 : BitVec 1 := Scalar.andi v190 v187
  let v192 : BitVec 32 := Scalar.addi v186 v185
  let v193 : BitVec 32 := Scalar.select v191 v192 v186
  let v317 : BitVec 32 := Scalar.subi c1_i32_97 v193
  let c0_i32_99 : BitVec 32 := 0#32
  let c0_i32_100 : BitVec 32 := 0#32
  ![v317.toNat, 0, 0]
def k0_off15 (i : grid0.Coords) (k0_t2 : Fin (k0_t2_loop i).trips) : Fin 4 → Nat :=
  let arg0 : BitVec 32 := BitVec.ofNat 32 (i 0).val
  let arg1 : BitVec 32 := BitVec.ofNat 32 (i 1).val
  let c1_i32 : BitVec 32 := 1#32
  let v9 : BitVec 32 := Scalar.addi arg1 c1_i32
  let v10 : BitVec 32 := Scalar.muli arg1 v9
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c2_i32 : BitVec 32 := 2#32
  let c0_i32_8 : BitVec 32 := 0#32
  let v17 : BitVec 1 := Scalar.cmpi .sgt c2_i32 c0_i32_8
  let v18 : BitVec 32 := Scalar.extui v17
  let c0_i32_9 : BitVec 32 := 0#32
  let v19 : BitVec 1 := Scalar.cmpi .slt c2_i32 c0_i32_9
  let v20 : BitVec 32 := Scalar.extui v19
  let v21 : BitVec 32 := Scalar.subi v18 v20
  let v22 : BitVec 1 := Scalar.cmpi .ne v16 v21
  let v23 : BitVec 32 := Scalar.remsi v10 c2_i32
  let c0_i32_10 : BitVec 32 := 0#32
  let v24 : BitVec 1 := Scalar.cmpi .ne v23 c0_i32_10
  let v25 : BitVec 1 := Scalar.andi v22 v24
  let v11 : BitVec 32 := Scalar.divsi v10 c2_i32
  let c1_i32_11 : BitVec 32 := 1#32
  let v26 : BitVec 32 := Scalar.subi v11 c1_i32_11
  let v27 : BitVec 32 := Scalar.select v25 v26 v11
  let c0_i32_20 : BitVec 32 := 0#32
  let v37 : BitVec 32 := Scalar.subi arg1 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t2
  let c1_i32_98 : BitVec 32 := 1#32
  let v318 : BitVec 32 := Scalar.addi arg15 c1_i32_98
  let v319 : BitVec 32 := Scalar.addi v27 v318
  let c0_i32_101 : BitVec 32 := 0#32
  let c0_i32_102 : BitVec 32 := 0#32
  ![arg0.toNat, v319.toNat, 0, 0]
def k0_mult3 (i : grid0.Coords) (k0_t2 : Fin (k0_t2_loop i).trips) : BitVec 32 :=
  let c0_i32_20 : BitVec 32 := 0#32
  let arg1 : BitVec 32 := BitVec.ofNat 32 (i 1).val
  let v37 : BitVec 32 := Scalar.subi arg1 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t2
  let c512_i32_73 : BitVec 32 := 512#32
  let v204 : BitVec 32 := Scalar.muli arg15 c512_i32_73
  v204
def k0_off16 (i : grid0.Coords) (k0_t2 : Fin (k0_t2_loop i).trips) : Fin 3 → Nat :=
  let c0_i32_20 : BitVec 32 := 0#32
  let arg1 : BitVec 32 := BitVec.ofNat 32 (i 1).val
  let v37 : BitVec 32 := Scalar.subi arg1 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t2
  let c2_i32_62 : BitVec 32 := 2#32
  let c0_i32_63 : BitVec 32 := 0#32
  let v184 : BitVec 1 := Scalar.cmpi .eq c2_i32_62 c0_i32_63
  let c1_i32_64 : BitVec 32 := 1#32
  let v185 : BitVec 32 := Scalar.select v184 c1_i32_64 c2_i32_62
  let v186 : BitVec 32 := Scalar.remsi arg15 v185
  let c0_i32_66 : BitVec 32 := 0#32
  let v188 : BitVec 1 := Scalar.cmpi .slt v186 c0_i32_66
  let c0_i32_67 : BitVec 32 := 0#32
  let v189 : BitVec 1 := Scalar.cmpi .slt v185 c0_i32_67
  let v190 : BitVec 1 := Scalar.xori v188 v189
  let c0_i32_65 : BitVec 32 := 0#32
  let v187 : BitVec 1 := Scalar.cmpi .ne v186 c0_i32_65
  let v191 : BitVec 1 := Scalar.andi v190 v187
  let v192 : BitVec 32 := Scalar.addi v186 v185
  let v193 : BitVec 32 := Scalar.select v191 v192 v186
  let v206 : Index := Scalar.indexCast v193
  let c0_74 : Index := 0#32
  let c0_75 : Index := 0#32
  ![v206.toNat, 0, 0]
def k0_mult4 (i : grid0.Coords) (k0_t2 : Fin (k0_t2_loop i).trips) : BitVec 32 :=
  let c0_i32_20 : BitVec 32 := 0#32
  let arg1 : BitVec 32 := BitVec.ofNat 32 (i 1).val
  let v37 : BitVec 32 := Scalar.subi arg1 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t2
  let c512_i32_76 : BitVec 32 := 512#32
  let v209 : BitVec 32 := Scalar.muli arg15 c512_i32_76
  v209
def k0_off17 (i : grid0.Coords) (k0_t2 : Fin (k0_t2_loop i).trips) : Fin 2 → Nat :=
  let c0_i32_20 : BitVec 32 := 0#32
  let arg1 : BitVec 32 := BitVec.ofNat 32 (i 1).val
  let v37 : BitVec 32 := Scalar.subi arg1 c0_i32_20
  let c1_i32_21 : BitVec 32 := 1#32
  let v39 : BitVec 32 := Scalar.divsi v37 c1_i32_21
  let v40 : BitVec 32 := Scalar.muli v39 c1_i32_21
  let v41 : BitVec 32 := Scalar.addi c0_i32_20 v40
  let c1_i32_23 : BitVec 32 := 1#32
  let arg15 : BitVec 32 := Scf.iv v41 c1_i32_23 k0_t2
  let c512_i32_76 : BitVec 32 := 512#32
  let v209 : BitVec 32 := Scalar.muli arg15 c512_i32_76
  let v210 : BitVec 32 := v209
  let v211 : Index := Scalar.indexCast v210
  let c0_77 : Index := 0#32
  ![v211.toNat, 0]
def k0_off18 (i : grid0.Coords) : Fin 1 → Nat :=
  let arg1 : BitVec 32 := BitVec.ofNat 32 (i 1).val
  let c2_i32_24 : BitVec 32 := 2#32
  let c0_i32_25 : BitVec 32 := 0#32
  let v47 : BitVec 1 := Scalar.cmpi .eq c2_i32_24 c0_i32_25
  let c1_i32_26 : BitVec 32 := 1#32
  let v48 : BitVec 32 := Scalar.select v47 c1_i32_26 c2_i32_24
  let v49 : BitVec 32 := Scalar.remsi arg1 v48
  let c0_i32_28 : BitVec 32 := 0#32
  let v51 : BitVec 1 := Scalar.cmpi .slt v49 c0_i32_28
  let c0_i32_29 : BitVec 32 := 0#32
  let v52 : BitVec 1 := Scalar.cmpi .slt v48 c0_i32_29
  let v53 : BitVec 1 := Scalar.xori v51 v52
  let c0_i32_27 : BitVec 32 := 0#32
  let v50 : BitVec 1 := Scalar.cmpi .ne v49 c0_i32_27
  let v54 : BitVec 1 := Scalar.andi v53 v50
  let v55 : BitVec 32 := Scalar.addi v49 v48
  let v56 : BitVec 32 := Scalar.select v54 v55 v49
  ![v56.toNat]
def k0_off19 (i : grid0.Coords) : Fin 3 → Nat :=
  let arg1 : BitVec 32 := BitVec.ofNat 32 (i 1).val
  let c2_i32_24 : BitVec 32 := 2#32
  let c0_i32_25 : BitVec 32 := 0#32
  let v47 : BitVec 1 := Scalar.cmpi .eq c2_i32_24 c0_i32_25
  let c1_i32_26 : BitVec 32 := 1#32
  let v48 : BitVec 32 := Scalar.select v47 c1_i32_26 c2_i32_24
  let v49 : BitVec 32 := Scalar.remsi arg1 v48
  let c0_i32_28 : BitVec 32 := 0#32
  let v51 : BitVec 1 := Scalar.cmpi .slt v49 c0_i32_28
  let c0_i32_29 : BitVec 32 := 0#32
  let v52 : BitVec 1 := Scalar.cmpi .slt v48 c0_i32_29
  let v53 : BitVec 1 := Scalar.xori v51 v52
  let c0_i32_27 : BitVec 32 := 0#32
  let v50 : BitVec 1 := Scalar.cmpi .ne v49 c0_i32_27
  let v54 : BitVec 1 := Scalar.andi v53 v50
  let v55 : BitVec 32 := Scalar.addi v49 v48
  let v56 : BitVec 32 := Scalar.select v54 v55 v49
  let c0_i32_30 : BitVec 32 := 0#32
  let c0_i32_31 : BitVec 32 := 0#32
  ![v56.toNat, 0, 0]
def k0_off20 (i : grid0.Coords) : Fin 4 → Nat :=
  let arg0 : BitVec 32 := BitVec.ofNat 32 (i 0).val
  let arg1 : BitVec 32 := BitVec.ofNat 32 (i 1).val
  let c1_i32 : BitVec 32 := 1#32
  let v9 : BitVec 32 := Scalar.addi arg1 c1_i32
  let v10 : BitVec 32 := Scalar.muli arg1 v9
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c2_i32 : BitVec 32 := 2#32
  let c0_i32_8 : BitVec 32 := 0#32
  let v17 : BitVec 1 := Scalar.cmpi .sgt c2_i32 c0_i32_8
  let v18 : BitVec 32 := Scalar.extui v17
  let c0_i32_9 : BitVec 32 := 0#32
  let v19 : BitVec 1 := Scalar.cmpi .slt c2_i32 c0_i32_9
  let v20 : BitVec 32 := Scalar.extui v19
  let v21 : BitVec 32 := Scalar.subi v18 v20
  let v22 : BitVec 1 := Scalar.cmpi .ne v16 v21
  let v23 : BitVec 32 := Scalar.remsi v10 c2_i32
  let c0_i32_10 : BitVec 32 := 0#32
  let v24 : BitVec 1 := Scalar.cmpi .ne v23 c0_i32_10
  let v25 : BitVec 1 := Scalar.andi v22 v24
  let v11 : BitVec 32 := Scalar.divsi v10 c2_i32
  let c1_i32_11 : BitVec 32 := 1#32
  let v26 : BitVec 32 := Scalar.subi v11 c1_i32_11
  let v27 : BitVec 32 := Scalar.select v25 v26 v11
  let v57 : BitVec 32 := Scalar.addi v27 arg1
  let c0_i32_32 : BitVec 32 := 0#32
  let c0_i32_33 : BitVec 32 := 0#32
  ![arg0.toNat, v57.toNat, 0, 0]
def k0_cond4 (i : grid0.Coords) : BitVec 1 :=
  let arg1 : BitVec 32 := BitVec.ofNat 32 (i 1).val
  let v64 : BitVec 1 := Scalar.cmpi .slt arg1 arg1
  let v65 : BitVec 32 := Scalar.extui v64
  let c0_i32_34 : BitVec 32 := 0#32
  let v66 : BitVec 1 := Scalar.cmpi .ne v65 c0_i32_34
  v66

def k0_off21 (i : grid0.Coords) : Fin 1 → Nat :=
  let c1_i32_62 : BitVec 32 := 1#32
  let arg1 : BitVec 32 := BitVec.ofNat 32 (i 1).val
  let c2_i32_24 : BitVec 32 := 2#32
  let c0_i32_25 : BitVec 32 := 0#32
  let v47 : BitVec 1 := Scalar.cmpi .eq c2_i32_24 c0_i32_25
  let c1_i32_26 : BitVec 32 := 1#32
  let v48 : BitVec 32 := Scalar.select v47 c1_i32_26 c2_i32_24
  let v49 : BitVec 32 := Scalar.remsi arg1 v48
  let c0_i32_28 : BitVec 32 := 0#32
  let v51 : BitVec 1 := Scalar.cmpi .slt v49 c0_i32_28
  let c0_i32_29 : BitVec 32 := 0#32
  let v52 : BitVec 1 := Scalar.cmpi .slt v48 c0_i32_29
  let v53 : BitVec 1 := Scalar.xori v51 v52
  let c0_i32_27 : BitVec 32 := 0#32
  let v50 : BitVec 1 := Scalar.cmpi .ne v49 c0_i32_27
  let v54 : BitVec 1 := Scalar.andi v53 v50
  let v55 : BitVec 32 := Scalar.addi v49 v48
  let v56 : BitVec 32 := Scalar.select v54 v55 v49
  let v184 : BitVec 32 := Scalar.subi c1_i32_62 v56
  ![v184.toNat]
def k0_off22 (i : grid0.Coords) : Fin 3 → Nat :=
  let c1_i32_62 : BitVec 32 := 1#32
  let arg1 : BitVec 32 := BitVec.ofNat 32 (i 1).val
  let c2_i32_24 : BitVec 32 := 2#32
  let c0_i32_25 : BitVec 32 := 0#32
  let v47 : BitVec 1 := Scalar.cmpi .eq c2_i32_24 c0_i32_25
  let c1_i32_26 : BitVec 32 := 1#32
  let v48 : BitVec 32 := Scalar.select v47 c1_i32_26 c2_i32_24
  let v49 : BitVec 32 := Scalar.remsi arg1 v48
  let c0_i32_28 : BitVec 32 := 0#32
  let v51 : BitVec 1 := Scalar.cmpi .slt v49 c0_i32_28
  let c0_i32_29 : BitVec 32 := 0#32
  let v52 : BitVec 1 := Scalar.cmpi .slt v48 c0_i32_29
  let v53 : BitVec 1 := Scalar.xori v51 v52
  let c0_i32_27 : BitVec 32 := 0#32
  let v50 : BitVec 1 := Scalar.cmpi .ne v49 c0_i32_27
  let v54 : BitVec 1 := Scalar.andi v53 v50
  let v55 : BitVec 32 := Scalar.addi v49 v48
  let v56 : BitVec 32 := Scalar.select v54 v55 v49
  let v184 : BitVec 32 := Scalar.subi c1_i32_62 v56
  let c0_i32_64 : BitVec 32 := 0#32
  let c0_i32_65 : BitVec 32 := 0#32
  ![v184.toNat, 0, 0]
def k0_off23 (i : grid0.Coords) : Fin 4 → Nat :=
  let arg0 : BitVec 32 := BitVec.ofNat 32 (i 0).val
  let arg1 : BitVec 32 := BitVec.ofNat 32 (i 1).val
  let c1_i32 : BitVec 32 := 1#32
  let v9 : BitVec 32 := Scalar.addi arg1 c1_i32
  let v10 : BitVec 32 := Scalar.muli arg1 v9
  let c0_i32_6 : BitVec 32 := 0#32
  let v12 : BitVec 1 := Scalar.cmpi .sgt v10 c0_i32_6
  let v13 : BitVec 32 := Scalar.extui v12
  let c0_i32_7 : BitVec 32 := 0#32
  let v14 : BitVec 1 := Scalar.cmpi .slt v10 c0_i32_7
  let v15 : BitVec 32 := Scalar.extui v14
  let v16 : BitVec 32 := Scalar.subi v13 v15
  let c2_i32 : BitVec 32 := 2#32
  let c0_i32_8 : BitVec 32 := 0#32
  let v17 : BitVec 1 := Scalar.cmpi .sgt c2_i32 c0_i32_8
  let v18 : BitVec 32 := Scalar.extui v17
  let c0_i32_9 : BitVec 32 := 0#32
  let v19 : BitVec 1 := Scalar.cmpi .slt c2_i32 c0_i32_9
  let v20 : BitVec 32 := Scalar.extui v19
  let v21 : BitVec 32 := Scalar.subi v18 v20
  let v22 : BitVec 1 := Scalar.cmpi .ne v16 v21
  let v23 : BitVec 32 := Scalar.remsi v10 c2_i32
  let c0_i32_10 : BitVec 32 := 0#32
  let v24 : BitVec 1 := Scalar.cmpi .ne v23 c0_i32_10
  let v25 : BitVec 1 := Scalar.andi v22 v24
  let v11 : BitVec 32 := Scalar.divsi v10 c2_i32
  let c1_i32_11 : BitVec 32 := 1#32
  let v26 : BitVec 32 := Scalar.subi v11 c1_i32_11
  let v27 : BitVec 32 := Scalar.select v25 v26 v11
  let c1_i32_63 : BitVec 32 := 1#32
  let v185 : BitVec 32 := Scalar.addi arg1 c1_i32_63
  let v186 : BitVec 32 := Scalar.addi v27 v185
  let c0_i32_66 : BitVec 32 := 0#32
  let c0_i32_67 : BitVec 32 := 0#32
  ![arg0.toNat, v186.toNat, 0, 0]
def k0_mult5 (i : grid0.Coords) : BitVec 32 :=
  let arg1 : BitVec 32 := BitVec.ofNat 32 (i 1).val
  let c512_i32 : BitVec 32 := 512#32
  let v67 : BitVec 32 := Scalar.muli arg1 c512_i32
  v67
def k0_off24 (i : grid0.Coords) : Fin 3 → Nat :=
  let arg1 : BitVec 32 := BitVec.ofNat 32 (i 1).val
  let c2_i32_24 : BitVec 32 := 2#32
  let c0_i32_25 : BitVec 32 := 0#32
  let v47 : BitVec 1 := Scalar.cmpi .eq c2_i32_24 c0_i32_25
  let c1_i32_26 : BitVec 32 := 1#32
  let v48 : BitVec 32 := Scalar.select v47 c1_i32_26 c2_i32_24
  let v49 : BitVec 32 := Scalar.remsi arg1 v48
  let c0_i32_28 : BitVec 32 := 0#32
  let v51 : BitVec 1 := Scalar.cmpi .slt v49 c0_i32_28
  let c0_i32_29 : BitVec 32 := 0#32
  let v52 : BitVec 1 := Scalar.cmpi .slt v48 c0_i32_29
  let v53 : BitVec 1 := Scalar.xori v51 v52
  let c0_i32_27 : BitVec 32 := 0#32
  let v50 : BitVec 1 := Scalar.cmpi .ne v49 c0_i32_27
  let v54 : BitVec 1 := Scalar.andi v53 v50
  let v55 : BitVec 32 := Scalar.addi v49 v48
  let v56 : BitVec 32 := Scalar.select v54 v55 v49
  let v69 : Index := Scalar.indexCast v56
  let c0_35 : Index := 0#32
  let c0_36 : Index := 0#32
  ![v69.toNat, 0, 0]
def k0_mult6 (i : grid0.Coords) : BitVec 32 :=
  let arg1 : BitVec 32 := BitVec.ofNat 32 (i 1).val
  let c512_i32_37 : BitVec 32 := 512#32
  let v72 : BitVec 32 := Scalar.muli arg1 c512_i32_37
  v72
def k0_off25 (i : grid0.Coords) : Fin 2 → Nat :=
  let arg1 : BitVec 32 := BitVec.ofNat 32 (i 1).val
  let c512_i32_37 : BitVec 32 := 512#32
  let v72 : BitVec 32 := Scalar.muli arg1 c512_i32_37
  let v73 : BitVec 32 := v72
  let v74 : Index := Scalar.indexCast v73
  let c0_38 : Index := 0#32
  ![v74.toNat, 0]
def k0_cond5 (i : grid0.Coords) : BitVec 1 :=
  let arg1 : BitVec 32 := BitVec.ofNat 32 (i 1).val
  let c15_i32 : BitVec 32 := 15#32
  let v181 : BitVec 1 := Scalar.cmpi .eq arg1 c15_i32
  let v182 : BitVec 32 := Scalar.extui v181
  let c0_i32_61 : BitVec 32 := 0#32
  let v183 : BitVec 1 := Scalar.cmpi .ne v182 c0_i32_61
  v183

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== StickBwdKernelIdeal.lean ====
variable {F : FTy → Type} [FloatOps F] [Named F]
def κ : String → Option EReal := fun
  | "inv_query_scale" => some (((Real.log 2) * (134217728 / 11863283) : ℝ) : EReal)
  | _ => none
-- ==== StickBwdReferenceIdeal.lean ====
abbrev S8192x1024 : Shape := ⟨2, ![8192, 1024]⟩
abbrev S1x8192x8x128 : Shape := ⟨4, ![1, 8192, 8, 128]⟩
abbrev S1x8x8192x128 : Shape := ⟨4, ![1, 8, 8192, 128]⟩
abbrev S8192 : Shape := ⟨1, ![8192]⟩
abbrev S1x8x8192x8192 : Shape := ⟨4, ![1, 8, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S1x8x128x8192 : Shape := ⟨4, ![1, 8, 128, 8192]⟩

abbrev nBuf : Space → Nat
  | .hbm => 180
  | .vmem => 0
  | .smem => 0
  | _ => 0

abbrev hbmTy0_0 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S1x8192x8x128, .f32⟩
  | 5 => ⟨S1x8x8192x128, .f32⟩
  | 6 => ⟨S1x8192x8x128, .f32⟩
  | 7 => ⟨S1x8x8192x128, .f32⟩
  | 8 => ⟨S8192, .i32⟩
  | 9 => ⟨S1x8x8192x8192, .f32⟩
  | 10 => ⟨S_, .f32⟩
  | 11 => ⟨S1x8x8192x8192, .f32⟩
  | 12 => ⟨S1x8x8192x8192, .f32⟩
  | 13 => ⟨S8192, .i32⟩
  | 14 => ⟨S1x8192, .i32⟩
  | 15 => ⟨S8192x1, .i32⟩
  | 16 => ⟨S8192x8192, .i32⟩
  | 17 => ⟨S8192x8192, .i32⟩
  | 18 => ⟨S8192x8192, .i1⟩
  | 19 => ⟨S1x8x8192x8192, .f32⟩
  | 20 => ⟨S1x8x8192x8192, .f32⟩
  | 21 => ⟨S_, .f32⟩
  | 22 => ⟨S1x8x8192x8192, .f32⟩
  | 23 => ⟨S1x8x8192x8192, .f32⟩
  | 24 => ⟨S1x8x8192x8192, .f32⟩
  | 25 => ⟨S1x8x8192x8192, .f32⟩
  | 26 => ⟨S1x8x8192x8192, .i1⟩
  | 27 => ⟨S1x8x8192x8192, .f32⟩
  | 28 => ⟨S1x8x8192x8192, .f32⟩
  | 29 => ⟨S1x8x8192x8192, .f32⟩
  | 30 => ⟨S1x8x8192x8192, .f32⟩
  | 31 => ⟨S1x8x8192x8192, .f32⟩
  | 32 => ⟨S1x8x8192x8192, .f32⟩
  | 33 => ⟨S1x8x8192x8192, .f32⟩
  | 34 => ⟨S1x8x8192x8192, .f32⟩
  | 35 => ⟨S_, .f32⟩
  | 36 => ⟨S1x8x8192x8192, .f32⟩
  | 37 => ⟨S1x8x8192x8192, .i1⟩
  | 38 => ⟨S_, .f32⟩
  | 39 => ⟨S1x8x8192x8192, .f32⟩
  | 40 => ⟨S1x8x8192x8192, .f32⟩
  | 41 => ⟨S_, .f32⟩
  | 42 => ⟨S1x8x8192x8192, .f32⟩
  | 43 => ⟨S1x8x8192x8192, .i1⟩
  | 44 => ⟨S_, .f32⟩
  | 45 => ⟨S1x8x8192x8192, .f32⟩
  | 46 => ⟨S1x8x8192x8192, .f32⟩
  | 47 => ⟨S1x8x8192x8192, .f32⟩
  | 48 => ⟨S1x8x8192x8192, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S1x8x8192x8192, .f32⟩
  | 57 => ⟨S1x8x8192x8192, .i1⟩
  | 58 => ⟨S_, .f32⟩
  | 59 => ⟨S1x8x8192x8192, .f32⟩
  | 60 => ⟨S1x8x8192x8192, .f32⟩
  | 61 => ⟨S1x8x8192x8192, .f32⟩
  | 62 => ⟨S1x8x8192x8192, .f32⟩
  | 63 => ⟨S1x8x8192x8192, .f32⟩
  | 64 => ⟨S_, .f32⟩
  | 65 => ⟨S1x8x8192x8192, .f32⟩
  | 66 => ⟨S1x8x8192x8192, .f32⟩
  | 67 => ⟨S1x8x8192x8192, .f32⟩
  | 68 => ⟨S_, .f32⟩
  | 69 => ⟨S_, .f32⟩
  | 70 => ⟨S1x8x8192x8192, .i1⟩
  | 71 => ⟨S1x8x8192x8192, .f32⟩
  | 72 => ⟨S1x8x8192x8192, .f32⟩
  | 73 => ⟨S_, .f32⟩
  | 74 => ⟨S1x8x8192x8192, .f32⟩
  | 75 => ⟨S_, .f32⟩
  | 76 => ⟨S_, .f32⟩
  | 77 => ⟨S1x8x8192x8192, .f32⟩
  | 78 => ⟨S1x8x8192x8192, .f32⟩
  | 79 => ⟨S1x8x8192x8192, .f32⟩
  | 80 => ⟨S_, .f32⟩
  | 81 => ⟨S1x8x8192x8192, .f32⟩
  | 82 => ⟨S1x8x8192x8192, .f32⟩
  | 83 => ⟨S1x8x8192x8192, .f32⟩
  | 84 => ⟨S1x8x8192x8192, .f32⟩
  | 85 => ⟨S1x8x8192x8192, .i1⟩
  | 86 => ⟨S1x8x8192x8192, .f32⟩
  | 87 => ⟨S1x8x8192x8192, .f32⟩
  | 88 => ⟨S1x8x8192x8192, .f32⟩
  | 89 => ⟨S1x8x8192x8192, .f32⟩
  | 90 => ⟨S1x8x8192x8192, .f32⟩
  | 91 => ⟨S1x8x8192x8192, .f32⟩
  | 92 => ⟨S1x8x8192x8192, .f32⟩
  | 93 => ⟨S1x8x8192x8192, .f32⟩
  | 94 => ⟨S_, .f32⟩
  | 95 => ⟨S1x8x8192x8192, .f32⟩
  | 96 => ⟨S1x8x8192x8192, .i1⟩
  | 97 => ⟨S_, .f32⟩
  | 98 => ⟨S1x8x8192x8192, .f32⟩
  | 99 => ⟨S1x8x8192x8192, .f32⟩
  | 100 => ⟨S_, .f32⟩
  | 101 => ⟨S1x8x8192x8192, .f32⟩
  | 102 => ⟨S1x8x8192x8192, .i1⟩
  | 103 => ⟨S_, .f32⟩
  | 104 => ⟨S1x8x8192x8192, .f32⟩
  | 105 => ⟨S1x8x8192x8192, .f32⟩
  | 106 => ⟨S1x8x8192x8192, .f32⟩
  | 107 => ⟨S1x8x8192x8192, .f32⟩
  | 108 => ⟨S_, .f32⟩
  | 109 => ⟨S_, .f32⟩
  | 110 => ⟨S_, .i1⟩
  | 111 => ⟨S_, .f32⟩
  | 112 => ⟨S_, .f32⟩
  | 113 => ⟨S_, .f32⟩
  | 114 => ⟨S_, .f32⟩
  | 115 => ⟨S1x8x8192x8192, .f32⟩
  | 116 => ⟨S1x8x8192x8192, .i1⟩
  | 117 => ⟨S_, .f32⟩
  | 118 => ⟨S1x8x8192x8192, .f32⟩
  | 119 => ⟨S1x8x8192x8192, .f32⟩
  | 120 => ⟨S1x8x8192x8192, .f32⟩
  | 121 => ⟨S1x8x8192x8192, .f32⟩
  | 122 => ⟨S1x8x8192x8192, .f32⟩
  | 123 => ⟨S_, .f32⟩
  | 124 => ⟨S1x8x8192x8192, .f32⟩
  | 125 => ⟨S1x8x8192x8192, .f32⟩
  | 126 => ⟨S1x8x8192x8192, .f32⟩
  | 127 => ⟨S1x8x8192x8192, .f32⟩
  | _ => ⟨S8192x1024, .f32⟩

abbrev hbmTy0_1 (i : Nat) : BufTy := match i % 128 with
  | 0 => ⟨S1x8x8192x8192, .f32⟩
  | 1 => ⟨S_, .f32⟩
  | 2 => ⟨S_, .f32⟩
  | 3 => ⟨S1x8x8192x8192, .i1⟩
  | 4 => ⟨S1x8x8192x8192, .f32⟩
  | 5 => ⟨S1x8x8192x8192, .f32⟩
  | 6 => ⟨S_, .f32⟩
  | 7 => ⟨S1x8x8192x8192, .f32⟩
  | 8 => ⟨S1x8192x8x128, .f32⟩
  | 9 => ⟨S1x8x8192x128, .f32⟩
  | 10 => ⟨S1x8x8192x128, .f32⟩
  | 11 => ⟨S1x8192x8x128, .f32⟩
  | 12 => ⟨S8192x1024, .f32⟩
  | 13 => ⟨S1x8192x8x128, .f32⟩
  | 14 => ⟨S1x8x8192x128, .f32⟩
  | 15 => ⟨S1x8x128x8192, .f32⟩
  | 16 => ⟨S1x8x8192x128, .f32⟩
  | 17 => ⟨S1x8x8192x8192, .f32⟩
  | 18 => ⟨S1x8192x8x128, .f32⟩
  | 19 => ⟨S8192x1024, .f32⟩
  | 20 => ⟨S_, .f32⟩
  | 21 => ⟨S1x8x8192x8192, .f32⟩
  | 22 => ⟨S1x8x8192x8192, .f32⟩
  | 23 => ⟨S1x8x8192x8192, .f32⟩
  | 24 => ⟨S1x8x8192x8192, .f32⟩
  | 25 => ⟨S1x8x8192x8192, .f32⟩
  | 26 => ⟨S1x8x8192x8192, .f32⟩
  | 27 => ⟨S1x8x8192x8192, .f32⟩
  | 28 => ⟨S_, .f32⟩
  | 29 => ⟨S_, .f32⟩
  | 30 => ⟨S1x8x8192x8192, .f32⟩
  | 31 => ⟨S1x8x8192x8192, .f32⟩
  | 32 => ⟨S_, .f32⟩
  | 33 => ⟨S1x8x8192x8192, .f32⟩
  | 34 => ⟨S1x8x8192x8192, .f32⟩
  | 35 => ⟨S1x8x8192x8192, .f32⟩
  | 36 => ⟨S1x8x8192x8192, .f32⟩
  | 37 => ⟨S1x8x8192x8192, .f32⟩
  | 38 => ⟨S1x8x8192x8192, .f32⟩
  | 39 => ⟨S1x8x8192x8192, .f32⟩
  | 40 => ⟨S_, .f32⟩
  | 41 => ⟨S1x8x8192x8192, .f32⟩
  | 42 => ⟨S1x8x8192x8192, .f32⟩
  | 43 => ⟨S1x8x8192x128, .f32⟩
  | 44 => ⟨S1x8x8192x128, .f32⟩
  | 45 => ⟨S1x8192x8x128, .f32⟩
  | 46 => ⟨S8192x1024, .f32⟩
  | 47 => ⟨S1x8192x8x128, .f32⟩
  | 48 => ⟨S8192x1024, .f32⟩
  | 49 => ⟨S8192x1024, .bf16⟩
  | 50 => ⟨S8192x1024, .bf16⟩
  | 51 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1_0 : Ref sig .tc := ⟨.hbm, 34, rfl⟩
abbrev main_call0_call0_cst_0 : Ref sig .tc := ⟨.hbm, 35, rfl⟩
abbrev main_call0_call0_v13 : Ref sig .tc := ⟨.hbm, 36, rfl⟩
abbrev main_call0_call0_v14 : Ref sig .tc := ⟨.hbm, 37, rfl⟩
abbrev main_call0_call0_cst_1 : Ref sig .tc := ⟨.hbm, 38, rfl⟩
abbrev main_call0_call0_v15 : Ref sig .tc := ⟨.hbm, 39, rfl⟩
abbrev main_call0_call0_v16 : Ref sig .tc := ⟨.hbm, 40, rfl⟩
abbrev main_call0_call0_cst_2 : Ref sig .tc := ⟨.hbm, 41, rfl⟩
abbrev main_call0_call0_v17 : Ref sig .tc := ⟨.hbm, 42, rfl⟩
abbrev main_call0_call0_v18 : Ref sig .tc := ⟨.hbm, 43, rfl⟩
abbrev main_call0_call0_cst_3 : Ref sig .tc := ⟨.hbm, 44, rfl⟩
abbrev main_call0_call0_v19 : Ref sig .tc := ⟨.hbm, 45, rfl⟩
abbrev main_call0_call0_v20 : Ref sig .tc := ⟨.hbm, 46, rfl⟩
abbrev main_call0_call0_v21 : Ref sig .tc := ⟨.hbm, 47, rfl⟩
abbrev main_v15_1 : Ref sig .tc := ⟨.hbm, 48, rfl⟩
abbrev main_call0_call0_cst_4 : Ref sig .tc := ⟨.hbm, 49, rfl⟩
abbrev main_call0_call0_cst_5 : Ref sig .tc := ⟨.hbm, 50, rfl⟩
abbrev main_call0_call0_v23 : Ref sig .tc := ⟨.hbm, 51, rfl⟩
abbrev main_call0_call0_cst_6 : Ref sig .tc := ⟨.hbm, 52, rfl⟩
abbrev main_call0_call0_cst_7 : Ref sig .tc := ⟨.hbm, 53, rfl⟩
abbrev main_call0_call0_v24 : Ref sig .tc := ⟨.hbm, 54, rfl⟩
abbrev main_call0_call0_cst_8 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_cst_9 : Ref sig .tc := ⟨.hbm, 58, rfl⟩
abbrev main_call0_call0_v27 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_v30 : Ref sig .tc := ⟨.hbm, 62, rfl⟩
abbrev main_call0_call0_v31 : Ref sig .tc := ⟨.hbm, 63, rfl⟩
abbrev main_call0_call0_cst_10 : Ref sig .tc := ⟨.hbm, 64, rfl⟩
abbrev main_call0_call0_v32 : Ref sig .tc := ⟨.hbm, 65, rfl⟩
abbrev main_v15_2 : Ref sig .tc := ⟨.hbm, 66, rfl⟩
abbrev main_v15_0 : Ref sig .tc := ⟨.hbm, 67, rfl⟩
abbrev main_cst_0 : Ref sig .tc := ⟨.hbm, 68, rfl⟩
abbrev main_call1_v0 : Ref sig .tc := ⟨.hbm, 69, rfl⟩
abbrev main_v16_1 : Ref sig .tc := ⟨.hbm, 70, rfl⟩
abbrev main_call1_v2 : Ref sig .tc := ⟨.hbm, 71, rfl⟩
abbrev main_v16_0 : Ref sig .tc := ⟨.hbm, 72, rfl⟩
abbrev main_call1_cst : Ref sig .tc := ⟨.hbm, 73, rfl⟩
abbrev main_v16_2 : Ref sig .tc := ⟨.hbm, 74, rfl⟩
abbrev main_call2_cst : Ref sig .tc := ⟨.hbm, 75, rfl⟩
abbrev main_call2_v0 : Ref sig .tc := ⟨.hbm, 76, rfl⟩
abbrev main_v17 : Ref sig .tc := ⟨.hbm, 77, rfl⟩
abbrev main_v18 : Ref sig .tc := ⟨.hbm, 78, rfl⟩
abbrev main_call3_v0 : Ref sig .tc := ⟨.hbm, 79, rfl⟩
abbrev main_call3_call0_cst : Ref sig .tc := ⟨.hbm, 80, rfl⟩
abbrev main_call3_call0_v0 : Ref sig .tc := ⟨.hbm, 81, rfl⟩
abbrev main_call3_call0_v1 : Ref sig .tc := ⟨.hbm, 82, rfl⟩
abbrev main_call3_call0_v2 : Ref sig .tc := ⟨.hbm, 83, rfl⟩
abbrev main_call3_call0_v3 : Ref sig .tc := ⟨.hbm, 84, rfl⟩
abbrev main_call3_call0_v4 : Ref sig .tc := ⟨.hbm, 85, rfl⟩
abbrev main_call3_call0_v5 : Ref sig .tc := ⟨.hbm, 86, rfl⟩
abbrev main_call3_call0_v6 : Ref sig .tc := ⟨.hbm, 87, rfl⟩
abbrev main_call3_call0_v7 : Ref sig .tc := ⟨.hbm, 88, rfl⟩
abbrev main_call3_call0_v8 : Ref sig .tc := ⟨.hbm, 89, rfl⟩
abbrev main_call3_call0_v9 : Ref sig .tc := ⟨.hbm, 90, rfl⟩
abbrev main_call3_call0_v10 : Ref sig .tc := ⟨.hbm, 91, rfl⟩
abbrev main_call3_call0_v11 : Ref sig .tc := ⟨.hbm, 92, rfl⟩
abbrev main_call3_v1_0 : Ref sig .tc := ⟨.hbm, 93, rfl⟩
abbrev main_call3_call0_cst_0 : Ref sig .tc := ⟨.hbm, 94, rfl⟩
abbrev main_call3_call0_v13 : Ref sig .tc := ⟨.hbm, 95, rfl⟩
abbrev main_call3_call0_v14 : Ref sig .tc := ⟨.hbm, 96, rfl⟩
abbrev main_call3_call0_cst_1 : Ref sig .tc := ⟨.hbm, 97, rfl⟩
abbrev main_call3_call0_v15 : Ref sig .tc := ⟨.hbm, 98, rfl⟩
abbrev main_call3_call0_v16 : Ref sig .tc := ⟨.hbm, 99, rfl⟩
abbrev main_call3_call0_cst_2 : Ref sig .tc := ⟨.hbm, 100, rfl⟩
abbrev main_call3_call0_v17 : Ref sig .tc := ⟨.hbm, 101, rfl⟩
abbrev main_call3_call0_v18 : Ref sig .tc := ⟨.hbm, 102, rfl⟩
abbrev main_call3_call0_cst_3 : Ref sig .tc := ⟨.hbm, 103, rfl⟩
abbrev main_call3_call0_v19 : Ref sig .tc := ⟨.hbm, 104, rfl⟩
abbrev main_call3_call0_v20 : Ref sig .tc := ⟨.hbm, 105, rfl⟩
abbrev main_call3_call0_v21 : Ref sig .tc := ⟨.hbm, 106, rfl⟩
abbrev main_v19_1 : Ref sig .tc := ⟨.hbm, 107, rfl⟩
abbrev main_call3_call0_cst_4 : Ref sig .tc := ⟨.hbm, 108, rfl⟩
abbrev main_call3_call0_cst_5 : Ref sig .tc := ⟨.hbm, 109, rfl⟩
abbrev main_call3_call0_v23 : Ref sig .tc := ⟨.hbm, 110, rfl⟩
abbrev main_call3_call0_cst_6 : Ref sig .tc := ⟨.hbm, 111, rfl⟩
abbrev main_call3_call0_cst_7 : Ref sig .tc := ⟨.hbm, 112, rfl⟩
abbrev main_call3_call0_v24 : Ref sig .tc := ⟨.hbm, 113, rfl⟩
abbrev main_call3_call0_cst_8 : Ref sig .tc := ⟨.hbm, 114, rfl⟩
abbrev main_call3_call0_v25 : Ref sig .tc := ⟨.hbm, 115, rfl⟩
abbrev main_call3_call0_v26 : Ref sig .tc := ⟨.hbm, 116, rfl⟩
abbrev main_call3_call0_cst_9 : Ref sig .tc := ⟨.hbm, 117, rfl⟩
abbrev main_call3_call0_v27 : Ref sig .tc := ⟨.hbm, 118, rfl⟩
abbrev main_call3_call0_v28 : Ref sig .tc := ⟨.hbm, 119, rfl⟩
abbrev main_call3_call0_v29 : Ref sig .tc := ⟨.hbm, 120, rfl⟩
abbrev main_call3_call0_v30 : Ref sig .tc := ⟨.hbm, 121, rfl⟩
abbrev main_call3_call0_v31 : Ref sig .tc := ⟨.hbm, 122, rfl⟩
abbrev main_call3_call0_cst_10 : Ref sig .tc := ⟨.hbm, 123, rfl⟩
abbrev main_call3_call0_v32 : Ref sig .tc := ⟨.hbm, 124, rfl⟩
abbrev main_v19_2 : Ref sig .tc := ⟨.hbm, 125, rfl⟩
abbrev main_v19_0 : Ref sig .tc := ⟨.hbm, 126, rfl⟩
abbrev main_v20 : Ref sig .tc := ⟨.hbm, 127, rfl⟩
abbrev main_v21 : Ref sig .tc := ⟨.hbm, 128, rfl⟩
abbrev main_cst_1 : Ref sig .tc := ⟨.hbm, 129, rfl⟩
abbrev main_call4_v0 : Ref sig .tc := ⟨.hbm, 130, rfl⟩
abbrev main_v22_1 : Ref sig .tc := ⟨.hbm, 131, rfl⟩
abbrev main_call4_v2 : Ref sig .tc := ⟨.hbm, 132, rfl⟩
abbrev main_v22_0 : Ref sig .tc := ⟨.hbm, 133, rfl⟩
abbrev main_call4_cst : Ref sig .tc := ⟨.hbm, 134, rfl⟩
abbrev main_v22_2 : Ref sig .tc := ⟨.hbm, 135, rfl⟩
abbrev main_v23 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_call5_cst : Ref sig .tc := ⟨.hbm, 148, rfl⟩
abbrev main_call5_v0 : Ref sig .tc := ⟨.hbm, 149, rfl⟩
abbrev main_v35 : Ref sig .tc := ⟨.hbm, 150, rfl⟩
abbrev main_v36 : Ref sig .tc := ⟨.hbm, 151, rfl⟩
abbrev main_call6_v0 : Ref sig .tc := ⟨.hbm, 152, rfl⟩
abbrev main_call6_v1 : Ref sig .tc := ⟨.hbm, 153, rfl⟩
abbrev main_v37 : Ref sig .tc := ⟨.hbm, 154, rfl⟩
abbrev main_v38 : Ref sig .tc := ⟨.hbm, 155, rfl⟩
abbrev main_call7_cst : Ref sig .tc := ⟨.hbm, 156, rfl⟩
abbrev main_call7_v0 : Ref sig .tc := ⟨.hbm, 157, rfl⟩
abbrev main_v39 : Ref sig .tc := ⟨.hbm, 158, rfl⟩
abbrev main_v40 : Ref sig .tc := ⟨.hbm, 159, rfl⟩
abbrev main_call8_cst : Ref sig .tc := ⟨.hbm, 160, rfl⟩
abbrev main_call8_v0 : Ref sig .tc := ⟨.hbm, 161, rfl⟩
abbrev main_v41 : Ref sig .tc := ⟨.hbm, 162, rfl⟩
abbrev main_call9_v0 : Ref sig .tc := ⟨.hbm, 163, rfl⟩
abbrev main_call9_v1 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_cst_2 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩

abbrev nD : Nat := 1
abbrev τ : Topo := Topo.v7x

variable {F : FTy → Type} [FloatOps F]
-- ==== NormFwdKernel.lean ====
abbrev S8192x2048 : Shape := ⟨2, ![8192, 2048]⟩
abbrev S2048 : Shape := ⟨1, ![2048]⟩
abbrev S1x2048 : Shape := ⟨2, ![1, 2048]⟩
abbrev S8192x1 : Shape := ⟨2, ![8192, 1]⟩
abbrev S512x2048 : Shape := ⟨2, ![512, 2048]⟩
abbrev S512x1 : Shape := ⟨2, ![512, 1]⟩
abbrev S512 : Shape := ⟨1, ![512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .hbm, ⟨4, _⟩ => ⟨S8192x1, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x1, .f32⟩
  | .local _ .vmem, ⟨6, _⟩ => ⟨S512x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormFwdReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== GateFwdKernel.lean ====
abbrev S8192x2048 : Shape := ⟨2, ![8192, 2048]⟩
abbrev S2048 : Shape := ⟨1, ![2048]⟩
abbrev S2048x5632 : Shape := ⟨2, ![2048, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S2048x8x704 : Shape := ⟨3, ![2048, 8, 704]⟩
abbrev S8x2048x704 : Shape := ⟨3, ![8, 2048, 704]⟩
abbrev S8x8192x704 : Shape := ⟨3, ![8, 8192, 704]⟩
abbrev S1024x2048 : Shape := ⟨2, ![1024, 2048]⟩
abbrev S1x2048x704 : Shape := ⟨3, ![1, 2048, 704]⟩
abbrev S1x1024x704 : Shape := ⟨3, ![1, 1024, 704]⟩
abbrev S512x2048 : Shape := ⟨2, ![512, 2048]⟩
abbrev S2048x704 : Shape := ⟨2, ![2048, 704]⟩
abbrev S512x704 : Shape := ⟨2, ![512, 704]⟩
abbrev S1x512x704 : Shape := ⟨3, ![1, 512, 704]⟩

abbrev nBuf : Space → Nat
  | .hbm => 30
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .bf16⟩
  | .hbm, ⟨21, _⟩ => ⟨S2048x5632, .bf16⟩
  | .hbm, ⟨22, _⟩ => ⟨S2048x8x704, .bf16⟩
  | .hbm, ⟨23, _⟩ => ⟨S8x2048x704, .bf16⟩
  | .hbm, ⟨24, _⟩ => ⟨S2048x5632, .bf16⟩
  | .hbm, ⟨25, _⟩ => ⟨S2048x8x704, .bf16⟩
  | .hbm, ⟨26, _⟩ => ⟨S8x2048x704, .bf16⟩
  | .hbm, ⟨27, _⟩ => ⟨S8x8192x704, .f32⟩
  | .hbm, ⟨28, _⟩ => ⟨S8x8192x704, .f32⟩
  | .hbm, ⟨29, _⟩ => ⟨S8x8192x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .f32⟩
  | .local _ .vmem, ⟨7, _⟩ => ⟨S1x1024x704, .f32⟩
  | .local _ .vmem, ⟨8, _⟩ => ⟨S1x1024x704, .f32⟩
  | .local _ .vmem, ⟨9, _⟩ => ⟨S1x1024x704, .f32⟩
  | .local _ .vmem, ⟨10, _⟩ => ⟨S1x1024x704, .bf16⟩
  | .local _ .vmem, ⟨11, _⟩ => ⟨S1x1024x704, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20_0 : Ref sig .tc := ⟨.hbm, 27, rfl⟩
abbrev main_v20_1 : Ref sig .tc := ⟨.hbm, 28, rfl⟩
abbrev main_v20_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateFwdReferenceIdeal.lean ====
abbrev S8192x2048 : Shape := ⟨2, ![8192, 2048]⟩
abbrev S2048 : Shape := ⟨1, ![2048]⟩
abbrev S2048x5632 : Shape := ⟨2, ![2048, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩
abbrev S8192x8x704 : Shape := ⟨3, ![8192, 8, 704]⟩
abbrev S8x8192x704 : Shape := ⟨3, ![8, 8192, 704]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S_, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S_, .f32⟩
  | .hbm, ⟨39, _⟩ => ⟨S8192x5632, .f32⟩
  | .hbm, ⟨40, _⟩ => ⟨S8192x5632, .f32⟩
  | .hbm, ⟨41, _⟩ => ⟨S_, .f32⟩
  | .hbm, ⟨42, _⟩ => ⟨S8192x5632, .f32⟩
  | .hbm, ⟨43, _⟩ => ⟨S8192x5632, .f32⟩
  | .hbm, ⟨44, _⟩ => ⟨S8192x5632, .f32⟩
  | .hbm, ⟨45, _⟩ => ⟨S8192x8x704, .f32⟩
  | .hbm, ⟨46, _⟩ => ⟨S8x8192x704, .f32⟩
  | .hbm, ⟨47, _⟩ => ⟨S_, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S8192x5632, .f32⟩
  | .hbm, ⟨52, _⟩ => ⟨S8192x5632, .f32⟩
  | .hbm, ⟨53, _⟩ => ⟨S8192x5632, .f32⟩
  | .hbm, ⟨54, _⟩ => ⟨S8192x8x704, .f32⟩
  | .hbm, ⟨55, _⟩ => ⟨S8x8192x704, .f32⟩
  | .hbm, ⟨56, _⟩ => ⟨S8192x8x704, .f32⟩
  | .hbm, ⟨57, _⟩ => ⟨S8x8192x704, .f32⟩
  | .hbm, ⟨58, _⟩ => ⟨S8x8192x704, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_v15_2 : Ref sig .tc := ⟨.hbm, 29, rfl⟩
abbrev main_call0_cst_1 : Ref sig .tc := ⟨.hbm, 30, rfl⟩
abbrev main_call0_v6 : Ref sig .tc := ⟨.hbm, 31, rfl⟩
abbrev main_call0_v7 : Ref sig .tc := ⟨.hbm, 32, rfl⟩
abbrev main_v15_1 : Ref sig .tc := ⟨.hbm, 33, rfl⟩
abbrev main_v15_0 : Ref sig .tc := ⟨.hbm, 34, rfl⟩
abbrev main_v16 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_cst_2 : Ref sig .tc := ⟨.hbm, 47, rfl⟩
abbrev main_v20 : Ref sig .tc := ⟨.hbm, 48, rfl⟩
abbrev main_v21 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩

abbrev nD : Nat := 1
abbrev τ : Topo := Topo.v7x

variable {F : FTy → Type} [FloatOps F]
-- ==== PoolFwdKernel.lean ====
abbrev S8192x2048 : Shape := ⟨2, ![8192, 2048]⟩
abbrev S4x512x512 : Shape := ⟨3, ![4, 512, 512]⟩
abbrev S2048 : Shape := ⟨1, ![2048]⟩
abbrev S1x2048 : Shape := ⟨2, ![1, 2048]⟩
abbrev S8192x1 : Shape := ⟨2, ![8192, 1]⟩
abbrev S512x2048 : Shape := ⟨2, ![512, 2048]⟩
abbrev S16x2048 : Shape := ⟨2, ![16, 2048]⟩
abbrev S512x1 : Shape := ⟨2, ![512, 1]⟩
abbrev S512x512 : Shape := ⟨2, ![512, 512]⟩
abbrev S16x512 : Shape := ⟨2, ![16, 512]⟩
abbrev S528x512 : Shape := ⟨2, ![528, 512]⟩
abbrev S1x512x512 : Shape := ⟨3, ![1, 512, 512]⟩
abbrev S1x512 : Shape := ⟨2, ![1, 512]⟩
abbrev S512 : Shape := ⟨1, ![512]⟩

abbrev nBuf : Space → Nat
  | .hbm => 12
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S4x512x512, .f32⟩
  | .hbm, ⟨3, _⟩ => ⟨S2048, .f32⟩
  | .hbm, ⟨4, _⟩ => ⟨S2048, .f32⟩
  | .hbm, ⟨5, _⟩ => ⟨S4x512x512, .bf16⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .bf16⟩
  | .hbm, ⟨10, _⟩ => ⟨S8192x2048, .bf16⟩
  | .hbm, ⟨11, _⟩ => ⟨S8192x1, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S512x2048, .f32⟩
  | .local _ .vmem, ⟨5, _⟩ => ⟨S512x2048, .f32⟩
  | .local _ .vmem, ⟨6, _⟩ => ⟨S4x512x512, .bf16⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x1, .f32⟩
  | .local _ .vmem, ⟨16, _⟩ => ⟨S512x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== PoolFwdReferenceIdeal.lean ====
abbrev S8192x2048 : Shape := ⟨2, ![8192, 2048]⟩
abbrev S4x512x512 : Shape := ⟨3, ![4, 512, 512]⟩
abbrev S2048 : Shape := ⟨1, ![2048]⟩
abbrev S1x8192x2048 : Shape := ⟨3, ![1, 8192, 2048]⟩
abbrev S1x8192x4x512 : Shape := ⟨4, ![1, 8192, 4, 512]⟩
abbrev S_ : Shape := ⟨0, ![]⟩
abbrev S1x1x4x512 : Shape := ⟨4, ![1, 1, 4, 512]⟩
abbrev S1x8193x4x512 : Shape := ⟨4, ![1, 8193, 4, 512]⟩
abbrev S8192 : Shape := ⟨1, ![8192]⟩
abbrev S1x8192x1x512 : Shape := ⟨4, ![1, 8192, 1, 512]⟩
abbrev S1x8192x512 : Shape := ⟨3, ![1, 8192, 512]⟩
abbrev S8192x1 : Shape := ⟨2, ![8192, 1]⟩
abbrev S8192x2 : Shape := ⟨2, ![8192, 2]⟩
abbrev S1x8192x1 : Shape := ⟨3, ![1, 8192, 1]⟩
abbrev S4x512x1x8192 : Shape := ⟨4, ![4, 512, 1, 8192]⟩
abbrev S1x2048 : Shape := ⟨2, ![1, 2048]⟩

abbrev nBuf : Space → Nat
  | .hbm => 212
  | .vmem => 0
  | .smem => 0
  | _ => 0

abbrev hbmTy0_0 (i : Nat) : BufTy := match i % 128 with
  | 0 => ⟨S8192x2048, .f32⟩
  | 1 => ⟨S8192x2048, .f32⟩
  | 2 => ⟨S4x512x512, .f32⟩
  | 3 => ⟨S2048, .f32⟩
  | 4 => ⟨S2048, .f32⟩
  | 5 => ⟨S1x8192x2048, .f32⟩
  | 6 => ⟨S1x8192x4x512, .f32⟩
  | 7 => ⟨S_, .f32⟩
  | 8 => ⟨S1x1x4x512, .f32⟩
  | 9 => ⟨S_, .f32⟩
  | 10 => ⟨S_, .f32⟩
  | 11 => ⟨S1x8192x4x512, .f32⟩
  | 12 => ⟨S1x8193x4x512, .f32⟩
  | 13 => ⟨S8192, .i32⟩
  | 14 => ⟨S_, .i32⟩
  | 15 => ⟨S8192, .i32⟩
  | 16 => ⟨S8192, .i32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S1x8192x1x512, .f32⟩
  | 24 => ⟨S1x8192x512, .f32⟩
  | 25 => ⟨S_, .i32⟩
  | 26 => ⟨S8192, .i32⟩
  | 27 => ⟨S8192, .i1⟩
  | 28 => ⟨S_, .i32⟩
  | 29 => ⟨S8192, .i32⟩
  | 30 => ⟨S8192, .i32⟩
  | 31 => ⟨S8192, .i32⟩
  | 32 => ⟨S_, .i32⟩
  | 33 => ⟨S8192, .i32⟩
  | 34 => ⟨S8192, .i32⟩
  | 35 => ⟨S8192x1, .i32⟩
  | 36 => ⟨S8192x1, .i32⟩
  | 37 => ⟨S8192x2, .i32⟩
  | 38 => ⟨S1x8192x512, .f32⟩
  | 39 => ⟨S1x8192x512, .f32⟩
  | 40 => ⟨S_, .i32⟩
  | 41 => ⟨S8192, .i32⟩
  | 42 => ⟨S8192, .i32⟩
  | 43 => ⟨S_, .i32⟩
  | 44 => ⟨S8192, .i32⟩
  | 45 => ⟨S8192, .i32⟩
  | 46 => ⟨S8192, .f32⟩
  | 47 => ⟨S1x8192x1, .f32⟩
  | 48 => ⟨S1x8192x512, .f32⟩
  | 49 => ⟨S1x8192x512, .f32⟩
  | 50 => ⟨S1x8192x1x512, .f32⟩
  | 51 => ⟨S1x8192x512, .f32⟩
  | 52 => ⟨S1x8192x512, .f32⟩
  | 53 => ⟨S_, .i32⟩
  | 54 => ⟨S8192, .i32⟩
  | 55 => ⟨S8192, .i32⟩
  | 56 => ⟨S_, .i32⟩
  | 57 => ⟨S8192, .i32⟩
  | 58 => ⟨S8192, .i32⟩
  | 59 => ⟨S_, .i32⟩
  | 60 => ⟨S8192, .i32⟩
  | 61 => ⟨S8192, .i32⟩
  | 62 => ⟨S1x8192x1x512, .f32⟩
  | 63 => ⟨S1x8192x512, .f32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S_, .i32⟩
  | 72 => ⟨S8192, .i32⟩
  | 73 => ⟨S8192, .i32⟩
  | 74 => ⟨S8192x1, .i32⟩
  | 75 => ⟨S8192x1, .i32⟩
  | 76 => ⟨S8192x2, .i32⟩
  | 77 => ⟨S1x8192x512, .f32⟩
  | 78 => ⟨S1x8192x512, .f32⟩
  | 79 => ⟨S_, .i32⟩
  | 80 => ⟨S8192, .i32⟩
  | 81 => ⟨S8192, .i32⟩
  | 82 => ⟨S_, .i32⟩
  | 83 => ⟨S8192, .i32⟩
  | 84 => ⟨S8192, .i32⟩
  | 85 => ⟨S8192, .f32⟩
  | 86 => ⟨S1x8192x1, .f32⟩
  | 87 => ⟨S1x8192x512, .f32⟩
  | 88 => ⟨S1x8192x512, .f32⟩
  | 89 => ⟨S1x8192x1x512, .f32⟩
  | 90 => ⟨S1x8192x512, .f32⟩
  | 91 => ⟨S1x8192x512, .f32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S_, .i32⟩
  | 99 => ⟨S8192, .i32⟩
  | 100 => ⟨S8192, .i32⟩
  | 101 => ⟨S1x8192x1x512, .f32⟩
  | 102 => ⟨S1x8192x512, .f32⟩
  | 103 => ⟨S_, .i32⟩
  | 104 => ⟨S8192, .i32⟩
  | 105 => ⟨S8192, .i1⟩
  | 106 => ⟨S_, .i32⟩
  | 107 => ⟨S8192, .i32⟩
  | 108 => ⟨S8192, .i32⟩
  | 109 => ⟨S8192, .i32⟩
  | 110 => ⟨S_, .i32⟩
  | 111 => ⟨S8192, .i32⟩
  | 112 => ⟨S8192, .i32⟩
  | 113 => ⟨S8192x1, .i32⟩
  | 114 => ⟨S8192x1, .i32⟩
  | 115 => ⟨S8192x2, .i32⟩
  | 116 => ⟨S1x8192x512, .f32⟩
  | 117 => ⟨S1x8192x512, .f32⟩
  | 118 => ⟨S_, .i32⟩
  | 119 => ⟨S8192, .i32⟩
  | 120 => ⟨S8192, .i32⟩
  | 121 => ⟨S_, .i32⟩
  | 122 => ⟨S8192, .i32⟩
  | 123 => ⟨S8192, .i32⟩
  | 124 => ⟨S8192, .f32⟩
  | 125 => ⟨S1x8192x1, .f32⟩
  | 126 => ⟨S1x8192x512, .f32⟩
  | 127 => ⟨S1x8192x512, .f32⟩
  | _ => ⟨S8192x2048, .f32⟩

abbrev hbmTy0_1 (i : Nat) : BufTy := match i % 128 with
  | 0 => ⟨S1x8192x1x512, .f32⟩
  | 1 => ⟨S1x8192x512, .f32⟩
  | 2 => ⟨S1x8192x512, .f32⟩
  | 3 => ⟨S_, .i32⟩
  | 4 => ⟨S8192, .i32⟩
  | 5 => ⟨S8192, .i32⟩
  | 6 => ⟨S_, .i32⟩
  | 7 => ⟨S8192, .i32⟩
  | 8 => ⟨S8192, .i32⟩
  | 9 => ⟨S_, .i32⟩
  | 10 => ⟨S8192, .i32⟩
  | 11 => ⟨S8192, .i32⟩
  | 12 => ⟨S1x8192x1x512, .f32⟩
  | 13 => ⟨S1x8192x512, .f32⟩
  | 14 => ⟨S_, .i32⟩
  | 15 => ⟨S8192, .i32⟩
  | 16 => ⟨S8192, .i1⟩
  | 17 => ⟨S_, .i32⟩
  | 18 => ⟨S8192, .i32⟩
  | 19 => ⟨S8192, .i32⟩
  | 20 => ⟨S8192, .i32⟩
  | 21 => ⟨S_, .i32⟩
  | 22 => ⟨S8192, .i32⟩
  | 23 => ⟨S8192, .i32⟩
  | 24 => ⟨S8192x1, .i32⟩
  | 25 => ⟨S8192x1, .i32⟩
  | 26 => ⟨S8192x2, .i32⟩
  | 27 => ⟨S1x8192x512, .f32⟩
  | 28 => ⟨S1x8192x512, .f32⟩
  | 29 => ⟨S_, .i32⟩
  | 30 => ⟨S8192, .i32⟩
  | 31 => ⟨S8192, .i32⟩
  | 32 => ⟨S_, .i32⟩
  | 33 => ⟨S8192, .i32⟩
  | 34 => ⟨S8192, .i32⟩
  | 35 => ⟨S8192, .f32⟩
  | 36 => ⟨S1x8192x1, .f32⟩
  | 37 => ⟨S1x8192x512, .f32⟩
  | 38 => ⟨S1x8192x512, .f32⟩
  | 39 => ⟨S1x8192x1x512, .f32⟩
  | 40 => ⟨S1x8192x512, .f32⟩
  | 41 => ⟨S1x8192x512, .f32⟩
  | 42 => ⟨S1x8192x1x512, .f32⟩
  | 43 => ⟨S1x8192x1x512, .f32⟩
  | 44 => ⟨S1x8192x1x512, .f32⟩
  | 45 => ⟨S1x8192x1x512, .f32⟩
  | 46 => ⟨S1x8192x4x512, .f32⟩
  | 47 => ⟨S4x512x1x8192, .f32⟩
  | 48 => ⟨S1x8192x4x512, .f32⟩
  | 49 => ⟨S8192x2048, .f32⟩
  | 50 => ⟨S1x2048, .f32⟩
  | 51 => ⟨S8192x2048, .f32⟩
  | 52 => ⟨S8192x2048, .f32⟩
  | 53 => ⟨S8192x2048, .f32⟩
  | 54 => ⟨S8192x2048, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192x1, .f32⟩
  | 63 => ⟨S8192x1, .f32⟩
  | 64 => ⟨S8192x1, .f32⟩
  | 65 => ⟨S8192x2048, .f32⟩
  | 66 => ⟨S8192x2048, .bf16⟩
  | 67 => ⟨S8192x2048, .f32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x1, .f32⟩
  | 78 => ⟨S8192x2048, .f32⟩
  | 79 => ⟨S8192x2048, .f32⟩
  | 80 => ⟨S1x2048, .f32⟩
  | 81 => ⟨S8192x2048, .f32⟩
  | 82 => ⟨S8192x2048, .f32⟩
  | 83 => ⟨S8192x2048, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_call0_call0_cst : Ref sig .tc := ⟨.hbm, 9, rfl⟩
abbrev main_call0_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_c_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_c_11 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_12 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_13 : Ref sig .tc := ⟨.hbm, 79, rfl⟩
abbrev main_v57 : Ref sig .tc := ⟨.hbm, 80, rfl⟩
abbrev main_v58 : Ref sig .tc := ⟨.hbm, 81, rfl⟩
abbrev main_c_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_15 : Ref sig .tc := ⟨.hbm, 92, rfl⟩
abbrev main_v68 : Ref sig .tc := ⟨.hbm, 93, rfl⟩
abbrev main_v69 : Ref sig .tc := ⟨.hbm, 94, rfl⟩
abbrev main_c_16 : Ref sig .tc := ⟨.hbm, 95, rfl⟩
abbrev main_v70 : Ref sig .tc := ⟨.hbm, 96, rfl⟩
abbrev main_v71 : Ref sig .tc := ⟨.hbm, 97, rfl⟩
abbrev main_c_17 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_18 : Ref sig .tc := ⟨.hbm, 103, rfl⟩
abbrev main_v76 : Ref sig .tc := ⟨.hbm, 104, rfl⟩
abbrev main_v77 : Ref sig .tc := ⟨.hbm, 105, rfl⟩
abbrev main_c_19 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_20 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_c_21 : Ref sig .tc := ⟨.hbm, 118, rfl⟩
abbrev main_v88 : Ref sig .tc := ⟨.hbm, 119, rfl⟩
abbrev main_v89 : Ref sig .tc := ⟨.hbm, 120, rfl⟩
abbrev main_c_22 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_23 : Ref sig .tc := ⟨.hbm, 131, rfl⟩
abbrev main_v99 : Ref sig .tc := ⟨.hbm, 132, rfl⟩
abbrev main_v100 : Ref sig .tc := ⟨.hbm, 133, rfl⟩
abbrev main_c_24 : Ref sig .tc := ⟨.hbm, 134, rfl⟩
abbrev main_v101 : Ref sig .tc := ⟨.hbm, 135, rfl⟩
abbrev main_v102 : Ref sig .tc := ⟨.hbm, 136, rfl⟩
abbrev main_c_25 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_26 : Ref sig .tc := ⟨.hbm, 142, rfl⟩
abbrev main_v107 : Ref sig .tc := ⟨.hbm, 143, rfl⟩
abbrev main_v108 : Ref sig .tc := ⟨.hbm, 144, rfl⟩
abbrev main_c_27 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_c_28 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_c_29 : Ref sig .tc := ⟨.hbm, 157, rfl⟩
abbrev main_v119 : Ref sig .tc := ⟨.hbm, 158, rfl⟩
abbrev main_v120 : Ref sig .tc := ⟨.hbm, 159, rfl⟩
abbrev main_c_30 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_31 : Ref sig .tc := ⟨.hbm, 183, rfl⟩
abbrev main_v143 : Ref sig .tc := ⟨.hbm, 184, rfl⟩
abbrev main_v144 : Ref sig .tc := ⟨.hbm, 185, rfl⟩
abbrev main_cst_32 : Ref sig .tc := ⟨.hbm, 186, rfl⟩
abbrev main_v145 : Ref sig .tc := ⟨.hbm, 187, rfl⟩
abbrev main_v146 : Ref sig .tc := ⟨.hbm, 188, rfl⟩
abbrev main_cst_33 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_cst_34 : Ref sig .tc := ⟨.hbm, 196, rfl⟩
abbrev main_v153 : Ref sig .tc := ⟨.hbm, 197, rfl⟩
abbrev main_v154 : Ref sig .tc := ⟨.hbm, 198, rfl⟩
abbrev main_cst_35 : Ref sig .tc := ⟨.hbm, 199, rfl⟩
abbrev main_v155 : Ref sig .tc := ⟨.hbm, 200, rfl⟩
abbrev main_v156 : Ref sig .tc := ⟨.hbm, 201, rfl⟩
abbrev main_cst_36 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩

abbrev nD : Nat := 1
abbrev τ : Topo := Topo.v7x

variable {F : FTy → Type} [FloatOps F]
-- ==== Proof.Lift.lean ====
/- Extended reals that are coercions of reals: the ideal instance's operations on them, the constants the programs
   name, and the algebra of the gradient of a root-mean-square norm. Shared by the value proofs. -/
module

public import Idealize.ShloMosaic.Lib.Pointwise
public import Idealize.ShloMosaic.Lib.ReduceAll
public import Idealize.ShloMosaic.Lib.Pipeline.Value

@[expose] public section

noncomputable section

namespace Cert.Lift

open Idealize.ShloMosaic

/-- A sum of coerced reals is the coerced sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum whose terms are coerced reals. -/
theorem sum_eq_coe {ι : Type*} [Fintype ι] (F : ι → EReal) (f : ι → ℝ) (h : ∀ i, F i = ((f i : ℝ) : EReal)) :
    ∑ i, F i = ((∑ i, f i : ℝ) : EReal) := by
  rw [← coe_sum]; exact Finset.sum_congr rfl fun i _ => h i

/-- A quotient of coerced reals by a nonzero one. -/
theorem coe_div {a b : ℝ} (hb : b ≠ 0) : Ideal.div (a : EReal) (b : EReal) = ((a / b : ℝ) : EReal) := by
  rw [Ideal.div_coe hb, ← EReal.coe_mul]; congr 1; ring

/-- The reciprocal square root of a coerced positive real. -/
theorem coe_rsqrt {a : ℝ} (ha : 0 < a) : Ideal.rsqrt (a : EReal) = (((Real.sqrt a)⁻¹ : ℝ) : EReal) := by
  rw [Ideal.rsqrt_coe, if_neg (not_lt.2 ha.le), if_neg ha.ne']

/-! ## The constants -/

/-- The value of the word of `1e-6`. -/
def eps : ℝ := 8796093 / 2 ^ 43

theorem eps_pos : 0 < eps := by unfold eps; positivity

theorem f32_zero : Ideal.ofBits .f32 0x00000000#32 = ((0 : ℝ) : EReal) := by
  rw [Ideal.ofBits_zero_f32]; rfl
theorem f32_eps : Ideal.ofBits .f32 0x358637BD#32 = ((eps : ℝ) : EReal) := by
  simp [Ideal.ofBits, Ideal.ieee, -EReal.coe_mul, eps]; norm_num
theorem f32_2048 : Ideal.ofBits .f32 0x45000000#32 = ((2048 : ℝ) : EReal) := by
  simp [Ideal.ofBits, Ideal.ieee, -EReal.coe_mul]; norm_num
/-- … as the cast the means divide by. -/
theorem f32_width : Ideal.ofBits .f32 0x45000000#32 = (((2048 : ℕ) : ℝ) : EReal) := by
  rw [f32_2048]; norm_num
theorem coe_div_width (a : ℝ) : Ideal.div (a : EReal) (((2048 : ℕ) : ℝ) : EReal) = ((a / ((2048 : ℕ) : ℝ) : ℝ) : EReal) :=
  coe_div (by norm_num)
theorem f32_half : Ideal.ofBits .f32 0x3F000000#32 = ((1 / 2 : ℝ) : EReal) := by
  simp [Ideal.ofBits, Ideal.ieee, -EReal.coe_mul]; norm_num
theorem f32_neg_half : Ideal.ofBits .f32 0xBF000000#32 = ((-(1 / 2) : ℝ) : EReal) := by
  simp [Ideal.ofBits, Ideal.ieee, -EReal.coe_mul]; norm_num
theorem f32_one : Ideal.ofBits .f32 0x3F800000#32 = ((1 : ℝ) : EReal) := by
  simp [Ideal.ofBits, Ideal.ieee, -EReal.coe_mul]; norm_num
theorem f32_two : Ideal.ofBits .f32 0x40000000#32 = ((2 : ℝ) : EReal) := by
  simp [Ideal.ofBits, Ideal.ieee, -EReal.coe_mul]; norm_num
theorem f32_top : Ideal.ofBits .f32 0x7F800000#32 = (⊤ : EReal) := by
  simp [Ideal.ofBits, Ideal.ieee]

/-! ## Finite arguments -/

/-- An extended real whose absolute value is below infinity is a coerced real. -/
theorem eq_coe_of_abs_lt (a : EReal) (h : max a (-a) < ⊤) : a = ((a.toReal : ℝ) : EReal) := by
  refine (EReal.coe_toReal ?_ ?_).symm
  · rintro rfl; simp at h
  · rintro rfl; simp at h

/-- `all(abs(x) < inf)`, as the host computes it, says that every element is a coerced real. -/
theorem finite_of_all {s t u : Shape} {axes : List (Fin s.rank)} [Subsingleton t.Idx] (x : FVec Ideal s .f32)
    (b : FVec Ideal s .f32) (hb : ∀ i, b i = (⊤ : EReal)) (init : u.Idx → BitVec 1) (h : s.ReducesTo axes t) (hu : 0 < u.numel) (j : t.Idx)
    (e : Host.reduce IntOp.andi (cmpf .olt (Host.absf x) b) init h hu j = 1#1) (i : s.Idx) :
    x i = (((x i).toReal : ℝ) : EReal) := by
  have := Host.reduce_andi_all _ init h hu j e i
  refine eq_coe_of_abs_lt _ ?_
  have h1 : Ideal.cmp .olt (max (x i) (-(x i))) (b i) = 1#1 := this
  rw [hb] at h1
  by_contra hc
  simp [Ideal.cmp, hc] at h1

/-- A matrix of coerced reals, its reals named by row and column … -/
theorem reals2 {a b : ℕ} {φ : FTy} {x : FVec Ideal ⟨2, ![a, b]⟩ φ} (h : ∀ i, x i = (((x i).toReal : ℝ) : EReal)) :
    ∃ X : Fin a → Fin b → ℝ, ∀ i, x i = ((X (i 0) (i 1) : ℝ) : EReal) :=
  ⟨fun r k => (x (ix2 r k)).toReal, fun i => (h i).trans (congrArg (fun j => (((x j).toReal : ℝ) : EReal)) (eq_ix2 i))⟩

/-- … and a vector of them. -/
theorem reals1 {a : ℕ} {φ : FTy} {x : FVec Ideal ⟨1, ![a]⟩ φ} (h : ∀ i, x i = (((x i).toReal : ℝ) : EReal)) :
    ∃ X : Fin a → ℝ, ∀ i, x i = ((X (i 0) : ℝ) : EReal) :=
  ⟨fun r => (x (ix1 r)).toReal, fun i => (h i).trans (congrArg (fun j => (((x j).toReal : ℝ) : EReal)) (eq_ix1 i))⟩

/-! ## The root-mean-square norm -/

/-- The reciprocal root mean square of a row of `n` reals. -/
def rms {n : ℕ} (x : Fin n → ℝ) : ℝ := (Real.sqrt ((∑ k, x k * x k) / n + eps))⁻¹

theorem mean_sq_pos {n : ℕ} (x : Fin n → ℝ) : 0 < (∑ k, x k * x k) / n + eps :=
  add_pos_of_nonneg_of_pos (div_nonneg (Finset.sum_nonneg fun k _ => mul_self_nonneg _) (Nat.cast_nonneg n)) eps_pos

theorem rms_sq {n : ℕ} (x : Fin n → ℝ) : rms x * rms x * ((∑ k, x k * x k) / n + eps) = 1 := by
  have h := mean_sq_pos x
  have hs : Real.sqrt ((∑ k, x k * x k) / n + eps) * Real.sqrt ((∑ k, x k * x k) / n + eps) = (∑ k, x k * x k) / n + eps :=
    Real.mul_self_sqrt h.le
  unfold rms
  rw [← mul_inv, hs, inv_mul_cancel₀ h.ne']

/-- The gradient of the norm in the kernels' form (`w` the cotangent times the gain) … -/
def rmsGrad {n : ℕ} (x w : Fin n → ℝ) (k : Fin n) : ℝ :=
  rms x * (w k - x k * rms x * ((∑ j, w j * (x j * rms x)) / n))

/-- … is the derivative's, which goes through the derivative of the reciprocal square root. -/
theorem rmsGrad_eq {n : ℕ} (x w : Fin n → ℝ) (k : Fin n) (c : ℝ)
    (hc : c = (∑ j, x j * w j) * (-(1 / 2) * (rms x / ((∑ j, x j * x j) / n + eps))) / n) :
    w k * rms x + x k * c + c * x k = rmsGrad x w k := by
  have hr : rms x / ((∑ j, x j * x j) / n + eps) = rms x * rms x * rms x := by
    rw [div_eq_iff (mean_sq_pos x).ne']; linear_combination (-(rms x)) * rms_sq x
  have hs : ∑ j, w j * (x j * rms x) = (∑ j, x j * w j) * rms x := by
    rw [Finset.sum_mul]; exact Finset.sum_congr rfl fun j _ => by ring
  rw [hr] at hc
  unfold rmsGrad
  rw [hs, hc]; ring

end Cert.Lift

end
-- ==== Proof.LossRef.lean ====
/- The reference of the loss head, read over the reals: its operations in order, at finite arguments. -/
module

public import proofs.«01_k».proof.Proof.Lift
public import proofs.«01_k».proof.Proof.Gen.LossReferenceIdeal.Read

@[expose] public section

set_option maxRecDepth 16384

noncomputable section

namespace Cert.LossReferenceIdeal.Real

open Cert.LossReferenceIdeal Cert.LossReferenceIdeal.Gen Cert.LossReferenceIdeal.Read Idealize.ShloMosaic Cert.Lift

variable {x0 : (⟨S8192x2048, .f32⟩ : BufTy).Contents (Elt Ideal)} {x1 : (⟨S2048, .f32⟩ : BufTy).Contents (Elt Ideal)}
  {x2 : (⟨S8192x2048, .f32⟩ : BufTy).Contents (Elt Ideal)}
  {X T : Fin 8192 → Fin 2048 → ℝ} {G : Fin 2048 → ℝ}
  (hx : ∀ i, x0 i = ((X (i 0) (i 1) : ℝ) : EReal)) (hg : ∀ i, x1 i = ((G (i 0) : ℝ) : EReal))
  (ht : ∀ i, x2 i = ((T (i 0) (i 1) : ℝ) : EReal))

/-- A row's index, and a column's. -/
def row (a : Fin 8192) : S8192.Idx := ix1 a
def col (a : Fin 2048) : S2048.Idx := ix1 a

theorem idx39 (i : S8192x1.Idx) : idx_main_v39 i = row (i 0) := funext fun a => match a with
  | ⟨0, _⟩ => Fin.ext (by
      have h : (i 1).val < 1 := (i 1).isLt
      show (i 0).val * 1 + (i 1).val = (i 0).val
      omega)
theorem idx33 (i : S1x2048.Idx) : idx_main_v33 i = col (i 1) := funext fun a => match a with
  | ⟨0, _⟩ => Fin.ext (by
      have h : (i 0).val < 1 := (i 0).isLt
      show (i 0).val * 2048 + (i 1).val = (i 1).val
      omega)

include hx

theorem mean (i) : val_main_v6 (F := Ideal) x0 i = (((∑ k, X (i 0) k * X (i 0) k) / (2048 : ℕ) + eps : ℝ) : EReal) := by
  simp only [val_main_v6_apply, val_main_v4_apply, val_main_v2_apply, val_main_v1_apply, val_main_v0_apply, val_main_v3_apply,
    val_main_v5_apply, val_main_cst_apply, val_main_cst_0_apply, val_main_cst_1_apply, hx, Ideal.mulf_def, Ideal.addf_def,
    Ideal.hostDivf_def, Ideal.ofBits_def, f32_zero, f32_width, f32_eps, ← EReal.coe_mul, coe_sum, ← EReal.coe_add, zero_add, coe_div_width]
  rfl

theorem root (i) : val_main_v7 (F := Ideal) x0 i = ((rms (X (i 0)) : ℝ) : EReal) := by
  rw [val_main_v7_apply, mean hx]
  exact coe_rsqrt (mean_sq_pos (X (i 0)))

theorem coef (i) : val_main_v10 (F := Ideal) x0 i
    = ((-(1 / 2) * (rms (X (i 0)) / ((∑ k, X (i 0) k * X (i 0) k) / (2048 : ℕ) + eps)) : ℝ) : EReal) := by
  simp only [val_main_v10_apply, val_main_v9_apply, val_main_v8_apply, root hx, mean hx, val_main_cst_2_apply, Ideal.hostDivf_def,
    Ideal.mulf_def, Ideal.ofBits_def, f32_neg_half]
  rw [coe_div (mean_sq_pos (X (i 0))).ne', ← EReal.coe_mul]

/-- The normalised row. -/
theorem unit (i) : val_main_v12 (F := Ideal) x0 i = ((X (i 0) (i 1) * rms (X (i 0)) : ℝ) : EReal) := by
  simp only [val_main_v12_apply, val_main_v11_apply, root hx, hx, Ideal.mulf_def, ← EReal.coe_mul]
  rfl

include hg ht

/-- The error. -/
theorem err (i) : val_main_v16 (F := Ideal) x0 x1 x2 i
    = ((X (i 0) (i 1) * rms (X (i 0)) * G (i 1) - T (i 0) (i 1) : ℝ) : EReal) := by
  simp only [val_main_v16_apply, val_main_v15_apply, val_main_v14_apply, val_main_v13_apply, unit hx, hg, ht, Ideal.mulf_def,
    Ideal.subf_def, ← EReal.coe_mul, ← EReal.coe_sub]
  rfl

/-- The loss. -/
theorem loss (i) : val_main_v51 (F := Ideal) x0 x1 x2 i
    = ((1 / 2 * ∑ r, (∑ k, (X r k * rms (X r) * G k - T r k) * (X r k * rms (X r) * G k - T r k)) / (2048 : ℕ) : ℝ) : EReal) := by
  simp only [val_main_v51_apply, val_main_v24_apply, val_main_v23_apply, val_main_v22_apply, val_main_v20_apply, val_main_v17_apply,
    err hx hg ht, val_main_v21_apply, val_main_cst_4_apply, val_main_cst_5_apply, val_main_cst_6_apply, val_main_cst_7_apply,
    Ideal.mulf_def, Ideal.hostDivf_def, Ideal.ofBits_def, f32_zero, f32_width, f32_half, ← EReal.coe_mul, coe_sum, ← EReal.coe_add, zero_add,
    coe_div_width, sum_idx1]
  rfl

/-- The cotangent of the normalised rows times the gain. -/
theorem dy (i) : val_main_v30 (F := Ideal) x0 x1 x2 i
    = (((X (i 0) (i 1) * rms (X (i 0)) * G (i 1) - T (i 0) (i 1)) / (2048 : ℕ) : ℝ) : EReal) := by
  simp only [val_main_v30_apply, val_main_v29_apply, val_main_v28_apply, val_main_v27_apply, val_main_v26_apply, val_main_v25_apply,
    val_main_v19_apply, val_main_v18_apply, err hx hg ht, val_main_cst_3_apply, val_main_cst_8_apply, val_main_cst_9_apply,
    val_main_cst_10_apply, Ideal.mulf_def, Ideal.hostDivf_def, Ideal.ofBits_def, f32_one, f32_two, f32_width, f32_half, ← EReal.coe_mul,
    coe_div_width]
  congr 1; ring

/-- The gradient of the gain. -/
theorem dgain (i) : val_main_v53 (F := Ideal) x0 x1 x2 i
    = ((∑ r, X r (i 1) * rms (X r) * ((X r (i 1) * rms (X r) * G (i 1) - T r (i 1)) / (2048 : ℕ)) : ℝ) : EReal) := by
  simp only [val_main_v53_apply, val_main_v36_apply, val_main_v33_apply, idx33, val_main_v32_apply, val_main_v31_apply, dy hx hg ht, unit hx,
    val_main_cst_11_apply, val_main_cst_12_apply, Ideal.mulf_def, Ideal.ofBits_def, f32_zero, ← EReal.coe_mul, coe_sum, ← EReal.coe_add, zero_add]
  simp only [Finset.univ_unique, Finset.sum_singleton]
  rfl

/-- The cotangent of the normalised rows. -/
theorem dxh (i) : val_main_v35 (F := Ideal) x0 x1 x2 i
    = (((X (i 0) (i 1) * rms (X (i 0)) * G (i 1) - T (i 0) (i 1)) / (2048 : ℕ) * G (i 1) : ℝ) : EReal) := by
  simp only [val_main_v35_apply, val_main_v34_apply, val_main_v13_apply, dy hx hg ht, hg, Ideal.mulf_def, ← EReal.coe_mul]
  rfl

/-- The gradient of the rows. -/
theorem dx (i) : val_main_v50 (F := Ideal) x0 x1 x2 i
    = ((rmsGrad (X (i 0)) (fun k => (X (i 0) k * rms (X (i 0)) * G k - T (i 0) k) / (2048 : ℕ) * G k) (i 1) : ℝ) : EReal) := by
  simp only [val_main_v50_apply, val_main_v49_apply, val_main_v48_apply, val_main_v47_apply, val_main_v46_apply, val_main_v45_apply,
    val_main_v44_apply, val_main_v43_apply, val_main_v42_apply, val_main_v41_apply, val_main_v40_apply, val_main_v39_apply, idx39,
    val_main_v38_apply, val_main_v37_apply, dxh hx hg ht, root hx, coef hx, hx, val_main_cst_13_apply, val_main_cst_14_apply,
    val_main_cst_15_apply, Ideal.mulf_def, Ideal.addf_def, Ideal.hostDivf_def, Ideal.ofBits_def, f32_zero, f32_width, ← EReal.coe_mul, coe_sum,
    ← EReal.coe_add, zero_add, coe_div_width]
  congr 1
  simp only [Finset.univ_unique, Finset.sum_singleton]
  exact rmsGrad_eq (X (i 0)) (fun k => (X (i 0) k * rms (X (i 0)) * G k - T (i 0) k) / (2048 : ℕ) * G k) (i 1) _ rfl

end Cert.LossReferenceIdeal.Real

end
-- ==== Proof.LossKer.lean ====
/- The loss head's kernel over the reals: one tile's payloads, what each case of the body leaves, the sums the grid
   carries, and the four result arrays. -/
module

public import proofs.«01_k».proof.Proof.Lift
public import proofs.«01_k».proof.Proof.Gen.LossKernelIdeal.Value
public import Idealize.ShloMosaic.Lib.Pipeline.ValueKit
public import Idealize.ShloMosaic.Lib.Claim

@[expose] public section

set_option maxRecDepth 16384

noncomputable section

namespace Cert.LossKernelIdeal.Real

open Cert.LossKernelIdeal Cert.LossKernelIdeal.Gen Idealize.ShloMosaic Idealize.ShloMosaic.TcCoe Idealize.SL.Sem Cert.Lift
open Idealize.ShloMosaic.Pipeline (Dat)

/-! ## One tile -/

section Tile

variable {v0 v15 : Vec Ideal S512x2048 .f32} {v11 : Vec Ideal S1x2048 .f32}
  {X T : Fin 512 → Fin 2048 → ℝ} {G : Fin 2048 → ℝ}
  (hx : ∀ r k, v0 (ix2 r k) = ((X r k : ℝ) : EReal)) (hg : ∀ k, v11 (ix2 0 k) = ((G k : ℝ) : EReal))
  (ht : ∀ r k, v15 (ix2 r k) = ((T r k : ℝ) : EReal))
include hx

theorem tile_root (r : Fin 512) : k0_pay7 v0 (ix2 r 0) = ((rms (X r) : ℝ) : EReal) := by
  pointwise [k0_pay7]
  simp only [hx, f32_width, f32_eps, ← EReal.coe_mul, coe_sum, coe_div_width, ← EReal.coe_add]
  exact coe_rsqrt (mean_sq_pos (X r))

theorem tile_unit (r : Fin 512) (k : Fin 2048) : k0_pay8 v0 (ix2 r k) = ((X r k * rms (X r) : ℝ) : EReal) := by
  pointwise [k0_pay8]
  rw [tile_root hx, hx, ← EReal.coe_mul]

include hg ht

theorem tile_err (r : Fin 512) (k : Fin 2048) :
    k0_pay9 v0 v11 v15 (ix2 r k) = ((X r k * rms (X r) * G k - T r k : ℝ) : EReal) := by
  pointwise [k0_pay9]
  rw [tile_unit hx, hg, ht, ← EReal.coe_mul, ← EReal.coe_sub]

theorem tile_loss : k0_pay10 v0 v11 v15
    = ((1 / 2 * ∑ r, (∑ k, (X r k * rms (X r) * G k - T r k) * (X r k * rms (X r) * G k - T r k)) / (2048 : ℕ) : ℝ) : EReal) := by
  pointwise [k0_pay10]
  simp only [tile_err hx hg ht, f32_width, f32_half, ← EReal.coe_mul, coe_sum, coe_div_width, Finset.univ_unique, Finset.sum_singleton]

theorem tile_dy (r : Fin 512) (k : Fin 2048) :
    k0_pay11 v0 v11 v15 (ix2 r k) = (((X r k * rms (X r) * G k - T r k) / (2048 : ℕ) : ℝ) : EReal) := by
  pointwise [k0_pay11]
  rw [tile_err hx hg ht, f32_width, coe_div_width]

theorem tile_dx (r : Fin 512) (k : Fin 2048) : k0_pay1 (k0_pay7 v0) (k0_pay12 v0 v11 v15 v11) (ix2 r k)
    = ((rmsGrad (X r) (fun k => (X r k * rms (X r) * G k - T r k) / (2048 : ℕ) * G k) k : ℝ) : EReal) := by
  pointwise [k0_pay1, k0_pay12]
  simp only [tile_root hx, tile_unit hx, tile_dy hx hg ht, hg, f32_width, ← EReal.coe_mul, coe_sum, coe_div_width, ← EReal.coe_sub]
  rfl

theorem tile_dxb (r : Fin 512) (k : Fin 2048) : k0_pay2 (k0_pay7 v0) (k0_pay12 v0 v11 v15 v11) (ix2 r k)
    = ((rmsGrad (X r) (fun k => (X r k * rms (X r) * G k - T r k) / (2048 : ℕ) * G k) k : ℝ) : EReal) := by
  rw [← tile_dx hx hg ht]
  pointwise [k0_pay2]

theorem tile_dgain (k : Fin 2048) : k0_pay3 (k0_pay8 v0) (k0_pay11 v0 v11 v15) (ix2 0 k)
    = ((∑ r, X r k * rms (X r) * ((X r k * rms (X r) * G k - T r k) / (2048 : ℕ)) : ℝ) : EReal) := by
  pointwise [k0_pay3]
  simp only [tile_unit hx, tile_dy hx hg ht, ← EReal.coe_mul, coe_sum]
  congr 1; exact Finset.sum_congr rfl fun r _ => mul_comm _ _

end Tile

/-! ## The blocks -/

section Arrays

variable (m : (ℓ : Loc nD τ sig) → Buf (Elt Ideal) ℓ) (c : Dev nD) {X T : Fin 8192 → Fin 2048 → ℝ} {G : Fin 2048 → ℝ}
  (hx : ∀ i : S8192x2048.Idx, m ((c : Thread nD τ).loc main_arg0) i = ((X (i 0) (i 1) : ℝ) : EReal))
  (hg : ∀ i : S2048.Idx, m ((c : Thread nD τ).loc main_arg1) i = ((G (i 0) : ℝ) : EReal))
  (ht : ∀ i : S8192x2048.Idx, m ((c : Thread nD τ).loc main_arg2) i = ((T (i 0) (i 1) : ℝ) : EReal))

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- Row `r` of tile `t`. -/
def rowOf (t : Fin cfg0.N) (r : Fin 512) : Fin 8192 :=
  ⟨t.val * 512 + r.val, by have := t.isLt; have : cfg0.N = 16 := N_0; omega⟩

include hx in
theorem iblk_x (t : Fin cfg0.N) (r : Fin 512) (k : Fin 2048) : iblk m c 0 t (ix2 r k) = ((X (rowOf t r) k : ℝ) : EReal) := by
  refine Eq.trans ?_ (hx (ix2 (rowOf t r) k))
  blk_ext [iblk, V_main_arg0, idx t, rowOf]

include ht in
theorem iblk_t (t : Fin cfg0.N) (r : Fin 512) (k : Fin 2048) : iblk m c 2 t (ix2 r k) = ((T (rowOf t r) k : ℝ) : EReal) := by
  refine Eq.trans ?_ (ht (ix2 (rowOf t r) k))
  blk_ext [iblk, V_main_arg2, idx t, rowOf]

include hg in
theorem iblk_g (t : Fin cfg0.N) (k : Fin 2048) : iblk m c 1 t (ix2 0 k) = ((G k : ℝ) : EReal) := by
  refine Eq.trans ?_ (hg (ix1 k))
  blk_simp [iblk]
  entry_read
  pointwise
  blk_ext [idx t]

include hx hg ht

/-- The gradient's row tile, as each case of the body leaves it. -/
theorem after_dx (t : Fin cfg0.N) (y : S512x2048.Idx) : (outsAt0 m c t.val t.isLt).2.1 y
    = ((rmsGrad (X (rowOf t (y 0))) (fun k => (X (rowOf t (y 0)) k * rms (X (rowOf t (y 0))) * G k - T (rowOf t (y 0)) k) / (2048 : ℕ) * G k) (y 1) : ℝ) : EReal) := by
  have hN : cfg0.N = 16 := N_0
  idx_vars y
  by_cases h : t.val % 16 = 0
  · rw [outsAt0_A m c t h (by have := t.isLt; omega)]; frame_out
    exact tile_dx (iblk_x m c hx t) (iblk_g m c hg t) (iblk_t m c ht t) _ _
  · rw [outsAt0_B m c t h (by omega)]; frame_out
    exact tile_dx (iblk_x m c hx t) (iblk_g m c hg t) (iblk_t m c ht t) _ _

theorem after_dxb (t : Fin cfg0.N) (y : S512x2048.Idx) : (outsAt0 m c t.val t.isLt).2.2.1 y
    = ((rmsGrad (X (rowOf t (y 0))) (fun k => (X (rowOf t (y 0)) k * rms (X (rowOf t (y 0))) * G k - T (rowOf t (y 0)) k) / (2048 : ℕ) * G k) (y 1) : ℝ) : EReal) := by
  have hN : cfg0.N = 16 := N_0
  idx_vars y
  by_cases h : t.val % 16 = 0
  · rw [outsAt0_A m c t h (by have := t.isLt; omega)]; frame_out
    exact tile_dxb (iblk_x m c hx t) (iblk_g m c hg t) (iblk_t m c ht t) _ _
  · rw [outsAt0_B m c t h (by omega)]; frame_out
    exact tile_dxb (iblk_x m c hx t) (iblk_g m c hg t) (iblk_t m c ht t) _ _

/-- The gradient of the rows. -/
theorem final_dx : (dats m 0 c).arrAt 4 cfg0.N = fun i : S8192x2048.Idx =>
    ((rmsGrad (X (i 0)) (fun k => (X (i 0) k * rms (X (i 0)) * G k - T (i 0) k) / (2048 : ℕ) * G k) (i 1) : ℝ) : EReal) := by
  refine (dats m 0 c).arrAt_eq_of_covers 4 _ (by decide +kernel) fun t _ y => ?_
  rw [after0_4]
  have he : ((cfg0.win 4).blk t).view.emb y = ix2 (rowOf t (y 0)) (y 1) := by blk_ext [idx t, rowOf]
  rw [he]
  exact after_dx m c hx hg ht t y

theorem final_dxb : (dats m 0 c).arrAt 5 cfg0.N = fun i : S8192x2048.Idx =>
    ((rmsGrad (X (i 0)) (fun k => (X (i 0) k * rms (X (i 0)) * G k - T (i 0) k) / (2048 : ℕ) * G k) (i 1) : ℝ) : EReal) := by
  refine (dats m 0 c).arrAt_eq_of_covers 5 _ (by decide +kernel) fun t _ y => ?_
  rw [after0_5]
  have he : ((cfg0.win 5).blk t).view.emb y = ix2 (rowOf t (y 0)) (y 1) := by blk_ext [idx t, rowOf]
  rw [he]
  exact after_dxb m c hx hg ht t y

/-- The loss. -/
theorem final_loss : (dats m 0 c).arrAt 3 cfg0.N = fun _ : S8x128.Idx =>
    ((1 / 2 * ∑ r, (∑ k, (X r k * rms (X r) * G k - T r k) * (X r k * rms (X r) * G k - T r k)) / (2048 : ℕ) : ℝ) : EReal) := by
  have hN : cfg0.N = 16 := N_0
  refine (dats m 0 c).arrAt_eq_of_after_last 3 t0_15 (by decide +kernel) _ fun j => ?_
  blk_simp
  rw [after0_3, Pipeline.eq_sum_fin_of_reset_step_apply_last (fun n h => (outsAt0 m c n h).1) 16 (fun _ => 0)
    (fun t _ => k0_pay10 (iblk m c 0 t) (iblk m c 1 t) (iblk m c 2 t))
    (fun t h j => by rw [outsAt0_A m c t h (by have := t.isLt; omega)]; frame_out; idx_vars j; pointwise [k0_pay4])
    (fun t h j => by rw [outsAt0_B m c t h (by omega)]; frame_out; idx_vars j; pointwise [k0_pay6]) (le_of_eq N_0) t0_15 rfl j, zero_add]
  rw [sum_eq_coe _ _ fun t => tile_loss (iblk_x m c hx t) (iblk_g m c hg t) (iblk_t m c ht t), ← Finset.mul_sum]
  congr 2
  exact Fin.sum_mul_add_fin 16 512 fun r => (∑ k, (X r k * rms (X r) * G k - T r k) * (X r k * rms (X r) * G k - T r k)) / (2048 : ℕ)

/-- The gradient of the gain. -/
theorem final_dgain : (dats m 0 c).arrAt 6 cfg0.N = fun i : S1x2048.Idx =>
    ((∑ r, X r (i 1) * rms (X r) * ((X r (i 1) * rms (X r) * G (i 1) - T r (i 1)) / (2048 : ℕ)) : ℝ) : EReal) := by
  have hN : cfg0.N = 16 := N_0
  refine (dats m 0 c).arrAt_eq_of_after_last 6 t0_15 (by decide +kernel) _ fun j => ?_
  blk_simp
  rw [after0_6, Pipeline.eq_sum_fin_of_reset_step_apply_last (fun n h => (outsAt0 m c n h).2.2.2) 16 (fun _ => 0)
    (fun t j => k0_pay3 (k0_pay8 (iblk m c 0 t)) (k0_pay11 (iblk m c 0 t) (iblk m c 1 t) (iblk m c 2 t)) j)
    (fun t h j => by rw [outsAt0_A m c t h (by have := t.isLt; omega), zero_add]; frame_out)
    (fun t h j => by rw [outsAt0_B m c t h (by omega)]; frame_out; idx_vars j; pointwise [k0_pay5, k0_pay3]) (le_of_eq N_0) t0_15 rfl j, zero_add]
  idx_vars j
  obtain rfl : j0 = 0 := Subsingleton.elim _ _
  rw [sum_eq_coe _ _ fun t => tile_dgain (iblk_x m c hx t) (iblk_g m c hg t) (iblk_t m c ht t) _]
  congr 1
  exact Fin.sum_mul_add_fin 16 512 fun r => X r j1 * rms (X r) * ((X r j1 * rms (X r) * G j1 - T r j1) / (2048 : ℕ))

end Arrays

end Cert.LossKernelIdeal.Real

end
-- ==== Proof.Loss.lean ====
/- The loss head's claims: both frames, the reference's, and the equality of all four results over the reals. -/
module

public import proofs.«01_k».proof.Defs
public import proofs.«01_k».proof.Proof.LossRef
public import proofs.«01_k».proof.Proof.LossKer
public import proofs.«01_k».proof.Proof.Gen.LossKernel.Frame
public import proofs.«01_k».proof.Proof.Gen.Pre_loss_finite

@[expose] public section

set_option maxRecDepth 16384

noncomputable section

namespace Cert.Loss

open Idealize.ShloMosaic Idealize.ShloMosaic.TcCoe Idealize.SL.Sem Cert.Lift

/-- What the precondition says of the three arguments. -/
theorem finite {x : FVec Ideal Cert.LossKernelIdeal.S8192x2048 .f32} {g : FVec Ideal Cert.LossKernelIdeal.S2048 .f32}
    {t : FVec Ideal Cert.LossKernelIdeal.S8192x2048 .f32} (h : Cert.Pre_loss_finite.fn (F := Ideal) x g t = fun _ => 1#1) :
    (∃ X : Fin 8192 → Fin 2048 → ℝ, ∀ i, x i = ((X (i 0) (i 1) : ℝ) : EReal)) ∧ (∃ G : Fin 2048 → ℝ, ∀ i, g i = ((G (i 0) : ℝ) : EReal))
      ∧ ∃ T : Fin 8192 → Fin 2048 → ℝ, ∀ i, t i = ((T (i 0) (i 1) : ℝ) : EReal) := by
  have h0 := congrFun h (fun a => a.elim0)
  dsimp only [Cert.Pre_loss_finite.fn] at h0
  obtain ⟨h1, ht⟩ := IntOp.andi_eq_one.1 h0
  obtain ⟨hx, hg⟩ := IntOp.andi_eq_one.1 h1
  exact ⟨reals2 fun i => finite_of_all x _ (fun _ => f32_top) _ _ _ _ hx i, reals1 fun i => finite_of_all g _ (fun _ => f32_top) _ _ _ _ hg i,
    reals2 fun i => finite_of_all t _ (fun _ => f32_top) _ _ _ _ ht i⟩

theorem algebraic : Cert.algebraic_LossKernelIdeal_LossReferenceIdeal_pre_loss_finite := by
  pair_intro
  · run_from Cert.LossKernelIdeal.Value.run_blocks m g
  · refine (θ_run _ _ _).mono (fun _ h c => ?_) (Cert.LossReferenceIdeal.Value.run m' g')
    obtain ⟨h0, h1, h2, h3, ha⟩ := h c
    obtain ⟨⟨X, hx⟩, ⟨G, hg⟩, T, ht⟩ := finite (hpre c)
    obtain ⟨e0, e1, e2⟩ := hagree c
    refine ⟨h0.trans ?_, h1.trans ?_, h2.trans ?_, h3.trans ?_, ha⟩
    · rw [Cert.LossReferenceIdeal.Read.val_main_v51_eq, e0, e1, e2]
      exact Eq.trans (funext fun i => Cert.LossReferenceIdeal.Real.loss hx hg ht i) (Cert.LossKernelIdeal.Real.final_loss m c hx hg ht).symm
    · rw [Cert.LossReferenceIdeal.Read.val_main_v50_eq, e0, e1, e2]
      exact Eq.trans (funext fun i => Cert.LossReferenceIdeal.Real.dx hx hg ht i) (Cert.LossKernelIdeal.Real.final_dx m c hx hg ht).symm
    · rw [Cert.LossReferenceIdeal.Read.val_main_v52_eq, e0, e1, e2]
      exact Eq.trans (funext fun i => Cert.LossReferenceIdeal.Real.dx hx hg ht i) (Cert.LossKernelIdeal.Real.final_dxb m c hx hg ht).symm
    · rw [Cert.LossReferenceIdeal.Read.val_main_v53_eq, e0, e1, e2]
      exact Eq.trans (funext fun i => Cert.LossReferenceIdeal.Real.dgain hx hg ht i) (Cert.LossKernelIdeal.Real.final_dgain m c hx hg ht).symm

theorem frame_kernel : Cert.quiescent_LossKernel := fun m ρ _ => Cert.LossKernel.Gen.frame m ρ
theorem frame_ideal : Cert.quiescent_LossKernelIdeal := fun m ρ _ => Cert.LossKernelIdeal.Gen.frame m ρ
theorem frame_ideal_pre : Cert.quiescent_LossKernelIdeal_pre_loss_finite := fun m ρ _ => Cert.LossKernelIdeal.Gen.frame m ρ
theorem frame_reference : Cert.quiescent_LossReferenceIdeal := fun m ρ _ =>
  (θ_run Cert.LossReferenceIdeal.defs _ _).mono (fun r h => ⟨fun c => (h c).2.2.2.2, sem_eq_zero_of_no_sems (by decide) r.2⟩)
    (Cert.LossReferenceIdeal.Value.run m ρ)
theorem frame_reference_pre : Cert.quiescent_LossReferenceIdeal_pre_loss_finite := fun m ρ _ => frame_reference m ρ trivial

end Cert.Loss

end
-- ==== Proof.PoolMixKer.lean ====
/- The pooling mixer's backward kernel over the reals: what one tile of rows leaves in each output, the column sums the
   grid carries, and the three result arrays. -/
module

public import proofs.«01_k».proof.Proof.Lift
public import proofs.«01_k».proof.Proof.Gen.PoolMixKernelIdeal.Value
public import proofs.«01_k».proof.Proof.Gen.PoolMixReferenceIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.PoolMixKernelIdeal.Real

open Cert.PoolMixKernelIdeal Cert.PoolMixKernelIdeal.Gen Idealize.ShloMosaic Idealize.ShloMosaic.TcCoe Idealize.SL.Sem Cert.Lift
open Idealize.ShloMosaic.Pipeline (Dat)

/-- The group of a column. -/
def grp (j : Fin 2048) : Fin 4 := ⟨j.val / 512, by omega⟩
/-- A column's place in its group. -/
def lane (j : Fin 2048) : Fin 512 := ⟨j.val % 512, by omega⟩
/-- Place `k` of the group column `j` is in. -/
def mate (j : Fin 2048) (k : Fin 512) : Fin 2048 := ⟨j.val / 512 * 512 + k.val, by omega⟩

/-- Two arrays joined along the sequence. -/
def catSeq (a : FVec Ideal S1x1x4x512 .f32) (b : FVec Ideal S1x8192x4x512 .f32) : FVec Ideal S1x8193x4x512 .f32 :=
  concatenate S1x8193x4x512 1 [⟨S1x1x4x512, a⟩, ⟨S1x8192x4x512, b⟩] concatenates_S1x1x4x512_S1x8192x4x512_S1x8193x4x512_d1
/-- Two columns of indices joined. -/
def catIdx (a b : IVec S8192x1 32) : IVec S8192x2 32 :=
  concatenate S8192x2 1 [⟨S8192x1, a⟩, ⟨S8192x1, b⟩] concatenates_S8192x1_S8192x1_S8192x2_d1
/-- The four groups joined. -/
def catGrp (a b c d : FVec Ideal S1x8192x1x512 .f32) : FVec Ideal S1x8192x4x512 .f32 :=
  concatenate S1x8192x4x512 2 [⟨S1x8192x1x512, a⟩, ⟨S1x8192x1x512, b⟩, ⟨S1x8192x1x512, c⟩, ⟨S1x8192x1x512, d⟩]
    concatenates_S1x8192x1x512_S1x8192x1x512_S1x8192x1x512_S1x8192x1x512_S1x8192x4x512_d2
theorem catSeq_eq (a b) : concatenate S1x8193x4x512 1 [⟨S1x1x4x512, a⟩, ⟨S1x8192x4x512, b⟩] concatenates_S1x1x4x512_S1x8192x4x512_S1x8193x4x512_d1 = catSeq a b := rfl
theorem catIdx_eq (a b) : concatenate S8192x2 1 [⟨S8192x1, a⟩, ⟨S8192x1, b⟩] concatenates_S8192x1_S8192x1_S8192x2_d1 = catIdx a b := rfl

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0, 0]
    ∧ win0_3.index t = ![0, 0] ∧ win0_4.index t = ![t.val, 0] ∧ win0_5.index t = ![t.val, 0] ∧ win0_6.index t = ![0, 0] :=
  (by decide +kernel : ∀ t : Fin grid0.N, _)

/-- Row `r` of tile `t`. -/
def rowOf (t : Fin cfg0.N) (r : Fin 512) : Fin 8192 :=
  ⟨t.val * 512 + r.val, by have := t.isLt; have : cfg0.N = 16 := N_0; omega⟩

/-- The cotangent, the scale and the groups' matrices as launched. -/
abbrev dA : FVec Ideal S8192x2048 .f32 := m ((c : Thread nD τ).loc main_arg4)
abbrev sA : FVec Ideal S2048 .f32 := m ((c : Thread nD τ).loc main_arg3)
abbrev wA : FVec Ideal S4x512x512 .f32 := m ((c : Thread nD τ).loc main_arg2)
/-- The pooled rows, as the forward lines give them. -/
def pooled : FVec Ideal S1x8192x4x512 .f32 :=
  Cert.PoolMixReferenceIdeal.Read.val_main_v147 (F := Ideal) (m ((c : Thread nD τ).loc main_arg0)) (m ((c : Thread nD τ).loc main_arg1))

theorem iblk_d (t : Fin cfg0.N) (r : Fin 512) (k : Fin 2048) :
    iblk m c 0 t (ix2 r k) = dA m c (ix2 (rowOf t r) k) := by
  blk_ext [iblk, V_main_arg4, idx t, rowOf]

set_option maxHeartbeats 1000000 in
/-- The saved pooled rows the kernel is called with are the reference's own. -/
theorem entry_pooled : V m c main_v147 = pooled m c := by
  unfold V
  after_reads_simp
  refine Eq.trans (show _ = catGrp (StableHlo.upto [hostOps0, hostOps0_1, hostOps0_2].flatten (fun b => m (c, b)) 185 (Proc.devRef .tc main_v143)) (StableHlo.upto [hostOps0, hostOps0_1, hostOps0_2].flatten (fun b => m (c, b)) 185 (Proc.devRef .tc main_v144)) (StableHlo.upto [hostOps0, hostOps0_1, hostOps0_2].flatten (fun b => m (c, b)) 185 (Proc.devRef .tc main_v145)) (StableHlo.upto [hostOps0, hostOps0_1, hostOps0_2].flatten (fun b => m (c, b)) 185 (Proc.devRef .tc main_v146)) from rfl) ?_
  after_reads_simp [StableHlo.unaryIndexed_result', StableHlo.binaryIndexed_result', catSeq_eq, catIdx_eq]
  rfl

theorem entry_p : V m c main_v149 = truncf (F := Ideal) .bf16 (shapeCast S8192x2048 (V m c main_v147) shapeCasts_S1x8192x4x512_S8192x2048) bitsLt_bf16_f32 := by
  unfold V
  after_reads_simp
  rfl

theorem entry_w : V m c main_v150 = truncf (F := Ideal) .bf16 (m ((c : Thread nD τ).loc main_arg2)) bitsLt_bf16_f32 := by
  unfold V
  after_reads_simp

theorem entry_s : V m c main_v151 = broadcastInDim S1x2048 ![1] bcast_S2048_S1x2048_1 (m ((c : Thread nD τ).loc main_arg3)) := by
  unfold V
  after_reads_simp

theorem iblk_w (t : Fin cfg0.N) (g : Fin 4) (a b : Fin 512) :
    iblk m c 2 t (ix3 g a b) = wA m c (ix3 g a b) := by
  unfold iblk
  show V m c main_v150 _ = _
  rw [entry_w]
  pointwise
  blk_ext [idx t]

theorem iblk_s (t : Fin cfg0.N) (k : Fin 2048) : iblk m c 3 t (ix2 0 k) = sA m c (ix1 k) := by
  unfold iblk
  show V m c main_v151 _ = _
  rw [entry_s]
  pointwise
  blk_ext [idx t]

theorem iblk_p (t : Fin cfg0.N) (r : Fin 512) (k : Fin 2048) :
    iblk m c 1 t (ix2 r k) = pooled m c (ix4 0 (rowOf t r) (grp k) (lane k)) := by
  unfold iblk
  show V m c main_v149 _ = _
  have he : ((cfg0.win 1).blk t).view.emb (ix2 r k) = ix2 (rowOf t r) k := by blk_ext [idx t, rowOf]
  rw [entry_p, entry_pooled, he]
  exact shapeCast_apply (pooled m c) _ (ix2 (rowOf t r) k) (ix4 0 (rowOf t r) (grp k) (lane k)) (by
    rewrite [Shape.rowMajor_val_four, Shape.rowMajor_val_two]
    show ((0 * 8192 + (rowOf t r).val) * 4 + k.val / 512) * 512 + k.val % 512 = (rowOf t r).val * 2048 + k.val
    omega)

/-- The tile's blocks, at their types. -/
abbrev b0 (t : Fin cfg0.N) : FVec Ideal S512x2048 .f32 := iblk m c 0 t
abbrev b1 (t : Fin cfg0.N) : FVec Ideal S512x2048 .bf16 := iblk m c 1 t
abbrev b2 (t : Fin cfg0.N) : FVec Ideal S4x512x512 .bf16 := iblk m c 2 t
abbrev b3 (t : Fin cfg0.N) : FVec Ideal S1x2048 .f32 := iblk m c 3 t

theorem after_mixed (t : Fin cfg0.N) (y : S512x2048.Idx) : (outsAt0 m c t.val t.isLt).1 y
    = b0 m c t y * b3 m c t (ix2 0 (y 1)) := by
  have hN : cfg0.N = 16 := N_0
  unfold b0 b3
  by_cases h0 : t.val % 16 = 0
  · rw [outsAt0_A m c t h0 (by omega)]
    frame_out
    generalize iblk m c 0 t = B0
    generalize iblk m c 3 t = B3
    canon_tiles x h
    all_goals (open_payloads; pointwise; refine congrArg₂ (fun a b : EReal => a * b) (congrArg B0 ?_) (congrArg B3 ?_) <;> blk_ext)
  · rw [outsAt0_B m c t h0 (by omega)]
    frame_out
    generalize iblk m c 0 t = B0
    generalize iblk m c 3 t = B3
    canon_tiles x h
    all_goals (open_payloads; pointwise; refine congrArg₂ (fun a b : EReal => a * b) (congrArg B0 ?_) (congrArg B3 ?_) <;> blk_ext)

theorem after_dp (t : Fin cfg0.N) (y : S512x2048.Idx) : (outsAt0 m c t.val t.isLt).2.1 y
    = ∑ k : Fin 512, b0 m c t (ix2 (y 0) (mate (y 1) k)) * b3 m c t (ix2 0 (mate (y 1) k)) * b2 m c t (ix3 (grp (y 1)) (lane (y 1)) k) := by
  have hN : cfg0.N = 16 := N_0
  unfold b0 b2 b3
  by_cases h0 : t.val % 16 = 0
  · rw [outsAt0_A m c t h0 (by omega)]
    frame_out
    generalize iblk m c 0 t = B0
    generalize iblk m c 2 t = B2
    generalize iblk m c 3 t = B3
    canon_tiles x h
    all_goals (open_payloads; pointwise; refine Fin.sum_fin_congr fun k => ?_; refine congrArg₂ (fun a b : EReal => a * b) (congrArg₂ (fun a b : EReal => a * b) (congrArg B0 ?_) (congrArg B3 ?_)) (congrArg B2 ?_) <;> blk_ext [grp, lane, mate])
  · rw [outsAt0_B m c t h0 (by omega)]
    frame_out
    generalize iblk m c 0 t = B0
    generalize iblk m c 2 t = B2
    generalize iblk m c 3 t = B3
    canon_tiles x h
    all_goals (open_payloads; pointwise; refine Fin.sum_fin_congr fun k => ?_; refine congrArg₂ (fun a b : EReal => a * b) (congrArg₂ (fun a b : EReal => a * b) (congrArg B0 ?_) (congrArg B3 ?_)) (congrArg B2 ?_) <;> blk_ext [grp, lane, mate])

section Part
variable (B0 : Vec Ideal S512x2048 .f32) (B1 : Vec Ideal S512x2048 .bf16) (B2 : Vec Ideal S4x512x512 .bf16)

/-- One tile's part of the scale's gradient. -/
abbrev part (j : Fin 2048) : EReal :=
  ∑ r : Fin 512, B0 (ix2 r j) * ∑ k : Fin 512, B1 (ix2 r (mate j k)) * B2 (ix3 (grp j) k (lane j))

theorem pay_part (j : Fin 2048) : k0_pay3
      (k0_pay7 (View.ld B0 (Rect.unit ![0, 0] ![512, 512] inb_S512x2048_S512x512_0_0))
        (View.ld B1 (Rect.unit ![0, 0] ![512, 512] inb_S512x2048_S512x512_0_0))
        (View.ld B2 (Rect.unit ![0, 0, 0] ![1, 512, 512] inb_S4x512x512_S1x512x512_0_0_0)))
      (k0_pay11 (View.ld B0 (Rect.unit ![0, 512] ![512, 512] inb_S512x2048_S512x512_0_512))
        (View.ld B1 (Rect.unit ![0, 512] ![512, 512] inb_S512x2048_S512x512_0_512))
        (View.ld B2 (Rect.unit ![1, 0, 0] ![1, 512, 512] inb_S4x512x512_S1x512x512_1_0_0)))
      (k0_pay14 (View.ld B0 (Rect.unit ![0, 1024] ![512, 512] inb_S512x2048_S512x512_0_1024))
        (View.ld B1 (Rect.unit ![0, 1024] ![512, 512] inb_S512x2048_S512x512_0_1024))
        (View.ld B2 (Rect.unit ![2, 0, 0] ![1, 512, 512] inb_S4x512x512_S1x512x512_2_0_0)))
      (View.ld B0 (Rect.unit ![0, 1536] ![512, 512] inb_S512x2048_S512x512_0_1536))
      (View.ld B1 (Rect.unit ![0, 1536] ![512, 512] inb_S512x2048_S512x512_0_1536))
      (View.ld B2 (Rect.unit ![3, 0, 0] ![1, 512, 512] inb_S4x512x512_S1x512x512_3_0_0)) (ix2 0 j) = part B0 B1 B2 j := by
  pointwise [k0_pay3, k0_pay7, k0_pay11, k0_pay14]
  show _ = ∑ r : Fin 512, _
  split_ifs with h1 h2 h3 <;> refine Finset.sum_congr rfl fun r _ => ?_ <;>
    refine congrArg₂ _ ?_ (Finset.sum_congr rfl fun k _ => congrArg₂ _ ?_ ?_) <;> blk_ext [grp, lane, mate]
end Part

theorem final_ds : (dats m 0 c).arrAt 6 cfg0.N = (fun j => ∑ p : Fin cfg0.N, part (b0 m c p) (b1 m c p) (b2 m c p) (j 1) : FVec Ideal S1x2048 .f32) := by
  refine (dats m 0 c).arrAt_eq_of_after_last 6 t0_15 (by decide +kernel) _ fun j => ?_
  blk_simp
  have hN : cfg0.N = 16 := N_0
  rw [after0_6, Pipeline.eq_sum_fin_of_reset_step_apply_last (fun n h => (outsAt0 m c n h).2.2) 16 (fun _ => 0)
    (fun t j => part (b0 m c t) (b1 m c t) (b2 m c t) (j 1))
    (fun t h j => by
      have := t.isLt
      rw [outsAt0_A m c t h (by omega), zero_add]; frame_out; idx_vars j; obtain rfl : j0 = 0 := Subsingleton.elim _ _
      exact pay_part _ _ _ j1)
    (fun t h j => by
      rw [outsAt0_B m c t h (by omega)]; frame_out; idx_vars j; obtain rfl : j0 = 0 := Subsingleton.elim _ _
      pointwise [k0_pay4]
      rw [pay_part])
    (le_of_eq N_0) t0_15 rfl j, zero_add]

theorem final_mixed : (dats m 0 c).arrAt 4 cfg0.N = (fun i => dA m c i * sA m c (ix1 (i 1)) : FVec Ideal S8192x2048 .bf16) := by
  refine (dats m 0 c).arrAt_eq_of_covers 4 _ (by decide +kernel) fun t _ y => ?_
  rw [after0_4]
  have he : ((cfg0.win 4).blk t).view.emb y = ix2 (rowOf t (y 0)) (y 1) := by blk_ext [idx t, rowOf]
  rw [he]
  refine (after_mixed m c t y).trans ?_
  idx_vars y
  exact congrArg₂ (fun a b : EReal => a * b) (iblk_d m c t y0 y1) (iblk_s m c t y1)

/-- The mixing matrix's transpose against the scaled cotangent. -/
abbrev dpAt (i : Fin 8192) (j : Fin 2048) : EReal :=
  ∑ k : Fin 512, dA m c (ix2 i (mate j k)) * sA m c (ix1 (mate j k)) * wA m c (ix3 (grp j) (lane j) k)

theorem final_dp : (dats m 0 c).arrAt 5 cfg0.N = (fun i => dpAt m c (i 0) (i 1) : FVec Ideal S8192x2048 .f32) := by
  refine (dats m 0 c).arrAt_eq_of_covers 5 _ (by decide +kernel) fun t _ y => ?_
  rw [after0_5]
  have he : ((cfg0.win 5).blk t).view.emb y = ix2 (rowOf t (y 0)) (y 1) := by blk_ext [idx t, rowOf]
  rw [he]
  refine (after_dp m c t y).trans ?_
  idx_vars y
  exact Finset.sum_congr rfl fun k _ => congrArg₂ (fun a b : EReal => a * b)
    (congrArg₂ (fun a b : EReal => a * b) (iblk_d m c t y0 _) (iblk_s m c t _)) (iblk_w m c t _ _ _)

/-- The scale's gradient at one column: the cotangent against the mixed rows, over all rows. -/
abbrev dsAt (j : Fin 2048) : EReal :=
  ∑ i : Fin 8192, dA m c (ix2 i j) * ∑ k : Fin 512, pooled m c (ix4 0 i (grp j) k) * wA m c (ix3 (grp j) k (lane j))

theorem grp_mate (j : Fin 2048) (k : Fin 512) : grp (mate j k) = grp j := Fin.ext (by simp only [grp, mate]; omega)
theorem lane_mate (j : Fin 2048) (k : Fin 512) : lane (mate j k) = k := Fin.ext (by simp only [lane, mate]; omega)

theorem final_dscale : (dats m 0 c).arrAt 6 cfg0.N = (fun j => dsAt m c (j 1) : FVec Ideal S1x2048 .f32) := by
  refine (final_ds m c).trans (funext fun j => ?_)
  idx_vars j
  refine Eq.trans ?_ (Fin.sum_mul_add_fin 16 512 fun i => dA m c (ix2 i j1) * ∑ k : Fin 512, pooled m c (ix4 0 i (grp j1) k) * wA m c (ix3 (grp j1) k (lane j1)))
  refine Finset.sum_congr rfl fun t _ => Finset.sum_congr rfl fun r _ => congrArg₂ (fun a b : EReal => a * b) (iblk_d m c t r j1)
    (Finset.sum_congr rfl fun k _ => congrArg₂ (fun a b : EReal => a * b) ?_ (iblk_w m c t _ _ _))
  refine (iblk_p m c t r (mate j1 k)).trans ?_
  rw [grp_mate, lane_mate]
  rfl

end Cert.PoolMixKernelIdeal.Real

end
-- ==== Proof.PoolMixRef.lean ====
/- The pooling mixer's gradient in the reference over the reals, entry by entry. -/
module

public import proofs.«01_k».proof.Proof.PoolMixKer
public import proofs.«01_k».proof.Proof.Gen.PoolMixReferenceIdeal.Run

@[expose] public section

set_option maxRecDepth 16384

noncomputable section

namespace Cert.PoolMixReferenceIdeal.Real

open Cert.PoolMixReferenceIdeal Cert.PoolMixReferenceIdeal.Read Idealize.ShloMosaic Idealize.ShloMosaic.TcCoe Idealize.SL.Sem Cert.Lift
open Cert.PoolMixKernelIdeal.Real (grp lane mate)

variable (x : FVec Ideal S8192x2048 .f32) (g : FVec Ideal S2048 .f32) (w : FVec Ideal S4x512x512 .f32) (s : FVec Ideal S2048 .f32)
  (d : FVec Ideal S8192x2048 .f32)

theorem mixed (i : Fin 8192) (j : Fin 2048) : val_main_v180 (F := Ideal) s d (ix2 i j) = d (ix2 i j) * s (ix1 j) := by
  simp only [val_main_v180_apply, val_main_v179_apply, val_main_v178_apply, val_main_v176_apply, val_main_v175_apply, val_main_v171_apply,
    val_main_v168_apply, Ideal.truncf_def, Ideal.mulf_def]
  refine congrArg₂ (fun a b : EReal => a * b) (congrArg d ?_) (congrArg s ?_)
  · blk_ext
  · blk_ext

theorem dpooled (i : Fin 8192) (j : Fin 2048) : val_main_v181 (F := Ideal) w s d (ix2 i j)
    = ∑ k : Fin 512, d (ix2 i (mate j k)) * s (ix1 (mate j k)) * w (ix3 (grp j) (lane j) k) := by
  simp only [val_main_v181_apply, val_main_v164_apply, val_main_v163_apply, val_main_v162_apply, val_main_v161_apply, val_main_v159_apply,
    val_main_v158_apply, val_main_v154_apply, val_main_v151_apply, Ideal.mulf_def]
  refine Finset.sum_congr rfl fun k _ => congrArg₂ (fun a b : EReal => a * b) (congrArg₂ (fun a b : EReal => a * b) (congrArg d ?_) (congrArg s ?_)) (congrArg w ?_)
  · blk_ext [mate]
  · blk_ext [mate]
  · blk_ext [grp, lane]

/-- A sum over two axes of length one is the one entry. -/
theorem unit_axes {n : Nat} (h : (⟨3, ![1, 1, n]⟩ : Shape).ReducesTo [0, 1] ⟨1, ![n]⟩) (v : (⟨3, ![1, 1, n]⟩ : Shape).Idx → EReal)
    (init : EReal) (j : Fin n) : Ideal.hostReduceAdd h v init (ix1 j) = init + v (ix3 0 0 j) := by
  unfold Ideal.hostReduceAdd
  refine congrArg (init + ·) (Finset.sum_eq_single (ix3 0 0 j) ?_ ?_)
  · intro i hi hne
    refine absurd ?_ hne
    have hk : i 2 = j := congrArg (fun k : (⟨1, ![n]⟩ : Shape).Idx => k 0) (Finset.mem_filter.1 hi).2
    subst hk
    refine funext fun a => ?_
    match a with
    | ⟨0, _⟩ => exact Subsingleton.elim (α := Fin 1) _ _
    | ⟨1, _⟩ => exact Subsingleton.elim (α := Fin 1) _ _
    | ⟨2, _⟩ => rfl
  · intro hn
    refine absurd ?_ hn
    rw [Finset.mem_filter]
    refine ⟨Finset.mem_univ _, ?_⟩
    funext b
    apply Fin.ext
    match b with
    | ⟨0, _⟩ => rfl

theorem dscale (j : Fin 2048) : val_main_v182 (F := Ideal) x g w d (ix2 0 j)
    = ∑ i : Fin 8192, d (ix2 i j) * ∑ k : Fin 512, val_main_v147 (F := Ideal) x g (ix4 0 i (grp j) k) * w (ix3 (grp j) k (lane j)) := by
  have hj : idx_main_v182 (ix2 0 j) = ix1 j := by blk_ext
  simp only [val_main_v182_apply, hj, val_main_v160, Host.reduceAdd_apply, Ideal.hostReduceAdd_def, unit_axes, val_main_v157_apply, val_main_v156_apply, val_main_v155_apply, val_main_v150_apply,
    val_main_v149_apply, val_main_v148_apply, val_main_v154_apply, Ideal.mulf_def]
  generalize val_main_v147 (F := Ideal) x g = P
  have z (i) : val_main_cst_34 (F := Ideal) i = 0 := f32_zero
  have z' (i) : val_main_cst_35 (F := Ideal) i = 0 := f32_zero
  rw [z, z', zero_add, zero_add]
  refine Finset.sum_congr rfl fun i _ => (mul_comm _ _).trans (congrArg₂ (fun a b : EReal => a * b) (congrArg d ?_)
    (Finset.sum_congr rfl fun k _ => (mul_comm _ _).trans (congrArg₂ (fun a b : EReal => a * b) (congrArg P ?_) (congrArg w ?_))))
  · blk_ext
  · blk_ext [grp]
  · blk_ext [grp, lane]

end Cert.PoolMixReferenceIdeal.Real

end
-- ==== Proof.PoolMix.lean ====
/- The pooling mixer gradient's claims: the frames and the equality of all three results over the reals. -/
module

public import proofs.«01_k».proof.Defs
public import proofs.«01_k».proof.Proof.PoolMixRef
public import proofs.«01_k».proof.Proof.PoolMixKer
public import proofs.«01_k».proof.Proof.Gen.PoolMixKernel.Frame

@[expose] public section

set_option maxRecDepth 16384

noncomputable section

namespace Cert.PoolMix

open Idealize.ShloMosaic Idealize.ShloMosaic.TcCoe Idealize.SL.Sem Cert.Lift

theorem algebraic : Cert.algebraic_PoolMixKernelIdeal_PoolMixReferenceIdeal := by
  pair_intro
  · run_from Cert.PoolMixKernelIdeal.Value.run_blocks m g
  · refine (θ_run _ _ _).mono (fun _ h c => ?_) (Cert.PoolMixReferenceIdeal.Value.run m' g')
    obtain ⟨h0, h1, h2, ha⟩ := h c
    obtain ⟨e0, e1, e2, e3, e4⟩ := hagree c
    have a0 : StableHlo.launchContents m' c (Proc.devRef .tc Cert.PoolMixReferenceIdeal.main_arg0) = m ((c : Thread Cert.PoolMixKernelIdeal.nD Cert.PoolMixKernelIdeal.τ).loc Cert.PoolMixKernelIdeal.main_arg0) := e0
    have a1 : StableHlo.launchContents m' c (Proc.devRef .tc Cert.PoolMixReferenceIdeal.main_arg1) = m ((c : Thread Cert.PoolMixKernelIdeal.nD Cert.PoolMixKernelIdeal.τ).loc Cert.PoolMixKernelIdeal.main_arg1) := e1
    have a2 : StableHlo.launchContents m' c (Proc.devRef .tc Cert.PoolMixReferenceIdeal.main_arg2) = m ((c : Thread Cert.PoolMixKernelIdeal.nD Cert.PoolMixKernelIdeal.τ).loc Cert.PoolMixKernelIdeal.main_arg2) := e2
    have a3 : StableHlo.launchContents m' c (Proc.devRef .tc Cert.PoolMixReferenceIdeal.main_arg3) = m ((c : Thread Cert.PoolMixKernelIdeal.nD Cert.PoolMixKernelIdeal.τ).loc Cert.PoolMixKernelIdeal.main_arg3) := e3
    have a4 : StableHlo.launchContents m' c (Proc.devRef .tc Cert.PoolMixReferenceIdeal.main_arg4) = m ((c : Thread Cert.PoolMixKernelIdeal.nD Cert.PoolMixKernelIdeal.τ).loc Cert.PoolMixKernelIdeal.main_arg4) := e4
    refine ⟨h0.trans ?_, h1.trans ?_, h2.trans ?_, ha⟩
    · rw [Cert.PoolMixReferenceIdeal.Read.val_main_v180_eq, a3, a4]
      refine Eq.trans (funext fun i => ?_) (Cert.PoolMixKernelIdeal.Real.final_mixed m c).symm
      idx_vars i
      exact Cert.PoolMixReferenceIdeal.Real.mixed _ _ i0 i1
    · rw [Cert.PoolMixReferenceIdeal.Read.val_main_v181_eq, a2, a3, a4]
      refine Eq.trans (funext fun i => ?_) (Cert.PoolMixKernelIdeal.Real.final_dp m c).symm
      idx_vars i
      exact Cert.PoolMixReferenceIdeal.Real.dpooled _ _ _ i0 i1
    · rw [Cert.PoolMixReferenceIdeal.Read.val_main_v182_eq, a0, a1, a2, a4]
      refine Eq.trans (funext fun i => ?_) (Cert.PoolMixKernelIdeal.Real.final_dscale m c).symm
      idx_vars i
      obtain rfl : i0 = 0 := Subsingleton.elim _ _
      exact Cert.PoolMixReferenceIdeal.Real.dscale _ _ _ _ i1

theorem frame_kernel : Cert.quiescent_PoolMixKernel := fun m ρ _ => Cert.PoolMixKernel.Gen.frame m ρ
theorem frame_ideal : Cert.quiescent_PoolMixKernelIdeal := fun m ρ _ => Cert.PoolMixKernelIdeal.Gen.frame m ρ
theorem frame_reference : Cert.quiescent_PoolMixReferenceIdeal := fun m ρ _ =>
  (θ_run Cert.PoolMixReferenceIdeal.defs _ _).mono (fun r h => ⟨fun c => (h c).2.2.2, sem_eq_zero_of_no_sems (by decide) r.2⟩)
    (Cert.PoolMixReferenceIdeal.Value.run m ρ)

end Cert.PoolMix

end
-- ==== Proof.PoolSum.lean ====
/- The windowed mean's gradient over the reals: each position's share of its mean, the sum of the shares a position
   receives, and the doubling of a sum along a cycle. -/
module

public import proofs.«01_k».proof.Proof.Lift
public import Idealize.ShloMosaic.Lib.WordArith

@[expose] public section

noncomputable section

namespace Cert.PoolSum

open Idealize.ShloMosaic

/-- What position `p` gives to each position of its mean over the last `w`. -/
def part (D : ℕ → ℝ) (w p : ℕ) : ℝ := if p < 8192 then D p / ((min (p + 1) w : ℕ) : ℝ) else 0

/-- What position `p` receives: the shares of the `w` positions whose means hold it, without its own gradient. -/
def tail (D : ℕ → ℝ) (w p : ℕ) : ℝ := (∑ j ∈ Finset.range w, part D w (p + j)) - D p

/-- The window of a column's group. -/
def win (k : Fin 2048) : ℕ := 2 ^ (k.val / 512 + 1)

theorem win_pos (k : Fin 2048) : 0 < win k := Nat.two_pow_pos _
theorem win_le (k : Fin 2048) : win k ≤ 16 :=
  Nat.pow_le_pow_right (n := 2) (by omega) (show k.val / 512 + 1 ≤ 4 by have := k.isLt; omega)

/-- The word of a count. -/
theorem count_word {n w : ℕ} (hn : n < 2 ^ 31) (hw : w < 2 ^ 31) :
    (IntOp.minsi (BitVec.ofNat 32 n) (BitVec.ofNat 32 w)).toInt = ((min n w : ℕ) : ℤ) := by
  have e {a : ℕ} (h : a < 2 ^ 31) : (BitVec.ofNat 32 a).toInt = (a : ℤ) := by
    rw [BitVec.toInt_eq_toNat_of_lt (by rw [BitVec.toNat_ofNat]; omega), BitVec.toNat_ofNat]; omega
  unfold IntOp.minsi
  rw [BitVec.slt_eq_decide, e hn, e hw]
  by_cases h : n < w
  · simp [h, e hn]; omega
  · simp [h, e hw]; omega

/-- A sum of `w` terms along a cycle and the same sum `w` further are a sum of `2 w` terms. -/
theorem twice (f : ℕ → ℝ) (N w r : ℕ) :
    (∑ j ∈ Finset.range w, f ((r + j) % N)) + ∑ j ∈ Finset.range w, f (((r + w) % N + j) % N)
      = ∑ j ∈ Finset.range (w + w), f ((r + j) % N) := by
  rw [Finset.sum_range_add]
  congr 1
  refine Finset.sum_congr rfl fun j _ => ?_
  rw [Nat.mod_add_mod, Nat.add_assoc]

/-- A sum over the rows that follow `t`, named by their distance or by themselves. -/
theorem shift (f : ℕ → ℝ) (N K t : ℕ) :
    (∑ q ∈ Finset.range K, if t + q < N then f (t + q) else 0) = ∑ p ∈ Finset.range N, if t ≤ p ∧ p < t + K then f p else 0 := by
  rw [← Finset.sum_filter, ← Finset.sum_filter]
  refine Finset.sum_nbij' (fun q => t + q) (fun p => p - t) ?_ ?_ ?_ ?_ fun _ _ => rfl
  · intro q hq
    simp only [Finset.mem_filter, Finset.mem_range] at hq ⊢
    omega
  · intro q hq
    simp only [Finset.mem_filter, Finset.mem_range] at hq ⊢
    omega
  · intro q hq
    exact Nat.add_sub_cancel_left _ _
  · intro q hq
    simp only [Finset.mem_filter, Finset.mem_range] at hq
    omega

/-- The gradient of the running sum's differences, summed from the end, is the sum of the shares a position receives. -/
theorem telescope (f : ℕ → ℝ) (N w t : ℕ) (hw : 0 < w) (ht : t < N) (hf : ∀ p, N ≤ p → f p = 0) :
    (∑ q ∈ Finset.range N, if t + q < N
        then f (t + q) - (∑ p ∈ Finset.range N, if p + 1 - w = t + q + 1 then f p else 0) else 0)
      = ∑ j ∈ Finset.range w, f (t + j) := by
  have e : ∀ j, f (t + j) = if t + j < N then f (t + j) else 0 := fun j => by
    split
    · rfl
    · exact hf _ (by omega)
  rw [shift (fun s => f s - (∑ p ∈ Finset.range N, if p + 1 - w = s + 1 then f p else 0)),
    Finset.sum_congr rfl fun j _ => e j, shift (fun s => f s)]
  have a : (∑ s ∈ Finset.range N, if t ≤ s ∧ s < t + N
        then f s - (∑ p ∈ Finset.range N, if p + 1 - w = s + 1 then f p else 0) else 0)
      = (∑ s ∈ Finset.range N, if t ≤ s then f s else 0)
        - ∑ s ∈ Finset.range N, ∑ p ∈ Finset.range N, if t ≤ s ∧ p + 1 - w = s + 1 then f p else 0 := by
    rw [← Finset.sum_sub_distrib]
    refine Finset.sum_congr rfl fun s hs => ?_
    have := Finset.mem_range.1 hs
    by_cases h : t ≤ s
    · rw [if_pos ⟨h, by omega⟩, if_pos h]
      congr 1
      exact Finset.sum_congr rfl fun p _ => by simp [h]
    · rw [if_neg (by omega), if_neg h, Finset.sum_eq_zero fun p _ => if_neg (by omega), sub_zero]
  rw [a, Finset.sum_comm, ← Finset.sum_sub_distrib]
  refine Finset.sum_congr rfl fun p hp => ?_
  have := Finset.mem_range.1 hp
  have b : (∑ s ∈ Finset.range N, if t ≤ s ∧ p + 1 - w = s + 1 then f p else 0)
      = if t + w ≤ p then f p else 0 := by
    by_cases h : t + w ≤ p
    · rw [if_pos h, Finset.sum_eq_single (p - w) (fun s _ hs => if_neg (by omega)) (fun hn => absurd (Finset.mem_range.2 (by omega)) hn),
        if_pos (by omega)]
    · rw [if_neg h]
      exact Finset.sum_eq_zero fun s _ => if_neg (by omega)
  rw [b]
  by_cases h1 : t ≤ p
  · by_cases h2 : t + w ≤ p
    · rw [if_pos h1, if_pos h2, if_neg (by omega), sub_self]
    · rw [if_pos h1, if_neg h2, if_pos (by omega), sub_zero]
  · rw [if_neg h1, if_neg (by omega), if_neg (by omega), sub_zero]

end Cert.PoolSum

end
-- ==== Proof.PoolWindowKer.lean ====
/- The windowed mean's backward kernel over the reals: the sums the rolled tile holds, one chunk of the norm's gradient,
   what each case of the body leaves, and the three result arrays. -/
module

public import proofs.«01_k».proof.Proof.PoolSum
public import proofs.«01_k».proof.Proof.Gen.PoolWindowKernelIdeal.Value
public import Idealize.ShloMosaic.Lib.KernelVsHost
public import Idealize.ShloMosaic.Lib.Pipeline.ValueKit
public import Idealize.ShloMosaic.Lib.Claim

@[expose] public section

set_option maxRecDepth 16384

noncomputable section

namespace Cert.PoolWindowKernelIdeal.Real

open Cert.PoolWindowKernelIdeal Cert.PoolWindowKernelIdeal.Gen Idealize.ShloMosaic Idealize.ShloMosaic.TcCoe Idealize.SL.Sem Cert.Lift Cert.PoolSum
open Idealize.ShloMosaic.Pipeline (Dat)

/-- A load of a unit-stride box read at two coordinates. -/
theorem ld2 {a b a' b' : ℕ} {e : EltTy} (B : Vec Ideal ⟨2, ![a, b]⟩ e) {o p : ℕ} (hin) (r : Fin a') (k : Fin b') (i : Fin a) (j : Fin b)
    (hi : i.val = o + r.val) (hj : j.val = p + k.val) :
    View.ld (Val := Elt Ideal) (e' := e) (S := ⟨2, ![a, b]⟩) B (Rect.unit ![o, p] ![a', b'] hin) (ix2 r k) = B (ix2 i j) :=
  View.ld_unit_apply_of (Val := Elt Ideal) (e := e) (S := ⟨2, ![a, b]⟩) B _ _ _ _ _ fun c => match c with
    | ⟨0, _⟩ => hi
    | ⟨1, _⟩ => hj

/-! ## The rolled tile -/

/-- A tile of one group over its counts, joined to the rows after it. -/
def joined (i w : BitVec 32) (v : FVec Ideal S512x512 .f32) (h : FVec Ideal S16x512 .f32) : FVec Ideal S528x512 .f32 :=
  concatenate S528x512 0 [
    ⟨S512x512, divf v (broadcastTo S512x512 (sitofp .f32 (minsi (addi (addi (broadcast S512x1 (Scalar.muli i 512#32))
      (iota .tc S512x1 32 [0] iota_S512x1_d0_w32)) (broadcast S512x1 1#32)) (broadcast S512x1 w))) broadcasts_S512x1_S512x512)⟩,
    ⟨S16x512, divf (Scalar.select (Scalar.cmpi .slt i 15#32) h (broadcast S16x512 (Scalar.ofBits (F := Ideal) .f32 0x00000000#32)))
      (broadcastTo S16x512 (sitofp .f32 (minsi (addi (addi (broadcast S16x1 (Scalar.muli (Scalar.addi i 1#32) 512#32))
      (iota .tc S16x1 32 [0] iota_S16x1_d0_w32)) (broadcast S16x1 1#32)) (broadcast S16x1 w))) broadcasts_S16x1_S16x512)⟩]
    concatenates_S512x512_S16x512_S528x512_d0

/-- An array plus itself rolled along the rows. -/
def turn (n : BitVec 32) (A : FVec Ideal S528x512 .f32) : FVec Ideal S528x512 .f32 :=
  addf A (dynamicRotate 0 n none A rotates_S528x512_d0)

theorem turn_apply {A : FVec Ideal S528x512 .f32} {f : Fin 512 → ℕ → ℝ} (n : BitVec 32) (w : ℕ) (hw : w < 528) (hn : n.toNat = 528 - w)
    (hA : ∀ r k, A (ix2 r k) = ((∑ j ∈ Finset.range w, f k ((r.val + j) % 528) : ℝ) : EReal)) (r : Fin 528) (k : Fin 512) :
    turn n A (ix2 r k) = ((∑ j ∈ Finset.range (w + w), f k ((r.val + j) % 528) : ℝ) : EReal) := by
  show A (ix2 r k) + dynamicRotate 0 n none A rotates_S528x512_d0 (ix2 r k) = _
  rw [dynamicRotate_apply 0 n A rotates_S528x512_d0 (ix2 r k) (ix2 ⟨(r.val + w) % 528, Nat.mod_lt _ (by omega)⟩ k) (by
    intro b
    match b with
    | ⟨0, _⟩ =>
      show (r.val + w) % 528 = (r.val + 528 - n.toNat % 528) % 528
      have := r.isLt
      rw [hn]
      rcases Nat.eq_zero_or_pos w with rfl | h
      · simp
      · rw [Nat.mod_eq_of_lt (show 528 - w < 528 by omega)]; congr 1; omega
    | ⟨1, _⟩ => rfl), hA, hA, ← EReal.coe_add, ← twice]

theorem place (i r : ℕ) : IntOp.addi (IntOp.addi (Scalar.muli (BitVec.ofNat 32 i) 512#32) (BitVec.ofNat 32 r)) 1#32
    = BitVec.ofNat 32 (i * 512 + r + 1) := by
  show BitVec.ofNat 32 i * BitVec.ofNat 32 512 + BitVec.ofNat 32 r + BitVec.ofNat 32 1 = _
  rw [BitVec.ofNat_add, BitVec.ofNat_add, BitVec.ofNat_mul]
theorem next (i : ℕ) : Scalar.addi (BitVec.ofNat 32 i) 1#32 = BitVec.ofNat 32 (i + 1) := by
  show BitVec.ofNat 32 i + BitVec.ofNat 32 1 = _
  rw [BitVec.ofNat_add]
theorem below {t : ℕ} (ht : t < 16) : Scalar.cmpi .slt (BitVec.ofNat 32 t) 15#32 = BitVec.ofBool (decide (t < 15)) :=
  (by decide : ∀ t : Fin 16, Scalar.cmpi .slt (BitVec.ofNat 32 t.val) 15#32 = BitVec.ofBool (decide (t.val < 15))) ⟨t, ht⟩
theorem count {w n : ℕ} (hw : 0 < w) (hn : n < 2 ^ 31) (hw' : w < 2 ^ 31) :
    FloatOps.sitofp (F := Ideal) .f32 (IntOp.minsi (BitVec.ofNat 32 n) (BitVec.ofNat 32 w)) = (((min n w : ℕ) : ℝ) : EReal) := by
  show ((((IntOp.minsi (BitVec.ofNat 32 n) (BitVec.ofNat 32 w)).toInt : ℤ) : ℝ) : EReal) = _
  rw [count_word hn hw', Int.cast_natCast]

section Tile

variable {t : ℕ} (ht : t < 16) {v : FVec Ideal S512x512 .f32} {h : FVec Ideal S16x512 .f32} {D : ℕ → Fin 512 → ℝ}
  (hv : ∀ r k, v (ix2 r k) = ((D (t * 512 + r.val) k : ℝ) : EReal))
  (hh : t < 15 → ∀ r k, h (ix2 r k) = ((D ((t + 1) * 512 + r.val) k : ℝ) : EReal))
include ht hv hh

theorem joined_apply (w : ℕ) (hw : 0 < w) (hw' : w ≤ 16) (r : Fin 528) (k : Fin 512) :
    joined (BitVec.ofNat 32 t) (BitVec.ofNat 32 w) v h (ix2 r k)
      = ((∑ j ∈ Finset.range 1, part (fun p => D p k) w (t * 512 + (r.val + j) % 528) : ℝ) : EReal) := by
  have hr := r.isLt
  rw [Finset.sum_range_one, Nat.add_zero, Nat.mod_eq_of_lt hr]
  have hc (n : ℕ) (hn : n < 2 ^ 31) (hp : 0 < n) : ((min n w : ℕ) : ℝ) ≠ 0 := by
    have : min n w ≠ 0 := by omega
    exact_mod_cast this
  pointwise [joined]
  split
  · rename_i hlt
    rw [place, hv, count hw]
    · rw [coe_div (hc _ (by omega) (by omega)), part, if_pos (by omega)]
    · omega
    · omega
  · rename_i hlt
    have hlt : 512 ≤ r.val := not_lt.1 hlt
    have e : (t + 1) * 512 + (r.val - 512) = t * 512 + r.val := by omega
    rw [below ht, Scalar.select_ofBool, next, place, count hw]
    · rw [e]
      by_cases h15 : t < 15
      · rw [if_pos (by simpa using h15), hh h15, e, coe_div (hc _ (by omega) (by omega)), part, if_pos (by omega)]
      · rw [if_neg (by simpa using h15), part, if_neg (by omega), show (0 : EReal) = ((0 : ℝ) : EReal) from rfl,
          coe_div (hc _ (by omega) (by omega)), zero_div]
    · omega
    · omega

/-- What the scratch holds of one group: `m` turns of the joined tile, without the tile. -/
theorem summed {A : FVec Ideal S528x512 .f32} {P : FVec Ideal S512x512 .f32} (w : ℕ) (hw' : w ≤ 16)
    (hA : ∀ r k, A (ix2 r k) = ((∑ j ∈ Finset.range w, part (fun p => D p k) w (t * 512 + (r.val + j) % 528) : ℝ) : EReal))
    (hP : P = subf (extractStridedSlice S512x512 ![0, 0] A slices_S528x512_o0_0_S512x512) v) (r k : Fin 512) :
    P (ix2 r k) = ((tail (fun p => D p k) w (t * 512 + r.val) : ℝ) : EReal) := by
  subst hP
  pointwise
  rw [hA, hv, ← EReal.coe_sub, tail]
  congr 2
  refine Finset.sum_congr rfl fun j hj => ?_
  have := Finset.mem_range.1 hj
  have := r.isLt
  show part _ _ (t * 512 + (r.val + j) % 528) = _
  rw [Nat.mod_eq_of_lt (by omega), Nat.add_assoc]

theorem pay2 (r k : Fin 512) (i : grid0.Coords) (hi : (i 0).val = t) :
    k0_pay2 (F := Ideal) i v h (ix2 r k) = ((tail (fun p => D p k) 2 (t * 512 + r.val) : ℝ) : EReal) := by
  subst hi
  exact summed ht hv hh 2 (by omega) (turn_apply (f := fun k q => part (fun p => D p k) 2 ((i 0).val * 512 + q)) 527#32 1 (by omega) rfl
    (joined_apply ht hv hh 2 (by omega) (by omega))) (shapeCast_self _ _) r k

theorem pay3 (r k : Fin 512) :
    k0_pay3 (F := Ideal) (BitVec.ofNat 32 t) v (Scalar.cmpi .slt (BitVec.ofNat 32 t) 15#32) h (ix2 r k)
      = ((tail (fun p => D p k) 4 (t * 512 + r.val) : ℝ) : EReal) :=
  summed ht hv hh 4 (by omega) (turn_apply (f := fun k q => part (fun p => D p k) 4 (t * 512 + q)) 526#32 2 (by omega) rfl
    (turn_apply (f := fun k q => part (fun p => D p k) 4 (t * 512 + q)) 527#32 1 (by omega) rfl
    (joined_apply ht hv hh 4 (by omega) (by omega)))) (shapeCast_self _ _) r k

theorem pay5 (r k : Fin 512) :
    k0_pay5 (F := Ideal) (BitVec.ofNat 32 t) v (Scalar.cmpi .slt (BitVec.ofNat 32 t) 15#32) h k0_pay4 (ix2 r k)
      = ((tail (fun p => D p k) 8 (t * 512 + r.val) : ℝ) : EReal) :=
  summed ht hv hh 8 (by omega) (turn_apply (f := fun k q => part (fun p => D p k) 8 (t * 512 + q)) 524#32 4 (by omega) rfl
    (turn_apply (f := fun k q => part (fun p => D p k) 8 (t * 512 + q)) 526#32 2 (by omega) rfl
    (turn_apply (f := fun k q => part (fun p => D p k) 8 (t * 512 + q)) 527#32 1 (by omega) rfl
    (joined_apply ht hv hh 8 (by omega) (by omega))))) (shapeCast_self _ _) r k

theorem pay7 (r k : Fin 512) :
    k0_pay7 (F := Ideal) (BitVec.ofNat 32 t) v (k0_pay6 (BitVec.ofNat 32 t) h) (ix2 r k)
      = ((tail (fun p => D p k) 16 (t * 512 + r.val) : ℝ) : EReal) :=
  summed ht hv hh 16 (by omega) (turn_apply (f := fun k q => part (fun p => D p k) 16 (t * 512 + q)) 520#32 8 (by omega) rfl
    (turn_apply (f := fun k q => part (fun p => D p k) 16 (t * 512 + q)) 524#32 4 (by omega) rfl
    (turn_apply (f := fun k q => part (fun p => D p k) 16 (t * 512 + q)) 526#32 2 (by omega) rfl
    (turn_apply (f := fun k q => part (fun p => D p k) 16 (t * 512 + q)) 527#32 1 (by omega) rfl
    (joined_apply ht hv hh 16 (by omega) (by omega)))))) (shapeCast_self _ _) r k

end Tile

/-- The scratch's four stores, the last first. -/
abbrev pieces (i : grid0.Coords) (B0 : FVec Ideal S512x2048 .f32) (B1 : FVec Ideal S16x2048 .f32) : List (View.Piece (Elt Ideal) S512x2048 .f32) :=
  [⟨Rect.unit ![0, 1536] ![512, 512] inb_S512x2048_S512x512_0_1536,
        k0_pay7 (F := Ideal) (BitVec.ofNat 32 (i 0).val) (View.ld (Val := Elt Ideal) (e' := .f32) B0 (Rect.unit ![0, 1536] ![512, 512] inb_S512x2048_S512x512_0_1536))
          (k0_pay6 (BitVec.ofNat 32 (i 0).val) (View.ld (Val := Elt Ideal) (e' := .f32) B1 (Rect.unit ![0, 1536] ![16, 512] inb_S16x2048_S16x512_0_1536)))⟩,
      ⟨Rect.unit ![0, 1024] ![512, 512] inb_S512x2048_S512x512_0_1024,
        k0_pay5 (F := Ideal) (BitVec.ofNat 32 (i 0).val) (View.ld (Val := Elt Ideal) (e' := .f32) B0 (Rect.unit ![0, 1024] ![512, 512] inb_S512x2048_S512x512_0_1024))
          (Scalar.cmpi CmpIPredicate.slt (BitVec.ofNat 32 (i 0).val) 15#32)
          (View.ld (Val := Elt Ideal) (e' := .f32) B1 (Rect.unit ![0, 1024] ![16, 512] inb_S16x2048_S16x512_0_1024)) k0_pay4⟩,
      ⟨Rect.unit ![0, 512] ![512, 512] inb_S512x2048_S512x512_0_512,
        k0_pay3 (F := Ideal) (BitVec.ofNat 32 (i 0).val) (View.ld (Val := Elt Ideal) (e' := .f32) B0 (Rect.unit ![0, 512] ![512, 512] inb_S512x2048_S512x512_0_512))
          (Scalar.cmpi CmpIPredicate.slt (BitVec.ofNat 32 (i 0).val) 15#32)
          (View.ld (Val := Elt Ideal) (e' := .f32) B1 (Rect.unit ![0, 512] ![16, 512] inb_S16x2048_S16x512_0_512))⟩,
      ⟨Rect.unit ![0, 0] ![512, 512] inb_S512x2048_S512x512_0_0,
        k0_pay2 (F := Ideal) i (View.ld (Val := Elt Ideal) (e' := .f32) B0 (Rect.unit ![0, 0] ![512, 512] inb_S512x2048_S512x512_0_0))
          (View.ld (Val := Elt Ideal) (e' := .f32) B1 (Rect.unit ![0, 0] ![16, 512] inb_S16x2048_S16x512_0_0))⟩]

/-- What the scratch holds: each column the sum of the shares its rows receive. -/
theorem scratch {t : ℕ} (ht : t < 16) {i : grid0.Coords} (hi : (i 0).val = t) {B0 : FVec Ideal S512x2048 .f32} {B1 : FVec Ideal S16x2048 .f32} {D : ℕ → Fin 2048 → ℝ}
    (hB0 : ∀ r k, B0 (ix2 r k) = ((D (t * 512 + r.val) k : ℝ) : EReal))
    (hB1 : t < 15 → ∀ r k, B1 (ix2 r k) = ((D ((t + 1) * 512 + r.val) k : ℝ) : EReal)) (y : S512x2048.Idx) :
    View.canon (pieces i B0 B1) y
    = ((tail (fun p => D p (y 1)) (win (y 1)) (t * 512 + (y 0).val) : ℝ) : EReal) := by
  have l0 (o : ℕ) (ho : o + 512 ≤ 2048) (hin) (r k : Fin 512) :
      View.ld (Val := Elt Ideal) (e' := .f32) B0 (Rect.unit ![0, o] ![512, 512] hin) (ix2 r k)
        = ((D (t * 512 + r.val) ⟨o + k.val, by omega⟩ : ℝ) : EReal) := by
    exact (ld2 _ _ r k r ⟨o + k.val, by omega⟩ (Nat.zero_add _).symm rfl).trans (hB0 r _)
  have l1 (o : ℕ) (ho : o + 512 ≤ 2048) (hin) (h15 : t < 15) (r : Fin 16) (k : Fin 512) :
      View.ld (Val := Elt Ideal) (e' := .f32) B1 (Rect.unit ![0, o] ![16, 512] hin) (ix2 r k)
        = ((D ((t + 1) * 512 + r.val) ⟨o + k.val, by omega⟩ : ℝ) : EReal) := by
    exact (ld2 _ _ r k r ⟨o + k.val, by omega⟩ (Nat.zero_add _).symm rfl).trans (hB1 h15 r _)
  have fin (o w γ : ℕ) (ho : o + 512 ≤ 2048) (hw : 2 ^ (γ + 1) = w) (hd : o = γ * 512) (x0 x1 : Fin 512) (h0 : (y 0).val = x0.val)
      (h1 : (y 1).val = o + x1.val) : tail (fun p => D p ⟨o + x1.val, by omega⟩) w (t * 512 + x0.val)
        = tail (fun p => D p (y 1)) (win (y 1)) (t * 512 + (y 0).val) := by
    rw [show y 1 = (⟨o + x1.val, by omega⟩ : Fin 2048) from Fin.ext h1, h0, win, ← hw]
    show _ = tail _ (2 ^ ((o + x1.val) / 512 + 1)) _
    rw [show (o + x1.val) / 512 = γ by have := x1.isLt; omega]
  unfold pieces
  rw [hi]
  canon_tiles x h
  all_goals idx_vars x
  · exact (pay7 ht (D := fun p k => D p ⟨1536 + k.val, by omega⟩) (l0 1536 (by omega) _) (l1 1536 (by omega) _) x0 x1).trans
      (congrArg _ (fin 1536 16 3 (by omega) rfl rfl x0 x1 h0 h1))
  · exact (pay5 ht (D := fun p k => D p ⟨1024 + k.val, by omega⟩) (l0 1024 (by omega) _) (l1 1024 (by omega) _) x0 x1).trans
      (congrArg _ (fin 1024 8 2 (by omega) rfl rfl x0 x1 h0 h1))
  · exact (pay3 ht (D := fun p k => D p ⟨512 + k.val, by omega⟩) (l0 512 (by omega) _) (l1 512 (by omega) _) x0 x1).trans
      (congrArg _ (fin 512 4 1 (by omega) rfl rfl x0 x1 h0 h1))
  · exact (pay2 ht (D := fun p k => D p ⟨0 + k.val, by omega⟩) (l0 0 (by omega) _) (l1 0 (by omega) _) x0 x1 i hi).trans
      (congrArg _ (fin 0 2 0 (by omega) rfl rfl x0 x1 h0 (h1.trans (Nat.zero_add _).symm)))

/-! ## One chunk of the norm's gradient -/

section Chunk

variable {g : FVec Ideal S1x2048 .f32} {q : FVec Ideal S128x1 .f32} {x d e : FVec Ideal S128x2048 .f32}
  {X H E : Fin 128 → Fin 2048 → ℝ} {G : Fin 2048 → ℝ}
  (hg : ∀ k, g (ix2 0 k) = ((G k : ℝ) : EReal)) (hq : ∀ r, q (ix2 r 0) = ((rms (X r) : ℝ) : EReal))
  (hx : ∀ r k, x (ix2 r k) = ((X r k : ℝ) : EReal)) (hd : ∀ r k, d (ix2 r k) = ((H r k : ℝ) : EReal))
  (he : ∀ r k, e (ix2 r k) = ((E r k : ℝ) : EReal))
include hq hx

theorem chunk_unit (r : Fin 128) (k : Fin 2048) : k0_pay10 (F := Ideal) q x (ix2 r k) = ((X r k * rms (X r) : ℝ) : EReal) := by
  pointwise [k0_pay10, k0_pay9]
  rw [hx, hq, ← EReal.coe_mul]

include hd

theorem chunk_dgain (k : Fin 2048) : k0_pay13 (F := Ideal) q x d (ix2 0 k) = ((∑ r, H r k * (X r k * rms (X r)) : ℝ) : EReal) := by
  pointwise [k0_pay13]
  simp only [hd, chunk_unit hq hx, ← EReal.coe_mul, coe_sum]

include hg he

theorem chunk_dx (r : Fin 128) (k : Fin 2048) : k0_pay11 (F := Ideal) g q x d e (ix2 r k)
    = ((E r k + rmsGrad (X r) (fun k => H r k * G k) k : ℝ) : EReal) := by
  pointwise [k0_pay11]
  simp only [hd, hg, he, chunk_unit hq hx, ← EReal.coe_mul, coe_sum, f32_width, coe_div_width, ← EReal.coe_sub]
  pointwise [k0_pay9]
  rw [hq, ← EReal.coe_mul, ← EReal.coe_add]
  rfl

end Chunk

/-! ## The blocks -/

section Arrays

variable (m : (ℓ : Loc nD τ sig) → Buf (Elt Ideal) ℓ) (c : Dev nD) {X D E : ℕ → Fin 2048 → ℝ} {G : Fin 2048 → ℝ}
  (hx : ∀ i : S8192x2048.Idx, m ((c : Thread nD τ).loc main_arg0) i = ((X (i 0).val (i 1) : ℝ) : EReal))
  (hg : ∀ i : S2048.Idx, m ((c : Thread nD τ).loc main_arg1) i = ((G (i 0) : ℝ) : EReal))
  (hd : ∀ i : S8192x2048.Idx, m ((c : Thread nD τ).loc main_arg2) i = ((D (i 0).val (i 1) : ℝ) : EReal))
  (he : ∀ i : S8192x2048.Idx, m ((c : Thread nD τ).loc main_arg3) i = ((E (i 0).val (i 1) : ℝ) : EReal))

theorem idx : ∀ t : Fin cfg0.N, win0_0.index t = ![t.val, 0] ∧ win0_2.index t = ![t.val, 0] ∧ win0_3.index t = ![t.val, 0]
    ∧ win0_4.index t = ![0, 0] ∧ win0_5.index t = ![t.val, 0] ∧ win0_6.index t = ![t.val, 0] ∧ win0_7.index t = ![t.val, 0]
    ∧ win0_8.index t = ![0, 0] :=
  (by decide +kernel : ∀ t : Fin grid0.N, _)

theorem idx_halo : ∀ t : Fin cfg0.N, t.val < 15 → win0_1.index t = ![(t.val + 1) * 32, 0] :=
  (by decide +kernel : ∀ t : Fin grid0.N, _)

theorem coord : ∀ t : Fin cfg0.N, (grid0.coords t 0).val = t.val :=
  (by decide +kernel : ∀ t : Fin grid0.N, _)

theorem lt16 (t : Fin cfg0.N) : t.val < 16 := by have := t.isLt; have : cfg0.N = 16 := N_0; omega

include hd in
theorem iblk_d (t : Fin cfg0.N) (r : Fin 512) (k : Fin 2048) : iblk m c 0 t (ix2 r k) = ((D (t.val * 512 + r.val) k : ℝ) : EReal) := by
  have := lt16 t
  refine Eq.trans ?_ (hd (ix2 ⟨t.val * 512 + r.val, by omega⟩ k))
  blk_ext [iblk, V_main_arg2, idx t]

include hd in
theorem iblk_halo (t : Fin cfg0.N) (h15 : t.val < 15) (r : Fin 16) (k : Fin 2048) :
    iblk m c 1 t (ix2 r k) = ((D ((t.val + 1) * 512 + r.val) k : ℝ) : EReal) := by
  refine Eq.trans ?_ (hd (ix2 ⟨(t.val + 1) * 512 + r.val, by omega⟩ k))
  blk_ext [iblk, V_main_arg2, idx_halo t h15]

include hx in
theorem iblk_x (t : Fin cfg0.N) (r : Fin 512) (k : Fin 2048) : iblk m c 2 t (ix2 r k) = ((X (t.val * 512 + r.val) k : ℝ) : EReal) := by
  have := lt16 t
  refine Eq.trans ?_ (hx (ix2 ⟨t.val * 512 + r.val, by omega⟩ k))
  blk_ext [iblk, V_main_arg0, idx t]

include he in
theorem iblk_e (t : Fin cfg0.N) (r : Fin 512) (k : Fin 2048) : iblk m c 5 t (ix2 r k) = ((E (t.val * 512 + r.val) k : ℝ) : EReal) := by
  have := lt16 t
  refine Eq.trans ?_ (he (ix2 ⟨t.val * 512 + r.val, by omega⟩ k))
  blk_ext [iblk, V_main_arg3, idx t]

include hg in
theorem iblk_g (t : Fin cfg0.N) (k : Fin 2048) : iblk m c 4 t (ix2 0 k) = ((G k : ℝ) : EReal) := by
  refine Eq.trans ?_ (hg (ix1 k))
  blk_simp [iblk]
  entry_read
  pointwise
  blk_ext [idx t]

include hx in
theorem iblk_r (t : Fin cfg0.N) (r : Fin 512) : iblk m c 3 t (ix2 r 0) = ((rms (X (t.val * 512 + r.val)) : ℝ) : EReal) := by
  have := lt16 t
  blk_simp [iblk]
  entry_read
  pointwise
  have e : ((View.whole main_v7).slice (win0_3.rect t)).emb (ix2 r 0) = ix2 ⟨t.val * 512 + r.val, by omega⟩ 0 := by blk_ext [idx t]
  rw [e]
  have hk (k : Fin 2048) : m ((c : Thread nD τ).loc main_arg0) (ix2 (⟨t.val * 512 + r.val, by omega⟩ : Fin 8192) k)
      = ((X (t.val * 512 + r.val) k : ℝ) : EReal) := hx (ix2 _ k)
  show Ideal.rsqrt (Ideal.div (∑ k : Fin 2048, HMul.hMul (α := EReal) (β := EReal) (m ((c : Thread nD τ).loc main_arg0) (ix2 (⟨t.val * 512 + r.val, by omega⟩ : Fin 8192) k))
    (m ((c : Thread nD τ).loc main_arg0) (ix2 (⟨t.val * 512 + r.val, by omega⟩ : Fin 8192) k))) (Ideal.ofBits .f32 0x45000000#32) + Ideal.ofBits .f32 0x358637BD#32) = _
  simp only [hk, ← EReal.coe_mul, coe_sum, f32_width, f32_eps, coe_div_width, ← EReal.coe_add]
  exact coe_rsqrt (mean_sq_pos _)

/-- What the norm's output receives. -/
def recv (D : ℕ → Fin 2048 → ℝ) (p : ℕ) (k : Fin 2048) : ℝ := tail (fun p => D p k) (win k) p

/-- One entry of the gradient of the rows. -/
def dxAt (X D E : ℕ → Fin 2048 → ℝ) (G : Fin 2048 → ℝ) (p : ℕ) (k : Fin 2048) : ℝ :=
  E p k + rmsGrad (X p) (fun k => recv D p k * G k) k

section Blocks

variable {t : ℕ} {B2 B5 : Vec Ideal S512x2048 .f32} {B3 : Vec Ideal S512x1 .f32} {B4 : Vec Ideal S1x2048 .f32}
  {L : List (View.Piece (Elt Ideal) S512x2048 .f32)}
  (h2 : ∀ r k, B2 (ix2 r k) = ((X (t * 512 + r.val) k : ℝ) : EReal)) (h3 : ∀ r, B3 (ix2 r 0) = ((rms (X (t * 512 + r.val)) : ℝ) : EReal))
  (h4 : ∀ k, B4 (ix2 0 k) = ((G k : ℝ) : EReal)) (h5 : ∀ r k, B5 (ix2 r k) = ((E (t * 512 + r.val) k : ℝ) : EReal))
  (hL : ∀ y, View.canon L y = ((recv D (t * 512 + (y 0).val) (y 1) : ℝ) : EReal))

include hL in
theorem read_back {o : ℕ} (ho : o + 128 ≤ 512) (hin) (r : Fin 128) (k : Fin 2048) :
    (View.whole cc0_scratch0).readCov L (Rect.unit (s := S512x2048) ![o, 0] ![128, 2048] hin).toLoadRect (ix2 r k)
      = ((recv D (t * 512 + (o + r.val)) k : ℝ) : EReal) := by
  rw [View.readCov_eq_canon']
  have e : (Rect.unit (s := S512x2048) ![o, 0] ![128, 2048] hin).toLoadRect.idx (ix2 r k) = ix2 (⟨o + r.val, by omega⟩ : Fin 512) k :=
    funext fun a => Fin.ext (match a with
      | ⟨0, _⟩ => Rect.idx_unit_val _ _ _ _ 0
      | ⟨1, _⟩ => (Rect.idx_unit_val _ _ _ _ 1).trans (Nat.zero_add _))
  show View.canon L _ = _
  rw [e]
  exact hL _

include h2 h3 hL in
theorem chunk_dgain_at {o : ℕ} (ho : o + 128 ≤ 512) (i3 i2 iL) (k : Fin 2048) :
    k0_pay13 (F := Ideal) (View.ld B3 (Rect.unit ![o, 0] ![128, 1] i3)) (View.ld B2 (Rect.unit ![o, 0] ![128, 2048] i2))
      ((View.whole cc0_scratch0).readCov L (Rect.unit (s := S512x2048) ![o, 0] ![128, 2048] iL).toLoadRect) (ix2 0 k)
      = ((∑ r : Fin 128, recv D (t * 512 + (o + r.val)) k * (X (t * 512 + (o + r.val)) k * rms (X (t * 512 + (o + r.val)))) : ℝ) : EReal) :=
  chunk_dgain (X := fun r => X (t * 512 + (o + r.val))) (H := fun r => recv D (t * 512 + (o + r.val)))
    (fun r => (ld2 B3 i3 r 0 ⟨o + r.val, by omega⟩ 0 rfl rfl).trans (h3 _))
    (fun r k => (ld2 B2 i2 r k ⟨o + r.val, by omega⟩ k rfl (Nat.zero_add _).symm).trans (h2 _ _))
    (read_back hL ho iL) k

include h2 h3 h4 h5 hL in
theorem chunk_dx_at {o : ℕ} (ho : o + 128 ≤ 512) (i3 i2 iL i5) (x : S128x2048.Idx) (y : S512x2048.Idx)
    (hy0 : (y 0).val = o + (x 0).val) (hy1 : (y 1).val = (x 1).val) :
    k0_pay11 (F := Ideal) (k0_pay8 B4) (View.ld B3 (Rect.unit ![o, 0] ![128, 1] i3)) (View.ld B2 (Rect.unit ![o, 0] ![128, 2048] i2))
      ((View.whole cc0_scratch0).readCov L (Rect.unit (s := S512x2048) ![o, 0] ![128, 2048] iL).toLoadRect)
      (View.ld B5 (Rect.unit ![o, 0] ![128, 2048] i5)) x = ((dxAt X D E G (t * 512 + (y 0).val) (y 1) : ℝ) : EReal) := by
  rw [hy0, show y 1 = x 1 from Fin.ext hy1]
  idx_vars x
  exact chunk_dx (X := fun r => X (t * 512 + (o + r.val))) (H := fun r => recv D (t * 512 + (o + r.val))) (E := fun r => E (t * 512 + (o + r.val)))
    (fun k => (congrFun (shapeCast_self _ _) _).trans (h4 k))
    (fun r => (ld2 B3 i3 r 0 ⟨o + r.val, by omega⟩ 0 rfl rfl).trans (h3 _))
    (fun r k => (ld2 B2 i2 r k ⟨o + r.val, by omega⟩ k rfl (Nat.zero_add _).symm).trans (h2 _ _))
    (read_back hL ho iL)
    (fun r k => (ld2 B5 i5 r k ⟨o + r.val, by omega⟩ k rfl (Nat.zero_add _).symm).trans (h5 _ _)) _ _

/-- A tile's sum of the gain's gradient. -/
def gainSum (L : List (View.Piece (Elt Ideal) S512x2048 .f32)) (B2 : Vec Ideal S512x2048 .f32) (B3 : Vec Ideal S512x1 .f32) : FVec Ideal S1x2048 .f32 :=
  k0_pay29
    (k0_pay20
      (k0_pay13 (View.ld B3 (Rect.unit ![0, 0] ![128, 1] inb_S512x1_S128x1_0_0))
        (View.ld B2 (Rect.unit ![0, 0] ![128, 2048] inb_S512x2048_S128x2048_0_0))
        ((View.whole cc0_scratch0).readCov L (Rect.unit (s := S512x2048) ![0, 0] ![128, 2048] inb_S512x2048_S128x2048_0_0).toLoadRect))
      (k0_pay15 (View.ld B3 (Rect.unit ![128, 0] ![128, 1] inb_S512x1_S128x1_128_0))
        (View.ld B2 (Rect.unit ![128, 0] ![128, 2048] inb_S512x2048_S128x2048_128_0)))
      ((View.whole cc0_scratch0).readCov L (Rect.unit (s := S512x2048) ![128, 0] ![128, 2048] inb_S512x2048_S128x2048_128_0).toLoadRect))
    (k0_pay22 (View.ld B3 (Rect.unit ![256, 0] ![128, 1] inb_S512x1_S128x1_256_0))
      (View.ld B2 (Rect.unit ![256, 0] ![128, 2048] inb_S512x2048_S128x2048_256_0)))
    ((View.whole cc0_scratch0).readCov L (Rect.unit (s := S512x2048) ![256, 0] ![128, 2048] inb_S512x2048_S128x2048_256_0).toLoadRect)
    (View.ld B3 (Rect.unit ![384, 0] ![128, 1] inb_S512x1_S128x1_384_0))
    (View.ld B2 (Rect.unit ![384, 0] ![128, 2048] inb_S512x2048_S128x2048_384_0))
    ((View.whole cc0_scratch0).readCov L (Rect.unit (s := S512x2048) ![384, 0] ![128, 2048] inb_S512x2048_S128x2048_384_0).toLoadRect)

theorem four (f : ℕ → ℝ) : (∑ r : Fin 128, f (0 + r.val)) + (∑ r : Fin 128, f (128 + r.val)) + (∑ r : Fin 128, f (256 + r.val))
    + (∑ r : Fin 128, f (384 + r.val)) = ∑ r : Fin 512, f r.val := by
  rw [Fin.sum_univ_eq_sum_range (fun r => f (0 + r)) 128, Fin.sum_univ_eq_sum_range (fun r => f (128 + r)) 128,
    Fin.sum_univ_eq_sum_range (fun r => f (256 + r)) 128, Fin.sum_univ_eq_sum_range (fun r => f (384 + r)) 128,
    Fin.sum_univ_eq_sum_range f 512, show 512 = 128 + 128 + 128 + 128 from rfl, Finset.sum_range_add, Finset.sum_range_add, Finset.sum_range_add]
  simp only [Nat.zero_add]

include h2 h3 hL in
theorem gainSum_apply (k : Fin 2048) : gainSum L B2 B3 (ix2 0 k)
    = ((∑ r : Fin 512, recv D (t * 512 + r.val) k * (X (t * 512 + r.val) k * rms (X (t * 512 + r.val))) : ℝ) : EReal) := by
  rw [← four fun r => recv D (t * 512 + r) k * (X (t * 512 + r) k * rms (X (t * 512 + r))), EReal.coe_add, EReal.coe_add, EReal.coe_add,
    ← chunk_dgain_at h2 h3 hL (o := 0) (by omega) inb_S512x1_S128x1_0_0 inb_S512x2048_S128x2048_0_0 inb_S512x2048_S128x2048_0_0 k,
    ← chunk_dgain_at h2 h3 hL (o := 128) (by omega) inb_S512x1_S128x1_128_0 inb_S512x2048_S128x2048_128_0 inb_S512x2048_S128x2048_128_0 k,
    ← chunk_dgain_at h2 h3 hL (o := 256) (by omega) inb_S512x1_S128x1_256_0 inb_S512x2048_S128x2048_256_0 inb_S512x2048_S128x2048_256_0 k,
    ← chunk_dgain_at h2 h3 hL (o := 384) (by omega) inb_S512x1_S128x1_384_0 inb_S512x2048_S128x2048_384_0 inb_S512x2048_S128x2048_384_0 k]
  rfl

end Blocks

include hx hg hd he

set_option maxHeartbeats 1000000 in
theorem after_dx (t : Fin cfg0.N) (y : S512x2048.Idx) : (outsAt0 m c t.val t.isLt).1 y
    = ((dxAt X D E G (t.val * 512 + (y 0).val) (y 1) : ℝ) : EReal) := by
  have hN : cfg0.N = 16 := N_0
  have h0 := iblk_d m c hd t
  have h1 := iblk_halo m c hd t
  have h2 := iblk_x m c hx t
  have h3 := iblk_r m c hx t
  have h4 := iblk_g m c hg t
  have h5 := iblk_e m c he t
  have hs := scratch (lt16 t) (coord t) h0 h1
  by_cases h : t.val % 16 = 0
  · rw [outsAt0_A m c t h (by have := t.isLt; omega)]; frame_out
    generalize iblk m c 0 t = B0 at *
    generalize iblk m c 1 t = B1 at *
    generalize iblk m c 2 t = B2 at *
    generalize iblk m c 3 t = B3 at *
    generalize iblk m c 4 t = B4 at *
    generalize iblk m c 5 t = B5 at *
    canon_tiles x h
    · exact chunk_dx_at h2 h3 h4 h5 hs (o := 384) (by omega) _ _ _ _ x y ‹_› ‹_›
    · exact chunk_dx_at h2 h3 h4 h5 hs (o := 256) (by omega) _ _ _ _ x y ‹_› ‹_›
    · exact chunk_dx_at h2 h3 h4 h5 hs (o := 128) (by omega) _ _ _ _ x y ‹_› ‹_›
    · exact chunk_dx_at h2 h3 h4 h5 hs (o := 0) (by omega) _ _ _ _ x y (by omega) ‹_›
  · rw [outsAt0_B m c t h (by omega)]; frame_out
    generalize iblk m c 0 t = B0 at *
    generalize iblk m c 1 t = B1 at *
    generalize iblk m c 2 t = B2 at *
    generalize iblk m c 3 t = B3 at *
    generalize iblk m c 4 t = B4 at *
    generalize iblk m c 5 t = B5 at *
    canon_tiles x h
    · exact chunk_dx_at h2 h3 h4 h5 hs (o := 384) (by omega) _ _ _ _ x y ‹_› ‹_›
    · exact chunk_dx_at h2 h3 h4 h5 hs (o := 256) (by omega) _ _ _ _ x y ‹_› ‹_›
    · exact chunk_dx_at h2 h3 h4 h5 hs (o := 128) (by omega) _ _ _ _ x y ‹_› ‹_›
    · exact chunk_dx_at h2 h3 h4 h5 hs (o := 0) (by omega) _ _ _ _ x y (by omega) ‹_›

set_option maxHeartbeats 1000000 in
theorem after_dxb (t : Fin cfg0.N) (y : S512x2048.Idx) : (outsAt0 m c t.val t.isLt).2.1 y
    = ((dxAt X D E G (t.val * 512 + (y 0).val) (y 1) : ℝ) : EReal) := by
  have hN : cfg0.N = 16 := N_0
  have h0 := iblk_d m c hd t
  have h1 := iblk_halo m c hd t
  have h2 := iblk_x m c hx t
  have h3 := iblk_r m c hx t
  have h4 := iblk_g m c hg t
  have h5 := iblk_e m c he t
  have hs := scratch (lt16 t) (coord t) h0 h1
  by_cases h : t.val % 16 = 0
  · rw [outsAt0_A m c t h (by have := t.isLt; omega)]; frame_out
    generalize iblk m c 0 t = B0 at *
    generalize iblk m c 1 t = B1 at *
    generalize iblk m c 2 t = B2 at *
    generalize iblk m c 3 t = B3 at *
    generalize iblk m c 4 t = B4 at *
    generalize iblk m c 5 t = B5 at *
    canon_tiles x h
    · exact chunk_dx_at h2 h3 h4 h5 hs (o := 384) (by omega) _ _ _ _ x y ‹_› ‹_›
    · exact chunk_dx_at h2 h3 h4 h5 hs (o := 256) (by omega) _ _ _ _ x y ‹_› ‹_›
    · exact chunk_dx_at h2 h3 h4 h5 hs (o := 128) (by omega) _ _ _ _ x y ‹_› ‹_›
    · exact chunk_dx_at h2 h3 h4 h5 hs (o := 0) (by omega) _ _ _ _ x y (by omega) ‹_›
  · rw [outsAt0_B m c t h (by omega)]; frame_out
    generalize iblk m c 0 t = B0 at *
    generalize iblk m c 1 t = B1 at *
    generalize iblk m c 2 t = B2 at *
    generalize iblk m c 3 t = B3 at *
    generalize iblk m c 4 t = B4 at *
    generalize iblk m c 5 t = B5 at *
    canon_tiles x h
    · exact chunk_dx_at h2 h3 h4 h5 hs (o := 384) (by omega) _ _ _ _ x y ‹_› ‹_›
    · exact chunk_dx_at h2 h3 h4 h5 hs (o := 256) (by omega) _ _ _ _ x y ‹_› ‹_›
    · exact chunk_dx_at h2 h3 h4 h5 hs (o := 128) (by omega) _ _ _ _ x y ‹_› ‹_›
    · exact chunk_dx_at h2 h3 h4 h5 hs (o := 0) (by omega) _ _ _ _ x y (by omega) ‹_›

theorem final_dx : (dats m 0 c).arrAt 6 cfg0.N = fun i : S8192x2048.Idx => ((dxAt X D E G (i 0).val (i 1) : ℝ) : EReal) := by
  refine (dats m 0 c).arrAt_eq_of_covers 6 _ (by decide +kernel) fun t _ y => ?_
  rw [after0_6]
  have hy : ((cfg0.win 6).blk t).view.emb y = ix2 ⟨t.val * 512 + (y 0).val, by have := lt16 t; have : (y 0).val < 512 := (y 0).isLt; omega⟩ (y 1) := by blk_ext [idx t]
  rw [hy]
  exact after_dx m c hx hg hd he t y

theorem final_dxb : (dats m 0 c).arrAt 7 cfg0.N = fun i : S8192x2048.Idx => ((dxAt X D E G (i 0).val (i 1) : ℝ) : EReal) := by
  refine (dats m 0 c).arrAt_eq_of_covers 7 _ (by decide +kernel) fun t _ y => ?_
  rw [after0_7]
  have hy : ((cfg0.win 7).blk t).view.emb y = ix2 ⟨t.val * 512 + (y 0).val, by have := lt16 t; have : (y 0).val < 512 := (y 0).isLt; omega⟩ (y 1) := by blk_ext [idx t]
  rw [hy]
  exact after_dxb m c hx hg hd he t y

/-- The gradient of the gain. -/
theorem final_dgain : (dats m 0 c).arrAt 8 cfg0.N = fun i : S1x2048.Idx =>
    ((∑ p : Fin 8192, recv D p.val (i 1) * (X p.val (i 1) * rms (X p.val)) : ℝ) : EReal) := by
  have hN : cfg0.N = 16 := N_0
  refine (dats m 0 c).arrAt_eq_of_after_last 8 t0_15 (by decide +kernel) _ fun j => ?_
  blk_simp
  rw [after0_8, Pipeline.eq_sum_fin_of_reset_step_apply_last (fun n h => (outsAt0 m c n h).2.2) 16 (fun _ => 0)
    (fun t j => gainSum (pieces (grid0.coords t) (iblk m c 0 t) (iblk m c 1 t)) (iblk m c 2 t) (iblk m c 3 t) j)
    (fun t h j => by rw [outsAt0_A m c t h (by have := t.isLt; omega), zero_add]; frame_out; rfl)
    (fun t h j => by rw [outsAt0_B m c t h (by omega)]; frame_out; exact congrArg (· + _) (congrFun (shapeCast_self _ _) _)) (le_of_eq N_0) t0_15 rfl j, zero_add]
  idx_vars j
  obtain rfl : j0 = 0 := Subsingleton.elim _ _
  rw [sum_eq_coe _ _ fun t => gainSum_apply (iblk_x m c hx t) (iblk_r m c hx t)
    (scratch (lt16 t) (coord t) (iblk_d m c hd t) (iblk_halo m c hd t)) _]
  congr 1
  exact Fin.sum_mul_add_fin 16 512 fun p => recv D p.val j1 * (X p.val j1 * rms (X p.val))

end Arrays

end Cert.PoolWindowKernelIdeal.Real

end
-- ==== Proof.PoolOps.lean ====
/- Three host operations of the windowed mean's gradient read at an index: adding rows at a list of places, padding,
   and the running sum from the end. -/
module

public import proofs.«01_k».proof.Proof.Lift
public import Idealize.ShloMosaic.Lib.Routing.OpsOne
public import Idealize.ShloMosaic.Lib.KernelVsHost
public import Idealize.ShloMosaic.Lib.Pointwise

@[expose] public section

set_option maxRecDepth 16384

noncomputable section

namespace Cert.PoolOps

open Idealize.ShloMosaic Idealize.ShloMosaic.TcCoe

variable {N M G P : ℕ}

section scatter
variable (wf : ScatterDims.WF (⟨4, ![1, M, G, P]⟩ : Shape) ⟨2, ![N, 2]⟩ ⟨3, ![1, N, P]⟩ [0, 2] [1, 2] [1, 2] 1)

/-- The routing of rows to (row, group) places. -/
abbrev dims : ScatterDims (⟨4, ![1, M, G, P]⟩ : Shape) ⟨2, ![N, 2]⟩ ⟨3, ![1, N, P]⟩ := ⟨[0, 2], [1, 2], [1, 2], 1, wf⟩

theorem si_coord (i : Shape.Idx ⟨3, ![1, N, P]⟩) (q : Fin 2) : (dims wf).siIdx i q = ix2 (i 1) q := by
  funext b
  match b with
  | ⟨0, _⟩ => rfl
  | ⟨1, _⟩ => rfl

theorem lands (idx : IVec ⟨2, ![N, 2]⟩ 32) (i : Shape.Idx ⟨3, ![1, N, P]⟩) (j : Fin M) (g : Fin G) (k : Fin P) :
    (dims wf).resultIdx? i idx = some (ix4 0 j g k)
      ↔ (idx (ix2 (i 1) 0)).toInt = (j.val : ℤ) ∧ (idx (ix2 (i 1) 1)).toInt = (g.val : ℤ) ∧ i 2 = k := by
  rw [Routing.resultIdx?_eq_some]
  have s0 : (dims wf).start i idx 0 = 0 := rfl
  have s1 : (dims wf).start i idx 1 = (idx (ix2 (i 1) 0)).toInt := congrArg (fun a => (idx a).toInt) (si_coord wf i 0)
  have s2 : (dims wf).start i idx 2 = (idx (ix2 (i 1) 1)).toInt := congrArg (fun a => (idx a).toInt) (si_coord wf i 1)
  have s3 : (dims wf).start i idx 3 = 0 := rfl
  have w0 : (dims wf).window i 0 = (i 0).val := rfl
  have w1 : (dims wf).window i 1 = 0 := rfl
  have w2 : (dims wf).window i 2 = 0 := rfl
  have w3 : (dims wf).window i 3 = (i 2).val := rfl
  have z : (i 0).val < 1 := (i 0).isLt
  constructor
  · intro h
    have h1 := h 1
    have h2 := h 2
    have h3 := h 3
    rw [s1, w1] at h1
    rw [s2, w2] at h2
    rw [s3, w3] at h3
    change _ = (j.val : ℤ) at h1
    change _ = (g.val : ℤ) at h2
    change _ = (k.val : ℤ) at h3
    exact ⟨by omega, by omega, Fin.ext (by omega)⟩
  · rintro ⟨h1, h2, rfl⟩ a
    match a with
    | ⟨0, _⟩ => exact (congrArg₂ (fun (a : ℤ) (b : ℕ) => a + (b : ℤ)) s0 w0).trans (show (0 : ℤ) + ((i 0).val : ℤ) = ((0 : ℕ) : ℤ) by omega)
    | ⟨1, _⟩ => exact (congrArg₂ (fun (a : ℤ) (b : ℕ) => a + (b : ℤ)) s1 w1).trans (show _ + ((0 : ℕ) : ℤ) = (j.val : ℤ) by omega)
    | ⟨2, _⟩ => exact (congrArg₂ (fun (a : ℤ) (b : ℕ) => a + (b : ℤ)) s2 w2).trans (show _ + ((0 : ℕ) : ℤ) = (g.val : ℤ) by omega)
    | ⟨3, _⟩ => exact (congrArg₂ (fun (a : ℤ) (b : ℕ) => a + (b : ℤ)) s3 w3).trans (show (0 : ℤ) + ((i 2).val : ℤ) = ((i 2).val : ℤ) by omega)

/-- Rows added at the places a list names: each place gets the sum of the rows sent to it. -/
theorem scatter_rows (x : Shape.Idx ⟨4, ![1, M, G, P]⟩ → EReal) (idx : IVec ⟨2, ![N, 2]⟩ 32) (upd : Shape.Idx ⟨3, ![1, N, P]⟩ → EReal)
    (U : ℕ → ℝ) (lo : ℕ → ℕ) (γ : ℕ) (h0 : ∀ p : Fin N, (idx (ix2 p 0)).toInt = (lo p.val : ℤ)) (h1 : ∀ p : Fin N, (idx (ix2 p 1)).toInt = (γ : ℤ))
    (j : Fin M) (g : Fin G) (k : Fin P) (hx : x (ix4 0 j g k) = 0) (hu : ∀ p : Fin N, upd (ix3 0 p k) = ((U p.val : ℝ) : EReal)) :
    Ideal.hostScatterAdd (dims wf) x idx upd (ix4 0 j g k)
      = ((∑ p ∈ Finset.range N, if lo p = j.val ∧ γ = g.val then U p else 0 : ℝ) : EReal) := by
  show x (ix4 0 j g k) + _ = _
  rw [hx, zero_add, Finset.sum_range fun p => if lo p = j.val ∧ γ = g.val then U p else 0, ← Finset.sum_filter, ← Lift.coe_sum]
  refine Finset.sum_nbij' (fun i => i 1) (fun p => ix3 0 p k) ?_ ?_ ?_ ?_ ?_
  · intro i hi
    obtain ⟨a, b, -⟩ := (lands wf idx i j g k).1 (Finset.mem_filter.1 hi).2
    replace a := (h0 (i 1)).symm.trans a
    replace b := (h1 (i 1)).symm.trans b
    exact Finset.mem_filter.2 ⟨Finset.mem_univ _, by exact_mod_cast a, by exact_mod_cast b⟩
  · intro p hp
    obtain ⟨-, a, b⟩ := Finset.mem_filter.1 hp
    refine Finset.mem_filter.2 ⟨Finset.mem_univ _, (lands wf idx _ j g k).2 ⟨?_, ?_, rfl⟩⟩
    · exact (h0 p).trans (by exact_mod_cast a)
    · exact (h1 p).trans (by exact_mod_cast b)
  · intro i hi
    obtain ⟨-, -, c⟩ := (lands wf idx i j g k).1 (Finset.mem_filter.1 hi).2
    funext a
    match a with
    | ⟨0, _⟩ => exact Subsingleton.elim (α := Fin 1) _ _
    | ⟨1, _⟩ => rfl
    | ⟨2, _⟩ => exact c.symm
  · intro p _
    rfl
  · intro i hi
    obtain ⟨-, -, c⟩ := (lands wf idx i j g k).1 (Finset.mem_filter.1 hi).2
    refine Eq.trans (congrArg upd (funext fun a => ?_)) (hu (i 1))
    match a with
    | ⟨0, _⟩ => exact Subsingleton.elim (α := Fin 1) _ _
    | ⟨1, _⟩ => rfl
    | ⟨2, _⟩ => exact c
end scatter

/-- One group's rows put `o` rows down in its group, zero elsewhere. -/
theorem pad_rows {o γ : ℕ} (hi : Fin 4 → ℕ) (x : Shape.Idx ⟨4, ![1, N, 1, P]⟩ → EReal) {u : Shape} (v : u.Idx → EReal)
    (h : (⟨4, ![1, N, 1, P]⟩ : Shape).Pads ![0, o, γ, 0] hi ![0, 0, 0, 0] ⟨4, ![1, M, G, P]⟩) (hu : 0 < u.numel)
    (j : Fin M) (g : Fin G) (k : Fin P) (hv : v (Shape.Idx.first hu) = 0) (U : ℕ → ℝ) (hx : ∀ p : Fin N, x (ix4 0 p 0 k) = ((U p.val : ℝ) : EReal)) :
    pad (s := ⟨4, ![1, N, 1, P]⟩) ⟨4, ![1, M, G, P]⟩ ![0, o, γ, 0] hi ![0, 0, 0, 0] x v h hu (ix4 0 j g k)
      = ((if o ≤ j.val ∧ j.val < o + N ∧ γ = g.val then U (j.val - o) else 0 : ℝ) : EReal) := by
  by_cases hc : o ≤ j.val ∧ j.val < o + N ∧ γ = g.val
  · rw [if_pos hc]
    obtain ⟨a, b, c⟩ := hc
    refine (pad_apply_of_inside _ hi _ x v h hu (ix4 0 j g k) (ix4 0 ⟨j.val - o, by omega⟩ 0 k) fun ax => ?_).trans (hx _)
    match ax with
    | ⟨0, _⟩ => rfl
    | ⟨1, _⟩ => show j.val = o + (j.val - o) * 1; omega
    | ⟨2, _⟩ => show g.val = γ + 0 * 1; omega
    | ⟨3, _⟩ => show k.val = 0 + k.val * 1; omega
  · rw [if_neg hc]
    by_cases c : γ = g.val
    · refine (pad_apply_of_not_inside _ hi _ x v h hu (ix4 0 j g k) 1 fun ha => ?_).trans hv
      change o ≤ j.val ∧ (j.val - o) % 1 = 0 ∧ (j.val - o) / 1 < N at ha
      rw [Nat.div_one] at ha
      exact hc ⟨ha.1, by omega, c⟩
    · refine (pad_apply_of_not_inside _ hi _ x v h hu (ix4 0 j g k) 2 fun ha => ?_).trans hv
      change γ ≤ g.val ∧ (g.val - γ) % 1 = 0 ∧ (g.val - γ) / 1 < 1 at ha
      rw [Nat.div_one] at ha
      omega

/-- A left fold that adds is a sum. -/
theorem foldl_add {ι : Type} (l : List ι) (f : ι → EReal) (a : EReal) : l.foldl (fun r n => r + f n) a = a + (l.map f).sum := by
  induction l generalizing a with
  | nil => simp
  | cons b l ih => rw [List.foldl_cons, ih, List.map_cons, List.sum_cons, add_assoc]

theorem numel_rows : (⟨4, ![1, N, 1, 1]⟩ : Shape).numel = N := by
  unfold Shape.numel
  show ∏ a : Fin 4, (![1, N, 1, 1] : Fin 4 → ℕ) a = N
  rw [Fin.prod_univ_four]
  show 1 * N * 1 * 1 = N
  omega

theorem symm_rows (n : Fin (⟨4, ![1, N, 1, 1]⟩ : Shape).numel) :
    (⟨4, ![1, N, 1, 1]⟩ : Shape).rowMajor.symm n = ix4 0 (n.cast numel_rows) 0 0 := by
  rw [Equiv.symm_apply_eq]
  apply Fin.ext
  rw [Shape.rowMajor_val_four]
  show n.val = ((0 * N + n.val) * 1 + 0) * 1 + 0
  omega

/-- The running sum of rows from the end, as a window over the rows that follow. -/
theorem suffix_rows (hi : Fin 4 → ℕ) (x : Shape.Idx ⟨4, ![1, N, G, P]⟩ → EReal)
    (h : (⟨4, ![1, N, G, P]⟩ : Shape).ReduceWindows ![1, N, 1, 1] ![1, 1, 1, 1] ![0, 0, 0, 0] hi ⟨4, ![1, N, G, P]⟩)
    (t : Fin N) (g : Fin G) (k : Fin P) (U : ℕ → ℝ) (hx : ∀ p : Fin N, x (ix4 0 p g k) = ((U p.val : ℝ) : EReal)) :
    Ideal.hostReduceWindowAdd ![1, N, 1, 1] ![1, 1, 1, 1] ![0, 0, 0, 0] hi h x 0 (ix4 0 t g k)
      = ((∑ q ∈ Finset.range N, if t.val + q < N then U (t.val + q) else 0 : ℝ) : EReal) := by
  unfold Ideal.hostReduceWindowAdd Host.reduceWindow
  have ht := t.isLt
  refine Eq.trans (b := (List.finRange (⟨4, ![1, N, 1, 1]⟩ : Shape).numel).foldl
    (fun (r : EReal) n => r + (((if t.val + n.val < N then U (t.val + n.val) else 0 : ℝ)) : EReal)) 0) ?_ ?_
  · refine List.foldl_ext _ _ _ fun r n _ => congrArg (r + ·) ?_
    have w1 : ((⟨4, ![1, N, 1, 1]⟩ : Shape).rowMajor.symm n 1).val = n.val := by rw [symm_rows]; rfl
    have w0 : ((⟨4, ![1, N, 1, 1]⟩ : Shape).rowMajor.symm n 0).val = 0 := by rw [symm_rows]; rfl
    have w2 : ((⟨4, ![1, N, 1, 1]⟩ : Shape).rowMajor.symm n 2).val = 0 := by rw [symm_rows]; rfl
    have w3 : ((⟨4, ![1, N, 1, 1]⟩ : Shape).rowMajor.symm n 3).val = 0 := by rw [symm_rows]; rfl
    split
    · next hin =>
      have h1 := hin 1
      change 0 ≤ t.val * 1 + ((⟨4, ![1, N, 1, 1]⟩ : Shape).rowMajor.symm n 1).val
        ∧ t.val * 1 + ((⟨4, ![1, N, 1, 1]⟩ : Shape).rowMajor.symm n 1).val - 0 < N at h1
      rw [w1] at h1
      rw [if_pos (by omega)]
      refine (congrArg x (funext fun a => Fin.ext ?_)).trans (hx ⟨t.val + n.val, by omega⟩)
      match a with
      | ⟨0, _⟩ =>
        show 0 * 1 + ((⟨4, ![1, N, 1, 1]⟩ : Shape).rowMajor.symm n 0).val - 0 = 0
        rw [w0]
      | ⟨1, _⟩ =>
        show t.val * 1 + ((⟨4, ![1, N, 1, 1]⟩ : Shape).rowMajor.symm n 1).val - 0 = t.val + n.val
        rw [w1]; omega
      | ⟨2, _⟩ =>
        show g.val * 1 + ((⟨4, ![1, N, 1, 1]⟩ : Shape).rowMajor.symm n 2).val - 0 = g.val
        rw [w2]; omega
      | ⟨3, _⟩ =>
        show k.val * 1 + ((⟨4, ![1, N, 1, 1]⟩ : Shape).rowMajor.symm n 3).val - 0 = k.val
        rw [w3]; omega
    · next hin =>
      rw [if_neg fun hlt => hin fun a => by
        match a with
        | ⟨0, _⟩ =>
          show 0 ≤ 0 * 1 + ((⟨4, ![1, N, 1, 1]⟩ : Shape).rowMajor.symm n 0).val
            ∧ 0 * 1 + ((⟨4, ![1, N, 1, 1]⟩ : Shape).rowMajor.symm n 0).val - 0 < 1
          rw [w0]; omega
        | ⟨1, _⟩ =>
          show 0 ≤ t.val * 1 + ((⟨4, ![1, N, 1, 1]⟩ : Shape).rowMajor.symm n 1).val
            ∧ t.val * 1 + ((⟨4, ![1, N, 1, 1]⟩ : Shape).rowMajor.symm n 1).val - 0 < N
          rw [w1]; omega
        | ⟨2, _⟩ =>
          show 0 ≤ g.val * 1 + ((⟨4, ![1, N, 1, 1]⟩ : Shape).rowMajor.symm n 2).val
            ∧ g.val * 1 + ((⟨4, ![1, N, 1, 1]⟩ : Shape).rowMajor.symm n 2).val - 0 < G
          rw [w2]; have := g.isLt; omega
        | ⟨3, _⟩ =>
          show 0 ≤ k.val * 1 + ((⟨4, ![1, N, 1, 1]⟩ : Shape).rowMajor.symm n 3).val
            ∧ k.val * 1 + ((⟨4, ![1, N, 1, 1]⟩ : Shape).rowMajor.symm n 3).val - 0 < P
          rw [w3]; have := k.isLt; omega]
      rfl
  · rw [foldl_add, zero_add, Finset.sum_range fun q => if t.val + q < N then U (t.val + q) else 0, ← Lift.coe_sum]
    rw [← List.ofFn_eq_map, List.sum_ofFn]
    exact Fintype.sum_equiv (finCongr numel_rows) _ _ fun n => rfl

end Cert.PoolOps

end
-- ==== Proof.PoolWindowGroups.lean ====
/- The windowed mean's gradient in the reference over the reals, entry by entry. -/
module

public import proofs.«01_k».proof.Proof.PoolMixRef
public import proofs.«01_k».proof.Proof.PoolWindowKer
public import proofs.«01_k».proof.Proof.PoolOps
public import proofs.«01_k».proof.Proof.Gen.PoolWindowReferenceIdeal.Read

@[expose] public section

set_option maxRecDepth 16384

noncomputable section

namespace Cert.PoolWindowReferenceIdeal.Real

open Cert.PoolWindowReferenceIdeal Cert.PoolWindowReferenceIdeal.Read Idealize.ShloMosaic Idealize.ShloMosaic.TcCoe Idealize.SL.Sem Cert.Lift Cert.PoolSum
open Cert.PoolMixKernelIdeal.Real (grp lane mate)
open Cert.PoolWindowKernelIdeal.Real (recv dxAt)

/-- Column `l` of group `γ`. -/
abbrev col (γ : Fin 4) (l : Fin 512) : Fin 2048 := ⟨γ.val * 512 + l.val, by have := γ.isLt; have := l.isLt; omega⟩

/-- The word of the first position of a window, behind the wrap of negative places. -/
theorem low_word {p w : ℕ} (hp : p < 8192) (hw : w < 2 ^ 31) :
    (Scalar.select (IntOp.cmpi .slt (IntOp.maxsi (IntOp.subi (IntOp.addi (BitVec.ofNat 32 p) 1#32) (BitVec.ofNat 32 w)) 0#32) 0#32)
      (IntOp.addi (IntOp.maxsi (IntOp.subi (IntOp.addi (BitVec.ofNat 32 p) 1#32) (BitVec.ofNat 32 w)) 0#32) 8193#32)
      (IntOp.maxsi (IntOp.subi (IntOp.addi (BitVec.ofNat 32 p) 1#32) (BitVec.ofNat 32 w)) 0#32)).toInt = ((p + 1 - w : ℕ) : ℤ) := by
  have e {a : ℕ} (h : a < 2 ^ 31) : (BitVec.ofNat 32 a).toInt = (a : ℤ) := by
    rw [BitVec.toInt_eq_toNat_of_lt (by rw [BitVec.toNat_ofNat]; omega), BitVec.toNat_ofNat]; omega
  have a : IntOp.addi (BitVec.ofNat 32 p) 1#32 = BitVec.ofNat 32 (p + 1) := (BitVec.ofNat_add p 1).symm
  have b : (IntOp.subi (IntOp.addi (BitVec.ofNat 32 p) 1#32) (BitVec.ofNat 32 w)).toInt = (p : ℤ) + 1 - w := by
    rw [a, WordArith.toInt_subi_of_nonneg _ _ (by rw [e (by omega)]; omega) (by rw [e hw]; omega), e (by omega), e hw]; push_cast; rfl
  have c : (IntOp.maxsi (IntOp.subi (IntOp.addi (BitVec.ofNat 32 p) 1#32) (BitVec.ofNat 32 w)) 0#32).toInt = ((p + 1 - w : ℕ) : ℤ) := by
    unfold IntOp.maxsi
    rw [BitVec.slt_eq_decide, b]
    change (if decide ((0 : ℤ) < _) = true then _ else _ : BitVec 32).toInt = _
    by_cases h : (0 : ℤ) < (p : ℤ) + 1 - w
    · rw [if_pos (decide_eq_true h), b]; omega
    · rw [if_neg (by simpa using h)]; show (0 : ℤ) = _; omega
  generalize IntOp.maxsi (IntOp.subi (IntOp.addi (BitVec.ofNat 32 p) 1#32) (BitVec.ofNat 32 w)) 0#32 = z at c ⊢
  have n : IntOp.cmpi .slt z 0#32 = 0#1 := by
    unfold IntOp.cmpi
    dsimp only
    rw [BitVec.slt_eq_decide, c, decide_eq_false (by show ¬ _ < (0 : ℤ); omega)]
    rfl
  rw [n]
  exact c

variable (x : FVec Ideal S8192x2048 .f32) (g : FVec Ideal S2048 .f32) (d e : FVec Ideal S8192x2048 .f32)
  (X D E : ℕ → Fin 2048 → ℝ) (G : Fin 2048 → ℝ)

/-- A position's share in its own window's mean. -/
theorem share_of {v c : EReal} {p w : ℕ} (hw : 0 < w) (D : ℕ → ℝ) (hp : p < 8192) (hv : v = ((D p : ℝ) : EReal))
    (hc : c = (((min (p + 1) w : ℕ) : ℝ) : EReal)) : Ideal.div v c = ((part D w p : ℝ) : EReal) := by
  rw [hv, hc, coe_div (by exact_mod_cast (by omega : min (p + 1) w ≠ 0))]
  unfold part
  rw [if_pos hp]

theorem dct (hd : ∀ i, d i = ((D (i 0).val (i 1) : ℝ) : EReal)) (p : Fin 8192) (γ : Fin 4) (l : Fin 512) :
    val_main_v153 (F := Ideal) d (ix4 0 p γ l) = ((D p.val (col γ l) : ℝ) : EReal) := by
  rw [val_main_v153_apply]
  refine Eq.trans (congrArg d ?_) (hd (ix2 p (col γ l)))
  blk_ext

theorem ct_0 (hd : ∀ i, d i = ((D (i 0).val (i 1) : ℝ) : EReal)) (p : Fin 8192) (l : Fin 512) :
    val_main_v155 (F := Ideal) d (ix3 0 p l) = ((D p.val (col 0 l) : ℝ) : EReal) := by
  rw [val_main_v155_apply, val_main_v154_apply]
  refine Eq.trans (congrArg (val_main_v153 (F := Ideal) d) ?_) (dct d D hd p 0 l)
  blk_ext

theorem share_0 (hd : ∀ i, d i = ((D (i 0).val (i 1) : ℝ) : EReal)) (p : Fin 8192) (l : Fin 512) :
    val_main_v204 (F := Ideal) d (ix3 0 p l) = ((part (fun p => D p (col 0 l)) 2 p.val : ℝ) : EReal) := by
  rw [val_main_v204_apply, Ideal.hostDivf_def]
  refine share_of (by omega) (fun p => D p (col 0 l)) p.isLt (ct_0 d D hd p l) ?_
  simp only [val_main_v203_apply, val_main_v48_apply, val_main_v47_apply, val_main_v46_apply, val_main_v45_apply, val_main_v44_apply, val_main_v43_apply, val_main_v22_apply]
  refine Eq.trans (congrArg (FloatOps.sitofp (F := Ideal) .f32) ?_)
    (Cert.PoolWindowKernelIdeal.Real.count (w := 2) (n := p.val + 1) (by omega) (by have := p.isLt; omega) (by omega))
  exact congrArg₂ IntOp.minsi (BitVec.ofNat_add p.val 1).symm rfl

theorem low_0 (p : Fin 8192) : (val_main_v40 (F := Ideal) (ix2 p 0)).toInt = ((p.val + 1 - 2 : ℕ) : ℤ) := by
  refine Eq.trans (congrArg BitVec.toInt ?_) (low_word (w := 2) p.isLt (by omega))
  refine Eq.trans (b := val_main_v38 (F := Ideal) (ix2 p 0)) (by unfold val_main_v40; rfl) ?_
  simp only [val_main_v38_apply, val_main_v35_apply, val_main_v34_apply, val_main_v33_apply, val_main_v32_apply, val_main_v31_apply,
    val_main_v28_apply, val_main_v27_apply, val_main_v26_apply, val_main_v25_apply, val_main_v24_apply, val_main_v23_apply, val_main_v22_apply]
  rfl

theorem place_0 (p : Fin 8192) : (val_main_v40 (F := Ideal) (ix2 p 1)).toInt = ((0 : ℕ) : ℤ) := by
  refine Eq.trans (b := (val_main_v39 (F := Ideal) (ix2 p 0)).toInt) (by unfold val_main_v40; rfl) ?_
  simp only [val_main_v39_apply, val_main_v37_apply, val_main_v36_apply]
  rfl

theorem taken_0 (hd : ∀ i, d i = ((D (i 0).val (i 1) : ℝ) : EReal)) (j : Fin 8193) (γ : Fin 4) (l : Fin 512) :
    val_main_v207 (F := Ideal) d (ix4 0 j γ l)
      = ((∑ p ∈ Finset.range 8192, if p + 1 - 2 = j.val ∧ 0 = γ.val then -part (fun p => D p (col 0 l)) 2 p else 0 : ℝ) : EReal) := by
  unfold val_main_v207 Host.scatterAdd
  refine PoolOps.scatter_rows (by decide) _ _ _ (fun p => -part (fun p => D p (col 0 l)) 2 p) (fun p => p + 1 - 2) 0 low_0 place_0 j γ l ?_ fun p => ?_
  · rw [val_main_v206_apply]; exact f32_zero
  · rw [val_main_v205_apply, Ideal.hostNegf_def, share_0 d D hd p l]
    exact (EReal.coe_neg _).symm

theorem given_0 (hd : ∀ i, d i = ((D (i 0).val (i 1) : ℝ) : EReal)) (j : Fin 8193) (γ : Fin 4) (l : Fin 512) :
    val_main_v210 (F := Ideal) d (ix4 0 j γ l)
      = ((if 1 ≤ j.val ∧ j.val < 1 + 8192 ∧ 0 = γ.val then part (fun p => D p (col 0 l)) 2 (j.val - 1) else 0 : ℝ) : EReal) := by
  unfold val_main_v210
  refine PoolOps.pad_rows _ _ _ _ _ j γ l f32_zero (fun p => part (fun p => D p (col 0 l)) 2 p) fun p => ?_
  rw [val_main_v209_apply]
  refine Eq.trans (congrArg (val_main_v204 (F := Ideal) d) ?_) (share_0 d D hd p l)
  blk_ext

theorem own_0 (hd : ∀ i, d i = ((D (i 0).val (i 1) : ℝ) : EReal)) (j : Fin 8192) (γ : Fin 4) (l : Fin 512) :
    val_main_v201 (F := Ideal) d (ix4 0 j γ l)
      = ((if 0 ≤ j.val ∧ j.val < 0 + 8192 ∧ 0 = γ.val then -D (j.val - 0) (col 0 l) else 0 : ℝ) : EReal) := by
  unfold val_main_v201
  refine PoolOps.pad_rows _ _ _ _ _ j γ l f32_zero (fun p => -D p (col 0 l)) fun p => ?_
  rw [val_main_v200_apply, val_main_v199_apply, Ideal.hostNegf_def]
  refine Eq.trans (congrArg (fun i => -(val_main_v155 (F := Ideal) d i)) ?_) ((congrArg Neg.neg (ct_0 d D hd p l)).trans (EReal.coe_neg _).symm)
  blk_ext

theorem ct_1 (hd : ∀ i, d i = ((D (i 0).val (i 1) : ℝ) : EReal)) (p : Fin 8192) (l : Fin 512) :
    val_main_v157 (F := Ideal) d (ix3 0 p l) = ((D p.val (col 1 l) : ℝ) : EReal) := by
  rw [val_main_v157_apply, val_main_v156_apply]
  refine Eq.trans (congrArg (val_main_v153 (F := Ideal) d) ?_) (dct d D hd p 1 l)
  blk_ext

theorem share_1 (hd : ∀ i, d i = ((D (i 0).val (i 1) : ℝ) : EReal)) (p : Fin 8192) (l : Fin 512) :
    val_main_v191 (F := Ideal) d (ix3 0 p l) = ((part (fun p => D p (col 1 l)) 4 p.val : ℝ) : EReal) := by
  rw [val_main_v191_apply, Ideal.hostDivf_def]
  refine share_of (by omega) (fun p => D p (col 1 l)) p.isLt (ct_1 d D hd p l) ?_
  simp only [val_main_v190_apply, val_main_v79_apply, val_main_v78_apply, val_main_v77_apply, val_main_v76_apply, val_main_v75_apply, val_main_v74_apply, val_main_v22_apply]
  refine Eq.trans (congrArg (FloatOps.sitofp (F := Ideal) .f32) ?_)
    (Cert.PoolWindowKernelIdeal.Real.count (w := 4) (n := p.val + 1) (by omega) (by have := p.isLt; omega) (by omega))
  exact congrArg₂ IntOp.minsi (BitVec.ofNat_add p.val 1).symm rfl

theorem low_1 (p : Fin 8192) : (val_main_v71 (F := Ideal) (ix2 p 0)).toInt = ((p.val + 1 - 4 : ℕ) : ℤ) := by
  refine Eq.trans (congrArg BitVec.toInt ?_) (low_word (w := 4) p.isLt (by omega))
  refine Eq.trans (b := val_main_v69 (F := Ideal) (ix2 p 0)) (by unfold val_main_v71; rfl) ?_
  simp only [val_main_v69_apply, val_main_v66_apply, val_main_v65_apply, val_main_v64_apply, val_main_v63_apply, val_main_v62_apply,
    val_main_v59_apply, val_main_v58_apply, val_main_v57_apply, val_main_v56_apply, val_main_v55_apply, val_main_v54_apply, val_main_v22_apply]
  rfl

theorem place_1 (p : Fin 8192) : (val_main_v71 (F := Ideal) (ix2 p 1)).toInt = ((1 : ℕ) : ℤ) := by
  refine Eq.trans (b := (val_main_v70 (F := Ideal) (ix2 p 0)).toInt) (by unfold val_main_v71; rfl) ?_
  simp only [val_main_v70_apply, val_main_v68_apply, val_main_v67_apply]
  rfl

theorem taken_1 (hd : ∀ i, d i = ((D (i 0).val (i 1) : ℝ) : EReal)) (j : Fin 8193) (γ : Fin 4) (l : Fin 512) :
    val_main_v194 (F := Ideal) d (ix4 0 j γ l)
      = ((∑ p ∈ Finset.range 8192, if p + 1 - 4 = j.val ∧ 1 = γ.val then -part (fun p => D p (col 1 l)) 4 p else 0 : ℝ) : EReal) := by
  unfold val_main_v194 Host.scatterAdd
  refine PoolOps.scatter_rows (by decide) _ _ _ (fun p => -part (fun p => D p (col 1 l)) 4 p) (fun p => p + 1 - 4) 1 low_1 place_1 j γ l ?_ fun p => ?_
  · rw [val_main_v193_apply]; exact f32_zero
  · rw [val_main_v192_apply, Ideal.hostNegf_def, share_1 d D hd p l]
    exact (EReal.coe_neg _).symm

theorem given_1 (hd : ∀ i, d i = ((D (i 0).val (i 1) : ℝ) : EReal)) (j : Fin 8193) (γ : Fin 4) (l : Fin 512) :
    val_main_v197 (F := Ideal) d (ix4 0 j γ l)
      = ((if 1 ≤ j.val ∧ j.val < 1 + 8192 ∧ 1 = γ.val then part (fun p => D p (col 1 l)) 4 (j.val - 1) else 0 : ℝ) : EReal) := by
  unfold val_main_v197
  refine PoolOps.pad_rows _ _ _ _ _ j γ l f32_zero (fun p => part (fun p => D p (col 1 l)) 4 p) fun p => ?_
  rw [val_main_v196_apply]
  refine Eq.trans (congrArg (val_main_v191 (F := Ideal) d) ?_) (share_1 d D hd p l)
  blk_ext

theorem own_1 (hd : ∀ i, d i = ((D (i 0).val (i 1) : ℝ) : EReal)) (j : Fin 8192) (γ : Fin 4) (l : Fin 512) :
    val_main_v188 (F := Ideal) d (ix4 0 j γ l)
      = ((if 0 ≤ j.val ∧ j.val < 0 + 8192 ∧ 1 = γ.val then -D (j.val - 0) (col 1 l) else 0 : ℝ) : EReal) := by
  unfold val_main_v188
  refine PoolOps.pad_rows _ _ _ _ _ j γ l f32_zero (fun p => -D p (col 1 l)) fun p => ?_
  rw [val_main_v187_apply, val_main_v186_apply, Ideal.hostNegf_def]
  refine Eq.trans (congrArg (fun i => -(val_main_v157 (F := Ideal) d i)) ?_) ((congrArg Neg.neg (ct_1 d D hd p l)).trans (EReal.coe_neg _).symm)
  blk_ext

theorem ct_2 (hd : ∀ i, d i = ((D (i 0).val (i 1) : ℝ) : EReal)) (p : Fin 8192) (l : Fin 512) :
    val_main_v159 (F := Ideal) d (ix3 0 p l) = ((D p.val (col 2 l) : ℝ) : EReal) := by
  rw [val_main_v159_apply, val_main_v158_apply]
  refine Eq.trans (congrArg (val_main_v153 (F := Ideal) d) ?_) (dct d D hd p 2 l)
  blk_ext

theorem share_2 (hd : ∀ i, d i = ((D (i 0).val (i 1) : ℝ) : EReal)) (p : Fin 8192) (l : Fin 512) :
    val_main_v178 (F := Ideal) d (ix3 0 p l) = ((part (fun p => D p (col 2 l)) 8 p.val : ℝ) : EReal) := by
  rw [val_main_v178_apply, Ideal.hostDivf_def]
  refine share_of (by omega) (fun p => D p (col 2 l)) p.isLt (ct_2 d D hd p l) ?_
  simp only [val_main_v177_apply, val_main_v110_apply, val_main_v109_apply, val_main_v108_apply, val_main_v107_apply, val_main_v106_apply, val_main_v105_apply, val_main_v22_apply]
  refine Eq.trans (congrArg (FloatOps.sitofp (F := Ideal) .f32) ?_)
    (Cert.PoolWindowKernelIdeal.Real.count (w := 8) (n := p.val + 1) (by omega) (by have := p.isLt; omega) (by omega))
  exact congrArg₂ IntOp.minsi (BitVec.ofNat_add p.val 1).symm rfl

theorem low_2 (p : Fin 8192) : (val_main_v102 (F := Ideal) (ix2 p 0)).toInt = ((p.val + 1 - 8 : ℕ) : ℤ) := by
  refine Eq.trans (congrArg BitVec.toInt ?_) (low_word (w := 8) p.isLt (by omega))
  refine Eq.trans (b := val_main_v100 (F := Ideal) (ix2 p 0)) (by unfold val_main_v102; rfl) ?_
  simp only [val_main_v100_apply, val_main_v97_apply, val_main_v96_apply, val_main_v95_apply, val_main_v94_apply, val_main_v93_apply,
    val_main_v90_apply, val_main_v89_apply, val_main_v88_apply, val_main_v87_apply, val_main_v86_apply, val_main_v85_apply, val_main_v22_apply]
  rfl

theorem place_2 (p : Fin 8192) : (val_main_v102 (F := Ideal) (ix2 p 1)).toInt = ((2 : ℕ) : ℤ) := by
  refine Eq.trans (b := (val_main_v101 (F := Ideal) (ix2 p 0)).toInt) (by unfold val_main_v102; rfl) ?_
  simp only [val_main_v101_apply, val_main_v99_apply, val_main_v98_apply]
  rfl

theorem taken_2 (hd : ∀ i, d i = ((D (i 0).val (i 1) : ℝ) : EReal)) (j : Fin 8193) (γ : Fin 4) (l : Fin 512) :
    val_main_v181 (F := Ideal) d (ix4 0 j γ l)
      = ((∑ p ∈ Finset.range 8192, if p + 1 - 8 = j.val ∧ 2 = γ.val then -part (fun p => D p (col 2 l)) 8 p else 0 : ℝ) : EReal) := by
  unfold val_main_v181 Host.scatterAdd
  refine PoolOps.scatter_rows (by decide) _ _ _ (fun p => -part (fun p => D p (col 2 l)) 8 p) (fun p => p + 1 - 8) 2 low_2 place_2 j γ l ?_ fun p => ?_
  · rw [val_main_v180_apply]; exact f32_zero
  · rw [val_main_v179_apply, Ideal.hostNegf_def, share_2 d D hd p l]
    exact (EReal.coe_neg _).symm

theorem given_2 (hd : ∀ i, d i = ((D (i 0).val (i 1) : ℝ) : EReal)) (j : Fin 8193) (γ : Fin 4) (l : Fin 512) :
    val_main_v184 (F := Ideal) d (ix4 0 j γ l)
      = ((if 1 ≤ j.val ∧ j.val < 1 + 8192 ∧ 2 = γ.val then part (fun p => D p (col 2 l)) 8 (j.val - 1) else 0 : ℝ) : EReal) := by
  unfold val_main_v184
  refine PoolOps.pad_rows _ _ _ _ _ j γ l f32_zero (fun p => part (fun p => D p (col 2 l)) 8 p) fun p => ?_
  rw [val_main_v183_apply]
  refine Eq.trans (congrArg (val_main_v178 (F := Ideal) d) ?_) (share_2 d D hd p l)
  blk_ext

theorem own_2 (hd : ∀ i, d i = ((D (i 0).val (i 1) : ℝ) : EReal)) (j : Fin 8192) (γ : Fin 4) (l : Fin 512) :
    val_main_v175 (F := Ideal) d (ix4 0 j γ l)
      = ((if 0 ≤ j.val ∧ j.val < 0 + 8192 ∧ 2 = γ.val then -D (j.val - 0) (col 2 l) else 0 : ℝ) : EReal) := by
  unfold val_main_v175
  refine PoolOps.pad_rows _ _ _ _ _ j γ l f32_zero (fun p => -D p (col 2 l)) fun p => ?_
  rw [val_main_v174_apply, val_main_v173_apply, Ideal.hostNegf_def]
  refine Eq.trans (congrArg (fun i => -(val_main_v159 (F := Ideal) d i)) ?_) ((congrArg Neg.neg (ct_2 d D hd p l)).trans (EReal.coe_neg _).symm)
  blk_ext

theorem ct_3 (hd : ∀ i, d i = ((D (i 0).val (i 1) : ℝ) : EReal)) (p : Fin 8192) (l : Fin 512) :
    val_main_v161 (F := Ideal) d (ix3 0 p l) = ((D p.val (col 3 l) : ℝ) : EReal) := by
  rw [val_main_v161_apply, val_main_v160_apply]
  refine Eq.trans (congrArg (val_main_v153 (F := Ideal) d) ?_) (dct d D hd p 3 l)
  blk_ext

theorem share_3 (hd : ∀ i, d i = ((D (i 0).val (i 1) : ℝ) : EReal)) (p : Fin 8192) (l : Fin 512) :
    val_main_v166 (F := Ideal) d (ix3 0 p l) = ((part (fun p => D p (col 3 l)) 16 p.val : ℝ) : EReal) := by
  rw [val_main_v166_apply, Ideal.hostDivf_def]
  refine share_of (by omega) (fun p => D p (col 3 l)) p.isLt (ct_3 d D hd p l) ?_
  simp only [val_main_v165_apply, val_main_v141_apply, val_main_v140_apply, val_main_v139_apply, val_main_v138_apply, val_main_v137_apply, val_main_v136_apply, val_main_v22_apply]
  refine Eq.trans (congrArg (FloatOps.sitofp (F := Ideal) .f32) ?_)
    (Cert.PoolWindowKernelIdeal.Real.count (w := 16) (n := p.val + 1) (by omega) (by have := p.isLt; omega) (by omega))
  exact congrArg₂ IntOp.minsi (BitVec.ofNat_add p.val 1).symm rfl

theorem low_3 (p : Fin 8192) : (val_main_v133 (F := Ideal) (ix2 p 0)).toInt = ((p.val + 1 - 16 : ℕ) : ℤ) := by
  refine Eq.trans (congrArg BitVec.toInt ?_) (low_word (w := 16) p.isLt (by omega))
  refine Eq.trans (b := val_main_v131 (F := Ideal) (ix2 p 0)) (by unfold val_main_v133; rfl) ?_
  simp only [val_main_v131_apply, val_main_v128_apply, val_main_v127_apply, val_main_v126_apply, val_main_v125_apply, val_main_v124_apply,
    val_main_v121_apply, val_main_v120_apply, val_main_v119_apply, val_main_v118_apply, val_main_v117_apply, val_main_v116_apply, val_main_v22_apply]
  rfl

theorem place_3 (p : Fin 8192) : (val_main_v133 (F := Ideal) (ix2 p 1)).toInt = ((3 : ℕ) : ℤ) := by
  refine Eq.trans (b := (val_main_v132 (F := Ideal) (ix2 p 0)).toInt) (by unfold val_main_v133; rfl) ?_
  simp only [val_main_v132_apply, val_main_v130_apply, val_main_v129_apply]
  rfl

theorem taken_3 (hd : ∀ i, d i = ((D (i 0).val (i 1) : ℝ) : EReal)) (j : Fin 8193) (γ : Fin 4) (l : Fin 512) :
    val_main_v169 (F := Ideal) d (ix4 0 j γ l)
      = ((∑ p ∈ Finset.range 8192, if p + 1 - 16 = j.val ∧ 3 = γ.val then -part (fun p => D p (col 3 l)) 16 p else 0 : ℝ) : EReal) := by
  unfold val_main_v169 Host.scatterAdd
  refine PoolOps.scatter_rows (by decide) _ _ _ (fun p => -part (fun p => D p (col 3 l)) 16 p) (fun p => p + 1 - 16) 3 low_3 place_3 j γ l ?_ fun p => ?_
  · rw [val_main_v168_apply]; exact f32_zero
  · rw [val_main_v167_apply, Ideal.hostNegf_def, share_3 d D hd p l]
    exact (EReal.coe_neg _).symm

theorem given_3 (hd : ∀ i, d i = ((D (i 0).val (i 1) : ℝ) : EReal)) (j : Fin 8193) (γ : Fin 4) (l : Fin 512) :
    val_main_v171 (F := Ideal) d (ix4 0 j γ l)
      = ((if 1 ≤ j.val ∧ j.val < 1 + 8192 ∧ 3 = γ.val then part (fun p => D p (col 3 l)) 16 (j.val - 1) else 0 : ℝ) : EReal) := by
  unfold val_main_v171
  refine PoolOps.pad_rows _ _ _ _ _ j γ l f32_zero (fun p => part (fun p => D p (col 3 l)) 16 p) fun p => ?_
  rw [val_main_v170_apply]
  refine Eq.trans (congrArg (val_main_v166 (F := Ideal) d) ?_) (share_3 d D hd p l)
  blk_ext

theorem own_3 (hd : ∀ i, d i = ((D (i 0).val (i 1) : ℝ) : EReal)) (j : Fin 8192) (γ : Fin 4) (l : Fin 512) :
    val_main_v164 (F := Ideal) d (ix4 0 j γ l)
      = ((if 0 ≤ j.val ∧ j.val < 0 + 8192 ∧ 3 = γ.val then -D (j.val - 0) (col 3 l) else 0 : ℝ) : EReal) := by
  unfold val_main_v164
  refine PoolOps.pad_rows _ _ _ _ _ j γ l f32_zero (fun p => -D p (col 3 l)) fun p => ?_
  rw [val_main_v163_apply, val_main_v162_apply, Ideal.hostNegf_def]
  refine Eq.trans (congrArg (fun i => -(val_main_v161 (F := Ideal) d i)) ?_) ((congrArg Neg.neg (ct_3 d D hd p l)).trans (EReal.coe_neg _).symm)
  blk_ext

end Cert.PoolWindowReferenceIdeal.Real

end
-- ==== Proof.PoolWindowRef.lean ====
/- The windowed mean's gradient in the reference over the reals, entry by entry: the running sum, the mean square's factor and the gain. -/
module

public import proofs.«01_k».proof.Proof.PoolMixRef
public import proofs.«01_k».proof.Proof.PoolWindowKer
public import proofs.«01_k».proof.Proof.PoolWindowGroups
public import proofs.«01_k».proof.Proof.Gen.PoolWindowReferenceIdeal.Read

@[expose] public section

set_option maxRecDepth 16384

noncomputable section

namespace Cert.PoolWindowReferenceIdeal.Real

open Cert.PoolWindowReferenceIdeal Cert.PoolWindowReferenceIdeal.Read Cert.PoolWindowReferenceIdeal.Gen Idealize.ShloMosaic Idealize.ShloMosaic.TcCoe Idealize.SL.Sem Cert.Lift Cert.PoolSum
open Cert.PoolMixKernelIdeal.Real (grp lane mate)
open Cert.PoolWindowKernelIdeal.Real (recv dxAt)

variable (x : FVec Ideal S8192x2048 .f32) (g : FVec Ideal S2048 .f32) (d e : FVec Ideal S8192x2048 .f32)
  (X D E : ℕ → Fin 2048 → ℝ) (G : Fin 2048 → ℝ)

/-- What the windows that start after a row give back from it. -/
def back (w q : ℕ) (f : ℕ → ℝ) : ℝ := ∑ p ∈ Finset.range 8192, if p + 1 - w = q + 1 then f p else 0

theorem back_of (w q : ℕ) (c : Prop) [Decidable c] (f : ℕ → ℝ) :
    (∑ p ∈ Finset.range 8192, if p + 1 - w = q + 1 ∧ c then -f p else 0) = if c then -back w q f else 0 := by
  unfold back
  by_cases h : c
  · rw [if_pos h, ← Finset.sum_neg_distrib]
    refine Finset.sum_congr rfl fun p _ => ?_
    by_cases hp : p + 1 - w = q + 1
    · rw [if_pos ⟨hp, h⟩, if_pos hp]
    · rw [if_neg fun hn => hp hn.1, if_neg hp, neg_zero]
  · rw [if_neg h]
    exact Finset.sum_eq_zero fun p _ => if_neg fun hn => h hn.2

theorem give_of {q : ℕ} (hq : q < 8192) (c : Prop) [Decidable c] (f : ℕ → ℝ) :
    (if 1 ≤ q + 1 ∧ q + 1 < 1 + 8192 ∧ c then f (q + 1 - 1) else 0) = if c then f q else 0 := by
  by_cases h : c
  · rw [if_pos h, if_pos ⟨by omega, by omega, h⟩, Nat.add_sub_cancel]
  · rw [if_neg h, if_neg fun hn => h hn.2.2]

theorem own_of {q : ℕ} (hq : q < 8192) (c : Prop) [Decidable c] (f : ℕ → ℝ) :
    (if 0 ≤ q ∧ q < 0 + 8192 ∧ c then -f (q - 0) else 0) = if c then -f q else 0 := by
  by_cases h : c
  · rw [if_pos h, if_pos ⟨by omega, by omega, h⟩, Nat.sub_zero]
  · rw [if_neg h, if_neg fun hn => h hn.2.2]

/-- The window of a group. -/
def wide (γ : Fin 4) : ℕ := 2 ^ (γ.val + 1)

/-- What a row of the running sum's gradient holds. -/
theorem steps (hd : ∀ i, d i = ((D (i 0).val (i 1) : ℝ) : EReal)) (q : Fin 8192) (γ : Fin 4) (l : Fin 512) :
    val_main_v213 (F := Ideal) d (ix4 0 q γ l)
      = ((part (fun p => D p (col γ l)) (wide γ) q.val - back (wide γ) q.val (part (fun p => D p (col γ l)) (wide γ)) : ℝ) : EReal) := by
  have hq := q.isLt
  rw [val_main_v213_apply]
  have he : idx_main_v213 (ix4 0 q γ l) = ix4 0 ⟨q.val + 1, by omega⟩ γ l := by blk_ext
  rw [he]
  have t0 := (taken_0 d D hd ⟨q.val + 1, by omega⟩ γ l).trans (congrArg Real.toEReal (back_of 2 q.val (0 = γ.val) (part (fun p => D p (col 0 l)) 2)))
  have g0 := (given_0 d D hd ⟨q.val + 1, by omega⟩ γ l).trans (congrArg Real.toEReal (give_of hq (0 = γ.val) (part (fun p => D p (col 0 l)) 2)))
  have t1 := (taken_1 d D hd ⟨q.val + 1, by omega⟩ γ l).trans (congrArg Real.toEReal (back_of 4 q.val (1 = γ.val) (part (fun p => D p (col 1 l)) 4)))
  have g1 := (given_1 d D hd ⟨q.val + 1, by omega⟩ γ l).trans (congrArg Real.toEReal (give_of hq (1 = γ.val) (part (fun p => D p (col 1 l)) 4)))
  have t2 := (taken_2 d D hd ⟨q.val + 1, by omega⟩ γ l).trans (congrArg Real.toEReal (back_of 8 q.val (2 = γ.val) (part (fun p => D p (col 2 l)) 8)))
  have g2 := (given_2 d D hd ⟨q.val + 1, by omega⟩ γ l).trans (congrArg Real.toEReal (give_of hq (2 = γ.val) (part (fun p => D p (col 2 l)) 8)))
  have t3 := (taken_3 d D hd ⟨q.val + 1, by omega⟩ γ l).trans (congrArg Real.toEReal (back_of 16 q.val (3 = γ.val) (part (fun p => D p (col 3 l)) 16)))
  have g3 := (given_3 d D hd ⟨q.val + 1, by omega⟩ γ l).trans (congrArg Real.toEReal (give_of hq (3 = γ.val) (part (fun p => D p (col 3 l)) 16)))
  rw [val_main_v211_apply, val_main_v208_apply, val_main_v198_apply, val_main_v195_apply, val_main_v185_apply, val_main_v182_apply,
    val_main_v172_apply, t0, t1, t2, t3, g0, g1, g2, g3]
  simp only [Ideal.addf_def, ← EReal.coe_add]
  refine congrArg Real.toEReal ?_
  match γ with
  | 0 => simp [show wide 0 = 2 from rfl]; ring
  | 1 => simp [show wide 1 = 4 from rfl]; ring
  | 2 => simp [show wide 2 = 8 from rfl]; ring
  | 3 => simp [show wide 3 = 16 from rfl]; ring

theorem run (hd : ∀ i, d i = ((D (i 0).val (i 1) : ℝ) : EReal)) (p : Fin 8192) (γ : Fin 4) (l : Fin 512) :
    val_main_v214 (F := Ideal) d (ix4 0 p γ l)
      = ((∑ j ∈ Finset.range (wide γ), part (fun p => D p (col γ l)) (wide γ) (p.val + j) : ℝ) : EReal) := by
  have hw : 0 < wide γ := Nat.two_pow_pos _
  have hz : val_main_call1_call0_v0 (F := Ideal) (Shape.Idx.first h_S_) = 0 := by rw [val_main_call1_call0_v0_apply]; exact f32_zero
  have hs := steps d D hd
  have ht := fun f : ℕ → ℝ => telescope f 8192 (wide γ) p.val hw p.isLt
  unfold val_main_v214 Host.reduceWindowAdd
  rw [hz, Ideal.hostReduceWindowAdd_def]
  generalize val_main_v213 (F := Ideal) d = A at hs
  generalize hf : (fun p => D p (col γ l)) = f
  have hs' : ∀ q : Fin 8192, A (ix4 0 q γ l) = (((fun q => part f (wide γ) q - back (wide γ) q (part f (wide γ))) q.val : ℝ) : EReal) :=
    fun q => by rw [hs q γ l, ← hf]
  have h := PoolOps.suffix_rows (N := 8192) (G := 4) (P := 512) _ A reduceWindows_S1x8192x4x512_S1x8192x4x512_w1s1p0_0_w8192s1p0_8191_w1s1p0_0_w1s1p0_0
    p γ l (fun q => part f (wide γ) q - back (wide γ) q (part f (wide γ))) hs'
  rw [h]
  refine congrArg Real.toEReal (ht (part f (wide γ)) fun q hq => ?_)
  unfold part
  rw [if_neg (Nat.not_lt.2 hq)]

theorem sum4 (hd : ∀ i, d i = ((D (i 0).val (i 1) : ℝ) : EReal)) (p : Fin 8192) (γ : Fin 4) (l : Fin 512) :
    val_main_v215 (F := Ideal) d (ix4 0 p γ l)
      = (((∑ j ∈ Finset.range (wide γ), part (fun p => D p (col γ l)) (wide γ) (p.val + j)) - D p.val (col γ l) : ℝ) : EReal) := by
  have hp := p.isLt
  have o0 := (own_0 d D hd p γ l).trans (congrArg Real.toEReal (own_of hp (0 = γ.val) (fun q => D q (col 0 l))))
  have o1 := (own_1 d D hd p γ l).trans (congrArg Real.toEReal (own_of hp (1 = γ.val) (fun q => D q (col 1 l))))
  have o2 := (own_2 d D hd p γ l).trans (congrArg Real.toEReal (own_of hp (2 = γ.val) (fun q => D q (col 2 l))))
  have o3 := (own_3 d D hd p γ l).trans (congrArg Real.toEReal (own_of hp (3 = γ.val) (fun q => D q (col 3 l))))
  rw [val_main_v215_apply, val_main_v202_apply, val_main_v189_apply, val_main_v176_apply, run d D hd, o0, o1, o2, o3]
  simp only [Ideal.addf_def, ← EReal.coe_add]
  refine congrArg Real.toEReal ?_
  generalize (∑ j ∈ Finset.range (wide γ), part (fun p => D p (col γ l)) (wide γ) (p.val + j)) = S
  match γ with
  | 0 => simp; ring
  | 1 => simp; ring
  | 2 => simp; ring
  | 3 => simp; ring

/-- The gradient of the mixer's input. -/
theorem dh (hd : ∀ i, d i = ((D (i 0).val (i 1) : ℝ) : EReal)) (p : Fin 8192) (k : Fin 2048) :
    val_main_v217 (F := Ideal) d (ix2 p k) = ((recv D p.val k : ℝ) : EReal) := by
  have hk := k.isLt
  have hp := p.isLt
  rw [val_main_v217_apply]
  have hz : val_main_cst_48 (F := Ideal) (Shape.Idx.first h_S_) = 0 := f32_zero
  have he : idx_main_v216 (idx_main_v217 (ix2 p k) 0) = ix4 0 p ⟨k.val / 512, by omega⟩ ⟨k.val % 512, by omega⟩ := by blk_ext
  have hc : col ⟨k.val / 512, by omega⟩ ⟨k.val % 512, by omega⟩ = k := Fin.ext (by show k.val / 512 * 512 + k.val % 512 = k.val; omega)
  rw [hz, zero_add, Fin.sum_univ_one, val_main_v216_apply, he, sum4 d D hd, hc]
  rfl

variable {x g d e X D E G}
  (hx : ∀ i, x i = ((X (i 0).val (i 1) : ℝ) : EReal)) (hg : ∀ i, g i = ((G (i 0) : ℝ) : EReal))
  (hd : ∀ i, d i = ((D (i 0).val (i 1) : ℝ) : EReal)) (he : ∀ i, e i = ((E (i 0).val (i 1) : ℝ) : EReal))

include hd in
theorem dh_at (i) : val_main_v217 (F := Ideal) d i = ((recv D (i 0).val (i 1) : ℝ) : EReal) :=
  (congrArg (val_main_v217 (F := Ideal) d) (eq_ix2 i)).trans (dh d D hd (i 0) (i 1))

/-- A row's index. -/
def row (a : Fin 8192) : S8192.Idx := ix1 a

theorem idx226 (i : S8192x1.Idx) : idx_main_v226 i = row (i 0) := funext fun a => match a with
  | ⟨0, _⟩ => Fin.ext (by
      have h : (i 1).val < 1 := (i 1).isLt
      show (i 0).val * 1 + (i 1).val = (i 0).val
      omega)

include hx

theorem mean (i) : val_main_v6 (F := Ideal) x i = (((∑ k, X (i 0).val k * X (i 0).val k) / (2048 : ℕ) + eps : ℝ) : EReal) := by
  simp only [val_main_v6_apply, val_main_v4_apply, val_main_v2_apply, val_main_v1_apply, val_main_v0_apply, val_main_v3_apply,
    val_main_v5_apply, val_main_cst_apply, val_main_cst_0_apply, val_main_cst_1_apply, hx, Ideal.mulf_def, Ideal.addf_def,
    Ideal.hostDivf_def, Ideal.ofBits_def, f32_zero, f32_width, f32_eps, ← EReal.coe_mul, coe_sum, ← EReal.coe_add, zero_add, coe_div_width]
  rfl

theorem root (i) : val_main_v7 (F := Ideal) x i = ((rms (X (i 0).val) : ℝ) : EReal) := by
  rw [val_main_v7_apply, mean hx]
  exact coe_rsqrt (mean_sq_pos (X (i 0).val))

theorem coef (i) : val_main_v10 (F := Ideal) x i
    = ((-(1 / 2) * (rms (X (i 0).val) / ((∑ k, X (i 0).val k * X (i 0).val k) / (2048 : ℕ) + eps)) : ℝ) : EReal) := by
  simp only [val_main_v10_apply, val_main_v9_apply, val_main_v8_apply, root hx, mean hx, val_main_cst_2_apply, Ideal.hostDivf_def,
    Ideal.mulf_def, Ideal.ofBits_def, f32_neg_half]
  rw [coe_div (mean_sq_pos (X (i 0).val)).ne', ← EReal.coe_mul]

theorem unit (i) : val_main_v12 (F := Ideal) x i = ((X (i 0).val (i 1) * rms (X (i 0).val) : ℝ) : EReal) := by
  simp only [val_main_v12_apply, val_main_v11_apply, root hx, hx, Ideal.mulf_def, ← EReal.coe_mul]

include hd

/-- The gradient of the gain. -/
theorem dgain (i) : val_main_v240 (F := Ideal) x d i
    = ((∑ p : Fin 8192, recv D p.val (i 1) * (X p.val (i 1) * rms (X p.val)) : ℝ) : EReal) := by
  have hi : (i 0).val < 1 := (i 0).isLt
  simp only [val_main_v240_apply, val_main_v223_apply, val_main_v220_apply, val_main_v219_apply, val_main_v218_apply, dh_at hd, unit hx,
    val_main_cst_49_apply, val_main_cst_50_apply, Ideal.mulf_def, Ideal.ofBits_def, f32_zero, ← EReal.coe_mul, coe_sum, ← EReal.coe_add, zero_add]
  simp only [Finset.univ_unique, Finset.sum_singleton]
  refine congrArg Real.toEReal (Finset.sum_congr rfl fun p _ => ?_)
  have hc : (idx_main_v219 (idx_main_v220 (idx_main_v223 (idx_main_v240 i) default)) p) 1 = i 1 :=
    Fin.ext (by show 0 * 2048 + (i 1).val = (i 1).val; omega)
  rw [hc, mul_comm]

include hg he

/-- The gradient of the rows. -/
theorem dx (i) : val_main_v238 (F := Ideal) x g d e i = ((dxAt X D E G (i 0).val (i 1) : ℝ) : EReal) := by
  simp only [val_main_v238_apply, val_main_v237_apply, val_main_v236_apply, val_main_v235_apply, val_main_v234_apply, val_main_v233_apply,
    val_main_v232_apply, val_main_v231_apply, val_main_v230_apply, val_main_v229_apply, val_main_v228_apply, val_main_v227_apply,
    val_main_v226_apply, idx226, val_main_v225_apply, val_main_v224_apply, val_main_v222_apply, val_main_v221_apply, val_main_v13_apply,
    dh_at hd, root hx, coef hx, hx, hg, he, val_main_cst_51_apply, val_main_cst_52_apply, val_main_cst_53_apply,
    Ideal.mulf_def, Ideal.addf_def, Ideal.hostDivf_def, Ideal.ofBits_def, f32_zero, f32_width, ← EReal.coe_mul, coe_sum,
    ← EReal.coe_add, zero_add, coe_div_width]
  refine congrArg Real.toEReal ?_
  simp only [Finset.univ_unique, Finset.sum_singleton]
  unfold dxAt
  rw [← rmsGrad_eq (X (i 0).val) (fun k => recv D (i 0).val k * G k) (i 1) _ rfl, ← add_assoc, ← add_assoc]
  rfl

end Cert.PoolWindowReferenceIdeal.Real

end
-- ==== Proof.PoolWindow.lean ====
/- The windowed mean's gradient's claims: the frames and the equality of all three results over the reals. -/
module

public import proofs.«01_k».proof.Defs
public import proofs.«01_k».proof.Proof.PoolWindowRef
public import proofs.«01_k».proof.Proof.PoolWindowKer
public import proofs.«01_k».proof.Proof.Gen.PoolWindowKernel.Frame
public import proofs.«01_k».proof.Proof.Gen.Pre_pool_window_finite

@[expose] public section

set_option maxRecDepth 16384

noncomputable section

namespace Cert.PoolWindow

open Idealize.ShloMosaic Idealize.ShloMosaic.TcCoe Idealize.SL.Sem Cert.Lift

/-- An array of finite entries as a real function of its row's number and its column. -/
theorem rows {a b : ℕ} [NeZero a] {x : FVec Ideal ⟨2, ![a, b]⟩ .f32} (h : ∀ i, x i = (((x i).toReal : ℝ) : EReal)) :
    ∃ X : ℕ → Fin b → ℝ, ∀ i, x i = ((X (i 0).val (i 1) : ℝ) : EReal) := by
  obtain ⟨Y, hY⟩ := reals2 h
  refine ⟨fun n k => Y (Fin.ofNat a n) k, fun i => (hY i).trans ?_⟩
  have hi : Fin.ofNat a (i 0).val = i 0 := Fin.ext (Nat.mod_eq_of_lt (i 0).isLt)
  show _ = ((Y (Fin.ofNat a (i 0).val) (i 1) : ℝ) : EReal)
  rw [hi]

/-- What the precondition says of the four arguments. -/
theorem finite {x : FVec Ideal Cert.PoolWindowKernelIdeal.S8192x2048 .f32} {g : FVec Ideal Cert.PoolWindowKernelIdeal.S2048 .f32}
    {d e : FVec Ideal Cert.PoolWindowKernelIdeal.S8192x2048 .f32} (h : Cert.Pre_pool_window_finite.fn (F := Ideal) x g d e = fun _ => 1#1) :
    (∃ X : ℕ → Fin 2048 → ℝ, ∀ i, x i = ((X (i 0).val (i 1) : ℝ) : EReal)) ∧ (∃ G : Fin 2048 → ℝ, ∀ i, g i = ((G (i 0) : ℝ) : EReal))
      ∧ (∃ D : ℕ → Fin 2048 → ℝ, ∀ i, d i = ((D (i 0).val (i 1) : ℝ) : EReal))
      ∧ ∃ E : ℕ → Fin 2048 → ℝ, ∀ i, e i = ((E (i 0).val (i 1) : ℝ) : EReal) := by
  have h0 := congrFun h (fun a => a.elim0)
  dsimp only [Cert.Pre_pool_window_finite.fn] at h0
  obtain ⟨h1, he⟩ := IntOp.andi_eq_one.1 h0
  obtain ⟨h2, hd⟩ := IntOp.andi_eq_one.1 h1
  obtain ⟨hx, hg⟩ := IntOp.andi_eq_one.1 h2
  exact ⟨rows fun i => finite_of_all x _ (fun _ => f32_top) _ _ _ _ hx i, reals1 fun i => finite_of_all g _ (fun _ => f32_top) _ _ _ _ hg i,
    rows fun i => finite_of_all d _ (fun _ => f32_top) _ _ _ _ hd i, rows fun i => finite_of_all e _ (fun _ => f32_top) _ _ _ _ he i⟩

theorem algebraic : Cert.algebraic_PoolWindowKernelIdeal_PoolWindowReferenceIdeal_pre_pool_window_finite := by
  pair_intro
  · run_from Cert.PoolWindowKernelIdeal.Value.run_blocks m g
  · refine (θ_run _ _ _).mono (fun _ h c => ?_) (Cert.PoolWindowReferenceIdeal.Value.run m' g')
    obtain ⟨h0, h1, h2, ha⟩ := h c
    obtain ⟨⟨X, hx⟩, ⟨G, hg⟩, ⟨D, hd⟩, E, he⟩ := finite (hpre c)
    obtain ⟨e0, e1, e2, e3⟩ := hagree c
    have a0 : StableHlo.launchContents m' c (Proc.devRef .tc Cert.PoolWindowReferenceIdeal.main_arg0) = m ((c : Thread Cert.PoolWindowKernelIdeal.nD Cert.PoolWindowKernelIdeal.τ).loc Cert.PoolWindowKernelIdeal.main_arg0) := e0
    have a1 : StableHlo.launchContents m' c (Proc.devRef .tc Cert.PoolWindowReferenceIdeal.main_arg1) = m ((c : Thread Cert.PoolWindowKernelIdeal.nD Cert.PoolWindowKernelIdeal.τ).loc Cert.PoolWindowKernelIdeal.main_arg1) := e1
    have a2 : StableHlo.launchContents m' c (Proc.devRef .tc Cert.PoolWindowReferenceIdeal.main_arg2) = m ((c : Thread Cert.PoolWindowKernelIdeal.nD Cert.PoolWindowKernelIdeal.τ).loc Cert.PoolWindowKernelIdeal.main_arg2) := e2
    have a3 : StableHlo.launchContents m' c (Proc.devRef .tc Cert.PoolWindowReferenceIdeal.main_arg3) = m ((c : Thread Cert.PoolWindowKernelIdeal.nD Cert.PoolWindowKernelIdeal.τ).loc Cert.PoolWindowKernelIdeal.main_arg3) := e3
    refine ⟨h0.trans ?_, h1.trans ?_, h2.trans ?_, ha⟩
    · rw [Cert.PoolWindowReferenceIdeal.Read.val_main_v238_eq, a0, a1, a2, a3]
      exact Eq.trans (funext fun i => Cert.PoolWindowReferenceIdeal.Real.dx hx hg hd he i) (Cert.PoolWindowKernelIdeal.Real.final_dx m c hx hg hd he).symm
    · rw [Cert.PoolWindowReferenceIdeal.Read.val_main_v239_eq, a0, a1, a2, a3]
      exact Eq.trans (funext fun i => Cert.PoolWindowReferenceIdeal.Real.dx hx hg hd he i) (Cert.PoolWindowKernelIdeal.Real.final_dxb m c hx hg hd he).symm
    · rw [Cert.PoolWindowReferenceIdeal.Read.val_main_v240_eq, a0, a2]
      exact Eq.trans (funext fun i => Cert.PoolWindowReferenceIdeal.Real.dgain hx hd i) (Cert.PoolWindowKernelIdeal.Real.final_dgain m c hx hg hd he).symm

theorem frame_kernel : Cert.quiescent_PoolWindowKernel := fun m ρ _ => Cert.PoolWindowKernel.Gen.frame m ρ
theorem frame_ideal : Cert.quiescent_PoolWindowKernelIdeal := fun m ρ _ => Cert.PoolWindowKernelIdeal.Gen.frame m ρ
theorem frame_ideal_pre : Cert.quiescent_PoolWindowKernelIdeal_pre_pool_window_finite := fun m ρ _ => Cert.PoolWindowKernelIdeal.Gen.frame m ρ
theorem frame_reference : Cert.quiescent_PoolWindowReferenceIdeal := fun m ρ _ =>
  (θ_run Cert.PoolWindowReferenceIdeal.defs _ _).mono (fun r h => ⟨fun c => (h c).2.2.2, sem_eq_zero_of_no_sems (by decide) r.2⟩)
    (Cert.PoolWindowReferenceIdeal.Value.run m ρ)
theorem frame_reference_pre : Cert.quiescent_PoolWindowReferenceIdeal_pre_pool_window_finite := fun m ρ _ => frame_reference m ρ trivial

end Cert.PoolWindow

end
-- ==== Proof.FfnGateKer.lean ====
/- The gate's backward kernel over the reals: what one device's tile of rows leaves in each output, and the two result
   arrays as functions of the launched arguments. -/
module

public import proofs.«01_k».proof.Proof.Lift
public import proofs.«01_k».proof.Proof.Gen.FfnGateKernelIdeal.Value
public import proofs.«01_k».proof.Proof.Gen.FfnGateReferenceIdeal.Read
public import Idealize.ShloMosaic.Lib.Pipeline.ValueKit
public import Idealize.ShloMosaic.Lib.Claim
public import Idealize.ShloMosaic.Lib.StableHlo.RunRead

@[expose] public section

set_option maxRecDepth 16384

noncomputable section

namespace Cert.FfnGateKernelIdeal.Real

open Cert.FfnGateKernelIdeal Cert.FfnGateKernelIdeal.Gen Idealize.ShloMosaic Idealize.ShloMosaic.TcCoe Idealize.SL.Sem Cert.Lift
open Idealize.ShloMosaic.Pipeline (Dat)

variable (m : (ℓ : Loc nD τ sig) → Buf (Elt Ideal) ℓ) (c : Dev nD)

theorem idx : ∀ t : Fin cfg0.N, win0_0.index t = ![t.val % 8, 0] ∧ win0_1.index t = ![t.val / 8, 0, 0]
    ∧ win0_2.index t = ![t.val / 8, t.val % 8, 0] ∧ win0_3.index t = ![t.val / 8, t.val % 8, 0]
    ∧ win0_4.index t = ![t.val / 8, t.val % 8, 0] ∧ win0_5.index t = ![t.val / 8, t.val % 8, 0] :=
  (by decide +kernel : ∀ t : Fin grid0.N, _)

/-- The device a grid point writes for. -/
def devOf (t : Fin cfg0.N) : Fin 8 := ⟨t.val / 8, by have := t.isLt; have : cfg0.N = 64 := N_0; omega⟩
/-- Row `r` of a grid point's tile. -/
def rowOf (t : Fin cfg0.N) (r : Fin 1024) : Fin 8192 := ⟨t.val % 8 * 1024 + r.val, by omega⟩
/-- Column `l` of device `j`'s share of the hidden columns. -/
def colOf (j : Fin 8) (l : Fin 704) : Fin 5632 := ⟨j.val * 704 + l.val, by omega⟩

/-- The cotangent and the down projection as launched. -/
abbrev yA : FVec Ideal S8192x2048 .f32 := m ((c : Thread nD τ).loc main_arg5)
abbrev wA : FVec Ideal S5632x2048 .f32 := m ((c : Thread nD τ).loc main_arg4)

/-- The gate's column and the other column before the product, from the forward lines. -/
abbrev gA : FVec Ideal S8192x5632 .f32 := Cert.FfnGateReferenceIdeal.Read.val_main_v13 (F := Ideal)
  (m ((c : Thread nD τ).loc main_arg0)) (m ((c : Thread nD τ).loc main_arg1)) (m ((c : Thread nD τ).loc main_arg2))
abbrev uA : FVec Ideal S8192x5632 .f32 := Cert.FfnGateReferenceIdeal.Read.val_main_v14 (F := Ideal)
  (m ((c : Thread nD τ).loc main_arg0)) (m ((c : Thread nD τ).loc main_arg1)) (m ((c : Thread nD τ).loc main_arg3))
/-- The logistic function of the gate's column. -/
abbrev sA : FVec Ideal S8192x5632 .f32 := Cert.FfnGateReferenceIdeal.Read.val_main_v15_2 (F := Ideal)
  (m ((c : Thread nD τ).loc main_arg0)) (m ((c : Thread nD τ).loc main_arg1)) (m ((c : Thread nD τ).loc main_arg2))

/-- The two factors the saved columns give the kernel. -/
def pA : FVec Ideal S8192x5632 .f32 := mulf (gA m c) (sA m c)
def rA : FVec Ideal S8192x5632 .f32 :=
  mulf (uA m c) (mulf (sA m c) (addf (Cert.FfnGateReferenceIdeal.Read.val_main_call0_v6 (F := Ideal))
    (mulf (gA m c) (subf (Cert.FfnGateReferenceIdeal.Read.val_main_call0_v6 (F := Ideal)) (sA m c)))))

/-- A device's share of the columns, in front. -/
def byDev (a : FVec Ideal S8192x5632 .f32) : FVec Ideal S8x8192x704 .f32 :=
  transpose S8x8192x704 [1, 0, 2] (shapeCast S8192x8x704 a shapeCasts_S8192x5632_S8192x8x704) transposes_S8192x8x704_S8x8192x704_1_0_2

theorem byDev_apply (a : FVec Ideal S8192x5632 .f32) (j : Fin 8) (r : Fin 8192) (l : Fin 704) :
    byDev a (ix3 j r l) = a (ix2 r (colOf j l)) := by
  unfold byDev
  refine (transpose_apply [1, 0, 2] _ _ (ix3 j r l) (ix3 r j l) (fun b => match b with
    | ⟨0, _⟩ => rfl
    | ⟨1, _⟩ => rfl
    | ⟨2, _⟩ => rfl)).trans ?_
  exact shapeCast_apply a _ (ix3 r j l) (ix2 r (colOf j l)) (by
    rewrite [Shape.rowMajor_val_three, Shape.rowMajor_val_two]
    show r.val * 5632 + (j.val * 704 + l.val) = (r.val * 8 + j.val) * 704 + l.val
    omega)

theorem entry_g : V m c main_v15 = gA m c := by
  unfold V
  after_reads_simp
  rfl

theorem entry_u : V m c main_v17 = uA m c := by
  unfold V
  after_reads_simp
  rfl

theorem entry_s : V m c main_v23 = sA m c := by
  unfold V
  after_reads_simp
  rfl

set_option maxHeartbeats 1000000 in
theorem entry_p : V m c main_v29 = byDev (pA m c) := by
  unfold pA
  rw [← entry_g, ← entry_s]
  unfold V byDev
  after_reads_simp
  rfl

set_option maxHeartbeats 1000000 in
theorem entry_r : V m c main_v38 = byDev (rA m c) := by
  unfold rA
  rw [← entry_g, ← entry_s, ← entry_u]
  unfold V byDev
  after_reads_simp
  rfl

theorem entry_y : V m c main_v26 = truncf (F := Ideal) .bf16 (yA m c) bitsLt_bf16_f32 := by
  unfold V
  after_reads_simp

theorem entry_w : V m c main_v25 = shapeCast S8x704x2048 (wA m c) shapeCasts_S5632x2048_S8x704x2048 := by
  unfold V
  after_reads_simp
  rfl

theorem iblk_y (t : Fin cfg0.N) (r : Fin 1024) (k : Fin 2048) :
    iblk m c 0 t (ix2 r k) = yA m c (ix2 (rowOf t r) k) := by
  unfold iblk
  show V m c main_v26 _ = _
  rw [entry_y]
  pointwise
  blk_ext [idx t, rowOf]

theorem iblk_w (t : Fin cfg0.N) (l : Fin 704) (k : Fin 2048) :
    iblk m c 1 t (ix3 0 l k) = wA m c (ix2 (colOf (devOf t) l) k) := by
  unfold iblk
  show V m c main_v25 _ = _
  have he : ((cfg0.win 1).blk t).view.emb (ix3 0 l k) = ix3 (devOf t) l k := by blk_ext [idx t, devOf]
  rw [entry_w, he]
  exact shapeCast_apply (wA m c) _ _ (ix2 (colOf (devOf t) l) k) (by
    rewrite [Shape.rowMajor_val_three, Shape.rowMajor_val_two]
    show ((devOf t).val * 704 + l.val) * 2048 + k.val = ((devOf t).val * 704 + l.val) * 2048 + k.val
    rfl)

theorem iblk_p (t : Fin cfg0.N) (r : Fin 1024) (l : Fin 704) :
    iblk m c 2 t (ix3 0 r l) = pA m c (ix2 (rowOf t r) (colOf (devOf t) l)) := by
  unfold iblk
  show V m c main_v29 _ = _
  have he : ((cfg0.win 2).blk t).view.emb (ix3 0 r l) = ix3 (devOf t) (rowOf t r) l := by blk_ext [idx t, devOf, rowOf]
  rw [entry_p, he]
  exact byDev_apply _ _ _ _

theorem iblk_r (t : Fin cfg0.N) (r : Fin 1024) (l : Fin 704) :
    iblk m c 3 t (ix3 0 r l) = rA m c (ix2 (rowOf t r) (colOf (devOf t) l)) := by
  unfold iblk
  show V m c main_v38 _ = _
  have he : ((cfg0.win 3).blk t).view.emb (ix3 0 r l) = ix3 (devOf t) (rowOf t r) l := by blk_ext [idx t, devOf, rowOf]
  rw [entry_r, he]
  exact byDev_apply _ _ _ _

/-- A tile of an output: the cotangent's rows against the device's rows of the down projection, times the saved factor. -/
def tile (B0 : FVec Ideal S1024x2048 .bf16) (B1 : FVec Ideal S1x704x2048 .bf16) (B : FVec Ideal S1x1024x704 .f32) :
    FVec Ideal S1x1024x704 .bf16 := fun y =>
  (∑ k : Fin 2048, B0 (ix2 (y 1) k) * B1 (ix3 0 (y 2) k)) * B (ix3 0 (y 1) (y 2))

set_option maxHeartbeats 1000000 in
theorem out_g (B0 : FVec Ideal S1024x2048 .bf16) (B1 : FVec Ideal S1x704x2048 .bf16) (B2 B3 : FVec Ideal S1x1024x704 .f32) (y : S1x1024x704.Idx) : out0_4 (F := Ideal) B0 B1 B2 B3 y = tile B0 B1 B3 y := by
  unfold tile
  canon_tiles x h
  all_goals (open_payloads; pointwise; refine congrArg₂ (fun a b : EReal => a * b) (Finset.sum_congr rfl fun k _ => congrArg₂ (fun a b : EReal => a * b) (congrArg B0 ?_) (congrArg B1 ?_)) (congrArg B3 ?_) <;> blk_ext)

set_option maxHeartbeats 1000000 in
theorem out_u (B0 : FVec Ideal S1024x2048 .bf16) (B1 : FVec Ideal S1x704x2048 .bf16) (B2 B3 : FVec Ideal S1x1024x704 .f32) (y : S1x1024x704.Idx) : out0_5 (F := Ideal) B0 B1 B2 B3 y = tile B0 B1 B2 y := by
  unfold tile
  canon_tiles x h
  all_goals (open_payloads; pointwise; refine congrArg₂ (fun a b : EReal => a * b) (Finset.sum_congr rfl fun k _ => congrArg₂ (fun a b : EReal => a * b) (congrArg B0 ?_) (congrArg B1 ?_)) (congrArg B2 ?_) <;> blk_ext)

/-- The product of the cotangent with the down projection at a row and a column. -/
def dotA (r : Fin 8192) (n : Fin 5632) : EReal := ∑ k : Fin 2048, yA m c (ix2 r k) * wA m c (ix2 n k)

/-- The blocks of a grid point, at their types. -/
abbrev b0 (t : Fin cfg0.N) : FVec Ideal S1024x2048 .bf16 := iblk m c 0 t
abbrev b1 (t : Fin cfg0.N) : FVec Ideal S1x704x2048 .bf16 := iblk m c 1 t
abbrev b2 (t : Fin cfg0.N) : FVec Ideal S1x1024x704 .f32 := iblk m c 2 t
abbrev b3 (t : Fin cfg0.N) : FVec Ideal S1x1024x704 .f32 := iblk m c 3 t

/-- The output's array, by device, row and column. -/
def out_gA : FVec Ideal S8x8192x704 .bf16 := fun i => dotA m c (i 1) (colOf (i 0) (i 2)) * rA m c (ix2 (i 1) (colOf (i 0) (i 2)))

theorem point_g (t : Fin cfg0.N) (y : S1x1024x704.Idx) :
    out0_4 (F := Ideal) (b0 m c t) (b1 m c t) (b2 m c t) (b3 m c t) y = out_gA m c (ix3 (devOf t) (rowOf t (y 1)) (y 2)) := by
  refine (out_g _ _ _ _ y).trans ?_
  unfold tile out_gA dotA
  exact congrArg₂ (fun a b : EReal => a * b) (Finset.sum_congr rfl fun k _ =>
    congrArg₂ (fun a b : EReal => a * b) (iblk_y m c t (y 1) k) (iblk_w m c t (y 2) k)) (iblk_r m c t (y 1) (y 2))

/-- The output's array, by device, row and column. -/
def out_uA : FVec Ideal S8x8192x704 .bf16 := fun i => dotA m c (i 1) (colOf (i 0) (i 2)) * pA m c (ix2 (i 1) (colOf (i 0) (i 2)))

theorem point_u (t : Fin cfg0.N) (y : S1x1024x704.Idx) :
    out0_5 (F := Ideal) (b0 m c t) (b1 m c t) (b2 m c t) (b3 m c t) y = out_uA m c (ix3 (devOf t) (rowOf t (y 1)) (y 2)) := by
  refine (out_u _ _ _ _ y).trans ?_
  unfold tile out_uA dotA
  exact congrArg₂ (fun a b : EReal => a * b) (Finset.sum_congr rfl fun k _ =>
    congrArg₂ (fun a b : EReal => a * b) (iblk_y m c t (y 1) k) (iblk_w m c t (y 2) k)) (iblk_p m c t (y 1) (y 2))

theorem final_g : (dats m 0 c).arrAt 4 cfg0.N = out_gA m c := by
  refine (dats m 0 c).arrAt_eq_of_covers 4 _ (by decide +kernel) fun t hf y => ?_
  blk_simp
  have he : ((cfg0.win 4).blk t).view.emb y = ix3 (devOf t) (rowOf t (y 1)) (y 2) := by blk_ext [idx t, devOf, rowOf]
  rw [after0_4, he]
  exact point_g m c t y

theorem final_u : (dats m 0 c).arrAt 5 cfg0.N = out_uA m c := by
  refine (dats m 0 c).arrAt_eq_of_covers 5 _ (by decide +kernel) fun t hf y => ?_
  blk_simp
  have he : ((cfg0.win 5).blk t).view.emb y = ix3 (devOf t) (rowOf t (y 1)) (y 2) := by blk_ext [idx t, devOf, rowOf]
  rw [after0_5, he]
  exact point_u m c t y

end Cert.FfnGateKernelIdeal.Real

end
-- ==== Proof.FfnGateRef.lean ====
/- The reference of the gate's gradient, read over the reals: its two results at finite arguments are the kernel's. -/
module

public import proofs.«01_k».proof.Proof.FfnGateKer

@[expose] public section

set_option maxRecDepth 16384

noncomputable section

namespace Cert.FfnGateReferenceIdeal.Real

open Cert.FfnGateReferenceIdeal Cert.FfnGateReferenceIdeal.Gen Cert.FfnGateReferenceIdeal.Read Idealize.ShloMosaic Cert.Lift

/-- The logistic function. -/
def logistic (g : ℝ) : ℝ := 1 / (1 + Real.exp (-g))

variable {x0 : (⟨S8192x2048, .f32⟩ : BufTy).Contents (Elt Ideal)} {x1 : (⟨S2048, .f32⟩ : BufTy).Contents (Elt Ideal)}
  {x2 x3 : (⟨S2048x5632, .f32⟩ : BufTy).Contents (Elt Ideal)} {x4 : (⟨S5632x2048, .f32⟩ : BufTy).Contents (Elt Ideal)}
  {x5 : (⟨S8192x2048, .f32⟩ : BufTy).Contents (Elt Ideal)}
  {X Y : Fin 8192 → Fin 2048 → ℝ} {G : Fin 2048 → ℝ} {Wg Wu : Fin 2048 → Fin 5632 → ℝ} {Wd : Fin 5632 → Fin 2048 → ℝ}
  (hx : ∀ i, x0 i = ((X (i 0) (i 1) : ℝ) : EReal)) (hg : ∀ i, x1 i = ((G (i 0) : ℝ) : EReal))
  (hwg : ∀ i, x2 i = ((Wg (i 0) (i 1) : ℝ) : EReal)) (hwu : ∀ i, x3 i = ((Wu (i 0) (i 1) : ℝ) : EReal))
  (hwd : ∀ i, x4 i = ((Wd (i 0) (i 1) : ℝ) : EReal)) (hy : ∀ i, x5 i = ((Y (i 0) (i 1) : ℝ) : EReal))

include hx hg

/-- The normalised rows times the gain. -/
theorem unit (i) : val_main_v12 (F := Ideal) x0 x1 i = ((X (i 0) (i 1) * rms (X (i 0)) * G (i 1) : ℝ) : EReal) := by
  have hm : ∀ i, val_main_v6 (F := Ideal) x0 i = (((∑ k, X (i 0) k * X (i 0) k) / (2048 : ℕ) + eps : ℝ) : EReal) := fun i => by
    simp only [val_main_v6_apply, val_main_v4_apply, val_main_v2_apply, val_main_v1_apply, val_main_v0_apply, val_main_v3_apply,
      val_main_v5_apply, val_main_cst_apply, val_main_cst_0_apply, val_main_cst_1_apply, hx, Ideal.mulf_def, Ideal.addf_def,
      Ideal.hostDivf_def, Ideal.ofBits_def, f32_zero, f32_width, f32_eps, ← EReal.coe_mul, coe_sum, ← EReal.coe_add, zero_add, coe_div_width]
    rfl
  have hr : ∀ i, val_main_v7 (F := Ideal) x0 i = ((rms (X (i 0)) : ℝ) : EReal) := fun i => by
    rw [val_main_v7_apply, hm]
    exact coe_rsqrt (mean_sq_pos (X (i 0)))
  simp only [val_main_v12_apply, val_main_v11_apply, val_main_v10_apply, val_main_v9_apply, val_main_v8_apply, hr, hx, hg, Ideal.mulf_def,
    ← EReal.coe_mul]
  rfl

include hwg in
theorem gate (i) : val_main_v13 (F := Ideal) x0 x1 x2 i
    = ((∑ k, X (i 0) k * rms (X (i 0)) * G k * Wg k (i 1) : ℝ) : EReal) := by
  simp only [val_main_v13_apply, unit hx hg, hwg, ← EReal.coe_mul, coe_sum]
  rfl

include hwu in
theorem up (i) : val_main_v14 (F := Ideal) x0 x1 x3 i
    = ((∑ k, X (i 0) k * rms (X (i 0)) * G k * Wu k (i 1) : ℝ) : EReal) := by
  simp only [val_main_v14_apply, unit hx hg, hwu, ← EReal.coe_mul, coe_sum]
  rfl

include hwg in
theorem sigma (i) : val_main_v15_2 (F := Ideal) x0 x1 x2 i
    = ((logistic (∑ k, X (i 0) k * rms (X (i 0)) * G k * Wg k (i 1)) : ℝ) : EReal) := by
  simp only [val_main_v15_2_apply, val_main_call0_v4_apply, val_main_call0_cst_0_apply, val_main_call0_v3_apply, val_main_call0_v2_apply,
    val_main_call0_cst_apply, val_main_call0_v1_apply, val_main_call0_v0_apply, gate hx hg hwg, Ideal.hostDivf_def, Ideal.addf_def,
    Ideal.hostUnary_exp_def, Ideal.hostNegf_def, Ideal.ofBits_def, f32_one, ← EReal.coe_neg, Ideal.exp_coe, ← EReal.coe_add]
  exact coe_div (by positivity)

omit hx hg
include hwd hy in
theorem back (i) : val_main_v18 (F := Ideal) x4 x5 i = ((∑ k, Y (i 0) k * Wd (i 1) k : ℝ) : EReal) := by
  simp only [val_main_v18_apply, hwd, hy, ← EReal.coe_mul, coe_sum]
  rfl

/-- A product of extended reals. -/
abbrev times (a b : EReal) : EReal := a * b
/-- The two factors the kernel is called with, at every row and column. -/
def facU (x0 : FVec Ideal S8192x2048 .f32) (x1 : FVec Ideal S2048 .f32) (x2 : FVec Ideal S2048x5632 .f32) : FVec Ideal S8192x5632 .f32 :=
  mulf (val_main_v13 (F := Ideal) x0 x1 x2) (val_main_v15_2 (F := Ideal) x0 x1 x2)
def facG (x0 : FVec Ideal S8192x2048 .f32) (x1 : FVec Ideal S2048 .f32) (x2 x3 : FVec Ideal S2048x5632 .f32) : FVec Ideal S8192x5632 .f32 :=
  mulf (val_main_v14 (F := Ideal) x0 x1 x3) (mulf (val_main_v15_2 (F := Ideal) x0 x1 x2) (addf (val_main_call0_v6 (F := Ideal))
    (mulf (val_main_v13 (F := Ideal) x0 x1 x2) (subf (val_main_call0_v6 (F := Ideal)) (val_main_v15_2 (F := Ideal) x0 x1 x2)))))

/-- Column `l` of device `j`'s share is where the reshape and the transpose put it. -/
theorem at_g (i : S8x8192x704.Idx) : idx_main_v22 (idx_main_v23 i) = ix2 (i 1) (Cert.FfnGateKernelIdeal.Real.colOf (i 0) (i 2)) := by
  have h0 : (i 0).val < 8 := (i 0).isLt
  have h2 : (i 2).val < 704 := (i 2).isLt
  refine funext fun a => ?_
  match a with
  | ⟨0, _⟩ => exact Fin.ext (show ((((i 1).val * 8 + (i 0).val) * 704 + (i 2).val) / 5632) = (i 1).val by omega)
  | ⟨1, _⟩ => exact Fin.ext (show ((((i 1).val * 8 + (i 0).val) * 704 + (i 2).val) % 5632) = (i 0).val * 704 + (i 2).val by omega)

theorem v18_eq (r : Fin 8192) (n : Fin 5632) : val_main_v18 (F := Ideal) x4 x5 (ix2 r n) = ∑ k : Fin 2048, x5 (ix2 r k) * x4 (ix2 n k) := by
  rw [val_main_v18_apply]
  refine Finset.sum_congr rfl fun k _ => congrArg₂ (fun a b : EReal => a * b) (congrArg x5 ?_) (congrArg x4 ?_) <;> exact (eq_ix2 _)

/-- The product's second factor's gradient needs nothing finite. -/
theorem du_eq (i : S8x8192x704.Idx) : val_main_v27 (F := Ideal) x0 x1 x2 x4 x5 i
    = times (val_main_v18 (F := Ideal) x4 x5 (ix2 (i 1) (Cert.FfnGateKernelIdeal.Real.colOf (i 0) (i 2))))
      (facU x0 x1 x2 (ix2 (i 1) (Cert.FfnGateKernelIdeal.Real.colOf (i 0) (i 2)))) := by
  rw [val_main_v27_apply]
  show val_main_v26 (F := Ideal) x0 x1 x2 x4 x5 i = _
  rw [val_main_v26_apply, val_main_v25_apply, val_main_v19_apply]
  show times (val_main_v15_0 (F := Ideal) x0 x1 x2 (idx_main_v22 (idx_main_v23 i))) (val_main_v18 (F := Ideal) x4 x5 (idx_main_v22 (idx_main_v23 i))) = _
  rw [at_g]
  exact mul_comm _ _

include hx hg hwg hwu hwd hy in
/-- The derivative of `g · logistic g` as one product. -/
theorem dg_at (j : S8192x5632.Idx) : val_main_v21 (F := Ideal) x0 x1 x2 x3 x4 x5 j
    = times (val_main_v18 (F := Ideal) x4 x5 j) (facG x0 x1 x2 x3 j) := by
  unfold facG
  simp only [times, mulf_apply, addf_apply, subf_apply, val_main_v21_apply, val_main_call1_v1_apply, val_main_call1_v2_apply,
    val_main_call1_v0_apply, val_main_v20_apply,
    val_main_v15_1_apply, val_main_call0_v7_apply, val_main_call0_v6_apply, val_main_call0_cst_1_apply, Ideal.mulf_def, Ideal.addf_def,
    Ideal.subf_def, Ideal.ofBits_def, f32_one, sigma hx hg hwg, gate hx hg hwg, up hx hg hwu, back hwd hy, ← EReal.coe_mul, ← EReal.coe_sub,
    ← EReal.coe_add]
  refine congrArg (fun r : ℝ => (r : EReal)) ?_
  ring

include hx hg hwg hwu hwd hy in
/-- The gate's gradient. -/
theorem dg_eq (i : S8x8192x704.Idx) : val_main_v24 (F := Ideal) x0 x1 x2 x3 x4 x5 i
    = times (val_main_v18 (F := Ideal) x4 x5 (ix2 (i 1) (Cert.FfnGateKernelIdeal.Real.colOf (i 0) (i 2))))
      (facG x0 x1 x2 x3 (ix2 (i 1) (Cert.FfnGateKernelIdeal.Real.colOf (i 0) (i 2)))) := by
  rw [val_main_v24_apply]
  show val_main_v23 (F := Ideal) x0 x1 x2 x3 x4 x5 i = _
  rw [val_main_v23_apply, val_main_v22_apply, at_g]
  exact dg_at hx hg hwg hwu hwd hy _

end Cert.FfnGateReferenceIdeal.Real

end
-- ==== Proof.FfnGate.lean ====
/- The gate gradient's claims: the frames and the equality of both results over the reals, at finite arguments. -/
module

public import proofs.«01_k».proof.Defs
public import proofs.«01_k».proof.Proof.FfnGateRef
public import proofs.«01_k».proof.Proof.Gen.FfnGateKernel.Frame
public import proofs.«01_k».proof.Proof.Gen.Pre_ffn_gate_finite
public import proofs.«01_k».proof.Proof.Gen.FfnGateReferenceIdeal.Run

@[expose] public section

set_option maxRecDepth 16384

noncomputable section

namespace Cert.FfnGate

open Idealize.ShloMosaic Idealize.ShloMosaic.TcCoe Idealize.SL.Sem Cert.Lift

/-- What the precondition says of the six arguments. -/
theorem finite {x : FVec Ideal Cert.FfnGateKernelIdeal.S8192x2048 .f32} {g : FVec Ideal Cert.FfnGateKernelIdeal.S2048 .f32}
    {wg wu : FVec Ideal Cert.FfnGateKernelIdeal.S2048x5632 .f32} {wd : FVec Ideal Cert.FfnGateKernelIdeal.S5632x2048 .f32}
    {y : FVec Ideal Cert.FfnGateKernelIdeal.S8192x2048 .f32} (h : Cert.Pre_ffn_gate_finite.fn (F := Ideal) x g wg wu wd y = fun _ => 1#1) :
    (∃ X : Fin 8192 → Fin 2048 → ℝ, ∀ i, x i = ((X (i 0) (i 1) : ℝ) : EReal)) ∧ (∃ G : Fin 2048 → ℝ, ∀ i, g i = ((G (i 0) : ℝ) : EReal))
      ∧ (∃ W : Fin 2048 → Fin 5632 → ℝ, ∀ i, wg i = ((W (i 0) (i 1) : ℝ) : EReal))
      ∧ (∃ W : Fin 2048 → Fin 5632 → ℝ, ∀ i, wu i = ((W (i 0) (i 1) : ℝ) : EReal))
      ∧ (∃ W : Fin 5632 → Fin 2048 → ℝ, ∀ i, wd i = ((W (i 0) (i 1) : ℝ) : EReal))
      ∧ ∃ Y : Fin 8192 → Fin 2048 → ℝ, ∀ i, y i = ((Y (i 0) (i 1) : ℝ) : EReal) := by
  have h0 := congrFun h (fun a => a.elim0)
  dsimp only [Cert.Pre_ffn_gate_finite.fn, Cert.Pre_ffn_gate_finite.fn_part1] at h0
  obtain ⟨h1, hy⟩ := IntOp.andi_eq_one.1 h0
  obtain ⟨h2, hwd⟩ := IntOp.andi_eq_one.1 h1
  obtain ⟨h3, hwu⟩ := IntOp.andi_eq_one.1 h2
  obtain ⟨h4, hwg⟩ := IntOp.andi_eq_one.1 h3
  obtain ⟨hx, hg⟩ := IntOp.andi_eq_one.1 h4
  exact ⟨reals2 fun i => finite_of_all x _ (fun _ => f32_top) _ _ _ _ hx i, reals1 fun i => finite_of_all g _ (fun _ => f32_top) _ _ _ _ hg i,
    reals2 fun i => finite_of_all wg _ (fun _ => f32_top) _ _ _ _ hwg i, reals2 fun i => finite_of_all wu _ (fun _ => f32_top) _ _ _ _ hwu i,
    reals2 fun i => finite_of_all wd _ (fun _ => f32_top) _ _ _ _ hwd i, reals2 fun i => finite_of_all y _ (fun _ => f32_top) _ _ _ _ hy i⟩

theorem algebraic : Cert.algebraic_FfnGateKernelIdeal_FfnGateReferenceIdeal_pre_ffn_gate_finite := by
  pair_intro
  · run_from Cert.FfnGateKernelIdeal.Value.run_blocks m g
  · refine (θ_run _ _ _).mono (fun _ h c => ?_) (Cert.FfnGateReferenceIdeal.Value.run m' g')
    obtain ⟨h0, h1, ha⟩ := h c
    obtain ⟨⟨X, hx⟩, ⟨G, hg⟩, ⟨Wg, hwg⟩, ⟨Wu, hwu⟩, ⟨Wd, hwd⟩, Y, hy⟩ := finite (hpre c)
    obtain ⟨e0, e1, e2, e3, e4, e5⟩ := hagree c
    refine ⟨h0.trans ?_, h1.trans ?_, ha⟩
    · rw [Cert.FfnGateReferenceIdeal.Read.val_main_v24_eq, e0, e1, e2, e3, e4, e5]
      refine Eq.trans (funext fun i => ?_) (Cert.FfnGateKernelIdeal.Real.final_g m c).symm
      refine (Cert.FfnGateReferenceIdeal.Real.dg_eq hx hg hwg hwu hwd hy i).trans ?_
      exact congrArg (fun a => Cert.FfnGateReferenceIdeal.Real.times a _) (Cert.FfnGateReferenceIdeal.Real.v18_eq _ _)
    · rw [Cert.FfnGateReferenceIdeal.Read.val_main_v27_eq, e0, e1, e2, e4, e5]
      refine Eq.trans (funext fun i => ?_) (Cert.FfnGateKernelIdeal.Real.final_u m c).symm
      refine (Cert.FfnGateReferenceIdeal.Real.du_eq i).trans ?_
      exact congrArg (fun a => Cert.FfnGateReferenceIdeal.Real.times a _) (Cert.FfnGateReferenceIdeal.Real.v18_eq _ _)

theorem frame_kernel : Cert.quiescent_FfnGateKernel := fun m ρ _ => Cert.FfnGateKernel.Gen.frame m ρ
theorem frame_ideal : Cert.quiescent_FfnGateKernelIdeal := fun m ρ _ => Cert.FfnGateKernelIdeal.Gen.frame m ρ
theorem frame_ideal_pre : Cert.quiescent_FfnGateKernelIdeal_pre_ffn_gate_finite := fun m ρ _ => Cert.FfnGateKernelIdeal.Gen.frame m ρ
theorem frame_reference : Cert.quiescent_FfnGateReferenceIdeal := fun m ρ _ =>
  (θ_run Cert.FfnGateReferenceIdeal.defs _ _).mono (fun r h => ⟨fun c => (h c).2.2, sem_eq_zero_of_no_sems (by decide) r.2⟩)
    (Cert.FfnGateReferenceIdeal.Value.run m ρ)
theorem frame_reference_pre : Cert.quiescent_FfnGateReferenceIdeal_pre_ffn_gate_finite := fun m ρ _ => frame_reference m ρ trivial

end Cert.FfnGate

end
-- ==== Proof.NormTile.lean ====
/- The norm's gradient on a tile of rows worked in four chunks, for the kernels whose tile of the incoming gradient is a
   finished sum in scratch: one chunk, the sum of the gain's gradient over the tile. -/
module

public import proofs.«01_k».proof.Proof.PoolWindowKer

@[expose] public section

set_option maxRecDepth 16384

noncomputable section

namespace Cert.NormTile

open Cert.PoolWindowKernelIdeal Cert.PoolWindowKernelIdeal.Gen Cert.PoolWindowKernelIdeal.Real Idealize.ShloMosaic Idealize.ShloMosaic.TcCoe Cert.Lift

theorem inb : ∀ a, (![0, 0] : Fin 2 → ℕ) a + (![512, 2048] : Fin 2 → ℕ) a ≤ S512x2048.size a := by decide

/-- A store of a whole tile, and its values. -/
abbrev stored (f : Vec Ideal S512x2048 .f32) : List (View.Piece (Elt Ideal) S512x2048 .f32) :=
  [⟨Rect.unit (s := S512x2048) ![0, 0] ![512, 2048] inb, f⟩]

theorem canon_whole (f : Vec Ideal S512x2048 .f32) (y : S512x2048.Idx) : View.canon (stored f) y = f y := by
  unfold stored
  canon_tiles x h
  exact congrArg f (funext fun a => Fin.ext (match a with
    | ⟨0, _⟩ => h0.symm
    | ⟨1, _⟩ => h1.symm))

variable {sig : RefSig} {κ : Kind} {sp : Space} (w : View sig κ sp S512x2048 .f32)

/-- Rows `o` to `o + 127` of what was stored. -/
abbrev rows (L : List (View.Piece (Elt Ideal) S512x2048 .f32)) (o : ℕ) (hin : ∀ a, (![o, 0] : Fin 2 → Nat) a + S128x2048.size a ≤ S512x2048.size a) :
    Vec Ideal S128x2048 .f32 :=
  w.readCov L (Rect.unit (s := S512x2048) ![o, 0] ![128, 2048] hin).toLoadRect

section Tile

variable {B2 B5 : Vec Ideal S512x2048 .f32} {B3 : Vec Ideal S512x1 .f32} {B4 : Vec Ideal S1x2048 .f32}
  {L : List (View.Piece (Elt Ideal) S512x2048 .f32)} {X H E : Fin 512 → Fin 2048 → ℝ} {G : Fin 2048 → ℝ}
  (h2 : ∀ r k, B2 (ix2 r k) = ((X r k : ℝ) : EReal)) (h3 : ∀ r, B3 (ix2 r 0) = ((rms (X r) : ℝ) : EReal))
  (h4 : ∀ k, B4 (ix2 0 k) = ((G k : ℝ) : EReal)) (h5 : ∀ r k, B5 (ix2 r k) = ((E r k : ℝ) : EReal))
  (hL : ∀ r k, View.canon L (ix2 r k) = ((H r k : ℝ) : EReal))

include hL in
theorem rows_apply {o : ℕ} (ho : o + 128 ≤ 512) (hin) (r : Fin 128) (k : Fin 2048) :
    rows w L o hin (ix2 r k) = ((H ⟨o + r.val, by omega⟩ k : ℝ) : EReal) := by
  unfold rows
  rw [View.readCov_eq_canon']
  have e : (Rect.unit (s := S512x2048) ![o, 0] ![128, 2048] hin).toLoadRect.idx (ix2 r k) = ix2 (⟨o + r.val, by omega⟩ : Fin 512) k :=
    funext fun a => Fin.ext (match a with
      | ⟨0, _⟩ => Rect.idx_unit_val _ _ _ _ 0
      | ⟨1, _⟩ => (Rect.idx_unit_val _ _ _ _ 1).trans (Nat.zero_add _))
  show View.canon L _ = _
  rw [e]
  exact hL _ _

/-- A chunk's share of the gain's gradient. -/
def part (L : List (View.Piece (Elt Ideal) S512x2048 .f32)) (B2 : Vec Ideal S512x2048 .f32) (B3 : Vec Ideal S512x1 .f32) (o : ℕ)
    (i3 : ∀ a, (![o, 0] : Fin 2 → Nat) a + S128x1.size a ≤ S512x1.size a) (i2 iL : ∀ a, (![o, 0] : Fin 2 → Nat) a + S128x2048.size a ≤ S512x2048.size a) :
    FVec Ideal S1x2048 .f32 :=
  k0_pay13 (F := Ideal) (View.ld B3 (Rect.unit ![o, 0] ![128, 1] i3)) (View.ld B2 (Rect.unit ![o, 0] ![128, 2048] i2)) (rows w L o iL)

/-- A tile's sum of the gain's gradient. -/
def gains (L : List (View.Piece (Elt Ideal) S512x2048 .f32)) (B2 : Vec Ideal S512x2048 .f32) (B3 : Vec Ideal S512x1 .f32) : FVec Ideal S1x2048 .f32 :=
  addf (addf (addf (part w L B2 B3 0 inb_S512x1_S128x1_0_0 inb_S512x2048_S128x2048_0_0 inb_S512x2048_S128x2048_0_0)
    (part w L B2 B3 128 inb_S512x1_S128x1_128_0 inb_S512x2048_S128x2048_128_0 inb_S512x2048_S128x2048_128_0))
    (part w L B2 B3 256 inb_S512x1_S128x1_256_0 inb_S512x2048_S128x2048_256_0 inb_S512x2048_S128x2048_256_0))
    (part w L B2 B3 384 inb_S512x1_S128x1_384_0 inb_S512x2048_S128x2048_384_0 inb_S512x2048_S128x2048_384_0)

include h2 h3 hL

theorem part_apply {o : ℕ} (ho : o + 128 ≤ 512) (i3 i2 iL) (k : Fin 2048) : part w L B2 B3 o i3 i2 iL (ix2 0 k)
    = ((∑ r : Fin 128, H ⟨o + r.val, by omega⟩ k * (X ⟨o + r.val, by omega⟩ k * rms (X ⟨o + r.val, by omega⟩)) : ℝ) : EReal) :=
  chunk_dgain (X := fun r => X ⟨o + r.val, by omega⟩) (H := fun r => H ⟨o + r.val, by omega⟩)
    (fun r => (ld2 B3 i3 r 0 ⟨o + r.val, by omega⟩ 0 rfl rfl).trans (h3 _))
    (fun r k => (ld2 B2 i2 r k ⟨o + r.val, by omega⟩ k rfl (Nat.zero_add _).symm).trans (h2 _ _))
    (rows_apply w hL ho iL) k

theorem gains_apply (k : Fin 2048) : gains w L B2 B3 (ix2 0 k) = ((∑ r : Fin 512, H r k * (X r k * rms (X r)) : ℝ) : EReal) := by
  let f : ℕ → ℝ := fun n => if h : n < 512 then H ⟨n, h⟩ k * (X ⟨n, h⟩ k * rms (X ⟨n, h⟩)) else 0
  have e : ∀ o : ℕ, (ho : o + 128 ≤ 512) → ∑ r : Fin 128, f (o + r.val)
      = ∑ r : Fin 128, H ⟨o + r.val, by omega⟩ k * (X ⟨o + r.val, by omega⟩ k * rms (X ⟨o + r.val, by omega⟩)) := fun o ho =>
    Finset.sum_congr rfl fun r _ => dif_pos (show o + r.val < 512 by omega)
  have e' : ∑ r : Fin 512, f r.val = ∑ r : Fin 512, H r k * (X r k * rms (X r)) :=
    Finset.sum_congr rfl fun r _ => dif_pos r.isLt
  rw [← e', ← four f, e 0 (by omega), e 128 (by omega), e 256 (by omega), e 384 (by omega), EReal.coe_add, EReal.coe_add, EReal.coe_add,
    ← part_apply w h2 h3 hL (o := 0) (by omega) inb_S512x1_S128x1_0_0 inb_S512x2048_S128x2048_0_0 inb_S512x2048_S128x2048_0_0 k,
    ← part_apply w h2 h3 hL (o := 128) (by omega) inb_S512x1_S128x1_128_0 inb_S512x2048_S128x2048_128_0 inb_S512x2048_S128x2048_128_0 k,
    ← part_apply w h2 h3 hL (o := 256) (by omega) inb_S512x1_S128x1_256_0 inb_S512x2048_S128x2048_256_0 inb_S512x2048_S128x2048_256_0 k,
    ← part_apply w h2 h3 hL (o := 384) (by omega) inb_S512x1_S128x1_384_0 inb_S512x2048_S128x2048_384_0 inb_S512x2048_S128x2048_384_0 k]
  rfl

include h4 h5

theorem dx_apply {o : ℕ} (ho : o + 128 ≤ 512) (i3 i2 iL i5) (x : S128x2048.Idx) (y : S512x2048.Idx)
    (hy0 : (y 0).val = o + (x 0).val) (hy1 : (y 1).val = (x 1).val) :
    k0_pay11 (F := Ideal) (k0_pay8 B4) (View.ld B3 (Rect.unit ![o, 0] ![128, 1] i3)) (View.ld B2 (Rect.unit ![o, 0] ![128, 2048] i2))
      (rows w L o iL) (View.ld B5 (Rect.unit ![o, 0] ![128, 2048] i5)) x
      = ((E (y 0) (y 1) + rmsGrad (X (y 0)) (fun k => H (y 0) k * G k) (y 1) : ℝ) : EReal) := by
  idx_vars x
  have hx0 : x0.val < 128 := x0.isLt
  rw [show y 0 = (⟨o + x0.val, by omega⟩ : Fin 512) from Fin.ext hy0, show y 1 = x1 from Fin.ext hy1]
  exact chunk_dx (X := fun r => X ⟨o + r.val, by omega⟩) (H := fun r => H ⟨o + r.val, by omega⟩) (E := fun r => E ⟨o + r.val, by omega⟩)
    (fun k => (congrFun (shapeCast_self _ _) _).trans (h4 k))
    (fun r => (ld2 B3 i3 r 0 ⟨o + r.val, by omega⟩ 0 rfl rfl).trans (h3 _))
    (fun r k => (ld2 B2 i2 r k ⟨o + r.val, by omega⟩ k rfl (Nat.zero_add _).symm).trans (h2 _ _))
    (rows_apply w hL ho iL)
    (fun r k => (ld2 B5 i5 r k ⟨o + r.val, by omega⟩ k rfl (Nat.zero_add _).symm).trans (h5 _ _)) _ _

end Tile

end Cert.NormTile

end
-- ==== Proof.FfnDhKer.lean ====
/- The backward kernel of the feed-forward layer's two products and their norm over the reals: the sum over the column tiles the scratch
   holds, what the last point of a row tile leaves, the sum of the gain's gradient over the row tiles, and the three arrays. -/
module

public import proofs.«01_k».proof.Proof.NormTile
public import proofs.«01_k».proof.Proof.Gen.FfnDhKernelIdeal.Value
public import Idealize.ShloMosaic.Lib.StableHlo.RunRead

@[expose] public section

set_option maxRecDepth 16384

noncomputable section

namespace Cert.FfnDhKernelIdeal.Real

open Cert.FfnDhKernelIdeal Cert.FfnDhKernelIdeal.Gen Idealize.ShloMosaic Idealize.ShloMosaic.TcCoe Idealize.SL.Sem Cert.Lift
open Idealize.ShloMosaic.Pipeline (Dat)

theorem idx : ∀ t : Fin cfg0.N, win0_0.index t = ![t.val % 8, t.val / 8, 0] ∧ win0_1.index t = ![t.val % 8, t.val / 8, 0]
    ∧ win0_2.index t = ![t.val % 8, 0, 0] ∧ win0_3.index t = ![t.val % 8, 0, 0] ∧ win0_4.index t = ![t.val / 8, 0]
    ∧ win0_5.index t = ![t.val / 8, 0] ∧ win0_6.index t = ![0, 0] ∧ win0_7.index t = ![t.val / 8, 0] ∧ win0_8.index t = ![t.val / 8, 0]
    ∧ win0_9.index t = ![t.val / 8, 0] ∧ win0_10.index t = ![0, 0] :=
  (by decide +kernel : ∀ t : Fin grid0.N, _)

theorem lt128 (t : Fin cfg0.N) : t.val < 128 := lt_of_lt_of_eq t.isLt N_0
/-- Row `r` of a grid point's row tile. -/
def rowOf (t : Fin cfg0.N) (r : Fin 512) : Fin 8192 := ⟨t.val / 8 * 512 + r.val, by have := lt128 t; omega⟩
/-- Column `l` of column tile `s`. -/
def colOf (s : Fin 8) (l : Fin 704) : Fin 5632 := ⟨s.val * 704 + l.val, by omega⟩
/-- A grid point's column tile. -/
def tileOf (t : Fin cfg0.N) : Fin 8 := ⟨t.val % 8, Nat.mod_lt _ (by omega)⟩

theorem product {p q : FVec Ideal S1x512x704 .bf16} {w v : FVec Ideal S1x2048x704 .bf16} (a : FVec Ideal S512x2048 .f32)
    {P Q : Fin 512 → Fin 704 → ℝ} {W U : Fin 2048 → Fin 704 → ℝ} (hp : ∀ r l, p (ix3 0 r l) = ((P r l : ℝ) : EReal))
    (hq : ∀ r l, q (ix3 0 r l) = ((Q r l : ℝ) : EReal)) (hw : ∀ k l, w (ix3 0 k l) = ((W k l : ℝ) : EReal))
    (hv : ∀ k l, v (ix3 0 k l) = ((U k l : ℝ) : EReal)) (r : Fin 512) (k : Fin 2048) :
    k0_pay2 (F := Ideal) p w q v a (ix2 r k) = a (ix2 r k) + ((∑ l, (P r l * W k l + Q r l * U k l) : ℝ) : EReal) := by
  pointwise [k0_pay2]
  simp only [hp, hq, hw, hv, ← EReal.coe_mul, coe_sum, Finset.sum_add_distrib, EReal.coe_add]

variable (m : (ℓ : Loc nD τ sig) → Buf (Elt Ideal) ℓ) (c : Dev nD) {X E : Fin 8192 → Fin 2048 → ℝ} {G : Fin 2048 → ℝ}
  {P Q : Fin 8192 → Fin 5632 → ℝ} {W U : Fin 2048 → Fin 5632 → ℝ}
  (hx : ∀ i : S8192x2048.Idx, m ((c : Thread nD τ).loc main_arg0) i = ((X (i 0) (i 1) : ℝ) : EReal))
  (hg : ∀ i : S2048.Idx, m ((c : Thread nD τ).loc main_arg1) i = ((G (i 0) : ℝ) : EReal))
  (hw : ∀ i : S2048x5632.Idx, m ((c : Thread nD τ).loc main_arg2) i = ((W (i 0) (i 1) : ℝ) : EReal))
  (hv : ∀ i : S2048x5632.Idx, m ((c : Thread nD τ).loc main_arg3) i = ((U (i 0) (i 1) : ℝ) : EReal))
  (hp : ∀ i : S8192x5632.Idx, m ((c : Thread nD τ).loc main_arg4) i = ((P (i 0) (i 1) : ℝ) : EReal))
  (hq : ∀ i : S8192x5632.Idx, m ((c : Thread nD τ).loc main_arg5) i = ((Q (i 0) (i 1) : ℝ) : EReal))
  (he : ∀ i : S8192x2048.Idx, m ((c : Thread nD τ).loc main_arg6) i = ((E (i 0) (i 1) : ℝ) : EReal))

/-- The gradient of the normed rows. -/
def dh (P Q : Fin 8192 → Fin 5632 → ℝ) (W U : Fin 2048 → Fin 5632 → ℝ) (p : Fin 8192) (k : Fin 2048) : ℝ :=
  ∑ l, (P p l * W k l + Q p l * U k l)

/-! ## The blocks -/

/-- A device's share of the columns, in front. -/
def byDev {n : ℕ} (a : FVec Ideal ⟨2, ![n, 5632]⟩ .f32) (h1 : (⟨2, ![n, 5632]⟩ : Shape).ShapeCasts ⟨3, ![n, 8, 704]⟩)
    (h2 : (⟨3, ![n, 8, 704]⟩ : Shape).Transposes [1, 0, 2] ⟨3, ![8, n, 704]⟩) : FVec Ideal ⟨3, ![8, n, 704]⟩ .f32 :=
  transpose ⟨3, ![8, n, 704]⟩ [1, 0, 2] (shapeCast ⟨3, ![n, 8, 704]⟩ a h1) h2

theorem byDev_apply {n : ℕ} (a : FVec Ideal ⟨2, ![n, 5632]⟩ .f32) (h1 : (⟨2, ![n, 5632]⟩ : Shape).ShapeCasts ⟨3, ![n, 8, 704]⟩)
    (h2 : (⟨3, ![n, 8, 704]⟩ : Shape).Transposes [1, 0, 2] ⟨3, ![8, n, 704]⟩) (s : Fin 8) (r : Fin n) (l : Fin 704) :
    byDev a h1 h2 (ix3 s r l) = a (ix2 r (colOf s l)) := by
  unfold byDev
  refine (transpose_apply [1, 0, 2] _ _ (ix3 s r l) (ix3 r s l) (fun b => match b with
    | ⟨0, _⟩ => rfl
    | ⟨1, _⟩ => rfl
    | ⟨2, _⟩ => rfl)).trans ?_
  exact shapeCast_apply a _ (ix3 r s l) (ix2 r (colOf s l)) (by
    rewrite [Shape.rowMajor_val_three, Shape.rowMajor_val_two]
    show r.val * 5632 + (s.val * 704 + l.val) = (r.val * 8 + s.val) * 704 + l.val
    omega)

theorem entry_p : V m c main_v10 = byDev (n := 8192) (m ((c : Thread nD τ).loc main_arg4)) shapeCasts_S8192x5632_S8192x8x704 transposes_S8192x8x704_S8x8192x704_1_0_2 := by
  unfold V
  after_reads_simp
  rfl

theorem entry_q : V m c main_v13 = byDev (n := 8192) (m ((c : Thread nD τ).loc main_arg5)) shapeCasts_S8192x5632_S8192x8x704 transposes_S8192x8x704_S8x8192x704_1_0_2 := by
  unfold V
  after_reads_simp
  rfl

theorem entry_w : V m c main_v16 = byDev (n := 2048) (m ((c : Thread nD τ).loc main_arg2)) shapeCasts_S2048x5632_S2048x8x704 transposes_S2048x8x704_S8x2048x704_1_0_2 := by
  unfold V
  after_reads_simp
  rfl

theorem entry_v : V m c main_v19 = byDev (n := 2048) (m ((c : Thread nD τ).loc main_arg3)) shapeCasts_S2048x5632_S2048x8x704 transposes_S2048x8x704_S8x2048x704_1_0_2 := by
  unfold V
  after_reads_simp
  rfl

include hp in
theorem iblk_p (t : Fin cfg0.N) (r : Fin 512) (l : Fin 704) : iblk m c 0 t (ix3 0 r l) = ((P (rowOf t r) (colOf (tileOf t) l) : ℝ) : EReal) := by
  refine Eq.trans ?_ (hp (ix2 (rowOf t r) (colOf (tileOf t) l)))
  unfold iblk
  show V m c main_v10 _ = _
  have e : ((cfg0.win 0).blk t).view.emb (ix3 0 r l) = ix3 (tileOf t) (rowOf t r) l := by blk_ext [idx t, tileOf, rowOf]
  rw [entry_p, e]
  exact byDev_apply _ _ _ _ _ _

include hq in
theorem iblk_q (t : Fin cfg0.N) (r : Fin 512) (l : Fin 704) : iblk m c 1 t (ix3 0 r l) = ((Q (rowOf t r) (colOf (tileOf t) l) : ℝ) : EReal) := by
  refine Eq.trans ?_ (hq (ix2 (rowOf t r) (colOf (tileOf t) l)))
  unfold iblk
  show V m c main_v13 _ = _
  have e : ((cfg0.win 1).blk t).view.emb (ix3 0 r l) = ix3 (tileOf t) (rowOf t r) l := by blk_ext [idx t, tileOf, rowOf]
  rw [entry_q, e]
  exact byDev_apply _ _ _ _ _ _

include hw in
theorem iblk_w (t : Fin cfg0.N) (k : Fin 2048) (l : Fin 704) : iblk m c 2 t (ix3 0 k l) = ((W k (colOf (tileOf t) l) : ℝ) : EReal) := by
  refine Eq.trans ?_ (hw (ix2 k (colOf (tileOf t) l)))
  unfold iblk
  show V m c main_v16 _ = _
  have e : ((cfg0.win 2).blk t).view.emb (ix3 0 k l) = ix3 (tileOf t) k l := by blk_ext [idx t, tileOf]
  rw [entry_w, e]
  exact byDev_apply _ _ _ _ _ _

include hv in
theorem iblk_v (t : Fin cfg0.N) (k : Fin 2048) (l : Fin 704) : iblk m c 3 t (ix3 0 k l) = ((U k (colOf (tileOf t) l) : ℝ) : EReal) := by
  refine Eq.trans ?_ (hv (ix2 k (colOf (tileOf t) l)))
  unfold iblk
  show V m c main_v19 _ = _
  have e : ((cfg0.win 3).blk t).view.emb (ix3 0 k l) = ix3 (tileOf t) k l := by blk_ext [idx t, tileOf]
  rw [entry_v, e]
  exact byDev_apply _ _ _ _ _ _

include hx in
theorem iblk_x (t : Fin cfg0.N) (r : Fin 512) (k : Fin 2048) : iblk m c 4 t (ix2 r k) = ((X (rowOf t r) k : ℝ) : EReal) := by
  refine Eq.trans ?_ (hx (ix2 (rowOf t r) k))
  blk_ext [iblk, V_main_arg0, idx t, rowOf]

include he in
theorem iblk_e (t : Fin cfg0.N) (r : Fin 512) (k : Fin 2048) : iblk m c 7 t (ix2 r k) = ((E (rowOf t r) k : ℝ) : EReal) := by
  refine Eq.trans ?_ (he (ix2 (rowOf t r) k))
  blk_ext [iblk, V_main_arg6, idx t, rowOf]

include hg in
theorem iblk_g (t : Fin cfg0.N) (k : Fin 2048) : iblk m c 6 t (ix2 0 k) = ((G k : ℝ) : EReal) := by
  refine Eq.trans ?_ (hg (ix1 k))
  blk_simp [iblk]
  entry_read
  pointwise
  blk_ext [idx t]

include hx in
theorem iblk_r (t : Fin cfg0.N) (r : Fin 512) : iblk m c 5 t (ix2 r 0) = ((rms (X (rowOf t r)) : ℝ) : EReal) := by
  blk_simp [iblk]
  entry_read
  pointwise
  have e : ((View.whole main_v7).slice (win0_5.rect t)).emb (ix2 r 0) = ix2 (rowOf t r) 0 := by blk_ext [idx t, rowOf]
  rw [e]
  have hk (k : Fin 2048) : m ((c : Thread nD τ).loc main_arg0) (ix2 (rowOf t r) k) = ((X (rowOf t r) k : ℝ) : EReal) := hx (ix2 _ k)
  show Ideal.rsqrt (Ideal.div (∑ k : Fin 2048, HMul.hMul (α := EReal) (β := EReal) (m ((c : Thread nD τ).loc main_arg0) (ix2 (rowOf t r) k))
    (m ((c : Thread nD τ).loc main_arg0) (ix2 (rowOf t r) k))) (Ideal.ofBits .f32 0x45000000#32) + Ideal.ofBits .f32 0x358637BD#32) = _
  simp only [hk, ← EReal.coe_mul, coe_sum, f32_width, f32_eps, coe_div_width, ← EReal.coe_add]
  exact coe_rsqrt (mean_sq_pos _)

/-! ## The sum the scratch holds -/

theorem acc_reset (t : Fin cfg0.N) (h : t.val % 8 = 0) (y : S512x2048.Idx) :
    (outsAt0 m c t.val t.isLt).2.2.2 y = k0_pay2 (iblk m c 0 t) (iblk m c 2 t) (iblk m c 1 t) (iblk m c 3 t) (k0_pay1 (F := Ideal)) y := by
  rw [outsAt0_A m c t h (by omega)]; frame_out
  all_goals rfl

theorem acc_step (t : Fin cfg0.N) (h : ¬t.val % 8 = 0) (y : S512x2048.Idx) :
    (outsAt0 m c t.val t.isLt).2.2.2 y = k0_pay2 (iblk m c 0 t) (iblk m c 2 t) (iblk m c 1 t) (iblk m c 3 t)
      (outsAt0 m c (t.val - 1) (Nat.lt_of_le_of_lt (Nat.sub_le _ _) t.isLt)).2.2.2 y := by
  by_cases h1 : t.val % 8 = 7
  · by_cases h2 : t.val < 8
    · rw [outsAt0_C m c t h h1 h2 (by omega)]; frame_out
      exact congrFun (congrArg (k0_pay2 _ _ _ _) (Memref.IsWhole.read_unread _ _)) y
    · rw [outsAt0_D m c t h h1 h2 (by omega)]; frame_out
      exact congrFun (congrArg (k0_pay2 _ _ _ _) (Memref.IsWhole.read_unread _ _)) y
  · rw [outsAt0_B m c t h h1]; frame_out
    exact congrFun (congrArg (k0_pay2 _ _ _ _) (Memref.IsWhole.read_unread _ _)) y

include hw hv hp hq

theorem acc_last (t : Fin cfg0.N) (h : t.val % 8 = 7) (r : Fin 512) (k : Fin 2048) :
    k0_pay2 (iblk m c 0 t) (iblk m c 2 t) (iblk m c 1 t) (iblk m c 3 t) (outsAt0 m c (t.val - 1) (Nat.lt_of_le_of_lt (Nat.sub_le _ _) t.isLt)).2.2.2 (ix2 r k)
      = ((dh P Q W U (rowOf t r) k : ℝ) : EReal) := by
  rw [← acc_step m c t (by omega), Pipeline.eq_sum_fin_of_reset_step_apply_of_flush (fun n h => (outsAt0 m c n h).2.2.2) 8 (fun _ => 0)
    (fun t y => ((∑ l, (P (rowOf t (y 0)) (colOf (tileOf t) l) * W (y 1) (colOf (tileOf t) l) + Q (rowOf t (y 0)) (colOf (tileOf t) l) * U (y 1) (colOf (tileOf t) l)) : ℝ) : EReal))
    (fun t h y => by
      idx_vars y
      rw [acc_reset m c t h]
      refine (product _ (iblk_p m c hp t) (iblk_q m c hq t) (iblk_w m c hw t) (iblk_v m c hv t) _ _).trans ?_
      refine congrArg (· + _) ?_
      pointwise [k0_pay1])
    (fun t h y => by
      idx_vars y
      rw [acc_step m c t h]
      exact product _ (iblk_p m c hp t) (iblk_q m c hq t) (iblk_w m c hw t) (iblk_v m c hv t) _ _) t h, zero_add, coe_sum]
  refine congrArg (fun r : ℝ => (r : EReal)) ?_
  refine Eq.trans (Finset.sum_congr rfl fun s _ => ?_) (Fin.sum_mul_add_fin 8 704 fun l => P (rowOf t r) l * W k l + Q (rowOf t r) l * U k l)
  refine congrArg₂ (fun (p : Fin 8192) (s : Fin 8) => ∑ l, (P p (colOf s l) * W k (colOf s l) + Q p (colOf s l) * U k (colOf s l))) (Fin.ext ?_) (Fin.ext ?_)
  · show (8 * (t.val / 8) + s.val) / 8 * 512 + r.val = t.val / 8 * 512 + r.val
    omega
  · show (8 * (t.val / 8) + s.val) % 8 = s.val
    omega

/-- What the tile reads back after the last sum. -/
theorem stored_last (t : Fin cfg0.N) (h : t.val % 8 = 7) (r : Fin 512) (k : Fin 2048) :
    View.canon (NormTile.stored (k0_pay2 (iblk m c 0 t) (iblk m c 2 t) (iblk m c 1 t) (iblk m c 3 t)
      (outsAt0 m c (t.val - 1) (Nat.lt_of_le_of_lt (Nat.sub_le _ _) t.isLt)).2.2.2)) (ix2 r k) = ((dh P Q W U (rowOf t r) k : ℝ) : EReal) :=
  (NormTile.canon_whole _ _).trans (acc_last m c hw hv hp hq t h r k)

/-! ## The gain's gradient -/

theorem gain_hold (t : Fin cfg0.N) (h : ¬t.val % 8 = 7) :
    (outsAt0 m c t.val t.isLt).2.2.1 = (outsAt0 m c (t.val - 1) (Nat.lt_of_le_of_lt (Nat.sub_le _ _) t.isLt)).2.2.1 := by
  by_cases h0 : t.val % 8 = 0
  · rw [outsAt0_A m c t h0 h]; rfl
  · rw [outsAt0_B m c t h0 h]; rfl

/-- A row tile's share of the gain's gradient. -/
def tileGain (X : Fin 8192 → Fin 2048 → ℝ) (H : Fin 8192 → Fin 2048 → ℝ) (k : Fin 2048) (n : ℕ) : ℝ :=
  ∑ r : Fin 512, if h : n * 512 + r.val < 8192 then H ⟨n * 512 + r.val, h⟩ k * (X ⟨n * 512 + r.val, h⟩ k * rms (X ⟨n * 512 + r.val, h⟩)) else 0

omit hw hv hp hq in
theorem tileGain_at (H : Fin 8192 → Fin 2048 → ℝ) (k : Fin 2048) (t : Fin cfg0.N) :
    ∑ r, H (rowOf t r) k * (X (rowOf t r) k * rms (X (rowOf t r))) = tileGain X H k (t.val / 8) := by
  refine Finset.sum_congr rfl fun r _ => ?_
  rw [dif_pos (show t.val / 8 * 512 + r.val < 8192 from (rowOf t r).isLt)]
  rfl

include hx

theorem gain_tile (t : Fin cfg0.N) (h : t.val % 8 = 7) (k : Fin 2048) :
    NormTile.gains (View.whole cc0_scratch0) (NormTile.stored (k0_pay2 (iblk m c 0 t) (iblk m c 2 t) (iblk m c 1 t) (iblk m c 3 t)
      (outsAt0 m c (t.val - 1) (Nat.lt_of_le_of_lt (Nat.sub_le _ _) t.isLt)).2.2.2)) (iblk m c 4 t) (iblk m c 5 t) (ix2 0 k)
      = ((tileGain X (dh P Q W U) k (t.val / 8) : ℝ) : EReal) := by
  rw [← tileGain_at]
  exact NormTile.gains_apply _ (iblk_x m c hx t) (iblk_r m c hx t) (stored_last m c hw hv hp hq t h) k

theorem gain_set (t : Fin cfg0.N) (h : t.val % 8 = 7) (h2 : t.val < 8) (k : Fin 2048) :
    (outsAt0 m c t.val t.isLt).2.2.1 (ix2 0 k) = ((tileGain X (dh P Q W U) k (t.val / 8) : ℝ) : EReal) := by
  refine Eq.trans ?_ (gain_tile m c hx hw hv hp hq t h k)
  rw [outsAt0_C m c t (by omega) h h2 (by omega)]; frame_out
  generalize hf : k0_pay2 (iblk m c 0 t) (iblk m c 2 t) (iblk m c 1 t) (iblk m c 3 t) (View.read (Elt Ideal) (View.whole cc0_scratch0) _) = f
  have hu := hf.symm.trans (congrArg (k0_pay2 (iblk m c 0 t) (iblk m c 2 t) (iblk m c 1 t) (iblk m c 3 t)) (Memref.IsWhole.read_unread _ _))
  rw [← hu]
  rfl

theorem gain_step (t : Fin cfg0.N) (h : t.val % 8 = 7) (h2 : ¬t.val < 8) (k : Fin 2048) :
    (outsAt0 m c t.val t.isLt).2.2.1 (ix2 0 k) = (outsAt0 m c (t.val - 1) (Nat.lt_of_le_of_lt (Nat.sub_le _ _) t.isLt)).2.2.1 (ix2 0 k)
      + ((tileGain X (dh P Q W U) k (t.val / 8) : ℝ) : EReal) := by
  rw [← gain_tile m c hx hw hv hp hq t h k, outsAt0_D m c t (by omega) h h2 (by omega)]; frame_out
  generalize hf : k0_pay2 (iblk m c 0 t) (iblk m c 2 t) (iblk m c 1 t) (iblk m c 3 t) (View.read (Elt Ideal) (View.whole cc0_scratch0) _) = f
  have hu := hf.symm.trans (congrArg (k0_pay2 (iblk m c 0 t) (iblk m c 2 t) (iblk m c 1 t) (iblk m c 3 t)) (Memref.IsWhole.read_unread _ _))
  rw [← hu]
  exact congrArg (· + _) (congrFun (shapeCast_self _ _) _)

theorem gain_upto (k : Fin 2048) (n : ℕ) (h : n < cfg0.N) (h7 : 7 ≤ n) :
    (outsAt0 m c n h).2.2.1 (ix2 0 k) = ((∑ i ∈ Finset.range ((n + 1) / 8), tileGain X (dh P Q W U) k i : ℝ) : EReal) := by
  induction n with
  | zero => omega
  | succ n ih =>
    by_cases h8 : (n + 1) % 8 = 7
    · by_cases h2 : n + 1 < 8
      · rw [gain_set m c hx hw hv hp hq ⟨n + 1, h⟩ h8 h2 k, show (n + 1 + 1) / 8 = 0 + 1 by omega, Finset.sum_range_succ, Finset.sum_range_zero,
          zero_add, show (⟨n + 1, h⟩ : Fin cfg0.N).val / 8 = 0 from Nat.div_eq_of_lt h2]
      · refine (gain_step m c hx hw hv hp hq ⟨n + 1, h⟩ h8 h2 k).trans ?_
        rw [show (n + 1 + 1) / 8 = (n + 1) / 8 + 1 by omega, Finset.sum_range_succ, EReal.coe_add]
        exact congrArg (· + _) (ih (Nat.lt_of_succ_lt h) (by omega))
    · refine (congrFun (gain_hold m c hw hv hp hq ⟨n + 1, h⟩ h8) _).trans ?_
      rw [show (n + 1 + 1) / 8 = (n + 1) / 8 by omega]
      exact ih (Nat.lt_of_succ_lt h) (by omega)

/-- The last grid point. -/
def t0_last : Fin cfg0.N := ⟨127, by have : cfg0.N = 128 := N_0; omega⟩

/-- The gradient of the gain. -/
theorem final_dgain : (dats m 0 c).arrAt 10 cfg0.N = fun i : S1x2048.Idx =>
    ((∑ p, dh P Q W U p (i 1) * (X p (i 1) * rms (X p)) : ℝ) : EReal) := by
  refine (dats m 0 c).arrAt_eq_of_after_last 10 t0_last (by decide +kernel) _ fun j => ?_
  blk_simp
  rw [after0_10]
  idx_vars j
  obtain rfl : j0 = 0 := Subsingleton.elim _ _
  refine (gain_upto m c hx hw hv hp hq j1 127 t0_last.isLt (by omega)).trans (congrArg (fun r : ℝ => (r : EReal)) ?_)
  rw [show (127 + 1) / 8 = 16 from rfl, Finset.sum_range]
  refine Eq.trans (Finset.sum_congr rfl fun n _ => Finset.sum_congr rfl fun r _ => dif_pos (by omega))
    (Fin.sum_mul_add_fin 16 512 fun p => dh P Q W U p j1 * (X p j1 * rms (X p)))

/-! ## The gradient of the rows -/

/-- The gradient of the rows with the residual's added. -/
def dxAt (X E : Fin 8192 → Fin 2048 → ℝ) (G : Fin 2048 → ℝ) (H : Fin 8192 → Fin 2048 → ℝ) (p : Fin 8192) (k : Fin 2048) : ℝ :=
  E p k + rmsGrad (X p) (fun k => H p k * G k) k

/-- The same at an entry of a grid point's row tile. -/
def tileDx (X E : Fin 8192 → Fin 2048 → ℝ) (G : Fin 2048 → ℝ) (H : Fin 8192 → Fin 2048 → ℝ) (t : Fin cfg0.N) (y : S512x2048.Idx) : EReal :=
  ((dxAt X E G H (rowOf t (y 0)) (y 1) : ℝ) : EReal)

include hg he

set_option maxHeartbeats 1000000 in
theorem after_dx (t : Fin cfg0.N) (h7 : t.val % 8 = 7) (y : S512x2048.Idx) :
    (outsAt0 m c t.val t.isLt).1 y = tileDx X E G (dh P Q W U) t y ∧ (outsAt0 m c t.val t.isLt).2.1 y = tileDx X E G (dh P Q W U) t y := by
  have h2 := iblk_x m c hx t
  have h3 := iblk_r m c hx t
  have h4 := iblk_g m c hg t
  have h5 := iblk_e m c he t
  have hl := acc_last m c hw hv hp hq t h7
  by_cases hc : t.val < 8
  · rw [outsAt0_C m c t (by omega) h7 hc (by omega)]
    constructor
    all_goals
      frame_out
      generalize hf : k0_pay2 (iblk m c 0 t) (iblk m c 2 t) (iblk m c 1 t) (iblk m c 3 t) (View.read (Elt Ideal) (View.whole cc0_scratch0) _) = f
      have hu := hf.symm.trans (congrArg (k0_pay2 (iblk m c 0 t) (iblk m c 2 t) (iblk m c 1 t) (iblk m c 3 t)) (Memref.IsWhole.read_unread _ _))
      have hL := fun r k => (NormTile.canon_whole f (ix2 r k)).trans ((congrFun hu _).trans (hl r k))
      generalize iblk m c 4 t = B2 at *
      generalize iblk m c 5 t = B3 at *
      generalize iblk m c 6 t = B4 at *
      generalize iblk m c 7 t = B5 at *
      clear hu hf hl
      canon_tiles x h
      · exact NormTile.dx_apply _ h2 h3 h4 h5 hL (o := 384) (by omega) _ _ _ _ x y ‹_› ‹_›
      · exact NormTile.dx_apply _ h2 h3 h4 h5 hL (o := 256) (by omega) _ _ _ _ x y ‹_› ‹_›
      · exact NormTile.dx_apply _ h2 h3 h4 h5 hL (o := 128) (by omega) _ _ _ _ x y ‹_› ‹_›
      · exact NormTile.dx_apply _ h2 h3 h4 h5 hL (o := 0) (by omega) _ _ _ _ x y (by omega) ‹_›
  · rw [outsAt0_D m c t (by omega) h7 hc (by omega)]
    constructor
    all_goals
      frame_out
      generalize hf : k0_pay2 (iblk m c 0 t) (iblk m c 2 t) (iblk m c 1 t) (iblk m c 3 t) (View.read (Elt Ideal) (View.whole cc0_scratch0) _) = f
      have hu := hf.symm.trans (congrArg (k0_pay2 (iblk m c 0 t) (iblk m c 2 t) (iblk m c 1 t) (iblk m c 3 t)) (Memref.IsWhole.read_unread _ _))
      have hL := fun r k => (NormTile.canon_whole f (ix2 r k)).trans ((congrFun hu _).trans (hl r k))
      generalize iblk m c 4 t = B2 at *
      generalize iblk m c 5 t = B3 at *
      generalize iblk m c 6 t = B4 at *
      generalize iblk m c 7 t = B5 at *
      clear hu hf hl
      canon_tiles x h
      · exact NormTile.dx_apply _ h2 h3 h4 h5 hL (o := 384) (by omega) _ _ _ _ x y ‹_› ‹_›
      · exact NormTile.dx_apply _ h2 h3 h4 h5 hL (o := 256) (by omega) _ _ _ _ x y ‹_› ‹_›
      · exact NormTile.dx_apply _ h2 h3 h4 h5 hL (o := 128) (by omega) _ _ _ _ x y ‹_› ‹_›
      · exact NormTile.dx_apply _ h2 h3 h4 h5 hL (o := 0) (by omega) _ _ _ _ x y (by omega) ‹_›

theorem final_dx : (dats m 0 c).arrAt 8 cfg0.N = fun i : S8192x2048.Idx => ((dxAt X E G (dh P Q W U) (i 0) (i 1) : ℝ) : EReal) := by
  refine (dats m 0 c).arrAt_eq_of_covers 8 _ (by decide +kernel) fun t hf y => ?_
  blk_simp
  have hy : ((cfg0.win 8).blk t).view.emb y = ix2 (rowOf t (y 0)) (y 1) := by blk_ext [idx t, rowOf]
  rw [after0_8]
  exact (after_dx m c hx hg hw hv hp hq he t ((flush0_8 t).mp hf) y).1.trans
    (congrArg (fun i : S8192x2048.Idx => ((dxAt X E G (dh P Q W U) (i 0) (i 1) : ℝ) : EReal)) hy).symm

theorem final_dxb : (dats m 0 c).arrAt 9 cfg0.N = fun i : S8192x2048.Idx => ((dxAt X E G (dh P Q W U) (i 0) (i 1) : ℝ) : EReal) := by
  refine (dats m 0 c).arrAt_eq_of_covers 9 _ (by decide +kernel) fun t hf y => ?_
  blk_simp
  have hy : ((cfg0.win 9).blk t).view.emb y = ix2 (rowOf t (y 0)) (y 1) := by blk_ext [idx t, rowOf]
  rw [after0_9]
  exact (after_dx m c hx hg hw hv hp hq he t ((flush0_9 t).mp hf) y).2.trans
    (congrArg (fun i : S8192x2048.Idx => ((dxAt X E G (dh P Q W U) (i 0) (i 1) : ℝ) : EReal)) hy).symm

end Cert.FfnDhKernelIdeal.Real

end
-- ==== Proof.FfnDhRef.lean ====
/- The reference of the feed-forward products' gradient over the reals: what each stage of the normed products'
   vector-Jacobian product is for real arguments. -/
module

public import proofs.«01_k».proof.Proof.LossRef
public import proofs.«01_k».proof.Proof.Gen.FfnDhReferenceIdeal.Read

@[expose] public section

set_option maxRecDepth 16384

noncomputable section

namespace Cert.FfnDhReferenceIdeal.Real

open Cert.FfnDhReferenceIdeal Cert.FfnDhReferenceIdeal.Read Idealize.ShloMosaic Idealize.ShloMosaic.TcCoe Cert.Lift

variable {x0 x6 : (⟨S8192x2048, .f32⟩ : BufTy).Contents (Elt Ideal)} {x1 : (⟨S2048, .f32⟩ : BufTy).Contents (Elt Ideal)}
  {x2 x3 : (⟨S2048x5632, .f32⟩ : BufTy).Contents (Elt Ideal)} {x4 x5 : (⟨S8192x5632, .f32⟩ : BufTy).Contents (Elt Ideal)}
  {X E : Fin 8192 → Fin 2048 → ℝ} {G : Fin 2048 → ℝ} {W V : Fin 2048 → Fin 5632 → ℝ} {P Q : Fin 8192 → Fin 5632 → ℝ}
  (hx : ∀ i, x0 i = ((X (i 0) (i 1) : ℝ) : EReal)) (hg : ∀ i, x1 i = ((G (i 0) : ℝ) : EReal))
  (hw : ∀ i, x2 i = ((W (i 0) (i 1) : ℝ) : EReal)) (hv : ∀ i, x3 i = ((V (i 0) (i 1) : ℝ) : EReal))
  (hp : ∀ i, x4 i = ((P (i 0) (i 1) : ℝ) : EReal)) (hq : ∀ i, x5 i = ((Q (i 0) (i 1) : ℝ) : EReal))
  (he : ∀ i, x6 i = ((E (i 0) (i 1) : ℝ) : EReal))

theorem idx23 (i : S1x2048.Idx) : idx_main_v23 i = LossReferenceIdeal.Real.col (i 1) := LossReferenceIdeal.Real.idx33 i
theorem idx29 (i : S8192x1.Idx) : idx_main_v29 i = LossReferenceIdeal.Real.row (i 0) := LossReferenceIdeal.Real.idx39 i

include hw hv hp hq in
/-- The cotangent of the normed rows. -/
theorem dh (i) : val_main_v20 (F := Ideal) x2 x3 x4 x5 i = ((∑ l, (P (i 0) l * W (i 1) l + Q (i 0) l * V (i 1) l) : ℝ) : EReal) := by
  simp only [val_main_v20_apply, val_main_v19_apply, val_main_v18_apply, hw, hv, hp, hq, Ideal.addf_def, ← EReal.coe_mul, coe_sum, ← EReal.coe_add]
  refine congrArg (fun r : ℝ => (r : EReal)) ?_
  rw [Finset.sum_add_distrib]
  exact add_comm _ _

include hx

theorem root (i) : val_main_v7 (F := Ideal) x0 i = ((rms (X (i 0)) : ℝ) : EReal) := LossReferenceIdeal.Real.root hx i
theorem coef (i) : val_main_v10 (F := Ideal) x0 i
    = ((-(1 / 2) * (rms (X (i 0)) / ((∑ k, X (i 0) k * X (i 0) k) / (2048 : ℕ) + eps)) : ℝ) : EReal) := LossReferenceIdeal.Real.coef hx i
theorem unit (i) : val_main_v12 (F := Ideal) x0 i = ((X (i 0) (i 1) * rms (X (i 0)) : ℝ) : EReal) := LossReferenceIdeal.Real.unit hx i

include hw hv hp hq

/-- The gradient of the gain. -/
theorem dgain (i) : val_main_v43 (F := Ideal) x0 x2 x3 x4 x5 i
    = ((∑ r, (∑ l, (P r l * W (i 1) l + Q r l * V (i 1) l)) * (X r (i 1) * rms (X r)) : ℝ) : EReal) := by
  simp only [val_main_v43_apply, val_main_v26_apply, val_main_v23_apply, idx23, val_main_v22_apply, val_main_v21_apply, unit hx, dh hw hv hp hq,
    val_main_cst_3_apply, val_main_cst_4_apply, Ideal.mulf_def, Ideal.ofBits_def, f32_zero, ← EReal.coe_mul, coe_sum, ← EReal.coe_add, zero_add]
  simp only [Finset.univ_unique, Finset.sum_singleton]
  refine congrArg (fun r : ℝ => (r : EReal)) (Finset.sum_congr rfl fun r _ => ?_)
  exact mul_comm _ _

include hg

theorem dxh (i) : val_main_v25 (F := Ideal) x1 x2 x3 x4 x5 i = (((∑ l, (P (i 0) l * W (i 1) l + Q (i 0) l * V (i 1) l)) * G (i 1) : ℝ) : EReal) := by
  simp only [val_main_v25_apply, val_main_v24_apply, val_main_v13_apply, dh hw hv hp hq, hg, Ideal.mulf_def, ← EReal.coe_mul]
  rfl

include he

/-- The gradient of the rows, with the residual's. -/
theorem dx (i) : val_main_v41 (F := Ideal) x0 x1 x2 x3 x4 x5 x6 i
    = ((E (i 0) (i 1) + rmsGrad (X (i 0)) (fun k => (∑ l, (P (i 0) l * W k l + Q (i 0) l * V k l)) * G k) (i 1) : ℝ) : EReal) := by
  simp only [val_main_v41_apply, val_main_v40_apply, val_main_v39_apply, val_main_v38_apply, val_main_v37_apply, val_main_v36_apply,
    val_main_v35_apply, val_main_v34_apply, val_main_v33_apply, val_main_v32_apply, val_main_v31_apply, val_main_v30_apply,
    val_main_v29_apply, idx29, val_main_v28_apply, val_main_v27_apply, dxh hx hg hw hv hp hq, root hx, coef hx, hx, he, val_main_cst_5_apply,
    val_main_cst_6_apply, val_main_cst_7_apply, Ideal.mulf_def, Ideal.addf_def, Ideal.hostDivf_def, Ideal.ofBits_def, f32_zero, f32_width,
    ← EReal.coe_mul, coe_sum, ← EReal.coe_add, zero_add, coe_div_width]
  congr 1
  simp only [Finset.univ_unique, Finset.sum_singleton]
  rw [add_assoc, add_assoc]
  refine congrArg (E (i 0) (i 1) + ·) ?_
  rw [← add_assoc]
  exact rmsGrad_eq (X (i 0)) (fun k => (∑ l, (P (i 0) l * W k l + Q (i 0) l * V k l)) * G k) (i 1) _ rfl

end Cert.FfnDhReferenceIdeal.Real

end
-- ==== Proof.FfnDh.lean ====
/- The feed-forward products' claims: the frames and the equality of the three results over the reals, at finite arguments. -/
module

public import proofs.«01_k».proof.Defs
public import proofs.«01_k».proof.Proof.FfnDhKer
public import proofs.«01_k».proof.Proof.FfnDhRef
public import proofs.«01_k».proof.Proof.Gen.FfnDhKernel.Frame
public import proofs.«01_k».proof.Proof.Gen.Pre_ffn_dh_finite
public import proofs.«01_k».proof.Proof.Gen.FfnDhReferenceIdeal.Run

@[expose] public section

set_option maxRecDepth 16384

noncomputable section

namespace Cert.FfnDh

open Idealize.ShloMosaic Idealize.ShloMosaic.TcCoe Idealize.SL.Sem Cert.Lift

/-- What the precondition says of the seven arguments. -/
theorem finite {x : FVec Ideal Cert.FfnDhKernelIdeal.S8192x2048 .f32} {g : FVec Ideal Cert.FfnDhKernelIdeal.S2048 .f32}
    {w v : FVec Ideal Cert.FfnDhKernelIdeal.S2048x5632 .f32} {p q : FVec Ideal Cert.FfnDhKernelIdeal.S8192x5632 .f32}
    {e : FVec Ideal Cert.FfnDhKernelIdeal.S8192x2048 .f32} (h : Cert.Pre_ffn_dh_finite.fn (F := Ideal) x g w v p q e = fun _ => 1#1) :
    (∃ X : Fin 8192 → Fin 2048 → ℝ, ∀ i, x i = ((X (i 0) (i 1) : ℝ) : EReal)) ∧ (∃ G : Fin 2048 → ℝ, ∀ i, g i = ((G (i 0) : ℝ) : EReal))
      ∧ (∃ W : Fin 2048 → Fin 5632 → ℝ, ∀ i, w i = ((W (i 0) (i 1) : ℝ) : EReal))
      ∧ (∃ V : Fin 2048 → Fin 5632 → ℝ, ∀ i, v i = ((V (i 0) (i 1) : ℝ) : EReal))
      ∧ (∃ P : Fin 8192 → Fin 5632 → ℝ, ∀ i, p i = ((P (i 0) (i 1) : ℝ) : EReal))
      ∧ (∃ Q : Fin 8192 → Fin 5632 → ℝ, ∀ i, q i = ((Q (i 0) (i 1) : ℝ) : EReal))
      ∧ ∃ E : Fin 8192 → Fin 2048 → ℝ, ∀ i, e i = ((E (i 0) (i 1) : ℝ) : EReal) := by
  have h0 := congrFun h (fun a => a.elim0)
  dsimp only [Cert.Pre_ffn_dh_finite.fn, Cert.Pre_ffn_dh_finite.fn_part1] at h0
  obtain ⟨h1, he⟩ := IntOp.andi_eq_one.1 h0
  obtain ⟨h2, hq⟩ := IntOp.andi_eq_one.1 h1
  obtain ⟨h3, hp⟩ := IntOp.andi_eq_one.1 h2
  obtain ⟨h4, hv⟩ := IntOp.andi_eq_one.1 h3
  obtain ⟨h5, hw⟩ := IntOp.andi_eq_one.1 h4
  obtain ⟨hx, hg⟩ := IntOp.andi_eq_one.1 h5
  exact ⟨reals2 fun i => finite_of_all x _ (fun _ => f32_top) _ _ _ _ hx i, reals1 fun i => finite_of_all g _ (fun _ => f32_top) _ _ _ _ hg i,
    reals2 fun i => finite_of_all w _ (fun _ => f32_top) _ _ _ _ hw i, reals2 fun i => finite_of_all v _ (fun _ => f32_top) _ _ _ _ hv i,
    reals2 fun i => finite_of_all p _ (fun _ => f32_top) _ _ _ _ hp i, reals2 fun i => finite_of_all q _ (fun _ => f32_top) _ _ _ _ hq i,
    reals2 fun i => finite_of_all e _ (fun _ => f32_top) _ _ _ _ he i⟩

theorem algebraic : Cert.algebraic_FfnDhKernelIdeal_FfnDhReferenceIdeal_pre_ffn_dh_finite := by
  pair_intro
  · run_from Cert.FfnDhKernelIdeal.Value.run_blocks m g
  · refine (θ_run _ _ _).mono (fun _ h c => ?_) (Cert.FfnDhReferenceIdeal.Value.run m' g')
    obtain ⟨h0, h1, h2, ha⟩ := h c
    obtain ⟨⟨X, hx⟩, ⟨G, hg⟩, ⟨W, hw⟩, ⟨V, hv⟩, ⟨P, hp⟩, ⟨Q, hq⟩, E, he⟩ := finite (hpre c)
    obtain ⟨e0, e1, e2, e3, e4, e5, e6⟩ := hagree c
    refine ⟨h0.trans ?_, h1.trans ?_, h2.trans ?_, ha⟩
    · rw [Cert.FfnDhReferenceIdeal.Read.val_main_v41_eq, e0, e1, e2, e3, e4, e5, e6]
      exact Eq.trans (funext fun i => Cert.FfnDhReferenceIdeal.Real.dx hx hg hw hv hp hq he i)
        (Cert.FfnDhKernelIdeal.Real.final_dx m c hx hg hw hv hp hq he).symm
    · rw [Cert.FfnDhReferenceIdeal.Read.val_main_v42_eq, e0, e1, e2, e3, e4, e5, e6]
      exact Eq.trans (funext fun i => Cert.FfnDhReferenceIdeal.Real.dx hx hg hw hv hp hq he i)
        (Cert.FfnDhKernelIdeal.Real.final_dxb m c hx hg hw hv hp hq he).symm
    · rw [Cert.FfnDhReferenceIdeal.Read.val_main_v43_eq, e0, e2, e3, e4, e5]
      exact Eq.trans (funext fun i => Cert.FfnDhReferenceIdeal.Real.dgain hx hw hv hp hq i)
        (Cert.FfnDhKernelIdeal.Real.final_dgain m c hx hw hv hp hq).symm

theorem frame_kernel : Cert.quiescent_FfnDhKernel := fun m ρ _ => Cert.FfnDhKernel.Gen.frame m ρ
theorem frame_ideal : Cert.quiescent_FfnDhKernelIdeal := fun m ρ _ => Cert.FfnDhKernelIdeal.Gen.frame m ρ
theorem frame_ideal_pre : Cert.quiescent_FfnDhKernelIdeal_pre_ffn_dh_finite := fun m ρ _ => Cert.FfnDhKernelIdeal.Gen.frame m ρ
theorem frame_reference : Cert.quiescent_FfnDhReferenceIdeal := fun m ρ _ =>
  (θ_run Cert.FfnDhReferenceIdeal.defs _ _).mono (fun r h => ⟨fun c => (h c).2.2.2, sem_eq_zero_of_no_sems (by decide) r.2⟩)
    (Cert.FfnDhReferenceIdeal.Value.run m ρ)
theorem frame_reference_pre : Cert.quiescent_FfnDhReferenceIdeal_pre_ffn_dh_finite := fun m ρ _ => frame_reference m ρ trivial

end Cert.FfnDh

end
-- ==== Proof.ProjDxKer.lean ====
/- The backward kernel of the input projection and its norm over the reals: the sum over the column tiles the scratch
   holds, what the last point of a row tile leaves, the sum of the gain's gradient over the row tiles, and the three arrays. -/
module

public import proofs.«01_k».proof.Proof.NormTile
public import proofs.«01_k».proof.Proof.Gen.ProjDxKernelIdeal.Value
public import Idealize.ShloMosaic.Lib.StableHlo.RunRead

@[expose] public section

set_option maxRecDepth 16384

noncomputable section

namespace Cert.ProjDxKernelIdeal.Real

open Cert.ProjDxKernelIdeal Cert.ProjDxKernelIdeal.Gen Idealize.ShloMosaic Idealize.ShloMosaic.TcCoe Idealize.SL.Sem Cert.Lift
open Idealize.ShloMosaic.Pipeline (Dat)

theorem idx : ∀ t : Fin cfg0.N, win0_0.index t = ![t.val / 8, t.val % 8] ∧ win0_1.index t = ![t.val % 8, 0, 0]
    ∧ win0_2.index t = ![t.val / 8, 0] ∧ win0_3.index t = ![t.val / 8, 0] ∧ win0_4.index t = ![0, 0]
    ∧ win0_5.index t = ![t.val / 8, 0] ∧ win0_6.index t = ![t.val / 8, 0] ∧ win0_7.index t = ![t.val / 8, 0] ∧ win0_8.index t = ![0, 0] :=
  (by decide +kernel : ∀ t : Fin grid0.N, _)

theorem lt128 (t : Fin cfg0.N) : t.val < 128 := lt_of_lt_of_eq t.isLt N_0
/-- Row `r` of a grid point's row tile. -/
def rowOf (t : Fin cfg0.N) (r : Fin 512) : Fin 8192 := ⟨t.val / 8 * 512 + r.val, by have := lt128 t; omega⟩
/-- Column `l` of column tile `s`. -/
def colOf (s : Fin 8) (l : Fin 896) : Fin 7168 := ⟨s.val * 896 + l.val, by omega⟩
/-- A grid point's column tile. -/
def tileOf (t : Fin cfg0.N) : Fin 8 := ⟨t.val % 8, Nat.mod_lt _ (by omega)⟩

theorem product {p : FVec Ideal S512x896 .bf16} {w : FVec Ideal S1x2048x896 .bf16} (a : FVec Ideal S512x2048 .f32)
    {P : Fin 512 → Fin 896 → ℝ} {W : Fin 2048 → Fin 896 → ℝ} (hp : ∀ r l, p (ix2 r l) = ((P r l : ℝ) : EReal))
    (hw : ∀ k l, w (ix3 0 k l) = ((W k l : ℝ) : EReal)) (r : Fin 512) (k : Fin 2048) :
    k0_pay2 (F := Ideal) p w a (ix2 r k) = a (ix2 r k) + ((∑ l, P r l * W k l : ℝ) : EReal) := by
  pointwise [k0_pay2]
  simp only [hp, hw, ← EReal.coe_mul, coe_sum]

variable (m : (ℓ : Loc nD τ sig) → Buf (Elt Ideal) ℓ) (c : Dev nD) {X E : Fin 8192 → Fin 2048 → ℝ} {G : Fin 2048 → ℝ}
  {P : Fin 8192 → Fin 7168 → ℝ} {W : Fin 2048 → Fin 7168 → ℝ}
  (hx : ∀ i : S8192x2048.Idx, m ((c : Thread nD τ).loc main_arg0) i = ((X (i 0) (i 1) : ℝ) : EReal))
  (hg : ∀ i : S2048.Idx, m ((c : Thread nD τ).loc main_arg1) i = ((G (i 0) : ℝ) : EReal))
  (hw : ∀ i : S2048x7168.Idx, m ((c : Thread nD τ).loc main_arg2) i = ((W (i 0) (i 1) : ℝ) : EReal))
  (hp : ∀ i : S8192x7168.Idx, m ((c : Thread nD τ).loc main_arg3) i = ((P (i 0) (i 1) : ℝ) : EReal))
  (he : ∀ i : S8192x2048.Idx, m ((c : Thread nD τ).loc main_arg4) i = ((E (i 0) (i 1) : ℝ) : EReal))

/-- The gradient of the normed rows. -/
def dh (P : Fin 8192 → Fin 7168 → ℝ) (W : Fin 2048 → Fin 7168 → ℝ) (p : Fin 8192) (k : Fin 2048) : ℝ := ∑ l, P p l * W k l

/-! ## The blocks -/

include hp in
theorem iblk_p (t : Fin cfg0.N) (r : Fin 512) (l : Fin 896) : iblk m c 0 t (ix2 r l) = ((P (rowOf t r) (colOf (tileOf t) l) : ℝ) : EReal) := by
  refine Eq.trans ?_ (hp (ix2 (rowOf t r) (colOf (tileOf t) l)))
  blk_simp [iblk]
  entry_read
  pointwise
  blk_ext [idx t, rowOf, colOf, tileOf]

theorem entry_w : V m c main_v11 = transpose S8x2048x896 [1, 0, 2]
    (shapeCast S2048x8x896 (m ((c : Thread nD τ).loc main_arg2)) shapeCasts_S2048x7168_S2048x8x896) transposes_S2048x8x896_S8x2048x896_1_0_2 := by
  unfold V
  after_reads_simp
  rfl

include hw in
theorem iblk_w (t : Fin cfg0.N) (k : Fin 2048) (l : Fin 896) : iblk m c 1 t (ix3 0 k l) = ((W k (colOf (tileOf t) l) : ℝ) : EReal) := by
  refine Eq.trans ?_ (hw (ix2 k (colOf (tileOf t) l)))
  unfold iblk
  show V m c main_v11 _ = _
  have e : ((cfg0.win 1).blk t).view.emb (ix3 0 k l) = ix3 (tileOf t) k l := by blk_ext [idx t, tileOf]
  rw [entry_w, e]
  refine (transpose_apply [1, 0, 2] _ _ (ix3 (tileOf t) k l) (ix3 k (tileOf t) l) (fun b => match b with
    | ⟨0, _⟩ => rfl
    | ⟨1, _⟩ => rfl
    | ⟨2, _⟩ => rfl)).trans ?_
  exact shapeCast_apply _ _ (ix3 k (tileOf t) l) (ix2 k (colOf (tileOf t) l)) (by
    rewrite [Shape.rowMajor_val_three, Shape.rowMajor_val_two]
    show k.val * 7168 + ((tileOf t).val * 896 + l.val) = (k.val * 8 + (tileOf t).val) * 896 + l.val
    omega)

include hx in
theorem iblk_x (t : Fin cfg0.N) (r : Fin 512) (k : Fin 2048) : iblk m c 2 t (ix2 r k) = ((X (rowOf t r) k : ℝ) : EReal) := by
  refine Eq.trans ?_ (hx (ix2 (rowOf t r) k))
  blk_ext [iblk, V_main_arg0, idx t, rowOf]

include he in
theorem iblk_e (t : Fin cfg0.N) (r : Fin 512) (k : Fin 2048) : iblk m c 5 t (ix2 r k) = ((E (rowOf t r) k : ℝ) : EReal) := by
  refine Eq.trans ?_ (he (ix2 (rowOf t r) k))
  blk_ext [iblk, V_main_arg4, idx t, rowOf]

include hg in
theorem iblk_g (t : Fin cfg0.N) (k : Fin 2048) : iblk m c 4 t (ix2 0 k) = ((G k : ℝ) : EReal) := by
  refine Eq.trans ?_ (hg (ix1 k))
  blk_simp [iblk]
  entry_read
  pointwise
  blk_ext [idx t]

include hx in
theorem iblk_r (t : Fin cfg0.N) (r : Fin 512) : iblk m c 3 t (ix2 r 0) = ((rms (X (rowOf t r)) : ℝ) : EReal) := by
  blk_simp [iblk]
  entry_read
  pointwise
  have e : ((View.whole main_v7).slice (win0_3.rect t)).emb (ix2 r 0) = ix2 (rowOf t r) 0 := by blk_ext [idx t, rowOf]
  rw [e]
  have hk (k : Fin 2048) : m ((c : Thread nD τ).loc main_arg0) (ix2 (rowOf t r) k) = ((X (rowOf t r) k : ℝ) : EReal) := hx (ix2 _ k)
  show Ideal.rsqrt (Ideal.div (∑ k : Fin 2048, HMul.hMul (α := EReal) (β := EReal) (m ((c : Thread nD τ).loc main_arg0) (ix2 (rowOf t r) k))
    (m ((c : Thread nD τ).loc main_arg0) (ix2 (rowOf t r) k))) (Ideal.ofBits .f32 0x45000000#32) + Ideal.ofBits .f32 0x358637BD#32) = _
  simp only [hk, ← EReal.coe_mul, coe_sum, f32_width, f32_eps, coe_div_width, ← EReal.coe_add]
  exact coe_rsqrt (mean_sq_pos _)

/-! ## The sum the scratch holds -/

theorem acc_reset (t : Fin cfg0.N) (h : t.val % 8 = 0) (y : S512x2048.Idx) :
    (outsAt0 m c t.val t.isLt).2.2.2 y = k0_pay2 (iblk m c 0 t) (iblk m c 1 t) (k0_pay1 (F := Ideal)) y := by
  rw [outsAt0_A m c t h (by omega)]; frame_out
  all_goals rfl

theorem acc_step (t : Fin cfg0.N) (h : ¬t.val % 8 = 0) (y : S512x2048.Idx) :
    (outsAt0 m c t.val t.isLt).2.2.2 y = k0_pay2 (iblk m c 0 t) (iblk m c 1 t)
      (outsAt0 m c (t.val - 1) (Nat.lt_of_le_of_lt (Nat.sub_le _ _) t.isLt)).2.2.2 y := by
  by_cases h1 : t.val % 8 = 7
  · by_cases h2 : t.val < 8
    · rw [outsAt0_C m c t h h1 h2 (by omega)]; frame_out
      exact congrFun (congrArg (k0_pay2 _ _) (Memref.IsWhole.read_unread _ _)) y
    · rw [outsAt0_D m c t h h1 h2 (by omega)]; frame_out
      exact congrFun (congrArg (k0_pay2 _ _) (Memref.IsWhole.read_unread _ _)) y
  · rw [outsAt0_B m c t h h1]; frame_out
    exact congrFun (congrArg (k0_pay2 _ _) (Memref.IsWhole.read_unread _ _)) y

include hp hw

theorem acc_last (t : Fin cfg0.N) (h : t.val % 8 = 7) (r : Fin 512) (k : Fin 2048) :
    k0_pay2 (iblk m c 0 t) (iblk m c 1 t) (outsAt0 m c (t.val - 1) (Nat.lt_of_le_of_lt (Nat.sub_le _ _) t.isLt)).2.2.2 (ix2 r k)
      = ((dh P W (rowOf t r) k : ℝ) : EReal) := by
  rw [← acc_step m c t (by omega), Pipeline.eq_sum_fin_of_reset_step_apply_of_flush (fun n h => (outsAt0 m c n h).2.2.2) 8 (fun _ => 0)
    (fun t y => ((∑ l, P (rowOf t (y 0)) (colOf (tileOf t) l) * W (y 1) (colOf (tileOf t) l) : ℝ) : EReal))
    (fun t h y => by
      idx_vars y
      rw [acc_reset m c t h]
      refine (product _ (iblk_p m c hp t) (iblk_w m c hw t) _ _).trans ?_
      refine congrArg (· + _) ?_
      pointwise [k0_pay1])
    (fun t h y => by
      idx_vars y
      rw [acc_step m c t h]
      exact product _ (iblk_p m c hp t) (iblk_w m c hw t) _ _) t h, zero_add, coe_sum]
  refine congrArg (fun r : ℝ => (r : EReal)) ?_
  refine Eq.trans (Finset.sum_congr rfl fun s _ => ?_) (Fin.sum_mul_add_fin 8 896 fun l => P (rowOf t r) l * W k l)
  refine congrArg₂ (fun (p : Fin 8192) (s : Fin 8) => ∑ l, P p (colOf s l) * W k (colOf s l)) (Fin.ext ?_) (Fin.ext ?_)
  · show (8 * (t.val / 8) + s.val) / 8 * 512 + r.val = t.val / 8 * 512 + r.val
    omega
  · show (8 * (t.val / 8) + s.val) % 8 = s.val
    omega

/-- What the tile reads back after the last sum. -/
theorem stored_last (t : Fin cfg0.N) (h : t.val % 8 = 7) (r : Fin 512) (k : Fin 2048) :
    View.canon (NormTile.stored (k0_pay2 (iblk m c 0 t) (iblk m c 1 t)
      (outsAt0 m c (t.val - 1) (Nat.lt_of_le_of_lt (Nat.sub_le _ _) t.isLt)).2.2.2)) (ix2 r k) = ((dh P W (rowOf t r) k : ℝ) : EReal) :=
  (NormTile.canon_whole _ _).trans (acc_last m c hw hp t h r k)

/-! ## The gain's gradient -/

theorem gain_hold (t : Fin cfg0.N) (h : ¬t.val % 8 = 7) :
    (outsAt0 m c t.val t.isLt).2.2.1 = (outsAt0 m c (t.val - 1) (Nat.lt_of_le_of_lt (Nat.sub_le _ _) t.isLt)).2.2.1 := by
  by_cases h0 : t.val % 8 = 0
  · rw [outsAt0_A m c t h0 h]; rfl
  · rw [outsAt0_B m c t h0 h]; rfl

/-- A row tile's share of the gain's gradient. -/
def tileGain (X : Fin 8192 → Fin 2048 → ℝ) (H : Fin 8192 → Fin 2048 → ℝ) (k : Fin 2048) (n : ℕ) : ℝ :=
  ∑ r : Fin 512, if h : n * 512 + r.val < 8192 then H ⟨n * 512 + r.val, h⟩ k * (X ⟨n * 512 + r.val, h⟩ k * rms (X ⟨n * 512 + r.val, h⟩)) else 0

omit hp hw in
theorem tileGain_at (H : Fin 8192 → Fin 2048 → ℝ) (k : Fin 2048) (t : Fin cfg0.N) :
    ∑ r, H (rowOf t r) k * (X (rowOf t r) k * rms (X (rowOf t r))) = tileGain X H k (t.val / 8) := by
  refine Finset.sum_congr rfl fun r _ => ?_
  rw [dif_pos (show t.val / 8 * 512 + r.val < 8192 from (rowOf t r).isLt)]
  rfl

include hx

theorem gain_tile (t : Fin cfg0.N) (h : t.val % 8 = 7) (k : Fin 2048) :
    NormTile.gains (View.whole cc0_scratch0) (NormTile.stored (k0_pay2 (iblk m c 0 t) (iblk m c 1 t)
      (outsAt0 m c (t.val - 1) (Nat.lt_of_le_of_lt (Nat.sub_le _ _) t.isLt)).2.2.2)) (iblk m c 2 t) (iblk m c 3 t) (ix2 0 k)
      = ((tileGain X (dh P W) k (t.val / 8) : ℝ) : EReal) := by
  rw [← tileGain_at]
  exact NormTile.gains_apply _ (iblk_x m c hx t) (iblk_r m c hx t) (stored_last m c hw hp t h) k

theorem gain_set (t : Fin cfg0.N) (h : t.val % 8 = 7) (h2 : t.val < 8) (k : Fin 2048) :
    (outsAt0 m c t.val t.isLt).2.2.1 (ix2 0 k) = ((tileGain X (dh P W) k (t.val / 8) : ℝ) : EReal) := by
  refine Eq.trans ?_ (gain_tile m c hx hw hp t h k)
  rw [outsAt0_C m c t (by omega) h h2 (by omega)]; frame_out
  generalize hf : k0_pay2 (iblk m c 0 t) (iblk m c 1 t) (View.read (Elt Ideal) (View.whole cc0_scratch0) _) = f
  have hu := hf.symm.trans (congrArg (k0_pay2 (iblk m c 0 t) (iblk m c 1 t)) (Memref.IsWhole.read_unread _ _))
  rw [← hu]
  rfl

theorem gain_step (t : Fin cfg0.N) (h : t.val % 8 = 7) (h2 : ¬t.val < 8) (k : Fin 2048) :
    (outsAt0 m c t.val t.isLt).2.2.1 (ix2 0 k) = (outsAt0 m c (t.val - 1) (Nat.lt_of_le_of_lt (Nat.sub_le _ _) t.isLt)).2.2.1 (ix2 0 k)
      + ((tileGain X (dh P W) k (t.val / 8) : ℝ) : EReal) := by
  rw [← gain_tile m c hx hw hp t h k, outsAt0_D m c t (by omega) h h2 (by omega)]; frame_out
  generalize hf : k0_pay2 (iblk m c 0 t) (iblk m c 1 t) (View.read (Elt Ideal) (View.whole cc0_scratch0) _) = f
  have hu := hf.symm.trans (congrArg (k0_pay2 (iblk m c 0 t) (iblk m c 1 t)) (Memref.IsWhole.read_unread _ _))
  rw [← hu]
  exact congrArg (· + _) (congrFun (shapeCast_self _ _) _)

theorem gain_upto (k : Fin 2048) (n : ℕ) (h : n < cfg0.N) (h7 : 7 ≤ n) :
    (outsAt0 m c n h).2.2.1 (ix2 0 k) = ((∑ i ∈ Finset.range ((n + 1) / 8), tileGain X (dh P W) k i : ℝ) : EReal) := by
  induction n with
  | zero => omega
  | succ n ih =>
    by_cases h8 : (n + 1) % 8 = 7
    · by_cases h2 : n + 1 < 8
      · rw [gain_set m c hx hw hp ⟨n + 1, h⟩ h8 h2 k, show (n + 1 + 1) / 8 = 0 + 1 by omega, Finset.sum_range_succ, Finset.sum_range_zero,
          zero_add, show (⟨n + 1, h⟩ : Fin cfg0.N).val / 8 = 0 from Nat.div_eq_of_lt h2]
      · refine (gain_step m c hx hw hp ⟨n + 1, h⟩ h8 h2 k).trans ?_
        rw [show (n + 1 + 1) / 8 = (n + 1) / 8 + 1 by omega, Finset.sum_range_succ, EReal.coe_add]
        exact congrArg (· + _) (ih (Nat.lt_of_succ_lt h) (by omega))
    · refine (congrFun (gain_hold m c hw hp ⟨n + 1, h⟩ h8) _).trans ?_
      rw [show (n + 1 + 1) / 8 = (n + 1) / 8 by omega]
      exact ih (Nat.lt_of_succ_lt h) (by omega)

/-- The last grid point. -/
def t0_last : Fin cfg0.N := ⟨127, by have : cfg0.N = 128 := N_0; omega⟩

/-- The gradient of the gain. -/
theorem final_dgain : (dats m 0 c).arrAt 8 cfg0.N = fun i : S1x2048.Idx =>
    ((∑ p, dh P W p (i 1) * (X p (i 1) * rms (X p)) : ℝ) : EReal) := by
  refine (dats m 0 c).arrAt_eq_of_after_last 8 t0_last (by decide +kernel) _ fun j => ?_
  blk_simp
  rw [after0_8]
  idx_vars j
  obtain rfl : j0 = 0 := Subsingleton.elim _ _
  refine (gain_upto m c hx hw hp j1 127 t0_last.isLt (by omega)).trans (congrArg (fun r : ℝ => (r : EReal)) ?_)
  rw [show (127 + 1) / 8 = 16 from rfl, Finset.sum_range]
  refine Eq.trans (Finset.sum_congr rfl fun n _ => Finset.sum_congr rfl fun r _ => dif_pos (by omega))
    (Fin.sum_mul_add_fin 16 512 fun p => dh P W p j1 * (X p j1 * rms (X p)))

/-! ## The gradient of the rows -/

/-- The gradient of the rows with the residual's added. -/
def dxAt (X E : Fin 8192 → Fin 2048 → ℝ) (G : Fin 2048 → ℝ) (H : Fin 8192 → Fin 2048 → ℝ) (p : Fin 8192) (k : Fin 2048) : ℝ :=
  E p k + rmsGrad (X p) (fun k => H p k * G k) k

/-- The same at an entry of a grid point's row tile. -/
def tileDx (X E : Fin 8192 → Fin 2048 → ℝ) (G : Fin 2048 → ℝ) (H : Fin 8192 → Fin 2048 → ℝ) (t : Fin cfg0.N) (y : S512x2048.Idx) : EReal :=
  ((dxAt X E G H (rowOf t (y 0)) (y 1) : ℝ) : EReal)

include hg he

set_option maxHeartbeats 1000000 in
theorem after_dx (t : Fin cfg0.N) (h7 : t.val % 8 = 7) (y : S512x2048.Idx) :
    (outsAt0 m c t.val t.isLt).1 y = tileDx X E G (dh P W) t y ∧ (outsAt0 m c t.val t.isLt).2.1 y = tileDx X E G (dh P W) t y := by
  have h2 := iblk_x m c hx t
  have h3 := iblk_r m c hx t
  have h4 := iblk_g m c hg t
  have h5 := iblk_e m c he t
  have hl := acc_last m c hw hp t h7
  by_cases hc : t.val < 8
  · rw [outsAt0_C m c t (by omega) h7 hc (by omega)]
    constructor
    all_goals
      frame_out
      generalize hf : k0_pay2 (iblk m c 0 t) (iblk m c 1 t) (View.read (Elt Ideal) (View.whole cc0_scratch0) _) = f
      have hu := hf.symm.trans (congrArg (k0_pay2 (iblk m c 0 t) (iblk m c 1 t)) (Memref.IsWhole.read_unread _ _))
      have hL := fun r k => (NormTile.canon_whole f (ix2 r k)).trans ((congrFun hu _).trans (hl r k))
      generalize iblk m c 2 t = B2 at *
      generalize iblk m c 3 t = B3 at *
      generalize iblk m c 4 t = B4 at *
      generalize iblk m c 5 t = B5 at *
      clear hu hf hl
      canon_tiles x h
      · exact NormTile.dx_apply _ h2 h3 h4 h5 hL (o := 384) (by omega) _ _ _ _ x y ‹_› ‹_›
      · exact NormTile.dx_apply _ h2 h3 h4 h5 hL (o := 256) (by omega) _ _ _ _ x y ‹_› ‹_›
      · exact NormTile.dx_apply _ h2 h3 h4 h5 hL (o := 128) (by omega) _ _ _ _ x y ‹_› ‹_›
      · exact NormTile.dx_apply _ h2 h3 h4 h5 hL (o := 0) (by omega) _ _ _ _ x y (by omega) ‹_›
  · rw [outsAt0_D m c t (by omega) h7 hc (by omega)]
    constructor
    all_goals
      frame_out
      generalize hf : k0_pay2 (iblk m c 0 t) (iblk m c 1 t) (View.read (Elt Ideal) (View.whole cc0_scratch0) _) = f
      have hu := hf.symm.trans (congrArg (k0_pay2 (iblk m c 0 t) (iblk m c 1 t)) (Memref.IsWhole.read_unread _ _))
      have hL := fun r k => (NormTile.canon_whole f (ix2 r k)).trans ((congrFun hu _).trans (hl r k))
      generalize iblk m c 2 t = B2 at *
      generalize iblk m c 3 t = B3 at *
      generalize iblk m c 4 t = B4 at *
      generalize iblk m c 5 t = B5 at *
      clear hu hf hl
      canon_tiles x h
      · exact NormTile.dx_apply _ h2 h3 h4 h5 hL (o := 384) (by omega) _ _ _ _ x y ‹_› ‹_›
      · exact NormTile.dx_apply _ h2 h3 h4 h5 hL (o := 256) (by omega) _ _ _ _ x y ‹_› ‹_›
      · exact NormTile.dx_apply _ h2 h3 h4 h5 hL (o := 128) (by omega) _ _ _ _ x y ‹_› ‹_›
      · exact NormTile.dx_apply _ h2 h3 h4 h5 hL (o := 0) (by omega) _ _ _ _ x y (by omega) ‹_›

theorem final_dx : (dats m 0 c).arrAt 6 cfg0.N = fun i : S8192x2048.Idx => ((dxAt X E G (dh P W) (i 0) (i 1) : ℝ) : EReal) := by
  refine (dats m 0 c).arrAt_eq_of_covers 6 _ (by decide +kernel) fun t hf y => ?_
  blk_simp
  have hy : ((cfg0.win 6).blk t).view.emb y = ix2 (rowOf t (y 0)) (y 1) := by blk_ext [idx t, rowOf]
  rw [after0_6]
  exact (after_dx m c hx hg hw hp he t ((flush0_6 t).mp hf) y).1.trans
    (congrArg (fun i : S8192x2048.Idx => ((dxAt X E G (dh P W) (i 0) (i 1) : ℝ) : EReal)) hy).symm

theorem final_dxb : (dats m 0 c).arrAt 7 cfg0.N = fun i : S8192x2048.Idx => ((dxAt X E G (dh P W) (i 0) (i 1) : ℝ) : EReal) := by
  refine (dats m 0 c).arrAt_eq_of_covers 7 _ (by decide +kernel) fun t hf y => ?_
  blk_simp
  have hy : ((cfg0.win 7).blk t).view.emb y = ix2 (rowOf t (y 0)) (y 1) := by blk_ext [idx t, rowOf]
  rw [after0_7]
  exact (after_dx m c hx hg hw hp he t ((flush0_7 t).mp hf) y).2.trans
    (congrArg (fun i : S8192x2048.Idx => ((dxAt X E G (dh P W) (i 0) (i 1) : ℝ) : EReal)) hy).symm

end Cert.ProjDxKernelIdeal.Real

end
-- ==== Proof.ProjDxRef.lean ====
/- The reference of the input projection's gradient over the reals: what each stage of the normed projection's
   vector-Jacobian product is for real arguments. -/
module

public import proofs.«01_k».proof.Proof.LossRef
public import proofs.«01_k».proof.Proof.Gen.ProjDxReferenceIdeal.Read

@[expose] public section

set_option maxRecDepth 16384

noncomputable section

namespace Cert.ProjDxReferenceIdeal.Real

open Cert.ProjDxReferenceIdeal Cert.ProjDxReferenceIdeal.Read Idealize.ShloMosaic Idealize.ShloMosaic.TcCoe Cert.Lift

variable {x0 : (⟨S8192x2048, .f32⟩ : BufTy).Contents (Elt Ideal)} {x1 : (⟨S2048, .f32⟩ : BufTy).Contents (Elt Ideal)}
  {x2 : (⟨S2048x7168, .f32⟩ : BufTy).Contents (Elt Ideal)} {x3 : (⟨S8192x7168, .f32⟩ : BufTy).Contents (Elt Ideal)}
  {x4 : (⟨S8192x2048, .f32⟩ : BufTy).Contents (Elt Ideal)}
  {X E : Fin 8192 → Fin 2048 → ℝ} {G : Fin 2048 → ℝ} {W : Fin 2048 → Fin 7168 → ℝ} {P : Fin 8192 → Fin 7168 → ℝ}
  (hx : ∀ i, x0 i = ((X (i 0) (i 1) : ℝ) : EReal)) (hg : ∀ i, x1 i = ((G (i 0) : ℝ) : EReal))
  (hw : ∀ i, x2 i = ((W (i 0) (i 1) : ℝ) : EReal)) (hp : ∀ i, x3 i = ((P (i 0) (i 1) : ℝ) : EReal))
  (he : ∀ i, x4 i = ((E (i 0) (i 1) : ℝ) : EReal))

theorem idx20 (i : S1x2048.Idx) : idx_main_v20 i = LossReferenceIdeal.Real.col (i 1) := LossReferenceIdeal.Real.idx33 i
theorem idx26 (i : S8192x1.Idx) : idx_main_v26 i = LossReferenceIdeal.Real.row (i 0) := LossReferenceIdeal.Real.idx39 i

include hw hp in
/-- The cotangent of the normed rows. -/
theorem dh (i) : val_main_v17 (F := Ideal) x2 x3 i = ((∑ l, P (i 0) l * W (i 1) l : ℝ) : EReal) := by
  simp only [val_main_v17_apply, hw, hp, ← EReal.coe_mul, coe_sum]
  rfl

include hx

theorem root (i) : val_main_v7 (F := Ideal) x0 i = ((rms (X (i 0)) : ℝ) : EReal) := LossReferenceIdeal.Real.root hx i
theorem coef (i) : val_main_v10 (F := Ideal) x0 i
    = ((-(1 / 2) * (rms (X (i 0)) / ((∑ k, X (i 0) k * X (i 0) k) / (2048 : ℕ) + eps)) : ℝ) : EReal) := LossReferenceIdeal.Real.coef hx i
theorem unit (i) : val_main_v12 (F := Ideal) x0 i = ((X (i 0) (i 1) * rms (X (i 0)) : ℝ) : EReal) := LossReferenceIdeal.Real.unit hx i

include hw hp

/-- The gradient of the gain. -/
theorem dgain (i) : val_main_v40 (F := Ideal) x0 x2 x3 i
    = ((∑ r, (∑ l, P r l * W (i 1) l) * (X r (i 1) * rms (X r)) : ℝ) : EReal) := by
  simp only [val_main_v40_apply, val_main_v23_apply, val_main_v20_apply, idx20, val_main_v19_apply, val_main_v18_apply, unit hx, dh hw hp,
    val_main_cst_3_apply, val_main_cst_4_apply, Ideal.mulf_def, Ideal.ofBits_def, f32_zero, ← EReal.coe_mul, coe_sum, ← EReal.coe_add, zero_add]
  simp only [Finset.univ_unique, Finset.sum_singleton]
  refine congrArg (fun r : ℝ => (r : EReal)) (Finset.sum_congr rfl fun r _ => ?_)
  exact mul_comm _ _

include hg

theorem dxh (i) : val_main_v22 (F := Ideal) x1 x2 x3 i = (((∑ l, P (i 0) l * W (i 1) l) * G (i 1) : ℝ) : EReal) := by
  simp only [val_main_v22_apply, val_main_v21_apply, val_main_v13_apply, dh hw hp, hg, Ideal.mulf_def, ← EReal.coe_mul]
  rfl

include he

/-- The gradient of the rows, with the residual's. -/
theorem dx (i) : val_main_v38 (F := Ideal) x0 x1 x2 x3 x4 i
    = ((E (i 0) (i 1) + rmsGrad (X (i 0)) (fun k => (∑ l, P (i 0) l * W k l) * G k) (i 1) : ℝ) : EReal) := by
  simp only [val_main_v38_apply, val_main_v37_apply, val_main_v36_apply, val_main_v35_apply, val_main_v34_apply, val_main_v33_apply,
    val_main_v32_apply, val_main_v31_apply, val_main_v30_apply, val_main_v29_apply, val_main_v28_apply, val_main_v27_apply,
    val_main_v26_apply, idx26, val_main_v25_apply, val_main_v24_apply, dxh hx hg hw hp, root hx, coef hx, hx, he, val_main_cst_5_apply,
    val_main_cst_6_apply, val_main_cst_7_apply, Ideal.mulf_def, Ideal.addf_def, Ideal.hostDivf_def, Ideal.ofBits_def, f32_zero, f32_width,
    ← EReal.coe_mul, coe_sum, ← EReal.coe_add, zero_add, coe_div_width]
  congr 1
  simp only [Finset.univ_unique, Finset.sum_singleton]
  rw [add_assoc, add_assoc]
  refine congrArg (E (i 0) (i 1) + ·) ?_
  rw [← add_assoc]
  exact rmsGrad_eq (X (i 0)) (fun k => (∑ l, P (i 0) l * W k l) * G k) (i 1) _ rfl

end Cert.ProjDxReferenceIdeal.Real

end
-- ==== Proof.ProjDx.lean ====
/- The input projection's claims: the frames and the equality of the three results over the reals, at finite arguments. -/
module

public import proofs.«01_k».proof.Defs
public import proofs.«01_k».proof.Proof.ProjDxKer
public import proofs.«01_k».proof.Proof.ProjDxRef
public import proofs.«01_k».proof.Proof.Gen.ProjDxKernel.Frame
public import proofs.«01_k».proof.Proof.Gen.Pre_proj_dx_finite
public import proofs.«01_k».proof.Proof.Gen.ProjDxReferenceIdeal.Run

@[expose] public section

set_option maxRecDepth 16384

noncomputable section

namespace Cert.ProjDx

open Idealize.ShloMosaic Idealize.ShloMosaic.TcCoe Idealize.SL.Sem Cert.Lift

/-- What the precondition says of the five arguments. -/
theorem finite {x : FVec Ideal Cert.ProjDxKernelIdeal.S8192x2048 .f32} {g : FVec Ideal Cert.ProjDxKernelIdeal.S2048 .f32}
    {w : FVec Ideal Cert.ProjDxKernelIdeal.S2048x7168 .f32} {p : FVec Ideal Cert.ProjDxKernelIdeal.S8192x7168 .f32}
    {e : FVec Ideal Cert.ProjDxKernelIdeal.S8192x2048 .f32} (h : Cert.Pre_proj_dx_finite.fn (F := Ideal) x g w p e = fun _ => 1#1) :
    (∃ X : Fin 8192 → Fin 2048 → ℝ, ∀ i, x i = ((X (i 0) (i 1) : ℝ) : EReal)) ∧ (∃ G : Fin 2048 → ℝ, ∀ i, g i = ((G (i 0) : ℝ) : EReal))
      ∧ (∃ W : Fin 2048 → Fin 7168 → ℝ, ∀ i, w i = ((W (i 0) (i 1) : ℝ) : EReal))
      ∧ (∃ P : Fin 8192 → Fin 7168 → ℝ, ∀ i, p i = ((P (i 0) (i 1) : ℝ) : EReal))
      ∧ ∃ E : Fin 8192 → Fin 2048 → ℝ, ∀ i, e i = ((E (i 0) (i 1) : ℝ) : EReal) := by
  have h0 := congrFun h (fun a => a.elim0)
  dsimp only [Cert.Pre_proj_dx_finite.fn, Cert.Pre_proj_dx_finite.fn_part1] at h0
  obtain ⟨h1, he⟩ := IntOp.andi_eq_one.1 h0
  obtain ⟨h2, hp⟩ := IntOp.andi_eq_one.1 h1
  obtain ⟨h3, hw⟩ := IntOp.andi_eq_one.1 h2
  obtain ⟨hx, hg⟩ := IntOp.andi_eq_one.1 h3
  exact ⟨reals2 fun i => finite_of_all x _ (fun _ => f32_top) _ _ _ _ hx i, reals1 fun i => finite_of_all g _ (fun _ => f32_top) _ _ _ _ hg i,
    reals2 fun i => finite_of_all w _ (fun _ => f32_top) _ _ _ _ hw i, reals2 fun i => finite_of_all p _ (fun _ => f32_top) _ _ _ _ hp i,
    reals2 fun i => finite_of_all e _ (fun _ => f32_top) _ _ _ _ he i⟩

theorem algebraic : Cert.algebraic_ProjDxKernelIdeal_ProjDxReferenceIdeal_pre_proj_dx_finite := by
  pair_intro
  · run_from Cert.ProjDxKernelIdeal.Value.run_blocks m g
  · refine (θ_run _ _ _).mono (fun _ h c => ?_) (Cert.ProjDxReferenceIdeal.Value.run m' g')
    obtain ⟨h0, h1, h2, ha⟩ := h c
    obtain ⟨⟨X, hx⟩, ⟨G, hg⟩, ⟨W, hw⟩, ⟨P, hp⟩, E, he⟩ := finite (hpre c)
    obtain ⟨e0, e1, e2, e3, e4⟩ := hagree c
    refine ⟨h0.trans ?_, h1.trans ?_, h2.trans ?_, ha⟩
    · rw [Cert.ProjDxReferenceIdeal.Read.val_main_v38_eq, e0, e1, e2, e3, e4]
      exact Eq.trans (funext fun i => Cert.ProjDxReferenceIdeal.Real.dx hx hg hw hp he i) (Cert.ProjDxKernelIdeal.Real.final_dx m c hx hg hw hp he).symm
    · rw [Cert.ProjDxReferenceIdeal.Read.val_main_v39_eq, e0, e1, e2, e3, e4]
      exact Eq.trans (funext fun i => Cert.ProjDxReferenceIdeal.Real.dx hx hg hw hp he i) (Cert.ProjDxKernelIdeal.Real.final_dxb m c hx hg hw hp he).symm
    · rw [Cert.ProjDxReferenceIdeal.Read.val_main_v40_eq, e0, e2, e3]
      exact Eq.trans (funext fun i => Cert.ProjDxReferenceIdeal.Real.dgain hx hw hp i) (Cert.ProjDxKernelIdeal.Real.final_dgain m c hx hw hp).symm

theorem frame_kernel : Cert.quiescent_ProjDxKernel := fun m ρ _ => Cert.ProjDxKernel.Gen.frame m ρ
theorem frame_ideal : Cert.quiescent_ProjDxKernelIdeal := fun m ρ _ => Cert.ProjDxKernelIdeal.Gen.frame m ρ
theorem frame_ideal_pre : Cert.quiescent_ProjDxKernelIdeal_pre_proj_dx_finite := fun m ρ _ => Cert.ProjDxKernelIdeal.Gen.frame m ρ
theorem frame_reference : Cert.quiescent_ProjDxReferenceIdeal := fun m ρ _ =>
  (θ_run Cert.ProjDxReferenceIdeal.defs _ _).mono (fun r h => ⟨fun c => (h c).2.2.2, sem_eq_zero_of_no_sems (by decide) r.2⟩)
    (Cert.ProjDxReferenceIdeal.Value.run m ρ)
theorem frame_reference_pre : Cert.quiescent_ProjDxReferenceIdeal_pre_proj_dx_finite := fun m ρ _ => frame_reference m ρ trivial

end Cert.ProjDx

end
-- ==== Proof.StickBwdOffs.lean ====
/-
  The addresses of the attention backward kernel in closed form: query block `i` of head `h` walks the key
  blocks `0 … i`; key block `k` is read from tile `i(i+1)/2 + k` of the head's saved weights, landed in slot
  `k % 2` of the two-slot buffer and announced on that slot's semaphore.
-/
module

public import proofs.«01_k».proof.Defs
public import proofs.«01_k».proof.Proof.Gen.StickBwdKernelIdeal.Launch
public import proofs.«01_k».proof.Proof.Gen.StickBwdKernelIdeal.Skeleton
public import proofs.«01_k».proof.Proof.Gen.StickBwdKernelIdeal.Loops
public import proofs.«01_k».proof.Proof.Gen.StickBwdKernelIdeal.Points
public import proofs.«01_k».proof.Proof.Gen.StickBwdKernelIdeal.Frame
public import Idealize.ShloMosaic.Lib.Pipeline.Frame
public import Idealize.ShloMosaic.Lib.Ring
public import Idealize.ShloMosaic.Lib.Tactic

@[expose] public section

noncomputable section

namespace Cert.StickBwd

open Cert.StickBwdKernelIdeal Cert.StickBwdKernelIdeal.Gen
open Idealize.ShloMosaic
open Idealize.ShloMosaic.TcCoe Idealize.ShloMosaic.Tactic

/-- The grid point of head `h`, query block `b`. -/
def at2 (h : Fin 8) (b : Fin 16) : grid0.Coords := fun | 0 => h | 1 => b

theorem at2_eta (i : grid0.Coords) : i = at2 (i 0) (i 1) := by funext a; fin_cases a <;> rfl

/-- Tile `n` of the weights of the point's head and query block. -/
def tl (i : grid0.Coords) (n : ℕ) : Fin 8 × Fin 136 :=
  ((i 0 : Fin 8), Fin.ofNat 136 ((i 1).val * ((i 1).val + 1) / 2 + n))

theorem tl_ne (i : grid0.Coords) (n : ℕ) : tl i n ≠ tl i (n + 1) := by
  intro h
  have := congrArg (fun p : Fin 8 × Fin 136 => p.2.val) h
  simp only [tl, Fin.ofNat] at this
  omega

abbrev tileOff (b : Fin 8 × Fin 136) : Fin 4 → Nat := ![b.1.val, b.2.val, 0, 0]
abbrev slotOff (s : Fin 2) : Fin 3 → Nat := ![s.val, 0, 0]
abbrev semOff (s : Fin 2) : Fin 1 → Nat := ![s.val]
abbrev rowOff (k : ℕ) : Fin 2 → Nat := ![512 * k, 0]

theorem tileOff_inb (b : Fin 8 × Fin 136) : ∀ a, tileOff b a + S1x1x512x512.size a ≤ S8x136x512x512.size a := by
  have h1 := b.1.isLt
  have h2 := b.2.isLt
  intro a; fin_cases a
  · show b.1.val + 1 ≤ 8; omega
  · show b.2.val + 1 ≤ 136; omega
  · show 0 + 512 ≤ 512; omega
  · show 0 + 512 ≤ 512; omega
theorem slotOff_inb (s : Fin 2) : ∀ a, slotOff s a + S1x512x512.size a ≤ S2x512x512.size a := by
  have := s.isLt; intro a; fin_cases a
  · show s.val + 1 ≤ 2; omega
  · show 0 + 512 ≤ 512; omega
  · show 0 + 512 ≤ 512; omega
theorem semOff_inb (s : Fin 2) : ∀ a, semOff s a + S1.size a ≤ S2.size a := by
  have := s.isLt; intro a; fin_cases a; show s.val + 1 ≤ 2; omega

/-- All that the kernel's address arithmetic computes at one point. -/
def Addr (i : grid0.Coords) : Prop :=
  (k0_t1_loop i).trips = (i 1).val ∧ (k0_t2_loop i).trips = 0
    ∧ k0_off1 i = tileOff (tl i 0) ∧ k0_off18 i = semOff (Ring.sl 2 (i 1).val) ∧ k0_off19 i = slotOff (Ring.sl 2 (i 1).val)
    ∧ k0_off20 i = tileOff (tl i (i 1).val) ∧ k0_cond4 i ≠ 1#1 ∧ k0_off24 i = slotOff (Ring.sl 2 (i 1).val)
    ∧ k0_off25 i = rowOff (i 1).val ∧ (k0_cond5 i = 1#1 ↔ (i 1).val = 15)
    ∧ ∀ k : Fin (k0_t1_loop i).trips,
      k0_off2 i k = semOff (Ring.sl 2 k.val) ∧ k0_off3 i k = slotOff (Ring.sl 2 k.val) ∧ k0_off4 i k = tileOff (tl i k.val)
        ∧ k0_cond2 i k = 1#1 ∧ k0_off5 i k = semOff (Ring.sl 2 (k.val + 1)) ∧ k0_off6 i k = slotOff (Ring.sl 2 (k.val + 1))
        ∧ k0_off7 i k = tileOff (tl i (k.val + 1)) ∧ k0_off8 i k = slotOff (Ring.sl 2 k.val) ∧ k0_off9 i k = rowOff k.val

instance (i : grid0.Coords) : Decidable (Addr i) := by unfold Addr; infer_instance

theorem addr (i : grid0.Coords) : Addr i := by
  rw [at2_eta i]
  exact (by decide +kernel : ∀ (h : Fin 8) (b : Fin 16), Addr (at2 h b)) _ _

end Cert.StickBwd

end
-- ==== Proof.StickBwdTrip.lean ====
/-
  One trip of the attention backward kernel's loop over key blocks. Before trip `k` the tile of block `k` is in
  flight into slot `k % 2`; the trip waits for it, sends for the next tile into the other slot, and adds the
  block's contributions to the two gradient buffers, to the query gradient it carries and to the running sum.
-/
module

public import proofs.«01_k».proof.Proof.StickBwdOffs

@[expose] public section

set_option maxRecDepth 16384

noncomputable section

namespace Cert.StickBwd

open Cert.StickBwdKernelIdeal Cert.StickBwdKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ
abbrev 𝒱₀ : Variants := Variants.none

/-! ## Names: a tile of the weights, a slot of the buffer, a slot's semaphore -/

abbrev wM : Memref sig .tc .hbm S8x136x512x512 .bf16 := Memref.whole main_v59
abbrev bufM : Memref sig .tc .vmem S2x512x512 .bf16 := Memref.whole cc0_scratch2
abbrev dkM : Memref sig .tc .vmem S8192x128 .f32 := Memref.whole cc0_scratch0
abbrev dvM : Memref sig .tc .vmem S8192x128 .f32 := Memref.whole cc0_scratch1

def tile (b : Fin 8 × Fin 136) : Memref sig .tc .hbm S512x512 .bf16 :=
  (wM.slice (Rect.unit (s := S8x136x512x512) (tileOff b) S1x1x512x512.size (tileOff_inb b)) (fun _ => rfl)).squeeze S512x512 squeezes_S1x1x512x512_S512x512
def rslot (s : Fin 2) : Memref sig .tc .vmem S512x512 .bf16 :=
  (bufM.slice (Rect.unit (s := S2x512x512) (slotOff s) S1x512x512.size (slotOff_inb s)) (fun _ => rfl)).squeeze S512x512 squeezes_S1x512x512_S512x512
def csm (s : Fin 2) : DmaSems sig S_ := (cc0_scratch3.slice (Rect.unit (s := S2) (semOff s) S1.size (semOff_inb s))).squeeze S_ squeezes_S1_S_

instance (s : Fin 2) : ClosedOff (slotOff s) := ⟨slotOff s, rfl⟩
instance (b : Fin 8 × Fin 136) : ClosedOff (tileOff b) := ⟨tileOff b, rfl⟩

section Canon
variable (i : grid0.Coords)

private theorem csm_congr {off : Fin 1 → Nat} {s : Fin 2} (e : off = semOff s) (hh) :
    (cc0_scratch3.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (bufM.slice (Rect.unit (s := S2x512x512) off S1x512x512.size hh) hs).squeeze S512x512 squeezes_S1x512x512_S512x512 = rslot s :=
  congrArg (fun M : Memref sig .tc .vmem S1x512x512 .bf16 => M.squeeze S512x512 squeezes_S1x512x512_S512x512) (Memref.slice_unit_congr _ e _ _ _ _)
private theorem tile_congr {off : Fin 4 → Nat} {b : Fin 8 × Fin 136} (e : off = tileOff b) (hh hs) :
    (wM.slice (Rect.unit (s := S8x136x512x512) off S1x1x512x512.size hh) hs).squeeze S512x512 squeezes_S1x1x512x512_S512x512 = tile b :=
  congrArg (fun M : Memref sig .tc .hbm S1x1x512x512 .bf16 => M.squeeze S512x512 squeezes_S1x1x512x512_S512x512) (Memref.slice_unit_congr _ e _ _ _ _)

theorem trips1_eq : (k0_t1_loop i).trips = (i 1).val := (addr i).1
theorem trips2_eq : (k0_t2_loop i).trips = 0 := (addr i).2.1
theorem off1_eq : k0_off1 i = tileOff (tl i 0) := (addr i).2.2.1
theorem off18_eq : k0_off18 i = semOff (Ring.sl 2 (k0_t1_loop i).trips) := by rw [trips1_eq]; exact (addr i).2.2.2.1
theorem off19_eq : k0_off19 i = slotOff (Ring.sl 2 (k0_t1_loop i).trips) := by rw [trips1_eq]; exact (addr i).2.2.2.2.1
theorem off20_eq : k0_off20 i = tileOff (tl i (k0_t1_loop i).trips) := by rw [trips1_eq]; exact (addr i).2.2.2.2.2.1
theorem cond4_ne : k0_cond4 i ≠ 1#1 := (addr i).2.2.2.2.2.2.1
theorem off24_eq : k0_off24 i = slotOff (Ring.sl 2 (k0_t1_loop i).trips) := by rw [trips1_eq]; exact (addr i).2.2.2.2.2.2.2.1
theorem off25_eq : k0_off25 i = rowOff (i 1).val := (addr i).2.2.2.2.2.2.2.2.1
theorem cond5_iff : k0_cond5 i = 1#1 ↔ (i 1).val = 15 := (addr i).2.2.2.2.2.2.2.2.2.1

variable (k : Fin (k0_t1_loop i).trips)
theorem off2_eq : k0_off2 i k = semOff (Ring.sl 2 k.val) := ((addr i).2.2.2.2.2.2.2.2.2.2 k).1
theorem off3_eq : k0_off3 i k = slotOff (Ring.sl 2 k.val) := ((addr i).2.2.2.2.2.2.2.2.2.2 k).2.1
theorem off4_eq : k0_off4 i k = tileOff (tl i k.val) := ((addr i).2.2.2.2.2.2.2.2.2.2 k).2.2.1
theorem cond2_eq : k0_cond2 i k = 1#1 := ((addr i).2.2.2.2.2.2.2.2.2.2 k).2.2.2.1
theorem off5_eq : k0_off5 i k = semOff (Ring.sl 2 (k.val + 1)) := ((addr i).2.2.2.2.2.2.2.2.2.2 k).2.2.2.2.1
theorem off6_eq : k0_off6 i k = slotOff (Ring.sl 2 (k.val + 1)) := ((addr i).2.2.2.2.2.2.2.2.2.2 k).2.2.2.2.2.1
theorem off7_eq : k0_off7 i k = tileOff (tl i (k.val + 1)) := ((addr i).2.2.2.2.2.2.2.2.2.2 k).2.2.2.2.2.2.1
theorem off8_eq : k0_off8 i k = slotOff (Ring.sl 2 k.val) := ((addr i).2.2.2.2.2.2.2.2.2.2 k).2.2.2.2.2.2.2.1
theorem off9_eq : k0_off9 i k = rowOff k.val := ((addr i).2.2.2.2.2.2.2.2.2.2 k).2.2.2.2.2.2.2.2

instance : ClosedOff (k0_off8 i k) := ⟨slotOff (Ring.sl 2 k.val), off8_eq i k⟩
instance : ClosedOff (k0_off3 i k) := ⟨slotOff (Ring.sl 2 k.val), off3_eq i k⟩
instance : ClosedOff (k0_off24 i) :=
  ⟨slotOff (Ring.sl 2 (Scf.trips (k0_t1_loop i).lb (k0_t1_loop i).ub (k0_t1_loop i).st)), off24_eq i⟩

@[sl_canon] theorem semL0 (hh) : (cc0_scratch3.slice (Rect.unit (s := S2) ![0] S1.size hh)).squeeze S_ squeezes_S1_S_ = csm (Ring.sl 2 0) := csm_congr (by decide) _
@[sl_canon] theorem slotL0 (hh hs) : (bufM.slice (Rect.unit (s := S2x512x512) ![0, 0, 0] S1x512x512.size hh) hs).squeeze S512x512 squeezes_S1x512x512_S512x512 = rslot (Ring.sl 2 0) := rslot_congr (by decide) _ _
@[sl_canon] theorem tileL0 (hh hs) : (wM.slice (Rect.unit (s := S8x136x512x512) (k0_off1 i) S1x1x512x512.size hh) hs).squeeze S512x512 squeezes_S1x1x512x512_S512x512 = tile (tl i 0) := tile_congr (off1_eq i) _ _

@[sl_canon] theorem semK (hh) : (cc0_scratch3.slice (Rect.unit (s := S2) (k0_off2 i k) S1.size hh)).squeeze S_ squeezes_S1_S_ = csm (Ring.sl 2 k.val) := csm_congr (off2_eq i k) _
@[sl_canon] theorem slotK (hh hs) : (bufM.slice (Rect.unit (s := S2x512x512) (k0_off3 i k) S1x512x512.size hh) hs).squeeze S512x512 squeezes_S1x512x512_S512x512 = rslot (Ring.sl 2 k.val) := rslot_congr (off3_eq i k) _ _
@[sl_canon] theorem tileK (hh hs) : (wM.slice (Rect.unit (s := S8x136x512x512) (k0_off4 i k) S1x1x512x512.size hh) hs).squeeze S512x512 squeezes_S1x1x512x512_S512x512 = tile (tl i k.val) := tile_congr (off4_eq i k) _ _
@[sl_canon] theorem semN (hh) : (cc0_scratch3.slice (Rect.unit (s := S2) (k0_off5 i k) S1.size hh)).squeeze S_ squeezes_S1_S_ = csm (Ring.sl 2 (k.val + 1)) := csm_congr (off5_eq i k) _
@[sl_canon] theorem slotN (hh hs) : (bufM.slice (Rect.unit (s := S2x512x512) (k0_off6 i k) S1x512x512.size hh) hs).squeeze S512x512 squeezes_S1x512x512_S512x512 = rslot (Ring.sl 2 (k.val + 1)) := rslot_congr (off6_eq i k) _ _
@[sl_canon] theorem tileN (hh hs) : (wM.slice (Rect.unit (s := S8x136x512x512) (k0_off7 i k) S1x1x512x512.size hh) hs).squeeze S512x512 squeezes_S1x1x512x512_S512x512 = tile (tl i (k.val + 1)) := tile_congr (off7_eq i k) _ _

@[sl_canon] theorem semE (hh) : (cc0_scratch3.slice (Rect.unit (s := S2) (k0_off18 i) S1.size hh)).squeeze S_ squeezes_S1_S_ = csm (Ring.sl 2 (k0_t1_loop i).trips) := csm_congr (off18_eq i) _
@[sl_canon] theorem slotE (hh hs) : (bufM.slice (Rect.unit (s := S2x512x512) (k0_off19 i) S1x512x512.size hh) hs).squeeze S512x512 squeezes_S1x512x512_S512x512 = rslot (Ring.sl 2 (k0_t1_loop i).trips) := rslot_congr (off19_eq i) _ _
@[sl_canon] theorem tileE (hh hs) : (wM.slice (Rect.unit (s := S8x136x512x512) (k0_off20 i) S1x1x512x512.size hh) hs).squeeze S512x512 squeezes_S1x1x512x512_S512x512 = tile (tl i (k0_t1_loop i).trips) := tile_congr (off20_eq i) _ _

end Canon

/-! ## What is held -/

section Pieces
variable (c : Dev nD) (XA : Buf (Elt F) (wM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
abbrev homeP (b : Fin 8 × Fin 136) : sProp 𝕄 := (tile b).view.loc (c : Thread nD τ) ↦[(tile b).view.set]{fullShare} XA
abbrev payload (b : Fin 8 × Fin 136) : S512x512.Idx → Elt F .bf16 := ReadAs.same.apply ((tile b).view.read (Elt F) XA)
abbrev landed (s : Fin 2) (b : Fin 8 × Fin 136) (f : Buf (Elt F) ((rslot s).view.loc (c : Thread nD τ))) : Buf (Elt F) ((rslot s).view.loc (c : Thread nD τ)) :=
  (rslot s).view.writes (Elt F) f [⟨Rect.whole S512x512, payload c XA b⟩]
/-- A tile's transfer moves this many units on its semaphore. -/
abbrev NN : ℕ := 16384
abbrev flightP (s : Fin 2) (b : Fin 8 × Fin 136) (f : Buf (Elt F) ((rslot s).view.loc (c : Thread nD τ))) : sProp 𝕄 :=
  Transfers.Flight countersEmb (c : Thread nD τ) (SemLoc.dma (csm s).sem) () NN iprop(slotP c s (landed c XA s b f) ∗ homeP c XA b)

/-- The tiles at home before trip `k`: all but the one in flight. -/
abbrev homes (i : grid0.Coords) (k : ℕ) : Finset (Fin 8 × Fin 136) := Finset.univ.erase (tl i k)
abbrev rest2 (i : grid0.Coords) (k : ℕ) : Finset (Fin 8 × Fin 136) := (Finset.univ.erase (tl i k)).erase (tl i (k + 1))

theorem homes_here (i : grid0.Coords) (k : ℕ) :
    bigSep (homes i k) (homeP c XA) = iprop(homeP c XA (tl i (k + 1)) ∗ bigSep (rest2 i k) (homeP c XA)) := by
  have h : tl i (k + 1) ∈ homes i k := Finset.mem_erase.2 ⟨(tl_ne i k).symm, Finset.mem_univ _⟩
  conv_lhs => rw [← Finset.insert_erase h, bigSep_insert (Finset.notMem_erase _ _)]
  rfl
theorem homes_next (i : grid0.Coords) (k : ℕ) :
    bigSep (homes i (k + 1)) (homeP c XA) = iprop(homeP c XA (tl i k) ∗ bigSep (rest2 i k) (homeP c XA)) := by
  have h : tl i k ∈ homes i (k + 1) := Finset.mem_erase.2 ⟨tl_ne i k, Finset.mem_univ _⟩
  conv_lhs => rw [← Finset.insert_erase h, bigSep_insert (Finset.notMem_erase _ _), Finset.erase_right_comm]
  rfl
theorem homes_all (i : grid0.Coords) (k : ℕ) :
    bigSep Finset.univ (homeP c XA) = iprop(homeP c XA (tl i k) ∗ bigSep (homes i k) (homeP c XA)) := by
  conv_lhs => rw [← Finset.insert_erase (Finset.mem_univ (tl i k)), bigSep_insert (Finset.notMem_erase _ _)]
  rfl

theorem sl2_add2 (k : ℕ) : Ring.sl 2 (k + 1 + 1) = Ring.sl 2 k := by rw [show k + 1 + 1 = k + 2 from rfl, Ring.sl_add]

end Pieces

/-! ## One trip -/

section Trip

variable (c : Dev nD) (XA : Buf (Elt F) (wM.view.loc (c : Thread nD τ))) (i : grid0.Coords)
  (arg2 : Memref sig .tc .vmem S512x128 .f32) (harg2 : arg2.IsWhole) (arg3 : Memref sig .tc .vmem S512x128 .bf16) (harg3 : arg3.IsWhole)
  (arg4 : Memref sig .tc .vmem S8192x128 .bf16) (harg4 : arg4.IsWhole) (arg5 : Memref sig .tc .vmem S8192x128 .bf16) (harg5 : arg5.IsWhole)
  (arg6 : Memref sig .tc .vmem S256x128 .bf16) (harg6 : arg6.IsWhole)
  (arg8 : Memref sig .tc .vmem S512x128 .bf16) (harg8 : arg8.IsWhole) (arg9 : Memref sig .tc .vmem S8192x128 .bf16) (harg9 : arg9.IsWhole)
  (arg10 : Memref sig .tc .vmem S8192x128 .bf16) (harg10 : arg10.IsWhole)

/-- A memref held whole. -/
abbrev held {s : Shape} {e : EltTy} (M : Memref sig .tc .vmem s e) (f : Buf (Elt F) (M.view.loc (c : Thread nD τ))) : sProp 𝕄 :=
  M.view.loc (c : Thread nD τ) ↦[M.view.set]{fullShare} f

/-- What a trip needs before trip `k`: the keys and values, the two gradient buffers at given contents, the tiles at
    home, the tile of block `k` in flight, the other slot free. -/
def resAt (gK : Buf (Elt F) (arg4.view.loc (c : Thread nD τ))) (gV : Buf (Elt F) (arg5.view.loc (c : Thread nD τ)))
    (k : ℕ) (fk : Buf (Elt F) (dkM.view.loc (c : Thread nD τ))) (fv : Buf (Elt F) (dvM.view.loc (c : Thread nD τ))) : sProp 𝕄 :=
  iprop(held c arg4 gK ∗ held c arg5 gV ∗ held c dkM fk ∗ held c dvM fv ∗ (∃ W, owes (c : Thread nD τ) 0 W)
    ∗ bigSep (homes i k) (homeP c XA) ∗ (∃ f, flightP c XA (Ring.sl 2 k) (tl i k) f)
    ∗ (∃ f, slotP c (Ring.sl 2 (k + 1)) f) ∗ cellP c (Ring.sl 2 (k + 1)))

abbrev tripG (arg1 : BitVec 32) (v4 v7 : FVec F S512x128 .bf16) (v8 : Vec F S256x128 .bf16) (v27 : BitVec 32)
    (k : Fin (k0_t1_loop i).trips) (acc : FVec F S512x1 .f32 × FVec F S512x128 .f32) :
    Prog (TpuEff nD τ sig (Elt F) Λ₀ .tc) (FVec F S512x1 .f32 × FVec F S512x128 .f32) :=
  k0_t1_body (F := F) i arg2 harg2 arg3 harg3 arg4 harg4 arg5 harg5 arg6 harg6 wM (Memref.isWhole_whole _) arg8 harg8 arg9 harg9 arg10 harg10
    dkM (Memref.isWhole_whole _) dvM (Memref.isWhole_whole _) bufM (Memref.isWhole_whole _) cc0_scratch3 arg1 v4 v7 v8 v27 k acc

/-- The rows of key block `k` in a buffer of all keys. -/
abbrev RK (k : Fin (k0_t1_loop i).trips) : Rect S8192x128 := Rect.unit (s := S8192x128) (k0_off9 i k) S512x128.size (k0_off9_inb i k)

set_option backward.proofsInPublic true in
def tripRun (arg1 : BitVec 32) (v4 v7 : FVec F S512x128 .bf16) (v8 : Vec F S256x128 .bf16) (v27 : BitVec 32)
    (gK : Buf (Elt F) (arg4.view.loc (c : Thread nD τ))) (gV : Buf (Elt F) (arg5.view.loc (c : Thread nD τ)))
    (k : Fin (k0_t1_loop i).trips) (acc : FVec F S512x1 .f32 × FVec F S512x128 .f32)
    (fk : Buf (Elt F) (dkM.view.loc (c : Thread nD τ))) (fv : Buf (Elt F) (dvM.view.loc (c : Thread nD τ))) :
    { w : ((RK i k).shape.Idx → Elt F .f32) × ((RK i k).shape.Idx → Elt F .f32) × (FVec F S512x1 .f32 × FVec F S512x128 .f32) //
      resAt c XA i arg4 arg5 gK gV k fk fv
        ⊢ wp frame (wpE (defs₀ (F := F)) 𝒱₀ (c : Thread nD τ) none) Set.univ
          (tripG i arg2 harg2 arg3 harg3 arg4 harg4 arg5 harg5 arg6 harg6 arg8 harg8 arg9 harg9 arg10 harg10 arg1 v4 v7 v8 v27 k acc)
        (fun a => iprop(⌜a = w.2.2⌝ ∗ resAt c XA i arg4 arg5 gK gV (k.val + 1)
          (dkM.view.writes (Elt F) fk [⟨RK i k, w.1⟩]) (dvM.view.writes (Elt F) fv [⟨RK i k, w.2.1⟩]))) } := by
  refine ⟨⟨?_, ?_, ?_⟩, ?run⟩
  case run =>
    have hc2 := cond2_eq i k
    unfold resAt
    rw [homes_here c XA i k.val, homes_next c XA i k.val, sl2_add2]
    iintro ⟨HK, HV, Hdk, Hdv, ⟨%W, HW⟩, ⟨Hn, Hrest⟩, ⟨%f0, HF⟩, ⟨%f1, Hs⟩, Hc⟩
    dsimp only [tripG]
    sl_unfold [k0_t1_body]
    sl_exec
    sl_step
    isplitr; · ipureintro; rfl
    isplitl [HK]; · iexact HK
    isplitl [HV]; · iexact HV
    isplitl [Hdk]; · iexact Hdk
    isplitl [Hdv]; · iexact Hdv
    isplitl [HW]; · iexists _; iexact HW
    isplitl [HF_src Hrest]
    · isplitl [HF_src]; · iexact HF_src
      iexact Hrest
    isplitl [Hc]; · iexists f1; iexact Hc
    isplitl [HF_dst]; · iexists _; iexact HF_dst
    iexact HF

/-- The two gradient buffers and the carried values before trip `k`, from those at the loop's entry. -/
def stAt (arg1 : BitVec 32) (v4 v7 : FVec F S512x128 .bf16) (v8 : Vec F S256x128 .bf16) (v27 : BitVec 32)
    (gK : Buf (Elt F) (arg4.view.loc (c : Thread nD τ))) (gV : Buf (Elt F) (arg5.view.loc (c : Thread nD τ)))
    (fk0 : Buf (Elt F) (dkM.view.loc (c : Thread nD τ))) (fv0 : Buf (Elt F) (dvM.view.loc (c : Thread nD τ)))
    (init : FVec F S512x1 .f32 × FVec F S512x128 .f32) :
    ℕ → Buf (Elt F) (dkM.view.loc (c : Thread nD τ)) × Buf (Elt F) (dvM.view.loc (c : Thread nD τ)) × (FVec F S512x1 .f32 × FVec F S512x128 .f32)
  | 0 => (fk0, fv0, init)
  | k + 1 =>
    let s := stAt arg1 v4 v7 v8 v27 gK gV fk0 fv0 init k
    if h : k < (k0_t1_loop i).trips then
      let w := (tripRun c XA i arg2 harg2 arg3 harg3 arg4 harg4 arg5 harg5 arg6 harg6 arg8 harg8 arg9 harg9 arg10 harg10
        arg1 v4 v7 v8 v27 gK gV ⟨k, h⟩ s.2.2 s.1 s.2.1).1
      (dkM.view.writes (Elt F) s.1 [⟨RK i ⟨k, h⟩, w.1⟩], dvM.view.writes (Elt F) s.2.1 [⟨RK i ⟨k, h⟩, w.2.1⟩], w.2.2)
    else s

/-- The invariant of the loop over the key blocks before the diagonal one. -/
def invAt (arg1 : BitVec 32) (v4 v7 : FVec F S512x128 .bf16) (v8 : Vec F S256x128 .bf16) (v27 : BitVec 32)
    (gK : Buf (Elt F) (arg4.view.loc (c : Thread nD τ))) (gV : Buf (Elt F) (arg5.view.loc (c : Thread nD τ)))
    (fk0 : Buf (Elt F) (dkM.view.loc (c : Thread nD τ))) (fv0 : Buf (Elt F) (dvM.view.loc (c : Thread nD τ)))
    (init : FVec F S512x1 .f32 × FVec F S512x128 .f32) (k : ℕ) (acc : FVec F S512x1 .f32 × FVec F S512x128 .f32) : sProp 𝕄 :=
  let s := stAt c XA i arg2 harg2 arg3 harg3 arg4 harg4 arg5 harg5 arg6 harg6 arg8 harg8 arg9 harg9 arg10 harg10 arg1 v4 v7 v8 v27 gK gV fk0 fv0 init k
  iprop(⌜acc = s.2.2⌝ ∗ resAt c XA i arg4 arg5 gK gV k s.1 s.2.1)

set_option warn.classDefReducibility false in
@[sl_loop] def loopInv1 (arg1 : BitVec 32) (v4 v7 : FVec F S512x128 .bf16) (v8 : Vec F S256x128 .bf16) (v27 : BitVec 32)
    (gK : Buf (Elt F) (arg4.view.loc (c : Thread nD τ))) (gV : Buf (Elt F) (arg5.view.loc (c : Thread nD τ)))
    (fk0 : Buf (Elt F) (dkM.view.loc (c : Thread nD τ))) (fv0 : Buf (Elt F) (dvM.view.loc (c : Thread nD τ)))
    (init : FVec F S512x1 .f32 × FVec F S512x128 .f32) :
    LoopInvTy_k0_t1 (F := F) Unit ℕ (Pipeline.UD sig nD τ) ℕ 𝒱₀ c none Set.univ i arg2 harg2 arg3 harg3 arg4 harg4 arg5 harg5 arg6 harg6
      wM (Memref.isWhole_whole _) arg8 harg8 arg9 harg9 arg10 harg10 dkM (Memref.isWhole_whole _) dvM (Memref.isWhole_whole _)
      bufM (Memref.isWhole_whole _) cc0_scratch3 arg1 v4 v7 v8 v27 init where
  inv k acc := invAt c XA i arg2 harg2 arg3 harg3 arg4 harg4 arg5 harg5 arg6 harg6 arg8 harg8 arg9 harg9 arg10 harg10 arg1 v4 v7 v8 v27 gK gV fk0 fv0 init k acc
  step k acc := by
    unfold invAt
    rw [stAt, dif_pos k.isLt]
    iintro ⟨%ha, H⟩
    subst ha
    iapply (wp_wand_r Idealize.ShloMosaic.frame (wpE (defs₀ (F := F)) 𝒱₀ (c : Thread nD τ) none) Set.univ)
    isplitl [H]
    · iapply (tripRun c XA i arg2 harg2 arg3 harg3 arg4 harg4 arg5 harg5 arg6 harg6 arg8 harg8 arg9 harg9 arg10 harg10
        arg1 v4 v7 v8 v27 gK gV k _ _ _).2; iexact H
    · iintro %_ H'; iexact H'

set_option warn.classDefReducibility false in
/-- The loop over the remaining trips makes none. -/
@[sl_loop] def loopInv2 (arg1 : BitVec 32) (v4 v7 : FVec F S512x128 .bf16) (v8 : Vec F S256x128 .bf16) (v27 v41 : BitVec 32)
    (init : FVec F S512x1 .f32 × FVec F S512x128 .f32) :
    LoopInvTy_k0_t2 (F := F) Unit ℕ (Pipeline.UD sig nD τ) ℕ 𝒱₀ c none Set.univ i arg2 harg2 arg3 harg3 arg4 harg4 arg5 harg5 arg6 harg6
      wM (Memref.isWhole_whole _) arg8 harg8 arg9 harg9 arg10 harg10 dkM (Memref.isWhole_whole _) dvM (Memref.isWhole_whole _)
      bufM (Memref.isWhole_whole _) cc0_scratch3 arg1 v4 v7 v8 v27 v41 init where
  inv _ acc := iprop(⌜acc = init⌝)
  step k _ := (Nat.not_lt_zero _ (Nat.lt_of_lt_of_eq k.isLt (trips2_eq i))).elim

end Trip

end Cert.StickBwd

end
-- ==== Proof.StickBwdBody.lean ====
/-
  The body of the attention backward kernel at one grid point: the gradient buffers cleared at a head's first query
  block, the loop over the key blocks before the diagonal one, the diagonal block under its mask, the query
  gradient stored, and at a head's last query block the two buffers written out.
-/
module

public import proofs.«01_k».proof.Proof.StickBwdTrip

@[expose] public section

set_option maxRecDepth 16384

noncomputable section

namespace Cert.StickBwd

open Cert.StickBwdKernelIdeal Cert.StickBwdKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section Body

variable (c : Dev nD) (XA : Buf (Elt F) (wM.view.loc (c : Thread nD τ))) (i : grid0.Coords)
  (arg2 : Memref sig .tc .vmem S512x128 .f32) (harg2 : arg2.IsWhole) (arg3 : Memref sig .tc .vmem S512x128 .bf16) (harg3 : arg3.IsWhole)
  (arg4 : Memref sig .tc .vmem S8192x128 .bf16) (harg4 : arg4.IsWhole) (arg5 : Memref sig .tc .vmem S8192x128 .bf16) (harg5 : arg5.IsWhole)
  (arg6 : Memref sig .tc .vmem S256x128 .bf16) (harg6 : arg6.IsWhole)
  (arg8 : Memref sig .tc .vmem S512x128 .bf16) (harg8 : arg8.IsWhole) (arg9 : Memref sig .tc .vmem S8192x128 .bf16) (harg9 : arg9.IsWhole)
  (arg10 : Memref sig .tc .vmem S8192x128 .bf16) (harg10 : arg10.IsWhole)

abbrev bodyG : Prog (TpuEff nD τ sig (Elt F) Λ₀ .tc) PUnit :=
  cc0_sb_bwd (F := F) i arg2 harg2 arg3 harg3 arg4 harg4 arg5 harg5 arg6 harg6 wM (Memref.isWhole_whole _) arg8 harg8 arg9 harg9 arg10 harg10
    dkM (Memref.isWhole_whole _) dvM (Memref.isWhole_whole _) bufM (Memref.isWhole_whole _) cc0_scratch3

/-- Whether the point is its head's first, as the kernel computes it. -/
abbrev first : BitVec 1 := Scalar.cmpi .ne (Scalar.extui (Scalar.cmpi .eq (BitVec.ofNat 32 (i 1).val) 0#32)) 0#32

/-- The five operands, held. -/
abbrev opsP (g2 : Buf (Elt F) (arg2.view.loc (c : Thread nD τ))) (g3 : Buf (Elt F) (arg3.view.loc (c : Thread nD τ)))
    (gK : Buf (Elt F) (arg4.view.loc (c : Thread nD τ))) (gV : Buf (Elt F) (arg5.view.loc (c : Thread nD τ)))
    (g6 : Buf (Elt F) (arg6.view.loc (c : Thread nD τ))) : sProp 𝕄 :=
  iprop(held c arg2 g2 ∗ held c arg3 g3 ∗ held c arg4 gK ∗ held c arg5 gV ∗ held c arg6 g6)

/-- What lies still between points: the tiles, the slots, the semaphores. -/
abbrev stillP : sProp 𝕄 :=
  iprop(bigSep Finset.univ (homeP c XA) ∗ (∃ f, slotP c 0 f) ∗ (∃ f, slotP c 1 f) ∗ cellP c 0 ∗ cellP c 1 ∗ ∃ W, owes (c : Thread nD τ) 0 W)

/-- The rows of the diagonal key block in a buffer of all keys. -/
abbrev RD : Rect S8192x128 := Rect.unit (s := S8192x128) (k0_off25 i) S512x128.size (k0_off25_inb i)
abbrev RQ : Rect S512x128 := Rect.unit (s := S512x128) ![0, 0] S512x128.size inb_S512x128_S512x128_0_0
abbrev RA : Rect S8192x128 := Rect.unit (s := S8192x128) ![0, 0] S8192x128.size inb_S8192x128_S8192x128_0_0

theorem two_of_roles (P : Fin 2 → sProp 𝕄) (T : ℕ) : iprop(P (Ring.sl 2 T) ∗ P (Ring.sl 2 (T + 1))) ⊢ iprop(P 0 ∗ P 1) := by
  rcases Nat.mod_two_eq_zero_or_one T with h | h
  · have e0 : Ring.sl 2 T = 0 := Fin.ext (by simp [Ring.sl, Fin.ofNat, h])
    have e1 : Ring.sl 2 (T + 1) = 1 := Fin.ext (by simp [Ring.sl, Fin.ofNat]; omega)
    rw [e0, e1]
  · have e0 : Ring.sl 2 T = 1 := Fin.ext (by simp [Ring.sl, Fin.ofNat, h])
    have e1 : Ring.sl 2 (T + 1) = 0 := Fin.ext (by simp [Ring.sl, Fin.ofNat]; omega)
    rw [e0, e1]; iintro ⟨H1, H0⟩; isplitl [H0] <;> iassumption

theorem sl2_0 : Ring.sl 2 0 = 0 := Fin.ext (by rfl)
theorem sl2_1 : Ring.sl 2 (0 + 1) = 1 := Fin.ext (by rfl)

/-- What lies still, told from the tile, slot and semaphore of key block `T`. -/
abbrev stillT (T : ℕ) : sProp 𝕄 :=
  iprop(homeP c XA (tl i T) ∗ bigSep (homes i T) (homeP c XA) ∗ (∃ f, slotP c (Ring.sl 2 T) f) ∗ (∃ f, slotP c (Ring.sl 2 (T + 1)) f)
    ∗ cellP c (Ring.sl 2 T) ∗ cellP c (Ring.sl 2 (T + 1)) ∗ ∃ W, owes (c : Thread nD τ) 0 W)

theorem stillP_start : stillP (F := F) c XA ⊢ stillT c XA i 0 := by
  unfold stillP stillT
  rw [homes_all c XA i 0, sl2_0, sl2_1]
  iintro ⟨⟨Hn, Hr⟩, H⟩
  isplitl [Hn]; · iexact Hn
  isplitl [Hr]; · iexact Hr
  iexact H

theorem stillP_end (T : ℕ) : stillT (F := F) c XA i T ⊢ stillP c XA := by
  unfold stillP stillT
  rw [homes_all c XA i T]
  iintro ⟨Hn, Hr, Hs0, Hs1, Hc0, Hc1, HW⟩
  ihave Hs := (two_of_roles (fun s => iprop(∃ f, slotP (F := F) c s f)) T) $$ [Hs0 Hs1]
  · isplitl [Hs0]; · iexact Hs0
    iexact Hs1
  icases Hs with ⟨Hs0, Hs1⟩
  ihave Hc := (two_of_roles (cellP (F := F) c) T) $$ [Hc0 Hc1]
  · isplitl [Hc0]; · iexact Hc0
    iexact Hc1
  icases Hc with ⟨Hc0, Hc1⟩
  isplitl [Hn Hr]
  · isplitl [Hn]; · iexact Hn
    iexact Hr
  isplitl [Hs0]; · iexact Hs0
  isplitl [Hs1]; · iexact Hs1
  isplitl [Hc0]; · iexact Hc0
  isplitl [Hc1]; · iexact Hc1
  iexact HW

set_option maxHeartbeats 4000000 in
set_option backward.proofsInPublic true in
/-- A point that is neither its head's first nor its last. -/
def runMid (h1 : first i ≠ 1#1) (h5 : k0_cond5 i ≠ 1#1)
    (g2 : Buf (Elt F) (arg2.view.loc (c : Thread nD τ))) (g3 : Buf (Elt F) (arg3.view.loc (c : Thread nD τ)))
    (gK : Buf (Elt F) (arg4.view.loc (c : Thread nD τ))) (gV : Buf (Elt F) (arg5.view.loc (c : Thread nD τ)))
    (g6 : Buf (Elt F) (arg6.view.loc (c : Thread nD τ)))
    (fk : Buf (Elt F) (dkM.view.loc (c : Thread nD τ))) (fv : Buf (Elt F) (dvM.view.loc (c : Thread nD τ))) :
    { w : Buf (Elt F) (dkM.view.loc (c : Thread nD τ)) × Buf (Elt F) (dvM.view.loc (c : Thread nD τ)) × (RQ.shape.Idx → Elt F .bf16) //
      ∀ g8 (Q : PUnit → sProp 𝕄), iprop((opsP c arg2 arg3 arg4 arg5 arg6 g2 g3 gK gV g6 ∗ held c arg8 g8 ∗ held c dkM fk ∗ held c dvM fv ∗ stillT c XA i 0)
          ∗ ((opsP c arg2 arg3 arg4 arg5 arg6 g2 g3 gK gV g6 ∗ held c arg8 (arg8.view.writes (Elt F) g8 [⟨RQ, w.2.2⟩])
            ∗ held c dkM w.1 ∗ held c dvM w.2.1 ∗ stillT c XA i (k0_t1_loop i).trips) -∗ Q ⟨⟩))
        ⊢ wp frame (wpE (defs₀ (F := F)) 𝒱₀ (c : Thread nD τ) none) Set.univ
          (bodyG i arg2 harg2 arg3 harg3 arg4 harg4 arg5 harg5 arg6 harg6 arg8 harg8 arg9 harg9 arg10 harg10) Q } := by
  refine ⟨⟨?_, ?_, ?_⟩, ?run⟩
  case run =>
    intro g8 Q
    have h4 := cond4_ne i
    iintro ⟨⟨⟨H2, H3, HK, HV, H6⟩, H8, Hdk, Hdv, Hn, Hrest, ⟨%f0, Hs0⟩, ⟨%f1, Hs1⟩, Hc0, Hc1, ⟨%W, HW⟩⟩, Hk⟩
    sl_exec
    sl_step
    iapply Hk
    isplitl [H2 H3 HK HV H6]
    · isplitl [H2]; · iexact H2
      isplitl [H3]; · iexact H3
      isplitl [HK]; · iexact HK
      isplitl [HV]; · iexact HV
      iexact H6
    isplitl [H8]; · iexact H8
    isplitl [Hdk]; · iexact Hdk
    isplitl [Hdv]; · iexact Hdv
    isplitl [Hc0_src]; · iexact Hc0_src
    isplitl [Hrest]; · iexact Hrest
    isplitl [Hc0_dst]; · iexists _; iexact Hc0_dst
    isplitl [Hs1]; · iexists _; iexact Hs1
    isplitl [Hc0]; · iexact Hc0
    isplitl [Hc1]; · iexact Hc1
    iexists _; iexact HW

/-- The buffer of key gradients cleared, whatever it held. -/
@[irreducible] def clearK : Buf (Elt F) (dkM.view.loc (c : Thread nD τ)) := dkM.view.writes (Elt F) dkM.view.junk [⟨RA, k0_pay35⟩]

/-- The buffer of value gradients cleared, whatever it held. -/
@[irreducible] def clearV : Buf (Elt F) (dvM.view.loc (c : Thread nD τ)) := dvM.view.writes (Elt F) dvM.view.junk [⟨RA, k0_pay36⟩]

set_option maxHeartbeats 4000000 in
set_option backward.proofsInPublic true in
/-- A head's first point: the two gradient buffers cleared first, whatever they held. -/
def runFirst (h1 : first i = 1#1) (h5 : k0_cond5 i ≠ 1#1)
    (g2 : Buf (Elt F) (arg2.view.loc (c : Thread nD τ))) (g3 : Buf (Elt F) (arg3.view.loc (c : Thread nD τ)))
    (gK : Buf (Elt F) (arg4.view.loc (c : Thread nD τ))) (gV : Buf (Elt F) (arg5.view.loc (c : Thread nD τ)))
    (g6 : Buf (Elt F) (arg6.view.loc (c : Thread nD τ))) :
    { w : Buf (Elt F) (dkM.view.loc (c : Thread nD τ)) × Buf (Elt F) (dvM.view.loc (c : Thread nD τ)) × (RQ.shape.Idx → Elt F .bf16) //
      ∀ fk fv g8 (Q : PUnit → sProp 𝕄), iprop((opsP c arg2 arg3 arg4 arg5 arg6 g2 g3 gK gV g6 ∗ held c arg8 g8 ∗ held c dkM fk ∗ held c dvM fv ∗ stillT c XA i 0)
          ∗ ((opsP c arg2 arg3 arg4 arg5 arg6 g2 g3 gK gV g6 ∗ held c arg8 (arg8.view.writes (Elt F) g8 [⟨RQ, w.2.2⟩])
            ∗ held c dkM w.1 ∗ held c dvM w.2.1 ∗ stillT c XA i (k0_t1_loop i).trips) -∗ Q ⟨⟩))
        ⊢ wp frame (wpE (defs₀ (F := F)) 𝒱₀ (c : Thread nD τ) none) Set.univ
          (bodyG i arg2 harg2 arg3 harg3 arg4 harg4 arg5 harg5 arg6 harg6 arg8 harg8 arg9 harg9 arg10 harg10) Q } := by
  refine ⟨⟨?_, ?_, ?_⟩, ?run⟩
  case run =>
    intro fk fv g8 Q
    have h4 := cond4_ne i
    iintro ⟨⟨⟨H2, H3, HK, HV, H6⟩, H8, Hdk, Hdv, Hn, Hrest, ⟨%f0, Hs0⟩, ⟨%f1, Hs1⟩, Hc0, Hc1, ⟨%W, HW⟩⟩, Hk⟩
    sl_exec
    have ek : clearK (F := F) c = dkM.view.writes (Elt F) dkM.view.junk runFirst.sl.Hdk_1 := by unfold clearK; rfl
    have ev : clearV (F := F) c = dvM.view.writes (Elt F) dvM.view.junk runFirst.sl.Hdk_1 := by unfold clearV; rfl
    rw [← ek, ← ev]
    clear ek ev
    sl_exec
    sl_step
    iapply Hk
    isplitl [H2 H3 HK HV H6]
    · isplitl [H2]; · iexact H2
      isplitl [H3]; · iexact H3
      isplitl [HK]; · iexact HK
      isplitl [HV]; · iexact HV
      iexact H6
    isplitl [H8]; · iexact H8
    isplitl [Hdk]; · iexact Hdk
    isplitl [Hdv]; · iexact Hdv
    isplitl [Hc0_src]; · iexact Hc0_src
    isplitl [Hrest]; · iexact Hrest
    isplitl [Hc0_dst]; · iexists _; iexact Hc0_dst
    isplitl [Hs1]; · iexists _; iexact Hs1
    isplitl [Hc0]; · iexact Hc0
    isplitl [Hc1]; · iexact Hc1
    iexists _; iexact HW

set_option maxHeartbeats 4000000 in
set_option backward.proofsInPublic true in
/-- A head's last point: the two gradient buffers written out at the end. -/
def runLast (h1 : first i ≠ 1#1) (h5 : k0_cond5 i = 1#1)
    (g2 : Buf (Elt F) (arg2.view.loc (c : Thread nD τ))) (g3 : Buf (Elt F) (arg3.view.loc (c : Thread nD τ)))
    (gK : Buf (Elt F) (arg4.view.loc (c : Thread nD τ))) (gV : Buf (Elt F) (arg5.view.loc (c : Thread nD τ)))
    (g6 : Buf (Elt F) (arg6.view.loc (c : Thread nD τ)))
    (fk : Buf (Elt F) (dkM.view.loc (c : Thread nD τ))) (fv : Buf (Elt F) (dvM.view.loc (c : Thread nD τ))) :
    { w : Buf (Elt F) (dkM.view.loc (c : Thread nD τ)) × Buf (Elt F) (dvM.view.loc (c : Thread nD τ)) × (RQ.shape.Idx → Elt F .bf16)
        × (RA.shape.Idx → Elt F .bf16) × (RA.shape.Idx → Elt F .bf16) //
      ∀ g8 g9 g10 (Q : PUnit → sProp 𝕄), iprop((opsP c arg2 arg3 arg4 arg5 arg6 g2 g3 gK gV g6 ∗ held c arg8 g8 ∗ held c arg9 g9 ∗ held c arg10 g10
            ∗ held c dkM fk ∗ held c dvM fv ∗ stillT c XA i 0)
          ∗ ((opsP c arg2 arg3 arg4 arg5 arg6 g2 g3 gK gV g6 ∗ held c arg8 (arg8.view.writes (Elt F) g8 [⟨RQ, w.2.2.1⟩])
            ∗ held c arg9 (arg9.view.writes (Elt F) g9 [⟨RA, w.2.2.2.1⟩]) ∗ held c arg10 (arg10.view.writes (Elt F) g10 [⟨RA, w.2.2.2.2⟩])
            ∗ held c dkM w.1 ∗ held c dvM w.2.1 ∗ stillT c XA i (k0_t1_loop i).trips) -∗ Q ⟨⟩))
        ⊢ wp frame (wpE (defs₀ (F := F)) 𝒱₀ (c : Thread nD τ) none) Set.univ
          (bodyG i arg2 harg2 arg3 harg3 arg4 harg4 arg5 harg5 arg6 harg6 arg8 harg8 arg9 harg9 arg10 harg10) Q } := by
  refine ⟨⟨?_, ?_, ?_, ?_, ?_⟩, ?run⟩
  case run =>
    intro g8 g9 g10 Q
    have h4 := cond4_ne i
    iintro ⟨⟨⟨H2, H3, HK, HV, H6⟩, H8, H9, H10, Hdk, Hdv, Hn, Hrest, ⟨%f0, Hs0⟩, ⟨%f1, Hs1⟩, Hc0, Hc1, ⟨%W, HW⟩⟩, Hk⟩
    sl_exec
    sl_step
    iapply Hk
    isplitl [H2 H3 HK HV H6]
    · isplitl [H2]; · iexact H2
      isplitl [H3]; · iexact H3
      isplitl [HK]; · iexact HK
      isplitl [HV]; · iexact HV
      iexact H6
    isplitl [H8]; · iexact H8
    isplitl [H9]; · iexact H9
    isplitl [H10]; · iexact H10
    isplitl [Hdk]; · iexact Hdk
    isplitl [Hdv]; · iexact Hdv
    isplitl [Hc0_src]; · iexact Hc0_src
    isplitl [Hrest]; · iexact Hrest
    isplitl [Hc0_dst]; · iexists _; iexact Hc0_dst
    isplitl [Hs1]; · iexists _; iexact Hs1
    isplitl [Hc0]; · iexact Hc0
    isplitl [Hc1]; · iexact Hc1
    iexists _; iexact HW

end Body

end Cert.StickBwd

end
-- ==== Proof.StickBwdRun.lean ====
/-
  The attention backward kernel run over its grid: what each point leaves (the gradient buffers carried from
  query block to query block of a head, the query gradient of the point, at a head's last point the key and
  value gradients), the invariant between points, and the launch.
-/
module

public import proofs.«01_k».proof.Proof.StickBwdBody

@[expose] public section

set_option maxRecDepth 16384

noncomputable section

namespace Cert.StickBwd

open Cert.StickBwdKernelIdeal Cert.StickBwdKernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem entails_of_eq {P Q : sProp 𝕄} (e : P = Q) : P ⊢ Q := e ▸ .rfl

/-! ## A staging buffer by what it reads -/

section Owned
variable (c : Dev nD) {s : Shape} {e : EltTy} (M : Memref sig .tc .vmem s e)

theorem owns_rep (X : s.Idx → Elt F e) :
    (owns (c : Thread nD τ) M fullShare X : sProp 𝕄) ⊢ held c M (M.view.rep X) := by
  unfold owns
  iintro ⟨%f, %hf, H⟩
  rw [← hf]
  iapply (pointsTo_rep_entails (c : Thread nD τ) M f fullShare)
  iexact H

theorem rep_owns (X : s.Idx → Elt F e) :
    (held c M (M.view.rep X) : sProp 𝕄) ⊢ owns (c : Thread nD τ) M fullShare X := by
  unfold owns
  iintro H
  iexists _
  isplitr
  · ipureintro; exact View.read_rep _ _
  iexact H

theorem owns_some (X : s.Idx → Elt F e) :
    (owns (c : Thread nD τ) M fullShare X : sProp 𝕄) ⊢ iprop(∃ f, held c M f) := by
  unfold owns
  iintro ⟨%f, %hf, H⟩
  iexists f; iexact H

end Owned

theorem q_owns (c : Dev nD) (M : Memref sig .tc .vmem S512x128 .bf16) (g) (w : S512x128.Idx → Elt F .bf16) :
    (held c M (M.view.writes (Elt F) g [⟨RQ, w⟩]) : sProp 𝕄) ⊢ owns (c : Thread nD τ) M fullShare w := by
  unfold owns
  iintro H
  iexists _
  isplitr
  · ipureintro
    funext y
    have hy : RQ.emb y = y := by funext a; fin_cases a <;> exact Fin.ext (by simp [RQ, Rect.emb, Rect.unit])
    have := View.read_writes_cons_emb (v := M.view) (f := g) RQ w [] y
    rw [hy] at this; exact this
  iexact H

theorem all_owns (c : Dev nD) (M : Memref sig .tc .vmem S8192x128 .bf16) (g) (w : S8192x128.Idx → Elt F .bf16) :
    (held c M (M.view.writes (Elt F) g [⟨RA, w⟩]) : sProp 𝕄) ⊢ owns (c : Thread nD τ) M fullShare w := by
  unfold owns
  iintro H
  iexists _
  isplitr
  · ipureintro
    funext y
    have hy : RA.emb y = y := by funext a; fin_cases a <;> exact Fin.ext (by simp [RA, Rect.emb, Rect.unit])
    have := View.read_writes_cons_emb (v := M.view) (f := g) RA w [] y
    rw [hy] at this; exact this
  iexact H

/-! ## The buffers' parts -/

abbrev tileSet (b : Fin 8 × Fin 136) : Finset S8x136x512x512.Idx := (Rect.unit (s := S8x136x512x512) (tileOff b) S1x1x512x512.size (tileOff_inb b)).set
abbrev slotSet (s : Fin 2) : Finset S2x512x512.Idx := (Rect.unit (s := S2x512x512) (slotOff s) S1x512x512.size (slotOff_inb s)).set

theorem tile_set (b : Fin 8 × Fin 136) : (tile b).view.set = tileSet b := (View.set_reshape _ _).trans (View.set_slice_whole _ _)
theorem rslot_set (s : Fin 2) : (rslot s).view.set = slotSet s := (View.set_reshape _ _).trans (View.set_slice_whole _ _)

theorem mem_tileSet (b : Fin 8 × Fin 136) (y : S8x136x512x512.Idx) : y ∈ tileSet b ↔ (y 0).val = b.1.val ∧ (y 1).val = b.2.val := by
  rw [Rect.mem_set_unit]
  have h2 : (y 2).val < 512 := (y 2).isLt
  have h3 : (y 3).val < 512 := (y 3).isLt
  constructor
  · intro H
    have a0 : b.1.val ≤ (y 0).val ∧ (y 0).val < b.1.val + 1 := H 0
    have a1 : b.2.val ≤ (y 1).val ∧ (y 1).val < b.2.val + 1 := H 1
    omega
  · intro H i; fin_cases i
    · show b.1.val ≤ (y 0).val ∧ (y 0).val < b.1.val + 1; omega
    · show b.2.val ≤ (y 1).val ∧ (y 1).val < b.2.val + 1; omega
    · show 0 ≤ (y 2).val ∧ (y 2).val < 0 + 512; omega
    · show 0 ≤ (y 3).val ∧ (y 3).val < 0 + 512; omega

theorem mem_slotSet (s : Fin 2) (y : S2x512x512.Idx) : y ∈ slotSet s ↔ (y 0).val = s.val := by
  rw [Rect.mem_set_unit]
  have h1 : (y 1).val < 512 := (y 1).isLt
  have h2 : (y 2).val < 512 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 512; omega
    · show 0 ≤ (y 2).val ∧ (y 2).val < 0 + 512; omega

theorem tileSet_disjoint : ∀ b b' : Fin 8 × Fin 136, b ≠ b' → Disjoint (tileSet b) (tileSet b') := by
  intro b b' hne; rw [Finset.disjoint_left]; intro y hy hy'; rw [mem_tileSet] at hy hy'
  exact hne (Prod.ext (Fin.ext (hy.1.symm.trans hy'.1)) (Fin.ext (hy.2.symm.trans hy'.2)))
theorem tileSet_cover : (Finset.univ : Finset (Fin 8 × Fin 136)).biUnion tileSet = Finset.univ := by
  ext y; simp only [Finset.mem_biUnion, Finset.mem_univ, true_and, iff_true]
  refine ⟨(⟨(y 0).val, (y 0).isLt⟩, ⟨(y 1).val, (y 1).isLt⟩), ?_⟩
  rw [mem_tileSet]; exact ⟨rfl, rfl⟩
theorem slotSet_disjoint : ∀ s s' : Fin 2, s ≠ s' → Disjoint (slotSet s) (slotSet s') := by
  intro s s' hne; rw [Finset.disjoint_left]; intro y hy hy'; rw [mem_slotSet] at hy hy'; exact hne (Fin.ext (hy.symm.trans hy'))
theorem slotSet_cover : (Finset.univ : Finset (Fin 2)).biUnion slotSet = Finset.univ := by
  ext y; simp only [Finset.mem_biUnion, Finset.mem_univ, true_and, iff_true]; refine ⟨⟨(y 0).val, (y 0).isLt⟩, ?_⟩
  rw [mem_slotSet]

theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The weights whole are their tiles. -/
theorem weights_eq (c : Dev nD) (XA : Buf (Elt F) (wM.view.loc (c : Thread nD τ))) :
    (((c : Thread nD τ).loc main_v59) ↦{fullShare} XA : sProp 𝕄) = bigSep Finset.univ (homeP c XA) := by
  rw [Ring.pointsTo_blocks (ℓ := (c : Thread nD τ).loc main_v59) tileSet tileSet_disjoint tileSet_cover]
  exact bigSep_congr fun b _ => by rw [← tile_set]; rfl

theorem slotP_eq (c : Dev nD) (s : Fin 2) (f) : slotP c s f = (((c : Thread nD τ).loc cc0_scratch2) ↦[slotSet s]{fullShare} f : sProp 𝕄) :=
  congrArg (fun S => (_ ↦[S]{fullShare} f : sProp 𝕄)) (rslot_set s)

theorem buf_split (c : Dev nD) :
    iprop(∃ f : Buf (Elt F) ((c : Thread nD τ).loc cc0_scratch2), ((c : Thread nD τ).loc cc0_scratch2) ↦{fullShare} f)
      ⊢ (iprop((∃ f, slotP c 0 f) ∗ ∃ f, slotP c 1 f) : sProp 𝕄) := by
  iintro ⟨%f, H⟩
  ihave H2 := (entails_of_eq ((Ring.pointsTo_blocks (Ix := Unit) (Name := ℕ) (U := Pipeline.UD sig nD τ) (Lvl := ℕ) (q := fullShare) (ℓ := (c : Thread nD τ).loc cc0_scratch2) slotSet slotSet_disjoint slotSet_cover f).trans (bigSep_fin2 _))) $$ H
  icases H2 with ⟨H0, H1⟩
  isplitl [H0]
  · iexists f; iapply (entails_of_eq (slotP_eq c 0 f).symm); iexact H0
  · iexists f; iapply (entails_of_eq (slotP_eq c 1 f).symm); iexact H1
theorem buf_join (c : Dev nD) :
    iprop((∃ f, slotP c 0 f) ∗ ∃ f, slotP c 1 f)
      ⊢ (iprop(∃ f : Buf (Elt F) ((c : Thread nD τ).loc cc0_scratch2), ((c : Thread nD τ).loc cc0_scratch2) ↦{fullShare} f) : sProp 𝕄) := by
  iintro ⟨⟨%f0, H0⟩, ⟨%f1, H1⟩⟩
  iapply (Ring.pointsTo_blocks_join_exists (ℓ := (c : Thread nD τ).loc cc0_scratch2) slotSet slotSet_disjoint slotSet_cover f0)
  irw [bigSep_fin2]
  isplitl [H0]
  · iexists f0; iapply (entails_of_eq (slotP_eq c 0 f0)); iexact H0
  · iexists f1; iapply (entails_of_eq (slotP_eq c 1 f1)); iexact H1

abbrev osem : Fin 2 → SemLoc sig := fun s => .dma (csm s).sem
theorem ownSemFacts : Pipeline.OwnSemFacts spec0 osem := by decide

theorem ownSems0_eq (c : Dev nD) : (Pipeline.ownSems0 (Ix := Unit) (Name := ℕ) (U := Pipeline.UD sig nD τ) (Lvl := ℕ) (Val := Elt F) (τ := τ) osem c : sProp 𝕄)
    = iprop(cellP c 0 ∗ cellP c 1) := by
  unfold Pipeline.ownSems0; rw [bigSep_fin2]

theorem held_dk (c : Dev nD) (f) : (held c dkM f : sProp 𝕄) = (((c : Thread nD τ).loc cc0_scratch0) ↦{fullShare} f : sProp 𝕄) :=
  congrArg (fun S => (((c : Thread nD τ).loc cc0_scratch0) ↦[S]{fullShare} f : sProp 𝕄)) (View.set_whole _)
theorem held_dv (c : Dev nD) (f) : (held c dvM f : sProp 𝕄) = (((c : Thread nD τ).loc cc0_scratch1) ↦{fullShare} f : sProp 𝕄) :=
  congrArg (fun S => (((c : Thread nD τ).loc cc0_scratch1) ↦[S]{fullShare} f : sProp 𝕄)) (View.set_whole _)

/-! ## What a point leaves -/

theorem first_iff : ∀ t : Fin cfg0.N, first (grid0.coords t) = 1#1 ↔ t.val % 16 = 0 :=
  (by decide +kernel : ∀ t : Fin grid0.N, first (grid0.coords t) = 1#1 ↔ t.val % 16 = 0)
theorem last_iff : ∀ t : Fin cfg0.N, k0_cond5 (grid0.coords t) = 1#1 ↔ t.val % 16 = 15 :=
  (by decide +kernel : ∀ t : Fin grid0.N, k0_cond5 (grid0.coords t) = 1#1 ↔ t.val % 16 = 15)

variable (m : (ℓ : Loc nD τ sig) → Buf (Elt F) ℓ) (ρ : Dev nD → PrngReg)

section Point
variable (c : Dev nD) (t : Fin cfg0.N)

/-- The saved weights as the region finds them. -/
abbrev XA : Buf (Elt F) (wM.view.loc (c : Thread nD τ)) := V m c main_v59

abbrev pFirst (h : t.val % 16 = 0) :=
  runFirst c (XA m c) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    ((first_iff t).2 h) (fun e => by have := (last_iff t).1 e; omega)
    ((st0_0 t).view.rep (iblk m c 0 t)) ((st0_1 t).view.rep (iblk m c 1 t)) ((st0_2 t).view.rep (iblk m c 2 t)) ((st0_3 t).view.rep (iblk m c 3 t)) ((st0_4 t).view.rep (iblk m c 4 t))

abbrev pMid (h : t.val % 16 ≠ 0) (h' : t.val % 16 ≠ 15) (s : Buf (Elt F) (dkM.view.loc (c : Thread nD τ)) × Buf (Elt F) (dvM.view.loc (c : Thread nD τ))) :=
  runMid c (XA m c) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    (fun e => h ((first_iff t).1 e)) (fun e => h' ((last_iff t).1 e))
    ((st0_0 t).view.rep (iblk m c 0 t)) ((st0_1 t).view.rep (iblk m c 1 t)) ((st0_2 t).view.rep (iblk m c 2 t)) ((st0_3 t).view.rep (iblk m c 3 t)) ((st0_4 t).view.rep (iblk m c 4 t))
    s.1 s.2

abbrev pLast (h' : t.val % 16 = 15) (s : Buf (Elt F) (dkM.view.loc (c : Thread nD τ)) × Buf (Elt F) (dvM.view.loc (c : Thread nD τ))) :=
  runLast c (XA m c) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    (fun e => by have := (first_iff t).1 e; omega) ((last_iff t).2 h')
    ((st0_0 t).view.rep (iblk m c 0 t)) ((st0_1 t).view.rep (iblk m c 1 t)) ((st0_2 t).view.rep (iblk m c 2 t)) ((st0_3 t).view.rep (iblk m c 3 t)) ((st0_4 t).view.rep (iblk m c 4 t))
    s.1 s.2

/-- The two gradient buffers. -/
abbrev Acc (F : FTy → Type) [FloatOps F] (c : Dev nD) : Type := Buf (Elt F) (dkM.view.loc (c : Thread nD τ)) × Buf (Elt F) (dvM.view.loc (c : Thread nD τ))

/-- The buffers after a point, from the buffers before it. -/
def step (s : Acc F c) : Acc F c :=
  if h : t.val % 16 = 0 then ((pFirst m c t h).1.1, (pFirst m c t h).1.2.1)
  else if h' : t.val % 16 = 15 then ((pLast m c t h' s).1.1, (pLast m c t h' s).1.2.1)
  else ((pMid m c t h h' s).1.1, (pMid m c t h h' s).1.2.1)

/-- The query gradient of a point. -/
def dqOut (s : Acc F c) : S512x128.Idx → Elt F .bf16 :=
  if h : t.val % 16 = 0 then (pFirst m c t h).1.2.2
  else if h' : t.val % 16 = 15 then (pLast m c t h' s).1.2.2.1
  else (pMid m c t h h' s).1.2.2

/-- The key gradient written out at a head's last point, -/
def dkOut (s : Acc F c) : S8192x128.Idx → Elt F .bf16 :=
  if h' : t.val % 16 = 15 then (pLast m c t h' s).1.2.2.2.1 else fun _ => FloatOps.ofBits .bf16 0#16
/-- and the value gradient. -/
def dvOut (s : Acc F c) : S8192x128.Idx → Elt F .bf16 :=
  if h' : t.val % 16 = 15 then (pLast m c t h' s).1.2.2.2.2 else fun _ => FloatOps.ofBits .bf16 0#16

theorem step_first (h : t.val % 16 = 0) (s) : step m c t s = ((pFirst m c t h).1.1, (pFirst m c t h).1.2.1) := by
  unfold step; rw [dif_pos h]
theorem step_last (h' : t.val % 16 = 15) (s) : step m c t s = ((pLast m c t h' s).1.1, (pLast m c t h' s).1.2.1) := by
  unfold step; rw [dif_neg (by omega), dif_pos h']
theorem step_mid (h : t.val % 16 ≠ 0) (h' : t.val % 16 ≠ 15) (s) : step m c t s = ((pMid m c t h h' s).1.1, (pMid m c t h h' s).1.2.1) := by
  unfold step; rw [dif_neg h, dif_neg h']
theorem dqOut_first (h : t.val % 16 = 0) (s) : dqOut m c t s = (pFirst m c t h).1.2.2 := by
  unfold dqOut; rw [dif_pos h]
theorem dqOut_last (h' : t.val % 16 = 15) (s) : dqOut m c t s = (pLast m c t h' s).1.2.2.1 := by
  unfold dqOut; rw [dif_neg (by omega), dif_pos h']
theorem dqOut_mid (h : t.val % 16 ≠ 0) (h' : t.val % 16 ≠ 15) (s) : dqOut m c t s = (pMid m c t h h' s).1.2.2 := by
  unfold dqOut; rw [dif_neg h, dif_neg h']

end Point

/-- The gradient buffers before point `n`. -/
def acc (c : Dev nD) : ℕ → Acc F c
  | 0 => (clearK c, clearV c)
  | n + 1 => if h : n < cfg0.N then step m c ⟨n, h⟩ (acc c n) else acc c n

theorem acc_succ (c : Dev nD) (t : Fin cfg0.N) : acc m c (t.val + 1) = step m c t (acc m c t.val) := by
  rw [acc, dif_pos t.isLt]

/-! ## The proof data -/

/-- What is held before point `n`. -/
def inv (c : Dev nD) (n : ℕ) : sProp 𝕄 :=
  iprop(∃ fk, ∃ fv, ⌜n % 16 ≠ 0 → (fk, fv) = acc m c n⌝ ∗ held c dkM fk ∗ held c dvM fv
    ∗ bigSep Finset.univ (homeP c (XA m c)) ∗ (∃ f, slotP c 0 f) ∗ (∃ f, slotP c 1 f) ∗ cellP c 0 ∗ cellP c 1 ∗ ∃ r, prngReg c r)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqOut m c t (acc m c t.val)
    | ⟨6, _⟩ => dkOut m c t (acc m c t.val)
    | ⟨7, _⟩ => dvOut m c t (acc m c t.val)
  Φ t := inv m c t.val
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = dqOut m c t (acc m c t.val) := by dsimp only [dats]
theorem after0_6 (c : Dev nD) (t : Fin cfg0.N) : (dats m 0 c).after 6 t = dkOut m c t (acc m c t.val) := by dsimp only [dats]
theorem after0_7 (c : Dev nD) (t : Fin cfg0.N) : (dats m 0 c).after 7 t = dvOut m c t (acc m c t.val) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## One point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d)))
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t)

theorem leaves_of_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]; try rfl

section Operands
variable (c : Dev nD) (t : Fin cfg0.N)

/-- The five operands at point `t`, each at its block. -/
abbrev opsAt : sProp 𝕄 :=
  opsP c (st0_0 t) (st0_1 t) (st0_2 t) (st0_3 t) (st0_4 t) ((st0_0 t).view.rep (iblk m c 0 t)) ((st0_1 t).view.rep (iblk m c 1 t))
    ((st0_2 t).view.rep (iblk m c 2 t)) ((st0_3 t).view.rep (iblk m c 3 t)) ((st0_4 t).view.rep (iblk m c 4 t))

theorem ops_in :
    iprop((∃ d, owns (c : Thread nD τ) (st0_0 t) fullShare ((dats m 0 c).before 0 t d)) ∗ (∃ d, owns (c : Thread nD τ) (st0_1 t) fullShare ((dats m 0 c).before 1 t d))
      ∗ (∃ d, owns (c : Thread nD τ) (st0_2 t) fullShare ((dats m 0 c).before 2 t d)) ∗ (∃ d, owns (c : Thread nD τ) (st0_3 t) fullShare ((dats m 0 c).before 3 t d))
      ∗ (∃ d, owns (c : Thread nD τ) (st0_4 t) fullShare ((dats m 0 c).before 4 t d))) ⊢ opsAt m c t := by
  simp only [before0_0, before0_1, before0_2, before0_3, before0_4]
  iintro ⟨⟨%d0, H0⟩, ⟨%d1, H1⟩, ⟨%d2, H2⟩, ⟨%d3, H3⟩, ⟨%d4, H4⟩⟩
  isplitl [H0]; · iapply (owns_rep c (st0_0 t) (iblk m c 0 t)); iexact H0
  isplitl [H1]; · iapply (owns_rep c (st0_1 t) (iblk m c 1 t)); iexact H1
  isplitl [H2]; · iapply (owns_rep c (st0_2 t) (iblk m c 2 t)); iexact H2
  isplitl [H3]; · iapply (owns_rep c (st0_3 t) (iblk m c 3 t)); iexact H3
  iapply (owns_rep c (st0_4 t) (iblk m c 4 t)); iexact H4

theorem ops_out :
    opsAt m c t ⊢ iprop((dats m 0 c).leavesExact 0 t ∗ (dats m 0 c).leavesExact 1 t ∗ (dats m 0 c).leavesExact 2 t ∗ (dats m 0 c).leavesExact 3 t
      ∗ (dats m 0 c).leavesExact 4 t) := by
  rw [leaves_of_live m c 0 t rfl, leaves_of_live m c 1 t rfl, leaves_of_live m c 2 t rfl, leaves_of_live m c 3 t rfl, leaves_of_live m c 4 t rfl,
    after0_0, after0_1, after0_2, after0_3, after0_4]
  iintro ⟨H0, H1, H2, H3, H4⟩
  isplitl [H0]; · iapply (rep_owns c (st0_0 t) (iblk m c 0 t)); iexact H0
  isplitl [H1]; · iapply (rep_owns c (st0_1 t) (iblk m c 1 t)); iexact H1
  isplitl [H2]; · iapply (rep_owns c (st0_2 t) (iblk m c 2 t)); iexact H2
  isplitl [H3]; · iapply (rep_owns c (st0_3 t) (iblk m c 3 t)); iexact H3
  iapply (rep_owns c (st0_4 t) (iblk m c 4 t)); iexact H4

/-- What comes back from a point, its own results apart, is what is owed after it. -/
theorem point_out (fk fv) (hs : (fk, fv) = acc m c (t.val + 1)) :
    iprop((opsAt m c t ∗ held c dkM fk ∗ held c dvM fv ∗ stillP c (XA m c) ∗ (∃ r, prngReg c r))
      ∗ (dats m 0 c).leavesExact 5 t ∗ (dats m 0 c).leavesExact 6 t ∗ (dats m 0 c).leavesExact 7 t) ⊢ bodyPost m c t := by
  unfold bodyPost Dat.owesAt Pipeline.owesWithin
  rw [show (dats m 0 c).Φ t.succ = inv m c (t.val + 1) from rfl, show (dats m 0 c).owed t.succ = 0 from rfl]
  unfold inv
  iintro ⟨⟨Hops, Hdk, Hdv, ⟨Hh, Hs0, Hs1, Hc0, Hc1, ⟨%W, HW⟩⟩, Hr⟩, H5, H6, H7⟩
  isplitl [Hdk Hdv Hh Hs0 Hs1 Hc0 Hc1 Hr]
  · iexists fk; iexists fv
    isplitr; · ipureintro; exact fun _ => hs
    isplitl [Hdk]; · iexact Hdk
    isplitl [Hdv]; · iexact Hdv
    isplitl [Hh]; · iexact Hh
    isplitl [Hs0]; · iexact Hs0
    isplitl [Hs1]; · iexact Hs1
    isplitl [Hc0]; · iexact Hc0
    isplitl [Hc1]; · iexact Hc1
    iexact Hr
  isplitl [HW]
  · iexists W; isplitr; · ipureintro; exact fun _ _ => Or.inl trivial
    iexact HW
  ihave Ho := (ops_out m c t) $$ Hops
  icases Ho with ⟨H0, H1, H2, H3, H4⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- What a point starts from, the results' buffers at anything. -/
theorem point_in :
    bodyPre m c t ⊢ iprop(∃ fk, ∃ fv, ⌜t.val % 16 ≠ 0 → (fk, fv) = acc m c t.val⌝
      ∗ opsAt m c t ∗ held c dkM fk ∗ held c dvM fv ∗ stillP c (XA m c) ∗ (∃ r, prngReg c r)
      ∗ (∃ g5, held c (st0_5 t) g5)
      ∗ (∃ d, owns (c : Thread nD τ) (st0_6 t) fullShare ((dats m 0 c).before 6 t d)) ∗ (∃ d, owns (c : Thread nD τ) (st0_7 t) fullShare ((dats m 0 c).before 7 t d))) := by
  unfold bodyPre Dat.owesAt Pipeline.owesWithin
  rw [show (dats m 0 c).Φ t.castSucc = inv m c t.val from rfl, show (dats m 0 c).owed t.castSucc = 0 from rfl]
  unfold inv
  iintro ⟨⟨%fk, %fv, %hs, Hdk, Hdv, Hh, Hs0, Hs1, Hc0, Hc1, Hr⟩, ⟨%W, -, HW⟩, H0, H1, H2, H3, H4, ⟨%d5, H5⟩, H6, H7⟩
  iexists fk; iexists fv
  isplitr; · ipureintro; exact hs
  isplitl [H0 H1 H2 H3 H4]
  · iapply (ops_in m c t)
    isplitl [H0]; · iexact H0
    isplitl [H1]; · iexact H1
    isplitl [H2]; · iexact H2
    isplitl [H3]; · iexact H3
    iexact H4
  isplitl [Hdk]; · iexact Hdk
  isplitl [Hdv]; · iexact Hdv
  isplitl [Hh Hs0 Hs1 Hc0 Hc1 HW]
  · isplitl [Hh]; · iexact Hh
    isplitl [Hs0]; · iexact Hs0
    isplitl [Hs1]; · iexact Hs1
    isplitl [Hc0]; · iexact Hc0
    isplitl [Hc1]; · iexact Hc1
    iexists W; iexact HW
  isplitl [Hr]; · iexact Hr
  isplitl [H5]; · iapply (owns_some c (st0_5 t) _); iexact H5
  isplitl [H6]; · iexact H6
  iexact H7

theorem idle_67 (h' : t.val % 16 ≠ 15) : cfg0.idle 6 (cfg0.grid.coords t) = true ∧ cfg0.idle 7 (cfg0.grid.coords t) = true := by
  have h5 : ¬ k0_cond5 (grid0.coords t) = 1#1 := fun e => h' ((last_iff t).1 e)
  constructor <;> exact (by show (!(k0_cond5 (grid0.coords t) == 1#1)) = true; simpa using h5)
theorem live_67 (h' : t.val % 16 = 15) : cfg0.idle 6 (cfg0.grid.coords t) = false ∧ cfg0.idle 7 (cfg0.grid.coords t) = false := by
  have h5 : k0_cond5 (grid0.coords t) = 1#1 := (last_iff t).2 h'
  constructor <;> exact (by show (!(k0_cond5 (grid0.coords t) == 1#1)) = false; simpa using h5)

theorem still_67 (h' : t.val % 16 ≠ 15) :
    (dats m 0 c).leavesExact 6 t = iprop(∃ d, owns (c : Thread nD τ) (st0_6 t) fullShare ((dats m 0 c).before 6 t d))
    ∧ (dats m 0 c).leavesExact 7 t = iprop(∃ d, owns (c : Thread nD τ) (st0_7 t) fullShare ((dats m 0 c).before 7 t d)) :=
  ⟨(dats m 0 c).leavesExact_idle 6 t (idle_67 t h').1 (Bool.eq_false_iff.2 fun e => h' ((flush0_6 t).1 e)),
    (dats m 0 c).leavesExact_idle 7 t (idle_67 t h').2 (Bool.eq_false_iff.2 fun e => h' ((flush0_7 t).1 e))⟩

theorem sound_first (h : t.val % 16 = 0) :
    bodyPre m c t ⊢ wp frame (wpE (defs₀ (F := F)) 𝒱₀ c none) Set.univ (bodyAt0 t) (fun _ => bodyPost m c t) := by
  refine (point_in m c t).trans ?_
  iintro ⟨%fk, %fv, -, Hops, Hdk, Hdv, Hst, Hr, ⟨%g5, H5⟩, H6, H7⟩
  iapply ((pFirst m c t h).2 fk fv g5 _)
  isplitl [Hops Hdk Hdv Hst H5]
  · isplitl [Hops]; · iexact Hops
    isplitl [H5]; · iexact H5
    isplitl [Hdk]; · iexact Hdk
    isplitl [Hdv]; · iexact Hdv
    iapply (stillP_start c (XA m c) (grid0.coords t)); iexact Hst
  iintro ⟨Hops, H5, Hdk, Hdv, Hst⟩
  iapply (point_out m c t (pFirst m c t h).1.1 (pFirst m c t h).1.2.1 (by rw [acc_succ, step_first m c t h]))
  isplitl [Hops Hdk Hdv Hst Hr]
  · isplitl [Hops]; · iexact Hops
    isplitl [Hdk]; · iexact Hdk
    isplitl [Hdv]; · iexact Hdv
    isplitl [Hst]; · iapply (stillP_end c (XA m c) (grid0.coords t) _); iexact Hst
    iexact Hr
  irw [leaves_of_live m c 5 t rfl, after0_5, dqOut_first m c t h, (still_67 m c t (by omega)).1, (still_67 m c t (by omega)).2]
  isplitl [H5]; · iapply (q_owns c (st0_5 t) g5 _); iexact H5
  isplitl [H6]; · iexact H6
  iexact H7

theorem sound_mid (h : t.val % 16 ≠ 0) (h' : t.val % 16 ≠ 15) :
    bodyPre m c t ⊢ wp frame (wpE (defs₀ (F := F)) 𝒱₀ c none) Set.univ (bodyAt0 t) (fun _ => bodyPost m c t) := by
  refine (point_in m c t).trans ?_
  iintro ⟨%fk, %fv, %hs, Hops, Hdk, Hdv, Hst, Hr, ⟨%g5, H5⟩, H6, H7⟩
  have hs := hs h
  iapply ((pMid m c t h h' (fk, fv)).2 g5 _)
  isplitl [Hops Hdk Hdv Hst H5]
  · isplitl [Hops]; · iexact Hops
    isplitl [H5]; · iexact H5
    isplitl [Hdk]; · iexact Hdk
    isplitl [Hdv]; · iexact Hdv
    iapply (stillP_start c (XA m c) (grid0.coords t)); iexact Hst
  iintro ⟨Hops, H5, Hdk, Hdv, Hst⟩
  iapply (point_out m c t (pMid m c t h h' (fk, fv)).1.1 (pMid m c t h h' (fk, fv)).1.2.1 (by rw [acc_succ, step_mid m c t h h', hs]))
  isplitl [Hops Hdk Hdv Hst Hr]
  · isplitl [Hops]; · iexact Hops
    isplitl [Hdk]; · iexact Hdk
    isplitl [Hdv]; · iexact Hdv
    isplitl [Hst]; · iapply (stillP_end c (XA m c) (grid0.coords t) _); iexact Hst
    iexact Hr
  irw [leaves_of_live m c 5 t rfl, after0_5, dqOut_mid m c t h h', ← hs, (still_67 m c t h').1, (still_67 m c t h').2]
  isplitl [H5]; · iapply (q_owns c (st0_5 t) g5 _); iexact H5
  isplitl [H6]; · iexact H6
  iexact H7

theorem leaves_last (h' : t.val % 16 = 15) (fk fv) (hs : (fk, fv) = acc m c t.val) :
    (dats m 0 c).leavesExact 5 t = owns (c : Thread nD τ) (st0_5 t) fullShare (pLast m c t h' (fk, fv)).1.2.2.1
    ∧ (dats m 0 c).leavesExact 6 t = owns (c : Thread nD τ) (st0_6 t) fullShare (pLast m c t h' (fk, fv)).1.2.2.2.1
    ∧ (dats m 0 c).leavesExact 7 t = owns (c : Thread nD τ) (st0_7 t) fullShare (pLast m c t h' (fk, fv)).1.2.2.2.2 := by
  rw [leaves_of_live m c 5 t rfl, after0_5, leaves_of_live m c 6 t (live_67 t h').1, leaves_of_live m c 7 t (live_67 t h').2,
    after0_6, after0_7, hs, dqOut_last m c t h']
  unfold dkOut dvOut
  rw [dif_pos h', dif_pos h']
  exact ⟨rfl, rfl, rfl⟩

theorem sound_last (h' : t.val % 16 = 15) :
    bodyPre m c t ⊢ wp frame (wpE (defs₀ (F := F)) 𝒱₀ c none) Set.univ (bodyAt0 t) (fun _ => bodyPost m c t) := by
  refine (point_in m c t).trans ?_
  iintro ⟨%fk, %fv, %hs, Hops, Hdk, Hdv, Hst, Hr, ⟨%g5, H5⟩, ⟨%d6, H6⟩, ⟨%d7, H7⟩⟩
  have hs := hs (by omega)
  ihave H6 := (owns_some c (st0_6 t) _) $$ H6
  icases H6 with ⟨%g6, H6⟩
  ihave H7 := (owns_some c (st0_7 t) _) $$ H7
  icases H7 with ⟨%g7, H7⟩
  iapply ((pLast m c t h' (fk, fv)).2 g5 g6 g7 _)
  isplitl [Hops Hdk Hdv Hst H5 H6 H7]
  · isplitl [Hops]; · iexact Hops
    isplitl [H5]; · iexact H5
    isplitl [H6]; · iexact H6
    isplitl [H7]; · iexact H7
    isplitl [Hdk]; · iexact Hdk
    isplitl [Hdv]; · iexact Hdv
    iapply (stillP_start c (XA m c) (grid0.coords t)); iexact Hst
  iintro ⟨Hops, H5, H6, H7, Hdk, Hdv, Hst⟩
  iapply (point_out m c t (pLast m c t h' (fk, fv)).1.1 (pLast m c t h' (fk, fv)).1.2.1 (by rw [acc_succ, step_last m c t h', hs]))
  isplitl [Hops Hdk Hdv Hst Hr]
  · isplitl [Hops]; · iexact Hops
    isplitl [Hdk]; · iexact Hdk
    isplitl [Hdv]; · iexact Hdv
    isplitl [Hst]; · iapply (stillP_end c (XA m c) (grid0.coords t) _); iexact Hst
    iexact Hr
  isplitl [H5]
  · iapply (entails_of_eq (leaves_last m c t h' fk fv hs).1.symm)
    iapply (q_owns c (st0_5 t) g5 _); iexact H5
  isplitl [H6]
  · iapply (entails_of_eq (leaves_last m c t h' fk fv hs).2.1.symm)
    iapply (all_owns c (st0_6 t) g6 _); iexact H6
  iapply (entails_of_eq (leaves_last m c t h' fk fv hs).2.2.symm)
  iapply (all_owns c (st0_7 t) g7 _); iexact H7

end Operands

theorem defs₀_row (t : Fin cfg0.N) :
    defs₀ (F := F) .tc cfg0.body (cfg0.bodyArgs t (cfg0.slots t)) = bodyAt0 t := by
  unfold defs₀; rw [Defs.onTc_tc]

theorem sound_body (c : Dev nD) (t : Fin cfg0.N) :
    bodyPre m c t ⊢ wp frame (wpE (defs₀ (F := F)) 𝒱₀ c none) Set.univ (bodyAt0 t) (fun _ => bodyPost m c t) := by
  by_cases h : t.val % 16 = 0
  · exact sound_first m c t h
  by_cases h' : t.val % 16 = 15
  · exact sound_last m c t h'
  exact sound_mid m c t h h'

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The launch -/

abbrev H0 : Finset (Ref sig .tc) := {main_v59}
theorem H0_sub : H0 ⊆ Pipeline.restRefs sig spec0 := by decide

theorem inv_in (c : Dev nD) : (Pipeline.ΦD osem spec0 H0 (V m) c : sProp 𝕄) ⊢ inv m c 0 := by
  rw [Pipeline.ΦD_eq, scopedRest0_eq, ownSems0_eq]
  unfold inv
  rw [show (bigSep H0 fun b => ((c : Thread nD τ).loc b) ↦{fullShare} V m c b : sProp 𝕄) = (((c : Thread nD τ).loc main_v59) ↦{fullShare} XA m c : sProp 𝕄) from bigSep_singleton,
    weights_eq]
  iintro ⟨⟨⟨%f0, H0⟩, ⟨%f1, H1⟩, H2⟩, Hr, ⟨Hc0, Hc1⟩, Hh⟩
  iexists f0; iexists f1
  isplitr; · ipureintro; exact fun h => absurd rfl h
  isplitl [H0]; · iapply (entails_of_eq (held_dk c f0).symm); iexact H0
  isplitl [H1]; · iapply (entails_of_eq (held_dv c f1).symm); iexact H1
  isplitl [Hh]; · iexact Hh
  ihave Hs := (buf_split c) $$ H2
  icases Hs with ⟨Hs0, Hs1⟩
  isplitl [Hs0]; · iexact Hs0
  isplitl [Hs1]; · iexact Hs1
  isplitl [Hc0]; · iexact Hc0
  isplitl [Hc1]; · iexact Hc1
  iexact Hr

theorem inv_out (c : Dev nD) (n : ℕ) : inv m c n ⊢ (Pipeline.ΦD osem spec0 H0 (V m) c : sProp 𝕄) := by
  rw [Pipeline.ΦD_eq, scopedRest0_eq, ownSems0_eq]
  unfold inv
  rw [show (bigSep H0 fun b => ((c : Thread nD τ).loc b) ↦{fullShare} V m c b : sProp 𝕄) = (((c : Thread nD τ).loc main_v59) ↦{fullShare} XA m c : sProp 𝕄) from bigSep_singleton,
    weights_eq]
  iintro ⟨%fk, %fv, -, Hdk, Hdv, Hh, Hs0, Hs1, Hc0, Hc1, Hr⟩
  isplitl [Hdk Hdv Hs0 Hs1]
  · isplitl [Hdk]; · iexists fk; iapply (entails_of_eq (held_dk c fk)); iexact Hdk
    isplitl [Hdv]; · iexists fv; iapply (entails_of_eq (held_dv c fv)); iexact Hdv
    iapply (buf_join c)
    isplitl [Hs0]; · iexact Hs0
    iexact Hs1
  isplitl [Hr]; · iexact Hr
  isplitl [Hc0 Hc1]
  · isplitl [Hc0]; · iexact Hc0
    iexact Hc1
  iexact Hh

set_option maxHeartbeats 800000 in
theorem host_lines : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame_dma_shared (Q' := _) cfgs (dats m) (0 : Fin 1) launch₀0 osem defs₀ 𝒱₀ ownSemFacts H0 H0_sub m ρ main
    (hbody := fun c => (body_obligation m c).loose) (hq := fun _ _ _ => rfl)
    (howed := fun _ _ => rfl) (V := V m) (hmain := host_lines m) (hA := A_eq m)
    (hin := fun c => inv_in m c) (hout := fun c => inv_out m c _)

/-- The arguments end as they began and every semaphore at zero. -/
theorem frame_of_run (r : PUnit × MemSt nD τ sig (Elt F)) (h : Pipeline.FramePost cfgs (dats m) 0 (V m) r ∧ r.2.sem = fun _ => 0) :
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  ⟨fun c => ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c)⟩, h.2⟩

end Cert.StickBwd

end
-- ==== Proof.StickBwdTile.lean ====
/-
  One block of the attention backward over the reals: a block of 512 query rows against one of 512 key rows. The
  running sum of the weighted products goes through the block in four column chunks, each a product with a strictly
  lower triangular table; what comes out is the running sum at every column, and the block's terms of the gradients.
-/
module

public import proofs.«01_k».proof.Proof.Gen.StickBwdKernelIdeal.Skeleton
public import proofs.«01_k».proof.Proof.Lift
public import Idealize.ShloMosaic.Lib.Pipeline.ValueKit
public import Idealize.ShloMosaic.Lib.WordCmp

@[expose] public section

set_option maxRecDepth 16384

noncomputable section

namespace Cert.StickBwd

open Cert.StickBwdKernelIdeal Cert.StickBwdKernelIdeal.Gen
open Idealize.ShloMosaic Cert.Lift

abbrev f32t (s : Shape) := FVec Ideal s .f32
abbrev b16t (s : Shape) := FVec Ideal s .bf16

/-- The value of the word of `1/√128`. -/
def scale : ℝ := 11863283 / 134217728

theorem f32_scale : Ideal.ofBits .f32 0x3DB504F3#32 = ((scale : ℝ) : EReal) := by
  simp [Ideal.ofBits, Ideal.ieee, -EReal.coe_mul, scale]; norm_num

/-! ## The four chunks -/

/-- The sums before each column of one chunk, the run before the chunk added … -/
def chunkPre (b : b16t S256x128) (run : f32t S512x1) (x : f32t S512x128) : f32t S512x128 :=
  addf (broadcastTo S512x128 run broadcasts_S512x1_S512x128)
    (matmul dot_S512x256_S256x128_S512x128_1_0_0_1_n_n none
      (concatenate S512x256 1 [⟨S512x128, truncf .bf16 x bitsLt_bf16_f32⟩,
        ⟨S512x128, truncf .bf16 (subf x (extf .f32 (truncf .bf16 x bitsLt_bf16_f32) bitsLt_bf16_f32)) bitsLt_bf16_f32⟩]
        concatenates_S512x128_S512x128_S512x256_d1) b (constant S512x128 .f32 0x00000000#32))

/-- … the run after it … -/
def chunkRun (p x : f32t S512x128) : f32t S512x1 :=
  addf (extractStridedSlice S512x1 ![0, 127] p slices_S512x128_o0_127_S512x1)
    (extractStridedSlice S512x1 ![0, 127] x slices_S512x128_o0_127_S512x1)

/-- … and the gradient of the scores. -/
def chunkDa (s p x : f32t S512x128) : f32t S512x128 := subf x (mulf s (addf x p))

def cut0 (x : f32t S512x512) : f32t S512x128 := extractStridedSlice S512x128 ![0, 0] x slices_S512x512_o0_0_S512x128
def cut1 (x : f32t S512x512) : f32t S512x128 := extractStridedSlice S512x128 ![0, 128] x slices_S512x512_o0_128_S512x128
def cut2 (x : f32t S512x512) : f32t S512x128 := extractStridedSlice S512x128 ![0, 256] x slices_S512x512_o0_256_S512x128
def cut3 (x : f32t S512x512) : f32t S512x128 := extractStridedSlice S512x128 ![0, 384] x slices_S512x512_o0_384_S512x128

section Block
variable (b : b16t S256x128) (run : f32t S512x1) (s x : f32t S512x512)

def run1 : f32t S512x1 := chunkRun (chunkPre b run (cut0 x)) (cut0 x)
def run2 : f32t S512x1 := chunkRun (chunkPre b (run1 b run x) (cut1 x)) (cut1 x)
def run3 : f32t S512x1 := chunkRun (chunkPre b (run2 b run x) (cut2 x)) (cut2 x)
def run4 : f32t S512x1 := chunkRun (chunkPre b (run3 b run x) (cut3 x)) (cut3 x)

/-- The block's gradient of the scores. -/
def blockDa : f32t S512x512 :=
  concatenate S512x512 1 [⟨S512x128, chunkDa (cut0 s) (chunkPre b run (cut0 x)) (cut0 x)⟩,
    ⟨S512x128, chunkDa (cut1 s) (chunkPre b (run1 b run x) (cut1 x)) (cut1 x)⟩,
    ⟨S512x128, chunkDa (cut2 s) (chunkPre b (run2 b run x) (cut2 x)) (cut2 x)⟩,
    ⟨S512x128, chunkDa (cut3 s) (chunkPre b (run3 b run x) (cut3 x)) (cut3 x)⟩]
    concatenates_S512x128_S512x128_S512x128_S512x128_S512x512_d1

/-- … scaled … -/
def blockE : b16t S512x512 :=
  truncf .bf16 (mulf (blockDa b run s x) (broadcast S512x512 (Scalar.ofBits .f32 0x3DB504F3#32))) bitsLt_bf16_f32

/-- … and on the diagonal masked first. -/
def blockEm : b16t S512x512 :=
  truncf .bf16 (mulf (select k0_pay55 (blockDa b run s x) (broadcast S512x512 (Scalar.ofBits .f32 0x00000000#32)))
    (broadcast S512x512 (Scalar.ofBits .f32 0x3DB504F3#32))) bitsLt_bf16_f32

/-! ### The payloads are these -/

variable (q d k v : b16t S512x128) (w : b16t S1x512x512) (o : f32t S512x128)

theorem pay45_eq : k0_pay45 (F := Ideal) b x s (k0_pay12 b run (k0_pay6 q k) x) (k0_pay15 b run (k0_pay6 q k) x) (k0_pay16 b run x) (k0_pay17 x) (k0_pay18 x) (k0_pay19 x)
    = truncf .bf16 (mulf (concatenate S512x512 1 [⟨S512x128, chunkDa (cut0 (k0_pay9 (k0_pay6 q k))) (chunkPre b run (cut0 x)) (cut0 x)⟩,
    ⟨S512x128, chunkDa (cut1 (k0_pay9 (k0_pay6 q k))) (chunkPre b (run1 b run x) (cut1 x)) (cut1 x)⟩,
    ⟨S512x128, chunkDa (cut2 s) (chunkPre b (run2 b run x) (cut2 x)) (cut2 x)⟩,
    ⟨S512x128, chunkDa (cut3 s) (chunkPre b (run3 b run x) (cut3 x)) (cut3 x)⟩]
    concatenates_S512x128_S512x128_S512x128_S512x128_S512x512_d1) (broadcast S512x512 (Scalar.ofBits .f32 0x3DB504F3#32))) bitsLt_bf16_f32 := rfl

theorem pay44_eq : k0_pay44 (F := Ideal) b x (k0_pay16 b run x) (k0_pay17 x) (k0_pay18 x) (k0_pay19 x) = run4 b run x := rfl

theorem pay67_eq : k0_pay67 (F := Ideal) b k0_pay55 (k0_pay57 d w v) (k0_pay59 q k) (k0_pay62 q d b run w k v) (k0_pay63 d b run w v)
      (k0_pay64 d w v) (k0_pay65 d w v) (k0_pay66 d w v)
    = blockEm b run (k0_pay9 (k0_pay6 q k)) (k0_pay7 d w v) := rfl

end Block

/-! ## Over the reals -/

/-- A sum over the places before `j`, written with a condition. -/
theorem sum_below (N j : ℕ) (hj : j ≤ N) (f : ℕ → ℝ) : (∑ x : Fin N, if x.val < j then f x.val else 0) = ∑ k ∈ Finset.range j, f k := by
  rw [← Finset.sum_range (fun k => if k < j then f k else 0), ← Finset.sum_filter]
  refine Finset.sum_congr ?_ fun _ _ => rfl
  ext k; simp only [Finset.mem_filter, Finset.mem_range]; omega

theorem chunkPre_real (b : b16t S256x128) (hb : ∀ i, b i = ((if (i 0).val % 128 < (i 1).val then 1 else 0 : ℝ) : EReal))
    (run : f32t S512x1) (R : Fin 512 → ℝ) (hr : ∀ r, run (ix2 r 0) = ((R r : ℝ) : EReal))
    (x : f32t S512x128) (X : Fin 512 → ℕ → ℝ) (hx : ∀ r (j : Fin 128), x (ix2 r j) = ((X r j : ℝ) : EReal))
    (r : Fin 512) (j : Fin 128) :
    chunkPre b run x (ix2 r j) = ((R r + ∑ s ∈ Finset.range j, X r s : ℝ) : EReal) := by
  unfold chunkPre
  pointwise
  have h1 : ∀ k : Fin 128, x (ix2 r k) * b (ix2 ⟨k.val, by omega⟩ j) = ((X r k * (if k.val < j.val then 1 else 0) : ℝ) : EReal) := fun k => by
    rw [hx, hb, ← EReal.coe_mul]
    simp only [ix2_0, ix2_1, Nat.mod_eq_of_lt k.isLt]
  have h2 : ∀ k : Fin 128, (x (ix2 r k) - x (ix2 r k)) * b (ix2 ⟨128 + k.val, by omega⟩ j) = ((0 : ℝ) : EReal) := fun k => by
    rw [hx, hb, ← EReal.coe_sub, ← EReal.coe_mul, sub_self, zero_mul]
  rw [sum_eq_coe _ _ h1, sum_eq_coe _ _ h2, hr, ← EReal.coe_add, ← EReal.coe_add]
  congr 2
  rw [Finset.sum_const_zero, add_zero]
  simp only [mul_ite, mul_one, mul_zero]
  exact sum_below 128 j j.isLt.le (X r)

theorem chunkRun_real (p x : f32t S512x128) (P X : Fin 512 → ℕ → ℝ) (hp : ∀ r (j : Fin 128), p (ix2 r j) = ((P r j : ℝ) : EReal))
    (hx : ∀ r (j : Fin 128), x (ix2 r j) = ((X r j : ℝ) : EReal)) (r : Fin 512) :
    chunkRun p x (ix2 r 0) = ((P r 127 + X r 127 : ℝ) : EReal) := by
  unfold chunkRun
  pointwise
  rw [hp, hx, ← EReal.coe_add]
  rfl

theorem chunkDa_real (s p x : f32t S512x128) (S P X : Fin 512 → ℕ → ℝ) (hs : ∀ r (j : Fin 128), s (ix2 r j) = ((S r j : ℝ) : EReal))
    (hp : ∀ r (j : Fin 128), p (ix2 r j) = ((P r j : ℝ) : EReal))
    (hx : ∀ r (j : Fin 128), x (ix2 r j) = ((X r j : ℝ) : EReal)) (r : Fin 512) (j : Fin 128) :
    chunkDa s p x (ix2 r j) = ((X r j - S r j * (X r j + P r j) : ℝ) : EReal) := by
  unfold chunkDa
  pointwise
  rw [hs, hp, hx, ← EReal.coe_add, ← EReal.coe_mul, ← EReal.coe_sub]

section Cuts
variable (x : f32t S512x512) (X : Fin 512 → ℕ → ℝ) (hx : ∀ r (j : Fin 512), x (ix2 r j) = ((X r j : ℝ) : EReal))
include hx

theorem cut0_real (r : Fin 512) (j : Fin 128) : cut0 x (ix2 r j) = ((X r (0 + j) : ℝ) : EReal) := by
  unfold cut0; pointwise; rw [hx]
theorem cut1_real (r : Fin 512) (j : Fin 128) : cut1 x (ix2 r j) = ((X r (128 + j) : ℝ) : EReal) := by
  unfold cut1; pointwise; rw [hx]
theorem cut2_real (r : Fin 512) (j : Fin 128) : cut2 x (ix2 r j) = ((X r (256 + j) : ℝ) : EReal) := by
  unfold cut2; pointwise; rw [hx]
theorem cut3_real (r : Fin 512) (j : Fin 128) : cut3 x (ix2 r j) = ((X r (384 + j) : ℝ) : EReal) := by
  unfold cut3; pointwise; rw [hx]
end Cuts

section Real
variable (b : b16t S256x128) (hb : ∀ i, b i = ((if (i 0).val % 128 < (i 1).val then 1 else 0 : ℝ) : EReal))
  (run : f32t S512x1) (R : Fin 512 → ℝ) (hr : ∀ r, run (ix2 r 0) = ((R r : ℝ) : EReal))
  (s x : f32t S512x512) (S X : Fin 512 → ℕ → ℝ) (hs : ∀ r (j : Fin 512), s (ix2 r j) = ((S r j : ℝ) : EReal))
  (hx : ∀ r (j : Fin 512), x (ix2 r j) = ((X r j : ℝ) : EReal))

/-- The running sum before column `n`. -/
def before (R : Fin 512 → ℝ) (X : Fin 512 → ℕ → ℝ) (n : ℕ) (r : Fin 512) : ℝ := R r + ∑ k ∈ Finset.range n, X r k

theorem before_add (n j : ℕ) (r : Fin 512) :
    before R X n r + ∑ k ∈ Finset.range j, X r (n + k) = before R X (n + j) r := by
  unfold before; rw [Finset.sum_range_add, add_assoc]

include hb in
/-- One chunk carries the running sum from its first column to the next chunk's. -/
theorem chunk_step (n : ℕ) (y : f32t S512x128) (hy : ∀ r (j : Fin 128), y (ix2 r j) = ((X r (n + j) : ℝ) : EReal))
    (u : f32t S512x1) (hu : ∀ r, u (ix2 r 0) = ((before R X n r : ℝ) : EReal)) :
    (∀ r (j : Fin 128), chunkPre b u y (ix2 r j) = ((before R X (n + j) r : ℝ) : EReal))
      ∧ ∀ r, chunkRun (chunkPre b u y) y (ix2 r 0) = ((before R X (n + 128) r : ℝ) : EReal) := by
  have hp : ∀ r (j : Fin 128), chunkPre b u y (ix2 r j) = ((before R X (n + j) r : ℝ) : EReal) := fun r j => by
    rw [chunkPre_real b hb u _ hu y (fun r j => X r (n + j)) hy, before_add]
  refine ⟨hp, fun r => ?_⟩
  rw [chunkRun_real _ _ (fun r j => before R X (n + j) r) (fun r j => X r (n + j)) hp hy]
  have := before_add R X (n + 127) 1 r
  simp only [Finset.range_one, Finset.sum_singleton, add_zero] at this
  rw [this]

include hb hr hx

theorem run1_real : ∀ r, run1 b run x (ix2 r 0) = ((before R X 128 r : ℝ) : EReal) := by
  exact (chunk_step b hb R X 0 (cut0 x) (cut0_real x X hx) run (fun r => by simp [hr, before])).2
theorem run2_real : ∀ r, run2 b run x (ix2 r 0) = ((before R X 256 r : ℝ) : EReal) :=
  (chunk_step b hb R X 128 (cut1 x) (cut1_real x X hx) _ (run1_real b hb run R hr x X hx)).2
theorem run3_real : ∀ r, run3 b run x (ix2 r 0) = ((before R X 384 r : ℝ) : EReal) :=
  (chunk_step b hb R X 256 (cut2 x) (cut2_real x X hx) _ (run2_real b hb run R hr x X hx)).2
theorem run4_real : ∀ r, run4 b run x (ix2 r 0) = ((before R X 512 r : ℝ) : EReal) :=
  (chunk_step b hb R X 384 (cut3 x) (cut3_real x X hx) _ (run3_real b hb run R hr x X hx)).2

include hs

/-- The block's gradient of the scores over the reals. -/
theorem blockDa_real (r : Fin 512) (j : Fin 512) :
    blockDa b run s x (ix2 r j) = ((X r j - S r j * (X r j + before R X j r) : ℝ) : EReal) := by
  have p0 := (chunk_step b hb R X 0 (cut0 x) (cut0_real x X hx) run (fun r => by simp [hr, before])).1
  have p1 := (chunk_step b hb R X 128 (cut1 x) (cut1_real x X hx) _ (run1_real b hb run R hr x X hx)).1
  have p2 := (chunk_step b hb R X 256 (cut2 x) (cut2_real x X hx) _ (run2_real b hb run R hr x X hx)).1
  have p3 := (chunk_step b hb R X 384 (cut3 x) (cut3_real x X hx) _ (run3_real b hb run R hr x X hx)).1
  have d0 := chunkDa_real _ _ _ (fun r j => S r (0 + j)) (fun r j => before R X (0 + j) r) (fun r j => X r (0 + j)) (cut0_real s S hs) p0 (cut0_real x X hx)
  have d1 := chunkDa_real _ _ _ (fun r j => S r (128 + j)) (fun r j => before R X (128 + j) r) (fun r j => X r (128 + j)) (cut1_real s S hs) p1 (cut1_real x X hx)
  have d2 := chunkDa_real _ _ _ (fun r j => S r (256 + j)) (fun r j => before R X (256 + j) r) (fun r j => X r (256 + j)) (cut2_real s S hs) p2 (cut2_real x X hx)
  have d3 := chunkDa_real _ _ _ (fun r j => S r (384 + j)) (fun r j => before R X (384 + j) r) (fun r j => X r (384 + j)) (cut3_real s S hs) p3 (cut3_real x X hx)
  unfold blockDa
  generalize chunkDa (cut0 s) _ _ = c0 at *
  generalize chunkDa (cut1 s) _ _ = c1 at *
  generalize chunkDa (cut2 s) _ _ = c2 at *
  generalize chunkDa (cut3 s) _ _ = c3 at *
  pointwise
  have pt : ∀ (n : ℕ) (i : ℕ), n + i = j.val →
      ((X r (n + i) - S r (n + i) * (X r (n + i) + before R X (n + i) r) : ℝ) : EReal) = ((X r j - S r j * (X r j + before R X j r) : ℝ) : EReal) :=
    fun n i h => by rw [h]
  have hj := j.isLt
  split
  · rw [d0]; exact pt 0 _ (Nat.zero_add _)
  · split
    · rw [d1]; exact pt 128 _ (by show 128 + (j.val - 128) = _; omega)
    · split
      · rw [d2]; exact pt 256 _ (by show 256 + (j.val - 128 - 128) = _; omega)
      · rw [d3]; exact pt 384 _ (by show 384 + (j.val - 128 - 128 - 128) = _; omega)

/-- … scaled … -/
theorem blockE_real (r : Fin 512) (j : Fin 512) :
    blockE b run s x (ix2 r j) = (((X r j - S r j * (X r j + before R X j r)) * scale : ℝ) : EReal) := by
  have h := blockDa_real b hb run R hr s x S X hs hx r j
  unfold blockE
  generalize blockDa b run s x = y at *
  pointwise
  show y (ix2 r j) * Ideal.ofBits .f32 0x3DB504F3#32 = _
  rw [h, f32_scale, ← EReal.coe_mul]

/-- … and masked. -/
theorem blockEm_real (r : Fin 512) (j : Fin 512) :
    blockEm b run s x (ix2 r j) = ((if j.val < r.val then (X r j - S r j * (X r j + before R X j r)) * scale else 0 : ℝ) : EReal) := by
  have h := blockDa_real b hb run R hr s x S X hs hx r j
  unfold blockEm k0_pay55
  generalize blockDa b run s x = y at *
  pointwise
  rw [WordCmp.cmpi_slt_ofNat (by have := j.isLt; omega) (by have := r.isLt; omega), WordCmp.select_ofBool, h, f32_scale, ← EReal.coe_mul]
  by_cases hjr : j.val < r.val
  · rw [if_pos hjr, if_pos (by simpa using hjr)]
  · rw [if_neg hjr, if_neg (by simpa using hjr)]; rfl

end Real

/-! ## The products around the block -/

section Products
variable (q d k v : b16t S512x128) (w : b16t S1x512x512) (Q O K V : Fin 512 → Fin 128 → ℝ) (W : Fin 512 → ℕ → ℝ)
  (hq : ∀ r a, q (ix2 r a) = ((Q r a : ℝ) : EReal)) (hd : ∀ r a, d (ix2 r a) = ((O r a : ℝ) : EReal))
  (hk : ∀ r a, k (ix2 r a) = ((K r a : ℝ) : EReal)) (hv : ∀ r a, v (ix2 r a) = ((V r a : ℝ) : EReal))
  (hw : ∀ r (j : Fin 512), w (ix3 0 r j) = ((W r j : ℝ) : EReal))

/-- The logistic function of the scores, in base two. -/
def sg (Q K : Fin 512 → Fin 128 → ℝ) (r j : Fin 512) : ℝ := 1 / (1 + Real.rpow 2 (0 - ∑ a, Q r a * K j a))

include hq hk in
theorem sig_real (r j : Fin 512) : k0_pay9 (F := Ideal) (k0_pay6 q k) (ix2 r j) = ((sg Q K r j : ℝ) : EReal) := by
  unfold k0_pay9 k0_pay6
  pointwise
  rw [sum_eq_coe _ (fun a => Q r a * K j a) fun a => by rw [hq, hk, ← EReal.coe_mul], ← EReal.coe_zero, ← EReal.coe_sub]
  show Ideal.div 1 (1 + Ideal.exp2 _) = _
  have hp : 0 < 1 + Real.rpow 2 (0 - ∑ a, Q r a * K j a) := add_pos one_pos (Real.rpow_pos_of_pos two_pos _)
  rw [Ideal.exp2_coe, ← EReal.coe_one, ← EReal.coe_add, coe_div hp.ne']
  rfl

include hd hv hw in
theorem prod_real (r j : Fin 512) :
    k0_pay7 (F := Ideal) d w v (ix2 r j) = (((∑ a, O r a * V j a) * W r j : ℝ) : EReal) := by
  unfold k0_pay7 k0_pay5
  pointwise
  rw [sum_eq_coe _ (fun a => O r a * V j a) fun a => by rw [hd, hv, ← EReal.coe_mul], hw, ← EReal.coe_mul]

include hd hw in
theorem dv_real (o : f32t S512x128) (P : Fin 512 → Fin 128 → ℝ) (ho : ∀ r a, o (ix2 r a) = ((P r a : ℝ) : EReal)) (j : Fin 512) (a : Fin 128) :
    k0_pay8 (F := Ideal) d (k0_pay5 w) o (ix2 j a) = ((P j a + ∑ r : Fin 512, W r j * O r a : ℝ) : EReal) := by
  unfold k0_pay8 k0_pay5
  pointwise
  rw [sum_eq_coe _ (fun r => W r j * O r a) fun r => by rw [hd, hw, ← EReal.coe_mul], ho, ← EReal.coe_add]

variable (e : b16t S512x512) (E : Fin 512 → ℕ → ℝ) (he : ∀ r (j : Fin 512), e (ix2 r j) = ((E r j : ℝ) : EReal))

/-- The query gradient's step, and the key gradient's. -/
def dqStep (e : b16t S512x512) (k : b16t S512x128) (o : f32t S512x128) : f32t S512x128 :=
  addf o (matmul dot_S512x512_S512x128_S512x128_1_0_0_1_n_n none e (shapeCast S512x128 k shapeCasts_S512x128_S512x128) (constant S512x128 .f32 0x00000000#32))
def dkStep (e : b16t S512x512) (q : b16t S512x128) (o : f32t S512x128) : f32t S512x128 :=
  shapeCast S512x128 (addf o (matmul dot_S512x512_S512x128_S512x128_0_0_1_1_n_n none e q (constant S512x128 .f32 0x00000000#32))) shapeCasts_S512x128_S512x128

include he hk in
theorem dqStep_real (o : f32t S512x128) (P : Fin 512 → Fin 128 → ℝ) (ho : ∀ r a, o (ix2 r a) = ((P r a : ℝ) : EReal)) (r : Fin 512) (a : Fin 128) :
    dqStep e k o (ix2 r a) = ((P r a + ∑ j : Fin 512, E r j * K j a : ℝ) : EReal) := by
  unfold dqStep
  pointwise
  rw [sum_eq_coe _ (fun j : Fin 512 => E r j * K j a) fun j => by rw [he, hk, ← EReal.coe_mul], ho, ← EReal.coe_add]

include he hq in
theorem dkStep_real (o : f32t S512x128) (P : Fin 512 → Fin 128 → ℝ) (ho : ∀ r a, o (ix2 r a) = ((P r a : ℝ) : EReal)) (j : Fin 512) (a : Fin 128) :
    dkStep e q o (ix2 j a) = ((P j a + ∑ r : Fin 512, E r j * Q r a : ℝ) : EReal) := by
  unfold dkStep
  pointwise
  rw [sum_eq_coe _ (fun r => E r j * Q r a) fun r => by rw [he, hq, ← EReal.coe_mul], ho, ← EReal.coe_add]

end Products

end Cert.StickBwd
-- ==== Proof.StickBwdPoint.lean ====
/-
  One query block of the attention backward over the reals: the loop over the key blocks before the diagonal one
  carries the running sum and the query gradient and adds to the buffers of the key and value gradients, a block of
  512 rows a trip; the diagonal block comes last, masked.
-/
module

public import proofs.«01_k».proof.Proof.StickBwdRun
public import proofs.«01_k».proof.Proof.StickBwdTile
public import Idealize.ShloMosaic.Lib.WritesUnit

@[expose] public section

set_option maxRecDepth 16384

noncomputable section

namespace Cert.StickBwd

open Cert.StickBwdKernelIdeal Cert.StickBwdKernelIdeal.Gen
open Idealize.ShloMosaic Cert.Lift
open Idealize.ShloMosaic.TcCoe
open Idealize.SL.Sem

/-! ## A saved tile, landed in a slot and loaded -/

section Tiles
variable (c : Dev nD) (XA : Buf (Elt Ideal) (wM.view.loc (c : Thread nD τ)))

/-- What a load of slot `s` reads once tile `b` has landed there. -/
def loaded (s : Fin 2) (b : Fin 8 × Fin 136) (off : Fin 3 → ℕ) (h : ∀ a, off a + S1x512x512.size a ≤ S2x512x512.size a) : b16t S1x512x512 :=
  View.readAt (Elt Ideal) bufM.view (Rect.unit (s := S2x512x512) off S1x512x512.size h).toLoadRect
    ((rslot s).view.writes (Elt Ideal) (rslot s).view.junk [⟨Rect.whole S512x512, payload c XA b⟩])

theorem loaded_apply (s : Fin 2) (b : Fin 8 × Fin 136) (off : Fin 3 → ℕ) (h) (ho : off = slotOff s) (r j : Fin 512) :
    loaded c XA s b off h (ix3 0 r j) = payload c XA b (ix2 r j) := by
  subst ho
  have hw := congrFun (View.read_writes_whole (rslot s).view (rslot s).view.junk (payload c XA b)) (ix2 r j)
  have hs : (rslot s).view.read (Elt Ideal) ((rslot s).view.writes (Elt Ideal) (rslot s).view.junk [⟨Rect.whole S512x512, payload c XA b⟩]) (ix2 r j)
      = shapeCast S512x512 (loaded c XA s b (slotOff s) h) (by decide) (ix2 r j) := rfl
  refine Eq.trans ?_ (hs.symm.trans hw)
  exact (shapeCast_apply _ _ (ix2 r j) (ix3 0 r j) (by rewrite [Shape.rowMajor_val_three, Shape.rowMajor_val_two]; show (0 * 512 + r.val) * 512 + j.val = r.val * 512 + j.val; omega)).symm

theorem payload_apply (b : Fin 8 × Fin 136) (r j : Fin 512) :
    payload c XA b (ix2 r j) = XA (ix4 b.1 b.2 r j) := by
  have hs : payload c XA b (ix2 r j)
      = shapeCast S512x512 (wM.view.readAt (Elt Ideal) (Rect.unit (s := S8x136x512x512) (tileOff b) S1x1x512x512.size (tileOff_inb b)).toLoadRect XA) (by show S1x1x512x512.ShapeCasts S512x512; decide) (ix2 r j) := rfl
  rw [hs]
  refine (shapeCast_apply _ _ (ix2 r j) (ix4 0 0 r j) (by rewrite [Shape.rowMajor_val_four, Shape.rowMajor_val_two]; show ((0 * 1 + 0) * 512 + r.val) * 512 + j.val = r.val * 512 + j.val; omega)).trans ?_
  refine congrArg XA (?_ : _ = _)
  funext a
  apply Fin.ext
  match a with
  | ⟨0, _⟩ => show b.1.val + 1 * 0 = b.1.val; omega
  | ⟨1, _⟩ => show b.2.val + 1 * 0 = b.2.val; omega
  | ⟨2, _⟩ => show 0 + 1 * r.val = r.val; omega
  | ⟨3, _⟩ => show 0 + 1 * j.val = j.val; omega
end Tiles

section Trip

variable (c : Dev nD) (XA : Buf (Elt Ideal) (wM.view.loc (c : Thread nD τ))) (i : grid0.Coords)
  (arg2 : Memref sig .tc .vmem S512x128 .f32) (harg2 : arg2.IsWhole) (arg3 : Memref sig .tc .vmem S512x128 .bf16) (harg3 : arg3.IsWhole)
  (arg4 : Memref sig .tc .vmem S8192x128 .bf16) (harg4 : arg4.IsWhole) (arg5 : Memref sig .tc .vmem S8192x128 .bf16) (harg5 : arg5.IsWhole)
  (arg6 : Memref sig .tc .vmem S256x128 .bf16) (harg6 : arg6.IsWhole)
  (arg8 : Memref sig .tc .vmem S512x128 .bf16) (harg8 : arg8.IsWhole) (arg9 : Memref sig .tc .vmem S8192x128 .bf16) (harg9 : arg9.IsWhole)
  (arg10 : Memref sig .tc .vmem S8192x128 .bf16) (harg10 : arg10.IsWhole)

/-- The rows of key block `k` of a buffer of all keys. -/
abbrev rowsAt (e : EltTy) (M : Memref sig .tc .vmem S8192x128 e) (g : Buf (Elt Ideal) (M.view.loc (c : Thread nD τ)))
    (k : Fin (k0_t1_loop i).trips) : S512x128.Idx → Elt Ideal e :=
  View.readAt (Elt Ideal) M.view (RK i k).toLoadRect g

abbrev tileAt (k : Fin (k0_t1_loop i).trips) : b16t S1x512x512 := loaded c XA (Ring.sl 2 k.val) (tl i k.val) (k0_off8 i k) (k0_off8_inb i k)

theorem trip_eq (arg1 : BitVec 32) (v4 v7 : FVec Ideal S512x128 .bf16) (v8 : Vec Ideal S256x128 .bf16) (v27 : BitVec 32)
    (gK : Buf (Elt Ideal) (arg4.view.loc (c : Thread nD τ))) (gV : Buf (Elt Ideal) (arg5.view.loc (c : Thread nD τ)))
    (k : Fin (k0_t1_loop i).trips) (acc : FVec Ideal S512x1 .f32 × FVec Ideal S512x128 .f32)
    (fk : Buf (Elt Ideal) (dkM.view.loc (c : Thread nD τ))) (fv : Buf (Elt Ideal) (dvM.view.loc (c : Thread nD τ))) :
    (tripRun c XA i arg2 harg2 arg3 harg3 arg4 harg4 arg5 harg5 arg6 harg6 arg8 harg8 arg9 harg9 arg10 harg10
        arg1 v4 v7 v8 v27 gK gV k acc fk fv).1
      = (dkStep (blockE v8 acc.1 (k0_pay9 (k0_pay6 v4 (rowsAt c i _ arg4 gK k))) (k0_pay7 v7 (tileAt c XA i k) (rowsAt c i _ arg5 gV k))) v4 (rowsAt c i .f32 dkM fk k),
         k0_pay8 v7 (k0_pay5 (tileAt c XA i k)) (rowsAt c i .f32 dvM fv k),
         run4 v8 acc.1 (k0_pay7 v7 (tileAt c XA i k) (rowsAt c i _ arg5 gV k)),
         dqStep (blockE v8 acc.1 (k0_pay9 (k0_pay6 v4 (rowsAt c i _ arg4 gK k))) (k0_pay7 v7 (tileAt c XA i k) (rowsAt c i _ arg5 gV k))) (rowsAt c i _ arg4 gK k) acc.2) := by
  rfl

theorem k_lt (k : Fin (k0_t1_loop i).trips) : k.val < 16 := by
  have := k.isLt
  have h := trips1_eq i
  have h' : (i 1).val < 16 := (i 1).isLt
  omega

theorem rowsAt_apply (e : EltTy) (M : Memref sig .tc .vmem S8192x128 e) (g : Buf (Elt Ideal) (M.view.loc (c : Thread nD τ)))
    (k : Fin (k0_t1_loop i).trips) (j : Fin 512) (a : Fin 128) (h : 512 * k.val + j.val < 8192) :
    rowsAt c i e M g k (ix2 j a) = M.view.read (Elt Ideal) g (ix2 ⟨512 * k.val + j.val, h⟩ a) := by
  show M.view.read (Elt Ideal) g ((RK i k).toLoadRect.idx (ix2 j a)) = _
  refine congrArg (M.view.read (Elt Ideal) g) (?_ : _ = _)
  funext x
  apply Fin.ext
  match x with
  | ⟨0, _⟩ => show k0_off9 i k 0 + 1 * j.val = 512 * k.val + j.val; rw [off9_eq]; show 512 * k.val + 1 * j.val = _; omega
  | ⟨1, _⟩ => show k0_off9 i k 1 + 1 * a.val = a.val; rw [off9_eq]; show 0 + 1 * a.val = _; omega

/-- The rows of the diagonal key block. -/
abbrev rowsDg (e : EltTy) (M : Memref sig .tc .vmem S8192x128 e) (g : Buf (Elt Ideal) (M.view.loc (c : Thread nD τ))) : S512x128.Idx → Elt Ideal e :=
  View.readAt (Elt Ideal) M.view (RD i).toLoadRect g

theorem rowsDg_apply (e : EltTy) (M : Memref sig .tc .vmem S8192x128 e) (g : Buf (Elt Ideal) (M.view.loc (c : Thread nD τ)))
    (j : Fin 512) (a : Fin 128) (h : 512 * (i 1).val + j.val < 8192) :
    rowsDg c i e M g (ix2 j a) = M.view.read (Elt Ideal) g (ix2 ⟨512 * (i 1).val + j.val, h⟩ a) := by
  show M.view.read (Elt Ideal) g ((RD i).toLoadRect.idx (ix2 j a)) = _
  refine congrArg (M.view.read (Elt Ideal) g) (?_ : _ = _)
  funext x
  apply Fin.ext
  match x with
  | ⟨0, _⟩ => show k0_off25 i 0 + 1 * j.val = 512 * (i 1).val + j.val; rw [off25_eq]; show 512 * (i 1).val + 1 * j.val = _; omega
  | ⟨1, _⟩ => show k0_off25 i 1 + 1 * a.val = a.val; rw [off25_eq]; show 0 + 1 * a.val = _; omega

/-- What a point leaves from buffers `fk`, `fv`: the loop, then the diagonal block. -/
abbrev tileDg : b16t S1x512x512 :=
  loaded c XA (Ring.sl 2 (k0_t1_loop i).trips) (tl i (k0_t1_loop i).trips) (k0_off24 i) (k0_off24_inb i)

section Ops
variable (g2 : Buf (Elt Ideal) (arg2.view.loc (c : Thread nD τ))) (g3 : Buf (Elt Ideal) (arg3.view.loc (c : Thread nD τ)))
  (gK : Buf (Elt Ideal) (arg4.view.loc (c : Thread nD τ))) (gV : Buf (Elt Ideal) (arg5.view.loc (c : Thread nD τ)))
  (g6 : Buf (Elt Ideal) (arg6.view.loc (c : Thread nD τ)))
  (fk : Buf (Elt Ideal) (dkM.view.loc (c : Thread nD τ))) (fv : Buf (Elt Ideal) (dvM.view.loc (c : Thread nD τ)))

abbrev opQ : b16t S512x128 := k0_pay37 (View.readAt (Elt Ideal) arg3.view RQ.toLoadRect g3)
abbrev opD : b16t S512x128 := k0_pay38 (View.readAt (Elt Ideal) arg2.view RQ.toLoadRect g2)
abbrev opB : b16t S256x128 := View.readAt (Elt Ideal) arg6.view (Rect.unit (s := S256x128) ![0, 0] S256x128.size inb_S256x128_S256x128_0_0).toLoadRect g6

/-- The buffers and the carried values after the loop. -/
def after : Buf (Elt Ideal) (dkM.view.loc (c : Thread nD τ)) × Buf (Elt Ideal) (dvM.view.loc (c : Thread nD τ)) × (f32t S512x1 × f32t S512x128) :=
  stAt c XA i arg2 harg2 arg3 harg3 arg4 harg4 arg5 harg5 arg6 harg6 arg8 harg8 arg9 harg9 arg10 harg10
    (BitVec.ofNat 32 (i 1).val) (opQ c arg3 g3) (opD c arg2 g2) (opB c arg6 g6) (runMid.sl.v27 i) gK gV fk fv (k0_pay39, k0_pay40) (k0_t1_loop i).trips

/-- The diagonal block's gradient of the scores. -/
abbrev diagE (s : f32t S512x1 × f32t S512x128) : b16t S512x512 :=
  blockEm (opB c arg6 g6) s.1 (k0_pay9 (k0_pay6 (opQ c arg3 g3) (rowsDg c i _ arg4 gK)))
    (k0_pay7 (opD c arg2 g2) (tileDg c XA i) (rowsDg c i _ arg5 gV))

/-- A point's outcome: the two gradient buffers and the query gradient. -/
abbrev outcome (s : Buf (Elt Ideal) (dkM.view.loc (c : Thread nD τ)) × Buf (Elt Ideal) (dvM.view.loc (c : Thread nD τ)) × (f32t S512x1 × f32t S512x128)) :
    Buf (Elt Ideal) (dkM.view.loc (c : Thread nD τ)) × Buf (Elt Ideal) (dvM.view.loc (c : Thread nD τ)) × (RQ.shape.Idx → Elt Ideal .bf16) :=
  (dkM.view.writes (Elt Ideal) s.1 [⟨RD i, dkStep (diagE c XA i arg2 arg3 arg4 arg5 arg6 g2 g3 gK gV g6 s.2.2) (opQ c arg3 g3) (rowsDg c i .f32 dkM s.1)⟩],
   dvM.view.writes (Elt Ideal) s.2.1 [⟨RD i, k0_pay8 (opD c arg2 g2) (k0_pay5 (tileDg c XA i)) (rowsDg c i .f32 dvM s.2.1)⟩],
   k0_pay2 (dqStep (diagE c XA i arg2 arg3 arg4 arg5 arg6 g2 g3 gK gV g6 s.2.2) (rowsDg c i _ arg4 gK) s.2.2.2))

theorem mid_eq (h1 : first i ≠ 1#1) (h5 : k0_cond5 i ≠ 1#1) :
    (runMid c XA i arg2 harg2 arg3 harg3 arg4 harg4 arg5 harg5 arg6 harg6 arg8 harg8 arg9 harg9 arg10 harg10 h1 h5 g2 g3 gK gV g6 fk fv).1
      = outcome c XA i arg2 arg3 arg4 arg5 arg6 g2 g3 gK gV g6
          (after c XA i arg2 harg2 arg3 harg3 arg4 harg4 arg5 harg5 arg6 harg6 arg8 harg8 arg9 harg9 arg10 harg10 g2 g3 gK gV g6 fk fv) := by
  rfl

theorem first_eq (h1 : first i = 1#1) (h5 : k0_cond5 i ≠ 1#1) :
    (runFirst c XA i arg2 harg2 arg3 harg3 arg4 harg4 arg5 harg5 arg6 harg6 arg8 harg8 arg9 harg9 arg10 harg10 h1 h5 g2 g3 gK gV g6).1
      = outcome c XA i arg2 arg3 arg4 arg5 arg6 g2 g3 gK gV g6
          (after c XA i arg2 harg2 arg3 harg3 arg4 harg4 arg5 harg5 arg6 harg6 arg8 harg8 arg9 harg9 arg10 harg10 g2 g3 gK gV g6 (clearK c) (clearV c)) := by
  rfl

/-- The outcome from buffers `fk`, `fv`. -/
abbrev result :=
  outcome c XA i arg2 arg3 arg4 arg5 arg6 g2 g3 gK gV g6
    (after c XA i arg2 harg2 arg3 harg3 arg4 harg4 arg5 harg5 arg6 harg6 arg8 harg8 arg9 harg9 arg10 harg10 g2 g3 gK gV g6 fk fv)

section Last
variable (h1 : first i ≠ 1#1) (h5 : k0_cond5 i = 1#1)

theorem last_k : (runLast c XA i arg2 harg2 arg3 harg3 arg4 harg4 arg5 harg5 arg6 harg6 arg8 harg8 arg9 harg9 arg10 harg10 h1 h5 g2 g3 gK gV g6 fk fv).1.1
    = (result c XA i arg2 harg2 arg3 harg3 arg4 harg4 arg5 harg5 arg6 harg6 arg8 harg8 arg9 harg9 arg10 harg10 g2 g3 gK gV g6 fk fv).1 := by
  rfl
theorem last_v : (runLast c XA i arg2 harg2 arg3 harg3 arg4 harg4 arg5 harg5 arg6 harg6 arg8 harg8 arg9 harg9 arg10 harg10 h1 h5 g2 g3 gK gV g6 fk fv).1.2.1
    = (result c XA i arg2 harg2 arg3 harg3 arg4 harg4 arg5 harg5 arg6 harg6 arg8 harg8 arg9 harg9 arg10 harg10 g2 g3 gK gV g6 fk fv).2.1 := by
  rfl
theorem last_q : (runLast c XA i arg2 harg2 arg3 harg3 arg4 harg4 arg5 harg5 arg6 harg6 arg8 harg8 arg9 harg9 arg10 harg10 h1 h5 g2 g3 gK gV g6 fk fv).1.2.2.1
    = (result c XA i arg2 harg2 arg3 harg3 arg4 harg4 arg5 harg5 arg6 harg6 arg8 harg8 arg9 harg9 arg10 harg10 g2 g3 gK gV g6 fk fv).2.2 := by
  rfl
theorem last_dk : (runLast c XA i arg2 harg2 arg3 harg3 arg4 harg4 arg5 harg5 arg6 harg6 arg8 harg8 arg9 harg9 arg10 harg10 h1 h5 g2 g3 gK gV g6 fk fv).1.2.2.2.1
    = k0_pay3 (View.readAt (Elt Ideal) dkM.view RA.toLoadRect (runLast c XA i arg2 harg2 arg3 harg3 arg4 harg4 arg5 harg5 arg6 harg6 arg8 harg8 arg9 harg9 arg10 harg10 h1 h5 g2 g3 gK gV g6 fk fv).1.1) := by
  rfl
theorem last_dv : (runLast c XA i arg2 harg2 arg3 harg3 arg4 harg4 arg5 harg5 arg6 harg6 arg8 harg8 arg9 harg9 arg10 harg10 h1 h5 g2 g3 gK gV g6 fk fv).1.2.2.2.2
    = k0_pay4 (View.readAt (Elt Ideal) dvM.view RA.toLoadRect (runLast c XA i arg2 harg2 arg3 harg3 arg4 harg4 arg5 harg5 arg6 harg6 arg8 harg8 arg9 harg9 arg10 harg10 h1 h5 g2 g3 gK gV g6 fk fv).1.2.1) := by
  rfl

end Last

end Ops

end Trip

end Cert.StickBwd
-- ==== Proof.StickBwdValue.lean ====
/-
  The value of one query block of the attention backward: with the block's queries, cotangents and saved weights real,
  the buffers of the key and value gradients gain the block's terms at every key, and the query gradient is the
  block's sum over the keys before each query.
-/
module

public import proofs.«01_k».proof.Proof.StickBwdPoint

@[expose] public section

set_option maxRecDepth 16384

noncomputable section

namespace Cert.StickBwd

open Cert.StickBwdKernelIdeal Cert.StickBwdKernelIdeal.Gen
open Idealize.ShloMosaic Cert.Lift
open Idealize.ShloMosaic.TcCoe
open Idealize.SL.Sem

/-! ## The gradient of the scores of a block of queries against every key -/

section Terms
variable (Q O : Fin 512 → Fin 128 → ℝ) (K V : ℕ → Fin 128 → ℝ) (W : Fin 512 → ℕ → ℝ)

/-- The weighted product of cotangent and value, -/
def wt (r : Fin 512) (s : ℕ) : ℝ := (∑ a, O r a * V s a) * W r s
/-- the logistic function of the score, -/
def sig2 (r : Fin 512) (s : ℕ) : ℝ := 1 / (1 + Real.rpow 2 (0 - ∑ a, Q r a * K s a))
/-- the weighted products before key `n`, summed, -/
def pre (n : ℕ) (r : Fin 512) : ℝ := ∑ s ∈ Finset.range n, wt O V W r s
/-- and the gradient of the score. -/
def dsc (r : Fin 512) (s : ℕ) : ℝ := (wt O V W r s - sig2 Q K r s * (wt O V W r s + pre O V W s r)) * scale

theorem pre_add (n j : ℕ) (r : Fin 512) :
    before (pre O V W n) (fun r x => wt O V W r (n + x)) j r = pre O V W (n + j) r := by
  unfold before pre; rw [Finset.sum_range_add]
end Terms

section Trip

variable (c : Dev nD) (XA : Buf (Elt Ideal) (wM.view.loc (c : Thread nD τ))) (i : grid0.Coords)
  (arg2 : Memref sig .tc .vmem S512x128 .f32) (harg2 : arg2.IsWhole) (arg3 : Memref sig .tc .vmem S512x128 .bf16) (harg3 : arg3.IsWhole)
  (arg4 : Memref sig .tc .vmem S8192x128 .bf16) (harg4 : arg4.IsWhole) (arg5 : Memref sig .tc .vmem S8192x128 .bf16) (harg5 : arg5.IsWhole)
  (arg6 : Memref sig .tc .vmem S256x128 .bf16) (harg6 : arg6.IsWhole)
  (arg8 : Memref sig .tc .vmem S512x128 .bf16) (harg8 : arg8.IsWhole) (arg9 : Memref sig .tc .vmem S8192x128 .bf16) (harg9 : arg9.IsWhole)
  (arg10 : Memref sig .tc .vmem S8192x128 .bf16) (harg10 : arg10.IsWhole)
  (arg1 v27 : BitVec 32) (q d : b16t S512x128) (b : b16t S256x128)
  (gK : Buf (Elt Ideal) (arg4.view.loc (c : Thread nD τ))) (gV : Buf (Elt Ideal) (arg5.view.loc (c : Thread nD τ)))
  (Q O : Fin 512 → Fin 128 → ℝ) (K V : ℕ → Fin 128 → ℝ) (W : Fin 512 → ℕ → ℝ)
  (hq : ∀ r a, q (ix2 r a) = ((Q r a : ℝ) : EReal)) (hd : ∀ r a, d (ix2 r a) = ((O r a : ℝ) : EReal))
  (hb : ∀ i, b i = ((if (i 0).val % 128 < (i 1).val then 1 else 0 : ℝ) : EReal))
  (hK : ∀ (s : Fin 8192) a, arg4.view.read (Elt Ideal) gK (ix2 s a) = ((K s a : ℝ) : EReal))
  (hV : ∀ (s : Fin 8192) a, arg5.view.read (Elt Ideal) gV (ix2 s a) = ((V s a : ℝ) : EReal))
  (hW : ∀ k, k ≤ (i 1).val → ∀ r j : Fin 512, payload c XA (tl i k) (ix2 r j) = ((W r (512 * k + j) : ℝ) : EReal))

/-- A buffer of rows reads as real numbers. -/
abbrev Reads (M : Memref sig .tc .vmem S8192x128 .f32) (f : Buf (Elt Ideal) (M.view.loc (c : Thread nD τ))) (G : ℕ → Fin 128 → ℝ) : Prop :=
  ∀ (s : Fin 8192) a, M.view.read (Elt Ideal) f (ix2 s a) = ((G s a : ℝ) : EReal)

/-- What the loop carries before trip `k`. -/
structure Carried (Gk Gv : ℕ → Fin 128 → ℝ) (k : ℕ)
    (s : Buf (Elt Ideal) (dkM.view.loc (c : Thread nD τ)) × Buf (Elt Ideal) (dvM.view.loc (c : Thread nD τ)) × (f32t S512x1 × f32t S512x128)) : Prop where
  dk : Reads c dkM s.1 fun s a => Gk s a + if s < 512 * k then ∑ r, dsc Q O K V W r s * Q r a else 0
  dv : Reads c dvM s.2.1 fun s a => Gv s a + if s < 512 * k then ∑ r, W r s * O r a else 0
  run : ∀ r, s.2.2.1 (ix2 r 0) = ((pre O V W (512 * k) r : ℝ) : EReal)
  dq : ∀ r a, s.2.2.2 (ix2 r a) = ((∑ x ∈ Finset.range (512 * k), dsc Q O K V W r x * K x a : ℝ) : EReal)

/-- The block of 512 rows from `512 k` on stored anew, the others as they were. -/
theorem stored (M : Memref sig .tc .vmem S8192x128 .f32) (f : Buf (Elt Ideal) (M.view.loc (c : Thread nD τ))) (k : ℕ)
    (off : Fin 2 → ℕ) (inb : ∀ a, off a + S512x128.size a ≤ S8192x128.size a) (ho : off = rowOff k)
    (w : f32t S512x128) (G T : ℕ → Fin 128 → ℝ)
    (hf : Reads c M f fun s a => G s a + if s < 512 * k then T s a else 0)
    (hw : ∀ (j : Fin 512) a, w (ix2 j a) = ((G (512 * k + j) a + T (512 * k + j) a : ℝ) : EReal)) :
    Reads c M (M.view.writes (Elt Ideal) f [⟨Rect.unit (s := S8192x128) off S512x128.size inb, w⟩]) fun s a => G s a + if s < 512 * (k + 1) then T s a else 0 := by
  intro s a
  show _ = ((G s a + (if s.val < 512 * (k + 1) then T s a else 0) : ℝ) : EReal)
  rcases Nat.lt_or_ge s.val (512 * k) with h | h
  · refine (View.read_writes_cons_rows_of_not_mem (d := ![8192, 128]) (o := 512 * k) (W := 512) M.view f inb w [] (ix2 s a) ho rfl (Or.inl h)).trans ?_
    refine (hf s a).trans ?_
    show ((G s a + (if s.val < 512 * k then _ else 0) : ℝ) : EReal) = _
    rw [if_pos h, if_pos (by omega)]
  · rcases Nat.lt_or_ge s.val (512 * (k + 1)) with h' | h'
    · refine (View.read_writes_cons_rows_of_mem (d := ![8192, 128]) (o := 512 * k) M.view f inb w [] (ix2 s a) (ix2 ⟨s.val - 512 * k, by omega⟩ a) ho
        (by show s.val = 512 * k + (s.val - 512 * k); omega) rfl).trans ?_
      refine (hw _ a).trans ?_
      show ((G (512 * k + (s.val - 512 * k)) a + T (512 * k + (s.val - 512 * k)) a : ℝ) : EReal) = _
      rw [show 512 * k + (s.val - 512 * k) = s.val by omega, if_pos h']
    · refine (View.read_writes_cons_rows_of_not_mem (d := ![8192, 128]) (o := 512 * k) (W := 512) M.view f inb w [] (ix2 s a) ho rfl (Or.inr (by show 512 * k + 512 ≤ s.val; omega))).trans ?_
      refine (hf s a).trans ?_
      show ((G s a + (if s.val < 512 * k then _ else 0) : ℝ) : EReal) = _
      rw [if_neg (by omega), if_neg (by omega)]

include hq hd hb hK hV hW

set_option maxHeartbeats 2000000 in
/-- One trip. -/
theorem carried_succ (Gk Gv : ℕ → Fin 128 → ℝ) (k : Fin (k0_t1_loop i).trips) (s) (h : Carried c Q O K V W Gk Gv k.val s) :
    Carried c Q O K V W Gk Gv (k.val + 1)
      (let w := (tripRun c XA i arg2 harg2 arg3 harg3 arg4 harg4 arg5 harg5 arg6 harg6 arg8 harg8 arg9 harg9 arg10 harg10
        arg1 q d b v27 gK gV k s.2.2 s.1 s.2.1).1
      (dkM.view.writes (Elt Ideal) s.1 [⟨RK i k, w.1⟩], dvM.view.writes (Elt Ideal) s.2.1 [⟨RK i k, w.2.1⟩], w.2.2)) := by
  obtain ⟨hdk, hdv, hrun, hdq⟩ := h
  rw [trip_eq]
  dsimp only
  have hk16 := k_lt i k
  have hi : k.val ≤ (i 1).val := by have := k.isLt; have := trips1_eq i; omega
  have hkr : ∀ j a, rowsAt c i _ arg4 gK k (ix2 j a) = ((K (512 * k.val + j.val) a : ℝ) : EReal) := fun j a => by
    rw [rowsAt_apply c i _ arg4 gK k j a (by omega), hK]
  have hvr : ∀ j a, rowsAt c i _ arg5 gV k (ix2 j a) = ((V (512 * k.val + j.val) a : ℝ) : EReal) := fun j a => by
    rw [rowsAt_apply c i _ arg5 gV k j a (by omega), hV]
  have hwt : ∀ r (j : Fin 512), tileAt c XA i k (ix3 0 r j) = ((W r (512 * k.val + j.val) : ℝ) : EReal) := fun r j => by
    exact (loaded_apply c XA _ _ _ _ (off8_eq i k) r j).trans (hW k.val hi r j)
  have hx := prod_real d (rowsAt c i _ arg5 gV k) (tileAt c XA i k) O (fun j a => V (512 * k.val + j.val) a) (fun r j => W r (512 * k.val + j)) hd hvr hwt
  have hs := sig_real q (rowsAt c i _ arg4 gK k) Q (fun j a => K (512 * k.val + j.val) a) hq hkr
  have hE := blockE_real b hb s.2.2.1 _ hrun _ _ (fun r j => sig2 Q K r (512 * k.val + j)) (fun r j => wt O V W r (512 * k.val + j)) hs hx
  have hR := run4_real b hb s.2.2.1 _ hrun _ (fun r j => wt O V W r (512 * k.val + j)) hx
  simp only [pre_add] at hE hR
  have hok : ∀ (j : Fin 512) (a : Fin 128), rowsAt c i .f32 dkM s.1 k (ix2 j a) = ((Gk (512 * k.val + j.val) a : ℝ) : EReal) := fun j a => by
    refine (rowsAt_apply c i _ dkM s.1 k j a (by omega)).trans ((hdk _ _).trans ?_)
    show ((Gk (512 * k.val + j.val) a + (if 512 * k.val + j.val < 512 * k.val then _ else 0) : ℝ) : EReal) = _
    rw [if_neg (by omega), add_zero]
  have hov : ∀ (j : Fin 512) (a : Fin 128), rowsAt c i .f32 dvM s.2.1 k (ix2 j a) = ((Gv (512 * k.val + j.val) a : ℝ) : EReal) := fun j a => by
    refine (rowsAt_apply c i _ dvM s.2.1 k j a (by omega)).trans ((hdv _ _).trans ?_)
    show ((Gv (512 * k.val + j.val) a + (if 512 * k.val + j.val < 512 * k.val then _ else 0) : ℝ) : EReal) = _
    rw [if_neg (by omega), add_zero]
  clear hx hs
  generalize blockE b s.2.2.1 _ _ = e at *
  generalize rowsAt c i .f32 dkM s.1 k = ok at *
  generalize rowsAt c i .f32 dvM s.2.1 k = ov at *
  generalize run4 b s.2.2.1 _ = rr at *
  generalize tileAt c XA i k = tt at *
  have hE' : ∀ r (j : Fin 512), e (ix2 r j) = ((dsc Q O K V W r (512 * k.val + j) : ℝ) : EReal) := hE
  have A : Reads c dkM (dkM.view.writes (Elt Ideal) s.1 [⟨RK i k, dkStep e q ok⟩])
      fun s a => Gk s a + if s < 512 * (k.val + 1) then ∑ r, dsc Q O K V W r s * Q r a else 0 :=
    stored c dkM s.1 k.val (k0_off9 i k) (k0_off9_inb i k) (off9_eq i k) (dkStep e q ok) Gk (fun s a => ∑ r, dsc Q O K V W r s * Q r a) hdk fun j a =>
      dkStep_real q Q hq e (fun r x => dsc Q O K V W r (512 * k.val + x)) hE' ok (fun j a => Gk (512 * k.val + j.val) a) hok j a
  have B : Reads c dvM (dvM.view.writes (Elt Ideal) s.2.1 [⟨RK i k, k0_pay8 d (k0_pay5 tt) ov⟩])
      fun s a => Gv s a + if s < 512 * (k.val + 1) then ∑ r, W r s * O r a else 0 :=
    stored c dvM s.2.1 k.val (k0_off9 i k) (k0_off9_inb i k) (off9_eq i k) (k0_pay8 d (k0_pay5 tt) ov) Gv (fun s a => ∑ r, W r s * O r a) hdv fun j a =>
      dv_real d tt O (fun r x => W r (512 * k.val + x)) hd hwt ov (fun j a => Gv (512 * k.val + j.val) a) hov j a
  refine ⟨A, B, hR, fun r a => ?_⟩
  refine (dqStep_real (rowsAt c i _ arg4 gK k) (fun j a => K (512 * k.val + j.val) a) hkr e (fun r j => dsc Q O K V W r (512 * k.val + j)) hE' _ _ hdq r a).trans ?_
  rw [show 512 * (k.val + 1) = 512 * k.val + 512 by ring, Finset.sum_range_add, Finset.sum_range (n := 512)]

/-- After `n` trips. -/
theorem carried (Gk Gv : ℕ → Fin 128 → ℝ) (fk fv) (init : f32t S512x1 × f32t S512x128) (h0 : Carried c Q O K V W Gk Gv 0 (fk, fv, init)) (n : ℕ) (hn : n ≤ (k0_t1_loop i).trips) :
    Carried c Q O K V W Gk Gv n
      (stAt c XA i arg2 harg2 arg3 harg3 arg4 harg4 arg5 harg5 arg6 harg6 arg8 harg8 arg9 harg9 arg10 harg10
        arg1 q d b v27 gK gV fk fv init n) := by
  induction n with
  | zero => rw [stAt]; exact h0
  | succ n ih =>
    rw [stAt, dif_pos (by omega : n < (k0_t1_loop i).trips)]
    exact carried_succ c XA i arg2 harg2 arg3 harg3 arg4 harg4 arg5 harg5 arg6 harg6 arg8 harg8 arg9 harg9 arg10 harg10
      arg1 v27 q d b gK gV Q O K V W hq hd hb hK hV hW Gk Gv ⟨n, by omega⟩ _ (ih (by omega))

end Trip

section Outcome

variable (c : Dev nD) (XA : Buf (Elt Ideal) (wM.view.loc (c : Thread nD τ))) (i : grid0.Coords)
  (arg2 : Memref sig .tc .vmem S512x128 .f32) (harg2 : arg2.IsWhole) (arg3 : Memref sig .tc .vmem S512x128 .bf16) (harg3 : arg3.IsWhole)
  (arg4 : Memref sig .tc .vmem S8192x128 .bf16) (harg4 : arg4.IsWhole) (arg5 : Memref sig .tc .vmem S8192x128 .bf16) (harg5 : arg5.IsWhole)
  (arg6 : Memref sig .tc .vmem S256x128 .bf16) (harg6 : arg6.IsWhole)
  (arg8 : Memref sig .tc .vmem S512x128 .bf16) (harg8 : arg8.IsWhole) (arg9 : Memref sig .tc .vmem S8192x128 .bf16) (harg9 : arg9.IsWhole)
  (arg10 : Memref sig .tc .vmem S8192x128 .bf16) (harg10 : arg10.IsWhole)
  (g2 : Buf (Elt Ideal) (arg2.view.loc (c : Thread nD τ))) (g3 : Buf (Elt Ideal) (arg3.view.loc (c : Thread nD τ)))
  (gK : Buf (Elt Ideal) (arg4.view.loc (c : Thread nD τ))) (gV : Buf (Elt Ideal) (arg5.view.loc (c : Thread nD τ)))
  (g6 : Buf (Elt Ideal) (arg6.view.loc (c : Thread nD τ)))
  (Q O : Fin 512 → Fin 128 → ℝ) (K V : ℕ → Fin 128 → ℝ) (W : Fin 512 → ℕ → ℝ)
  (hq : ∀ r a, opQ c arg3 g3 (ix2 r a) = ((Q r a : ℝ) : EReal)) (hd : ∀ r a, opD c arg2 g2 (ix2 r a) = ((O r a : ℝ) : EReal))
  (hb : ∀ i, opB c arg6 g6 i = ((if (i 0).val % 128 < (i 1).val then 1 else 0 : ℝ) : EReal))
  (hK : ∀ (s : Fin 8192) a, arg4.view.read (Elt Ideal) gK (ix2 s a) = ((K s a : ℝ) : EReal))
  (hV : ∀ (s : Fin 8192) a, arg5.view.read (Elt Ideal) gV (ix2 s a) = ((V s a : ℝ) : EReal))
  (hW : ∀ k, k ≤ (i 1).val → ∀ r j : Fin 512, payload c XA (tl i k) (ix2 r j) = ((W r (512 * k + j) : ℝ) : EReal))
  (hW0 : ∀ (r : Fin 512) s, 512 * (i 1).val + r.val ≤ s → W r s = 0)

/-- The gradient of the score of the block's query `r` at key `s`: none from the query's own place on. -/
def gsc (Q O : Fin 512 → Fin 128 → ℝ) (K V : ℕ → Fin 128 → ℝ) (W : Fin 512 → ℕ → ℝ) (n : ℕ) (r : Fin 512) (s : ℕ) : ℝ :=
  if s < n + r.val then dsc Q O K V W r s else 0

/-- The buffer of key gradients after the diagonal block. -/
theorem finish_k (Gk : ℕ → Fin 128 → ℝ) (f : Buf (Elt Ideal) (dkM.view.loc (c : Thread nD τ)))
    (hdk : Reads c dkM f fun x a => Gk x a + if x < 512 * (i 1).val then ∑ r, gsc Q O K V W (512 * (i 1).val) r x * Q r a else 0)
    (e : b16t S512x512) (q : b16t S512x128) (ok : f32t S512x128) (hq : ∀ r a, q (ix2 r a) = ((Q r a : ℝ) : EReal))
    (hE : ∀ r (j : Fin 512), e (ix2 r j) = ((gsc Q O K V W (512 * (i 1).val) r (512 * (i 1).val + j) : ℝ) : EReal))
    (hok : ∀ (j : Fin 512) (a : Fin 128), ok (ix2 j a) = ((Gk (512 * (i 1).val + j.val) a : ℝ) : EReal)) :
    Reads c dkM (dkM.view.writes (Elt Ideal) f [⟨RD i, dkStep e q ok⟩]) fun s a => Gk s a + ∑ r, gsc Q O K V W (512 * (i 1).val) r s * Q r a := by
  have A := stored c dkM f (i 1).val (k0_off25 i) (k0_off25_inb i) (off25_eq i) (dkStep e q ok) Gk (fun s a => ∑ r, gsc Q O K V W (512 * (i 1).val) r s * Q r a) hdk fun j a =>
      dkStep_real q Q hq e (fun r x => gsc Q O K V W (512 * (i 1).val) r (512 * (i 1).val + x)) hE ok (fun j a => Gk (512 * (i 1).val + j.val) a) hok j a
  refine fun x a => (A x a).trans ?_
  refine congrArg ((↑) : ℝ → EReal) (congrArg (Gk x a + ·) ?_)
  show (if x.val < _ then _ else _) = _
  split
  · rfl
  · refine (Finset.sum_eq_zero fun r _ => ?_).symm
    unfold gsc
    rw [if_neg (by have := r.isLt; omega), zero_mul]

include hW0 in
/-- … of value gradients … -/
theorem finish_v (Gv : ℕ → Fin 128 → ℝ) (f : Buf (Elt Ideal) (dvM.view.loc (c : Thread nD τ)))
    (hdv : Reads c dvM f fun x a => Gv x a + if x < 512 * (i 1).val then ∑ r, W r x * O r a else 0)
    (d : b16t S512x128) (w : b16t S1x512x512) (ov : f32t S512x128) (hd : ∀ r a, d (ix2 r a) = ((O r a : ℝ) : EReal))
    (hw : ∀ r (j : Fin 512), w (ix3 0 r j) = ((W r (512 * (i 1).val + j.val) : ℝ) : EReal))
    (hov : ∀ (j : Fin 512) (a : Fin 128), ov (ix2 j a) = ((Gv (512 * (i 1).val + j.val) a : ℝ) : EReal)) :
    Reads c dvM (dvM.view.writes (Elt Ideal) f [⟨RD i, k0_pay8 d (k0_pay5 w) ov⟩]) fun s a => Gv s a + ∑ r, W r s * O r a := by
  have B := stored c dvM f (i 1).val (k0_off25 i) (k0_off25_inb i) (off25_eq i) (k0_pay8 d (k0_pay5 w) ov) Gv (fun s a => ∑ r, W r s * O r a) hdv fun j a =>
      dv_real d w O (fun r x => W r (512 * (i 1).val + x)) hd hw ov (fun j a => Gv (512 * (i 1).val + j.val) a) hov j a
  refine fun x a => (B x a).trans ?_
  refine congrArg ((↑) : ℝ → EReal) (congrArg (Gv x a + ·) ?_)
  show (if x.val < _ then _ else _) = _
  split
  · rfl
  · refine (Finset.sum_eq_zero fun r _ => ?_).symm
    rw [hW0 r x.val (by have := r.isLt; omega), zero_mul]

theorem gsc_low (r : Fin 512) (n x : ℕ) (h : x < n) : gsc Q O K V W n r x = dsc Q O K V W r x := by
  unfold gsc; rw [if_pos (by omega)]

/-- … and the query gradient. -/
theorem finish_q (p : f32t S512x128)
    (hdq : ∀ r a, p (ix2 r a) = ((∑ x ∈ Finset.range (512 * (i 1).val), dsc Q O K V W r x * K x a : ℝ) : EReal))
    (e : b16t S512x512) (k : b16t S512x128) (hk : ∀ j a, k (ix2 j a) = ((K (512 * (i 1).val + j.val) a : ℝ) : EReal))
    (hE : ∀ r (j : Fin 512), e (ix2 r j) = ((gsc Q O K V W (512 * (i 1).val) r (512 * (i 1).val + j) : ℝ) : EReal)) (r : Fin 512) (a : Fin 128) :
    k0_pay2 (dqStep e k p) (ix2 r a) = ((∑ s ∈ Finset.range (512 * ((i 1).val + 1)), gsc Q O K V W (512 * (i 1).val) r s * K s a : ℝ) : EReal) := by
  have C := dqStep_real k (fun j a => K (512 * (i 1).val + j.val) a) hk e (fun r j => gsc Q O K V W (512 * (i 1).val) r (512 * (i 1).val + j)) hE
    p (fun r a => ∑ x ∈ Finset.range (512 * (i 1).val), dsc Q O K V W r x * K x a) hdq r a
  generalize dqStep e k p = y at *
  unfold k0_pay2
  refine Eq.trans ?_ (C.trans ?_)
  · pointwise
  · refine congrArg ((↑) : ℝ → EReal) ?_
    rw [show 512 * ((i 1).val + 1) = 512 * (i 1).val + 512 by ring, Finset.sum_range_add, Finset.sum_range (n := 512)]
    refine congrArg₂ (· + ·) (Finset.sum_congr rfl fun x hx => ?_) rfl
    rw [gsc_low Q O K V W r _ x (Finset.mem_range.1 hx)]

include hq hd hb hK hV hW hW0

set_option maxHeartbeats 600000 in
/-- One point of the grid. -/
theorem result_real (Gk Gv : ℕ → Fin 128 → ℝ) (fk fv) (hfk : Reads c dkM fk Gk) (hfv : Reads c dvM fv Gv) :
    let o := result c XA i arg2 harg2 arg3 harg3 arg4 harg4 arg5 harg5 arg6 harg6 arg8 harg8 arg9 harg9 arg10 harg10 g2 g3 gK gV g6 fk fv
    (Reads c dkM o.1 fun s a => Gk s a + ∑ r, gsc Q O K V W (512 * (i 1).val) r s * Q r a)
    ∧ (Reads c dvM o.2.1 fun s a => Gv s a + ∑ r, W r s * O r a)
    ∧ ∀ r a, o.2.2 (ix2 r a) = ((∑ s ∈ Finset.range (512 * ((i 1).val + 1)), gsc Q O K V W (512 * (i 1).val) r s * K s a : ℝ) : EReal) := by
  have hi16 : (i 1).val < 16 := (i 1).isLt
  have ht := trips1_eq i
  have h0 : Carried c Q O K V W Gk Gv 0 (fk, fv, ((k0_pay39, k0_pay40) : f32t S512x1 × f32t S512x128)) :=
    ⟨fun s a => (hfk s a).trans (by simp), fun s a => (hfv s a).trans (by simp),
      fun r => by show k0_pay39 (F := Ideal) (ix2 r 0) = _; unfold k0_pay39; pointwise; simp [pre],
      fun r a => by show k0_pay40 (F := Ideal) (ix2 r a) = _; unfold k0_pay40; pointwise; simp⟩
  have hc := carried c XA i arg2 harg2 arg3 harg3 arg4 harg4 arg5 harg5 arg6 harg6 arg8 harg8 arg9 harg9 arg10 harg10
    (BitVec.ofNat 32 (i 1).val) (runMid.sl.v27 i) (opQ c arg3 g3) (opD c arg2 g2) (opB c arg6 g6) gK gV Q O K V W hq hd hb hK hV hW Gk Gv fk fv _ h0 _ (le_refl _)
  change Carried c Q O K V W Gk Gv _ (after c XA i arg2 harg2 arg3 harg3 arg4 harg4 arg5 harg5 arg6 harg6 arg8 harg8 arg9 harg9 arg10 harg10 g2 g3 gK gV g6 fk fv) at hc
  unfold result
  generalize after c XA i arg2 harg2 arg3 harg3 arg4 harg4 arg5 harg5 arg6 harg6 arg8 harg8 arg9 harg9 arg10 harg10 g2 g3 gK gV g6 fk fv = s at *
  rw [ht] at hc
  obtain ⟨hdk, hdv, hrun, hdq⟩ := hc
  have hkr : ∀ j a, rowsDg c i _ arg4 gK (ix2 j a) = ((K (512 * (i 1).val + j.val) a : ℝ) : EReal) := fun j a => by
    rw [rowsDg_apply c i _ arg4 gK j a (by omega), hK]
  have hvr : ∀ j a, rowsDg c i _ arg5 gV (ix2 j a) = ((V (512 * (i 1).val + j.val) a : ℝ) : EReal) := fun j a => by
    rw [rowsDg_apply c i _ arg5 gV j a (by omega), hV]
  have hwt : ∀ r (j : Fin 512), tileDg c XA i (ix3 0 r j) = ((W r (512 * (i 1).val + j.val) : ℝ) : EReal) := fun r j =>
    (loaded_apply c XA _ _ _ _ (off24_eq i) r j).trans (by rw [ht]; exact hW _ (le_refl _) r j)
  have hx := prod_real _ (rowsDg c i _ arg5 gV) (tileDg c XA i) O (fun j a => V (512 * (i 1).val + j.val) a) (fun r j => W r (512 * (i 1).val + j)) hd hvr hwt
  have hs := sig_real _ (rowsDg c i _ arg4 gK) Q (fun j a => K (512 * (i 1).val + j.val) a) hq hkr
  have hE := blockEm_real (opB c arg6 g6) hb s.2.2.1 _ hrun _ _ (fun r j => sig2 Q K r (512 * (i 1).val + j)) (fun r j => wt O V W r (512 * (i 1).val + j)) hs hx
  simp only [pre_add] at hE
  have hok : ∀ (j : Fin 512) (a : Fin 128), rowsDg c i .f32 dkM s.1 (ix2 j a) = ((Gk (512 * (i 1).val + j.val) a : ℝ) : EReal) := fun j a => by
    refine (rowsDg_apply c i _ dkM s.1 j a (by omega)).trans ((hdk _ _).trans ?_)
    show ((Gk (512 * (i 1).val + j.val) a + (if 512 * (i 1).val + j.val < 512 * (i 1).val then _ else 0) : ℝ) : EReal) = _
    rw [if_neg (by omega), add_zero]
  have hov : ∀ (j : Fin 512) (a : Fin 128), rowsDg c i .f32 dvM s.2.1 (ix2 j a) = ((Gv (512 * (i 1).val + j.val) a : ℝ) : EReal) := fun j a => by
    refine (rowsDg_apply c i _ dvM s.2.1 j a (by omega)).trans ((hdv _ _).trans ?_)
    show ((Gv (512 * (i 1).val + j.val) a + (if 512 * (i 1).val + j.val < 512 * (i 1).val then _ else 0) : ℝ) : EReal) = _
    rw [if_neg (by omega), add_zero]
  have hdk' : Reads c dkM s.1 fun x a => Gk x a + if x < 512 * (i 1).val then ∑ r, gsc Q O K V W (512 * (i 1).val) r x * Q r a else 0 := fun x a => by
    refine (hdk x a).trans (congrArg ((↑) : ℝ → EReal) (congrArg (Gk x a + ·) ?_))
    split
    · rename_i h
      exact Finset.sum_congr rfl fun r _ => by rw [gsc_low Q O K V W r _ _ h]
    · rfl
  have hE' : ∀ r (j : Fin 512), diagE c XA i arg2 arg3 arg4 arg5 arg6 g2 g3 gK gV g6 s.2.2 (ix2 r j)
      = ((gsc Q O K V W (512 * (i 1).val) r (512 * (i 1).val + j) : ℝ) : EReal) := fun r j => by
    refine (hE r j).trans ?_
    unfold gsc
    simp only [Nat.add_lt_add_iff_left]
    rfl
  refine ⟨?_, ?_, ?_⟩
  · exact finish_k c i Q O K V W Gk s.1 hdk' _ _ _ hq hE' hok
  · exact finish_v c i O W hW0 Gv s.2.1 hdv _ _ _ hd hwt hov
  · exact finish_q i Q O K V W s.2.2.2 hdq _ _ hkr hE'

end Outcome

end Cert.StickBwd
-- ==== Proof.StickBwdLit.lean ====
/- The entries of the strictly lower triangular table that the attention backward multiplies by. -/
module

public import proofs.«01_k».proof.StickBwdKernelIdeal

@[expose] public section

set_option maxRecDepth 100000

noncomputable section

namespace Cert.StickBwd

open Cert.StickBwdKernelIdeal Idealize.ShloMosaic

/-- The table's entry `n`, row-major, is one where the row's place in its half is before the column. -/
def entryAt (n : Nat) : Bool := (lit0t n).toNat == bif (n / 128 % 128).blt (n % 128) then 0x3F80 else 0

/-- … for the `k` entries from `a` on. -/
def entries (a : Nat) : Nat → Bool
  | 0 => true
  | k + 1 => (entryAt (a + k)).and (entries a k)

theorem entries_at (a k : Nat) (h : entries a k = true) (n : Nat) (h1 : a ≤ n) (h2 : n < a + k) : entryAt n = true := by
  induction k with
  | zero => omega
  | succ k ih =>
    simp only [entries, Bool.and_eq_true] at h
    rcases Nat.lt_or_ge n (a + k) with hn | hn
    · exact ih h.2 hn
    · rw [show n = a + k by omega]; exact h.1

theorem entries_0 : entries 0 2048 = true := by decide +kernel
theorem entries_1 : entries 2048 2048 = true := by decide +kernel
theorem entries_2 : entries 4096 2048 = true := by decide +kernel
theorem entries_3 : entries 6144 2048 = true := by decide +kernel
theorem entries_4 : entries 8192 2048 = true := by decide +kernel
theorem entries_5 : entries 10240 2048 = true := by decide +kernel
theorem entries_6 : entries 12288 2048 = true := by decide +kernel
theorem entries_7 : entries 14336 2048 = true := by decide +kernel
theorem entries_8 : entries 16384 2048 = true := by decide +kernel
theorem entries_9 : entries 18432 2048 = true := by decide +kernel
theorem entries_10 : entries 20480 2048 = true := by decide +kernel
theorem entries_11 : entries 22528 2048 = true := by decide +kernel
theorem entries_12 : entries 24576 2048 = true := by decide +kernel
theorem entries_13 : entries 26624 2048 = true := by decide +kernel
theorem entries_14 : entries 28672 2048 = true := by decide +kernel
theorem entries_15 : entries 30720 2048 = true := by decide +kernel

theorem entry_all (n : Nat) (hn : n < 32768) : entryAt n = true := by
  rcases Nat.lt_or_ge n 2048 with h0 | h0
  · exact entries_at _ _ entries_0 n (by omega) (by omega)
  rcases Nat.lt_or_ge n 4096 with h1 | h1
  · exact entries_at _ _ entries_1 n (by omega) (by omega)
  rcases Nat.lt_or_ge n 6144 with h2 | h2
  · exact entries_at _ _ entries_2 n (by omega) (by omega)
  rcases Nat.lt_or_ge n 8192 with h3 | h3
  · exact entries_at _ _ entries_3 n (by omega) (by omega)
  rcases Nat.lt_or_ge n 10240 with h4 | h4
  · exact entries_at _ _ entries_4 n (by omega) (by omega)
  rcases Nat.lt_or_ge n 12288 with h5 | h5
  · exact entries_at _ _ entries_5 n (by omega) (by omega)
  rcases Nat.lt_or_ge n 14336 with h6 | h6
  · exact entries_at _ _ entries_6 n (by omega) (by omega)
  rcases Nat.lt_or_ge n 16384 with h7 | h7
  · exact entries_at _ _ entries_7 n (by omega) (by omega)
  rcases Nat.lt_or_ge n 18432 with h8 | h8
  · exact entries_at _ _ entries_8 n (by omega) (by omega)
  rcases Nat.lt_or_ge n 20480 with h9 | h9
  · exact entries_at _ _ entries_9 n (by omega) (by omega)
  rcases Nat.lt_or_ge n 22528 with h10 | h10
  · exact entries_at _ _ entries_10 n (by omega) (by omega)
  rcases Nat.lt_or_ge n 24576 with h11 | h11
  · exact entries_at _ _ entries_11 n (by omega) (by omega)
  rcases Nat.lt_or_ge n 26624 with h12 | h12
  · exact entries_at _ _ entries_12 n (by omega) (by omega)
  rcases Nat.lt_or_ge n 28672 with h13 | h13
  · exact entries_at _ _ entries_13 n (by omega) (by omega)
  rcases Nat.lt_or_ge n 30720 with h14 | h14
  · exact entries_at _ _ entries_14 n (by omega) (by omega)
  exact entries_at _ _ entries_15 n (by omega) (by omega)

end Cert.StickBwd
-- ==== Proof.StickBwdTable.lean ====
/- The strictly lower triangular table that the attention backward multiplies by, over the reals. -/
module

public import proofs.«01_k».proof.Proof.StickBwdLit
public import proofs.«01_k».proof.Proof.Lift

@[expose] public section

set_option maxRecDepth 100000

noncomputable section

namespace Cert.StickBwd

open Cert.StickBwdKernelIdeal Idealize.ShloMosaic

/-- The table at an index over the reals. -/
theorem table (i : S256x128.Idx) :
    FloatOps.ofBits (F := Ideal) .bf16 (lit0 (S256x128.rowMajor i)) = ((if (i 0).val % 128 < (i 1).val then 1 else 0 : ℝ) : EReal) := by
  have h0 : (i 0).val < 256 := (i 0).isLt
  have h1 : (i 1).val < 128 := (i 1).isLt
  have hv : (S256x128.rowMajor i).val = (i 0).val * 128 + (i 1).val := Shape.rowMajor_val_two i
  have he := entry_all _ (S256x128.rowMajor i).isLt
  have hl : lit0 (S256x128.rowMajor i) = if (i 0).val % 128 < (i 1).val then 0x3F80#16 else 0x0000#16 := by
    refine BitVec.eq_of_toNat_eq ?_
    show (lit0t (S256x128.rowMajor i).val).toNat = _
    unfold entryAt at he
    rw [eq_of_beq he, hv, show ((i 0).val * 128 + (i 1).val) / 128 % 128 = (i 0).val % 128 by omega,
      show ((i 0).val * 128 + (i 1).val) % 128 = (i 1).val by omega]
    by_cases h : (i 0).val % 128 < (i 1).val
    · rw [if_pos h, show Nat.blt ((i 0).val % 128) (i 1).val = true from by simpa [Nat.blt_eq] using h]; rfl
    · rw [if_neg h, show Nat.blt ((i 0).val % 128) (i 1).val = false from by simpa [Bool.eq_false_iff, Nat.blt_eq] using h]; rfl
  rw [hl]
  split
  · show Ideal.ofBits .bf16 _ = _
    simp [Ideal.ofBits, Ideal.ieee, -EReal.coe_mul]; norm_num
  · show Ideal.ofBits .bf16 _ = _
    simp [Ideal.ofBits, Ideal.ieee]

end Cert.StickBwd
-- ==== Proof.StickBwdHost.lean ====
/-
  What the attention backward kernel's host lines leave in its operands: the saved weights cut into the lower
  tiles of a head laid end to end, the scaled queries with keys and values side by side, the output's cotangent
  behind zeros, and the table of the keys before a key inside a block.
-/
module

public import proofs.«01_k».proof.Proof.Gen.StickBwdKernelIdeal.Frame
public import proofs.«01_k».proof.Proof.Gen.StickBwdReferenceIdeal.Read
public import Idealize.ShloMosaic.Lib.Pipeline.ValueKit
public import Idealize.ShloMosaic.Lib.StableHlo.RunRead
public import Idealize.ShloMosaic.Lib.Claim

@[expose] public section

set_option maxRecDepth 16384

noncomputable section

namespace Cert.StickBwd

open Cert.StickBwdKernelIdeal Cert.StickBwdKernelIdeal.Gen
open Idealize.ShloMosaic Idealize.ShloMosaic.TcCoe Idealize.SL.Sem

variable {F : FTy → Type} [FloatOps F] [Named F]
variable (m : (ℓ : Loc nD τ sig) → Buf (Elt F) ℓ) (c : Dev nD)

/-- The sixteen runs of tiles of the query blocks, end to end. -/
def join (y0 : FVec F S8x1x512x512 .bf16) (y1 : FVec F S8x2x512x512 .bf16) (y2 : FVec F S8x3x512x512 .bf16) (y3 : FVec F S8x4x512x512 .bf16) (y4 : FVec F S8x5x512x512 .bf16) (y5 : FVec F S8x6x512x512 .bf16) (y6 : FVec F S8x7x512x512 .bf16) (y7 : FVec F S8x8x512x512 .bf16) (y8 : FVec F S8x9x512x512 .bf16) (y9 : FVec F S8x10x512x512 .bf16) (y10 : FVec F S8x11x512x512 .bf16) (y11 : FVec F S8x12x512x512 .bf16) (y12 : FVec F S8x13x512x512 .bf16) (y13 : FVec F S8x14x512x512 .bf16) (y14 : FVec F S8x15x512x512 .bf16) (y15 : FVec F S8x16x512x512 .bf16) :
    FVec F S8x136x512x512 .bf16 :=
  concatenate S8x136x512x512 1 [⟨S8x1x512x512, y0⟩, ⟨S8x2x512x512, y1⟩, ⟨S8x3x512x512, y2⟩, ⟨S8x4x512x512, y3⟩, ⟨S8x5x512x512, y4⟩, ⟨S8x6x512x512, y5⟩, ⟨S8x7x512x512, y6⟩, ⟨S8x8x512x512, y7⟩, ⟨S8x9x512x512, y8⟩, ⟨S8x10x512x512, y9⟩, ⟨S8x11x512x512, y10⟩, ⟨S8x12x512x512, y11⟩, ⟨S8x13x512x512, y12⟩, ⟨S8x14x512x512, y13⟩, ⟨S8x15x512x512, y14⟩, ⟨S8x16x512x512, y15⟩] concatenates_S8x1x512x512_S8x2x512x512_S8x3x512x512_S8x4x512x512_S8x5x512x512_S8x6x512x512_S8x7x512x512_S8x8x512x512_S8x9x512x512_S8x10x512x512_S8x11x512x512_S8x12x512x512_S8x13x512x512_S8x14x512x512_S8x15x512x512_S8x16x512x512_S8x136x512x512_d1

/-- The tiles at and below the diagonal of every head, one query block after the other. -/
def packTiles (T : FVec F S8x16x16x512x512 .bf16) : FVec F S8x136x512x512 .bf16 :=
  join
  (shapeCast S8x1x512x512 (extractStridedSlice S8x1x1x512x512 ![0, 0, 0, 0, 0] T slices_S8x16x16x512x512_S8x1x1x512x512_0_0_0_0_0) shapeCasts_S8x1x1x512x512_S8x1x512x512)
  (shapeCast S8x2x512x512 (extractStridedSlice S8x1x2x512x512 ![0, 1, 0, 0, 0] T slices_S8x16x16x512x512_S8x1x2x512x512_0_1_0_0_0) shapeCasts_S8x1x2x512x512_S8x2x512x512)
  (shapeCast S8x3x512x512 (extractStridedSlice S8x1x3x512x512 ![0, 2, 0, 0, 0] T slices_S8x16x16x512x512_S8x1x3x512x512_0_2_0_0_0) shapeCasts_S8x1x3x512x512_S8x3x512x512)
  (shapeCast S8x4x512x512 (extractStridedSlice S8x1x4x512x512 ![0, 3, 0, 0, 0] T slices_S8x16x16x512x512_S8x1x4x512x512_0_3_0_0_0) shapeCasts_S8x1x4x512x512_S8x4x512x512)
  (shapeCast S8x5x512x512 (extractStridedSlice S8x1x5x512x512 ![0, 4, 0, 0, 0] T slices_S8x16x16x512x512_S8x1x5x512x512_0_4_0_0_0) shapeCasts_S8x1x5x512x512_S8x5x512x512)
  (shapeCast S8x6x512x512 (extractStridedSlice S8x1x6x512x512 ![0, 5, 0, 0, 0] T slices_S8x16x16x512x512_S8x1x6x512x512_0_5_0_0_0) shapeCasts_S8x1x6x512x512_S8x6x512x512)
  (shapeCast S8x7x512x512 (extractStridedSlice S8x1x7x512x512 ![0, 6, 0, 0, 0] T slices_S8x16x16x512x512_S8x1x7x512x512_0_6_0_0_0) shapeCasts_S8x1x7x512x512_S8x7x512x512)
  (shapeCast S8x8x512x512 (extractStridedSlice S8x1x8x512x512 ![0, 7, 0, 0, 0] T slices_S8x16x16x512x512_S8x1x8x512x512_0_7_0_0_0) shapeCasts_S8x1x8x512x512_S8x8x512x512)
  (shapeCast S8x9x512x512 (extractStridedSlice S8x1x9x512x512 ![0, 8, 0, 0, 0] T slices_S8x16x16x512x512_S8x1x9x512x512_0_8_0_0_0) shapeCasts_S8x1x9x512x512_S8x9x512x512)
  (shapeCast S8x10x512x512 (extractStridedSlice S8x1x10x512x512 ![0, 9, 0, 0, 0] T slices_S8x16x16x512x512_S8x1x10x512x512_0_9_0_0_0) shapeCasts_S8x1x10x512x512_S8x10x512x512)
  (shapeCast S8x11x512x512 (extractStridedSlice S8x1x11x512x512 ![0, 10, 0, 0, 0] T slices_S8x16x16x512x512_S8x1x11x512x512_0_10_0_0_0) shapeCasts_S8x1x11x512x512_S8x11x512x512)
  (shapeCast S8x12x512x512 (extractStridedSlice S8x1x12x512x512 ![0, 11, 0, 0, 0] T slices_S8x16x16x512x512_S8x1x12x512x512_0_11_0_0_0) shapeCasts_S8x1x12x512x512_S8x12x512x512)
  (shapeCast S8x13x512x512 (extractStridedSlice S8x1x13x512x512 ![0, 12, 0, 0, 0] T slices_S8x16x16x512x512_S8x1x13x512x512_0_12_0_0_0) shapeCasts_S8x1x13x512x512_S8x13x512x512)
  (shapeCast S8x14x512x512 (extractStridedSlice S8x1x14x512x512 ![0, 13, 0, 0, 0] T slices_S8x16x16x512x512_S8x1x14x512x512_0_13_0_0_0) shapeCasts_S8x1x14x512x512_S8x14x512x512)
  (shapeCast S8x15x512x512 (extractStridedSlice S8x1x15x512x512 ![0, 14, 0, 0, 0] T slices_S8x16x16x512x512_S8x1x15x512x512_0_14_0_0_0) shapeCasts_S8x1x15x512x512_S8x15x512x512)
  (shapeCast S8x16x512x512 (extractStridedSlice S8x1x16x512x512 ![0, 15, 0, 0, 0] T slices_S8x16x16x512x512_S8x1x16x512x512_0_15_0_0_0) shapeCasts_S8x1x16x512x512_S8x16x512x512)

/-- The weights as tiles: head, query block, key block, query, key. -/
def cutTiles (w : FVec F S1x8x8192x8192 .f32) : FVec F S8x16x16x512x512 .bf16 :=
  transpose S8x16x16x512x512 [0, 1, 3, 2, 4] (shapeCast S8x16x512x16x512 (truncf .bf16 (shapeCast S8x8192x8192 w shapeCasts_S1x8x8192x8192_S8x8192x8192) bitsLt_bf16_f32) shapeCasts_S8x8192x8192_S8x16x512x16x512) transposes_S8x16x512x16x512_S8x16x16x512x512_0_1_3_2_4

/-- The host's contents before the lines that lay out the operands. -/
def U : Valuation τ sig (Elt F) :=
  StableHlo.after (List.flatten [hostOps0, hostOps0_1, hostOps0_2, hostOps0_3, hostOps0_4, hostOps0_5, hostOps0_6, hostOps0_7, hostOps0_8]) (fun b => m (c, b))

theorem V_split (b : Ref sig .tc) : V m c b = StableHlo.after hostOps0_9 (U m c) b := by
  unfold V U
  rw [← StableHlo.after_append]
  simp only [List.flatten_cons, List.flatten_nil, List.append_nil, List.append_assoc]

theorem entry_w (u : Valuation τ sig (Elt F)) :
    StableHlo.after hostOps0_9 u main_v59 = packTiles (cutTiles (u main_v22)) := by
  after_reads_simp
  refine Eq.trans (show _ = join (StableHlo.upto hostOps0_9 u 36 (Proc.devRef .tc main_v28)) (StableHlo.upto hostOps0_9 u 36 (Proc.devRef .tc main_v30)) (StableHlo.upto hostOps0_9 u 36 (Proc.devRef .tc main_v32)) (StableHlo.upto hostOps0_9 u 36 (Proc.devRef .tc main_v34)) (StableHlo.upto hostOps0_9 u 36 (Proc.devRef .tc main_v36)) (StableHlo.upto hostOps0_9 u 36 (Proc.devRef .tc main_v38)) (StableHlo.upto hostOps0_9 u 36 (Proc.devRef .tc main_v40)) (StableHlo.upto hostOps0_9 u 36 (Proc.devRef .tc main_v42)) (StableHlo.upto hostOps0_9 u 36 (Proc.devRef .tc main_v44)) (StableHlo.upto hostOps0_9 u 36 (Proc.devRef .tc main_v46)) (StableHlo.upto hostOps0_9 u 36 (Proc.devRef .tc main_v48)) (StableHlo.upto hostOps0_9 u 36 (Proc.devRef .tc main_v50)) (StableHlo.upto hostOps0_9 u 36 (Proc.devRef .tc main_v52)) (StableHlo.upto hostOps0_9 u 36 (Proc.devRef .tc main_v54)) (StableHlo.upto hostOps0_9 u 36 (Proc.devRef .tc main_v56)) (StableHlo.upto hostOps0_9 u 36 (Proc.devRef .tc main_v58)) from rfl) ?_
  after_reads_simp
  rfl

/-- Queries, keys and values side by side. -/
def sideBySide (q k v : FVec F S8192x1024 .bf16) : FVec F S8192x3072 .bf16 :=
  concatenate S8192x3072 1 [⟨S8192x1024, q⟩, ⟨S8192x1024, k⟩, ⟨S8192x1024, v⟩] concatenates_S8192x1024_S8192x1024_S8192x1024_S8192x3072_d1

/-- The scale of the queries, in powers of two. -/
def queryScale : FVec F S8192x1024 .f32 :=
  broadcastInDim S8192x1024 ![] bcast_S_S8192x1024 (Host.divf (constant S_ .f32 0x3DB504F3#32) (Host.log (constant S_ .f32 0x40000000#32)))

theorem entry_p (u : Valuation τ sig (Elt F)) :
    StableHlo.after hostOps0_9 u main_v67 = sideBySide (truncf .bf16 (mulf (u main_arg0) queryScale) bitsLt_bf16_f32)
      (truncf .bf16 (u main_arg1 : FVec F S8192x1024 .f32) bitsLt_bf16_f32) (truncf .bf16 (u main_arg2 : FVec F S8192x1024 .f32) bitsLt_bf16_f32) := by
  after_reads_simp
  refine Eq.trans (show _ = sideBySide (StableHlo.upto hostOps0_9 u 46 (Proc.devRef .tc main_v64)) (StableHlo.upto hostOps0_9 u 46 (Proc.devRef .tc main_v65)) (StableHlo.upto hostOps0_9 u 46 (Proc.devRef .tc main_v66)) from rfl) ?_
  after_reads_simp
  rfl

/-- The output's cotangent behind as many columns of zeros. -/
def behindZeros (d : FVec F S8192x1024 .f32) : FVec F S8192x2048 .f32 :=
  concatenate S8192x2048 1 [⟨S8192x1024, broadcastInDim S8192x1024 ![] bcast_S_S8192x1024 (constant S_ .f32 0x00000000#32)⟩, ⟨S8192x1024, d⟩] concatenates_S8192x1024_S8192x1024_S8192x2048_d1

theorem entry_d (u : Valuation τ sig (Elt F)) : StableHlo.after hostOps0_9 u main_v69 = behindZeros (u main_arg3) := by
  after_reads_simp
  rfl

theorem U_arg0 : U m c main_arg0 = m ((c : Thread nD τ).loc main_arg0) := by unfold U; after_reads_simp
theorem U_arg1 : U m c main_arg1 = m ((c : Thread nD τ).loc main_arg1) := by unfold U; after_reads_simp
theorem U_arg2 : U m c main_arg2 = m ((c : Thread nD τ).loc main_arg2) := by unfold U; after_reads_simp
theorem U_arg3 : U m c main_arg3 = m ((c : Thread nD τ).loc main_arg3) := by unfold U; after_reads_simp

theorem V_table : V m c main_cst = fun i : S256x128.Idx => FloatOps.ofBits .bf16 (lit0 (S256x128.rowMajor i)) := by
  unfold V; after_reads_simp; rfl

theorem V_weights : V m c main_v59 = packTiles (cutTiles (U m c main_v22)) := (V_split m c _).trans (entry_w _)

theorem V_d : V m c main_v69 = behindZeros (m ((c : Thread nD τ).loc main_arg3)) := by
  rw [V_split, entry_d, U_arg3]

theorem V_p : V m c main_v67 = sideBySide (truncf .bf16 (mulf (m ((c : Thread nD τ).loc main_arg0) : FVec F S8192x1024 .f32) queryScale) bitsLt_bf16_f32)
      (truncf .bf16 (m ((c : Thread nD τ).loc main_arg1) : FVec F S8192x1024 .f32) bitsLt_bf16_f32)
      (truncf .bf16 (m ((c : Thread nD τ).loc main_arg2) : FVec F S8192x1024 .f32) bitsLt_bf16_f32) := by
  rw [V_split, entry_p, U_arg0, U_arg1, U_arg2]

theorem U_weights : U m c main_v22 = Cert.StickBwdReferenceIdeal.Read.val_main_v22_0 (F := F) (m ((c : Thread nD τ).loc main_arg0)) (m ((c : Thread nD τ).loc main_arg1)) := by
  unfold U
  after_reads_simp [StableHlo.TRef.ofBuf_toBuf]
  rfl

/-! ## The operands at an index -/

theorem cut_apply (w : FVec Ideal S1x8x8192x8192 .f32) (h : Fin 8) (b k : Fin 16) (r j : Fin 512) :
    cutTiles w (ix5 h b k r j) = w (ix4 0 h (⟨512 * b.val + r.val, by omega⟩ : Fin 8192) (⟨512 * k.val + j.val, by omega⟩ : Fin 8192)) := by
  unfold cutTiles
  refine (transpose_apply _ _ _ (ix5 h b k r j) (ix5 h b r k j) (fun b => match b with | ⟨0, _⟩ => rfl | ⟨1, _⟩ => rfl | ⟨2, _⟩ => rfl | ⟨3, _⟩ => rfl | ⟨4, _⟩ => rfl)).trans ?_
  refine (shapeCast_apply _ _ (ix5 h b r k j) (ix3 h (⟨512 * b.val + r.val, by omega⟩ : Fin 8192) (⟨512 * k.val + j.val, by omega⟩ : Fin 8192))
    (by rewrite [Shape.rowMajor_val_three, Shape.rowMajor_val_five]
        show (h.val * 8192 + (512 * b.val + r.val)) * 8192 + (512 * k.val + j.val) = (((h.val * 16 + b.val) * 512 + r.val) * 16 + k.val) * 512 + j.val
        omega)).trans ?_
  exact shapeCast_apply w _ _ (ix4 0 h (⟨512 * b.val + r.val, by omega⟩ : Fin 8192) (⟨512 * k.val + j.val, by omega⟩ : Fin 8192))
    (by rewrite [Shape.rowMajor_val_three, Shape.rowMajor_val_four]
        show ((0 * 8 + h.val) * 8192 + (512 * b.val + r.val)) * 8192 + (512 * k.val + j.val) = (h.val * 8192 + (512 * b.val + r.val)) * 8192 + (512 * k.val + j.val)
        omega)

theorem run_apply (n : Nat) (hn : n < 16) (xs : List ((s : Shape) × (s.Idx → Ideal .bf16)))
    (hc : Shape.Concatenates (xs.map (·.1)) S8x136x512x512 1) (T : FVec Ideal S8x16x16x512x512 .bf16)
    (hs : S8x16x16x512x512.Slices ![0, n, 0, 0, 0] ⟨5, ![8, 1, n + 1, 512, 512]⟩)
    (hr : (⟨5, ![8, 1, n + 1, 512, 512]⟩ : Shape).ShapeCasts ⟨4, ![8, n + 1, 512, 512]⟩) (hl : n < xs.length)
    (hx : xs[n] = ⟨⟨4, ![8, n + 1, 512, 512]⟩, shapeCast ⟨4, ![8, n + 1, 512, 512]⟩ (extractStridedSlice ⟨5, ![8, 1, n + 1, 512, 512]⟩ ![0, n, 0, 0, 0] T hs) hr⟩)
    (hpre : (((xs.take n).map (·.1)).map fun s => if h : s.rank = (4 : ℕ) then s.size ((1 : Fin 4).cast h.symm) else 0).sum = n * (n + 1) / 2)
    (h : Fin 8) (k : Fin 16) (hk : k.val ≤ n) (r j : Fin 512) :
    concatenate S8x136x512x512 1 xs hc (ix4 h (Fin.ofNat 136 (n * (n + 1) / 2 + k.val)) r j) = T (ix5 h ⟨n, hn⟩ k r j) := by
  have hb : n * (n + 1) / 2 + k.val < 136 := by
    have : n * (n + 1) ≤ 15 * 16 := Nat.mul_le_mul (by omega) (by omega)
    omega
  have hk' : k.val < n + 1 := by omega
  refine (concatenate_apply_piece (t := S8x136x512x512) 1 xs hc (ix4 h (Fin.ofNat 136 (n * (n + 1) / 2 + k.val)) r j) n hl _ _ hx rfl (n * (n + 1) / 2) hpre
    (ix4 h (⟨k.val, hk'⟩ : Fin (n + 1)) r j)
    (fun b hb => match b with | ⟨0, _⟩ => rfl | ⟨1, _⟩ => absurd rfl hb | ⟨2, _⟩ => rfl | ⟨3, _⟩ => rfl)
    (show n * (n + 1) / 2 + k.val = (n * (n + 1) / 2 + k.val) % 136 from (Nat.mod_eq_of_lt hb).symm)).trans ?_
  refine (shapeCast_apply _ hr _ (ix5 h (0 : Fin 1) (⟨k.val, hk'⟩ : Fin (n + 1)) r j)
    (by rewrite [Shape.rowMajor_val_five, Shape.rowMajor_val_four]
        show (((h.val * 1 + 0) * (n + 1) + k.val) * 512 + r.val) * 512 + j.val = ((h.val * (n + 1) + k.val) * 512 + r.val) * 512 + j.val
        rw [Nat.mul_one, Nat.add_zero])).trans ?_
  exact extractStridedSlice_apply _ _ hs _ _ (fun a => match a with
    | ⟨0, _⟩ => (Nat.zero_add _).symm | ⟨1, _⟩ => rfl | ⟨2, _⟩ => (Nat.zero_add _).symm | ⟨3, _⟩ => (Nat.zero_add _).symm | ⟨4, _⟩ => (Nat.zero_add _).symm)

set_option maxHeartbeats 2000000 in
theorem pack_apply (T : FVec Ideal S8x16x16x512x512 .bf16) (h : Fin 8) (b : Fin 16) (k : Fin 16) (hk : k.val ≤ b.val) (r j : Fin 512) :
    packTiles T (ix4 h (Fin.ofNat 136 (b.val * (b.val + 1) / 2 + k.val)) r j) = T (ix5 h b k r j) := by
  unfold packTiles join
  obtain ⟨b, hb⟩ := b
  interval_cases b
  all_goals
    refine run_apply _ hb _ _ T ?_ ?_ ?_ ?_ ?_ h k hk r j
    rotate_left 2
    · exact hb
    · rfl
    · rfl

theorem side_q (q k v : FVec Ideal S8192x1024 .bf16) (t : Fin 8192) (n : Fin 3072) (a : Fin 1024) (h : n.val = a.val) :
    sideBySide q k v (ix2 t n) = q (ix2 t a) := by
  unfold sideBySide
  exact concatenate_apply_piece (t := S8192x3072) 1 [⟨S8192x1024, q⟩, ⟨S8192x1024, k⟩, ⟨S8192x1024, v⟩] _ _ 0 (show 0 < 3 by omega) S8192x1024 q rfl rfl 0 rfl (ix2 t a)
    (fun b hb => match b with | ⟨0, _⟩ => rfl | ⟨1, _⟩ => absurd rfl hb) (by show 0 + a.val = n.val; omega)

theorem side_k (q k v : FVec Ideal S8192x1024 .bf16) (t : Fin 8192) (n : Fin 3072) (a : Fin 1024) (h : n.val = 1024 + a.val) :
    sideBySide q k v (ix2 t n) = k (ix2 t a) := by
  unfold sideBySide
  exact concatenate_apply_piece (t := S8192x3072) 1 [⟨S8192x1024, q⟩, ⟨S8192x1024, k⟩, ⟨S8192x1024, v⟩] _ _ 1 (show 1 < 3 by omega) S8192x1024 k rfl rfl 1024 rfl (ix2 t a)
    (fun b hb => match b with | ⟨0, _⟩ => rfl | ⟨1, _⟩ => absurd rfl hb) (by show 1024 + a.val = n.val; omega)

theorem side_v (q k v : FVec Ideal S8192x1024 .bf16) (t : Fin 8192) (n : Fin 3072) (a : Fin 1024) (h : n.val = 2048 + a.val) :
    sideBySide q k v (ix2 t n) = v (ix2 t a) := by
  unfold sideBySide
  exact concatenate_apply_piece (t := S8192x3072) 1 [⟨S8192x1024, q⟩, ⟨S8192x1024, k⟩, ⟨S8192x1024, v⟩] _ _ 2 (show 2 < 3 by omega) S8192x1024 v rfl rfl 2048 rfl (ix2 t a)
    (fun b hb => match b with | ⟨0, _⟩ => rfl | ⟨1, _⟩ => absurd rfl hb) (by show 2048 + a.val = n.val; omega)

theorem behind_apply (d : FVec Ideal S8192x1024 .f32) (t : Fin 8192) (n : Fin 2048) (a : Fin 1024) (h : n.val = 1024 + a.val) :
    behindZeros d (ix2 t n) = d (ix2 t a) := by
  unfold behindZeros
  exact concatenate_apply_piece (t := S8192x2048) 1 [⟨S8192x1024, broadcastInDim S8192x1024 ![] bcast_S_S8192x1024 (constant S_ .f32 0x00000000#32)⟩, ⟨S8192x1024, d⟩] _ _ 1 (show 1 < 2 by omega) S8192x1024 d rfl rfl 1024 rfl (ix2 t a)
    (fun b hb => match b with | ⟨0, _⟩ => rfl | ⟨1, _⟩ => absurd rfl hb) (by show 1024 + a.val = n.val; omega)
-- ==== Proof.StickBwdKer.lean ====
/-
  The attention backward kernel over its grid, valued: with real arguments and real saved weights that vanish at and
  after the query, its three results are the query, key and value gradients, each one sum over the sequence.
-/
module

public import Idealize.ShloMosaic.Lib.VecWindow
public import proofs.«01_k».proof.Proof.StickBwdRun
public import proofs.«01_k».proof.Proof.StickBwdValue
public import proofs.«01_k».proof.Proof.StickBwdTable
public import proofs.«01_k».proof.Proof.StickBwdHost

@[expose] public section

set_option maxRecDepth 16384

noncomputable section

namespace Cert.StickBwd

open Cert.StickBwdKernelIdeal Cert.StickBwdKernelIdeal.Gen
open Idealize.ShloMosaic Cert.Lift
open Idealize.ShloMosaic.TcCoe
open Idealize.SL.Sem

/-! ## The gradients as sums over the sequence -/

/-- The factor of the queries: the score's scale over the logarithm of two. -/
def two : ℝ := scale / Real.log 2

section Grad
variable (q k v d : ℕ → ℕ → ℝ) (w : ℕ → ℕ → ℕ → ℝ) (h t : ℕ)

/-- The weighted product of cotangent and value of head `h`, query `t`, key `s`; -/
def prodW (s : ℕ) : ℝ := (∑ a : Fin 128, d t (128 * h + a.val) * v s (128 * h + a.val)) * w h t s
/-- the logistic function of the score, by powers of two; -/
def gateW (s : ℕ) : ℝ := 1 / (1 + Real.rpow 2 (0 - ∑ a : Fin 128, (q t (128 * h + a.val) * two) * k s (128 * h + a.val)))
/-- the gradient of the scaled score, none at and after the query. -/
def dz (s : ℕ) : ℝ :=
  if s < t then (prodW v d w h t s - gateW q k h t s * (prodW v d w h t s + ∑ x ∈ Finset.range s, prodW v d w h t x)) * scale else 0

/-- The key gradient's sum over the first `n` queries, with the queries as the kernel scales them; -/
def sumK (n s : ℕ) (a : Fin 128) : ℝ := ∑ t ∈ Finset.range n, dz q k v d w h t s * (q t (128 * h + a.val) * two)
/-- the value gradient's; -/
def sumV (n s : ℕ) (a : Fin 128) : ℝ := ∑ t ∈ Finset.range n, w h t s * d t (128 * h + a.val)
/-- the query gradient's, over the first `n` keys. -/
def sumQ (n : ℕ) (a : Fin 128) : ℝ := ∑ s ∈ Finset.range n, dz q k v d w h t s * k s (128 * h + a.val)

end Grad

/-- A sum over the next block. -/
theorem sum_block (f : ℕ → ℝ) (b : ℕ) :
    ∑ t ∈ Finset.range (512 * b), f t + ∑ r : Fin 512, f (512 * b + r.val) = ∑ t ∈ Finset.range (512 * (b + 1)), f t := by
  rw [show 512 * (b + 1) = 512 * b + 512 from by ring, Finset.sum_range_add, Finset.sum_range (n := 512)]

theorem queryScale_apply (i : S8192x1024.Idx) : queryScale (F := Ideal) i = ((two : ℝ) : EReal) := by
  have hl : Real.log 2 ≠ 0 := (Real.log_pos (by norm_num)).ne'
  show Ideal.div (Ideal.ofBits .f32 0x3DB504F3#32) (Ideal.log (Ideal.ofBits .f32 0x40000000#32)) = _
  rw [f32_scale, f32_two, show Ideal.log ((2 : ℝ) : EReal) = ((Real.log 2 : ℝ) : EReal) from if_neg (by norm_num), coe_div hl]
  rfl

variable (m : (ℓ : Loc nD τ sig) → Buf (Elt Ideal) ℓ) (c : Dev nD)

/-! ## The blocks of a point -/

theorem idx : ∀ t : Fin cfg0.N, win0_0.index t = ![t.val % 16, 8 + t.val / 16] ∧ win0_1.index t = ![t.val % 16, t.val / 16]
    ∧ win0_2.index t = ![0, 8 + t.val / 16] ∧ win0_3.index t = ![0, 16 + t.val / 16] ∧ win0_4.index t = ![0, 0]
    ∧ win0_5.index t = ![t.val % 16, t.val / 16] ∧ win0_6.index t = ![0, t.val / 16] ∧ win0_7.index t = ![0, t.val / 16] :=
  (by decide +kernel : ∀ t : Fin grid0.N, _)

theorem co : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

theorem lt128 (t : Fin cfg0.N) : t.val < 128 := by have := t.isLt; have : cfg0.N = 128 := N_0; omega

abbrev b0 (t : Fin cfg0.N) : FVec Ideal S512x128 .f32 := iblk m c 0 t
abbrev b1 (t : Fin cfg0.N) : FVec Ideal S512x128 .bf16 := iblk m c 1 t
abbrev b2 (t : Fin cfg0.N) : FVec Ideal S8192x128 .bf16 := iblk m c 2 t
abbrev b3 (t : Fin cfg0.N) : FVec Ideal S8192x128 .bf16 := iblk m c 3 t
abbrev b4 (t : Fin cfg0.N) : FVec Ideal S256x128 .bf16 := iblk m c 4 t

/-- Row `r` of the point's block of queries, and its columns. -/
def rowQ (t : Fin cfg0.N) (r : Fin 512) : Fin 8192 := ⟨512 * (t.val % 16) + r.val, by omega⟩
def colH (t : Fin cfg0.N) (a : Fin 128) : Fin 1024 := ⟨128 * (t.val / 16) + a.val, by have := lt128 t; omega⟩

abbrev aq : FVec Ideal S8192x1024 .f32 := m ((c : Thread nD τ).loc main_arg0)
abbrev ak : FVec Ideal S8192x1024 .f32 := m ((c : Thread nD τ).loc main_arg1)
abbrev av : FVec Ideal S8192x1024 .f32 := m ((c : Thread nD τ).loc main_arg2)
abbrev ad : FVec Ideal S8192x1024 .f32 := m ((c : Thread nD τ).loc main_arg3)

theorem b0_apply (t : Fin cfg0.N) (r : Fin 512) (a : Fin 128) : b0 m c t (ix2 r a) = ad m c (ix2 (rowQ t r) (colH t a)) := by
  have h := lt128 t
  refine Eq.trans ?_ (behind_apply (ad m c) (rowQ t r) ⟨1024 + (128 * (t.val / 16) + a.val), by omega⟩ (colH t a) rfl)
  unfold b0 iblk
  show V m c main_v69 _ = _
  rw [V_d]
  refine congrArg (behindZeros (ad m c)) ?_
  blk_ext [idx t, rowQ]

theorem b1_apply (t : Fin cfg0.N) (r : Fin 512) (a : Fin 128) :
    b1 m c t (ix2 r a) = aq m c (ix2 (rowQ t r) (colH t a)) * queryScale (F := Ideal) (ix2 (rowQ t r) (colH t a)) := by
  have h := lt128 t
  refine Eq.trans ?_ (side_q (truncf .bf16 (mulf (aq m c) queryScale) bitsLt_bf16_f32) (truncf .bf16 (ak m c) bitsLt_bf16_f32) (truncf .bf16 (av m c) bitsLt_bf16_f32)
    (rowQ t r) ⟨128 * (t.val / 16) + a.val, by omega⟩ (colH t a) rfl)
  unfold b1 iblk
  show V m c main_v67 _ = _
  rw [V_p]
  refine congrArg (sideBySide _ _ _) ?_
  blk_ext [idx t, rowQ]

theorem b2_apply (t : Fin cfg0.N) (s : Fin 8192) (a : Fin 128) : b2 m c t (ix2 s a) = ak m c (ix2 s (colH t a)) := by
  have h := lt128 t
  refine Eq.trans ?_ (side_k (truncf .bf16 (mulf (aq m c) queryScale) bitsLt_bf16_f32) (truncf .bf16 (ak m c) bitsLt_bf16_f32) (truncf .bf16 (av m c) bitsLt_bf16_f32)
    s ⟨1024 + (128 * (t.val / 16) + a.val), by omega⟩ (colH t a) rfl)
  unfold b2 iblk
  show V m c main_v67 _ = _
  rw [V_p]
  refine congrArg (sideBySide _ _ _) ?_
  blk_ext [idx t]

theorem b3_apply (t : Fin cfg0.N) (s : Fin 8192) (a : Fin 128) : b3 m c t (ix2 s a) = av m c (ix2 s (colH t a)) := by
  have h := lt128 t
  refine Eq.trans ?_ (side_v (truncf .bf16 (mulf (aq m c) queryScale) bitsLt_bf16_f32) (truncf .bf16 (ak m c) bitsLt_bf16_f32) (truncf .bf16 (av m c) bitsLt_bf16_f32)
    s ⟨2048 + (128 * (t.val / 16) + a.val), by omega⟩ (colH t a) rfl)
  unfold b3 iblk
  show V m c main_v67 _ = _
  rw [V_p]
  refine congrArg (sideBySide _ _ _) ?_
  blk_ext [idx t]

theorem b4_apply (t : Fin cfg0.N) (i : S256x128.Idx) : b4 m c t i = ((if (i 0).val % 128 < (i 1).val then 1 else 0 : ℝ) : EReal) := by
  refine Eq.trans ?_ (table i)
  unfold b4 iblk
  show V m c main_cst _ = _
  rw [V_table]
  refine congrArg (fun j : S256x128.Idx => FloatOps.ofBits (F := Ideal) .bf16 (lit0 (S256x128.rowMajor j))) ?_
  blk_ext [idx t]

/-! ## One point -/

section Run
variable (q k v d : ℕ → ℕ → ℝ) (w : ℕ → ℕ → ℕ → ℝ)
  (hq : ∀ (t : Fin 8192) (n : Fin 1024), aq m c (ix2 t n) = ((q t.val n.val : ℝ) : EReal))
  (hk : ∀ (t : Fin 8192) (n : Fin 1024), ak m c (ix2 t n) = ((k t.val n.val : ℝ) : EReal))
  (hv : ∀ (t : Fin 8192) (n : Fin 1024), av m c (ix2 t n) = ((v t.val n.val : ℝ) : EReal))
  (hd : ∀ (t : Fin 8192) (n : Fin 1024), ad m c (ix2 t n) = ((d t.val n.val : ℝ) : EReal))
  (hw : ∀ (h : Fin 8) (t s : Fin 8192), (U m c main_v22 : FVec Ideal S1x8x8192x8192 .f32) (ix4 0 h t s) = ((w h.val t.val s.val : ℝ) : EReal))
  (hw0 : ∀ h t s, t ≤ s → w h t s = 0)

/-- What a point leaves from buffers `fk`, `fv`. -/
@[irreducible] def res (t : Fin cfg0.N) (s : Acc Ideal c) :=
  result c (XA m c) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    ((st0_0 t).view.rep (iblk m c 0 t)) ((st0_1 t).view.rep (iblk m c 1 t)) ((st0_2 t).view.rep (iblk m c 2 t)) ((st0_3 t).view.rep (iblk m c 3 t)) ((st0_4 t).view.rep (iblk m c 4 t))
    s.1 s.2

theorem opQ_rep (t : Fin cfg0.N) : opQ c (st0_1 t) ((st0_1 t).view.rep (iblk m c 1 t)) = b1 m c t := by
  unfold opQ
  rw [show View.readAt (Elt Ideal) (st0_1 t).view RQ.toLoadRect ((st0_1 t).view.rep (iblk m c 1 t)) = b1 m c t from View.readAt_rep_full _ _ _]
  exact shapeCast_self _ _
theorem pay38_eq (x : FVec Ideal S512x128 .f32) : k0_pay38 (F := Ideal) x = x := by
  funext i; unfold k0_pay38; exact congrFun (shapeCast_self x _) i
theorem opD_rep (t : Fin cfg0.N) : opD c (st0_0 t) ((st0_0 t).view.rep (iblk m c 0 t)) = b0 m c t := by
  have e : View.readAt (Elt Ideal) (st0_0 t).view RQ.toLoadRect ((st0_0 t).view.rep (iblk m c 0 t)) = b0 m c t := View.readAt_rep_full _ _ _
  exact (congrArg (k0_pay38 (F := Ideal)) e).trans (pay38_eq _)
theorem opB_rep (t : Fin cfg0.N) : opB c (st0_4 t) ((st0_4 t).view.rep (iblk m c 4 t)) = b4 m c t := by
  unfold opB
  exact View.readAt_rep_full _ _ _

include hq hk hv hd hw hw0 in
/-- One point: its buffers gain the block's terms, its query gradient is the sum over the keys so far. -/
theorem point (t : Fin cfg0.N) (Gk Gv : ℕ → Fin 128 → ℝ) (s : Acc Ideal c) (hfk : Reads c dkM s.1 Gk) (hfv : Reads c dvM s.2 Gv) :
    (Reads c dkM (res m c t s).1 fun x a => Gk x a + ∑ r : Fin 512, dz q k v d w (t.val / 16) (512 * (t.val % 16) + r.val) x * (q (512 * (t.val % 16) + r.val) (128 * (t.val / 16) + a.val) * two))
    ∧ (Reads c dvM (res m c t s).2.1 fun x a => Gv x a + ∑ r : Fin 512, w (t.val / 16) (512 * (t.val % 16) + r.val) x * d (512 * (t.val % 16) + r.val) (128 * (t.val / 16) + a.val))
    ∧ ∀ r a, (res m c t s).2.2 (ix2 r a) = ((sumQ q k v d w (t.val / 16) (512 * (t.val % 16) + r.val) (512 * (t.val % 16 + 1)) a : ℝ) : EReal) := by
  have hc := co t
  have h := lt128 t
  have R := result_real c (XA m c) (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (st0_4 t) (hstage0_4 ((cfg0.slots t 4).cast nbuf0_4))
    (st0_5 t) (hstage0_5 ((cfg0.slots t 5).cast nbuf0_5)) (st0_6 t) (hstage0_6 ((cfg0.slots t 6).cast nbuf0_6)) (st0_7 t) (hstage0_7 ((cfg0.slots t 7).cast nbuf0_7))
    ((st0_0 t).view.rep (iblk m c 0 t)) ((st0_1 t).view.rep (iblk m c 1 t)) ((st0_2 t).view.rep (iblk m c 2 t)) ((st0_3 t).view.rep (iblk m c 3 t)) ((st0_4 t).view.rep (iblk m c 4 t))
    (fun r a => q (512 * (t.val % 16) + r.val) (128 * (t.val / 16) + a.val) * two)
    (fun r a => d (512 * (t.val % 16) + r.val) (128 * (t.val / 16) + a.val))
    (fun x a => k x (128 * (t.val / 16) + a.val)) (fun x a => v x (128 * (t.val / 16) + a.val))
    (fun r x => w (t.val / 16) (512 * (t.val % 16) + r.val) x)
    (fun r a => by
      rw [opQ_rep, b1_apply, queryScale_apply, hq, ← EReal.coe_mul]; rfl)
    (fun r a => by rw [opD_rep, b0_apply, hd]; rfl)
    (fun i => by rw [opB_rep]; exact b4_apply m c t i)
    (fun x a => by rw [View.read_rep]; exact (b2_apply m c t x a).trans (hk x _))
    (fun x a => by rw [View.read_rep]; exact (b3_apply m c t x a).trans (hv x _))
    (fun n hn r j => by
      rw [hc.2] at hn
      rw [payload_apply]
      show V m c main_v59 _ = _
      rw [V_weights]
      have e := pack_apply (cutTiles (U m c main_v22 : FVec Ideal S1x8x8192x8192 .f32)) (grid0.coords t 0) ⟨t.val % 16, by omega⟩ ⟨n, by omega⟩ hn r j
      have e2 := cut_apply (U m c main_v22 : FVec Ideal S1x8x8192x8192 .f32) (grid0.coords t 0) ⟨t.val % 16, by omega⟩ ⟨n, by omega⟩ r j
      have e3 := hw (grid0.coords t 0) ⟨512 * (t.val % 16) + r.val, by omega⟩ ⟨512 * n + j.val, by omega⟩
      rw [hc.1] at e3
      refine Eq.trans ?_ (e.trans (e2.trans e3))
      show packTiles _ (ix4 (tl (grid0.coords t) n).1 (tl (grid0.coords t) n).2 r j) = _
      unfold tl
      rw [hc.2])
    (fun r x hx => hw0 _ _ _ (by rw [hc.2] at hx; exact hx))
    Gk Gv s.1 s.2 hfk hfv
  rw [hc.2] at R
  unfold res
  exact R

theorem clear_k : Reads c dkM (clearK (F := Ideal) c) fun _ _ => 0 := by
  intro s a
  unfold clearK
  rw [View.read_writes_full]
  pointwise [k0_pay35]
  exact EReal.coe_zero.symm
theorem clear_v : Reads c dvM (clearV (F := Ideal) c) fun _ _ => 0 := by
  intro s a
  unfold clearV
  rw [View.read_writes_full]
  pointwise [k0_pay36]
  exact EReal.coe_zero.symm

theorem first_step (t : Fin cfg0.N) (h : t.val % 16 = 0) (s : Acc Ideal c) :
    step m c t s = ((res m c t (clearK c, clearV c)).1, (res m c t (clearK c, clearV c)).2.1) ∧ dqOut m c t s = (res m c t (clearK c, clearV c)).2.2 := by
  have e : (pFirst m c t h).1 = res m c t (clearK c, clearV c) := by unfold res; exact first_eq ..
  rw [step_first m c t h, dqOut_first m c t h, e]
  exact ⟨rfl, rfl⟩

theorem next_step (t : Fin cfg0.N) (h : t.val % 16 ≠ 0) (s : Acc Ideal c) :
    step m c t s = ((res m c t s).1, (res m c t s).2.1) ∧ dqOut m c t s = (res m c t s).2.2 := by
  by_cases h' : t.val % 16 = 15
  · have ek : (pLast m c t h' s).1.1 = (res m c t s).1 := by unfold res; exact last_k ..
    have ev : (pLast m c t h' s).1.2.1 = (res m c t s).2.1 := by unfold res; exact last_v ..
    have eq : (pLast m c t h' s).1.2.2.1 = (res m c t s).2.2 := by unfold res; exact last_q ..
    rw [step_last m c t h', dqOut_last m c t h', ek, ev, eq]
    exact ⟨rfl, rfl⟩
  · have e : (pMid m c t h h' s).1 = res m c t s := by unfold res; exact mid_eq ..
    rw [step_mid m c t h h', dqOut_mid m c t h h', e]
    exact ⟨rfl, rfl⟩

/-- A head's last point writes out its two buffers as it leaves them. -/
theorem last_step (t : Fin cfg0.N) (h' : t.val % 16 = 15) (s : Acc Ideal c) :
    (pLast m c t h' s).1.2.2.2.1 = k0_pay3 (View.readAt (Elt Ideal) dkM.view RA.toLoadRect (pLast m c t h' s).1.1)
    ∧ (pLast m c t h' s).1.2.2.2.2 = k0_pay4 (View.readAt (Elt Ideal) dvM.view RA.toLoadRect (pLast m c t h' s).1.2.1) :=
  ⟨last_dk .., last_dv ..⟩

theorem dkOut_last (t : Fin cfg0.N) (h' : t.val % 16 = 15) (s : Acc Ideal c) : dkOut m c t s = (pLast m c t h' s).1.2.2.2.1 := by
  unfold dkOut; rw [dif_pos h']
theorem dvOut_last (t : Fin cfg0.N) (h' : t.val % 16 = 15) (s : Acc Ideal c) : dvOut m c t s = (pLast m c t h' s).1.2.2.2.2 := by
  unfold dvOut; rw [dif_pos h']

theorem out_of (s' : Acc Ideal c) (A : Buf (Elt Ideal) (dkM.view.loc (c : Thread nD τ))) (B : Buf (Elt Ideal) (dvM.view.loc (c : Thread nD τ)))
    (o1 o2 o1' o2' : S8192x128.Idx → Elt Ideal .bf16) (hs : s' = (A, B)) (d1 : o1 = o1') (d2 : o2 = o2')
    (h1 : o1' = k0_pay3 (View.readAt (Elt Ideal) dkM.view RA.toLoadRect A)) (h2 : o2' = k0_pay4 (View.readAt (Elt Ideal) dvM.view RA.toLoadRect B)) :
    o1 = k0_pay3 (View.readAt (Elt Ideal) dkM.view RA.toLoadRect s'.1) ∧ o2 = k0_pay4 (View.readAt (Elt Ideal) dvM.view RA.toLoadRect s'.2) := by
  subst hs d1 d2; exact ⟨h1, h2⟩

set_option maxHeartbeats 2000000 in
theorem last_out (t : Fin cfg0.N) (h' : t.val % 16 = 15) (s : Acc Ideal c) :
    dkOut m c t s = k0_pay3 (View.readAt (Elt Ideal) dkM.view RA.toLoadRect (step m c t s).1)
    ∧ dvOut m c t s = k0_pay4 (View.readAt (Elt Ideal) dvM.view RA.toLoadRect (step m c t s).2) :=
  out_of c _ _ _ _ _ _ _ (step_last m c t h' s) (dkOut_last m c t h' s) (dvOut_last m c t h' s) (last_step m c t h' s).1 (last_step m c t h' s).2

/-- Both buffers after the point of block `b` of head `h`, and the point's query gradient. -/
def Done (n : ℕ) (s : Acc Ideal c) (o : S512x128.Idx → Elt Ideal .bf16) : Prop :=
  Reads c dkM s.1 (sumK q k v d w (n / 16) (512 * (n % 16 + 1)))
  ∧ Reads c dvM s.2 (sumV d w (n / 16) (512 * (n % 16 + 1)))
  ∧ ∀ r a, o (ix2 r a) = ((sumQ q k v d w (n / 16) (512 * (n % 16) + r.val) (512 * (n % 16 + 1)) a : ℝ) : EReal)

include hq hk hv hd hw hw0 in
theorem done_first (t : Fin cfg0.N) (h : t.val % 16 = 0) (s : Acc Ideal c) : Done c q k v d w t.val (step m c t s) (dqOut m c t s) := by
  have P := point m c q k v d w hq hk hv hd hw hw0 t (fun _ _ => 0) (fun _ _ => 0) (clearK c, clearV c) (clear_k c) (clear_v c)
  have e := first_step m c t h s
  rw [e.1, e.2]
  refine ⟨fun s a => (P.1 s a).trans ?_, fun s a => (P.2.1 s a).trans ?_, P.2.2⟩
  · refine congrArg _ (Eq.trans ?_ (sum_block _ _)); rw [h]; simp
  · refine congrArg _ (Eq.trans ?_ (sum_block _ _)); rw [h]; simp

include hq hk hv hd hw hw0 in
theorem done_next (t : Fin cfg0.N) (h : t.val % 16 ≠ 0) (s : Acc Ideal c)
    (i1 : Reads c dkM s.1 (sumK q k v d w (t.val / 16) (512 * (t.val % 16)))) (i2 : Reads c dvM s.2 (sumV d w (t.val / 16) (512 * (t.val % 16)))) :
    Done c q k v d w t.val (step m c t s) (dqOut m c t s) := by
  have P := point m c q k v d w hq hk hv hd hw hw0 t _ _ s i1 i2
  have e := next_step m c t h s
  rw [e.1, e.2]
  refine ⟨fun s a => (P.1 s a).trans ?_, fun s a => (P.2.1 s a).trans ?_, P.2.2⟩
  · exact congrArg _ (sum_block _ _)
  · exact congrArg _ (sum_block _ _)

include hq hk hv hd hw hw0 in
/-- After every point: both buffers hold the sums over the head's queries so far. -/
theorem acc_reads : ∀ n (hn : n < cfg0.N), Done c q k v d w n (acc m c (n + 1)) (dqOut m c ⟨n, hn⟩ (acc m c n)) := by
  intro n
  induction n with
  | zero =>
    intro hn
    rw [show acc m c (0 + 1) = _ from acc_succ m c ⟨0, hn⟩]
    exact done_first m c q k v d w hq hk hv hd hw hw0 ⟨0, hn⟩ rfl _
  | succ n ih =>
    intro hn
    rw [show acc m c (n + 1 + 1) = _ from acc_succ m c ⟨n + 1, hn⟩]
    by_cases h0 : (n + 1) % 16 = 0
    · exact done_first m c q k v d w hq hk hv hd hw hw0 ⟨n + 1, hn⟩ h0 _
    · obtain ⟨i1, i2, -⟩ := ih (by omega)
      rw [show n / 16 = (n + 1) / 16 by omega, show n % 16 + 1 = (n + 1) % 16 by omega] at i1 i2
      exact done_next m c q k v d w hq hk hv hd hw hw0 ⟨n + 1, hn⟩ h0 _ i1 i2

/-! ## The results -/

/-- The head and the lane of a column. -/
def hd8 (n : Fin 1024) : ℕ := n.val / 128
def ln8 (n : Fin 1024) : Fin 128 := ⟨n.val % 128, by omega⟩
theorem hd8_col (t : Fin cfg0.N) (a : Fin 128) : hd8 (colH t a) = t.val / 16 := by
  show (128 * (t.val / 16) + a.val) / 128 = _; omega
theorem ln8_col (t : Fin cfg0.N) (a : Fin 128) : ln8 (colH t a) = a :=
  Fin.ext (by show (128 * (t.val / 16) + a.val) % 128 = a.val; omega)

theorem sumQ_all (h t b : ℕ) (hb : t < b) (hb' : b ≤ 8192) (a : Fin 128) : sumQ q k v d w h t b a = sumQ q k v d w h t 8192 a := by
  unfold sumQ
  refine Finset.sum_subset (Finset.range_mono hb') fun s _ hs => ?_
  have : ¬ s < t := by simp only [Finset.mem_range] at hs; omega
  unfold dz; rw [if_neg this, zero_mul]

/-- The query gradient, -/
abbrev gradQ : FVec Ideal S8192x1024 .bf16 := fun i => ((sumQ q k v d w (hd8 (i 1)) (i 0).val 8192 (ln8 (i 1)) : ℝ) : EReal)
/-- the key gradient (the scaled queries' sum, the factor taken out again) -/
abbrev gradK : FVec Ideal S8192x1024 .bf16 := fun i =>
  ((sumK q k v d w (hd8 (i 1)) 8192 (i 0).val (ln8 (i 1)) * (Real.log 2 * (134217728 / 11863283)) : ℝ) : EReal)
/-- and the value gradient. -/
abbrev gradV : FVec Ideal S8192x1024 .bf16 := fun i => ((sumV d w (hd8 (i 1)) 8192 (i 0).val (ln8 (i 1)) : ℝ) : EReal)

include hq hk hv hd hw hw0 in
theorem dq_at (t : Fin cfg0.N) (r : Fin 512) (a : Fin 128) :
    dqOut m c t (acc m c t.val) (ix2 r a) = gradQ q k v d w (ix2 (rowQ t r) (colH t a)) := by
  refine ((acc_reads m c q k v d w hq hk hv hd hw hw0 t.val t.isLt).2.2 r a).trans (congrArg _ ?_)
  have h := lt128 t
  show _ = sumQ q k v d w (hd8 (colH t a)) _ 8192 (ln8 (colH t a))
  rw [sumQ_all q k v d w _ _ _ (by omega) (by omega), hd8_col, ln8_col]
  rfl

theorem pay3_apply (x : FVec Ideal S8192x128 .f32) (i : S8192x128.Idx) :
    k0_pay3 (F := Ideal) x i = x i * (((Real.log 2) * (134217728 / 11863283) : ℝ) : EReal) := rfl

include hq hk hv hd hw hw0 in
theorem dk_at (t : Fin cfg0.N) (h' : t.val % 16 = 15) (s : Fin 8192) (a : Fin 128) :
    dkOut m c t (acc m c t.val) (ix2 s a) = gradK q k v d w (ix2 s (colH t a)) := by
  have P := (acc_reads m c q k v d w hq hk hv hd hw hw0 t.val t.isLt).1 s a
  rw [acc_succ m c t] at P
  rw [(last_out m c t h' _).1, View.readAt_full, pay3_apply, P, ← EReal.coe_mul, h']
  show _ = ((sumK q k v d w (hd8 (colH t a)) 8192 _ (ln8 (colH t a)) * _ : ℝ) : EReal)
  rw [hd8_col, ln8_col]; rfl

include hq hk hv hd hw hw0 in
theorem dv_at (t : Fin cfg0.N) (h' : t.val % 16 = 15) (s : Fin 8192) (a : Fin 128) :
    dvOut m c t (acc m c t.val) (ix2 s a) = gradV d w (ix2 s (colH t a)) := by
  have P := (acc_reads m c q k v d w hq hk hv hd hw hw0 t.val t.isLt).2.1 s a
  rw [acc_succ m c t] at P
  rw [(last_out m c t h' _).2, View.readAt_full]
  refine P.trans ?_
  rw [h']
  show _ = ((sumV d w (hd8 (colH t a)) 8192 _ (ln8 (colH t a)) : ℝ) : EReal)
  rw [hd8_col, ln8_col]; rfl

theorem flush_67 : ∀ t : Fin cfg0.N, ((cfg0.win 6).flush t = true → t.val % 16 = 15) ∧ ((cfg0.win 7).flush t = true → t.val % 16 = 15) :=
  (by decide +kernel : ∀ t : Fin grid0.N, _)

include hq hk hv hd hw hw0 in
theorem final_dq : (dats m 0 c).arrAt 5 cfg0.N = gradQ q k v d w := by
  refine (dats m 0 c).arrAt_eq_of_covers 5 _ (by decide +kernel) fun t _ y => ?_
  rw [after0_5]
  have he : ((cfg0.win 5).blk t).view.emb y = ix2 (rowQ t (y 0)) (colH t (y 1)) := by blk_ext [idx t, rowQ, colH]
  rw [he]
  idx_vars y
  exact dq_at m c q k v d w hq hk hv hd hw hw0 t y0 y1

include hq hk hv hd hw hw0 in
theorem final_dk : (dats m 0 c).arrAt 6 cfg0.N = gradK q k v d w := by
  refine (dats m 0 c).arrAt_eq_of_covers 6 _ (by decide +kernel) fun t hf y => ?_
  rw [after0_6]
  have he : ((cfg0.win 6).blk t).view.emb y = ix2 (y 0) (colH t (y 1)) := by blk_ext [idx t, colH]
  rw [he]
  idx_vars y
  exact dk_at m c q k v d w hq hk hv hd hw hw0 t ((flush_67 t).1 hf) y0 y1

include hq hk hv hd hw hw0 in
theorem final_dv : (dats m 0 c).arrAt 7 cfg0.N = gradV d w := by
  refine (dats m 0 c).arrAt_eq_of_covers 7 _ (by decide +kernel) fun t hf y => ?_
  rw [after0_7]
  have he : ((cfg0.win 7).blk t).view.emb y = ix2 (y 0) (colH t (y 1)) := by blk_ext [idx t, colH]
  rw [he]
  idx_vars y
  exact dv_at m c q k v d w hq hk hv hd hw hw0 t ((flush_67 t).2 hf) y0 y1

end Run

end Cert.StickBwd
-- ==== Proof.StickBwdRef.lean ====
/-
  The attention's gradient in the reference over the reals: the weights it saves are real and vanish at and after the
  query, and its three results are the sums the kernel's are, entry by entry.
-/
module

public import proofs.«01_k».proof.Proof.StickBwdKer
public import proofs.«01_k».proof.Proof.PoolOps
public import proofs.«01_k».proof.Proof.Gen.StickBwdReferenceIdeal.Read
public import Idealize.ShloMosaic.Lib.WordCmp
public import Idealize.ShloMosaic.Lib.Pointwise

@[expose] public section

set_option maxRecDepth 16384

noncomputable section

namespace Cert.StickBwd.Ref

open Cert.StickBwdReferenceIdeal Cert.StickBwdReferenceIdeal.Gen Cert.StickBwdReferenceIdeal.Read
open Idealize.ShloMosaic Cert.Lift
open Idealize.ShloMosaic.TcCoe
open Idealize.SL.Sem

/-! ## The running sums along the last axis -/

section Window
variable {H T N : ℕ}

theorem numel_last : (⟨4, ![1, 1, 1, N]⟩ : Shape).numel = N := by
  unfold Shape.numel
  show ∏ a : Fin 4, (![1, 1, 1, N] : Fin 4 → ℕ) a = N
  rw [Fin.prod_univ_four]
  show 1 * 1 * 1 * N = N
  omega

theorem symm_last (n : Fin (⟨4, ![1, 1, 1, N]⟩ : Shape).numel) :
    (⟨4, ![1, 1, 1, N]⟩ : Shape).rowMajor.symm n = ix4 0 0 0 (n.cast numel_last) := by
  rw [Equiv.symm_apply_eq]
  apply Fin.ext
  rw [Shape.rowMajor_val_four]
  show n.val = ((0 * 1 + 0) * 1 + 0) * N + n.val
  omega

/-- A window as long as the last axis, `lo` places back. -/
theorem window_last (lo : ℕ) (hi : Fin 4 → ℕ) (x : Shape.Idx ⟨4, ![1, H, T, N]⟩ → EReal)
    (h : (⟨4, ![1, H, T, N]⟩ : Shape).ReduceWindows ![1, 1, 1, N] ![1, 1, 1, 1] ![0, 0, 0, lo] hi ⟨4, ![1, H, T, N]⟩)
    (i : Shape.Idx ⟨4, ![1, H, T, N]⟩) (U : ℕ → ℝ) (hx : ∀ p : Fin N, x (ix4 (i 0) (i 1) (i 2) p) = ((U p.val : ℝ) : EReal)) :
    Ideal.hostReduceWindowAdd ![1, 1, 1, N] ![1, 1, 1, 1] ![0, 0, 0, lo] hi h x 0 i
      = ((∑ n ∈ Finset.range N, if lo ≤ (i 3).val + n ∧ (i 3).val + n - lo < N then U ((i 3).val + n - lo) else 0 : ℝ) : EReal) := by
  unfold Ideal.hostReduceWindowAdd Host.reduceWindow
  have l0 : (i 0).val < 1 := (i 0).isLt
  have l1 : (i 1).val < H := (i 1).isLt
  have l2 : (i 2).val < T := (i 2).isLt
  refine Eq.trans (b := (List.finRange (⟨4, ![1, 1, 1, N]⟩ : Shape).numel).foldl
    (fun (r : EReal) n => r + (((if lo ≤ (i 3).val + n.val ∧ (i 3).val + n.val - lo < N then U ((i 3).val + n.val - lo) else 0 : ℝ)) : EReal)) 0) ?_ ?_
  · refine List.foldl_ext _ _ _ fun r n _ => congrArg (r + ·) ?_
    have w0 : ((⟨4, ![1, 1, 1, N]⟩ : Shape).rowMajor.symm n 0).val = 0 := by rw [symm_last]; rfl
    have w1 : ((⟨4, ![1, 1, 1, N]⟩ : Shape).rowMajor.symm n 1).val = 0 := by rw [symm_last]; rfl
    have w2 : ((⟨4, ![1, 1, 1, N]⟩ : Shape).rowMajor.symm n 2).val = 0 := by rw [symm_last]; rfl
    have w3 : ((⟨4, ![1, 1, 1, N]⟩ : Shape).rowMajor.symm n 3).val = n.val := by rw [symm_last]; rfl
    split
    · next hin =>
      have h3 := hin 3
      change lo ≤ (i 3).val * 1 + ((⟨4, ![1, 1, 1, N]⟩ : Shape).rowMajor.symm n 3).val
        ∧ (i 3).val * 1 + ((⟨4, ![1, 1, 1, N]⟩ : Shape).rowMajor.symm n 3).val - lo < N at h3
      rw [w3, Nat.mul_one] at h3
      rw [if_pos h3]
      refine (congrArg x (funext fun a => Fin.ext ?_)).trans (hx ⟨(i 3).val + n.val - lo, h3.2⟩)
      match a with
      | ⟨0, _⟩ =>
        show (i 0).val * 1 + ((⟨4, ![1, 1, 1, N]⟩ : Shape).rowMajor.symm n 0).val - 0 = (i 0).val
        rw [w0]; omega
      | ⟨1, _⟩ =>
        show (i 1).val * 1 + ((⟨4, ![1, 1, 1, N]⟩ : Shape).rowMajor.symm n 1).val - 0 = (i 1).val
        rw [w1]; omega
      | ⟨2, _⟩ =>
        show (i 2).val * 1 + ((⟨4, ![1, 1, 1, N]⟩ : Shape).rowMajor.symm n 2).val - 0 = (i 2).val
        rw [w2]; omega
      | ⟨3, _⟩ =>
        show (i 3).val * 1 + ((⟨4, ![1, 1, 1, N]⟩ : Shape).rowMajor.symm n 3).val - lo = (i 3).val + n.val - lo
        rw [w3]; omega
    · next hin =>
      rw [if_neg fun hlt => hin fun a => by
        match a with
        | ⟨0, _⟩ =>
          show 0 ≤ (i 0).val * 1 + ((⟨4, ![1, 1, 1, N]⟩ : Shape).rowMajor.symm n 0).val
            ∧ (i 0).val * 1 + ((⟨4, ![1, 1, 1, N]⟩ : Shape).rowMajor.symm n 0).val - 0 < 1
          rw [w0]; omega
        | ⟨1, _⟩ =>
          show 0 ≤ (i 1).val * 1 + ((⟨4, ![1, 1, 1, N]⟩ : Shape).rowMajor.symm n 1).val
            ∧ (i 1).val * 1 + ((⟨4, ![1, 1, 1, N]⟩ : Shape).rowMajor.symm n 1).val - 0 < H
          rw [w1]; omega
        | ⟨2, _⟩ =>
          show 0 ≤ (i 2).val * 1 + ((⟨4, ![1, 1, 1, N]⟩ : Shape).rowMajor.symm n 2).val
            ∧ (i 2).val * 1 + ((⟨4, ![1, 1, 1, N]⟩ : Shape).rowMajor.symm n 2).val - 0 < T
          rw [w2]; omega
        | ⟨3, _⟩ =>
          show lo ≤ (i 3).val * 1 + ((⟨4, ![1, 1, 1, N]⟩ : Shape).rowMajor.symm n 3).val
            ∧ (i 3).val * 1 + ((⟨4, ![1, 1, 1, N]⟩ : Shape).rowMajor.symm n 3).val - lo < N
          rw [w3]; omega]
      rfl
  · rw [PoolOps.foldl_add, zero_add,
      Finset.sum_range fun n => if lo ≤ (i 3).val + n ∧ (i 3).val + n - lo < N then U ((i 3).val + n - lo) else 0, ← Lift.coe_sum]
    rw [← List.ofFn_eq_map, List.sum_ofFn]
    exact Fintype.sum_equiv (finCongr numel_last) _ _ fun n => rfl

/-- The window that ends at each place is the running sum. -/
theorem prefix_sum (U : ℕ → ℝ) (s : ℕ) (hs : s < N) :
    (∑ n ∈ Finset.range N, if N - 1 ≤ s + n ∧ s + n - (N - 1) < N then U (s + n - (N - 1)) else 0) = ∑ x ∈ Finset.range (s + 1), U x := by
  rw [← Finset.sum_filter]
  refine Finset.sum_nbij' (fun n => s + n - (N - 1)) (fun x => x + (N - 1) - s) ?_ ?_ ?_ ?_ ?_
  · intro n hn; simp only [Finset.mem_filter, Finset.mem_range] at hn ⊢; omega
  · intro x hx; simp only [Finset.mem_filter, Finset.mem_range] at hx ⊢; omega
  · intro n hn; simp only [Finset.mem_filter, Finset.mem_range] at hn; omega
  · intro x hx; simp only [Finset.mem_range] at hx; omega
  · intro n hn; rfl

end Window

/-! ## The softplus and the logistic function -/

/-- `log (1 + exp x)`, as it is computed. -/
def sp (x : ℝ) : ℝ := max x 0 + Real.log (1 + Real.exp (-|x|))

theorem sp_eq (x : ℝ) : sp x = Real.log (1 + Real.exp x) := by
  have e := Real.exp_pos x
  unfold sp
  rcases le_total 0 x with h | h
  · rw [max_eq_left h, abs_of_nonneg h]
    have : 1 + Real.exp x = Real.exp x * (1 + Real.exp (-x)) := by rw [mul_add, ← Real.exp_add]; simp [add_comm]
    rw [this, Real.log_mul e.ne' (by positivity), Real.log_exp]
  · rw [max_eq_right h, abs_of_nonpos h, neg_neg, zero_add]

theorem exp_sub_sp (x : ℝ) : Real.exp (x - sp x) = 1 / (1 + Real.exp (-x)) := by
  have e := Real.exp_pos x
  have e' := Real.exp_pos (-x)
  have h : Real.exp x * Real.exp (-x) = 1 := by rw [← Real.exp_add]; simp
  rw [sp_eq, Real.exp_sub, Real.exp_log (by positivity), div_eq_div_iff (by positivity) (by positivity)]
  linarith

theorem exp_sub_sp_neg (x : ℝ) : Real.exp (-x - sp (-x)) = 1 - 1 / (1 + Real.exp (-x)) := by
  have e := Real.exp_pos x
  have e' := Real.exp_pos (-x)
  rw [sp_eq, Real.exp_sub, Real.exp_log (by positivity)]
  field_simp
  ring

theorem coe_log1p (x : ℝ) : Ideal.log1p ((Real.exp x : ℝ) : EReal) = ((Real.log (1 + Real.exp x) : ℝ) : EReal) := by
  have e := Real.exp_pos x
  unfold Ideal.log1p
  rw [show (1 : EReal) + ((Real.exp x : ℝ) : EReal) = ((1 + Real.exp x : ℝ) : EReal) from by rw [EReal.coe_add, EReal.coe_one]]
  exact if_neg (by linarith)

theorem cmp_une (a : EReal) : Ideal.cmp .une a a = 0#1 := by simp [Ideal.cmp]
theorem cmp_top (x : ℝ) : Ideal.cmp .oeq ((x : ℝ) : EReal) ⊤ = 0#1 := by simp [Ideal.cmp]
theorem pick (a b : EReal) : Scalar.select (0#1) a b = b := rfl

theorem absf_coe (x : ℝ) : FloatOps.absf (F := Ideal) (φ := .f32) (x : EReal) = ((|x| : ℝ) : EReal) := by
  show max (x : EReal) (-(x : EReal)) = _
  rw [← EReal.coe_neg, ← EReal.coe_strictMono.monotone.map_max, abs_eq_max_neg]

theorem soft (x : ℝ) (o : EReal) : Scalar.select (Ideal.cmp .une (x : EReal) (x : EReal)) o
    (max (x : EReal) 0 + Ideal.log1p (Ideal.exp (-(FloatOps.absf (F := Ideal) (φ := .f32) (x : EReal))))) = ((sp x : ℝ) : EReal) := by
  rw [cmp_une, pick, absf_coe, ← EReal.coe_neg, show Ideal.exp ((-|x| : ℝ) : EReal) = ((Real.exp (-|x|) : ℝ) : EReal) from rfl, coe_log1p,
    ← EReal.coe_zero, ← EReal.coe_strictMono.monotone.map_max, ← EReal.coe_add]
  rfl

theorem soft' (x : ℝ) : Scalar.select (Ideal.cmp .oeq (x : EReal) ⊤) (0 : EReal) (x : EReal) = ((x : ℝ) : EReal) := by rw [cmp_top, pick]

/-! ## Heads -/

theorem head_row {a b e r : ℕ} (ha : a < 1) (hb : b < 8) (he : e < 128) : (((a * 8192 + r) * 8 + b) * 128 + e) / 1024 = r := by omega
theorem head_col {a b e r : ℕ} (ha : a < 1) (hb : b < 8) (he : e < 128) : (((a * 8192 + r) * 8 + b) * 128 + e) % 1024 = 128 * b + e := by omega

variable (q k v d : ℕ → ℕ → ℝ) {x0 x1 x2 x3 : FVec Ideal S8192x1024 .f32}
  (hq : ∀ i : S8192x1024.Idx, x0 i = ((q (i 0).val (i 1).val : ℝ) : EReal))
  (hk : ∀ i : S8192x1024.Idx, x1 i = ((k (i 0).val (i 1).val : ℝ) : EReal))
  (hv : ∀ i : S8192x1024.Idx, x2 i = ((v (i 0).val (i 1).val : ℝ) : EReal))
  (hd : ∀ i : S8192x1024.Idx, x3 i = ((d (i 0).val (i 1).val : ℝ) : EReal))

include hq in
theorem heads_q (i : S1x8x8192x128.Idx) : val_main_v1 (F := Ideal) x0 i = ((q (i 2).val (128 * (i 1).val + (i 3).val) : ℝ) : EReal) := by
  rw [val_main_v1_apply, val_main_v0_apply, hq]
  exact congrArg₂ (fun a b => ((q a b : ℝ) : EReal)) (head_row (i 0).isLt (i 1).isLt (i 3).isLt) (head_col (i 0).isLt (i 1).isLt (i 3).isLt)
include hk in
theorem heads_k (i : S1x8x8192x128.Idx) : val_main_v3 (F := Ideal) x1 i = ((k (i 2).val (128 * (i 1).val + (i 3).val) : ℝ) : EReal) := by
  rw [val_main_v3_apply, val_main_v2_apply, hk]
  exact congrArg₂ (fun a b => ((k a b : ℝ) : EReal)) (head_row (i 0).isLt (i 1).isLt (i 3).isLt) (head_col (i 0).isLt (i 1).isLt (i 3).isLt)
include hv in
theorem heads_v (i : S1x8x8192x128.Idx) : val_main_v24 (F := Ideal) x2 i = ((v (i 2).val (128 * (i 1).val + (i 3).val) : ℝ) : EReal) := by
  rw [val_main_v24_apply, val_main_v23_apply, hv]
  exact congrArg₂ (fun a b => ((v a b : ℝ) : EReal)) (head_row (i 0).isLt (i 1).isLt (i 3).isLt) (head_col (i 0).isLt (i 1).isLt (i 3).isLt)
include hd in
theorem heads_d (i : S1x8x8192x128.Idx) : val_main_v29 (F := Ideal) x3 i = ((d (i 2).val (128 * (i 1).val + (i 3).val) : ℝ) : EReal) := by
  rw [val_main_v29_apply, val_main_v28_apply, hd]
  exact congrArg₂ (fun a b => ((d a b : ℝ) : EReal)) (head_row (i 0).isLt (i 1).isLt (i 3).isLt) (head_col (i 0).isLt (i 1).isLt (i 3).isLt)

/-! ## The weights -/

/-- The scaled score. -/
def zs (h t s : ℕ) : ℝ := (∑ a : Fin 128, q t (128 * h + a.val) * k s (128 * h + a.val)) * scale

include hq hk in
theorem score (i : S1x8x8192x8192.Idx) : val_main_v7 (F := Ideal) x0 x1 i = ((zs q k (i 1).val (i 2).val (i 3).val : ℝ) : EReal) := by
  rw [val_main_v7_apply, val_main_v6_apply, val_main_cst_apply, val_main_v5_apply,
    sum_eq_coe _ (fun a : Fin 128 => q (i 2).val (128 * (i 1).val + a.val) * k (i 3).val (128 * (i 1).val + a.val)) fun a => by
      rw [heads_q q hq, heads_k k hk, ← EReal.coe_mul]]
  exact (congrArg (fun b : EReal => _ * b) f32_scale).trans (EReal.coe_mul _ _).symm

theorem mask (i : S1x8x8192x8192.Idx) : val_main_v16_1 (F := Ideal) i = BitVec.ofBool (decide ((i 3).val < (i 2).val)) := by
  have h2 : (i 2).val < 8192 := (i 2).isLt
  have h3 : (i 3).val < 8192 := (i 3).isLt
  rw [val_main_v16_1_apply, val_main_v13_apply, val_main_v11_apply, val_main_v9_apply, val_main_v4_apply, val_main_v12_apply, val_main_v10_apply,
    val_main_v8_apply]
  exact WordCmp.cmpi_slt_ofNat (show (i 3).val < 2 ^ 31 by omega) (show (i 2).val < 2 ^ 31 by omega)

/-- A masked value. -/
theorem masked (b : Prop) [Decidable b] (x y : EReal) (X : ℝ) (hx : x = ((X : ℝ) : EReal)) (hy : y = 0) :
    Scalar.select (BitVec.ofBool (decide b)) x y = ((if b then X else 0 : ℝ) : EReal) := by
  rw [WordCmp.select_ofBool, hx, hy]
  by_cases h : b
  · rw [if_pos h, if_pos (by simpa using h)]
  · rw [if_neg h, if_neg (by simpa using h)]; rfl

theorem zero0 (i) : val_main_call0_call0_cst (F := Ideal) i = 0 := f32_zero
theorem zero1 (i) : val_main_call3_call0_cst (F := Ideal) i = 0 := f32_zero

include hq hk in
theorem minus_minus (i : S1x8x8192x8192.Idx) : val_main_call0_v0 (F := Ideal) x0 x1 i = ((zs q k (i 1).val (i 2).val (i 3).val : ℝ) : EReal) := by
  rw [val_main_call0_v0_apply, val_main_v14_apply, score q k hq hk, Ideal.hostNegf_def, Ideal.hostNegf_def, Ideal.negf_def, Ideal.negf_def, neg_neg]
include hq hk in
theorem minus (i : S1x8x8192x8192.Idx) : val_main_call3_v0 (F := Ideal) x0 x1 i = ((-zs q k (i 1).val (i 2).val (i 3).val : ℝ) : EReal) := by
  rw [val_main_call3_v0_apply, score q k hq hk, Ideal.hostNegf_def, Ideal.negf_def, ← EReal.coe_neg]

include hq hk in
theorem sp_pos (i : S1x8x8192x8192.Idx) : val_main_call0_v1_0 (F := Ideal) x0 x1 i = ((sp (zs q k (i 1).val (i 2).val (i 3).val) : ℝ) : EReal) := by
  rw [val_main_call0_v1_0_apply, val_main_call0_call0_v4_apply, val_main_call0_call0_v11_apply, val_main_call0_call0_v1_apply, val_main_call0_call0_v10_apply,
    val_main_call0_call0_v9_apply, val_main_call0_call0_v8_apply, val_main_call0_call0_v7_apply, val_main_call0_call0_v3_apply, val_main_call0_call0_v2_apply,
    val_main_call0_call0_v0_apply, zero0, minus_minus q k hq hk, Ideal.subf_def, sub_zero]
  exact soft _ _
include hq hk in
theorem sp_neg (i : S1x8x8192x8192.Idx) : val_main_call3_v1_0 (F := Ideal) x0 x1 i = ((sp (-zs q k (i 1).val (i 2).val (i 3).val) : ℝ) : EReal) := by
  rw [val_main_call3_v1_0_apply, val_main_call3_call0_v4_apply, val_main_call3_call0_v11_apply, val_main_call3_call0_v1_apply, val_main_call3_call0_v10_apply,
    val_main_call3_call0_v9_apply, val_main_call3_call0_v8_apply, val_main_call3_call0_v7_apply, val_main_call3_call0_v3_apply, val_main_call3_call0_v2_apply,
    val_main_call3_call0_v0_apply, zero1, minus q k hq hk, Ideal.subf_def, sub_zero]
  exact soft _ _

include hq hk in
/-- The logistic function of the score, as the gradient of the first softplus keeps it, -/
theorem logis (i : S1x8x8192x8192.Idx) : val_main_v15_1 (F := Ideal) x0 x1 i = ((1 / (1 + Real.exp (-zs q k (i 1).val (i 2).val (i 3).val)) : ℝ) : EReal) := by
  rw [val_main_v15_1_apply, val_main_call0_call0_v21_apply, val_main_call0_call0_v16_apply, val_main_call0_call0_v14_apply, val_main_call0_call0_v13_apply,
    val_main_call0_call0_v20_apply, val_main_call0_call0_v18_apply, val_main_call0_call0_v17_apply, val_main_call0_call0_v15_apply, val_main_call0_call0_v19_apply,
    minus_minus q k hq hk, sp_pos q k hq hk, show val_main_call0_call0_cst_0 (F := Ideal) _ = ⊤ from f32_top, show val_main_call0_call0_cst_2 (F := Ideal) _ = ⊤ from f32_top,
    show val_main_call0_call0_cst_1 (F := Ideal) _ = 0 from f32_zero, show val_main_call0_call0_cst_3 (F := Ideal) _ = 0 from f32_zero, ← exp_sub_sp]
  refine (congrArg₂ (fun a b : EReal => Ideal.exp (a - b)) (soft' _) (soft' _)).trans ?_
  rw [← EReal.coe_sub]; rfl
include hq hk in
/-- and its complement, as the gradient of the second does. -/
theorem logis' (i : S1x8x8192x8192.Idx) : val_main_v19_1 (F := Ideal) x0 x1 i = ((1 - 1 / (1 + Real.exp (-zs q k (i 1).val (i 2).val (i 3).val)) : ℝ) : EReal) := by
  rw [val_main_v19_1_apply, val_main_call3_call0_v21_apply, val_main_call3_call0_v16_apply, val_main_call3_call0_v14_apply, val_main_call3_call0_v13_apply,
    val_main_call3_call0_v20_apply, val_main_call3_call0_v18_apply, val_main_call3_call0_v17_apply, val_main_call3_call0_v15_apply, val_main_call3_call0_v19_apply,
    minus q k hq hk, sp_neg q k hq hk, show val_main_call3_call0_cst_0 (F := Ideal) _ = ⊤ from f32_top, show val_main_call3_call0_cst_2 (F := Ideal) _ = ⊤ from f32_top,
    show val_main_call3_call0_cst_1 (F := Ideal) _ = 0 from f32_zero, show val_main_call3_call0_cst_3 (F := Ideal) _ = 0 from f32_zero, ← exp_sub_sp_neg]
  refine (congrArg₂ (fun a b : EReal => Ideal.exp (a - b)) (soft' _) (soft' _)).trans ?_
  rw [← EReal.coe_sub]; rfl

/-- The logarithm of what a key before the query leaves of the stick; -/
def rest (h t s : ℕ) : ℝ := if s < t then -sp (zs q k h t s) else 0
/-- of what the keys after it leave; -/
def later (h t s : ℕ) : ℝ :=
  (∑ n ∈ Finset.range 8192, if 0 ≤ s + n ∧ s + n - 0 < 8192 then rest q k h t (s + n - 0) else 0) - rest q k h t s
/-- the unmasked weight -/
def wexp (h t s : ℕ) : ℝ := Real.exp (-sp (-zs q k h t s) + later q k h t s)
/-- and the weight. -/
def wts (h t s : ℕ) : ℝ := if s < t then wexp q k h t s else 0

theorem wts_zero (h t s : ℕ) (hs : t ≤ s) : wts q k h t s = 0 := if_neg (by omega)

include hq hk in
theorem rest_apply (i : S1x8x8192x8192.Idx) : val_main_v16_0 (F := Ideal) x0 x1 i = ((rest q k (i 1).val (i 2).val (i 3).val : ℝ) : EReal) := by
  rw [val_main_v16_0_apply, mask]
  refine masked _ _ _ _ ?_ ((val_main_call1_v2_apply (F := Ideal) i).trans f32_zero)
  rw [val_main_v15_0_apply, sp_pos q k hq hk, Ideal.hostNegf_def, Ideal.negf_def, ← EReal.coe_neg]

include hq hk in
theorem wexp_apply (i : S1x8x8192x8192.Idx) : val_main_v21 (F := Ideal) x0 x1 i = ((wexp q k (i 1).val (i 2).val (i 3).val : ℝ) : EReal) := by
  have hw : val_main_v17 (F := Ideal) x0 x1 i = ((∑ n ∈ Finset.range 8192, if 0 ≤ (i 3).val + n ∧ (i 3).val + n - 0 < 8192 then
      rest q k (i 1).val (i 2).val ((i 3).val + n - 0) else 0 : ℝ) : EReal) := by
    unfold val_main_v17 Host.reduceWindowAdd
    have z : val_main_call2_v0 (F := Ideal) (Shape.Idx.first h_S_) = 0 := f32_zero
    rw [z, Ideal.hostReduceWindowAdd_def]
    exact (window_last 0 _ _ reduceWindows_S1x8x8192x8192_S1x8x8192x8192_w1s1p0_0_w1s1p0_0_w1s1p0_0_w8192s1p0_8191 i
      (fun s => rest q k (i 1).val (i 2).val s) fun p => rest_apply q k hq hk (ix4 (i 0) (i 1) (i 2) p))
  rw [val_main_v21_apply, val_main_v20_apply, val_main_v19_0_apply, sp_neg q k hq hk, val_main_v18_apply, hw, rest_apply q k hq hk, Ideal.hostNegf_def,
    Ideal.negf_def, Ideal.subf_def, Ideal.addf_def, ← EReal.coe_neg, ← EReal.coe_sub, ← EReal.coe_add]
  rfl

include hq hk in
theorem wts_apply (i : S1x8x8192x8192.Idx) : val_main_v22_0 (F := Ideal) x0 x1 i = ((wts q k (i 1).val (i 2).val (i 3).val : ℝ) : EReal) := by
  rw [val_main_v22_0_apply, show val_main_v22_1 (F := Ideal) i = _ from mask i]
  exact masked _ _ _ _ (wexp_apply q k hq hk i) ((val_main_call4_v2_apply (F := Ideal) i).trans f32_zero)

/-! ## The gradient of the scores -/

theorem gate_eq (h t s : ℕ) : gateW q k h t s = 1 / (1 + Real.exp (-zs q k h t s)) := by
  have hl : Real.log 2 ≠ 0 := (Real.log_pos (by norm_num)).ne'
  unfold gateW zs two
  rw [Finset.sum_congr rfl fun a _ => show q t (128 * h + a.val) * (scale / Real.log 2) * k s (128 * h + a.val)
      = q t (128 * h + a.val) * k s (128 * h + a.val) * (scale / Real.log 2) by ring, ← Finset.sum_mul]
  show 1 / (1 + (2 : ℝ) ^ (0 - _ : ℝ)) = _
  rw [Real.rpow_def_of_pos (by norm_num)]
  congr 3
  field_simp
  ring

/-- The head's weights, as all the sums below take them. -/
abbrev W : ℕ → ℕ → ℕ → ℝ := wts q k

include hv hd in
theorem outer (i : S1x8x8192x8192.Idx) : val_main_v32 (F := Ideal) x2 x3 i
    = ((∑ a : Fin 128, d (i 2).val (128 * (i 1).val + a.val) * v (i 3).val (128 * (i 1).val + a.val) : ℝ) : EReal) := by
  rw [val_main_v32_apply]
  exact sum_eq_coe _ (fun a : Fin 128 => d (i 2).val (128 * (i 1).val + a.val) * v (i 3).val (128 * (i 1).val + a.val)) fun a => by
    rw [heads_d d hd, heads_v v hv, ← EReal.coe_mul]

include hq hk hv hd in
theorem prod_apply (i : S1x8x8192x8192.Idx) : val_main_v36 (F := Ideal) x0 x1 x2 x3 i = ((prodW v d (W q k) (i 1).val (i 2).val (i 3).val : ℝ) : EReal) := by
  rw [val_main_v36_apply, val_main_v35_apply, show val_main_v22_1 (F := Ideal) i = _ from mask i, wexp_apply q k hq hk,
    masked _ _ _ _ (outer v d hv hd i) ((val_main_call5_v0_apply (F := Ideal) i).trans f32_zero), Ideal.mulf_def, ← EReal.coe_mul]
  unfold prodW W wts
  by_cases h : (i 3).val < (i 2).val
  · rw [if_pos h, if_pos h]
  · rw [if_neg h, if_neg h, zero_mul, mul_zero]

theorem cancel (a b : ℝ) : -a + (b + a) = b := by ring

include hq hk hv hd in
theorem before_apply (i : S1x8x8192x8192.Idx) : val_main_v41 (F := Ideal) x0 x1 x2 x3 i
    = ((if (i 3).val < (i 2).val then ∑ x ∈ Finset.range (i 3).val, prodW v d (W q k) (i 1).val (i 2).val x else 0 : ℝ) : EReal) := by
  have hw : val_main_v39 (F := Ideal) x0 x1 x2 x3 i = ((∑ x ∈ Finset.range ((i 3).val + 1), prodW v d (W q k) (i 1).val (i 2).val x : ℝ) : EReal) := by
    unfold val_main_v39 Host.reduceWindowAdd
    have z : val_main_call7_v0 (F := Ideal) (Shape.Idx.first h_S_) = 0 := f32_zero
    rw [z, Ideal.hostReduceWindowAdd_def]
    exact ((window_last 8191 _ _ reduceWindows_S1x8x8192x8192_S1x8x8192x8192_w1s1p0_0_w1s1p0_0_w1s1p0_0_w8192s1p8191_0 i
      (fun s => prodW v d (W q k) (i 1).val (i 2).val s) fun p => prod_apply q k v d hq hk hv hd (ix4 (i 0) (i 1) (i 2) p)).trans
      (congrArg (fun r : ℝ => (r : EReal)) (prefix_sum (N := 8192) (fun s => prodW v d (W q k) (i 1).val (i 2).val s) (i 3).val (i 3).isLt)))
  rw [val_main_v41_apply, mask]
  refine masked _ _ _ _ ?_ ((val_main_call8_v0_apply (F := Ideal) i).trans f32_zero)
  rw [val_main_v40_apply, val_main_v38_apply, hw, prod_apply q k v d hq hk hv hd, Ideal.hostNegf_def, Ideal.negf_def, Ideal.addf_def, ← EReal.coe_neg, ← EReal.coe_add,
    Finset.sum_range_succ]
  exact congrArg (fun r : ℝ => (r : EReal)) (cancel _ _)

include hq hk hv hd in
theorem dz_apply (i : S1x8x8192x8192.Idx) : val_main_v46 (F := Ideal) x0 x1 x2 x3 i = ((dz q k v d (W q k) (i 1).val (i 2).val (i 3).val : ℝ) : EReal) := by
  rw [val_main_v46_apply, val_main_v45_apply, show val_main_cst_2 (F := Ideal) _ = _ from f32_scale, val_main_v44_apply, val_main_v37_apply, val_main_call6_v1_apply,
    val_main_call6_v0_apply, val_main_v43_apply, val_main_v42_apply, val_main_call9_v1_apply, val_main_call9_v0_apply, prod_apply q k v d hq hk hv hd,
    before_apply q k v d hq hk hv hd, logis q k hq hk, logis' q k hq hk]
  simp only [Ideal.hostNegf_def, Ideal.negf_def, Ideal.mulf_def, Ideal.addf_def, ← EReal.coe_neg, ← EReal.coe_mul, ← EReal.coe_add]
  congr 1
  unfold dz
  rw [gate_eq]
  by_cases h : (i 3).val < (i 2).val
  · rw [if_pos h, if_pos h]; ring
  · rw [if_neg h, if_neg h]
    have : prodW v d (W q k) (i 1).val (i 2).val (i 3).val = 0 := by unfold prodW; rw [show W q k _ _ _ = 0 from wts_zero q k _ _ _ (by omega), mul_zero]
    rw [this]; ring

/-! ## The three results -/

theorem back_row {r n : ℕ} (hr : r < 8192) (hn : n < 1024) : (r * 1024 + n) / 1024 % 8192 = r := by omega
theorem back_head {r n : ℕ} (hn : n < 1024) : (r * 1024 + n) / 128 % 8 = n / 128 := by omega
theorem back_lane {r n : ℕ} : (r * 1024 + n) % 128 = n % 128 := by omega

/-- A head's entry back at its column. -/
theorem back (f : ℕ → ℕ → ℕ → ℝ) (i : S8192x1024.Idx) : f (((i 0).val * 1024 + (i 1).val) / 128 % 8) (((i 0).val * 1024 + (i 1).val) / 1024 % 8192) (((i 0).val * 1024 + (i 1).val) % 128)
    = f ((i 1).val / 128) (i 0).val ((i 1).val % 128) := by
  rw [back_row (i 0).isLt (i 1).isLt, back_head (i 1).isLt, back_lane]

include hq hk hv hd in
theorem dq_apply (i : S8192x1024.Idx) : val_main_v53 (F := Ideal) x0 x1 x2 x3 i = gradQ q k v d (W q k) i := by
  rw [val_main_v53_apply, val_main_v52_apply, val_main_v51_apply, val_main_v48_apply,
    sum_eq_coe _ (fun s : Fin 8192 => (fun h t a => dz q k v d (W q k) h t s.val * k s.val (128 * h + a))
      (((i 0).val * 1024 + (i 1).val) / 128 % 8) (((i 0).val * 1024 + (i 1).val) / 1024 % 8192) (((i 0).val * 1024 + (i 1).val) % 128)) fun s => by
      rw [dz_apply q k v d hq hk hv hd, heads_k k hk, ← EReal.coe_mul]]
  refine congrArg (fun r : ℝ => (r : EReal)) ((Finset.sum_congr rfl fun (s : Fin 8192) _ =>
    back (fun h t a => dz q k v d (W q k) h t s.val * k s.val (128 * h + a)) i).trans ?_)
  exact (Finset.sum_range fun s => dz q k v d (W q k) ((i 1).val / 128) (i 0).val s * k s (128 * ((i 1).val / 128) + (i 1).val % 128)).symm

include hq hk hv hd in
theorem dk_apply (i : S8192x1024.Idx) : val_main_v54 (F := Ideal) x0 x1 x2 x3 i = gradK q k v d (W q k) i := by
  have hl : Real.log 2 ≠ 0 := (Real.log_pos (by norm_num)).ne'
  rw [val_main_v54_apply, val_main_v50_apply, val_main_v49_apply, val_main_v47_apply,
    sum_eq_coe _ (fun t : Fin 8192 => (fun h s a => dz q k v d (W q k) h t.val s * q t.val (128 * h + a))
      (((i 0).val * 1024 + (i 1).val) / 128 % 8) (((i 0).val * 1024 + (i 1).val) / 1024 % 8192) (((i 0).val * 1024 + (i 1).val) % 128)) fun s => by
      rw [dz_apply q k v d hq hk hv hd, heads_q q hq, ← EReal.coe_mul]]
  refine congrArg (fun r : ℝ => (r : EReal)) ((Finset.sum_congr rfl fun (t : Fin 8192) _ =>
    back (fun h s a => dz q k v d (W q k) h t.val s * q t.val (128 * h + a)) i).trans ?_)
  unfold sumK
  rw [Finset.sum_mul, Finset.sum_range]
  refine Finset.sum_congr rfl fun t _ => ?_
  show dz q k v d (W q k) ((i 1).val / 128) t.val (i 0).val * q t.val (128 * ((i 1).val / 128) + (i 1).val % 128)
    = dz q k v d (W q k) ((i 1).val / 128) t.val (i 0).val * (q t.val (128 * ((i 1).val / 128) + (i 1).val % 128) * two) * (Real.log 2 * (134217728 / 11863283))
  unfold two scale
  field_simp

include hq hk hd in
theorem dv_apply (i : S8192x1024.Idx) : val_main_v55 (F := Ideal) x0 x1 x3 i = gradV d (W q k) i := by
  rw [val_main_v55_apply, val_main_v34_apply, val_main_v33_apply, val_main_v31_apply, val_main_v30_apply,
    sum_eq_coe _ (fun t : Fin 8192 => (fun h s a => W q k h t.val s * d t.val (128 * h + a))
      (((i 0).val * 1024 + (i 1).val) / 128 % 8) (((i 0).val * 1024 + (i 1).val) / 1024 % 8192) (((i 0).val * 1024 + (i 1).val) % 128)) fun s => by
      rw [heads_d d hd, wts_apply q k hq hk, ← EReal.coe_mul, mul_comm]]
  refine congrArg (fun r : ℝ => (r : EReal)) ((Finset.sum_congr rfl fun (t : Fin 8192) _ =>
    back (fun h s a => W q k h t.val s * d t.val (128 * h + a)) i).trans ?_)
  exact (Finset.sum_range fun t => W q k ((i 1).val / 128) t (i 0).val * d t (128 * ((i 1).val / 128) + (i 1).val % 128)).symm

end Cert.StickBwd.Ref
-- ==== Proof.StickBwd.lean ====
/- The attention backward call's claims: both frames, the reference's, its named constant, and the equality of the query, key
   and value gradients over the reals. -/
module

public import proofs.«01_k».proof.Defs
public import proofs.«01_k».proof.Proof.StickBwdRef
public import proofs.«01_k».proof.Proof.Gen.StickBwdKernel.Frame
public import proofs.«01_k».proof.Proof.Gen.StickBwdReferenceIdeal.Run
public import proofs.«01_k».proof.Proof.Gen.Pre_stick_bwd_finite

@[expose] public section

set_option maxRecDepth 16384

noncomputable section

namespace Cert.StickBwd

open Idealize Idealize.ShloMosaic Idealize.ShloMosaic.TcCoe Idealize.SL.Sem Cert.Lift

theorem frame_ideal : Cert.quiescent_StickBwdKernelIdeal := fun m ρ _ =>
  (θ_run Cert.StickBwdKernelIdeal.defs _ _).mono (fun r h => frame_of_run m r h) (run_main m ρ)
theorem frame_ideal_pre : Cert.quiescent_StickBwdKernelIdeal_pre_stick_bwd_finite := fun m ρ _ => frame_ideal m ρ trivial

section Device

/-- On device values a named constant is its literal. -/
local instance literal : Named Bits := ⟨fun _ _ _ b => FloatOps.ofBits _ b⟩

/-- The run of the kernel's own program at device values. -/
def quiet : Prop :=
  ∀ (m : (ℓ : Loc Cert.StickBwdKernelIdeal.nD Cert.StickBwdKernelIdeal.τ Cert.StickBwdKernelIdeal.sig) → Buf (Elt Bits) ℓ)
    (g : Dev Cert.StickBwdKernelIdeal.nD → PrngReg), Cert.Pre_StickBwdKernel m →
    θ_run (Cert.StickBwdKernelIdeal.defs (F := Bits)) (onTc (τ := Cert.StickBwdKernelIdeal.τ) (Cert.StickBwdKernelIdeal.main (F := Bits))) ⟨m, fun _ => 0, g⟩ (fun r => (∀ c : Dev Cert.StickBwdKernelIdeal.nD,
      r.2.mem ((c.tc : Thread Cert.StickBwdKernelIdeal.nD Cert.StickBwdKernelIdeal.τ).loc Cert.StickBwdKernelIdeal.main_arg0) = m ((c.tc : Thread Cert.StickBwdKernelIdeal.nD Cert.StickBwdKernelIdeal.τ).loc Cert.StickBwdKernelIdeal.main_arg0)
      ∧ r.2.mem ((c.tc : Thread Cert.StickBwdKernelIdeal.nD Cert.StickBwdKernelIdeal.τ).loc Cert.StickBwdKernelIdeal.main_arg1) = m ((c.tc : Thread Cert.StickBwdKernelIdeal.nD Cert.StickBwdKernelIdeal.τ).loc Cert.StickBwdKernelIdeal.main_arg1)
      ∧ r.2.mem ((c.tc : Thread Cert.StickBwdKernelIdeal.nD Cert.StickBwdKernelIdeal.τ).loc Cert.StickBwdKernelIdeal.main_arg2) = m ((c.tc : Thread Cert.StickBwdKernelIdeal.nD Cert.StickBwdKernelIdeal.τ).loc Cert.StickBwdKernelIdeal.main_arg2)
      ∧ r.2.mem ((c.tc : Thread Cert.StickBwdKernelIdeal.nD Cert.StickBwdKernelIdeal.τ).loc Cert.StickBwdKernelIdeal.main_arg3) = m ((c.tc : Thread Cert.StickBwdKernelIdeal.nD Cert.StickBwdKernelIdeal.τ).loc Cert.StickBwdKernelIdeal.main_arg3))
      ∧ r.2.sem = fun _ => 0)

theorem quiet_holds : quiet := fun m ρ _ =>
  (θ_run (Cert.StickBwdKernelIdeal.defs (F := Bits)) _ _).mono (fun r h => frame_of_run m r h) (run_main (F := Bits) m ρ)

theorem same : Cert.quiescent_StickBwdKernel = quiet := by sl_kernel_rfl

theorem frame_kernel : Cert.quiescent_StickBwdKernel := same ▸ quiet_holds

end Device

theorem frame_reference : Cert.quiescent_StickBwdReferenceIdeal := fun m ρ _ =>
  (θ_run Cert.StickBwdReferenceIdeal.defs _ _).mono (fun r h => ⟨fun c => (h c).2.2.2, sem_eq_zero_of_no_sems (by decide) r.2⟩)
    (Cert.StickBwdReferenceIdeal.Value.run m ρ)
theorem frame_reference_pre : Cert.quiescent_StickBwdReferenceIdeal_pre_stick_bwd_finite := fun m ρ _ => frame_reference m ρ trivial

/-- The named constant is the value its table gives it. -/
theorem preserves : Cert.preserves_StickBwdKernel_StickBwdKernelIdeal :=
  IdealRules.named_const.statement Cert.StickBwdKernelIdeal.κ "inv_query_scale" .f32 0x40FAF233#32
    (((Real.log 2) * (134217728 / 11863283) : ℝ) : EReal) rfl

/-- A real array by its row and column numbers. -/
theorem by_number {x : FVec Ideal Cert.StickBwdKernelIdeal.S8192x1024 .f32} (h : ∃ X : Fin 8192 → Fin 1024 → ℝ, ∀ i, x i = ((X (i 0) (i 1) : ℝ) : EReal)) :
    ∃ X : ℕ → ℕ → ℝ, ∀ i : Cert.StickBwdKernelIdeal.S8192x1024.Idx, x i = ((X (i 0).val (i 1).val : ℝ) : EReal) := by
  obtain ⟨X, hX⟩ := h
  refine ⟨fun t n => if ht : t < 8192 then if hn : n < 1024 then X ⟨t, ht⟩ ⟨n, hn⟩ else 0 else 0, fun i => ?_⟩
  have a0 : (i 0).val < 8192 := (i 0).isLt
  have a1 : (i 1).val < 1024 := (i 1).isLt
  exact (hX i).trans (congrArg (fun r : ℝ => (r : EReal)) ((dif_pos a0).trans (dif_pos a1)).symm)

/-- What the precondition says of the four arguments. -/
theorem finite {x y z w : FVec Ideal Cert.StickBwdKernelIdeal.S8192x1024 .f32} (h : Cert.Pre_stick_bwd_finite.fn (F := Ideal) x y z w = fun _ => 1#1) :
    (∃ X : ℕ → ℕ → ℝ, ∀ i : Cert.StickBwdKernelIdeal.S8192x1024.Idx, x i = ((X (i 0).val (i 1).val : ℝ) : EReal))
      ∧ (∃ Y : ℕ → ℕ → ℝ, ∀ i : Cert.StickBwdKernelIdeal.S8192x1024.Idx, y i = ((Y (i 0).val (i 1).val : ℝ) : EReal))
      ∧ (∃ Z : ℕ → ℕ → ℝ, ∀ i : Cert.StickBwdKernelIdeal.S8192x1024.Idx, z i = ((Z (i 0).val (i 1).val : ℝ) : EReal))
      ∧ ∃ W : ℕ → ℕ → ℝ, ∀ i : Cert.StickBwdKernelIdeal.S8192x1024.Idx, w i = ((W (i 0).val (i 1).val : ℝ) : EReal) := by
  have h0 := congrFun h (fun a => a.elim0)
  dsimp only [Cert.Pre_stick_bwd_finite.fn, Cert.Pre_stick_bwd_finite.fn_part1] at h0
  obtain ⟨h1, hw⟩ := IntOp.andi_eq_one.1 h0
  obtain ⟨h2, hz⟩ := IntOp.andi_eq_one.1 h1
  obtain ⟨hx, hy⟩ := IntOp.andi_eq_one.1 h2
  exact ⟨by_number (reals2 fun i => finite_of_all x _ (fun _ => f32_top) _ _ _ _ hx i), by_number (reals2 fun i => finite_of_all y _ (fun _ => f32_top) _ _ _ _ hy i),
    by_number (reals2 fun i => finite_of_all z _ (fun _ => f32_top) _ _ _ _ hz i), by_number (reals2 fun i => finite_of_all w _ (fun _ => f32_top) _ _ _ _ hw i)⟩

section Value
variable {F : FTy → Type} [FloatOps F] [Named F]
open Cert.StickBwdKernelIdeal Cert.StickBwdKernelIdeal.Gen

/-- The run with its three results named. -/
theorem run_blocks (m : (ℓ : Loc nD τ sig) → Buf (Elt F) ℓ) (ρ : Dev nD → PrngReg) : θ_run defs (onTc (τ := τ) (main (F := F))) ⟨m, fun _ => 0, ρ⟩ fun r => ∀ c : Dev nD,
      r.2.mem ((c : Thread nD τ).loc main_v70_0) = (dats m 0 c).arrAt 5 cfg0.N
      ∧ r.2.mem ((c : Thread nD τ).loc main_v70_1) = (dats m 0 c).arrAt 6 cfg0.N
      ∧ r.2.mem ((c : Thread nD τ).loc main_v70_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 5, (h.1 c).1 6, (h.1 c).1 7, (frame_of_run m r h).1 c⟩) (run_main m ρ)

end Value

theorem algebraic : Cert.algebraic_StickBwdKernelIdeal_StickBwdReferenceIdeal_pre_stick_bwd_finite := by
  pair_intro
  · run_from run_blocks m g
  · refine (θ_run _ _ _).mono (fun _ h c => ?_) (Cert.StickBwdReferenceIdeal.Value.run m' g')
    obtain ⟨h0, h1, h2, ha⟩ := h c
    obtain ⟨⟨q, hq⟩, ⟨k, hk⟩, ⟨v, hv⟩, d, hd⟩ := finite (hpre c)
    obtain ⟨e0, e1, e2, e3⟩ := hagree c
    have hw : ∀ (h : Fin 8) (t s : Fin 8192), (U m c Cert.StickBwdKernelIdeal.main_v22 : FVec Ideal Cert.StickBwdKernelIdeal.S1x8x8192x8192 .f32)
        (ix4 0 h t s) = ((Ref.wts q k h.val t.val s.val : ℝ) : EReal) := fun h t s =>
      (congrFun (U_weights m c) _).trans (Ref.wts_apply q k hq hk (ix4 0 h t s))
    refine ⟨h0.trans ?_, h1.trans ?_, h2.trans ?_, ha⟩
    · rw [Cert.StickBwdReferenceIdeal.Read.val_main_v53_eq, e0, e1, e2, e3]
      exact Eq.trans (funext fun i => Ref.dq_apply q k v d hq hk hv hd i) (final_dq m c q k v d _ (fun t n => hq (ix2 t n)) (fun t n => hk (ix2 t n))
        (fun t n => hv (ix2 t n)) (fun t n => hd (ix2 t n)) hw fun h t s => Ref.wts_zero q k h t s).symm
    · rw [Cert.StickBwdReferenceIdeal.Read.val_main_v54_eq, e0, e1, e2, e3]
      exact Eq.trans (funext fun i => Ref.dk_apply q k v d hq hk hv hd i) (final_dk m c q k v d _ (fun t n => hq (ix2 t n)) (fun t n => hk (ix2 t n))
        (fun t n => hv (ix2 t n)) (fun t n => hd (ix2 t n)) hw fun h t s => Ref.wts_zero q k h t s).symm
    · rw [Cert.StickBwdReferenceIdeal.Read.val_main_v55_eq, e0, e1, e3]
      exact Eq.trans (funext fun i => Ref.dv_apply q k d hq hk hd i) (final_dv m c q k v d _ (fun t n => hq (ix2 t n)) (fun t n => hk (ix2 t n))
        (fun t n => hv (ix2 t n)) (fun t n => hd (ix2 t n)) hw fun h t s => Ref.wts_zero q k h t s).symm

end Cert.StickBwd

end
-- ==== Proof.NormFwd.lean ====
/- The norm's forward call: the frames and the equality of both results over the reals. The kernel and the reference take the same steps in
   the same order, so the equality needs nothing finite. -/
module

public import proofs.«01_k».proof.Defs
public import proofs.«01_k».proof.Proof.Lift
public import proofs.«01_k».proof.Proof.Gen.NormFwdKernel.Frame
public import proofs.«01_k».proof.Proof.Gen.NormFwdKernelIdeal.Value
public import proofs.«01_k».proof.Proof.Gen.NormFwdReferenceIdeal.Run
public import proofs.«01_k».proof.Proof.Gen.NormFwdReferenceIdeal.Read
public import Idealize.ShloMosaic.Lib.Pipeline.ValueKit
public import Idealize.ShloMosaic.Lib.Claim

@[expose] public section

set_option maxRecDepth 16384

noncomputable section

namespace Cert.NormFwd

open Cert.NormFwdKernelIdeal Cert.NormFwdKernelIdeal.Gen Idealize.ShloMosaic Idealize.ShloMosaic.TcCoe Idealize.SL.Sem Cert.Lift
open Idealize.ShloMosaic.Pipeline (Dat)

/-- The factor of a row of `n` columns: the inverse root of its mean square and the small constant. -/
def root (f : Fin 2048 → EReal) : EReal :=
  Ideal.rsqrt (Ideal.div (∑ k, f k * f k) (Ideal.ofBits .f32 0x45000000#32) + Ideal.ofBits .f32 0x358637BD#32)

/-- The normed entry. -/
def scaled (f : Fin 2048 → EReal) (g : EReal) (k : Fin 2048) : EReal := f k * root f * g

theorem root_congr {f g : Fin 2048 → EReal} (h : ∀ k, f k = g k) : root f = root g := congrArg root (funext h)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- Row `r` of a grid point's tile. -/
def rowOf (t : Fin cfg0.N) (r : Fin 512) : Fin 8192 := ⟨t.val * 512 + r.val, by have := t.isLt; have : cfg0.N = 16 := N_0; omega⟩

/-- The rows and the gain as launched. -/
abbrev xA : FVec Ideal S8192x2048 .f32 := m ((c : Thread nD τ).loc main_arg0)
abbrev gA : FVec Ideal S2048 .f32 := m ((c : Thread nD τ).loc main_arg1)

theorem iblk_x (t : Fin cfg0.N) (r : Fin 512) (k : Fin 2048) : iblk m c 0 t (ix2 r k) = xA m c (ix2 (rowOf t r) k) := by
  blk_ext [iblk, V_main_arg0, idx t, rowOf]

theorem iblk_g (t : Fin cfg0.N) (k : Fin 2048) : iblk m c 1 t (ix2 0 k) = gA m c (ix1 k) := by
  blk_simp [iblk]
  entry_read
  pointwise
  blk_ext [idx t]

theorem tile_r (B0 : FVec Ideal S512x2048 .f32) (B1 : FVec Ideal S1x2048 .f32) (y : S512x1.Idx) :
    out0_3 (F := Ideal) B0 B1 y = root fun k => B0 (ix2 (y 0) k) := by
  canon_tiles x h
  all_goals (open_payloads; pointwise; refine root_congr fun k => congrArg B0 ?_; blk_ext)

theorem tile_h (B0 : FVec Ideal S512x2048 .f32) (B1 : FVec Ideal S1x2048 .f32) (y : S512x2048.Idx) :
    out0_2 (F := Ideal) B0 B1 y = scaled (fun k => B0 (ix2 (y 0) k)) (B1 (ix2 0 (y 1))) (y 1) := by
  canon_tiles x h
  all_goals
    have e : x = y := by blk_ext
    subst e
    open_payloads
    pointwise
    exact congrArg (fun a => B0 a * (root fun k => B0 (ix2 (x 0) k)) * B1 (ix2 0 (x 1))) (eq_ix2 x)

/-- The blocks of a grid point, at their types. -/
abbrev b0 (t : Fin cfg0.N) : FVec Ideal S512x2048 .f32 := iblk m c 0 t
abbrev b1 (t : Fin cfg0.N) : FVec Ideal S1x2048 .f32 := iblk m c 1 t

/-- The two results' arrays. -/
def hA : FVec Ideal S8192x2048 .bf16 := fun i => scaled (fun k => xA m c (ix2 (i 0) k)) (gA m c (ix1 (i 1))) (i 1)
def rA : FVec Ideal S8192x1 .f32 := fun i => root fun k => xA m c (ix2 (i 0) k)

theorem point_h (t : Fin cfg0.N) (y : S512x2048.Idx) :
    out0_2 (F := Ideal) (b0 m c t) (b1 m c t) y = hA m c (ix2 (rowOf t (y 0)) (y 1)) :=
  (tile_h _ _ y).trans (congrArg₂ (fun f a => scaled f a (y 1)) (funext fun k => iblk_x m c t (y 0) k) (iblk_g m c t (y 1)))

theorem point_r (t : Fin cfg0.N) (y : S512x1.Idx) :
    out0_3 (F := Ideal) (b0 m c t) (b1 m c t) y = rA m c (ix2 (rowOf t (y 0)) 0) :=
  (tile_r _ (b1 m c t) y).trans (root_congr fun k => iblk_x m c t (y 0) k)

theorem final_h : (dats m 0 c).arrAt 2 cfg0.N = hA m c := by
  refine (dats m 0 c).arrAt_eq_of_covers 2 _ (by decide +kernel) fun t hf y => ?_
  blk_simp
  have he : ((cfg0.win 2).blk t).view.emb y = ix2 (rowOf t (y 0)) (y 1) := by blk_ext [idx t, rowOf]
  rw [after0_2, he]
  exact point_h m c t y

theorem final_r : (dats m 0 c).arrAt 3 cfg0.N = rA m c := by
  refine (dats m 0 c).arrAt_eq_of_covers 3 _ (by decide +kernel) fun t hf y => ?_
  blk_simp
  have he : ((cfg0.win 3).blk t).view.emb y = ix2 (rowOf t (y 0)) 0 := by blk_ext [idx t, rowOf]
  rw [after0_3, he]
  exact point_r m c t y

open Cert.NormFwdReferenceIdeal.Read in
theorem reference_r (x0 : FVec Ideal S8192x2048 .f32) (i : S8192x1.Idx) :
    val_main_v21 (F := Ideal) x0 i = root fun k => x0 (ix2 (i 0) k) := by
  simp only [val_main_v21_apply, val_main_v20_apply, val_main_v19_apply, val_main_v18_apply, val_main_v17_apply, val_main_v16_apply,
    val_main_v15_apply, val_main_v14_apply, val_main_cst_apply, val_main_cst_0_apply, val_main_cst_1_apply, val_main_cst_2_apply,
    val_main_cst_3_apply, val_main_cst_4_apply, Ideal.mulf_def, Ideal.addf_def, Ideal.hostDivf_def, Ideal.ofBits_def, f32_zero, EReal.coe_zero, zero_add]
  refine Eq.trans ?_ (root_congr (f := fun k => x0 (idx_main_v15 (idx_main_v16 i) k)) fun k => congrArg x0 ?_)
  · rfl
  · exact eq_ix2 _

open Cert.NormFwdReferenceIdeal.Read in
theorem reference_h (x0 : FVec Ideal S8192x2048 .f32) (x1 : FVec Ideal S2048 .f32) (i : S8192x2048.Idx) :
    val_main_v13 (F := Ideal) x0 x1 i = scaled (fun k => x0 (ix2 (i 0) k)) (x1 (ix1 (i 1))) (i 1) := by
  have e : ∀ j, val_main_v7 (F := Ideal) x0 j = root fun k => x0 (ix2 (j 0) k) := fun j => reference_r x0 j
  rw [val_main_v13_apply]
  show val_main_v12 (F := Ideal) x0 x1 i = _
  simp only [val_main_v12_apply, val_main_v11_apply, val_main_v10_apply, val_main_v9_apply, val_main_v8_apply, e, Ideal.mulf_def]
  refine congrArg₂ (fun a b => x0 a * (root fun k => x0 (ix2 (i 0) k)) * x1 b) (eq_ix2 i) ?_
  exact funext fun a => Fin.ext (by match a with | ⟨0, _⟩ => rfl)

theorem algebraic : Cert.algebraic_NormFwdKernelIdeal_NormFwdReferenceIdeal := by
  pair_intro
  · run_from Cert.NormFwdKernelIdeal.Value.run_blocks m g
  · refine (θ_run _ _ _).mono (fun _ h c => ?_) (Cert.NormFwdReferenceIdeal.Value.run m' g')
    obtain ⟨h0, h1, ha⟩ := h c
    obtain ⟨e0, e1⟩ := hagree c
    refine ⟨h0.trans ?_, h1.trans ?_, ha⟩
    · rw [Cert.NormFwdReferenceIdeal.Read.val_main_v13_eq, e0, e1]
      exact Eq.trans (funext fun i => reference_h _ _ i) (final_h m c).symm
    · rw [Cert.NormFwdReferenceIdeal.Read.val_main_v21_eq, e0]
      exact Eq.trans (funext fun i => reference_r _ i) (final_r m c).symm

theorem frame_kernel : Cert.quiescent_NormFwdKernel := fun m ρ _ => Cert.NormFwdKernel.Gen.frame m ρ
theorem frame_ideal : Cert.quiescent_NormFwdKernelIdeal := fun m ρ _ => Cert.NormFwdKernelIdeal.Gen.frame m ρ
theorem frame_reference : Cert.quiescent_NormFwdReferenceIdeal := fun m ρ _ =>
  (θ_run Cert.NormFwdReferenceIdeal.defs _ _).mono (fun r h => ⟨fun c => (h c).2.2, sem_eq_zero_of_no_sems (by decide) r.2⟩)
    (Cert.NormFwdReferenceIdeal.Value.run m ρ)

end Cert.NormFwd

end
-- ==== Proof.GateFwdKer.lean ====
/- The gate's forward kernel over the reals: what one device's tile of rows leaves in each output, and the three result arrays as functions of
   the two products before the gate. -/
module

public import proofs.«01_k».proof.Proof.FfnGateRef
public import proofs.«01_k».proof.Proof.FfnDhKer
public import proofs.«01_k».proof.Proof.Gen.GateFwdKernelIdeal.Value
public import proofs.«01_k».proof.Proof.Gen.GateFwdReferenceIdeal.Read

@[expose] public section

set_option maxRecDepth 16384

noncomputable section

namespace Cert.GateFwdKernelIdeal.Real

open Cert.GateFwdKernelIdeal Cert.GateFwdKernelIdeal.Gen Idealize.ShloMosaic Idealize.ShloMosaic.TcCoe Idealize.SL.Sem Cert.Lift
open Idealize.ShloMosaic.Pipeline (Dat)
open Cert.FfnGateKernelIdeal.Real (colOf)

/-- The gate's three outputs at an entry, from the two products. -/
def sgm (g : EReal) : EReal :=
  Ideal.div 1 (1 + Ideal.exp (0 - g))
def gated (g : EReal) : EReal := g * sgm g
def rise (g u : EReal) : EReal :=
  u * (sgm g * (1 + g * (1 - sgm g)))
def through (g u : EReal) : EReal := gated g * u

variable (m : (ℓ : Loc nD τ sig) → Buf (Elt Ideal) ℓ) (c : Dev nD)

theorem idx : ∀ t : Fin cfg0.N, win0_0.index t = ![t.val % 8, 0] ∧ win0_1.index t = ![t.val / 8, 0, 0]
    ∧ win0_2.index t = ![t.val / 8, 0, 0] ∧ win0_3.index t = ![t.val / 8, t.val % 8, 0]
    ∧ win0_4.index t = ![t.val / 8, t.val % 8, 0] ∧ win0_5.index t = ![t.val / 8, t.val % 8, 0] :=
  (by decide +kernel : ∀ t : Fin grid0.N, _)

/-- The device a grid point writes for. -/
def devOf (t : Fin cfg0.N) : Fin 8 := ⟨t.val / 8, by have := t.isLt; have : cfg0.N = 64 := N_0; omega⟩
/-- Row `r` of a grid point's tile. -/
def rowOf (t : Fin cfg0.N) (r : Fin 1024) : Fin 8192 := ⟨t.val % 8 * 1024 + r.val, by omega⟩

/-- The normed rows, and the two weights as launched. -/
abbrev hA : FVec Ideal S8192x2048 .f32 := Cert.GateFwdReferenceIdeal.Read.val_main_v12 (F := Ideal)
  (m ((c : Thread nD τ).loc main_arg0)) (m ((c : Thread nD τ).loc main_arg1))
abbrev wA : FVec Ideal S2048x5632 .f32 := m ((c : Thread nD τ).loc main_arg2)
abbrev vA : FVec Ideal S2048x5632 .f32 := m ((c : Thread nD τ).loc main_arg3)

theorem entry_h : V m c main_v13 = hA m c := by
  unfold V
  after_reads_simp
  rfl

theorem entry_w : V m c main_v16 = Cert.FfnDhKernelIdeal.Real.byDev (n := 2048) (wA m c) shapeCasts_S2048x5632_S2048x8x704
    transposes_S2048x8x704_S8x2048x704_1_0_2 := by
  unfold V
  after_reads_simp
  rfl

theorem entry_v : V m c main_v19 = Cert.FfnDhKernelIdeal.Real.byDev (n := 2048) (vA m c) shapeCasts_S2048x5632_S2048x8x704
    transposes_S2048x8x704_S8x2048x704_1_0_2 := by
  unfold V
  after_reads_simp
  rfl

theorem iblk_h (t : Fin cfg0.N) (r : Fin 1024) (k : Fin 2048) : iblk m c 0 t (ix2 r k) = hA m c (ix2 (rowOf t r) k) := by
  unfold iblk
  show V m c main_v13 _ = _
  have e : ((cfg0.win 0).blk t).view.emb (ix2 r k) = ix2 (rowOf t r) k := by blk_ext [idx t, rowOf]
  rw [entry_h, e]

theorem iblk_w (t : Fin cfg0.N) (k : Fin 2048) (l : Fin 704) : iblk m c 1 t (ix3 0 k l) = wA m c (ix2 k (colOf (devOf t) l)) := by
  unfold iblk
  show V m c main_v16 _ = _
  have e : ((cfg0.win 1).blk t).view.emb (ix3 0 k l) = ix3 (devOf t) k l := by blk_ext [idx t, devOf]
  rw [entry_w, e]
  exact Cert.FfnDhKernelIdeal.Real.byDev_apply _ _ _ _ _ _

theorem iblk_v (t : Fin cfg0.N) (k : Fin 2048) (l : Fin 704) : iblk m c 2 t (ix3 0 k l) = vA m c (ix2 k (colOf (devOf t) l)) := by
  unfold iblk
  show V m c main_v19 _ = _
  have e : ((cfg0.win 2).blk t).view.emb (ix3 0 k l) = ix3 (devOf t) k l := by blk_ext [idx t, devOf]
  rw [entry_v, e]
  exact Cert.FfnDhKernelIdeal.Real.byDev_apply _ _ _ _ _ _

/-- A tile's product with one of the weights. -/
def dotT (B0 : FVec Ideal S1024x2048 .bf16) (B : FVec Ideal S1x2048x704 .bf16) (r : Fin 1024) (l : Fin 704) : EReal :=
  ∑ k : Fin 2048, B0 (ix2 r k) * B (ix3 0 k l)

set_option maxHeartbeats 1000000 in
theorem out_p (B0 : FVec Ideal S1024x2048 .bf16) (B1 B2 : FVec Ideal S1x2048x704 .bf16) (y : S1x1024x704.Idx) :
    out0_3 (F := Ideal) B0 B1 B2 y = gated (dotT B0 B1 (y 1) (y 2)) := by
  unfold dotT
  canon_tiles x h
  all_goals (open_payloads; pointwise; refine (congrArg gated ?_ : gated _ = gated _))
  all_goals (refine Finset.sum_congr rfl fun k _ => congrArg₂ (fun a b : EReal => a * b) (congrArg B0 ?_) (congrArg B1 ?_) <;> blk_ext)

set_option maxHeartbeats 1000000 in
theorem out_r (B0 : FVec Ideal S1024x2048 .bf16) (B1 B2 : FVec Ideal S1x2048x704 .bf16) (y : S1x1024x704.Idx) :
    out0_4 (F := Ideal) B0 B1 B2 y = rise (dotT B0 B1 (y 1) (y 2)) (dotT B0 B2 (y 1) (y 2)) := by
  unfold dotT
  canon_tiles x h
  all_goals (open_payloads; pointwise; refine (congrArg₂ rise ?_ ?_ : rise _ _ = rise _ _))
  all_goals (refine Finset.sum_congr rfl fun k _ => congrArg₂ (fun a b : EReal => a * b) (congrArg B0 ?_) (congrArg _ ?_) <;> blk_ext)

set_option maxHeartbeats 1000000 in
theorem out_a (B0 : FVec Ideal S1024x2048 .bf16) (B1 B2 : FVec Ideal S1x2048x704 .bf16) (y : S1x1024x704.Idx) :
    out0_5 (F := Ideal) B0 B1 B2 y = through (dotT B0 B1 (y 1) (y 2)) (dotT B0 B2 (y 1) (y 2)) := by
  unfold dotT
  canon_tiles x h
  all_goals (open_payloads; pointwise; refine (congrArg₂ through ?_ ?_ : through _ _ = through _ _))
  all_goals (refine Finset.sum_congr rfl fun k _ => congrArg₂ (fun a b : EReal => a * b) (congrArg B0 ?_) (congrArg _ ?_) <;> blk_ext)

/-- The blocks of a grid point, at their types. -/
abbrev b0 (t : Fin cfg0.N) : FVec Ideal S1024x2048 .bf16 := iblk m c 0 t
abbrev b1 (t : Fin cfg0.N) : FVec Ideal S1x2048x704 .bf16 := iblk m c 1 t
abbrev b2 (t : Fin cfg0.N) : FVec Ideal S1x2048x704 .bf16 := iblk m c 2 t

/-- The two products before the gate. -/
abbrev pre (n : Fin 8192) (j : Fin 5632) : EReal := Cert.GateFwdReferenceIdeal.Read.val_main_v13 (F := Ideal)
  (m ((c : Thread nD τ).loc main_arg0)) (m ((c : Thread nD τ).loc main_arg1)) (m ((c : Thread nD τ).loc main_arg2)) (ix2 n j)
abbrev lin (n : Fin 8192) (j : Fin 5632) : EReal := Cert.GateFwdReferenceIdeal.Read.val_main_v14 (F := Ideal)
  (m ((c : Thread nD τ).loc main_arg0)) (m ((c : Thread nD τ).loc main_arg1)) (m ((c : Thread nD τ).loc main_arg3)) (ix2 n j)

theorem dot_w (t : Fin cfg0.N) (r : Fin 1024) (l : Fin 704) :
    dotT (b0 m c t) (b1 m c t) r l = pre m c (rowOf t r) (colOf (devOf t) l) := by
  unfold dotT
  refine Eq.trans ?_ (Cert.GateFwdReferenceIdeal.Read.val_main_v13_apply _ _ _ _).symm
  exact Finset.sum_congr rfl fun k _ => congrArg₂ (fun a b : EReal => a * b)
    ((iblk_h m c t r k).trans
      (congrArg (hA m c) (eq_ix2 (Cert.GateFwdReferenceIdeal.Read.lidx_main_v13 (ix2 (rowOf t r) (colOf (devOf t) l)) k)).symm)) ((iblk_w m c t k l).trans
      (congrArg (wA m c) (eq_ix2 (Cert.GateFwdReferenceIdeal.Read.ridx_main_v13 (ix2 (rowOf t r) (colOf (devOf t) l)) k)).symm))

theorem dot_v (t : Fin cfg0.N) (r : Fin 1024) (l : Fin 704) :
    dotT (b0 m c t) (b2 m c t) r l = lin m c (rowOf t r) (colOf (devOf t) l) := by
  unfold dotT
  refine Eq.trans ?_ (Cert.GateFwdReferenceIdeal.Read.val_main_v14_apply _ _ _ _).symm
  exact Finset.sum_congr rfl fun k _ => congrArg₂ (fun a b : EReal => a * b)
    ((iblk_h m c t r k).trans
      (congrArg (hA m c) (eq_ix2 (Cert.GateFwdReferenceIdeal.Read.lidx_main_v14 (ix2 (rowOf t r) (colOf (devOf t) l)) k)).symm)) ((iblk_v m c t k l).trans
      (congrArg (vA m c) (eq_ix2 (Cert.GateFwdReferenceIdeal.Read.ridx_main_v14 (ix2 (rowOf t r) (colOf (devOf t) l)) k)).symm))

/-- The three outputs' arrays, by device, row and column. -/
def out_pA : FVec Ideal S8x8192x704 .f32 := fun i => gated (pre m c (i 1) (colOf (i 0) (i 2)))
def out_rA : FVec Ideal S8x8192x704 .f32 := fun i => rise (pre m c (i 1) (colOf (i 0) (i 2))) (lin m c (i 1) (colOf (i 0) (i 2)))
def out_aA : FVec Ideal S8x8192x704 .bf16 := fun i => through (pre m c (i 1) (colOf (i 0) (i 2))) (lin m c (i 1) (colOf (i 0) (i 2)))

theorem point_p (t : Fin cfg0.N) (y : S1x1024x704.Idx) :
    out0_3 (F := Ideal) (b0 m c t) (b1 m c t) (b2 m c t) y = out_pA m c (ix3 (devOf t) (rowOf t (y 1)) (y 2)) :=
  (out_p _ _ _ y).trans (congrArg gated (dot_w m c t (y 1) (y 2)))

theorem point_r (t : Fin cfg0.N) (y : S1x1024x704.Idx) :
    out0_4 (F := Ideal) (b0 m c t) (b1 m c t) (b2 m c t) y = out_rA m c (ix3 (devOf t) (rowOf t (y 1)) (y 2)) :=
  (out_r _ _ _ y).trans (congrArg₂ rise (dot_w m c t (y 1) (y 2)) (dot_v m c t (y 1) (y 2)))

theorem point_a (t : Fin cfg0.N) (y : S1x1024x704.Idx) :
    out0_5 (F := Ideal) (b0 m c t) (b1 m c t) (b2 m c t) y = out_aA m c (ix3 (devOf t) (rowOf t (y 1)) (y 2)) :=
  (out_a _ _ _ y).trans (congrArg₂ through (dot_w m c t (y 1) (y 2)) (dot_v m c t (y 1) (y 2)))

theorem final_p : (dats m 0 c).arrAt 3 cfg0.N = out_pA m c := by
  refine (dats m 0 c).arrAt_eq_of_covers 3 _ (by decide +kernel) fun t hf y => ?_
  blk_simp
  have he : ((cfg0.win 3).blk t).view.emb y = ix3 (devOf t) (rowOf t (y 1)) (y 2) := by blk_ext [idx t, devOf, rowOf]
  rw [after0_3, he]
  exact point_p m c t y

theorem final_r : (dats m 0 c).arrAt 4 cfg0.N = out_rA m c := by
  refine (dats m 0 c).arrAt_eq_of_covers 4 _ (by decide +kernel) fun t hf y => ?_
  blk_simp
  have he : ((cfg0.win 4).blk t).view.emb y = ix3 (devOf t) (rowOf t (y 1)) (y 2) := by blk_ext [idx t, devOf, rowOf]
  rw [after0_4, he]
  exact point_r m c t y

theorem final_a : (dats m 0 c).arrAt 5 cfg0.N = out_aA m c := by
  refine (dats m 0 c).arrAt_eq_of_covers 5 _ (by decide +kernel) fun t hf y => ?_
  blk_simp
  have he : ((cfg0.win 5).blk t).view.emb y = ix3 (devOf t) (rowOf t (y 1)) (y 2) := by blk_ext [idx t, devOf, rowOf]
  rw [after0_5, he]
  exact point_a m c t y

end Cert.GateFwdKernelIdeal.Real

end
-- ==== Proof.GateFwd.lean ====
/- The gate's forward call: the frames and the equality of its three results over the reals, for finite arguments. -/
module

public import proofs.«01_k».proof.Defs
public import proofs.«01_k».proof.Proof.Lift
public import proofs.«01_k».proof.Proof.GateFwdKer
public import proofs.«01_k».proof.Proof.Gen.GateFwdKernel.Frame
public import proofs.«01_k».proof.Proof.Gen.Pre_gate_fwd_finite
public import proofs.«01_k».proof.Proof.Gen.GateFwdReferenceIdeal.Run
public import Idealize.ShloMosaic.Lib.Claim

@[expose] public section

set_option maxRecDepth 16384

noncomputable section

namespace Cert.GateFwdReferenceIdeal.Real

open Idealize.ShloMosaic Idealize.ShloMosaic.TcCoe Idealize.SL.Sem Cert.Lift
open Cert.GateFwdReferenceIdeal Cert.GateFwdReferenceIdeal.Read
open Cert.FfnGateKernelIdeal.Real (colOf)
open Cert.GateFwdKernelIdeal.Real (sgm gated rise through)

/-- The sigmoid of the reference is the kernel's: `-g` is `0 - g`. -/
theorem sgm_of_neg (g : EReal) : Ideal.div 1 (1 + Ideal.exp (-g)) = sgm g := by
  unfold sgm
  rw [sub_eq_add_neg, zero_add]

/-- Where the reshape and the transpose put a device's columns. -/
theorem at_p (i : S8x8192x704.Idx) : idx_main_v18 (idx_main_v19 i) = ix2 (i 1) (colOf (i 0) (i 2)) :=
  Cert.FfnGateReferenceIdeal.Real.at_g i
theorem at_r (i : S8x8192x704.Idx) : idx_main_v23 (idx_main_v24 i) = ix2 (i 1) (colOf (i 0) (i 2)) :=
  Cert.FfnGateReferenceIdeal.Real.at_g i
theorem at_a (i : S8x8192x704.Idx) : idx_main_v25 (idx_main_v26 i) = ix2 (i 1) (colOf (i 0) (i 2)) :=
  Cert.FfnGateReferenceIdeal.Real.at_g i

variable (x0 : FVec Ideal S8192x2048 .f32) (x1 : FVec Ideal S2048 .f32) (x2 x3 : FVec Ideal S2048x5632 .f32)

theorem p_at (j : S8192x5632.Idx) : val_main_v17 (F := Ideal) x0 x1 x2 j = gated (val_main_v13 (F := Ideal) x0 x1 x2 j) := by
  unfold gated
  rw [← sgm_of_neg]
  simp only [val_main_v17_apply, val_main_call1_v5_apply, val_main_call1_v4_apply, val_main_call1_v3_apply, val_main_call1_v2_apply,
    val_main_call1_v1_apply, val_main_call1_v0_apply, val_main_call1_cst_apply, val_main_call1_cst_0_apply, Ideal.mulf_def,
    Ideal.hostDivf_def, Ideal.addf_def, Ideal.hostUnary_exp_def, Ideal.hostNegf_def, Ideal.negf_def, Ideal.ofBits_def, f32_one, EReal.coe_one]

theorem a_at (j : S8192x5632.Idx) : val_main_v16 (F := Ideal) x0 x1 x2 x3 j
    = through (val_main_v13 (F := Ideal) x0 x1 x2 j) (val_main_v14 (F := Ideal) x0 x1 x3 j) := by
  unfold through gated
  rw [← sgm_of_neg]
  simp only [val_main_v16_apply, val_main_v15_0_apply, val_main_v15_2_apply, val_main_call0_v4_apply, val_main_call0_v3_apply,
    val_main_call0_v2_apply, val_main_call0_v1_apply, val_main_call0_v0_apply, val_main_call0_cst_apply, val_main_call0_cst_0_apply,
    Ideal.mulf_def, Ideal.hostDivf_def, Ideal.addf_def, Ideal.hostUnary_exp_def, Ideal.hostNegf_def, Ideal.negf_def, Ideal.ofBits_def, f32_one, EReal.coe_one]

theorem p_eq (i : S8x8192x704.Idx) : val_main_v19 (F := Ideal) x0 x1 x2 i
    = gated (val_main_v13 (F := Ideal) x0 x1 x2 (ix2 (i 1) (colOf (i 0) (i 2)))) := by
  rw [val_main_v19_apply, val_main_v18_apply, at_p]
  exact p_at x0 x1 x2 _

theorem a_eq (i : S8x8192x704.Idx) : val_main_v27 (F := Ideal) x0 x1 x2 x3 i
    = through (val_main_v13 (F := Ideal) x0 x1 x2 (ix2 (i 1) (colOf (i 0) (i 2))))
      (val_main_v14 (F := Ideal) x0 x1 x3 (ix2 (i 1) (colOf (i 0) (i 2)))) := by
  rw [val_main_v27_apply]
  show val_main_v26 (F := Ideal) x0 x1 x2 x3 i = _
  rw [val_main_v26_apply, val_main_v25_apply, at_a]
  exact a_at x0 x1 x2 x3 _

variable {x0 x1 x2 x3}
  {X : Fin 8192 → Fin 2048 → ℝ} {G : Fin 2048 → ℝ} {Wg Wu : Fin 2048 → Fin 5632 → ℝ}
  (hx : ∀ i, x0 i = ((X (i 0) (i 1) : ℝ) : EReal)) (hg : ∀ i, x1 i = ((G (i 0) : ℝ) : EReal))
  (hwg : ∀ i, x2 i = ((Wg (i 0) (i 1) : ℝ) : EReal)) (hwu : ∀ i, x3 i = ((Wu (i 0) (i 1) : ℝ) : EReal))

/-- At a real the kernel's sigmoid is the logistic function. -/
theorem sgm_real (g : ℝ) : sgm (g : EReal) = ((Cert.FfnGateReferenceIdeal.Real.logistic g : ℝ) : EReal) := by
  rw [← sgm_of_neg, ← EReal.coe_neg, Ideal.exp_coe, ← EReal.coe_one, ← EReal.coe_add]
  exact coe_div (by positivity)

include hx hg hwg hwu in
/-- The derivative of `g · logistic g` times the other product. -/
theorem r_at (j : S8192x5632.Idx) : val_main_v22 (F := Ideal) x0 x1 x2 x3 j
    = rise (val_main_v13 (F := Ideal) x0 x1 x2 j) (val_main_v14 (F := Ideal) x0 x1 x3 j) := by
  have eg : val_main_v13 (F := Ideal) x0 x1 x2 j = _ := Cert.FfnGateReferenceIdeal.Real.gate hx hg hwg j
  have eu : val_main_v14 (F := Ideal) x0 x1 x3 j = _ := Cert.FfnGateReferenceIdeal.Real.up hx hg hwu j
  have es : val_main_v15_2 (F := Ideal) x0 x1 x2 j = _ := Cert.FfnGateReferenceIdeal.Real.sigma hx hg hwg j
  unfold rise
  simp only [val_main_v22_apply, val_main_call2_v1_apply, val_main_call2_v2_apply, val_main_call2_v0_apply, val_main_v21_apply,
    val_main_v20_apply, val_main_cst_2_apply, val_main_v15_1_apply, val_main_call0_v7_apply, val_main_call0_v6_apply,
    val_main_call0_cst_1_apply, Ideal.mulf_def, Ideal.addf_def, Ideal.subf_def, Ideal.ofBits_def, f32_one, eg, eu, es, sgm_real,
    ← EReal.coe_one, ← EReal.coe_mul, ← EReal.coe_sub, ← EReal.coe_add]
  refine congrArg (fun r : ℝ => (r : EReal)) ?_
  ring

include hx hg hwg hwu in
theorem r_eq (i : S8x8192x704.Idx) : val_main_v24 (F := Ideal) x0 x1 x2 x3 i
    = rise (val_main_v13 (F := Ideal) x0 x1 x2 (ix2 (i 1) (colOf (i 0) (i 2))))
      (val_main_v14 (F := Ideal) x0 x1 x3 (ix2 (i 1) (colOf (i 0) (i 2)))) := by
  rw [val_main_v24_apply, val_main_v23_apply, at_r]
  exact r_at hx hg hwg hwu _

end Cert.GateFwdReferenceIdeal.Real

namespace Cert.GateFwd

open Idealize.ShloMosaic Idealize.ShloMosaic.TcCoe Idealize.SL.Sem Cert.Lift

/-- What the precondition says of the four arguments. -/
theorem finite {x : FVec Ideal Cert.GateFwdKernelIdeal.S8192x2048 .f32} {g : FVec Ideal Cert.GateFwdKernelIdeal.S2048 .f32}
    {wg wu : FVec Ideal Cert.GateFwdKernelIdeal.S2048x5632 .f32} (h : Cert.Pre_gate_fwd_finite.fn (F := Ideal) x g wg wu = fun _ => 1#1) :
    (∃ X : Fin 8192 → Fin 2048 → ℝ, ∀ i, x i = ((X (i 0) (i 1) : ℝ) : EReal)) ∧ (∃ G : Fin 2048 → ℝ, ∀ i, g i = ((G (i 0) : ℝ) : EReal))
      ∧ (∃ W : Fin 2048 → Fin 5632 → ℝ, ∀ i, wg i = ((W (i 0) (i 1) : ℝ) : EReal))
      ∧ ∃ W : Fin 2048 → Fin 5632 → ℝ, ∀ i, wu i = ((W (i 0) (i 1) : ℝ) : EReal) := by
  have h0 := congrFun h (fun a => a.elim0)
  dsimp only [Cert.Pre_gate_fwd_finite.fn] at h0
  obtain ⟨h3, hwu⟩ := IntOp.andi_eq_one.1 h0
  obtain ⟨h4, hwg⟩ := IntOp.andi_eq_one.1 h3
  obtain ⟨hx, hg⟩ := IntOp.andi_eq_one.1 h4
  exact ⟨reals2 fun i => finite_of_all x _ (fun _ => f32_top) _ _ _ _ hx i, reals1 fun i => finite_of_all g _ (fun _ => f32_top) _ _ _ _ hg i,
    reals2 fun i => finite_of_all wg _ (fun _ => f32_top) _ _ _ _ hwg i, reals2 fun i => finite_of_all wu _ (fun _ => f32_top) _ _ _ _ hwu i⟩

theorem algebraic : Cert.algebraic_GateFwdKernelIdeal_GateFwdReferenceIdeal_pre_gate_fwd_finite := by
  pair_intro
  · run_from Cert.GateFwdKernelIdeal.Value.run_blocks m g
  · refine (θ_run _ _ _).mono (fun _ h c => ?_) (Cert.GateFwdReferenceIdeal.Value.run m' g')
    obtain ⟨h0, h1, h2, ha⟩ := h c
    obtain ⟨⟨X, hx⟩, ⟨G, hg⟩, ⟨Wg, hwg⟩, Wu, hwu⟩ := finite (hpre c)
    obtain ⟨e0, e1, e2, e3⟩ := hagree c
    refine ⟨h0.trans ?_, h1.trans ?_, h2.trans ?_, ha⟩
    · rw [Cert.GateFwdReferenceIdeal.Read.val_main_v19_eq, e0, e1, e2]
      exact Eq.trans (funext fun i => Cert.GateFwdReferenceIdeal.Real.p_eq _ _ _ i) (Cert.GateFwdKernelIdeal.Real.final_p m c).symm
    · rw [Cert.GateFwdReferenceIdeal.Read.val_main_v24_eq, e0, e1, e2, e3]
      exact Eq.trans (funext fun i => Cert.GateFwdReferenceIdeal.Real.r_eq hx hg hwg hwu i) (Cert.GateFwdKernelIdeal.Real.final_r m c).symm
    · rw [Cert.GateFwdReferenceIdeal.Read.val_main_v27_eq, e0, e1, e2, e3]
      exact Eq.trans (funext fun i => Cert.GateFwdReferenceIdeal.Real.a_eq _ _ _ _ i) (Cert.GateFwdKernelIdeal.Real.final_a m c).symm

theorem frame_kernel : Cert.quiescent_GateFwdKernel := fun m ρ _ => Cert.GateFwdKernel.Gen.frame m ρ
theorem frame_ideal : Cert.quiescent_GateFwdKernelIdeal := fun m ρ _ => Cert.GateFwdKernelIdeal.Gen.frame m ρ
theorem frame_ideal_pre : Cert.quiescent_GateFwdKernelIdeal_pre_gate_fwd_finite := fun m ρ _ => Cert.GateFwdKernelIdeal.Gen.frame m ρ
theorem frame_reference : Cert.quiescent_GateFwdReferenceIdeal := fun m ρ _ =>
  (θ_run Cert.GateFwdReferenceIdeal.defs _ _).mono (fun r h => ⟨fun c => (h c).2.2.2, sem_eq_zero_of_no_sems (by decide) r.2⟩)
    (Cert.GateFwdReferenceIdeal.Value.run m ρ)
theorem frame_reference_pre : Cert.quiescent_GateFwdReferenceIdeal_pre_gate_fwd_finite := fun m ρ _ => frame_reference m ρ trivial

end Cert.GateFwd

end
-- ==== Proof.PoolMean.lean ====
/- The windowed mean over the reals, the doubling of a sum along a cycle read backwards, and two host operations read at an
   index: the running sum from the start and rows taken at a list of places. -/
module

public import proofs.«01_k».proof.Proof.PoolOps
public import proofs.«01_k».proof.Proof.PoolSum

@[expose] public section

set_option maxRecDepth 16384

noncomputable section

namespace Cert.PoolMean

open Idealize.ShloMosaic Idealize.ShloMosaic.TcCoe

/-- The sum over the last `w` positions up to `p`. -/
def last (h : ℕ → ℝ) (w p : ℕ) : ℝ := ∑ j ∈ Finset.range w, if j ≤ p then h (p - j) else 0

/-- The mean over the last `w` positions, those there are, less the position's own entry. -/
def pool (h : ℕ → ℝ) (w p : ℕ) : ℝ := last h w p / ((min (p + 1) w : ℕ) : ℝ) - h p

/-- Two prefixes apart by a window. -/
theorem prefix_sub (h : ℕ → ℝ) (w p : ℕ) :
    (∑ q ∈ Finset.range (p + 1), h q) - ∑ q ∈ Finset.range (p + 1 - w), h q = last h w p := by
  unfold last
  induction w with
  | zero => simp
  | succ w ih =>
    rw [Finset.sum_range_succ (fun j => if j ≤ p then h (p - j) else 0), ← ih]
    by_cases hw : w ≤ p
    · rw [if_pos hw, show p + 1 - w = (p - w) + 1 by omega, Finset.sum_range_succ h (p - w), show p + 1 - (w + 1) = p - w by omega]
      ring
    · rw [if_neg hw, show p + 1 - w = 0 by omega, show p + 1 - (w + 1) = 0 by omega, add_zero]

/-- A sum of `w` terms along a cycle in steps of `d` and the same sum `w` steps further are a sum of `2 w` terms. -/
theorem twice_step (f : ℕ → ℝ) (N d w r : ℕ) :
    (∑ j ∈ Finset.range w, f ((r + d * j) % N)) + ∑ j ∈ Finset.range w, f (((r + d * w) % N + d * j) % N)
      = ∑ j ∈ Finset.range (w + w), f ((r + d * j) % N) := by
  rw [Finset.sum_range_add]
  congr 1
  refine Finset.sum_congr rfl fun j _ => ?_
  rw [Nat.mod_add_mod, Nat.add_assoc, Nat.mul_add]

variable {N M G P : ℕ}

/-- The running sum of rows from the start, as a window over the rows before. -/
theorem prefix_rows {o : ℕ} (ho : o + 1 = N) (x : Shape.Idx ⟨4, ![1, N, G, P]⟩ → EReal)
    (h : (⟨4, ![1, N, G, P]⟩ : Shape).ReduceWindows ![1, N, 1, 1] ![1, 1, 1, 1] ![0, o, 0, 0] ![0, 0, 0, 0] ⟨4, ![1, N, G, P]⟩)
    (t : Fin N) (g : Fin G) (k : Fin P) (U : ℕ → ℝ) (hx : ∀ p : Fin N, x (ix4 0 p g k) = ((U p.val : ℝ) : EReal)) :
    Ideal.hostReduceWindowAdd ![1, N, 1, 1] ![1, 1, 1, 1] ![0, o, 0, 0] ![0, 0, 0, 0] h x 0 (ix4 0 t g k)
      = ((∑ q ∈ Finset.range (t.val + 1), U q : ℝ) : EReal) := by
  unfold Ideal.hostReduceWindowAdd Host.reduceWindow
  have ht := t.isLt
  refine Eq.trans (b := (List.finRange (⟨4, ![1, N, 1, 1]⟩ : Shape).numel).foldl
    (fun (r : EReal) n => r + (((if o ≤ t.val + n.val then U (t.val + n.val - o) else 0 : ℝ)) : EReal)) 0) ?_ ?_
  · refine List.foldl_ext _ _ _ fun r n _ => congrArg (r + ·) ?_
    have hn : n.val < N := lt_of_lt_of_eq n.isLt PoolOps.numel_rows
    have w1 : ((⟨4, ![1, N, 1, 1]⟩ : Shape).rowMajor.symm n 1).val = n.val := by rw [PoolOps.symm_rows]; rfl
    have w0 : ((⟨4, ![1, N, 1, 1]⟩ : Shape).rowMajor.symm n 0).val = 0 := by rw [PoolOps.symm_rows]; rfl
    have w2 : ((⟨4, ![1, N, 1, 1]⟩ : Shape).rowMajor.symm n 2).val = 0 := by rw [PoolOps.symm_rows]; rfl
    have w3 : ((⟨4, ![1, N, 1, 1]⟩ : Shape).rowMajor.symm n 3).val = 0 := by rw [PoolOps.symm_rows]; rfl
    split
    · next hin =>
      have h1 := hin 1
      change o ≤ t.val * 1 + ((⟨4, ![1, N, 1, 1]⟩ : Shape).rowMajor.symm n 1).val
        ∧ t.val * 1 + ((⟨4, ![1, N, 1, 1]⟩ : Shape).rowMajor.symm n 1).val - o < N at h1
      rw [w1] at h1
      rw [if_pos (by omega)]
      refine (congrArg x (funext fun a => Fin.ext ?_)).trans (hx ⟨t.val + n.val - o, by omega⟩)
      match a with
      | ⟨0, _⟩ =>
        show 0 * 1 + ((⟨4, ![1, N, 1, 1]⟩ : Shape).rowMajor.symm n 0).val - 0 = 0
        rw [w0]
      | ⟨1, _⟩ =>
        show t.val * 1 + ((⟨4, ![1, N, 1, 1]⟩ : Shape).rowMajor.symm n 1).val - o = t.val + n.val - o
        rw [w1]; omega
      | ⟨2, _⟩ =>
        show g.val * 1 + ((⟨4, ![1, N, 1, 1]⟩ : Shape).rowMajor.symm n 2).val - 0 = g.val
        rw [w2]; omega
      | ⟨3, _⟩ =>
        show k.val * 1 + ((⟨4, ![1, N, 1, 1]⟩ : Shape).rowMajor.symm n 3).val - 0 = k.val
        rw [w3]; omega
    · next hin =>
      rw [if_neg fun hlt => hin fun a => by
        match a with
        | ⟨0, _⟩ =>
          show 0 ≤ 0 * 1 + ((⟨4, ![1, N, 1, 1]⟩ : Shape).rowMajor.symm n 0).val
            ∧ 0 * 1 + ((⟨4, ![1, N, 1, 1]⟩ : Shape).rowMajor.symm n 0).val - 0 < 1
          rw [w0]; omega
        | ⟨1, _⟩ =>
          show o ≤ t.val * 1 + ((⟨4, ![1, N, 1, 1]⟩ : Shape).rowMajor.symm n 1).val
            ∧ t.val * 1 + ((⟨4, ![1, N, 1, 1]⟩ : Shape).rowMajor.symm n 1).val - o < N
          rw [w1]; omega
        | ⟨2, _⟩ =>
          show 0 ≤ g.val * 1 + ((⟨4, ![1, N, 1, 1]⟩ : Shape).rowMajor.symm n 2).val
            ∧ g.val * 1 + ((⟨4, ![1, N, 1, 1]⟩ : Shape).rowMajor.symm n 2).val - 0 < G
          rw [w2]; have := g.isLt; omega
        | ⟨3, _⟩ =>
          show 0 ≤ k.val * 1 + ((⟨4, ![1, N, 1, 1]⟩ : Shape).rowMajor.symm n 3).val
            ∧ k.val * 1 + ((⟨4, ![1, N, 1, 1]⟩ : Shape).rowMajor.symm n 3).val - 0 < P
          rw [w3]; have := k.isLt; omega]
      rfl
  · have e : ∑ q ∈ Finset.range (t.val + 1), U q = ∑ q ∈ Finset.range N, if o ≤ t.val + q then U (t.val + q - o) else 0 := by
      rw [← Finset.sum_filter]
      refine Finset.sum_nbij' (fun q => q + o - t.val) (fun q => t.val + q - o) ?_ ?_ ?_ ?_ ?_
      · intro q hq
        simp only [Finset.mem_filter, Finset.mem_range] at hq ⊢
        omega
      · intro q hq
        simp only [Finset.mem_filter, Finset.mem_range] at hq ⊢
        omega
      · intro q hq
        simp only [Finset.mem_range] at hq
        show t.val + (q + o - t.val) - o = q
        omega
      · intro q hq
        simp only [Finset.mem_filter, Finset.mem_range] at hq
        show t.val + q - o + o - t.val = q
        omega
      · intro q hq
        simp only [Finset.mem_range] at hq
        show U q = U (t.val + (q + o - t.val) - o)
        congr 1
        omega
    rw [PoolOps.foldl_add, zero_add, e, Finset.sum_range fun q => if o ≤ t.val + q then U (t.val + q - o) else 0, ← Lift.coe_sum]
    rw [← List.ofFn_eq_map, List.sum_ofFn]
    exact Fintype.sum_equiv (finCongr PoolOps.numel_rows) _ _ fun n => rfl

section gather
variable (wf : GatherDims.WF (⟨4, ![1, M, G, P]⟩ : Shape) ⟨2, ![N, 2]⟩ ⟨3, ![1, N, P]⟩ [0, 2] [1, 2] [] [1, 2] [] 1 ![1, 1, 1, P])

/-- Rows taken at (row, group) places. -/
abbrev dims : GatherDims (⟨4, ![1, M, G, P]⟩ : Shape) ⟨2, ![N, 2]⟩ ⟨3, ![1, N, P]⟩ := ⟨[0, 2], [1, 2], [], [], [1, 2], 1, ![1, 1, 1, P], wf⟩

theorem si_coord (i : Shape.Idx ⟨3, ![1, N, P]⟩) (q : Fin 2) : (dims wf).siIdx i q = ix2 (i 1) q := by
  funext b
  match b with
  | ⟨0, _⟩ => rfl
  | ⟨1, _⟩ => rfl

/-- A row taken at the place a list names. -/
theorem gather_rows {α : Type} (x : Shape.Idx ⟨4, ![1, M, G, P]⟩ → α) (idx : IVec ⟨2, ![N, 2]⟩ 32) (p : Fin N) (k : Fin P) (j : Fin M) (g : Fin G)
    (h0 : (idx (ix2 p 0)).toInt = (j.val : ℤ)) (h1 : (idx (ix2 p 1)).toInt = (g.val : ℤ)) :
    Host.gather (dims wf) x idx (ix3 0 p k) = x (ix4 0 j g k) := by
  unfold Host.gather
  have c1 : (idx ((dims wf).siIdx (ix3 0 p k) (0 : Fin 2))).toInt = (j.val : ℤ) := (congrArg (fun a => (idx a).toInt) (si_coord wf _ 0)).trans h0
  have c2 : (idx ((dims wf).siIdx (ix3 0 p k) (1 : Fin 2))).toInt = (g.val : ℤ) := (congrArg (fun a => (idx a).toInt) (si_coord wf _ 1)).trans h1
  have s0 : (dims wf).start (ix3 0 p k) idx 0 = 0 := rfl
  have s1 : (dims wf).start (ix3 0 p k) idx 1 = min (idx ((dims wf).siIdx (ix3 0 p k) (0 : Fin 2))).toInt.toNat (M - 1) := rfl
  have s2 : (dims wf).start (ix3 0 p k) idx 2 = min (idx ((dims wf).siIdx (ix3 0 p k) (1 : Fin 2))).toInt.toNat (G - 1) := rfl
  have s3 : (dims wf).start (ix3 0 p k) idx 3 = 0 := rfl
  rw [c1, Int.toNat_natCast, Nat.min_eq_left (by have := j.isLt; omega)] at s1
  rw [c2, Int.toNat_natCast, Nat.min_eq_left (by have := g.isLt; omega)] at s2
  have b (a) : (dims wf).batchCoord (ix3 0 p k) a = 0 := rfl
  have o0 : (dims wf).offCoord (ix3 0 p k) 0 = 0 := rfl
  have o1 : (dims wf).offCoord (ix3 0 p k) 1 = 0 := rfl
  have o2 : (dims wf).offCoord (ix3 0 p k) 2 = 0 := rfl
  have o3 : (dims wf).offCoord (ix3 0 p k) 3 = k.val := rfl
  refine congrArg x (funext fun a => Fin.ext ?_)
  show (dims wf).start (ix3 0 p k) idx a + (dims wf).batchCoord (ix3 0 p k) a + (dims wf).offCoord (ix3 0 p k) a = _
  rw [b a]
  match a with
  | ⟨0, _⟩ => exact (congrArg₂ (fun a b => a + 0 + b) s0 o0)
  | ⟨1, _⟩ => exact (congrArg₂ (fun a b => a + 0 + b) s1 o1)
  | ⟨2, _⟩ => exact (congrArg₂ (fun a b => a + 0 + b) s2 o2)
  | ⟨3, _⟩ => exact (congrArg₂ (fun a b => a + 0 + b) s3 o3).trans (show 0 + 0 + k.val = k.val by omega)
end gather

end Cert.PoolMean

end
-- ==== Proof.PoolFwdKer.lean ====
/- The pooling mixer's forward kernel over the reals: the sums the rolled tile holds, the mixed rows with the residual, their
   norm, and the four result arrays. -/
module

public import proofs.«01_k».proof.Proof.PoolMean
public import proofs.«01_k».proof.Proof.NormFwd
public import proofs.«01_k».proof.Proof.PoolMixKer
public import proofs.«01_k».proof.Proof.PoolWindowKer
public import proofs.«01_k».proof.Proof.Gen.PoolFwdKernelIdeal.Value
public import Idealize.ShloMosaic.Lib.KernelVsHost
public import Idealize.ShloMosaic.Lib.Pipeline.ValueKit
public import Idealize.ShloMosaic.Lib.Claim
public import Idealize.ShloMosaic.Lib.StableHlo.RunRead

@[expose] public section

set_option maxRecDepth 16384

noncomputable section

namespace Cert.PoolFwdKernelIdeal.Real

open Cert.PoolFwdKernelIdeal Cert.PoolFwdKernelIdeal.Gen Idealize.ShloMosaic Idealize.ShloMosaic.TcCoe Idealize.SL.Sem Cert.Lift Cert.PoolSum Cert.PoolMean
open Idealize.ShloMosaic.Pipeline (Dat)
open Cert.PoolMixKernelIdeal.Real (grp lane mate)
open Cert.PoolWindowKernelIdeal.Real (ld2 count place)
open Cert.NormFwd (root scaled root_congr)

/-! ## The rolled tile -/

/-- The rows before a tile of one group, joined to the tile. -/
def joined (i : BitVec 32) (v : FVec Ideal S512x512 .f32) (h : FVec Ideal S16x512 .f32) : FVec Ideal S528x512 .f32 :=
  concatenate S528x512 0 [
    ⟨S16x512, Scalar.select (Scalar.cmpi .sgt i 0#32) h (broadcast S16x512 (Scalar.ofBits (F := Ideal) .f32 0x00000000#32))⟩,
    ⟨S512x512, v⟩] concatenates_S16x512_S512x512_S528x512_d0

/-- An array plus itself rolled along the rows. -/
def turn (n : BitVec 32) (A : FVec Ideal S528x512 .f32) : FVec Ideal S528x512 .f32 :=
  addf A (dynamicRotate 0 n none A rotates_S528x512_d0)

theorem turn_apply {A : FVec Ideal S528x512 .f32} {f : Fin 512 → ℕ → ℝ} (n : BitVec 32) (w : ℕ) (hw : w < 528) (hn : n.toNat = w)
    (hA : ∀ r k, A (ix2 r k) = ((∑ j ∈ Finset.range w, f k ((r.val + 527 * j) % 528) : ℝ) : EReal)) (r : Fin 528) (k : Fin 512) :
    turn n A (ix2 r k) = ((∑ j ∈ Finset.range (w + w), f k ((r.val + 527 * j) % 528) : ℝ) : EReal) := by
  show A (ix2 r k) + dynamicRotate 0 n none A rotates_S528x512_d0 (ix2 r k) = _
  rw [dynamicRotate_apply 0 n A rotates_S528x512_d0 (ix2 r k) (ix2 ⟨(r.val + 527 * w) % 528, Nat.mod_lt _ (by omega)⟩ k) (by
    intro b
    match b with
    | ⟨0, _⟩ =>
      show (r.val + 527 * w) % 528 = (r.val + 528 - n.toNat % 528) % 528
      have := r.isLt
      rw [hn]
      omega
    | ⟨1, _⟩ => rfl), hA, hA, ← EReal.coe_add, ← twice_step]

theorem above {t : ℕ} (ht : t < 16) : Scalar.cmpi .sgt (BitVec.ofNat 32 t) 0#32 = BitVec.ofBool (decide (0 < t)) :=
  (by decide : ∀ t : Fin 16, Scalar.cmpi .sgt (BitVec.ofNat 32 t.val) 0#32 = BitVec.ofBool (decide (0 < t.val))) ⟨t, ht⟩

/-- Row `q` of the joined tile, over the whole sequence. -/
def line (D : ℕ → ℝ) (t q : ℕ) : ℝ := if 16 ≤ t * 512 + q then D (t * 512 + q - 16) else 0

/-- The windowed mean of a tile from its summed rows. -/
def meaned (i w : BitVec 32) (A : FVec Ideal S528x512 .f32) (v : FVec Ideal S512x512 .f32) : FVec Ideal S512x512 .bf16 :=
  truncf .bf16 (subf (divf (extractStridedSlice S512x512 ![16, 0] A slices_S528x512_o16_0_S512x512)
    (broadcastTo S512x512 (sitofp .f32 (minsi (addi (addi (broadcast S512x1 (Scalar.muli i 512#32))
      (iota .tc S512x1 32 [0] iota_S512x1_d0_w32)) (broadcast S512x1 1#32)) (broadcast S512x1 w))) broadcasts_S512x1_S512x512)) v) bitsLt_bf16_f32

section Tile

variable {t : ℕ} (ht : t < 16) {v : FVec Ideal S512x512 .f32} {h : FVec Ideal S16x512 .f32} {D : ℕ → Fin 512 → ℝ}
  (hv : ∀ r k, v (ix2 r k) = ((D (t * 512 + r.val) k : ℝ) : EReal))
  (hh : 0 < t → ∀ r k, h (ix2 r k) = ((D (t * 512 + r.val - 16) k : ℝ) : EReal))
include ht hv hh

theorem joined_apply (r : Fin 528) (k : Fin 512) : joined (BitVec.ofNat 32 t) v h (ix2 r k)
      = ((∑ j ∈ Finset.range 1, line (fun p => D p k) t ((r.val + 527 * j) % 528) : ℝ) : EReal) := by
  have hr := r.isLt
  rw [Finset.sum_range_one, Nat.mul_zero, Nat.add_zero, Nat.mod_eq_of_lt hr]
  unfold line
  pointwise [joined]
  split
  · rename_i hlt
    rw [above ht, Scalar.select_ofBool]
    by_cases h0 : 0 < t
    · rw [if_pos (by simpa using h0), hh h0, if_pos (by omega)]
    · rw [if_neg (by simpa using h0), if_neg (by have : r.val < 16 := hlt; omega)]
      rfl
  · rename_i hlt
    have hlt : 16 ≤ r.val := not_lt.1 hlt
    refine (hv _ _).trans ?_
    refine Eq.trans ?_ (congrArg (fun a : ℝ => (a : EReal)) (if_pos (show 16 ≤ t * 512 + r.val by omega)).symm)
    refine congrArg (fun q => ((D q k : ℝ) : EReal)) ?_
    show t * 512 + (r.val - 16) = _
    omega

omit hh in
theorem meaned_apply {A : FVec Ideal S528x512 .f32} (w : ℕ) (hw : 0 < w) (hw' : w ≤ 16)
    (hA : ∀ r k, A (ix2 r k) = ((∑ j ∈ Finset.range w, line (fun p => D p k) t ((r.val + 527 * j) % 528) : ℝ) : EReal)) (r k : Fin 512) :
    meaned (BitVec.ofNat 32 t) (BitVec.ofNat 32 w) A v (ix2 r k) = ((pool (fun p => D p k) w (t * 512 + r.val) : ℝ) : EReal) := by
  have hr := r.isLt
  have hc : ((min (t * 512 + r.val + 1) w : ℕ) : ℝ) ≠ 0 := by
    have : min (t * 512 + r.val + 1) w ≠ 0 := by omega
    exact_mod_cast this
  have e : (∑ j ∈ Finset.range w, line (fun p => D p k) t ((16 + r.val + 527 * j) % 528)) = last (fun p => D p k) w (t * 512 + r.val) := by
    refine Finset.sum_congr rfl fun j hj => ?_
    have := Finset.mem_range.1 hj
    rw [show (16 + r.val + 527 * j) % 528 = 16 + r.val - j by omega]
    unfold line
    by_cases h1 : j ≤ t * 512 + r.val
    · rw [if_pos h1, if_pos (by omega), show t * 512 + (16 + r.val - j) - 16 = t * 512 + r.val - j by omega]
    · rw [if_neg h1, if_neg (by omega)]
  pointwise [meaned]
  rw [place, count hw (by omega) (by omega), hA, hv]
  show Ideal.div ((∑ j ∈ Finset.range w, line (fun p => D p k) t ((16 + r.val + 527 * j) % 528) : ℝ) : EReal) _ - _ = _
  rw [e, coe_div hc, ← EReal.coe_sub]
  rfl

theorem pay5 (r k : Fin 512) (i : grid0.Coords) (hi : (i 0).val = t) :
    k0_pay5 (F := Ideal) i v h (ix2 r k) = ((pool (fun p => D p k) 2 (t * 512 + r.val) : ℝ) : EReal) := by
  subst hi
  exact meaned_apply ht hv 2 (by omega) (by omega) (turn_apply (f := fun k q => line (fun p => D p k) (i 0).val q) 1#32 1 (by omega) rfl
    (joined_apply ht hv hh)) r k

theorem pay7 (r k : Fin 512) :
    k0_pay7 (F := Ideal) (BitVec.ofNat 32 t) v h (ix2 r k) = ((pool (fun p => D p k) 4 (t * 512 + r.val) : ℝ) : EReal) :=
  meaned_apply ht hv 4 (by omega) (by omega) (turn_apply (f := fun k q => line (fun p => D p k) t q) 2#32 2 (by omega) rfl
    (turn_apply (f := fun k q => line (fun p => D p k) t q) 1#32 1 (by omega) rfl (joined_apply ht hv hh))) r k

theorem pay9 (r k : Fin 512) :
    k0_pay9 (F := Ideal) (BitVec.ofNat 32 t) v h (ix2 r k) = ((pool (fun p => D p k) 8 (t * 512 + r.val) : ℝ) : EReal) :=
  meaned_apply ht hv 8 (by omega) (by omega) (turn_apply (f := fun k q => line (fun p => D p k) t q) 4#32 4 (by omega) rfl
    (turn_apply (f := fun k q => line (fun p => D p k) t q) 2#32 2 (by omega) rfl
    (turn_apply (f := fun k q => line (fun p => D p k) t q) 1#32 1 (by omega) rfl (joined_apply ht hv hh)))) r k

theorem pay11 (r k : Fin 512) :
    k0_pay11 (F := Ideal) (BitVec.ofNat 32 t) v h (ix2 r k) = ((pool (fun p => D p k) 16 (t * 512 + r.val) : ℝ) : EReal) :=
  meaned_apply ht hv 16 (by omega) (by omega) (turn_apply (f := fun k q => line (fun p => D p k) t q) 8#32 8 (by omega) rfl
    (turn_apply (f := fun k q => line (fun p => D p k) t q) 4#32 4 (by omega) rfl
    (turn_apply (f := fun k q => line (fun p => D p k) t q) 2#32 2 (by omega) rfl
    (turn_apply (f := fun k q => line (fun p => D p k) t q) 1#32 1 (by omega) rfl (joined_apply ht hv hh))))) r k

end Tile

/-! ## A group's product, scaled and added to the residual -/

/-- A tile's rows plus the scaled product of the pooled tile with the group's matrix. -/
def mixTile (A : FVec Ideal S512x512 .bf16) (w : FVec Ideal S1x512x512 .bf16) (x : FVec Ideal S512x512 .f32) (s : FVec Ideal S1x512 .f32) : FVec Ideal S512x512 .f32 :=
  addf x (mulf (matmul dot_S512x512_S512x512_S512x512_1_0_0_1_n_n none A (shapeCast S512x512 w shapeCasts_S1x512x512_S512x512)
    (constant S512x512 .f32 0x00000000#32)) (broadcastTo S512x512 (shapeCast S1x512 s shapeCasts_S1x512_S1x512) broadcasts_S1x512_S512x512))

theorem mixTile_apply (A w x s) (r k : Fin 512) : mixTile A w x s (ix2 r k)
    = x (ix2 r k) + (∑ q : Fin 512, A (ix2 r q) * w (ix3 0 q k)) * s (ix2 0 k) := by
  pointwise [mixTile]

/-! ## A tile -/

/-- The four stores of the mixed rows, the last first. -/
abbrev pieces (i : grid0.Coords) (B0 : FVec Ideal S512x2048 .f32) (B1 : FVec Ideal S16x2048 .f32) (B2 : FVec Ideal S512x2048 .f32)
    (B3 : FVec Ideal S4x512x512 .bf16) (B4 : FVec Ideal S1x2048 .f32) : List (View.Piece (Elt Ideal) S512x2048 .f32) :=
  [⟨Rect.unit ![0, 1536] ![512, 512] inb_S512x2048_S512x512_0_1536,
      k0_pay1 (F := Ideal) (k0_pay12 (BitVec.ofNat 32 (i 0).val)
          (View.ld (Val := Elt Ideal) (e' := .f32) B0 (Rect.unit ![0, 1536] ![512, 512] inb_S512x2048_S512x512_0_1536))
          (View.ld (Val := Elt Ideal) (e' := .f32) B1 (Rect.unit ![0, 1536] ![16, 512] inb_S16x2048_S16x512_0_1536))
          (View.ld (Val := Elt Ideal) (e' := .bf16) B3 (Rect.unit ![3, 0, 0] ![1, 512, 512] inb_S4x512x512_S1x512x512_3_0_0)))
        (View.ld (Val := Elt Ideal) (e' := .f32) B2 (Rect.unit ![0, 1536] ![512, 512] inb_S512x2048_S512x512_0_1536))
        (k0_pay13 (View.ld (Val := Elt Ideal) (e' := .f32) B4 (Rect.unit ![0, 1536] ![1, 512] inb_S1x2048_S1x512_0_1536)))⟩,
    ⟨Rect.unit ![0, 1024] ![512, 512] inb_S512x2048_S512x512_0_1024,
      k0_pay10 (F := Ideal) (BitVec.ofNat 32 (i 0).val)
        (View.ld (Val := Elt Ideal) (e' := .f32) B0 (Rect.unit ![0, 1024] ![512, 512] inb_S512x2048_S512x512_0_1024))
        (View.ld (Val := Elt Ideal) (e' := .f32) B1 (Rect.unit ![0, 1024] ![16, 512] inb_S16x2048_S16x512_0_1024))
        (View.ld (Val := Elt Ideal) (e' := .bf16) B3 (Rect.unit ![2, 0, 0] ![1, 512, 512] inb_S4x512x512_S1x512x512_2_0_0))
        (View.ld (Val := Elt Ideal) (e' := .f32) B2 (Rect.unit ![0, 1024] ![512, 512] inb_S512x2048_S512x512_0_1024))
        (View.ld (Val := Elt Ideal) (e' := .f32) B4 (Rect.unit ![0, 1024] ![1, 512] inb_S1x2048_S1x512_0_1024))⟩,
    ⟨Rect.unit ![0, 512] ![512, 512] inb_S512x2048_S512x512_0_512,
      k0_pay8 (F := Ideal) (BitVec.ofNat 32 (i 0).val)
        (View.ld (Val := Elt Ideal) (e' := .f32) B0 (Rect.unit ![0, 512] ![512, 512] inb_S512x2048_S512x512_0_512))
        (View.ld (Val := Elt Ideal) (e' := .f32) B1 (Rect.unit ![0, 512] ![16, 512] inb_S16x2048_S16x512_0_512))
        (View.ld (Val := Elt Ideal) (e' := .bf16) B3 (Rect.unit ![1, 0, 0] ![1, 512, 512] inb_S4x512x512_S1x512x512_1_0_0))
        (View.ld (Val := Elt Ideal) (e' := .f32) B2 (Rect.unit ![0, 512] ![512, 512] inb_S512x2048_S512x512_0_512))
        (View.ld (Val := Elt Ideal) (e' := .f32) B4 (Rect.unit ![0, 512] ![1, 512] inb_S1x2048_S1x512_0_512))⟩,
    ⟨Rect.unit ![0, 0] ![512, 512] inb_S512x2048_S512x512_0_0,
      k0_pay6 (F := Ideal) i
        (View.ld (Val := Elt Ideal) (e' := .f32) B0 (Rect.unit ![0, 0] ![512, 512] inb_S512x2048_S512x512_0_0))
        (View.ld (Val := Elt Ideal) (e' := .f32) B1 (Rect.unit ![0, 0] ![16, 512] inb_S16x2048_S16x512_0_0))
        (View.ld (Val := Elt Ideal) (e' := .bf16) B3 (Rect.unit ![0, 0, 0] ![1, 512, 512] inb_S4x512x512_S1x512x512_0_0_0))
        (View.ld (Val := Elt Ideal) (e' := .f32) B2 (Rect.unit ![0, 0] ![512, 512] inb_S512x2048_S512x512_0_0))
        (View.ld (Val := Elt Ideal) (e' := .f32) B4 (Rect.unit ![0, 0] ![1, 512] inb_S1x2048_S1x512_0_0))⟩]

/-- The four stores of the pooled rows, the last first. -/
abbrev means (i : grid0.Coords) (B0 : FVec Ideal S512x2048 .f32) (B1 : FVec Ideal S16x2048 .f32) : List (View.Piece (Elt Ideal) S512x2048 .bf16) :=
  [⟨Rect.unit ![0, 1536] ![512, 512] inb_S512x2048_S512x512_0_1536,
      k0_pay11 (F := Ideal) (BitVec.ofNat 32 (i 0).val)
        (View.ld (Val := Elt Ideal) (e' := .f32) B0 (Rect.unit ![0, 1536] ![512, 512] inb_S512x2048_S512x512_0_1536))
        (View.ld (Val := Elt Ideal) (e' := .f32) B1 (Rect.unit ![0, 1536] ![16, 512] inb_S16x2048_S16x512_0_1536))⟩,
    ⟨Rect.unit ![0, 1024] ![512, 512] inb_S512x2048_S512x512_0_1024,
      k0_pay9 (F := Ideal) (BitVec.ofNat 32 (i 0).val)
        (View.ld (Val := Elt Ideal) (e' := .f32) B0 (Rect.unit ![0, 1024] ![512, 512] inb_S512x2048_S512x512_0_1024))
        (View.ld (Val := Elt Ideal) (e' := .f32) B1 (Rect.unit ![0, 1024] ![16, 512] inb_S16x2048_S16x512_0_1024))⟩,
    ⟨Rect.unit ![0, 512] ![512, 512] inb_S512x2048_S512x512_0_512,
      k0_pay7 (F := Ideal) (BitVec.ofNat 32 (i 0).val)
        (View.ld (Val := Elt Ideal) (e' := .f32) B0 (Rect.unit ![0, 512] ![512, 512] inb_S512x2048_S512x512_0_512))
        (View.ld (Val := Elt Ideal) (e' := .f32) B1 (Rect.unit ![0, 512] ![16, 512] inb_S16x2048_S16x512_0_512))⟩,
    ⟨Rect.unit ![0, 0] ![512, 512] inb_S512x2048_S512x512_0_0,
      k0_pay5 (F := Ideal) i
        (View.ld (Val := Elt Ideal) (e' := .f32) B0 (Rect.unit ![0, 0] ![512, 512] inb_S512x2048_S512x512_0_0))
        (View.ld (Val := Elt Ideal) (e' := .f32) B1 (Rect.unit ![0, 0] ![16, 512] inb_S16x2048_S16x512_0_0))⟩]

/-- A load of one group's matrix. -/
theorem ld3 (B : FVec Ideal S4x512x512 .bf16) {g : ℕ} (hin) (q k : Fin 512) (γ : Fin 4) (hg : γ.val = g) :
    View.ld (Val := Elt Ideal) (e' := .bf16) (S := S4x512x512) B (Rect.unit ![g, 0, 0] ![1, 512, 512] hin) (ix3 0 q k) = B (ix3 γ q k) :=
  View.ld_unit_apply_of (Val := Elt Ideal) (e := .bf16) (S := S4x512x512) B _ _ _ _ _ fun a => match a with
    | ⟨0, _⟩ => hg
    | ⟨1, _⟩ => (Nat.zero_add _).symm
    | ⟨2, _⟩ => (Nat.zero_add _).symm

/-- Four stores, one for each quarter of the columns, hold what each of them holds in its quarter. -/
theorem four (P3 P2 P1 P0 : FVec Ideal S512x512 .f32) (y : S512x2048.Idx) (v : EReal)
    (k3 : ∀ x0 x1 : Fin 512, (y 0).val = x0.val → (y 1).val = 1536 + x1.val → P3 (ix2 x0 x1) = v)
    (k2 : ∀ x0 x1 : Fin 512, (y 0).val = x0.val → (y 1).val = 1024 + x1.val → P2 (ix2 x0 x1) = v)
    (k1 : ∀ x0 x1 : Fin 512, (y 0).val = x0.val → (y 1).val = 512 + x1.val → P1 (ix2 x0 x1) = v)
    (k0 : ∀ x0 x1 : Fin 512, (y 0).val = x0.val → (y 1).val = 0 + x1.val → P0 (ix2 x0 x1) = v) :
    View.canon (Val := Elt Ideal) (e := .f32) (s := S512x2048) [⟨Rect.unit ![0, 1536] ![512, 512] inb_S512x2048_S512x512_0_1536, P3⟩,
      ⟨Rect.unit ![0, 1024] ![512, 512] inb_S512x2048_S512x512_0_1024, P2⟩,
      ⟨Rect.unit ![0, 512] ![512, 512] inb_S512x2048_S512x512_0_512, P1⟩,
      ⟨Rect.unit ![0, 0] ![512, 512] inb_S512x2048_S512x512_0_0, P0⟩] y = v := by
  canon_tiles x h
  all_goals idx_vars x
  · exact k3 x0 x1 (by assumption) (by assumption)
  · exact k2 x0 x1 (by assumption) (by assumption)
  · exact k1 x0 x1 (by assumption) (by assumption)
  · exact k0 x0 x1 (by assumption) (by omega)

theorem part0 {t : ℕ} {B0 : FVec Ideal S512x2048 .f32} {D : ℕ → Fin 2048 → ℝ} (hB0 : ∀ r k, B0 (ix2 r k) = ((D (t * 512 + r.val) k : ℝ) : EReal))
    (o : ℕ) (ho : o + 512 ≤ 2048) (hin) (r k : Fin 512) :
    View.ld (Val := Elt Ideal) (e' := .f32) B0 (Rect.unit ![0, o] ![512, 512] hin) (ix2 r k)
      = ((D (t * 512 + r.val) ⟨o + k.val, by omega⟩ : ℝ) : EReal) :=
  (ld2 _ _ r k r ⟨o + k.val, by omega⟩ (Nat.zero_add _).symm rfl).trans (hB0 r _)

theorem part1 {t : ℕ} {B1 : FVec Ideal S16x2048 .f32} {D : ℕ → Fin 2048 → ℝ}
    (hB1 : 0 < t → ∀ r k, B1 (ix2 r k) = ((D (t * 512 + r.val - 16) k : ℝ) : EReal))
    (o : ℕ) (ho : o + 512 ≤ 2048) (hin) (h0 : 0 < t) (r : Fin 16) (k : Fin 512) :
    View.ld (Val := Elt Ideal) (e' := .f32) B1 (Rect.unit ![0, o] ![16, 512] hin) (ix2 r k)
      = ((D (t * 512 + r.val - 16) ⟨o + k.val, by omega⟩ : ℝ) : EReal) :=
  (ld2 _ _ r k r ⟨o + k.val, by omega⟩ (Nat.zero_add _).symm rfl).trans (hB1 h0 r _)

section Whole

variable {t : ℕ} (ht : t < 16) {i : grid0.Coords} (hi : (i 0).val = t) {B0 : FVec Ideal S512x2048 .f32} {B1 : FVec Ideal S16x2048 .f32}
  {D : ℕ → Fin 2048 → ℝ} (hB0 : ∀ r k, B0 (ix2 r k) = ((D (t * 512 + r.val) k : ℝ) : EReal))
  (hB1 : 0 < t → ∀ r k, B1 (ix2 r k) = ((D (t * 512 + r.val - 16) k : ℝ) : EReal))
include hB0 hB1

include ht hi

/-- What the pooled rows' tile holds: each column the windowed mean of its group. -/
theorem pooled_tile (y : S512x2048.Idx) : View.canon (means i B0 B1) y
    = ((pool (fun p => D p (y 1)) (win (y 1)) (t * 512 + (y 0).val) : ℝ) : EReal) := by
  have fin (o w γ : ℕ) (ho : o + 512 ≤ 2048) (hw : 2 ^ (γ + 1) = w) (hd : o = γ * 512) (x0 x1 : Fin 512) (h0 : (y 0).val = x0.val)
      (h1 : (y 1).val = o + x1.val) : pool (fun p => D p ⟨o + x1.val, by omega⟩) w (t * 512 + x0.val)
        = pool (fun p => D p (y 1)) (win (y 1)) (t * 512 + (y 0).val) := by
    rw [show y 1 = (⟨o + x1.val, by omega⟩ : Fin 2048) from Fin.ext h1, h0, win, ← hw]
    show _ = pool _ (2 ^ ((o + x1.val) / 512 + 1)) _
    rw [show (o + x1.val) / 512 = γ by have := x1.isLt; omega]
  unfold means
  rw [hi]
  canon_tiles x h
  all_goals idx_vars x
  · exact (pay11 ht (D := fun p k => D p ⟨1536 + k.val, by omega⟩) (part0 hB0 1536 (by omega) _) (part1 hB1 1536 (by omega) _) x0 x1).trans
      (congrArg _ (fin 1536 16 3 (by omega) rfl rfl x0 x1 h0 h1))
  · exact (pay9 ht (D := fun p k => D p ⟨1024 + k.val, by omega⟩) (part0 hB0 1024 (by omega) _) (part1 hB1 1024 (by omega) _) x0 x1).trans
      (congrArg _ (fin 1024 8 2 (by omega) rfl rfl x0 x1 h0 h1))
  · exact (pay7 ht (D := fun p k => D p ⟨512 + k.val, by omega⟩) (part0 hB0 512 (by omega) _) (part1 hB1 512 (by omega) _) x0 x1).trans
      (congrArg _ (fin 512 4 1 (by omega) rfl rfl x0 x1 h0 h1))
  · exact (pay5 ht (D := fun p k => D p ⟨0 + k.val, by omega⟩) (part0 hB0 0 (by omega) _) (part1 hB1 0 (by omega) _) x0 x1 i hi).trans
      (congrArg _ (fin 0 2 0 (by omega) rfl rfl x0 x1 h0 (h1.trans (Nat.zero_add _).symm)))

/-- What the mixed rows' tile holds. -/
theorem xo_tile (B2 : FVec Ideal S512x2048 .f32) (B3 : FVec Ideal S4x512x512 .bf16) (B4 : FVec Ideal S1x2048 .f32) (a : Fin 512) (b : Fin 2048) :
    View.canon (pieces i B0 B1 B2 B3 B4) (ix2 a b)
    = B2 (ix2 a b) + (∑ q : Fin 512, ((pool (fun p => D p (mate b q)) (win b) (t * 512 + a.val) : ℝ) : EReal)
        * B3 (ix3 (grp b) q (lane b))) * B4 (ix2 0 b) := by
  have fin (o w : ℕ) (γ : Fin 4) (ho : o + 512 ≤ 2048) (hw : 2 ^ (γ.val + 1) = w) (hd : o = γ.val * 512) (A : FVec Ideal S512x512 .bf16)
      (hA : ∀ r k, A (ix2 r k) = ((pool (fun p => D p ⟨o + k.val, by omega⟩) w (t * 512 + r.val) : ℝ) : EReal)) (hin3 hin2 hin4) (x0 x1 : Fin 512)
      (h0 : a.val = x0.val) (h1 : b.val = o + x1.val) :
      mixTile A (View.ld (Val := Elt Ideal) (e' := .bf16) B3 (Rect.unit ![γ.val, 0, 0] ![1, 512, 512] hin3))
        (View.ld (Val := Elt Ideal) (e' := .f32) B2 (Rect.unit ![0, o] ![512, 512] hin2))
        (View.ld (Val := Elt Ideal) (e' := .f32) B4 (Rect.unit ![0, o] ![1, 512] hin4)) (ix2 x0 x1)
      = B2 (ix2 a b) + (∑ q : Fin 512, ((pool (fun p => D p (mate b q)) (win b) (t * 512 + a.val) : ℝ) : EReal)
        * B3 (ix3 (grp b) q (lane b))) * B4 (ix2 0 b) := by
    have hx1 := x1.isLt
    have hlt : o + x1.val < 2048 := by omega
    obtain rfl : b = (⟨o + x1.val, hlt⟩ : Fin 2048) := Fin.ext h1
    obtain rfl : a = x0 := Fin.ext h0
    have eg : grp ⟨o + x1.val, hlt⟩ = γ := Fin.ext (by show (o + x1.val) / 512 = γ.val; omega)
    have el : lane ⟨o + x1.val, hlt⟩ = x1 := Fin.ext (by show (o + x1.val) % 512 = x1.val; omega)
    have em (q : Fin 512) : mate ⟨o + x1.val, hlt⟩ q = ⟨o + q.val, by omega⟩ :=
      Fin.ext (by show (o + x1.val) / 512 * 512 + q.val = o + q.val; omega)
    have ew : win ⟨o + x1.val, hlt⟩ = w := by
      rw [← hw]
      show 2 ^ ((o + x1.val) / 512 + 1) = _
      rw [show (o + x1.val) / 512 = γ.val by omega]
    have e2 : View.ld (Val := Elt Ideal) (e' := .f32) B2 (Rect.unit ![0, o] ![512, 512] hin2) (ix2 a x1) = B2 (ix2 a ⟨o + x1.val, hlt⟩) :=
      ld2 _ _ _ _ _ _ (Nat.zero_add _).symm rfl
    have e4 : View.ld (Val := Elt Ideal) (e' := .f32) B4 (Rect.unit ![0, o] ![1, 512] hin4) (ix2 0 x1) = B4 (ix2 0 ⟨o + x1.val, hlt⟩) :=
      ld2 _ _ _ _ _ _ rfl rfl
    rw [mixTile_apply, eg, el, ew, e2, e4]
    refine congrArg (fun a => B2 _ + a * B4 _) (Finset.sum_congr rfl fun q _ => ?_)
    rw [em, hA, ld3 B3 hin3 q x1 γ rfl]
  unfold pieces
  rw [hi]
  exact four _ _ _ _ _ _
    (fun x0 x1 h0 h1 => fin 1536 16 3 (by omega) rfl rfl _ (pay11 ht (D := fun p k => D p ⟨1536 + k.val, by omega⟩) (part0 hB0 1536 (by omega) _) (part1 hB1 1536 (by omega) _)) _ _ _ x0 x1 h0 h1)
    (fun x0 x1 h0 h1 => fin 1024 8 2 (by omega) rfl rfl _ (pay9 ht (D := fun p k => D p ⟨1024 + k.val, by omega⟩) (part0 hB0 1024 (by omega) _) (part1 hB1 1024 (by omega) _)) _ _ _ x0 x1 h0 h1)
    (fun x0 x1 h0 h1 => fin 512 4 1 (by omega) rfl rfl _ (pay7 ht (D := fun p k => D p ⟨512 + k.val, by omega⟩) (part0 hB0 512 (by omega) _) (part1 hB1 512 (by omega) _)) _ _ _ x0 x1 h0 h1)
    (fun x0 x1 h0 h1 => fin 0 2 0 (by omega) rfl rfl _ (fun r k => pay5 ht (D := fun p k => D p ⟨0 + k.val, by omega⟩) (part0 hB0 0 (by omega) _) (part1 hB1 0 (by omega) _) r k i hi) _ _ _ x0 x1 h0 h1)

end Whole

theorem factor (A : FVec Ideal S512x2048 .f32) (f : Fin 512 → Fin 2048 → EReal) (hA : ∀ r k, A (ix2 r k) = f r k) (x : S512x1.Idx) :
    k0_pay3 (F := Ideal) A x = root (f (x 0)) := by
  pointwise [k0_pay3, k0_pay2]
  exact root_congr fun k => hA (x 0) k

theorem normed (A : FVec Ideal S512x2048 .f32) (B : FVec Ideal S1x2048 .f32) (f : Fin 512 → Fin 2048 → EReal) (hA : ∀ r k, A (ix2 r k) = f r k)
    (x : S512x2048.Idx) : k0_pay4 (F := Ideal) A B x = scaled (f (x 0)) (B (ix2 0 (x 1))) (x 1) := by
  have e : A x = f (x 0) (x 1) := (congrArg A (eq_ix2 x)).trans (hA _ _)
  unfold scaled
  have e' : k0_pay3 (F := Ideal) A (ix2 (x 0) 0) = root (f (x 0)) := factor A f hA _
  rw [← e, ← e']
  pointwise [k0_pay4, k0_pay2]

/-! ## The blocks -/

variable (m : (ℓ : Loc nD τ sig) → Buf (Elt Ideal) ℓ) (c : Dev nD)

theorem idx : ∀ t : Fin cfg0.N, win0_0.index t = ![t.val, 0] ∧ win0_2.index t = ![t.val, 0] ∧ win0_3.index t = ![0, 0, 0]
    ∧ win0_4.index t = ![0, 0] ∧ win0_5.index t = ![0, 0] ∧ win0_6.index t = ![t.val, 0] ∧ win0_7.index t = ![t.val, 0]
    ∧ win0_8.index t = ![t.val, 0] ∧ win0_9.index t = ![t.val, 0] :=
  (by decide +kernel : ∀ t : Fin grid0.N, _)

theorem idx_halo : ∀ t : Fin cfg0.N, 0 < t.val → win0_1.index t = ![t.val * 32 - 1, 0] :=
  (by decide +kernel : ∀ t : Fin grid0.N, _)

theorem coord : ∀ t : Fin cfg0.N, (grid0.coords t 0).val = t.val :=
  (by decide +kernel : ∀ t : Fin grid0.N, _)

theorem lt16 (t : Fin cfg0.N) : t.val < 16 := by have := t.isLt; have : cfg0.N = 16 := N_0; omega

/-- Row `r` of a grid point's tile. -/
def rowOf (t : Fin cfg0.N) (r : Fin 512) : Fin 8192 := ⟨t.val * 512 + r.val, by have := lt16 t; omega⟩

/-- The rows, the residual, the groups' matrices, the scale and the gain as launched. -/
abbrev hA : FVec Ideal S8192x2048 .f32 := m ((c : Thread nD τ).loc main_arg0)
abbrev xA : FVec Ideal S8192x2048 .f32 := m ((c : Thread nD τ).loc main_arg1)
abbrev wA : FVec Ideal S4x512x512 .f32 := m ((c : Thread nD τ).loc main_arg2)
abbrev sA : FVec Ideal S2048 .f32 := m ((c : Thread nD τ).loc main_arg3)
abbrev gA : FVec Ideal S2048 .f32 := m ((c : Thread nD τ).loc main_arg4)

variable {D : ℕ → Fin 2048 → ℝ} (hd : ∀ i, hA m c i = ((D (i 0).val (i 1) : ℝ) : EReal))

include hd in
theorem iblk_h (t : Fin cfg0.N) (r : Fin 512) (k : Fin 2048) : iblk m c 0 t (ix2 r k) = ((D (t.val * 512 + r.val) k : ℝ) : EReal) := by
  have := lt16 t
  refine Eq.trans ?_ (hd (ix2 ⟨t.val * 512 + r.val, by omega⟩ k))
  blk_ext [iblk, V_main_arg0, idx t]

include hd in
theorem iblk_halo (t : Fin cfg0.N) (h0 : 0 < t.val) (r : Fin 16) (k : Fin 2048) :
    iblk m c 1 t (ix2 r k) = ((D (t.val * 512 + r.val - 16) k : ℝ) : EReal) := by
  have := lt16 t
  refine Eq.trans ?_ (hd (ix2 ⟨t.val * 512 + r.val - 16, by omega⟩ k))
  blk_ext [iblk, V_main_arg0, idx_halo t h0]

theorem iblk_x (t : Fin cfg0.N) (r : Fin 512) (k : Fin 2048) : iblk m c 2 t (ix2 r k) = xA m c (ix2 (rowOf t r) k) := by
  blk_ext [iblk, V_main_arg1, idx t, rowOf]

theorem iblk_w (t : Fin cfg0.N) (g : Fin 4) (a b : Fin 512) : iblk m c 3 t (ix3 g a b) = wA m c (ix3 g a b) := by
  blk_simp [iblk]
  entry_read
  pointwise
  blk_ext [idx t]

theorem iblk_s (t : Fin cfg0.N) (k : Fin 2048) : iblk m c 4 t (ix2 0 k) = sA m c (ix1 k) := by
  blk_simp [iblk]
  entry_read
  pointwise
  blk_ext [idx t]

theorem iblk_g (t : Fin cfg0.N) (k : Fin 2048) : iblk m c 5 t (ix2 0 k) = gA m c (ix1 k) := by
  blk_simp [iblk]
  entry_read
  pointwise
  blk_ext [idx t]

/-- The mixed rows with the residual. -/
def xoAt (D : ℕ → Fin 2048 → ℝ) (x : FVec Ideal S8192x2048 .f32) (w : FVec Ideal S4x512x512 .f32) (s : FVec Ideal S2048 .f32) (p : Fin 8192) (j : Fin 2048) : EReal :=
  x (ix2 p j) + (∑ q : Fin 512, ((pool (fun n => D n (mate j q)) (win j) p.val : ℝ) : EReal) * w (ix3 (grp j) q (lane j))) * s (ix1 j)

/-- The blocks of a grid point, at their types. -/
abbrev b0 (t : Fin cfg0.N) : FVec Ideal S512x2048 .f32 := iblk m c 0 t
abbrev b1 (t : Fin cfg0.N) : FVec Ideal S16x2048 .f32 := iblk m c 1 t
abbrev b2 (t : Fin cfg0.N) : FVec Ideal S512x2048 .f32 := iblk m c 2 t
abbrev b3 (t : Fin cfg0.N) : FVec Ideal S4x512x512 .bf16 := iblk m c 3 t
abbrev b4 (t : Fin cfg0.N) : FVec Ideal S1x2048 .f32 := iblk m c 4 t
abbrev b5 (t : Fin cfg0.N) : FVec Ideal S1x2048 .f32 := iblk m c 5 t

include hd in
theorem xo_at (t : Fin cfg0.N) (y : S512x2048.Idx) :
    View.canon (pieces (grid0.coords t) (b0 m c t) (b1 m c t) (b2 m c t) (b3 m c t) (b4 m c t)) y
      = xoAt D (xA m c) (wA m c) (sA m c) (rowOf t (y 0)) (y 1) := by
  refine (congrArg (View.canon _) (eq_ix2 y)).trans ?_
  refine (xo_tile (lt16 t) (coord t) (iblk_h m c hd t) (iblk_halo m c hd t) _ _ _ (y 0) (y 1)).trans ?_
  unfold xoAt
  exact congrArg₂ (fun a b : EReal => a + b) (iblk_x m c t _ _) (congrArg₂ (fun a b : EReal => a * b)
    (Finset.sum_congr rfl fun q _ => congrArg (fun a : EReal => _ * a) (iblk_w m c t _ _ _)) (iblk_s m c t _))

include hd in
theorem after_xo (t : Fin cfg0.N) (y : S512x2048.Idx) : (outsAt0 m c t).1 y = xoAt D (xA m c) (wA m c) (sA m c) (rowOf t (y 0)) (y 1) := by
  refine Eq.trans ?_ (xo_at m c hd t y)
  unfold outsAt0
  frame_out

include hd in
theorem after_pooled (t : Fin cfg0.N) (y : S512x2048.Idx) : (outsAt0 m c t).2.1 y
    = ((pool (fun p => D p (y 1)) (win (y 1)) (rowOf t (y 0)).val : ℝ) : EReal) := by
  refine Eq.trans ?_ (pooled_tile (lt16 t) (coord t) (iblk_h m c hd t) (iblk_halo m c hd t) y)
  unfold outsAt0
  frame_out

include hd in
/-- The tile of mixed rows read back whole. -/
theorem read_back (t : Fin cfg0.N) (r : Fin 512) (k : Fin 2048) :
    (ms0_6 t).view.readCov (pieces (grid0.coords t) (b0 m c t) (b1 m c t) (b2 m c t) (b3 m c t) (b4 m c t))
      (Rect.unit (s := S512x2048) ![0, 0] ![512, 2048] inb_S512x2048_S512x2048_0_0).toLoadRect (ix2 r k)
      = xoAt D (xA m c) (wA m c) (sA m c) (rowOf t r) k := by
  refine Eq.trans ?_ (xo_at m c hd t (ix2 r k))
  rw [View.readCov_eq_canon']
  refine congrArg (View.canon _) (funext fun a => Fin.ext ?_)
  match a with
  | ⟨0, _⟩ => exact (Rect.idx_unit_val _ _ _ _ 0).trans (Nat.zero_add _)
  | ⟨1, _⟩ => exact (Rect.idx_unit_val _ _ _ _ 1).trans (Nat.zero_add _)

include hd in
theorem after_hn (t : Fin cfg0.N) (y : S512x2048.Idx) : (outsAt0 m c t).2.2.1 y
    = scaled (xoAt D (xA m c) (wA m c) (sA m c) (rowOf t (y 0))) (gA m c (ix1 (y 1))) (y 1) := by
  unfold outsAt0
  frame_out
  refine (normed ((ms0_6 t).view.readCov (pieces (grid0.coords t) (b0 m c t) (b1 m c t) (b2 m c t) (b3 m c t) (b4 m c t))
      (Rect.unit (s := S512x2048) ![0, 0] ![512, 2048] inb_S512x2048_S512x2048_0_0).toLoadRect) (b5 m c t) (fun r k => xoAt D (xA m c) (wA m c) (sA m c) (rowOf t r) k) (fun r k => read_back m c hd t r k) y).trans ?_
  exact congrArg (fun a => scaled (xoAt D (xA m c) (wA m c) (sA m c) (rowOf t (y 0))) a (y 1)) (iblk_g m c t (y 1))

include hd in
theorem after_rn (t : Fin cfg0.N) (y : S512x1.Idx) : (outsAt0 m c t).2.2.2 y
    = root (xoAt D (xA m c) (wA m c) (sA m c) (rowOf t (y 0))) := by
  unfold outsAt0
  frame_out
  exact factor ((ms0_6 t).view.readCov (pieces (grid0.coords t) (b0 m c t) (b1 m c t) (b2 m c t) (b3 m c t) (b4 m c t))
      (Rect.unit (s := S512x2048) ![0, 0] ![512, 2048] inb_S512x2048_S512x2048_0_0).toLoadRect) (fun r k => xoAt D (xA m c) (wA m c) (sA m c) (rowOf t r) k) (fun r k => read_back m c hd t r k) y

/-- The four results. -/
def xoA (D : ℕ → Fin 2048 → ℝ) : FVec Ideal S8192x2048 .f32 := fun i => xoAt D (xA m c) (wA m c) (sA m c) (i 0) (i 1)
def pA (D : ℕ → Fin 2048 → ℝ) : FVec Ideal S8192x2048 .bf16 := fun i => ((pool (fun p => D p (i 1)) (win (i 1)) (i 0).val : ℝ) : EReal)
def nA (D : ℕ → Fin 2048 → ℝ) : FVec Ideal S8192x2048 .bf16 := fun i =>
  scaled (xoAt D (xA m c) (wA m c) (sA m c) (i 0)) (gA m c (ix1 (i 1))) (i 1)
def rA (D : ℕ → Fin 2048 → ℝ) : FVec Ideal S8192x1 .f32 := fun i => root (xoAt D (xA m c) (wA m c) (sA m c) (i 0))

include hd in
theorem final_xo : (dats m 0 c).arrAt 6 cfg0.N = xoA m c D := by
  refine (dats m 0 c).arrAt_eq_of_covers 6 _ (by decide +kernel) fun t hf y => ?_
  blk_simp
  have he : ((cfg0.win 6).blk t).view.emb y = ix2 (rowOf t (y 0)) (y 1) := by blk_ext [idx t, rowOf]
  rw [after0_6, he]
  exact after_xo m c hd t y

include hd in
theorem final_pooled : (dats m 0 c).arrAt 7 cfg0.N = pA D := by
  refine (dats m 0 c).arrAt_eq_of_covers 7 _ (by decide +kernel) fun t hf y => ?_
  blk_simp
  have he : ((cfg0.win 7).blk t).view.emb y = ix2 (rowOf t (y 0)) (y 1) := by blk_ext [idx t, rowOf]
  rw [after0_7, he]
  exact after_pooled m c hd t y

include hd in
theorem final_hn : (dats m 0 c).arrAt 8 cfg0.N = nA m c D := by
  refine (dats m 0 c).arrAt_eq_of_covers 8 _ (by decide +kernel) fun t hf y => ?_
  blk_simp
  have he : ((cfg0.win 8).blk t).view.emb y = ix2 (rowOf t (y 0)) (y 1) := by blk_ext [idx t, rowOf]
  rw [after0_8, he]
  exact after_hn m c hd t y

include hd in
theorem final_rn : (dats m 0 c).arrAt 9 cfg0.N = rA m c D := by
  refine (dats m 0 c).arrAt_eq_of_covers 9 _ (by decide +kernel) fun t hf y => ?_
  blk_simp
  have he : ((cfg0.win 9).blk t).view.emb y = ix2 (rowOf t (y 0)) 0 := by blk_ext [idx t, rowOf]
  rw [after0_9, he]
  exact after_rn m c hd t y

end Cert.PoolFwdKernelIdeal.Real

end
-- ==== Proof.PoolFwdRef.lean ====
/- The pooling's forward call in the reference over the reals, entry by entry. -/
module

public import proofs.«01_k».proof.Proof.PoolMean
public import proofs.«01_k».proof.Proof.PoolWindowGroups
public import proofs.«01_k».proof.Proof.PoolFwdKer
public import proofs.«01_k».proof.Proof.Gen.PoolFwdReferenceIdeal.Read

@[expose] public section

set_option maxRecDepth 16384

noncomputable section

namespace Cert.PoolFwdReferenceIdeal.Real

open Cert.PoolFwdReferenceIdeal Cert.PoolFwdReferenceIdeal.Read Idealize.ShloMosaic Idealize.ShloMosaic.TcCoe Idealize.SL.Sem Cert.Lift Cert.PoolMean
open Cert.PoolMixKernelIdeal.Real (grp lane mate)
open Cert.PoolSum (win)
open Cert.PoolWindowReferenceIdeal.Real (low_word col)
open Cert.NormFwd (root scaled root_congr)
open Cert.PoolFwdKernelIdeal.Real (xoAt)

/-- Running sums along the second axis, as the host prints them: a window as long as the axis behind zeros. -/
theorem host_prefix_rows {N G P o : ℕ} {u : Shape} (ho : o + 1 = N) (x : FVec Ideal ⟨4, ![1, N, G, P]⟩ .f32) (z : u.Idx → Ideal .f32)
    (h : (⟨4, ![1, N, G, P]⟩ : Shape).ReduceWindows ![1, N, 1, 1] ![1, 1, 1, 1] ![0, o, 0, 0] ![0, 0, 0, 0] ⟨4, ![1, N, G, P]⟩) (hu : 0 < u.numel)
    (hz : ∀ j, z j = 0) (t : Fin N) (g : Fin G) (k : Fin P) (U : ℕ → ℝ) (hx : ∀ p : Fin N, x (ix4 0 p g k) = ((U p.val : ℝ) : EReal)) :
    Host.reduceWindowAdd ![1, N, 1, 1] ![1, 1, 1, 1] ![0, o, 0, 0] ![0, 0, 0, 0] x z h hu (ix4 0 t g k)
      = ((∑ q ∈ Finset.range (t.val + 1), U q : ℝ) : EReal) := by
  unfold Host.reduceWindowAdd
  rw [hz]
  exact prefix_rows ho x h t g k U hx

variable (x : FVec Ideal S8192x2048 .f32) (y : FVec Ideal S8192x2048 .f32) (w : FVec Ideal S4x512x512 .f32) (s g : FVec Ideal S2048 .f32)
  (D : ℕ → Fin 2048 → ℝ) (hd : ∀ i, x i = ((D (i 0).val (i 1) : ℝ) : EReal))
include hd

theorem own (p : Fin 8192) (γ : Fin 4) (l : Fin 512) : val_main_v1 (F := Ideal) x (ix4 0 p γ l) = ((D p.val (col γ l) : ℝ) : EReal) := by
  rw [val_main_v1_apply, val_main_v0_apply]
  refine Eq.trans (congrArg x ?_) (hd (ix2 p (col γ l)))
  blk_ext

/-- The running sums of the rows. -/
theorem sums (p : Fin 8192) (γ : Fin 4) (l : Fin 512) :
    val_main_v3 (F := Ideal) x (ix4 0 p γ l) = ((∑ q ∈ Finset.range (p.val + 1), D q (col γ l) : ℝ) : EReal) := by
  have h1 : ∀ q : Fin 8192, val_main_v1 (F := Ideal) x (ix4 0 q γ l) = ((D q.val (col γ l) : ℝ) : EReal) := fun q => own x D hd q γ l
  have h0 : ∀ j, val_main_call0_call0_v0 (F := Ideal) j = 0 := fun j => by
    rw [val_main_call0_call0_v0_apply, val_main_call0_call0_cst_apply]
    exact f32_zero
  unfold val_main_v3
  generalize val_main_v1 (F := Ideal) x = x1 at h1 ⊢
  generalize val_main_call0_call0_v0 (F := Ideal) = z at h0 ⊢
  exact host_prefix_rows (N := 8192) (o := 8191) (by norm_num) x1 z _ _ h0 p γ l (fun q => D q (col γ l)) h1

/-- The running sums behind a row of zeros. -/
theorem before (j : Fin 8193) (γ : Fin 4) (l : Fin 512) :
    val_main_v4 (F := Ideal) x (ix4 0 j γ l) = ((∑ q ∈ Finset.range j.val, D q (col γ l) : ℝ) : EReal) := by
  have hj := j.isLt
  unfold val_main_v4
  generalize hy : val_main_v3 (F := Ideal) x = y3
  generalize hz : val_main_v2 (F := Ideal) = z
  pointwise
  split
  · rename_i h
    have h : j.val = 0 := Nat.lt_one_iff.1 h
    subst hz
    refine Eq.trans ?_ (congrArg (fun n => ((∑ q ∈ Finset.range n, D q (col γ l) : ℝ) : EReal)) h.symm)
    rw [val_main_v2_apply, val_main_cst_apply]
    exact f32_zero
  · rename_i h
    have h : ¬ j.val < 1 := h
    subst hy
    refine Eq.trans (congrArg (val_main_v3 (F := Ideal) x) ?_) ((sums x D hd ⟨j.val - 1, by omega⟩ γ l).trans ?_)
    · blk_ext
    · rw [show j.val - 1 + 1 = j.val by omega]

omit hd in
theorem mean_of {a b c o : EReal} {h : ℕ → ℝ} {w p : ℕ} (hw : 0 < w) (ha : a = ((∑ q ∈ Finset.range (p + 1), h q : ℝ) : EReal))
    (hb : b = ((∑ q ∈ Finset.range (p + 1 - w), h q : ℝ) : EReal)) (hc : c = (((min (p + 1) w : ℕ) : ℝ) : EReal)) (ho : o = ((h p : ℝ) : EReal)) :
    Ideal.div (a - b) c - o = ((pool h w p : ℝ) : EReal) := by
  rw [ha, hb, hc, ho, ← EReal.coe_sub, prefix_sub, coe_div (by exact_mod_cast (by omega : min (p + 1) w ≠ 0)), ← EReal.coe_sub]
  rfl

section Cat
omit hd
variable (a b c d : FVec Ideal S1x8192x1x512 .f32) (p : Fin 8192) (l : Fin 512)

theorem side_0 (h) : concatenate S1x8192x4x512 2 [⟨S1x8192x1x512, a⟩, ⟨S1x8192x1x512, b⟩, ⟨S1x8192x1x512, c⟩, ⟨S1x8192x1x512, d⟩] h (ix4 0 p 0 l)
    = a (ix4 0 p 0 l) := by pointwise
theorem side_1 (h) : concatenate S1x8192x4x512 2 [⟨S1x8192x1x512, a⟩, ⟨S1x8192x1x512, b⟩, ⟨S1x8192x1x512, c⟩, ⟨S1x8192x1x512, d⟩] h (ix4 0 p 1 l)
    = b (ix4 0 p 0 l) := by pointwise
theorem side_2 (h) : concatenate S1x8192x4x512 2 [⟨S1x8192x1x512, a⟩, ⟨S1x8192x1x512, b⟩, ⟨S1x8192x1x512, c⟩, ⟨S1x8192x1x512, d⟩] h (ix4 0 p 2 l)
    = c (ix4 0 p 0 l) := by pointwise
theorem side_3 (h) : concatenate S1x8192x4x512 2 [⟨S1x8192x1x512, a⟩, ⟨S1x8192x1x512, b⟩, ⟨S1x8192x1x512, c⟩, ⟨S1x8192x1x512, d⟩] h (ix4 0 p 3 l)
    = d (ix4 0 p 0 l) := by pointwise

end Cat

omit hd in
theorem low_0 (p : Fin 8192) : (val_main_v23 (F := Ideal) (ix2 p 0)).toInt = ((p.val + 1 - 2 : ℕ) : ℤ) := by
  refine Eq.trans (congrArg BitVec.toInt ?_) (low_word (w := 2) p.isLt (by omega))
  refine Eq.trans (b := val_main_v21 (F := Ideal) (ix2 p 0)) (by unfold val_main_v23; rfl) ?_
  simp only [val_main_v21_apply, val_main_v18_apply, val_main_v17_apply, val_main_v16_apply, val_main_v15_apply, val_main_v14_apply, val_main_v11_apply, val_main_v10_apply, val_main_v9_apply, val_main_v8_apply, val_main_v7_apply, val_main_v6_apply, val_main_v5_apply]
  rfl

omit hd in
theorem place_0 (p : Fin 8192) : (val_main_v23 (F := Ideal) (ix2 p 1)).toInt = ((0 : ℕ) : ℤ) := by
  refine Eq.trans (b := (val_main_v22 (F := Ideal) (ix2 p 0)).toInt) (by unfold val_main_v23; rfl) ?_
  simp only [val_main_v22_apply, val_main_v20_apply, val_main_v19_apply]
  rfl

theorem mean_0 (p : Fin 8192) (l : Fin 512) :
    val_main_v36 (F := Ideal) x (ix3 0 p l) = ((pool (fun q => D q (col 0 l)) 2 p.val : ℝ) : EReal) := by
  rw [val_main_v36_apply, val_main_v33_apply, val_main_v25_apply, Ideal.hostDivf_def, Ideal.subf_def, Ideal.subf_def]
  refine mean_of (h := fun q => D q (col 0 l)) (by omega) ?_ ?_ ?_ ?_
  · rw [val_main_v13_apply, val_main_v12_apply]
    refine Eq.trans (congrArg (val_main_v4 (F := Ideal) x) ?_) (before x D hd ⟨p.val + 1, by omega⟩ 0 l)
    blk_ext
  · unfold val_main_v24
    exact (gather_rows (by decide) _ _ p l ⟨p.val + 1 - 2, by omega⟩ 0 (low_0 p) (place_0 p)).trans (before x D hd _ 0 l)
  · simp only [val_main_v32_apply, val_main_v31_apply, val_main_v30_apply, val_main_v29_apply, val_main_v28_apply, val_main_v27_apply, val_main_v26_apply, val_main_v5_apply]
    refine Eq.trans (congrArg (FloatOps.sitofp (F := Ideal) .f32) ?_)
      (Cert.PoolWindowKernelIdeal.Real.count (w := 2) (n := p.val + 1) (by omega) (by have := p.isLt; omega) (by omega))
    exact congrArg₂ IntOp.minsi (BitVec.ofNat_add p.val 1).symm rfl
  · rw [val_main_v35_apply, val_main_v34_apply]
    refine Eq.trans (congrArg (val_main_v1 (F := Ideal) x) ?_) (own x D hd p 0 l)
    blk_ext

theorem part_0 (p : Fin 8192) (l : Fin 512) :
    val_main_v134 (F := Ideal) x (ix4 0 p 0 l) = ((pool (fun q => D q (col 0 l)) 2 p.val : ℝ) : EReal) := by
  refine Eq.trans (b := val_main_v130 (F := Ideal) x (ix4 0 p 0 l)) (side_0 _ _ _ _ p l _) ?_
  rw [val_main_v130_apply]
  refine Eq.trans (congrArg (val_main_v36 (F := Ideal) x) ?_) (mean_0 x D hd p l)
  blk_ext

omit hd in
theorem low_1 (p : Fin 8192) : (val_main_v54 (F := Ideal) (ix2 p 0)).toInt = ((p.val + 1 - 4 : ℕ) : ℤ) := by
  refine Eq.trans (congrArg BitVec.toInt ?_) (low_word (w := 4) p.isLt (by omega))
  refine Eq.trans (b := val_main_v52 (F := Ideal) (ix2 p 0)) (by unfold val_main_v54; rfl) ?_
  simp only [val_main_v52_apply, val_main_v49_apply, val_main_v48_apply, val_main_v47_apply, val_main_v46_apply, val_main_v45_apply, val_main_v42_apply, val_main_v41_apply, val_main_v40_apply, val_main_v39_apply, val_main_v38_apply, val_main_v37_apply, val_main_v5_apply]
  rfl

omit hd in
theorem place_1 (p : Fin 8192) : (val_main_v54 (F := Ideal) (ix2 p 1)).toInt = ((1 : ℕ) : ℤ) := by
  refine Eq.trans (b := (val_main_v53 (F := Ideal) (ix2 p 0)).toInt) (by unfold val_main_v54; rfl) ?_
  simp only [val_main_v53_apply, val_main_v51_apply, val_main_v50_apply]
  rfl

theorem mean_1 (p : Fin 8192) (l : Fin 512) :
    val_main_v67 (F := Ideal) x (ix3 0 p l) = ((pool (fun q => D q (col 1 l)) 4 p.val : ℝ) : EReal) := by
  rw [val_main_v67_apply, val_main_v64_apply, val_main_v56_apply, Ideal.hostDivf_def, Ideal.subf_def, Ideal.subf_def]
  refine mean_of (h := fun q => D q (col 1 l)) (by omega) ?_ ?_ ?_ ?_
  · rw [val_main_v44_apply, val_main_v43_apply]
    refine Eq.trans (congrArg (val_main_v4 (F := Ideal) x) ?_) (before x D hd ⟨p.val + 1, by omega⟩ 1 l)
    blk_ext
  · unfold val_main_v55
    exact (gather_rows (by decide) _ _ p l ⟨p.val + 1 - 4, by omega⟩ 1 (low_1 p) (place_1 p)).trans (before x D hd _ 1 l)
  · simp only [val_main_v63_apply, val_main_v62_apply, val_main_v61_apply, val_main_v60_apply, val_main_v59_apply, val_main_v58_apply, val_main_v57_apply, val_main_v5_apply]
    refine Eq.trans (congrArg (FloatOps.sitofp (F := Ideal) .f32) ?_)
      (Cert.PoolWindowKernelIdeal.Real.count (w := 4) (n := p.val + 1) (by omega) (by have := p.isLt; omega) (by omega))
    exact congrArg₂ IntOp.minsi (BitVec.ofNat_add p.val 1).symm rfl
  · rw [val_main_v66_apply, val_main_v65_apply]
    refine Eq.trans (congrArg (val_main_v1 (F := Ideal) x) ?_) (own x D hd p 1 l)
    blk_ext

theorem part_1 (p : Fin 8192) (l : Fin 512) :
    val_main_v134 (F := Ideal) x (ix4 0 p 1 l) = ((pool (fun q => D q (col 1 l)) 4 p.val : ℝ) : EReal) := by
  refine Eq.trans (b := val_main_v131 (F := Ideal) x (ix4 0 p 0 l)) (side_1 _ _ _ _ p l _) ?_
  rw [val_main_v131_apply]
  refine Eq.trans (congrArg (val_main_v67 (F := Ideal) x) ?_) (mean_1 x D hd p l)
  blk_ext

omit hd in
theorem low_2 (p : Fin 8192) : (val_main_v85 (F := Ideal) (ix2 p 0)).toInt = ((p.val + 1 - 8 : ℕ) : ℤ) := by
  refine Eq.trans (congrArg BitVec.toInt ?_) (low_word (w := 8) p.isLt (by omega))
  refine Eq.trans (b := val_main_v83 (F := Ideal) (ix2 p 0)) (by unfold val_main_v85; rfl) ?_
  simp only [val_main_v83_apply, val_main_v80_apply, val_main_v79_apply, val_main_v78_apply, val_main_v77_apply, val_main_v76_apply, val_main_v73_apply, val_main_v72_apply, val_main_v71_apply, val_main_v70_apply, val_main_v69_apply, val_main_v68_apply, val_main_v5_apply]
  rfl

omit hd in
theorem place_2 (p : Fin 8192) : (val_main_v85 (F := Ideal) (ix2 p 1)).toInt = ((2 : ℕ) : ℤ) := by
  refine Eq.trans (b := (val_main_v84 (F := Ideal) (ix2 p 0)).toInt) (by unfold val_main_v85; rfl) ?_
  simp only [val_main_v84_apply, val_main_v82_apply, val_main_v81_apply]
  rfl

theorem mean_2 (p : Fin 8192) (l : Fin 512) :
    val_main_v98 (F := Ideal) x (ix3 0 p l) = ((pool (fun q => D q (col 2 l)) 8 p.val : ℝ) : EReal) := by
  rw [val_main_v98_apply, val_main_v95_apply, val_main_v87_apply, Ideal.hostDivf_def, Ideal.subf_def, Ideal.subf_def]
  refine mean_of (h := fun q => D q (col 2 l)) (by omega) ?_ ?_ ?_ ?_
  · rw [val_main_v75_apply, val_main_v74_apply]
    refine Eq.trans (congrArg (val_main_v4 (F := Ideal) x) ?_) (before x D hd ⟨p.val + 1, by omega⟩ 2 l)
    blk_ext
  · unfold val_main_v86
    exact (gather_rows (by decide) _ _ p l ⟨p.val + 1 - 8, by omega⟩ 2 (low_2 p) (place_2 p)).trans (before x D hd _ 2 l)
  · simp only [val_main_v94_apply, val_main_v93_apply, val_main_v92_apply, val_main_v91_apply, val_main_v90_apply, val_main_v89_apply, val_main_v88_apply, val_main_v5_apply]
    refine Eq.trans (congrArg (FloatOps.sitofp (F := Ideal) .f32) ?_)
      (Cert.PoolWindowKernelIdeal.Real.count (w := 8) (n := p.val + 1) (by omega) (by have := p.isLt; omega) (by omega))
    exact congrArg₂ IntOp.minsi (BitVec.ofNat_add p.val 1).symm rfl
  · rw [val_main_v97_apply, val_main_v96_apply]
    refine Eq.trans (congrArg (val_main_v1 (F := Ideal) x) ?_) (own x D hd p 2 l)
    blk_ext

theorem part_2 (p : Fin 8192) (l : Fin 512) :
    val_main_v134 (F := Ideal) x (ix4 0 p 2 l) = ((pool (fun q => D q (col 2 l)) 8 p.val : ℝ) : EReal) := by
  refine Eq.trans (b := val_main_v132 (F := Ideal) x (ix4 0 p 0 l)) (side_2 _ _ _ _ p l _) ?_
  rw [val_main_v132_apply]
  refine Eq.trans (congrArg (val_main_v98 (F := Ideal) x) ?_) (mean_2 x D hd p l)
  blk_ext

omit hd in
theorem low_3 (p : Fin 8192) : (val_main_v116 (F := Ideal) (ix2 p 0)).toInt = ((p.val + 1 - 16 : ℕ) : ℤ) := by
  refine Eq.trans (congrArg BitVec.toInt ?_) (low_word (w := 16) p.isLt (by omega))
  refine Eq.trans (b := val_main_v114 (F := Ideal) (ix2 p 0)) (by unfold val_main_v116; rfl) ?_
  simp only [val_main_v114_apply, val_main_v111_apply, val_main_v110_apply, val_main_v109_apply, val_main_v108_apply, val_main_v107_apply, val_main_v104_apply, val_main_v103_apply, val_main_v102_apply, val_main_v101_apply, val_main_v100_apply, val_main_v99_apply, val_main_v5_apply]
  rfl

omit hd in
theorem place_3 (p : Fin 8192) : (val_main_v116 (F := Ideal) (ix2 p 1)).toInt = ((3 : ℕ) : ℤ) := by
  refine Eq.trans (b := (val_main_v115 (F := Ideal) (ix2 p 0)).toInt) (by unfold val_main_v116; rfl) ?_
  simp only [val_main_v115_apply, val_main_v113_apply, val_main_v112_apply]
  rfl

theorem mean_3 (p : Fin 8192) (l : Fin 512) :
    val_main_v129 (F := Ideal) x (ix3 0 p l) = ((pool (fun q => D q (col 3 l)) 16 p.val : ℝ) : EReal) := by
  rw [val_main_v129_apply, val_main_v126_apply, val_main_v118_apply, Ideal.hostDivf_def, Ideal.subf_def, Ideal.subf_def]
  refine mean_of (h := fun q => D q (col 3 l)) (by omega) ?_ ?_ ?_ ?_
  · rw [val_main_v106_apply, val_main_v105_apply]
    refine Eq.trans (congrArg (val_main_v4 (F := Ideal) x) ?_) (before x D hd ⟨p.val + 1, by omega⟩ 3 l)
    blk_ext
  · unfold val_main_v117
    exact (gather_rows (by decide) _ _ p l ⟨p.val + 1 - 16, by omega⟩ 3 (low_3 p) (place_3 p)).trans (before x D hd _ 3 l)
  · simp only [val_main_v125_apply, val_main_v124_apply, val_main_v123_apply, val_main_v122_apply, val_main_v121_apply, val_main_v120_apply, val_main_v119_apply, val_main_v5_apply]
    refine Eq.trans (congrArg (FloatOps.sitofp (F := Ideal) .f32) ?_)
      (Cert.PoolWindowKernelIdeal.Real.count (w := 16) (n := p.val + 1) (by omega) (by have := p.isLt; omega) (by omega))
    exact congrArg₂ IntOp.minsi (BitVec.ofNat_add p.val 1).symm rfl
  · rw [val_main_v128_apply, val_main_v127_apply]
    refine Eq.trans (congrArg (val_main_v1 (F := Ideal) x) ?_) (own x D hd p 3 l)
    blk_ext

theorem part_3 (p : Fin 8192) (l : Fin 512) :
    val_main_v134 (F := Ideal) x (ix4 0 p 3 l) = ((pool (fun q => D q (col 3 l)) 16 p.val : ℝ) : EReal) := by
  refine Eq.trans (b := val_main_v133 (F := Ideal) x (ix4 0 p 0 l)) (side_3 _ _ _ _ p l _) ?_
  rw [val_main_v133_apply]
  refine Eq.trans (congrArg (val_main_v129 (F := Ideal) x) ?_) (mean_3 x D hd p l)
  blk_ext

/-- The pooled rows, group by group. -/
theorem pooled (p : Fin 8192) (γ : Fin 4) (l : Fin 512) :
    val_main_v134 (F := Ideal) x (ix4 0 p γ l) = ((pool (fun q => D q (col γ l)) (2 ^ (γ.val + 1)) p.val : ℝ) : EReal) :=
  match γ with
  | ⟨0, _⟩ => part_0 x D hd p l
  | ⟨1, _⟩ => part_1 x D hd p l
  | ⟨2, _⟩ => part_2 x D hd p l
  | ⟨3, _⟩ => part_3 x D hd p l

omit hd in
theorem col_of (j : Fin 2048) : col (grp j) (lane j) = j :=
  Fin.ext (by show j.val / 512 * 512 + j.val % 512 = j.val; omega)

theorem pooled_eq (i : S8192x2048.Idx) :
    val_main_v151 (F := Ideal) x i = ((pool (fun p => D p (i 1)) (win (i 1)) (i 0).val : ℝ) : EReal) := by
  rw [val_main_v151_apply]
  show val_main_v150 (F := Ideal) x i = _
  rw [val_main_v150_apply]
  refine Eq.trans (congrArg (val_main_v134 (F := Ideal) x) (a₂ := ix4 0 (i 0) (grp (i 1)) (lane (i 1))) ?_) ((pooled x D hd (i 0) (grp (i 1)) (lane (i 1))).trans ?_)
  · have h1 := (i 1).isLt
    have h0 := (i 0).isLt
    blk_ext [grp, lane]
  · exact congrArg (fun j => ((pool (fun p => D p j) (win (i 1)) (i 0).val : ℝ) : EReal)) (col_of (i 1))

theorem xo_eq (i : S8192x2048.Idx) : val_main_v141 (F := Ideal) x y w s i = xoAt D y w s (i 0) (i 1) := by
  unfold xoAt
  simp only [val_main_v141_apply, val_main_v140_apply, val_main_v139_apply, val_main_v138_apply, val_main_v137_apply, val_main_v136_apply,
    val_main_v135_apply, Ideal.addf_def, Ideal.mulf_def]
  refine congrArg₂ (fun a b : EReal => a + b) (congrArg y (eq_ix2 i)) (congrArg₂ (fun a b : EReal => a * b) (Finset.sum_congr rfl fun q _ => ?_) (congrArg s ?_))
  · rw [mul_comm]
    refine congrArg₂ (fun a b : EReal => a * b) (Eq.trans (congrArg (val_main_v134 (F := Ideal) x) (a₂ := ix4 0 (i 0) (grp (i 1)) q) ?_)
      (pooled x D hd (i 0) (grp (i 1)) q)) (congrArg w ?_)
    · have h1 := (i 1).isLt
      have h0 := (i 0).isLt
      blk_ext [grp, lane]
    · have h1 := (i 1).isLt
      have h0 := (i 0).isLt
      blk_ext [grp, lane]
  · blk_ext

theorem rn_eq (i : S8192x1.Idx) : val_main_v149 (F := Ideal) x y w s i = root (xoAt D y w s (i 0)) := by
  simp only [val_main_v149_apply, val_main_v148_apply, val_main_v147_apply, val_main_v146_apply, val_main_v145_apply, val_main_v144_apply,
    val_main_v143_apply, val_main_v142_apply, val_main_cst_31_apply, val_main_cst_32_apply, val_main_cst_33_apply, xo_eq x y w s D hd,
    Ideal.mulf_def, Ideal.addf_def, Ideal.hostDivf_def, Ideal.ofBits_def, f32_zero, EReal.coe_zero, zero_add]
  rfl

theorem hn_eq (i : S8192x2048.Idx) : val_main_v165 (F := Ideal) x y w s g i = scaled (xoAt D y w s (i 0)) (g (ix1 (i 1))) (i 1) := by
  have e : ∀ j, val_main_v159 (F := Ideal) x y w s j = root (xoAt D y w s (j 0)) := fun j => rn_eq x y w s D hd j
  rw [val_main_v165_apply]
  show val_main_v164 (F := Ideal) x y w s g i = _
  simp only [val_main_v164_apply, val_main_v163_apply, val_main_v162_apply, val_main_v161_apply, val_main_v160_apply, e, xo_eq x y w s D hd, Ideal.mulf_def]
  refine congrArg (fun b => xoAt D y w s (i 0) (i 1) * root (xoAt D y w s (i 0)) * g b) ?_
  exact funext fun a => Fin.ext (by match a with | ⟨0, _⟩ => rfl)

end Cert.PoolFwdReferenceIdeal.Real

end
-- ==== Proof.PoolFwd.lean ====
/- The pooling's forward call: the frames and the equality of its four results over the reals, for finite rows. -/
module

public import proofs.«01_k».proof.Defs
public import proofs.«01_k».proof.Proof.Lift
public import proofs.«01_k».proof.Proof.PoolFwdRef
public import proofs.«01_k».proof.Proof.Gen.PoolFwdKernel.Frame
public import proofs.«01_k».proof.Proof.Gen.Pre_pool_fwd_finite
public import proofs.«01_k».proof.Proof.Gen.PoolFwdReferenceIdeal.Run
public import Idealize.ShloMosaic.Lib.Claim

@[expose] public section

set_option maxRecDepth 16384

noncomputable section

namespace Cert.PoolFwd

open Idealize.ShloMosaic Idealize.ShloMosaic.TcCoe Idealize.SL.Sem Cert.Lift

/-- What the precondition says of the rows. -/
theorem finite {h x : FVec Ideal Cert.PoolFwdKernelIdeal.S8192x2048 .f32} {w : FVec Ideal Cert.PoolFwdKernelIdeal.S4x512x512 .f32}
    {s g : FVec Ideal Cert.PoolFwdKernelIdeal.S2048 .f32} (hp : Cert.Pre_pool_fwd_finite.fn (F := Ideal) h x w s g = fun _ => 1#1) :
    ∃ D : ℕ → Fin 2048 → ℝ, ∀ i, h i = ((D (i 0).val (i 1) : ℝ) : EReal) := by
  have h0 := congrFun hp (fun a => a.elim0)
  dsimp only [Cert.Pre_pool_fwd_finite.fn] at h0
  obtain ⟨H, hH⟩ := reals2 fun i => finite_of_all h _ (fun _ => f32_top) _ _ _ _ h0 i
  refine ⟨fun p k => if hlt : p < 8192 then H ⟨p, hlt⟩ k else 0, fun i => (hH i).trans ?_⟩
  have e (p : Fin 8192) (k : Fin 2048) : H p k = if hlt : p.val < 8192 then H ⟨p.val, hlt⟩ k else 0 := by
    rw [dif_pos p.isLt]
  exact congrArg (fun a : ℝ => (a : EReal)) (e (i 0) (i 1))

theorem algebraic : Cert.algebraic_PoolFwdKernelIdeal_PoolFwdReferenceIdeal_pre_pool_fwd_finite := by
  pair_intro
  · run_from Cert.PoolFwdKernelIdeal.Value.run_blocks m g
  · refine (θ_run _ _ _).mono (fun _ h c => ?_) (Cert.PoolFwdReferenceIdeal.Value.run m' g')
    obtain ⟨h0, h1, h2, h3, ha⟩ := h c
    obtain ⟨D, hd⟩ := finite (hpre c)
    obtain ⟨e0, e1, e2, e3, e4⟩ := hagree c
    have a0 : StableHlo.launchContents m' c (Proc.devRef .tc Cert.PoolFwdReferenceIdeal.main_arg0) = m ((c : Thread Cert.PoolFwdKernelIdeal.nD Cert.PoolFwdKernelIdeal.τ).loc Cert.PoolFwdKernelIdeal.main_arg0) := e0
    have a1 : StableHlo.launchContents m' c (Proc.devRef .tc Cert.PoolFwdReferenceIdeal.main_arg1) = m ((c : Thread Cert.PoolFwdKernelIdeal.nD Cert.PoolFwdKernelIdeal.τ).loc Cert.PoolFwdKernelIdeal.main_arg1) := e1
    have a2 : StableHlo.launchContents m' c (Proc.devRef .tc Cert.PoolFwdReferenceIdeal.main_arg2) = m ((c : Thread Cert.PoolFwdKernelIdeal.nD Cert.PoolFwdKernelIdeal.τ).loc Cert.PoolFwdKernelIdeal.main_arg2) := e2
    have a3 : StableHlo.launchContents m' c (Proc.devRef .tc Cert.PoolFwdReferenceIdeal.main_arg3) = m ((c : Thread Cert.PoolFwdKernelIdeal.nD Cert.PoolFwdKernelIdeal.τ).loc Cert.PoolFwdKernelIdeal.main_arg3) := e3
    have a4 : StableHlo.launchContents m' c (Proc.devRef .tc Cert.PoolFwdReferenceIdeal.main_arg4) = m ((c : Thread Cert.PoolFwdKernelIdeal.nD Cert.PoolFwdKernelIdeal.τ).loc Cert.PoolFwdKernelIdeal.main_arg4) := e4
    refine ⟨h0.trans ?_, h1.trans ?_, h2.trans ?_, h3.trans ?_, ha⟩
    · rw [Cert.PoolFwdReferenceIdeal.Read.val_main_v141_eq, a0, a1, a2, a3]
      exact Eq.trans (funext fun i => Cert.PoolFwdReferenceIdeal.Real.xo_eq _ _ _ _ D hd i) (Cert.PoolFwdKernelIdeal.Real.final_xo m c hd).symm
    · rw [Cert.PoolFwdReferenceIdeal.Read.val_main_v151_eq, a0]
      exact Eq.trans (funext fun i => Cert.PoolFwdReferenceIdeal.Real.pooled_eq _ D hd i) (Cert.PoolFwdKernelIdeal.Real.final_pooled m c hd).symm
    · rw [Cert.PoolFwdReferenceIdeal.Read.val_main_v165_eq, a0, a1, a2, a3, a4]
      exact Eq.trans (funext fun i => Cert.PoolFwdReferenceIdeal.Real.hn_eq _ _ _ _ _ D hd i) (Cert.PoolFwdKernelIdeal.Real.final_hn m c hd).symm
    · rw [Cert.PoolFwdReferenceIdeal.Read.val_main_v149_eq, a0, a1, a2, a3]
      exact Eq.trans (funext fun i => Cert.PoolFwdReferenceIdeal.Real.rn_eq _ _ _ _ D hd i) (Cert.PoolFwdKernelIdeal.Real.final_rn m c hd).symm

theorem frame_kernel : Cert.quiescent_PoolFwdKernel := fun m ρ _ => Cert.PoolFwdKernel.Gen.frame m ρ
theorem frame_ideal : Cert.quiescent_PoolFwdKernelIdeal := fun m ρ _ => Cert.PoolFwdKernelIdeal.Gen.frame m ρ
theorem frame_ideal_pre : Cert.quiescent_PoolFwdKernelIdeal_pre_pool_fwd_finite := fun m ρ _ => Cert.PoolFwdKernelIdeal.Gen.frame m ρ
theorem frame_reference : Cert.quiescent_PoolFwdReferenceIdeal := fun m ρ _ =>
  (θ_run Cert.PoolFwdReferenceIdeal.defs _ _).mono (fun r h => ⟨fun c => (h c).2.2.2.2, sem_eq_zero_of_no_sems (by decide) r.2⟩)
    (Cert.PoolFwdReferenceIdeal.Value.run m ρ)
theorem frame_reference_pre : Cert.quiescent_PoolFwdReferenceIdeal_pre_pool_fwd_finite := fun m ρ _ => frame_reference m ρ trivial

end Cert.PoolFwd

end
-- ==== Proof.lean ====
/- The proof of every claim of `Cert.Claim`; each pair's own claims are proved in its module of Proof/. -/
module

public import proofs.«01_k».proof.Defs
public import proofs.«01_k».proof.Proof.Loss
public import proofs.«01_k».proof.Proof.PoolMix
public import proofs.«01_k».proof.Proof.PoolWindow
public import proofs.«01_k».proof.Proof.FfnGate
public import proofs.«01_k».proof.Proof.FfnDh
public import proofs.«01_k».proof.Proof.ProjDx
public import proofs.«01_k».proof.Proof.StickBwd
public import proofs.«01_k».proof.Proof.NormFwd
public import proofs.«01_k».proof.Proof.GateFwd
public import proofs.«01_k».proof.Proof.PoolFwd
public import proofs.«01_k».proof.Proof.Gen.LossKernel.Frame
public import proofs.«01_k».proof.Proof.Gen.LossKernelIdeal.Value
public import proofs.«01_k».proof.Proof.Gen.LossReferenceIdeal.Run
public import proofs.«01_k».proof.Proof.Gen.LossReferenceIdeal.Read
public import proofs.«01_k».proof.Proof.Gen.Pre_loss_finite
public import proofs.«01_k».proof.Proof.Gen.PoolMixKernel.Frame
public import proofs.«01_k».proof.Proof.Gen.PoolMixKernelIdeal.Value
public import proofs.«01_k».proof.Proof.Gen.PoolMixReferenceIdeal.Run
public import proofs.«01_k».proof.Proof.Gen.PoolMixReferenceIdeal.Read
public import proofs.«01_k».proof.Proof.Gen.PoolWindowKernel.Frame
public import proofs.«01_k».proof.Proof.Gen.PoolWindowKernelIdeal.Value
public import proofs.«01_k».proof.Proof.Gen.PoolWindowReferenceIdeal.Run
public import proofs.«01_k».proof.Proof.Gen.PoolWindowReferenceIdeal.Read
public import proofs.«01_k».proof.Proof.Gen.Pre_pool_window_finite
public import proofs.«01_k».proof.Proof.Gen.FfnGateKernel.Frame
public import proofs.«01_k».proof.Proof.Gen.FfnGateKernelIdeal.Value
public import proofs.«01_k».proof.Proof.Gen.FfnGateReferenceIdeal.Run
public import proofs.«01_k».proof.Proof.Gen.FfnGateReferenceIdeal.Read
public import proofs.«01_k».proof.Proof.Gen.Pre_ffn_gate_finite
public import proofs.«01_k».proof.Proof.Gen.FfnDhKernel.Frame
public import proofs.«01_k».proof.Proof.Gen.FfnDhKernelIdeal.Value
public import proofs.«01_k».proof.Proof.Gen.FfnDhReferenceIdeal.Run
public import proofs.«01_k».proof.Proof.Gen.FfnDhReferenceIdeal.Read
public import proofs.«01_k».proof.Proof.Gen.Pre_ffn_dh_finite
public import proofs.«01_k».proof.Proof.Gen.ProjDxKernel.Frame
public import proofs.«01_k».proof.Proof.Gen.ProjDxKernelIdeal.Value
public import proofs.«01_k».proof.Proof.Gen.ProjDxReferenceIdeal.Run
public import proofs.«01_k».proof.Proof.Gen.ProjDxReferenceIdeal.Read
public import proofs.«01_k».proof.Proof.Gen.Pre_proj_dx_finite
public import proofs.«01_k».proof.Proof.Gen.StickBwdKernel.Frame
public import proofs.«01_k».proof.Proof.Gen.StickBwdKernelIdeal.Frame
public import proofs.«01_k».proof.Proof.Gen.StickBwdKernelIdeal.Loops
public import proofs.«01_k».proof.Proof.Gen.StickBwdKernelIdeal.Skeleton
public import proofs.«01_k».proof.Proof.Gen.StickBwdReferenceIdeal.Run
public import proofs.«01_k».proof.Proof.Gen.StickBwdReferenceIdeal.Read
public import proofs.«01_k».proof.Proof.Gen.Pre_stick_bwd_finite
public import proofs.«01_k».proof.Proof.Gen.NormFwdKernel.Frame
public import proofs.«01_k».proof.Proof.Gen.NormFwdKernelIdeal.Value
public import proofs.«01_k».proof.Proof.Gen.NormFwdReferenceIdeal.Run
public import proofs.«01_k».proof.Proof.Gen.NormFwdReferenceIdeal.Read
public import proofs.«01_k».proof.Proof.Gen.GateFwdKernel.Frame
public import proofs.«01_k».proof.Proof.Gen.GateFwdKernelIdeal.Value
public import proofs.«01_k».proof.Proof.Gen.GateFwdReferenceIdeal.Run
public import proofs.«01_k».proof.Proof.Gen.GateFwdReferenceIdeal.Read
public import proofs.«01_k».proof.Proof.Gen.Pre_gate_fwd_finite
public import proofs.«01_k».proof.Proof.Gen.PoolFwdKernel.Frame
public import proofs.«01_k».proof.Proof.Gen.PoolFwdKernelIdeal.Value
public import proofs.«01_k».proof.Proof.Gen.PoolFwdReferenceIdeal.Run
public import proofs.«01_k».proof.Proof.Gen.PoolFwdReferenceIdeal.Read
public import proofs.«01_k».proof.Proof.Gen.Pre_pool_fwd_finite

@[expose] public section

noncomputable section

namespace Cert.Proof

theorem claim : Cert.Claim :=
  ⟨Cert.LossKernel.Gen.facts, Cert.LossKernelIdeal.Gen.facts, Cert.LossReferenceIdeal.Gen.facts, Cert.PoolMixKernel.Gen.facts,
    Cert.PoolMixKernelIdeal.Gen.facts, Cert.PoolMixReferenceIdeal.Gen.facts, Cert.PoolWindowKernel.Gen.facts,
    Cert.PoolWindowKernelIdeal.Gen.facts, Cert.PoolWindowReferenceIdeal.Gen.facts, Cert.FfnGateKernel.Gen.facts,
    Cert.FfnGateKernelIdeal.Gen.facts, Cert.FfnGateReferenceIdeal.Gen.facts, Cert.FfnDhKernel.Gen.facts, Cert.FfnDhKernelIdeal.Gen.facts,
    Cert.FfnDhReferenceIdeal.Gen.facts, Cert.ProjDxKernel.Gen.facts, Cert.ProjDxKernelIdeal.Gen.facts, Cert.ProjDxReferenceIdeal.Gen.facts,
    Cert.StickBwdKernel.Gen.facts, Cert.StickBwdKernelIdeal.Gen.facts, Cert.StickBwdReferenceIdeal.Gen.facts, Cert.NormFwdKernel.Gen.facts,
    Cert.NormFwdKernelIdeal.Gen.facts, Cert.NormFwdReferenceIdeal.Gen.facts, Cert.GateFwdKernel.Gen.facts, Cert.GateFwdKernelIdeal.Gen.facts,
    Cert.GateFwdReferenceIdeal.Gen.facts, Cert.PoolFwdKernel.Gen.facts, Cert.PoolFwdKernelIdeal.Gen.facts, Cert.PoolFwdReferenceIdeal.Gen.facts,
    Cert.Pre_loss_finite.Gen.facts, Cert.Pre_pool_window_finite.Gen.facts, Cert.Pre_ffn_gate_finite.Gen.facts, Cert.Pre_ffn_dh_finite.Gen.facts,
    Cert.Pre_proj_dx_finite.Gen.facts, Cert.Pre_stick_bwd_finite.Gen.facts, Cert.Pre_gate_fwd_finite.Gen.facts,
    Cert.Pre_pool_fwd_finite.Gen.facts, Loss.frame_kernel, Loss.frame_ideal, Loss.frame_ideal_pre, Loss.frame_reference,
    Loss.frame_reference_pre, PoolMix.frame_kernel, PoolMix.frame_ideal, PoolMix.frame_reference, PoolWindow.frame_kernel,
    PoolWindow.frame_ideal, PoolWindow.frame_ideal_pre, PoolWindow.frame_reference, PoolWindow.frame_reference_pre, FfnGate.frame_kernel,
    FfnGate.frame_ideal, FfnGate.frame_ideal_pre, FfnGate.frame_reference, FfnGate.frame_reference_pre, FfnDh.frame_kernel, FfnDh.frame_ideal,
    FfnDh.frame_ideal_pre, FfnDh.frame_reference, FfnDh.frame_reference_pre, ProjDx.frame_kernel, ProjDx.frame_ideal, ProjDx.frame_ideal_pre,
    ProjDx.frame_reference, ProjDx.frame_reference_pre, StickBwd.frame_kernel, StickBwd.frame_ideal, StickBwd.frame_ideal_pre,
    StickBwd.frame_reference, StickBwd.frame_reference_pre, NormFwd.frame_kernel, NormFwd.frame_ideal, NormFwd.frame_reference,
    GateFwd.frame_kernel, GateFwd.frame_ideal, GateFwd.frame_ideal_pre, GateFwd.frame_reference, GateFwd.frame_reference_pre,
    PoolFwd.frame_kernel, PoolFwd.frame_ideal, PoolFwd.frame_ideal_pre, PoolFwd.frame_reference, PoolFwd.frame_reference_pre, trivial,
    Loss.algebraic, trivial, PoolMix.algebraic, trivial, PoolWindow.algebraic, trivial, FfnGate.algebraic, trivial, FfnDh.algebraic, trivial,
    ProjDx.algebraic, StickBwd.preserves, StickBwd.algebraic, trivial, NormFwd.algebraic, trivial, GateFwd.algebraic, trivial, PoolFwd.algebraic⟩

end Cert.Proof

end
